-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_arguments_ok [hPre_arguments_ok : Cert.Pre_arguments_ok.Facts] (m : (ℓ : Loc Cert.KernelIdeal.nD Cert.KernelIdeal.τ Cert.KernelIdeal.sig) → Buf (Elt Ideal) ℓ) : Prop :=
  ∀ c : Dev Cert.KernelIdeal.nD,
    (Cert.Pre_arguments_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arguments_ok [hPre_arguments_ok : Cert.Pre_arguments_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arguments_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_aggregates_ok [hPre_aggregates_ok : Cert.Pre_aggregates_ok.Facts] (m : (ℓ : Loc Cert.LayerIdeal.nD Cert.LayerIdeal.τ Cert.LayerIdeal.sig) → Buf (Elt Ideal) ℓ) : Prop :=
  ∀ c : Dev Cert.LayerIdeal.nD,
    (Cert.Pre_aggregates_ok.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9))) = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_aggregates_ok [hPre_aggregates_ok : Cert.Pre_aggregates_ok.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_aggregates_ok.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6)) (m ((c.tc : Thread Cert.LayerReferenceIdeal.nD Cert.LayerReferenceIdeal.τ).loc Cert.LayerReferenceIdeal.main_arg7)) (m ((c.tc : Thread Cert.LayerReferenceIdeal.nD Cert.LayerReferenceIdeal.τ).loc Cert.LayerReferenceIdeal.main_arg8)) (m ((c.tc : Thread Cert.LayerReferenceIdeal.nD Cert.LayerReferenceIdeal.τ).loc Cert.LayerReferenceIdeal.main_arg9))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_arguments_ok [hKernelIdeal : Cert.KernelIdeal.Facts] [hPre_arguments_ok : Cert.Pre_arguments_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arguments_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_arguments_ok [hReferenceIdeal : Cert.ReferenceIdeal.Facts] [hPre_arguments_ok : Cert.Pre_arguments_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arguments_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9))
      ∧ r.2.sem = fun _ => 0)

def quiescent_LayerIdeal_pre_aggregates_ok [hLayerIdeal : Cert.LayerIdeal.Facts] [hPre_aggregates_ok : Cert.Pre_aggregates_ok.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_aggregates_ok m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9))
      ∧ r.2.sem = fun _ => 0)

def quiescent_LayerReferenceIdeal_pre_aggregates_ok [hLayerReferenceIdeal : Cert.LayerReferenceIdeal.Facts] [hPre_aggregates_ok : Cert.Pre_aggregates_ok.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_aggregates_ok m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9))
      ∧ r.2.sem = fun _ => 0)

def preserves_Kernel_KernelIdeal : Prop :=
  IdealRules.named_const.Statement Cert.KernelIdeal.κ "lowest" .f32 0xFF7FC99E#32 ⊥
  ∧ IdealRules.named_const.Statement Cert.KernelIdeal.κ "highest" .f32 0x7F7FC99E#32 ⊤
  ∧ IdealRules.named_const.Statement Cert.KernelIdeal.κ "inv_avg" .f32 0x3E926EA1#32 ((524288 / 1833173 : ℝ) : EReal)
  ∧ IdealRules.named_const.Statement Cert.KernelIdeal.κ "inv_n" .f32 0x38D1B717#32 ((1 / 10000 : ℝ) : EReal)

def algebraic_KernelIdeal_ReferenceIdeal_pre_arguments_ok [hKernelIdeal : Cert.KernelIdeal.Facts] [hReferenceIdeal : Cert.ReferenceIdeal.Facts] [hPre_arguments_ok : Cert.Pre_arguments_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arguments_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Layer_LayerIdeal : Prop :=
  IdealRules.named_const.Statement Cert.LayerIdeal.κ "inv_avg" .f32 0x3E926EA1#32 ((524288 / 1833173 : ℝ) : EReal)
  ∧ IdealRules.named_const.Statement Cert.LayerIdeal.κ "inv_n" .f32 0x38D1B717#32 ((1 / 10000 : ℝ) : EReal)

def algebraic_LayerIdeal_LayerReferenceIdeal_pre_aggregates_ok [hLayerIdeal : Cert.LayerIdeal.Facts] [hLayerReferenceIdeal : Cert.LayerReferenceIdeal.Facts] [hPre_aggregates_ok : Cert.Pre_aggregates_ok.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal_aggregates_ok m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)
      ∧ m' ((c.tc : Thread Cert.LayerReferenceIdeal.nD Cert.LayerReferenceIdeal.τ).loc Cert.LayerReferenceIdeal.main_arg7) = m ((c.tc : Thread Cert.LayerIdeal.nD Cert.LayerIdeal.τ).loc Cert.LayerIdeal.main_arg7)
      ∧ m' ((c.tc : Thread Cert.LayerReferenceIdeal.nD Cert.LayerReferenceIdeal.τ).loc Cert.LayerReferenceIdeal.main_arg8) = m ((c.tc : Thread Cert.LayerIdeal.nD Cert.LayerIdeal.τ).loc Cert.LayerIdeal.main_arg8)
      ∧ m' ((c.tc : Thread Cert.LayerReferenceIdeal.nD Cert.LayerReferenceIdeal.τ).loc Cert.LayerReferenceIdeal.main_arg9) = m ((c.tc : Thread Cert.LayerIdeal.nD Cert.LayerIdeal.τ).loc Cert.LayerIdeal.main_arg9)) →
    ∃ (v0 : (c : Dev Cert.LayerIdeal.nD) → Buf (Elt Ideal) ((c.tc : Thread Cert.LayerIdeal.nD Cert.LayerIdeal.τ).loc Cert.LayerIdeal.main_v4)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v4) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v58) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8)
          ∧ r.2.mem ((c.tc : Thread Cert.LayerReferenceIdeal.nD Cert.LayerReferenceIdeal.τ).loc Cert.LayerReferenceIdeal.main_arg9) = m' ((c.tc : Thread Cert.LayerReferenceIdeal.nD Cert.LayerReferenceIdeal.τ).loc Cert.LayerReferenceIdeal.main_arg9))

def Claim : Prop :=
  ∃ (hKernel : Cert.Kernel.Facts) (hKernelIdeal : Cert.KernelIdeal.Facts) (hReferenceIdeal : Cert.ReferenceIdeal.Facts) (hLayer : Cert.Layer.Facts) (hLayerIdeal : Cert.LayerIdeal.Facts) (hLayerReferenceIdeal : Cert.LayerReferenceIdeal.Facts) (hPre_indices_in_range : Cert.Pre_indices_in_range.Facts) (hPre_arguments_ok : Cert.Pre_arguments_ok.Facts) (hPre_aggregates_ok : Cert.Pre_aggregates_ok.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_arguments_ok (hKernelIdeal := hKernelIdeal) (hPre_arguments_ok := hPre_arguments_ok)
    ∧ quiescent_ReferenceIdeal (hReferenceIdeal := hReferenceIdeal)
    ∧ quiescent_ReferenceIdeal_pre_arguments_ok (hReferenceIdeal := hReferenceIdeal) (hPre_arguments_ok := hPre_arguments_ok)
    ∧ quiescent_Layer (hLayer := hLayer)
    ∧ quiescent_LayerIdeal (hLayerIdeal := hLayerIdeal)
    ∧ quiescent_LayerIdeal_pre_aggregates_ok (hLayerIdeal := hLayerIdeal) (hPre_aggregates_ok := hPre_aggregates_ok)
    ∧ quiescent_LayerReferenceIdeal (hLayerReferenceIdeal := hLayerReferenceIdeal)
    ∧ quiescent_LayerReferenceIdeal_pre_aggregates_ok (hLayerReferenceIdeal := hLayerReferenceIdeal) (hPre_aggregates_ok := hPre_aggregates_ok)
    ∧ preserves_Kernel_KernelIdeal
    ∧ algebraic_KernelIdeal_ReferenceIdeal_pre_arguments_ok (hKernelIdeal := hKernelIdeal) (hReferenceIdeal := hReferenceIdeal) (hPre_arguments_ok := hPre_arguments_ok)
    ∧ preserves_Layer_LayerIdeal
    ∧ algebraic_LayerIdeal_LayerReferenceIdeal_pre_aggregates_ok (hLayerIdeal := hLayerIdeal) (hLayerReferenceIdeal := hLayerReferenceIdeal) (hPre_aggregates_ok := hPre_aggregates_ok)
-- ==== Pre_aggregates_ok.lean ====
abbrev S10000x128 : Shape := ⟨2, ![10000, 128]⟩
abbrev S10000x1 : Shape := ⟨2, ![10000, 1]⟩
abbrev S1152x128 : Shape := ⟨2, ![1152, 128]⟩
abbrev S128 : Shape := ⟨1, ![128]⟩
abbrev S_ : Shape := ⟨0, ![]⟩

class Facts : Prop where
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  reducesTo_S10000x128_S_d0_1 : S10000x128.ReducesTo [0, 1] S_
  h_S_ : 0 < S_.numel
  reducesTo_S10000x1_S_d0_1 : S10000x1.ReducesTo [0, 1] S_
  bcast_S_S1152x128 : S_.BroadcastsInDim S1152x128 (![] : Fin 0 → Fin S1152x128.rank)
  reducesTo_S1152x128_S_d0_1 : S1152x128.ReducesTo [0, 1] S_
  bcast_S_S128 : S_.BroadcastsInDim S128 (![] : Fin 0 → Fin S128.rank)
  reducesTo_S128_S_d0 : S128.ReducesTo [0] S_

variable [Facts]

def fn_where {F : FTy → Type} [FloatOps F] (arg0 : IVec S10000x1 1) (arg1 : FVec F S10000x128 .f32) (arg2 : FVec F S_ .f32) : FVec F S10000x128 .f32 :=
  let v0 : FVec F S_ .f32 := id arg2
  let v1 : IVec S10000x128 1 := broadcastInDim S10000x128 ![0, 1] bcast_S10000x1_S10000x128_0_1 arg0
  let v2 : FVec F S10000x128 .f32 := broadcastInDim S10000x128 ![] bcast_S_S10000x128 v0
  let v3 : FVec F S10000x128 .f32 := select v1 arg1 v2
  v3

def fn_part2 {F : FTy → Type} [FloatOps F] (main_arg3 : FVec F S10000x1 .f32) (main_v9 : IVec S_ 1) (main_v13 : IVec S_ 1) (main_v17 : IVec S_ 1) (main_v21 : IVec S_ 1) (main_v25 : IVec S_ 1) (main_v29 : IVec S_ 1) (main_v30 : FVec F S128 .f32) (main_cst_14 : FVec F S_ .f32) : IVec S_ 1 :=
  let main_v31 : FVec F S128 .f32 := broadcastInDim S128 ![] bcast_S_S128 main_cst_14
  let main_v32 : IVec S128 1 := cmpf .olt main_v30 main_v31
  let main_c_15 : IVec S_ 1 := constantI S_ 1 1#1
  let main_v33 : IVec S_ 1 := (fun x v => Host.reduce IntOp.andi x v reducesTo_S128_S_d0 h_S_) main_v32 main_c_15
  let main_cst_16 : FVec F S_ .f32 := constant S_ .f32 0x00000000#32
  let main_v34 : FVec F S10000x1 .f32 := broadcastInDim S10000x1 ![] bcast_S_S10000x1 main_cst_16
  let main_v35 : IVec S10000x1 1 := cmpf .oge main_arg3 main_v34
  let main_c_17 : IVec S_ 1 := constantI S_ 1 1#1
  let main_v36 : IVec S_ 1 := (fun x v => Host.reduce IntOp.andi x v reducesTo_S10000x1_S_d0_1 h_S_) main_v35 main_c_17
  let main_v37 : IVec S_ 1 := andi main_v36 main_v9
  let main_v38 : IVec S_ 1 := andi main_v37 main_v13
  let main_v39 : IVec S_ 1 := andi main_v38 main_v17
  let main_v40 : IVec S_ 1 := andi main_v39 main_v21
  let main_v41 : IVec S_ 1 := andi main_v40 main_v25
  let main_v42 : IVec S_ 1 := andi main_v41 main_v29
  let main_v43 : IVec S_ 1 := andi main_v42 main_v33
  main_v43

def fn_part1 {F : FTy → Type} [FloatOps F] (main_arg3 : FVec F S10000x1 .f32) (main_arg5 : FVec F S10000x1 .f32) (main_arg6 : FVec F S1152x128 .f32) (main_arg7 : FVec F S128 .f32) (main_v9 : IVec S_ 1) (main_v13 : IVec S_ 1) (main_v14 : FVec F S10000x128 .f32) (main_cst_6 : FVec F S_ .f32) : IVec S_ 1 :=
  let main_v15 : FVec F S10000x128 .f32 := broadcastInDim S10000x128 ![] bcast_S_S10000x128 main_cst_6
  let main_v16 : IVec S10000x128 1 := cmpf .olt main_v14 main_v15
  let main_c_7 : IVec S_ 1 := constantI S_ 1 1#1
  let main_v17 : IVec S_ 1 := (fun x v => Host.reduce IntOp.andi x v reducesTo_S10000x128_S_d0_1 h_S_) main_v16 main_c_7
  let main_v18 : FVec F S10000x1 .f32 := Host.absf main_arg3
  let main_cst_8 : FVec F S_ .f32 := constant S_ .f32 0x7F800000#32
  let main_v19 : FVec F S10000x1 .f32 := broadcastInDim S10000x1 ![] bcast_S_S10000x1 main_cst_8
  let main_v20 : IVec S10000x1 1 := cmpf .olt main_v18 main_v19
  let main_c_9 : IVec S_ 1 := constantI S_ 1 1#1
  let main_v21 : IVec S_ 1 := (fun x v => Host.reduce IntOp.andi x v reducesTo_S10000x1_S_d0_1 h_S_) main_v20 main_c_9
  let main_v22 : FVec F S10000x1 .f32 := Host.absf main_arg5
  let main_cst_10 : FVec F S_ .f32 := constant S_ .f32 0x7F800000#32
  let main_v23 : FVec F S10000x1 .f32 := broadcastInDim S10000x1 ![] bcast_S_S10000x1 main_cst_10
  let main_v24 : IVec S10000x1 1 := cmpf .olt main_v22 main_v23
  let main_c_11 : IVec S_ 1 := constantI S_ 1 1#1
  let main_v25 : IVec S_ 1 := (fun x v => Host.reduce IntOp.andi x v reducesTo_S10000x1_S_d0_1 h_S_) main_v24 main_c_11
  let main_v26 : FVec F S1152x128 .f32 := Host.absf main_arg6
  let main_cst_12 : FVec F S_ .f32 := constant S_ .f32 0x7F800000#32
  let main_v27 : FVec F S1152x128 .f32 := broadcastInDim S1152x128 ![] bcast_S_S1152x128 main_cst_12
  let main_v28 : IVec S1152x128 1 := cmpf .olt main_v26 main_v27
  let main_c_13 : IVec S_ 1 := constantI S_ 1 1#1
  let main_v29 : IVec S_ 1 := (fun x v => Host.reduce IntOp.andi x v reducesTo_S1152x128_S_d0_1 h_S_) main_v28 main_c_13
  let main_v30 : FVec F S128 .f32 := Host.absf main_arg7
  let main_cst_14 : FVec F S_ .f32 := constant S_ .f32 0x7F800000#32
  fn_part2 (F := F) main_arg3 main_v9 main_v13 main_v17 main_v21 main_v25 main_v29 main_v30 main_cst_14

def fn {F : FTy → Type} [FloatOps F] (main_arg0 : FVec F S10000x128 .f32) (main_arg1 : FVec F S10000x128 .f32) (main_arg2 : FVec F S10000x128 .f32) (main_arg3 : FVec F S10000x1 .f32) (main_arg4 : FVec F S10000x128 .f32) (main_arg5 : FVec F S10000x1 .f32) (main_arg6 : FVec F S1152x128 .f32) (main_arg7 : FVec F S128 .f32) (main_arg8 : FVec F S128 .f32) (main_arg9 : FVec F S128 .f32) : IVec S_ 1 :=
  let main_cst : FVec F S_ .f32 := constant S_ .f32 0x00000000#32
  let main_v0 : FVec F S10000x1 .f32 := broadcastInDim S10000x1 ![] bcast_S_S10000x1 main_cst
  let main_v1 : IVec S10000x1 1 := cmpf .ogt main_arg3 main_v0
  let main_cst_0 : FVec F S_ .f32 := constant S_ .f32 0x00000000#32
  let main_v2 : FVec F S10000x128 .f32 := fn_where (F := F) main_v1 main_arg1 main_cst_0
  let main_cst_1 : FVec F S_ .f32 := constant S_ .f32 0x00000000#32
  let main_v3 : FVec F S10000x1 .f32 := broadcastInDim S10000x1 ![] bcast_S_S10000x1 main_cst_1
  let main_v4 : IVec S10000x1 1 := cmpf .ogt main_arg3 main_v3
  let main_cst_2 : FVec F S_ .f32 := constant S_ .f32 0x00000000#32
  let main_v5 : FVec F S10000x128 .f32 := fn_where (F := F) main_v4 main_arg2 main_cst_2
  let main_v6 : FVec F S10000x128 .f32 := Host.absf main_arg0
  let main_cst_3 : FVec F S_ .f32 := constant S_ .f32 0x7F800000#32
  let main_v7 : FVec F S10000x128 .f32 := broadcastInDim S10000x128 ![] bcast_S_S10000x128 main_cst_3
  let main_v8 : IVec S10000x128 1 := cmpf .olt main_v6 main_v7
  let main_c : IVec S_ 1 := constantI S_ 1 1#1
  let main_v9 : IVec S_ 1 := (fun x v => Host.reduce IntOp.andi x v reducesTo_S10000x128_S_d0_1 h_S_) main_v8 main_c
  let main_v10 : FVec F S10000x128 .f32 := Host.absf main_v2
  let main_cst_4 : FVec F S_ .f32 := constant S_ .f32 0x7F800000#32
  let main_v11 : FVec F S10000x128 .f32 := broadcastInDim S10000x128 ![] bcast_S_S10000x128 main_cst_4
  let main_v12 : IVec S10000x128 1 := cmpf .olt main_v10 main_v11
  let main_c_5 : IVec S_ 1 := constantI S_ 1 1#1
  let main_v13 : IVec S_ 1 := (fun x v => Host.reduce IntOp.andi x v reducesTo_S10000x128_S_d0_1 h_S_) main_v12 main_c_5
  let main_v14 : FVec F S10000x128 .f32 := Host.absf main_v5
  let main_cst_6 : FVec F S_ .f32 := constant S_ .f32 0x7F800000#32
  fn_part1 (F := F) main_arg3 main_arg5 main_arg6 main_arg7 main_v9 main_v13 main_v14 main_cst_6
-- ==== Pre_arguments_ok.lean ====
abbrev S10000x128 : Shape := ⟨2, ![10000, 128]⟩
abbrev S2x320000 : Shape := ⟨2, ![2, 320000]⟩
abbrev S320000x4 : Shape := ⟨2, ![320000, 4]⟩
abbrev S10000x1 : Shape := ⟨2, ![10000, 1]⟩
abbrev S1152x128 : Shape := ⟨2, ![1152, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S1152x128 : S_.BroadcastsInDim S1152x128 (![] : Fin 0 → Fin S1152x128.rank)
  reducesTo_S1152x128_S_d0_1 : S1152x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v3 : IVec S_ 1) (main_v7 : IVec S_ 1) (main_v11 : IVec S_ 1) (main_v15 : IVec S_ 1) : IVec S_ 1 :=
  let main_c_6 : IVec S_ 32 := constantI S_ 32 0#32
  let main_v16 : IVec S2x320000 32 := broadcastInDim S2x320000 ![] bcast_S_S2x320000 main_c_6
  let main_v17 : IVec S2x320000 1 := cmpi .sge main_arg1 main_v16
  let main_c_7 : IVec S_ 32 := constantI S_ 32 10000#32
  let main_v18 : IVec S2x320000 32 := broadcastInDim S2x320000 ![] bcast_S_S2x320000 main_c_7
  let main_v19 : IVec S2x320000 1 := cmpi .slt main_arg1 main_v18
  let main_v20 : IVec S2x320000 1 := andi main_v17 main_v19
  let main_c_8 : IVec S_ 1 := constantI S_ 1 1#1
  let main_v21 : IVec S_ 1 := (fun x v => Host.reduce IntOp.andi x v reducesTo_S2x320000_S_d0_1 h_S_) main_v20 main_c_8
  let main_v22 : IVec S_ 1 := andi main_v21 main_v3
  let main_v23 : IVec S_ 1 := andi main_v22 main_v7
  let main_v24 : IVec S_ 1 := andi main_v23 main_v11
  let main_v25 : IVec S_ 1 := andi main_v24 main_v15
  main_v25

def fn {F : FTy → Type} [FloatOps F] (main_arg0 : FVec F S10000x128 .f32) (main_arg1 : IVec S2x320000 32) (main_arg2 : FVec F S320000x4 .f32) (main_arg3 : FVec F S10000x1 .f32) (main_arg4 : FVec F S1152x128 .f32) (main_arg5 : FVec F S128 .f32) (main_arg6 : FVec F S128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x1 .f32 := Host.absf main_arg3
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : FVec F S1152x128 .f32 := Host.absf main_arg4
  let main_cst_2 : FVec F S_ .f32 := constant S_ .f32 0x7F800000#32
  let main_v9 : FVec F S1152x128 .f32 := broadcastInDim S1152x128 ![] bcast_S_S1152x128 main_cst_2
  let main_v10 : IVec S1152x128 1 := cmpf .olt main_v8 main_v9
  let main_c_3 : IVec S_ 1 := constantI S_ 1 1#1
  let main_v11 : IVec S_ 1 := (fun x v => Host.reduce IntOp.andi x v reducesTo_S1152x128_S_d0_1 h_S_) main_v10 main_c_3
  let main_v12 : FVec F S128 .f32 := Host.absf main_arg5
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg1 main_v3 main_v7 main_v11 main_v15
-- ==== Pre_indices_in_range.lean ====
abbrev S10000x128 : Shape := ⟨2, ![10000, 128]⟩
abbrev S2x320000 : Shape := ⟨2, ![2, 320000]⟩
abbrev S320000x4 : Shape := ⟨2, ![320000, 4]⟩
abbrev S10000x1 : Shape := ⟨2, ![10000, 1]⟩
abbrev S1152x128 : Shape := ⟨2, ![1152, 128]⟩
abbrev S128 : Shape := ⟨1, ![128]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : IVec S2x320000 32) (main_arg2 : FVec F S320000x4 .f32) (main_arg3 : FVec F S10000x1 .f32) (main_arg4 : FVec F S1152x128 .f32) (main_arg5 : FVec F S128 .f32) (main_arg6 : FVec F S128 .f32) (main_arg7 : FVec F S128 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  main_v4
-- ==== Kernel.lean ====
abbrev S10000x128 : Shape := ⟨2, ![10000, 128]⟩
abbrev S2x320000 : Shape := ⟨2, ![2, 320000]⟩
abbrev S320000x4 : Shape := ⟨2, ![320000, 4]⟩
abbrev S10000x1 : Shape := ⟨2, ![10000, 1]⟩
abbrev S1152x128 : Shape := ⟨2, ![1152, 128]⟩
abbrev S128 : Shape := ⟨1, ![128]⟩
abbrev S1x320000 : Shape := ⟨2, ![1, 320000]⟩
abbrev S320000 : Shape := ⟨1, ![320000]⟩
abbrev S10240x128 : Shape := ⟨2, ![10240, 128]⟩
abbrev S32x320 : Shape := ⟨2, ![32, 320]⟩
abbrev S512 : Shape := ⟨1, ![512]⟩
abbrev S528 : Shape := ⟨1, ![528]⟩
abbrev S16 : Shape := ⟨1, ![16]⟩
abbrev S16x128 : Shape := ⟨2, ![16, 128]⟩
abbrev S320x128 : Shape := ⟨2, ![320, 128]⟩
abbrev S320 : Shape := ⟨1, ![320]⟩
abbrev S_ : Shape := ⟨0, ![]⟩
abbrev S1x16 : Shape := ⟨2, ![1, 16]⟩
abbrev S1x320 : Shape := ⟨2, ![1, 320]⟩
abbrev S10240 : Shape := ⟨1, ![10240]⟩
abbrev S10000 : Shape := ⟨1, ![10000]⟩
abbrev S1x128 : Shape := ⟨2, ![1, 128]⟩
abbrev S1000x128 : Shape := ⟨2, ![1000, 128]⟩
abbrev S1000x1 : Shape := ⟨2, ![1000, 1]⟩
abbrev S1000x384 : Shape := ⟨2, ![1000, 384]⟩
abbrev S384x128 : Shape := ⟨2, ![384, 128]⟩

abbrev nBuf : Table → Nat
  | .hbm => 29
  | .local .tc .vmem => 26
  | .local .scVector .vmem => 10
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S10000x1, .f32⟩
  | .hbm, ⟨4, _⟩ => ⟨S1152x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10240x128, .f32⟩
  | .hbm, ⟨13, _⟩ => ⟨S10240x128, .f32⟩
  | .hbm, ⟨14, _⟩ => ⟨S10240x128, .f32⟩
  | .hbm, ⟨15, _⟩ => ⟨S32x320, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10240, .f32⟩
  | .hbm, ⟨20, _⟩ => ⟨S10000, .f32⟩
  | .hbm, ⟨21, _⟩ => ⟨S10000x1, .f32⟩
  | .hbm, ⟨22, _⟩ => ⟨S1x128, .f32⟩
  | .hbm, ⟨23, _⟩ => ⟨S10000x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S10000x128, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1000x1, .f32⟩
  | .local .tc .vmem, ⟨7, _⟩ => ⟨S1000x1, .f32⟩
  | .local .tc .vmem, ⟨8, _⟩ => ⟨S1000x1, .f32⟩
  | .local .tc .vmem, ⟨9, _⟩ => ⟨S1000x1, .f32⟩
  | .local .tc .vmem, ⟨10, _⟩ => ⟨S1152x128, .f32⟩
  | .local .tc .vmem, ⟨11, _⟩ => ⟨S1x128, .f32⟩
  | .local .tc .vmem, ⟨12, _⟩ => ⟨S1000x128, .f32⟩
  | .local .tc .vmem, ⟨13, _⟩ => ⟨S1000x128, .f32⟩
  | .local .tc .vmem, ⟨14, _⟩ => ⟨S1x128, .f32⟩
  | .local .tc .vmem, ⟨15, _⟩ => ⟨S1x128, .f32⟩
  | .local .tc .vmem, ⟨16, _⟩ => ⟨S1000x128, .f32⟩
  | .local .tc .vmem, ⟨17, _⟩ => ⟨S1000x128, .f32⟩
  | .local .tc .vmem, ⟨18, _⟩ => ⟨S1000x128, .f32⟩
  | .local .tc .vmem, ⟨19, _⟩ => ⟨S1000x128, .f32⟩
  | .local .tc .vmem, ⟨20, _⟩ => ⟨S1x128, .f32⟩
  | .local .tc .vmem, ⟨21, _⟩ => ⟨S1x128, .f32⟩
  | .local .tc .vmem, ⟨22, _⟩ => ⟨S1x128, .f32⟩
  | .local .tc .vmem, ⟨23, _⟩ => ⟨S1x128, .f32⟩
  | .local .tc .vmem, ⟨24, _⟩ => ⟨S1000x128, .f32⟩
  | .local .tc .vmem, ⟨25, _⟩ => ⟨S1000x128, .f32⟩
  | .local .scVector .vmem, ⟨0, _⟩ => ⟨S512, .i32⟩
  | .local .scVector .vmem, ⟨1, _⟩ => ⟨S512, .i32⟩
  | .local .scVector .vmem, ⟨2, _⟩ => ⟨S528, .i32⟩
  | .local .scVector .vmem, ⟨3, _⟩ => ⟨S528, .i32⟩
  | .local .scVector .vmem, ⟨4, _⟩ => ⟨S16, .i32⟩
  | .local .scVector .vmem, ⟨5, _⟩ => ⟨S16x128, .f32⟩
  | .local .scVector .vmem, ⟨6, _⟩ => ⟨S320x128, .f32⟩
  | .local .scVector .vmem, ⟨7, _⟩ => ⟨S320x128, .f32⟩
  | .local .scVector .vmem, ⟨8, _⟩ => ⟨S320x128, .f32⟩
  | .local .scVector .vmem, ⟨9, _⟩ => ⟨S320, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v1_scv : Ref sig .scVector := ⟨.hbm, 9, rfl⟩
abbrev main_v3_scv : Ref sig .scVector := ⟨.hbm, 11, rfl⟩
abbrev main_arg0_scv : Ref sig .scVector := ⟨.hbm, 0, rfl⟩
abbrev main_v4_0_scv : Ref sig .scVector := ⟨.hbm, 12, rfl⟩
abbrev main_v4_1_scv : Ref sig .scVector := ⟨.hbm, 13, rfl⟩
abbrev main_v4_2_scv : Ref sig .scVector := ⟨.hbm, 14, rfl⟩
abbrev main_v4_3_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg9_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem9_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c320_i32_3 : BitVec 32 := 320#32
  let v7 : BitVec 32 := Scalar.addi c0_i32_2 c320_i32_3
  let c1_i32 : BitVec 32 := 1#32
  ⟨c0_i32_2, v7, c1_i32⟩
def k0_off1 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v11 : Index := Scalar.indexCast arg20
  let c0 : Index := 0#32
  ![v11.toNat, 0]
def k0_off2 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v17 : Index := Scalar.indexCast arg20
  let c16 : Index := 16#32
  ![v17.toNat, 16]
def k0_off3 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v23 : Index := Scalar.indexCast arg20
  let c32 : Index := 32#32
  ![v23.toNat, 32]
def k0_off4 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v29 : Index := Scalar.indexCast arg20
  let c48 : Index := 48#32
  ![v29.toNat, 48]
def k0_off5 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v35 : Index := Scalar.indexCast arg20
  let c64 : Index := 64#32
  ![v35.toNat, 64]
def k0_off6 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v41 : Index := Scalar.indexCast arg20
  let c80 : Index := 80#32
  ![v41.toNat, 80]
def k0_off7 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v47 : Index := Scalar.indexCast arg20
  let c96 : Index := 96#32
  ![v47.toNat, 96]
def k0_off8 (k0_t1 : Fin k0_t1_loop.trips) : Fin 2 → Nat :=
  let c0_i32_2 : BitVec 32 := 0#32
  let c1_i32 : BitVec 32 := 1#32
  let arg20 : BitVec 32 := Scf.iv c0_i32_2 c1_i32 k0_t1
  let v53 : Index := Scalar.indexCast arg20
  let c112 : Index := 112#32
  ![v53.toNat, 112]
@[reducible] def k0_t2_loop : Scf.Loop 32 :=
  let c0_i32_6 : BitVec 32 := 0#32
  let c20_i32 : BitVec 32 := 20#32
  let v8 : BitVec 32 := Scalar.addi c0_i32_6 c20_i32
  let c1_i32_7 : BitVec 32 := 1#32
  ⟨c0_i32_6, v8, c1_i32_7⟩
def k0_off9 (k0_t2 : Fin k0_t2_loop.trips) : Fin 1 → Nat :=
  let c0_i32_6 : BitVec 32 := 0#32
  let c1_i32_7 : BitVec 32 := 1#32
  let arg20 : BitVec 32 := Scf.iv c0_i32_6 c1_i32_7 k0_t2
  let c16_i32 : BitVec 32 := 16#32
  let v11 : BitVec 32 := Scalar.muli arg20 c16_i32
  let v12 : Index := Scalar.indexCast v11
  ![v12.toNat]
@[reducible] def k0_t3_loop : Scf.Loop 32 :=
  let c0_i32_10 : BitVec 32 := 0#32
  let c33_i32 : BitVec 32 := 33#32
  let v9 : BitVec 32 := Scalar.addi c0_i32_10 c33_i32
  let c1_i32_11 : BitVec 32 := 1#32
  ⟨c0_i32_10, v9, c1_i32_11⟩
def k0_off10 (k0_t3 : Fin k0_t3_loop.trips) : Fin 1 → Nat :=
  let c0_i32_10 : BitVec 32 := 0#32
  let c1_i32_11 : BitVec 32 := 1#32
  let arg20 : BitVec 32 := Scf.iv c0_i32_10 c1_i32_11 k0_t3
  let c16_i32 : BitVec 32 := 16#32
  let v11 : BitVec 32 := Scalar.muli arg20 c16_i32
  let v13 : Index := Scalar.indexCast v11
  ![v13.toNat]
@[reducible] def k0_t4_loop : Scf.Loop 32 :=
  let c0_i32_14 : BitVec 32 := 0#32
  let c625_i32 : BitVec 32 := 625#32
  let v10 : BitVec 32 := Scalar.addi c0_i32_14 c625_i32
  let c1_i32_15 : BitVec 32 := 1#32
  ⟨c0_i32_14, v10, c1_i32_15⟩
def k0_off11 (k0_t4 : Fin k0_t4_loop.trips) : Fin 1 → Nat :=
  let c0_i32_14 : BitVec 32 := 0#32
  let c1_i32_15 : BitVec 32 := 1#32
  let arg20 : BitVec 32 := Scf.iv c0_i32_14 c1_i32_15 k0_t4
  let c512_i32 : BitVec 32 := 512#32
  let v11 : BitVec 32 := Scalar.muli arg20 c512_i32
  ![v11.toNat]
@[reducible] def k0_t5_loop : Scf.Loop 32 :=
  let c0_i32_19 : BitVec 32 := 0#32
  let c32_i32 : BitVec 32 := 32#32
  let v13 : BitVec 32 := Scalar.addi c0_i32_19 c32_i32
  let c1_i32_20 : BitVec 32 := 1#32
  ⟨c0_i32_19, v13, c1_i32_20⟩
def k0_off12 (k0_t5 : Fin k0_t5_loop.trips) : Fin 1 → Nat :=
  let c0_i32_19 : BitVec 32 := 0#32
  let c1_i32_20 : BitVec 32 := 1#32
  let arg21 : BitVec 32 := Scf.iv c0_i32_19 c1_i32_20 k0_t5
  let c16_i32_33 : BitVec 32 := 16#32
  let v38 : BitVec 32 := Scalar.muli arg21 c16_i32_33
  let v39 : Index := Scalar.indexCast v38
  ![v39.toNat]

def k0_chk1 (v58 : IVec S16 32) : Prop :=
  (∀ a x, ((![v58] : Fin 1 → IVec S16 32) a x).toNat < S528.size a) ∧
  (∀ a x, ((![v58] : Fin 1 → IVec S16 32) a x).toNat < S528.size a)
theorem k0_idx1_inb : ∀ (v58 : IVec S16 32) (k0_hw1 : k0_chk1 v58), ∀ a x, ((![v58] : Fin 1 → IVec S16 32) a x).toNat < S528.size a := fun v58 k0_hw1 => k0_hw1.1
theorem k0_idx2_inb : ∀ (v58 : IVec S16 32) (k0_hw1 : k0_chk1 v58), ∀ a x, ((![v58] : Fin 1 → IVec S16 32) a x).toNat < S528.size a := fun v58 k0_hw1 => k0_hw1.2
@[reducible] def k0_t6_loop (v14 : BitVec 32) : Scf.Loop 32 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_31 : BitVec 32 := 1#32
  ⟨c0_i32_29, v37, c1_i32_31⟩

def k0_chk3 (v40 : IVec S16 32) : Prop :=
  (∀ a x, ((![v40] : Fin 1 → IVec S16 32) a x).toNat < S528.size a)
theorem k0_idx3_inb : ∀ (v40 : IVec S16 32) (k0_hw3 : k0_chk3 v40), ∀ a x, ((![v40] : Fin 1 → IVec S16 32) a x).toNat < S528.size a := fun v40 k0_hw3 => k0_hw3
def k0_cond1 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c0_i32_40 : BitVec 32 := 0#32
  let v49 : BitVec 1 := Scalar.cmpi .sgt v45 c0_i32_40
  let v50 : BitVec 32 := Scalar.extui v49
  let c0_i32_41 : BitVec 32 := 0#32
  let v51 : BitVec 1 := Scalar.cmpi .ne v50 c0_i32_41
  v51

def k0_chk4 (v14 : BitVec 32) (k0_t6 : Fin (k0_t6_loop v14).trips) (v98 : IVec S16 32) : Prop :=
  (∀ (k0_h1 : k0_cond1 v14 k0_t6 = 1#1), ∀ a x, ((![v98] : Fin 1 → IVec S16 32) a x).toNat < S528.size a)
theorem k0_idx4_inb : ∀ (v14 : BitVec 32) (k0_t6 : Fin (k0_t6_loop v14).trips) (v98 : IVec S16 32) (k0_hw4 : k0_chk4 v14 k0_t6 v98), ∀ (k0_h1 : k0_cond1 v14 k0_t6 = 1#1), ∀ a x, ((![v98] : Fin 1 → IVec S16 32) a x).toNat < S528.size a := fun v14 k0_t6 v98 k0_hw4 k0_h1 => k0_hw4 k0_h1

def k0_chk5 (v14 : BitVec 32) (k0_t6 : Fin (k0_t6_loop v14).trips) (v99 : IVec S16 32) (v100 : IVec S16 32) (v102 : IVec S16 32) : Prop :=
  (∀ (k0_h1 : k0_cond1 v14 k0_t6 = 1#1), ∀ a x, ((![v100, v102] : Fin 2 → IVec S16 32) a x).toNat < S16x128.size a) ∧
  (∀ (k0_h1 : k0_cond1 v14 k0_t6 = 1#1), ∀ a x, ((![v99, v102] : Fin 2 → IVec S16 32) a x).toNat < S320x128.size a) ∧
  (∀ (k0_h1 : k0_cond1 v14 k0_t6 = 1#1), ∀ a x, ((![v99, v102] : Fin 2 → IVec S16 32) a x).toNat < S320x128.size a) ∧
  (∀ (k0_h1 : k0_cond1 v14 k0_t6 = 1#1), ∀ a x, ((![v99, v102] : Fin 2 → IVec S16 32) a x).toNat < S320x128.size a) ∧
  (∀ (k0_h1 : k0_cond1 v14 k0_t6 = 1#1), ∀ a x, ((![v99, v102] : Fin 2 → IVec S16 32) a x).toNat < S320x128.size a) ∧
  (∀ (k0_h1 : k0_cond1 v14 k0_t6 = 1#1), ∀ a x, ((![v99, v102] : Fin 2 → IVec S16 32) a x).toNat < S320x128.size a)
theorem k0_idx5_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v100, v102] : Fin 2 → IVec S16 32) a x).toNat < S16x128.size a := fun v14 k0_t6 v99 v100 v102 k0_hw5 k0_h1 => k0_hw5.1 k0_h1
theorem k0_idx6_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v99, v102] : Fin 2 → IVec S16 32) a x).toNat < S320x128.size a := fun v14 k0_t6 v99 v100 v102 k0_hw5 k0_h1 => k0_hw5.2.1 k0_h1
theorem k0_idx7_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v99, v102] : Fin 2 → IVec S16 32) a x).toNat < S320x128.size a := fun v14 k0_t6 v99 v100 v102 k0_hw5 k0_h1 => k0_hw5.2.2.1 k0_h1
theorem k0_idx8_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v99, v102] : Fin 2 → IVec S16 32) a x).toNat < S320x128.size a := fun v14 k0_t6 v99 v100 v102 k0_hw5 k0_h1 => k0_hw5.2.2.2.1 k0_h1
theorem k0_idx9_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v99, v102] : Fin 2 → IVec S16 32) a x).toNat < S320x128.size a := fun v14 k0_t6 v99 v100 v102 k0_hw5 k0_h1 => k0_hw5.2.2.2.2.1 k0_h1
theorem k0_idx10_inb : ∀ (v14 : BitVec 32) (k0_t6 : Fin (k0_t6_loop v14).trips) (v99 : IVec S16 32) (v100 : IVec S16 32) (v102 : IVec S16 32) (k0_hw5 : k0_chk5 v14 k0_t6 v99 v100 v102), ∀ (k0_h1 : k0_cond1 v14 k0_t6 = 1#1), ∀ a x, ((![v99, v102] : Fin 2 → IVec S16 32) a x).toNat < S320x128.size a := fun v14 k0_t6 v99 v100 v102 k0_hw5 k0_h1 => k0_hw5.2.2.2.2.2 k0_h1

def k0_chk6 (v14 : BitVec 32) (k0_t6 : Fin (k0_t6_loop v14).trips) (v99 : IVec S16 32) (v100 : IVec S16 32) (v109 : IVec S16 32) : Prop :=
  (∀ (k0_h1 : k0_cond1 v14 k0_t6 = 1#1), ∀ a x, ((![v100, v109] : Fin 2 → IVec S16 32) a x).toNat < S16x128.size a) ∧
  (∀ (k0_h1 : k0_cond1 v14 k0_t6 = 1#1), ∀ a x, ((![v99, v109] : Fin 2 → IVec S16 32) a x).toNat < S320x128.size a) ∧
  (∀ (k0_h1 : k0_cond1 v14 k0_t6 = 1#1), ∀ a x, ((![v99, v109] : Fin 2 → IVec S16 32) a x).toNat < S320x128.size a) ∧
  (∀ (k0_h1 : k0_cond1 v14 k0_t6 = 1#1), ∀ a x, ((![v99, v109] : Fin 2 → IVec S16 32) a x).toNat < S320x128.size a) ∧
  (∀ (k0_h1 : k0_cond1 v14 k0_t6 = 1#1), ∀ a x, ((![v99, v109] : Fin 2 → IVec S16 32) a x).toNat < S320x128.size a) ∧
  (∀ (k0_h1 : k0_cond1 v14 k0_t6 = 1#1), ∀ a x, ((![v99, v109] : Fin 2 → IVec S16 32) a x).toNat < S320x128.size a)
theorem k0_idx11_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v100, v109] : Fin 2 → IVec S16 32) a x).toNat < S16x128.size a := fun v14 k0_t6 v99 v100 v109 k0_hw6 k0_h1 => k0_hw6.1 k0_h1
theorem k0_idx12_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v99, v109] : Fin 2 → IVec S16 32) a x).toNat < S320x128.size a := fun v14 k0_t6 v99 v100 v109 k0_hw6 k0_h1 => k0_hw6.2.1 k0_h1
theorem k0_idx13_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v99, v109] : Fin 2 → IVec S16 32) a x).toNat < S320x128.size a := fun v14 k0_t6 v99 v100 v109 k0_hw6 k0_h1 => k0_hw6.2.2.1 k0_h1
theorem k0_idx14_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v99, v109] : Fin 2 → IVec S16 32) a x).toNat < S320x128.size a := fun v14 k0_t6 v99 v100 v109 k0_hw6 k0_h1 => k0_hw6.2.2.2.1 k0_h1
theorem k0_idx15_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v99, v109] : Fin 2 → IVec S16 32) a x).toNat < S320x128.size a := fun v14 k0_t6 v99 v100 v109 k0_hw6 k0_h1 => k0_hw6.2.2.2.2.1 k0_h1
theorem k0_idx16_inb : ∀ (v14 : BitVec 32) (k0_t6 : Fin (k0_t6_loop v14).trips) (v99 : IVec S16 32) (v100 : IVec S16 32) (v109 : IVec S16 32) (k0_hw6 : k0_chk6 v14 k0_t6 v99 v100 v109), ∀ (k0_h1 : k0_cond1 v14 k0_t6 = 1#1), ∀ a x, ((![v99, v109] : Fin 2 → IVec S16 32) a x).toNat < S320x128.size a := fun v14 k0_t6 v99 v100 v109 k0_hw6 k0_h1 => k0_hw6.2.2.2.2.2 k0_h1

def k0_chk7 (v14 : BitVec 32) (k0_t6 : Fin (k0_t6_loop v14).trips) (v99 : IVec S16 32) (v100 : IVec S16 32) (v116 : IVec S16 32) : Prop :=
  (∀ (k0_h1 : k0_cond1 v14 k0_t6 = 1#1), ∀ a x, ((![v100, v116] : Fin 2 → IVec S16 32) a x).toNat < S16x128.size a) ∧
  (∀ (k0_h1 : k0_cond1 v14 k0_t6 = 1#1), ∀ a x, ((![v99, v116] : Fin 2 → IVec S16 32) a x).toNat < S320x128.size a) ∧
  (∀ (k0_h1 : k0_cond1 v14 k0_t6 = 1#1), ∀ a x, ((![v99, v116] : Fin 2 → IVec S16 32) a x).toNat < S320x128.size a) ∧
  (∀ (k0_h1 : k0_cond1 v14 k0_t6 = 1#1), ∀ a x, ((![v99, v116] : Fin 2 → IVec S16 32) a x).toNat < S320x128.size a) ∧
  (∀ (k0_h1 : k0_cond1 v14 k0_t6 = 1#1), ∀ a x, ((![v99, v116] : Fin 2 → IVec S16 32) a x).toNat < S320x128.size a) ∧
  (∀ (k0_h1 : k0_cond1 v14 k0_t6 = 1#1), ∀ a x, ((![v99, v116] : Fin 2 → IVec S16 32) a x).toNat < S320x128.size a)
theorem k0_idx17_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v100, v116] : Fin 2 → IVec S16 32) a x).toNat < S16x128.size a := fun v14 k0_t6 v99 v100 v116 k0_hw7 k0_h1 => k0_hw7.1 k0_h1
theorem k0_idx18_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v99, v116] : Fin 2 → IVec S16 32) a x).toNat < S320x128.size a := fun v14 k0_t6 v99 v100 v116 k0_hw7 k0_h1 => k0_hw7.2.1 k0_h1
theorem k0_idx19_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v99, v116] : Fin 2 → IVec S16 32) a x).toNat < S320x128.size a := fun v14 k0_t6 v99 v100 v116 k0_hw7 k0_h1 => k0_hw7.2.2.1 k0_h1
theorem k0_idx20_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v99, v116] : Fin 2 → IVec S16 32) a x).toNat < S320x128.size a := fun v14 k0_t6 v99 v100 v116 k0_hw7 k0_h1 => k0_hw7.2.2.2.1 k0_h1
theorem k0_idx21_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v99, v116] : Fin 2 → IVec S16 32) a x).toNat < S320x128.size a := fun v14 k0_t6 v99 v100 v116 k0_hw7 k0_h1 => k0_hw7.2.2.2.2.1 k0_h1
theorem k0_idx22_inb : ∀ (v14 : BitVec 32) (k0_t6 : Fin (k0_t6_loop v14).trips) (v99 : IVec S16 32) (v100 : IVec S16 32) (v116 : IVec S16 32) (k0_hw7 : k0_chk7 v14 k0_t6 v99 v100 v116), ∀ (k0_h1 : k0_cond1 v14 k0_t6 = 1#1), ∀ a x, ((![v99, v116] : Fin 2 → IVec S16 32) a x).toNat < S320x128.size a := fun v14 k0_t6 v99 v100 v116 k0_hw7 k0_h1 => k0_hw7.2.2.2.2.2 k0_h1

def k0_chk8 (v14 : BitVec 32) (k0_t6 : Fin (k0_t6_loop v14).trips) (v99 : IVec S16 32) (v100 : IVec S16 32) (v123 : IVec S16 32) : Prop :=
  (∀ (k0_h1 : k0_cond1 v14 k0_t6 = 1#1), ∀ a x, ((![v100, v123] : Fin 2 → IVec S16 32) a x).toNat < S16x128.size a) ∧
  (∀ (k0_h1 : k0_cond1 v14 k0_t6 = 1#1), ∀ a x, ((![v99, v123] : Fin 2 → IVec S16 32) a x).toNat < S320x128.size a) ∧
  (∀ (k0_h1 : k0_cond1 v14 k0_t6 = 1#1), ∀ a x, ((![v99, v123] : Fin 2 → IVec S16 32) a x).toNat < S320x128.size a) ∧
  (∀ (k0_h1 : k0_cond1 v14 k0_t6 = 1#1), ∀ a x, ((![v99, v123] : Fin 2 → IVec S16 32) a x).toNat < S320x128.size a) ∧
  (∀ (k0_h1 : k0_cond1 v14 k0_t6 = 1#1), ∀ a x, ((![v99, v123] : Fin 2 → IVec S16 32) a x).toNat < S320x128.size a) ∧
  (∀ (k0_h1 : k0_cond1 v14 k0_t6 = 1#1), ∀ a x, ((![v99, v123] : Fin 2 → IVec S16 32) a x).toNat < S320x128.size a)
theorem k0_idx23_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v100, v123] : Fin 2 → IVec S16 32) a x).toNat < S16x128.size a := fun v14 k0_t6 v99 v100 v123 k0_hw8 k0_h1 => k0_hw8.1 k0_h1
theorem k0_idx24_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v99, v123] : Fin 2 → IVec S16 32) a x).toNat < S320x128.size a := fun v14 k0_t6 v99 v100 v123 k0_hw8 k0_h1 => k0_hw8.2.1 k0_h1
theorem k0_idx25_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v99, v123] : Fin 2 → IVec S16 32) a x).toNat < S320x128.size a := fun v14 k0_t6 v99 v100 v123 k0_hw8 k0_h1 => k0_hw8.2.2.1 k0_h1
theorem k0_idx26_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v99, v123] : Fin 2 → IVec S16 32) a x).toNat < S320x128.size a := fun v14 k0_t6 v99 v100 v123 k0_hw8 k0_h1 => k0_hw8.2.2.2.1 k0_h1
theorem k0_idx27_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v99, v123] : Fin 2 → IVec S16 32) a x).toNat < S320x128.size a := fun v14 k0_t6 v99 v100 v123 k0_hw8 k0_h1 => k0_hw8.2.2.2.2.1 k0_h1
theorem k0_idx28_inb : ∀ (v14 : BitVec 32) (k0_t6 : Fin (k0_t6_loop v14).trips) (v99 : IVec S16 32) (v100 : IVec S16 32) (v123 : IVec S16 32) (k0_hw8 : k0_chk8 v14 k0_t6 v99 v100 v123), ∀ (k0_h1 : k0_cond1 v14 k0_t6 = 1#1), ∀ a x, ((![v99, v123] : Fin 2 → IVec S16 32) a x).toNat < S320x128.size a := fun v14 k0_t6 v99 v100 v123 k0_hw8 k0_h1 => k0_hw8.2.2.2.2.2 k0_h1

def k0_chk9 (v14 : BitVec 32) (k0_t6 : Fin (k0_t6_loop v14).trips) (v99 : IVec S16 32) (v100 : IVec S16 32) (v130 : IVec S16 32) : Prop :=
  (∀ (k0_h1 : k0_cond1 v14 k0_t6 = 1#1), ∀ a x, ((![v100, v130] : Fin 2 → IVec S16 32) a x).toNat < S16x128.size a) ∧
  (∀ (k0_h1 : k0_cond1 v14 k0_t6 = 1#1), ∀ a x, ((![v99, v130] : Fin 2 → IVec S16 32) a x).toNat < S320x128.size a) ∧
  (∀ (k0_h1 : k0_cond1 v14 k0_t6 = 1#1), ∀ a x, ((![v99, v130] : Fin 2 → IVec S16 32) a x).toNat < S320x128.size a) ∧
  (∀ (k0_h1 : k0_cond1 v14 k0_t6 = 1#1), ∀ a x, ((![v99, v130] : Fin 2 → IVec S16 32) a x).toNat < S320x128.size a) ∧
  (∀ (k0_h1 : k0_cond1 v14 k0_t6 = 1#1), ∀ a x, ((![v99, v130] : Fin 2 → IVec S16 32) a x).toNat < S320x128.size a) ∧
  (∀ (k0_h1 : k0_cond1 v14 k0_t6 = 1#1), ∀ a x, ((![v99, v130] : Fin 2 → IVec S16 32) a x).toNat < S320x128.size a)
theorem k0_idx29_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v100, v130] : Fin 2 → IVec S16 32) a x).toNat < S16x128.size a := fun v14 k0_t6 v99 v100 v130 k0_hw9 k0_h1 => k0_hw9.1 k0_h1
theorem k0_idx30_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v99, v130] : Fin 2 → IVec S16 32) a x).toNat < S320x128.size a := fun v14 k0_t6 v99 v100 v130 k0_hw9 k0_h1 => k0_hw9.2.1 k0_h1
theorem k0_idx31_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v99, v130] : Fin 2 → IVec S16 32) a x).toNat < S320x128.size a := fun v14 k0_t6 v99 v100 v130 k0_hw9 k0_h1 => k0_hw9.2.2.1 k0_h1
theorem k0_idx32_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v99, v130] : Fin 2 → IVec S16 32) a x).toNat < S320x128.size a := fun v14 k0_t6 v99 v100 v130 k0_hw9 k0_h1 => k0_hw9.2.2.2.1 k0_h1
theorem k0_idx33_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v99, v130] : Fin 2 → IVec S16 32) a x).toNat < S320x128.size a := fun v14 k0_t6 v99 v100 v130 k0_hw9 k0_h1 => k0_hw9.2.2.2.2.1 k0_h1
theorem k0_idx34_inb : ∀ (v14 : BitVec 32) (k0_t6 : Fin (k0_t6_loop v14).trips) (v99 : IVec S16 32) (v100 : IVec S16 32) (v130 : IVec S16 32) (k0_hw9 : k0_chk9 v14 k0_t6 v99 v100 v130), ∀ (k0_h1 : k0_cond1 v14 k0_t6 = 1#1), ∀ a x, ((![v99, v130] : Fin 2 → IVec S16 32) a x).toNat < S320x128.size a := fun v14 k0_t6 v99 v100 v130 k0_hw9 k0_h1 => k0_hw9.2.2.2.2.2 k0_h1

def k0_chk10 (v14 : BitVec 32) (k0_t6 : Fin (k0_t6_loop v14).trips) (v99 : IVec S16 32) (v100 : IVec S16 32) (v137 : IVec S16 32) : Prop :=
  (∀ (k0_h1 : k0_cond1 v14 k0_t6 = 1#1), ∀ a x, ((![v100, v137] : Fin 2 → IVec S16 32) a x).toNat < S16x128.size a) ∧
  (∀ (k0_h1 : k0_cond1 v14 k0_t6 = 1#1), ∀ a x, ((![v99, v137] : Fin 2 → IVec S16 32) a x).toNat < S320x128.size a) ∧
  (∀ (k0_h1 : k0_cond1 v14 k0_t6 = 1#1), ∀ a x, ((![v99, v137] : Fin 2 → IVec S16 32) a x).toNat < S320x128.size a) ∧
  (∀ (k0_h1 : k0_cond1 v14 k0_t6 = 1#1), ∀ a x, ((![v99, v137] : Fin 2 → IVec S16 32) a x).toNat < S320x128.size a) ∧
  (∀ (k0_h1 : k0_cond1 v14 k0_t6 = 1#1), ∀ a x, ((![v99, v137] : Fin 2 → IVec S16 32) a x).toNat < S320x128.size a) ∧
  (∀ (k0_h1 : k0_cond1 v14 k0_t6 = 1#1), ∀ a x, ((![v99, v137] : Fin 2 → IVec S16 32) a x).toNat < S320x128.size a)
theorem k0_idx35_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v100, v137] : Fin 2 → IVec S16 32) a x).toNat < S16x128.size a := fun v14 k0_t6 v99 v100 v137 k0_hw10 k0_h1 => k0_hw10.1 k0_h1
theorem k0_idx36_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v99, v137] : Fin 2 → IVec S16 32) a x).toNat < S320x128.size a := fun v14 k0_t6 v99 v100 v137 k0_hw10 k0_h1 => k0_hw10.2.1 k0_h1
theorem k0_idx37_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v99, v137] : Fin 2 → IVec S16 32) a x).toNat < S320x128.size a := fun v14 k0_t6 v99 v100 v137 k0_hw10 k0_h1 => k0_hw10.2.2.1 k0_h1
theorem k0_idx38_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v99, v137] : Fin 2 → IVec S16 32) a x).toNat < S320x128.size a := fun v14 k0_t6 v99 v100 v137 k0_hw10 k0_h1 => k0_hw10.2.2.2.1 k0_h1
theorem k0_idx39_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v99, v137] : Fin 2 → IVec S16 32) a x).toNat < S320x128.size a := fun v14 k0_t6 v99 v100 v137 k0_hw10 k0_h1 => k0_hw10.2.2.2.2.1 k0_h1
theorem k0_idx40_inb : ∀ (v14 : BitVec 32) (k0_t6 : Fin (k0_t6_loop v14).trips) (v99 : IVec S16 32) (v100 : IVec S16 32) (v137 : IVec S16 32) (k0_hw10 : k0_chk10 v14 k0_t6 v99 v100 v137), ∀ (k0_h1 : k0_cond1 v14 k0_t6 = 1#1), ∀ a x, ((![v99, v137] : Fin 2 → IVec S16 32) a x).toNat < S320x128.size a := fun v14 k0_t6 v99 v100 v137 k0_hw10 k0_h1 => k0_hw10.2.2.2.2.2 k0_h1

def k0_chk11 (v14 : BitVec 32) (k0_t6 : Fin (k0_t6_loop v14).trips) (v99 : IVec S16 32) (v100 : IVec S16 32) (v144 : IVec S16 32) : Prop :=
  (∀ (k0_h1 : k0_cond1 v14 k0_t6 = 1#1), ∀ a x, ((![v100, v144] : Fin 2 → IVec S16 32) a x).toNat < S16x128.size a) ∧
  (∀ (k0_h1 : k0_cond1 v14 k0_t6 = 1#1), ∀ a x, ((![v99, v144] : Fin 2 → IVec S16 32) a x).toNat < S320x128.size a) ∧
  (∀ (k0_h1 : k0_cond1 v14 k0_t6 = 1#1), ∀ a x, ((![v99, v144] : Fin 2 → IVec S16 32) a x).toNat < S320x128.size a) ∧
  (∀ (k0_h1 : k0_cond1 v14 k0_t6 = 1#1), ∀ a x, ((![v99, v144] : Fin 2 → IVec S16 32) a x).toNat < S320x128.size a) ∧
  (∀ (k0_h1 : k0_cond1 v14 k0_t6 = 1#1), ∀ a x, ((![v99, v144] : Fin 2 → IVec S16 32) a x).toNat < S320x128.size a) ∧
  (∀ (k0_h1 : k0_cond1 v14 k0_t6 = 1#1), ∀ a x, ((![v99, v144] : Fin 2 → IVec S16 32) a x).toNat < S320x128.size a)
theorem k0_idx41_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v100, v144] : Fin 2 → IVec S16 32) a x).toNat < S16x128.size a := fun v14 k0_t6 v99 v100 v144 k0_hw11 k0_h1 => k0_hw11.1 k0_h1
theorem k0_idx42_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v99, v144] : Fin 2 → IVec S16 32) a x).toNat < S320x128.size a := fun v14 k0_t6 v99 v100 v144 k0_hw11 k0_h1 => k0_hw11.2.1 k0_h1
theorem k0_idx43_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v99, v144] : Fin 2 → IVec S16 32) a x).toNat < S320x128.size a := fun v14 k0_t6 v99 v100 v144 k0_hw11 k0_h1 => k0_hw11.2.2.1 k0_h1
theorem k0_idx44_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v99, v144] : Fin 2 → IVec S16 32) a x).toNat < S320x128.size a := fun v14 k0_t6 v99 v100 v144 k0_hw11 k0_h1 => k0_hw11.2.2.2.1 k0_h1
theorem k0_idx45_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v99, v144] : Fin 2 → IVec S16 32) a x).toNat < S320x128.size a := fun v14 k0_t6 v99 v100 v144 k0_hw11 k0_h1 => k0_hw11.2.2.2.2.1 k0_h1
theorem k0_idx46_inb : ∀ (v14 : BitVec 32) (k0_t6 : Fin (k0_t6_loop v14).trips) (v99 : IVec S16 32) (v100 : IVec S16 32) (v144 : IVec S16 32) (k0_hw11 : k0_chk11 v14 k0_t6 v99 v100 v144), ∀ (k0_h1 : k0_cond1 v14 k0_t6 = 1#1), ∀ a x, ((![v99, v144] : Fin 2 → IVec S16 32) a x).toNat < S320x128.size a := fun v14 k0_t6 v99 v100 v144 k0_hw11 k0_h1 => k0_hw11.2.2.2.2.2 k0_h1

def k0_chk12 (v14 : BitVec 32) (k0_t6 : Fin (k0_t6_loop v14).trips) (v99 : IVec S16 32) (v100 : IVec S16 32) (v151 : IVec S16 32) : Prop :=
  (∀ (k0_h1 : k0_cond1 v14 k0_t6 = 1#1), ∀ a x, ((![v100, v151] : Fin 2 → IVec S16 32) a x).toNat < S16x128.size a) ∧
  (∀ (k0_h1 : k0_cond1 v14 k0_t6 = 1#1), ∀ a x, ((![v99, v151] : Fin 2 → IVec S16 32) a x).toNat < S320x128.size a) ∧
  (∀ (k0_h1 : k0_cond1 v14 k0_t6 = 1#1), ∀ a x, ((![v99, v151] : Fin 2 → IVec S16 32) a x).toNat < S320x128.size a) ∧
  (∀ (k0_h1 : k0_cond1 v14 k0_t6 = 1#1), ∀ a x, ((![v99, v151] : Fin 2 → IVec S16 32) a x).toNat < S320x128.size a) ∧
  (∀ (k0_h1 : k0_cond1 v14 k0_t6 = 1#1), ∀ a x, ((![v99, v151] : Fin 2 → IVec S16 32) a x).toNat < S320x128.size a) ∧
  (∀ (k0_h1 : k0_cond1 v14 k0_t6 = 1#1), ∀ a x, ((![v99, v151] : Fin 2 → IVec S16 32) a x).toNat < S320x128.size a)
theorem k0_idx47_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v100, v151] : Fin 2 → IVec S16 32) a x).toNat < S16x128.size a := fun v14 k0_t6 v99 v100 v151 k0_hw12 k0_h1 => k0_hw12.1 k0_h1
theorem k0_idx48_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v99, v151] : Fin 2 → IVec S16 32) a x).toNat < S320x128.size a := fun v14 k0_t6 v99 v100 v151 k0_hw12 k0_h1 => k0_hw12.2.1 k0_h1
theorem k0_idx49_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v99, v151] : Fin 2 → IVec S16 32) a x).toNat < S320x128.size a := fun v14 k0_t6 v99 v100 v151 k0_hw12 k0_h1 => k0_hw12.2.2.1 k0_h1
theorem k0_idx50_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v99, v151] : Fin 2 → IVec S16 32) a x).toNat < S320x128.size a := fun v14 k0_t6 v99 v100 v151 k0_hw12 k0_h1 => k0_hw12.2.2.2.1 k0_h1
theorem k0_idx51_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v99, v151] : Fin 2 → IVec S16 32) a x).toNat < S320x128.size a := fun v14 k0_t6 v99 v100 v151 k0_hw12 k0_h1 => k0_hw12.2.2.2.2.1 k0_h1
theorem k0_idx52_inb : ∀ (v14 : BitVec 32) (k0_t6 : Fin (k0_t6_loop v14).trips) (v99 : IVec S16 32) (v100 : IVec S16 32) (v151 : IVec S16 32) (k0_hw12 : k0_chk12 v14 k0_t6 v99 v100 v151), ∀ (k0_h1 : k0_cond1 v14 k0_t6 = 1#1), ∀ a x, ((![v99, v151] : Fin 2 → IVec S16 32) a x).toNat < S320x128.size a := fun v14 k0_t6 v99 v100 v151 k0_hw12 k0_h1 => k0_hw12.2.2.2.2.2 k0_h1

def k0_chk13 (v14 : BitVec 32) (k0_t6 : Fin (k0_t6_loop v14).trips) (v99 : IVec S16 32) : Prop :=
  (∀ (k0_h1 : k0_cond1 v14 k0_t6 = 1#1), ∀ a x, ((![v99] : Fin 1 → IVec S16 32) a x).toNat < S320.size a)
theorem k0_idx53_inb : ∀ (v14 : BitVec 32) (k0_t6 : Fin (k0_t6_loop v14).trips) (v99 : IVec S16 32) (k0_hw13 : k0_chk13 v14 k0_t6 v99), ∀ (k0_h1 : k0_cond1 v14 k0_t6 = 1#1), ∀ a x, ((![v99] : Fin 1 → IVec S16 32) a x).toNat < S320.size a := fun v14 k0_t6 v99 k0_hw13 k0_h1 => k0_hw13 k0_h1
def k0_cond2 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c1_i32_42 : BitVec 32 := 1#32
  let v52 : BitVec 1 := Scalar.cmpi .sgt v45 c1_i32_42
  let v53 : BitVec 32 := Scalar.extui v52
  let c0_i32_43 : BitVec 32 := 0#32
  let v54 : BitVec 1 := Scalar.cmpi .ne v53 c0_i32_43
  v54

def k0_chk14 (v14 : BitVec 32) (k0_t6 : Fin (k0_t6_loop v14).trips) (v98 : IVec S16 32) : Prop :=
  (∀ (k0_h2 : k0_cond2 v14 k0_t6 = 1#1), ∀ a x, ((![v98] : Fin 1 → IVec S16 32) a x).toNat < S528.size a)
theorem k0_idx54_inb : ∀ (v14 : BitVec 32) (k0_t6 : Fin (k0_t6_loop v14).trips) (v98 : IVec S16 32) (k0_hw14 : k0_chk14 v14 k0_t6 v98), ∀ (k0_h2 : k0_cond2 v14 k0_t6 = 1#1), ∀ a x, ((![v98] : Fin 1 → IVec S16 32) a x).toNat < S528.size a := fun v14 k0_t6 v98 k0_hw14 k0_h2 => k0_hw14 k0_h2

def k0_chk15 (v14 : BitVec 32) (k0_t6 : Fin (k0_t6_loop v14).trips) (v99 : IVec S16 32) (v100 : IVec S16 32) (v102 : IVec S16 32) : Prop :=
  (∀ (k0_h2 : k0_cond2 v14 k0_t6 = 1#1), ∀ a x, ((![v100, v102] : Fin 2 → IVec S16 32) a x).toNat < S16x128.size a) ∧
  (∀ (k0_h2 : k0_cond2 v14 k0_t6 = 1#1), ∀ a x, ((![v99, v102] : Fin 2 → IVec S16 32) a x).toNat < S320x128.size a) ∧
  (∀ (k0_h2 : k0_cond2 v14 k0_t6 = 1#1), ∀ a x, ((![v99, v102] : Fin 2 → IVec S16 32) a x).toNat < S320x128.size a) ∧
  (∀ (k0_h2 : k0_cond2 v14 k0_t6 = 1#1), ∀ a x, ((![v99, v102] : Fin 2 → IVec S16 32) a x).toNat < S320x128.size a) ∧
  (∀ (k0_h2 : k0_cond2 v14 k0_t6 = 1#1), ∀ a x, ((![v99, v102] : Fin 2 → IVec S16 32) a x).toNat < S320x128.size a) ∧
  (∀ (k0_h2 : k0_cond2 v14 k0_t6 = 1#1), ∀ a x, ((![v99, v102] : Fin 2 → IVec S16 32) a x).toNat < S320x128.size a)
theorem k0_idx55_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v100, v102] : Fin 2 → IVec S16 32) a x).toNat < S16x128.size a := fun v14 k0_t6 v99 v100 v102 k0_hw15 k0_h2 => k0_hw15.1 k0_h2
theorem k0_idx56_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v99, v102] : Fin 2 → IVec S16 32) a x).toNat < S320x128.size a := fun v14 k0_t6 v99 v100 v102 k0_hw15 k0_h2 => k0_hw15.2.1 k0_h2
theorem k0_idx57_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v99, v102] : Fin 2 → IVec S16 32) a x).toNat < S320x128.size a := fun v14 k0_t6 v99 v100 v102 k0_hw15 k0_h2 => k0_hw15.2.2.1 k0_h2
theorem k0_idx58_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v99, v102] : Fin 2 → IVec S16 32) a x).toNat < S320x128.size a := fun v14 k0_t6 v99 v100 v102 k0_hw15 k0_h2 => k0_hw15.2.2.2.1 k0_h2
theorem k0_idx59_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v99, v102] : Fin 2 → IVec S16 32) a x).toNat < S320x128.size a := fun v14 k0_t6 v99 v100 v102 k0_hw15 k0_h2 => k0_hw15.2.2.2.2.1 k0_h2
theorem k0_idx60_inb : ∀ (v14 : BitVec 32) (k0_t6 : Fin (k0_t6_loop v14).trips) (v99 : IVec S16 32) (v100 : IVec S16 32) (v102 : IVec S16 32) (k0_hw15 : k0_chk15 v14 k0_t6 v99 v100 v102), ∀ (k0_h2 : k0_cond2 v14 k0_t6 = 1#1), ∀ a x, ((![v99, v102] : Fin 2 → IVec S16 32) a x).toNat < S320x128.size a := fun v14 k0_t6 v99 v100 v102 k0_hw15 k0_h2 => k0_hw15.2.2.2.2.2 k0_h2

def k0_chk16 (v14 : BitVec 32) (k0_t6 : Fin (k0_t6_loop v14).trips) (v99 : IVec S16 32) (v100 : IVec S16 32) (v109 : IVec S16 32) : Prop :=
  (∀ (k0_h2 : k0_cond2 v14 k0_t6 = 1#1), ∀ a x, ((![v100, v109] : Fin 2 → IVec S16 32) a x).toNat < S16x128.size a) ∧
  (∀ (k0_h2 : k0_cond2 v14 k0_t6 = 1#1), ∀ a x, ((![v99, v109] : Fin 2 → IVec S16 32) a x).toNat < S320x128.size a) ∧
  (∀ (k0_h2 : k0_cond2 v14 k0_t6 = 1#1), ∀ a x, ((![v99, v109] : Fin 2 → IVec S16 32) a x).toNat < S320x128.size a) ∧
  (∀ (k0_h2 : k0_cond2 v14 k0_t6 = 1#1), ∀ a x, ((![v99, v109] : Fin 2 → IVec S16 32) a x).toNat < S320x128.size a) ∧
  (∀ (k0_h2 : k0_cond2 v14 k0_t6 = 1#1), ∀ a x, ((![v99, v109] : Fin 2 → IVec S16 32) a x).toNat < S320x128.size a) ∧
  (∀ (k0_h2 : k0_cond2 v14 k0_t6 = 1#1), ∀ a x, ((![v99, v109] : Fin 2 → IVec S16 32) a x).toNat < S320x128.size a)
theorem k0_idx61_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v100, v109] : Fin 2 → IVec S16 32) a x).toNat < S16x128.size a := fun v14 k0_t6 v99 v100 v109 k0_hw16 k0_h2 => k0_hw16.1 k0_h2
theorem k0_idx62_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v99, v109] : Fin 2 → IVec S16 32) a x).toNat < S320x128.size a := fun v14 k0_t6 v99 v100 v109 k0_hw16 k0_h2 => k0_hw16.2.1 k0_h2
theorem k0_idx63_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v99, v109] : Fin 2 → IVec S16 32) a x).toNat < S320x128.size a := fun v14 k0_t6 v99 v100 v109 k0_hw16 k0_h2 => k0_hw16.2.2.1 k0_h2
theorem k0_idx64_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v99, v109] : Fin 2 → IVec S16 32) a x).toNat < S320x128.size a := fun v14 k0_t6 v99 v100 v109 k0_hw16 k0_h2 => k0_hw16.2.2.2.1 k0_h2
theorem k0_idx65_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v99, v109] : Fin 2 → IVec S16 32) a x).toNat < S320x128.size a := fun v14 k0_t6 v99 v100 v109 k0_hw16 k0_h2 => k0_hw16.2.2.2.2.1 k0_h2
theorem k0_idx66_inb : ∀ (v14 : BitVec 32) (k0_t6 : Fin (k0_t6_loop v14).trips) (v99 : IVec S16 32) (v100 : IVec S16 32) (v109 : IVec S16 32) (k0_hw16 : k0_chk16 v14 k0_t6 v99 v100 v109), ∀ (k0_h2 : k0_cond2 v14 k0_t6 = 1#1), ∀ a x, ((![v99, v109] : Fin 2 → IVec S16 32) a x).toNat < S320x128.size a := fun v14 k0_t6 v99 v100 v109 k0_hw16 k0_h2 => k0_hw16.2.2.2.2.2 k0_h2

def k0_chk17 (v14 : BitVec 32) (k0_t6 : Fin (k0_t6_loop v14).trips) (v99 : IVec S16 32) (v100 : IVec S16 32) (v116 : IVec S16 32) : Prop :=
  (∀ (k0_h2 : k0_cond2 v14 k0_t6 = 1#1), ∀ a x, ((![v100, v116] : Fin 2 → IVec S16 32) a x).toNat < S16x128.size a) ∧
  (∀ (k0_h2 : k0_cond2 v14 k0_t6 = 1#1), ∀ a x, ((![v99, v116] : Fin 2 → IVec S16 32) a x).toNat < S320x128.size a) ∧
  (∀ (k0_h2 : k0_cond2 v14 k0_t6 = 1#1), ∀ a x, ((![v99, v116] : Fin 2 → IVec S16 32) a x).toNat < S320x128.size a) ∧
  (∀ (k0_h2 : k0_cond2 v14 k0_t6 = 1#1), ∀ a x, ((![v99, v116] : Fin 2 → IVec S16 32) a x).toNat < S320x128.size a) ∧
  (∀ (k0_h2 : k0_cond2 v14 k0_t6 = 1#1), ∀ a x, ((![v99, v116] : Fin 2 → IVec S16 32) a x).toNat < S320x128.size a) ∧
  (∀ (k0_h2 : k0_cond2 v14 k0_t6 = 1#1), ∀ a x, ((![v99, v116] : Fin 2 → IVec S16 32) a x).toNat < S320x128.size a)
theorem k0_idx67_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v100, v116] : Fin 2 → IVec S16 32) a x).toNat < S16x128.size a := fun v14 k0_t6 v99 v100 v116 k0_hw17 k0_h2 => k0_hw17.1 k0_h2
theorem k0_idx68_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v99, v116] : Fin 2 → IVec S16 32) a x).toNat < S320x128.size a := fun v14 k0_t6 v99 v100 v116 k0_hw17 k0_h2 => k0_hw17.2.1 k0_h2
theorem k0_idx69_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v99, v116] : Fin 2 → IVec S16 32) a x).toNat < S320x128.size a := fun v14 k0_t6 v99 v100 v116 k0_hw17 k0_h2 => k0_hw17.2.2.1 k0_h2
theorem k0_idx70_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v99, v116] : Fin 2 → IVec S16 32) a x).toNat < S320x128.size a := fun v14 k0_t6 v99 v100 v116 k0_hw17 k0_h2 => k0_hw17.2.2.2.1 k0_h2
theorem k0_idx71_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v99, v116] : Fin 2 → IVec S16 32) a x).toNat < S320x128.size a := fun v14 k0_t6 v99 v100 v116 k0_hw17 k0_h2 => k0_hw17.2.2.2.2.1 k0_h2
theorem k0_idx72_inb : ∀ (v14 : BitVec 32) (k0_t6 : Fin (k0_t6_loop v14).trips) (v99 : IVec S16 32) (v100 : IVec S16 32) (v116 : IVec S16 32) (k0_hw17 : k0_chk17 v14 k0_t6 v99 v100 v116), ∀ (k0_h2 : k0_cond2 v14 k0_t6 = 1#1), ∀ a x, ((![v99, v116] : Fin 2 → IVec S16 32) a x).toNat < S320x128.size a := fun v14 k0_t6 v99 v100 v116 k0_hw17 k0_h2 => k0_hw17.2.2.2.2.2 k0_h2

def k0_chk18 (v14 : BitVec 32) (k0_t6 : Fin (k0_t6_loop v14).trips) (v99 : IVec S16 32) (v100 : IVec S16 32) (v123 : IVec S16 32) : Prop :=
  (∀ (k0_h2 : k0_cond2 v14 k0_t6 = 1#1), ∀ a x, ((![v100, v123] : Fin 2 → IVec S16 32) a x).toNat < S16x128.size a) ∧
  (∀ (k0_h2 : k0_cond2 v14 k0_t6 = 1#1), ∀ a x, ((![v99, v123] : Fin 2 → IVec S16 32) a x).toNat < S320x128.size a) ∧
  (∀ (k0_h2 : k0_cond2 v14 k0_t6 = 1#1), ∀ a x, ((![v99, v123] : Fin 2 → IVec S16 32) a x).toNat < S320x128.size a) ∧
  (∀ (k0_h2 : k0_cond2 v14 k0_t6 = 1#1), ∀ a x, ((![v99, v123] : Fin 2 → IVec S16 32) a x).toNat < S320x128.size a) ∧
  (∀ (k0_h2 : k0_cond2 v14 k0_t6 = 1#1), ∀ a x, ((![v99, v123] : Fin 2 → IVec S16 32) a x).toNat < S320x128.size a) ∧
  (∀ (k0_h2 : k0_cond2 v14 k0_t6 = 1#1), ∀ a x, ((![v99, v123] : Fin 2 → IVec S16 32) a x).toNat < S320x128.size a)
theorem k0_idx73_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v100, v123] : Fin 2 → IVec S16 32) a x).toNat < S16x128.size a := fun v14 k0_t6 v99 v100 v123 k0_hw18 k0_h2 => k0_hw18.1 k0_h2
theorem k0_idx74_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v99, v123] : Fin 2 → IVec S16 32) a x).toNat < S320x128.size a := fun v14 k0_t6 v99 v100 v123 k0_hw18 k0_h2 => k0_hw18.2.1 k0_h2
theorem k0_idx75_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v99, v123] : Fin 2 → IVec S16 32) a x).toNat < S320x128.size a := fun v14 k0_t6 v99 v100 v123 k0_hw18 k0_h2 => k0_hw18.2.2.1 k0_h2
theorem k0_idx76_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v99, v123] : Fin 2 → IVec S16 32) a x).toNat < S320x128.size a := fun v14 k0_t6 v99 v100 v123 k0_hw18 k0_h2 => k0_hw18.2.2.2.1 k0_h2
theorem k0_idx77_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v99, v123] : Fin 2 → IVec S16 32) a x).toNat < S320x128.size a := fun v14 k0_t6 v99 v100 v123 k0_hw18 k0_h2 => k0_hw18.2.2.2.2.1 k0_h2
theorem k0_idx78_inb : ∀ (v14 : BitVec 32) (k0_t6 : Fin (k0_t6_loop v14).trips) (v99 : IVec S16 32) (v100 : IVec S16 32) (v123 : IVec S16 32) (k0_hw18 : k0_chk18 v14 k0_t6 v99 v100 v123), ∀ (k0_h2 : k0_cond2 v14 k0_t6 = 1#1), ∀ a x, ((![v99, v123] : Fin 2 → IVec S16 32) a x).toNat < S320x128.size a := fun v14 k0_t6 v99 v100 v123 k0_hw18 k0_h2 => k0_hw18.2.2.2.2.2 k0_h2

def k0_chk19 (v14 : BitVec 32) (k0_t6 : Fin (k0_t6_loop v14).trips) (v99 : IVec S16 32) (v100 : IVec S16 32) (v130 : IVec S16 32) : Prop :=
  (∀ (k0_h2 : k0_cond2 v14 k0_t6 = 1#1), ∀ a x, ((![v100, v130] : Fin 2 → IVec S16 32) a x).toNat < S16x128.size a) ∧
  (∀ (k0_h2 : k0_cond2 v14 k0_t6 = 1#1), ∀ a x, ((![v99, v130] : Fin 2 → IVec S16 32) a x).toNat < S320x128.size a) ∧
  (∀ (k0_h2 : k0_cond2 v14 k0_t6 = 1#1), ∀ a x, ((![v99, v130] : Fin 2 → IVec S16 32) a x).toNat < S320x128.size a) ∧
  (∀ (k0_h2 : k0_cond2 v14 k0_t6 = 1#1), ∀ a x, ((![v99, v130] : Fin 2 → IVec S16 32) a x).toNat < S320x128.size a) ∧
  (∀ (k0_h2 : k0_cond2 v14 k0_t6 = 1#1), ∀ a x, ((![v99, v130] : Fin 2 → IVec S16 32) a x).toNat < S320x128.size a) ∧
  (∀ (k0_h2 : k0_cond2 v14 k0_t6 = 1#1), ∀ a x, ((![v99, v130] : Fin 2 → IVec S16 32) a x).toNat < S320x128.size a)
theorem k0_idx79_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v100, v130] : Fin 2 → IVec S16 32) a x).toNat < S16x128.size a := fun v14 k0_t6 v99 v100 v130 k0_hw19 k0_h2 => k0_hw19.1 k0_h2
theorem k0_idx80_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v99, v130] : Fin 2 → IVec S16 32) a x).toNat < S320x128.size a := fun v14 k0_t6 v99 v100 v130 k0_hw19 k0_h2 => k0_hw19.2.1 k0_h2
theorem k0_idx81_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v99, v130] : Fin 2 → IVec S16 32) a x).toNat < S320x128.size a := fun v14 k0_t6 v99 v100 v130 k0_hw19 k0_h2 => k0_hw19.2.2.1 k0_h2
theorem k0_idx82_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v99, v130] : Fin 2 → IVec S16 32) a x).toNat < S320x128.size a := fun v14 k0_t6 v99 v100 v130 k0_hw19 k0_h2 => k0_hw19.2.2.2.1 k0_h2
theorem k0_idx83_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v99, v130] : Fin 2 → IVec S16 32) a x).toNat < S320x128.size a := fun v14 k0_t6 v99 v100 v130 k0_hw19 k0_h2 => k0_hw19.2.2.2.2.1 k0_h2
theorem k0_idx84_inb : ∀ (v14 : BitVec 32) (k0_t6 : Fin (k0_t6_loop v14).trips) (v99 : IVec S16 32) (v100 : IVec S16 32) (v130 : IVec S16 32) (k0_hw19 : k0_chk19 v14 k0_t6 v99 v100 v130), ∀ (k0_h2 : k0_cond2 v14 k0_t6 = 1#1), ∀ a x, ((![v99, v130] : Fin 2 → IVec S16 32) a x).toNat < S320x128.size a := fun v14 k0_t6 v99 v100 v130 k0_hw19 k0_h2 => k0_hw19.2.2.2.2.2 k0_h2

def k0_chk20 (v14 : BitVec 32) (k0_t6 : Fin (k0_t6_loop v14).trips) (v99 : IVec S16 32) (v100 : IVec S16 32) (v137 : IVec S16 32) : Prop :=
  (∀ (k0_h2 : k0_cond2 v14 k0_t6 = 1#1), ∀ a x, ((![v100, v137] : Fin 2 → IVec S16 32) a x).toNat < S16x128.size a) ∧
  (∀ (k0_h2 : k0_cond2 v14 k0_t6 = 1#1), ∀ a x, ((![v99, v137] : Fin 2 → IVec S16 32) a x).toNat < S320x128.size a) ∧
  (∀ (k0_h2 : k0_cond2 v14 k0_t6 = 1#1), ∀ a x, ((![v99, v137] : Fin 2 → IVec S16 32) a x).toNat < S320x128.size a) ∧
  (∀ (k0_h2 : k0_cond2 v14 k0_t6 = 1#1), ∀ a x, ((![v99, v137] : Fin 2 → IVec S16 32) a x).toNat < S320x128.size a) ∧
  (∀ (k0_h2 : k0_cond2 v14 k0_t6 = 1#1), ∀ a x, ((![v99, v137] : Fin 2 → IVec S16 32) a x).toNat < S320x128.size a) ∧
  (∀ (k0_h2 : k0_cond2 v14 k0_t6 = 1#1), ∀ a x, ((![v99, v137] : Fin 2 → IVec S16 32) a x).toNat < S320x128.size a)
theorem k0_idx85_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v100, v137] : Fin 2 → IVec S16 32) a x).toNat < S16x128.size a := fun v14 k0_t6 v99 v100 v137 k0_hw20 k0_h2 => k0_hw20.1 k0_h2
theorem k0_idx86_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v99, v137] : Fin 2 → IVec S16 32) a x).toNat < S320x128.size a := fun v14 k0_t6 v99 v100 v137 k0_hw20 k0_h2 => k0_hw20.2.1 k0_h2
theorem k0_idx87_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v99, v137] : Fin 2 → IVec S16 32) a x).toNat < S320x128.size a := fun v14 k0_t6 v99 v100 v137 k0_hw20 k0_h2 => k0_hw20.2.2.1 k0_h2
theorem k0_idx88_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v99, v137] : Fin 2 → IVec S16 32) a x).toNat < S320x128.size a := fun v14 k0_t6 v99 v100 v137 k0_hw20 k0_h2 => k0_hw20.2.2.2.1 k0_h2
theorem k0_idx89_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v99, v137] : Fin 2 → IVec S16 32) a x).toNat < S320x128.size a := fun v14 k0_t6 v99 v100 v137 k0_hw20 k0_h2 => k0_hw20.2.2.2.2.1 k0_h2
theorem k0_idx90_inb : ∀ (v14 : BitVec 32) (k0_t6 : Fin (k0_t6_loop v14).trips) (v99 : IVec S16 32) (v100 : IVec S16 32) (v137 : IVec S16 32) (k0_hw20 : k0_chk20 v14 k0_t6 v99 v100 v137), ∀ (k0_h2 : k0_cond2 v14 k0_t6 = 1#1), ∀ a x, ((![v99, v137] : Fin 2 → IVec S16 32) a x).toNat < S320x128.size a := fun v14 k0_t6 v99 v100 v137 k0_hw20 k0_h2 => k0_hw20.2.2.2.2.2 k0_h2

def k0_chk21 (v14 : BitVec 32) (k0_t6 : Fin (k0_t6_loop v14).trips) (v99 : IVec S16 32) (v100 : IVec S16 32) (v144 : IVec S16 32) : Prop :=
  (∀ (k0_h2 : k0_cond2 v14 k0_t6 = 1#1), ∀ a x, ((![v100, v144] : Fin 2 → IVec S16 32) a x).toNat < S16x128.size a) ∧
  (∀ (k0_h2 : k0_cond2 v14 k0_t6 = 1#1), ∀ a x, ((![v99, v144] : Fin 2 → IVec S16 32) a x).toNat < S320x128.size a) ∧
  (∀ (k0_h2 : k0_cond2 v14 k0_t6 = 1#1), ∀ a x, ((![v99, v144] : Fin 2 → IVec S16 32) a x).toNat < S320x128.size a) ∧
  (∀ (k0_h2 : k0_cond2 v14 k0_t6 = 1#1), ∀ a x, ((![v99, v144] : Fin 2 → IVec S16 32) a x).toNat < S320x128.size a) ∧
  (∀ (k0_h2 : k0_cond2 v14 k0_t6 = 1#1), ∀ a x, ((![v99, v144] : Fin 2 → IVec S16 32) a x).toNat < S320x128.size a) ∧
  (∀ (k0_h2 : k0_cond2 v14 k0_t6 = 1#1), ∀ a x, ((![v99, v144] : Fin 2 → IVec S16 32) a x).toNat < S320x128.size a)
theorem k0_idx91_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v100, v144] : Fin 2 → IVec S16 32) a x).toNat < S16x128.size a := fun v14 k0_t6 v99 v100 v144 k0_hw21 k0_h2 => k0_hw21.1 k0_h2
theorem k0_idx92_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v99, v144] : Fin 2 → IVec S16 32) a x).toNat < S320x128.size a := fun v14 k0_t6 v99 v100 v144 k0_hw21 k0_h2 => k0_hw21.2.1 k0_h2
theorem k0_idx93_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v99, v144] : Fin 2 → IVec S16 32) a x).toNat < S320x128.size a := fun v14 k0_t6 v99 v100 v144 k0_hw21 k0_h2 => k0_hw21.2.2.1 k0_h2
theorem k0_idx94_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v99, v144] : Fin 2 → IVec S16 32) a x).toNat < S320x128.size a := fun v14 k0_t6 v99 v100 v144 k0_hw21 k0_h2 => k0_hw21.2.2.2.1 k0_h2
theorem k0_idx95_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v99, v144] : Fin 2 → IVec S16 32) a x).toNat < S320x128.size a := fun v14 k0_t6 v99 v100 v144 k0_hw21 k0_h2 => k0_hw21.2.2.2.2.1 k0_h2
theorem k0_idx96_inb : ∀ (v14 : BitVec 32) (k0_t6 : Fin (k0_t6_loop v14).trips) (v99 : IVec S16 32) (v100 : IVec S16 32) (v144 : IVec S16 32) (k0_hw21 : k0_chk21 v14 k0_t6 v99 v100 v144), ∀ (k0_h2 : k0_cond2 v14 k0_t6 = 1#1), ∀ a x, ((![v99, v144] : Fin 2 → IVec S16 32) a x).toNat < S320x128.size a := fun v14 k0_t6 v99 v100 v144 k0_hw21 k0_h2 => k0_hw21.2.2.2.2.2 k0_h2

def k0_chk22 (v14 : BitVec 32) (k0_t6 : Fin (k0_t6_loop v14).trips) (v99 : IVec S16 32) (v100 : IVec S16 32) (v151 : IVec S16 32) : Prop :=
  (∀ (k0_h2 : k0_cond2 v14 k0_t6 = 1#1), ∀ a x, ((![v100, v151] : Fin 2 → IVec S16 32) a x).toNat < S16x128.size a) ∧
  (∀ (k0_h2 : k0_cond2 v14 k0_t6 = 1#1), ∀ a x, ((![v99, v151] : Fin 2 → IVec S16 32) a x).toNat < S320x128.size a) ∧
  (∀ (k0_h2 : k0_cond2 v14 k0_t6 = 1#1), ∀ a x, ((![v99, v151] : Fin 2 → IVec S16 32) a x).toNat < S320x128.size a) ∧
  (∀ (k0_h2 : k0_cond2 v14 k0_t6 = 1#1), ∀ a x, ((![v99, v151] : Fin 2 → IVec S16 32) a x).toNat < S320x128.size a) ∧
  (∀ (k0_h2 : k0_cond2 v14 k0_t6 = 1#1), ∀ a x, ((![v99, v151] : Fin 2 → IVec S16 32) a x).toNat < S320x128.size a) ∧
  (∀ (k0_h2 : k0_cond2 v14 k0_t6 = 1#1), ∀ a x, ((![v99, v151] : Fin 2 → IVec S16 32) a x).toNat < S320x128.size a)
theorem k0_idx97_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v100, v151] : Fin 2 → IVec S16 32) a x).toNat < S16x128.size a := fun v14 k0_t6 v99 v100 v151 k0_hw22 k0_h2 => k0_hw22.1 k0_h2
theorem k0_idx98_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v99, v151] : Fin 2 → IVec S16 32) a x).toNat < S320x128.size a := fun v14 k0_t6 v99 v100 v151 k0_hw22 k0_h2 => k0_hw22.2.1 k0_h2
theorem k0_idx99_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v99, v151] : Fin 2 → IVec S16 32) a x).toNat < S320x128.size a := fun v14 k0_t6 v99 v100 v151 k0_hw22 k0_h2 => k0_hw22.2.2.1 k0_h2
theorem k0_idx100_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v99, v151] : Fin 2 → IVec S16 32) a x).toNat < S320x128.size a := fun v14 k0_t6 v99 v100 v151 k0_hw22 k0_h2 => k0_hw22.2.2.2.1 k0_h2
theorem k0_idx101_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v99, v151] : Fin 2 → IVec S16 32) a x).toNat < S320x128.size a := fun v14 k0_t6 v99 v100 v151 k0_hw22 k0_h2 => k0_hw22.2.2.2.2.1 k0_h2
theorem k0_idx102_inb : ∀ (v14 : BitVec 32) (k0_t6 : Fin (k0_t6_loop v14).trips) (v99 : IVec S16 32) (v100 : IVec S16 32) (v151 : IVec S16 32) (k0_hw22 : k0_chk22 v14 k0_t6 v99 v100 v151), ∀ (k0_h2 : k0_cond2 v14 k0_t6 = 1#1), ∀ a x, ((![v99, v151] : Fin 2 → IVec S16 32) a x).toNat < S320x128.size a := fun v14 k0_t6 v99 v100 v151 k0_hw22 k0_h2 => k0_hw22.2.2.2.2.2 k0_h2

def k0_chk23 (v14 : BitVec 32) (k0_t6 : Fin (k0_t6_loop v14).trips) (v99 : IVec S16 32) : Prop :=
  (∀ (k0_h2 : k0_cond2 v14 k0_t6 = 1#1), ∀ a x, ((![v99] : Fin 1 → IVec S16 32) a x).toNat < S320.size a)
theorem k0_idx103_inb : ∀ (v14 : BitVec 32) (k0_t6 : Fin (k0_t6_loop v14).trips) (v99 : IVec S16 32) (k0_hw23 : k0_chk23 v14 k0_t6 v99), ∀ (k0_h2 : k0_cond2 v14 k0_t6 = 1#1), ∀ a x, ((![v99] : Fin 1 → IVec S16 32) a x).toNat < S320.size a := fun v14 k0_t6 v99 k0_hw23 k0_h2 => k0_hw23 k0_h2
def k0_cond3 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c2_i32_44 : BitVec 32 := 2#32
  let v55 : BitVec 1 := Scalar.cmpi .sgt v45 c2_i32_44
  let v56 : BitVec 32 := Scalar.extui v55
  let c0_i32_45 : BitVec 32 := 0#32
  let v57 : BitVec 1 := Scalar.cmpi .ne v56 c0_i32_45
  v57

def k0_chk24 (v14 : BitVec 32) (k0_t6 : Fin (k0_t6_loop v14).trips) (v98 : IVec S16 32) : Prop :=
  (∀ (k0_h3 : k0_cond3 v14 k0_t6 = 1#1), ∀ a x, ((![v98] : Fin 1 → IVec S16 32) a x).toNat < S528.size a)
theorem k0_idx104_inb : ∀ (v14 : BitVec 32) (k0_t6 : Fin (k0_t6_loop v14).trips) (v98 : IVec S16 32) (k0_hw24 : k0_chk24 v14 k0_t6 v98), ∀ (k0_h3 : k0_cond3 v14 k0_t6 = 1#1), ∀ a x, ((![v98] : Fin 1 → IVec S16 32) a x).toNat < S528.size a := fun v14 k0_t6 v98 k0_hw24 k0_h3 => k0_hw24 k0_h3

def k0_chk25 (v14 : BitVec 32) (k0_t6 : Fin (k0_t6_loop v14).trips) (v99 : IVec S16 32) (v100 : IVec S16 32) (v102 : IVec S16 32) : Prop :=
  (∀ (k0_h3 : k0_cond3 v14 k0_t6 = 1#1), ∀ a x, ((![v100, v102] : Fin 2 → IVec S16 32) a x).toNat < S16x128.size a) ∧
  (∀ (k0_h3 : k0_cond3 v14 k0_t6 = 1#1), ∀ a x, ((![v99, v102] : Fin 2 → IVec S16 32) a x).toNat < S320x128.size a) ∧
  (∀ (k0_h3 : k0_cond3 v14 k0_t6 = 1#1), ∀ a x, ((![v99, v102] : Fin 2 → IVec S16 32) a x).toNat < S320x128.size a) ∧
  (∀ (k0_h3 : k0_cond3 v14 k0_t6 = 1#1), ∀ a x, ((![v99, v102] : Fin 2 → IVec S16 32) a x).toNat < S320x128.size a) ∧
  (∀ (k0_h3 : k0_cond3 v14 k0_t6 = 1#1), ∀ a x, ((![v99, v102] : Fin 2 → IVec S16 32) a x).toNat < S320x128.size a) ∧
  (∀ (k0_h3 : k0_cond3 v14 k0_t6 = 1#1), ∀ a x, ((![v99, v102] : Fin 2 → IVec S16 32) a x).toNat < S320x128.size a)
theorem k0_idx105_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v100, v102] : Fin 2 → IVec S16 32) a x).toNat < S16x128.size a := fun v14 k0_t6 v99 v100 v102 k0_hw25 k0_h3 => k0_hw25.1 k0_h3
theorem k0_idx106_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v99, v102] : Fin 2 → IVec S16 32) a x).toNat < S320x128.size a := fun v14 k0_t6 v99 v100 v102 k0_hw25 k0_h3 => k0_hw25.2.1 k0_h3
theorem k0_idx107_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v99, v102] : Fin 2 → IVec S16 32) a x).toNat < S320x128.size a := fun v14 k0_t6 v99 v100 v102 k0_hw25 k0_h3 => k0_hw25.2.2.1 k0_h3
theorem k0_idx108_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v99, v102] : Fin 2 → IVec S16 32) a x).toNat < S320x128.size a := fun v14 k0_t6 v99 v100 v102 k0_hw25 k0_h3 => k0_hw25.2.2.2.1 k0_h3
theorem k0_idx109_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v99, v102] : Fin 2 → IVec S16 32) a x).toNat < S320x128.size a := fun v14 k0_t6 v99 v100 v102 k0_hw25 k0_h3 => k0_hw25.2.2.2.2.1 k0_h3
theorem k0_idx110_inb : ∀ (v14 : BitVec 32) (k0_t6 : Fin (k0_t6_loop v14).trips) (v99 : IVec S16 32) (v100 : IVec S16 32) (v102 : IVec S16 32) (k0_hw25 : k0_chk25 v14 k0_t6 v99 v100 v102), ∀ (k0_h3 : k0_cond3 v14 k0_t6 = 1#1), ∀ a x, ((![v99, v102] : Fin 2 → IVec S16 32) a x).toNat < S320x128.size a := fun v14 k0_t6 v99 v100 v102 k0_hw25 k0_h3 => k0_hw25.2.2.2.2.2 k0_h3

def k0_chk26 (v14 : BitVec 32) (k0_t6 : Fin (k0_t6_loop v14).trips) (v99 : IVec S16 32) (v100 : IVec S16 32) (v109 : IVec S16 32) : Prop :=
  (∀ (k0_h3 : k0_cond3 v14 k0_t6 = 1#1), ∀ a x, ((![v100, v109] : Fin 2 → IVec S16 32) a x).toNat < S16x128.size a) ∧
  (∀ (k0_h3 : k0_cond3 v14 k0_t6 = 1#1), ∀ a x, ((![v99, v109] : Fin 2 → IVec S16 32) a x).toNat < S320x128.size a) ∧
  (∀ (k0_h3 : k0_cond3 v14 k0_t6 = 1#1), ∀ a x, ((![v99, v109] : Fin 2 → IVec S16 32) a x).toNat < S320x128.size a) ∧
  (∀ (k0_h3 : k0_cond3 v14 k0_t6 = 1#1), ∀ a x, ((![v99, v109] : Fin 2 → IVec S16 32) a x).toNat < S320x128.size a) ∧
  (∀ (k0_h3 : k0_cond3 v14 k0_t6 = 1#1), ∀ a x, ((![v99, v109] : Fin 2 → IVec S16 32) a x).toNat < S320x128.size a) ∧
  (∀ (k0_h3 : k0_cond3 v14 k0_t6 = 1#1), ∀ a x, ((![v99, v109] : Fin 2 → IVec S16 32) a x).toNat < S320x128.size a)
theorem k0_idx111_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v100, v109] : Fin 2 → IVec S16 32) a x).toNat < S16x128.size a := fun v14 k0_t6 v99 v100 v109 k0_hw26 k0_h3 => k0_hw26.1 k0_h3
theorem k0_idx112_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v99, v109] : Fin 2 → IVec S16 32) a x).toNat < S320x128.size a := fun v14 k0_t6 v99 v100 v109 k0_hw26 k0_h3 => k0_hw26.2.1 k0_h3
theorem k0_idx113_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v99, v109] : Fin 2 → IVec S16 32) a x).toNat < S320x128.size a := fun v14 k0_t6 v99 v100 v109 k0_hw26 k0_h3 => k0_hw26.2.2.1 k0_h3
theorem k0_idx114_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v99, v109] : Fin 2 → IVec S16 32) a x).toNat < S320x128.size a := fun v14 k0_t6 v99 v100 v109 k0_hw26 k0_h3 => k0_hw26.2.2.2.1 k0_h3
theorem k0_idx115_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v99, v109] : Fin 2 → IVec S16 32) a x).toNat < S320x128.size a := fun v14 k0_t6 v99 v100 v109 k0_hw26 k0_h3 => k0_hw26.2.2.2.2.1 k0_h3
theorem k0_idx116_inb : ∀ (v14 : BitVec 32) (k0_t6 : Fin (k0_t6_loop v14).trips) (v99 : IVec S16 32) (v100 : IVec S16 32) (v109 : IVec S16 32) (k0_hw26 : k0_chk26 v14 k0_t6 v99 v100 v109), ∀ (k0_h3 : k0_cond3 v14 k0_t6 = 1#1), ∀ a x, ((![v99, v109] : Fin 2 → IVec S16 32) a x).toNat < S320x128.size a := fun v14 k0_t6 v99 v100 v109 k0_hw26 k0_h3 => k0_hw26.2.2.2.2.2 k0_h3

def k0_chk27 (v14 : BitVec 32) (k0_t6 : Fin (k0_t6_loop v14).trips) (v99 : IVec S16 32) (v100 : IVec S16 32) (v116 : IVec S16 32) : Prop :=
  (∀ (k0_h3 : k0_cond3 v14 k0_t6 = 1#1), ∀ a x, ((![v100, v116] : Fin 2 → IVec S16 32) a x).toNat < S16x128.size a) ∧
  (∀ (k0_h3 : k0_cond3 v14 k0_t6 = 1#1), ∀ a x, ((![v99, v116] : Fin 2 → IVec S16 32) a x).toNat < S320x128.size a) ∧
  (∀ (k0_h3 : k0_cond3 v14 k0_t6 = 1#1), ∀ a x, ((![v99, v116] : Fin 2 → IVec S16 32) a x).toNat < S320x128.size a) ∧
  (∀ (k0_h3 : k0_cond3 v14 k0_t6 = 1#1), ∀ a x, ((![v99, v116] : Fin 2 → IVec S16 32) a x).toNat < S320x128.size a) ∧
  (∀ (k0_h3 : k0_cond3 v14 k0_t6 = 1#1), ∀ a x, ((![v99, v116] : Fin 2 → IVec S16 32) a x).toNat < S320x128.size a) ∧
  (∀ (k0_h3 : k0_cond3 v14 k0_t6 = 1#1), ∀ a x, ((![v99, v116] : Fin 2 → IVec S16 32) a x).toNat < S320x128.size a)
theorem k0_idx117_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v100, v116] : Fin 2 → IVec S16 32) a x).toNat < S16x128.size a := fun v14 k0_t6 v99 v100 v116 k0_hw27 k0_h3 => k0_hw27.1 k0_h3
theorem k0_idx118_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v99, v116] : Fin 2 → IVec S16 32) a x).toNat < S320x128.size a := fun v14 k0_t6 v99 v100 v116 k0_hw27 k0_h3 => k0_hw27.2.1 k0_h3
theorem k0_idx119_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v99, v116] : Fin 2 → IVec S16 32) a x).toNat < S320x128.size a := fun v14 k0_t6 v99 v100 v116 k0_hw27 k0_h3 => k0_hw27.2.2.1 k0_h3
theorem k0_idx120_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v99, v116] : Fin 2 → IVec S16 32) a x).toNat < S320x128.size a := fun v14 k0_t6 v99 v100 v116 k0_hw27 k0_h3 => k0_hw27.2.2.2.1 k0_h3
theorem k0_idx121_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v99, v116] : Fin 2 → IVec S16 32) a x).toNat < S320x128.size a := fun v14 k0_t6 v99 v100 v116 k0_hw27 k0_h3 => k0_hw27.2.2.2.2.1 k0_h3
theorem k0_idx122_inb : ∀ (v14 : BitVec 32) (k0_t6 : Fin (k0_t6_loop v14).trips) (v99 : IVec S16 32) (v100 : IVec S16 32) (v116 : IVec S16 32) (k0_hw27 : k0_chk27 v14 k0_t6 v99 v100 v116), ∀ (k0_h3 : k0_cond3 v14 k0_t6 = 1#1), ∀ a x, ((![v99, v116] : Fin 2 → IVec S16 32) a x).toNat < S320x128.size a := fun v14 k0_t6 v99 v100 v116 k0_hw27 k0_h3 => k0_hw27.2.2.2.2.2 k0_h3

def k0_chk28 (v14 : BitVec 32) (k0_t6 : Fin (k0_t6_loop v14).trips) (v99 : IVec S16 32) (v100 : IVec S16 32) (v123 : IVec S16 32) : Prop :=
  (∀ (k0_h3 : k0_cond3 v14 k0_t6 = 1#1), ∀ a x, ((![v100, v123] : Fin 2 → IVec S16 32) a x).toNat < S16x128.size a) ∧
  (∀ (k0_h3 : k0_cond3 v14 k0_t6 = 1#1), ∀ a x, ((![v99, v123] : Fin 2 → IVec S16 32) a x).toNat < S320x128.size a) ∧
  (∀ (k0_h3 : k0_cond3 v14 k0_t6 = 1#1), ∀ a x, ((![v99, v123] : Fin 2 → IVec S16 32) a x).toNat < S320x128.size a) ∧
  (∀ (k0_h3 : k0_cond3 v14 k0_t6 = 1#1), ∀ a x, ((![v99, v123] : Fin 2 → IVec S16 32) a x).toNat < S320x128.size a) ∧
  (∀ (k0_h3 : k0_cond3 v14 k0_t6 = 1#1), ∀ a x, ((![v99, v123] : Fin 2 → IVec S16 32) a x).toNat < S320x128.size a) ∧
  (∀ (k0_h3 : k0_cond3 v14 k0_t6 = 1#1), ∀ a x, ((![v99, v123] : Fin 2 → IVec S16 32) a x).toNat < S320x128.size a)
theorem k0_idx123_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v100, v123] : Fin 2 → IVec S16 32) a x).toNat < S16x128.size a := fun v14 k0_t6 v99 v100 v123 k0_hw28 k0_h3 => k0_hw28.1 k0_h3
theorem k0_idx124_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v99, v123] : Fin 2 → IVec S16 32) a x).toNat < S320x128.size a := fun v14 k0_t6 v99 v100 v123 k0_hw28 k0_h3 => k0_hw28.2.1 k0_h3
theorem k0_idx125_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v99, v123] : Fin 2 → IVec S16 32) a x).toNat < S320x128.size a := fun v14 k0_t6 v99 v100 v123 k0_hw28 k0_h3 => k0_hw28.2.2.1 k0_h3
theorem k0_idx126_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v99, v123] : Fin 2 → IVec S16 32) a x).toNat < S320x128.size a := fun v14 k0_t6 v99 v100 v123 k0_hw28 k0_h3 => k0_hw28.2.2.2.1 k0_h3
theorem k0_idx127_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v99, v123] : Fin 2 → IVec S16 32) a x).toNat < S320x128.size a := fun v14 k0_t6 v99 v100 v123 k0_hw28 k0_h3 => k0_hw28.2.2.2.2.1 k0_h3
theorem k0_idx128_inb : ∀ (v14 : BitVec 32) (k0_t6 : Fin (k0_t6_loop v14).trips) (v99 : IVec S16 32) (v100 : IVec S16 32) (v123 : IVec S16 32) (k0_hw28 : k0_chk28 v14 k0_t6 v99 v100 v123), ∀ (k0_h3 : k0_cond3 v14 k0_t6 = 1#1), ∀ a x, ((![v99, v123] : Fin 2 → IVec S16 32) a x).toNat < S320x128.size a := fun v14 k0_t6 v99 v100 v123 k0_hw28 k0_h3 => k0_hw28.2.2.2.2.2 k0_h3

def k0_chk29 (v14 : BitVec 32) (k0_t6 : Fin (k0_t6_loop v14).trips) (v99 : IVec S16 32) (v100 : IVec S16 32) (v130 : IVec S16 32) : Prop :=
  (∀ (k0_h3 : k0_cond3 v14 k0_t6 = 1#1), ∀ a x, ((![v100, v130] : Fin 2 → IVec S16 32) a x).toNat < S16x128.size a) ∧
  (∀ (k0_h3 : k0_cond3 v14 k0_t6 = 1#1), ∀ a x, ((![v99, v130] : Fin 2 → IVec S16 32) a x).toNat < S320x128.size a) ∧
  (∀ (k0_h3 : k0_cond3 v14 k0_t6 = 1#1), ∀ a x, ((![v99, v130] : Fin 2 → IVec S16 32) a x).toNat < S320x128.size a) ∧
  (∀ (k0_h3 : k0_cond3 v14 k0_t6 = 1#1), ∀ a x, ((![v99, v130] : Fin 2 → IVec S16 32) a x).toNat < S320x128.size a) ∧
  (∀ (k0_h3 : k0_cond3 v14 k0_t6 = 1#1), ∀ a x, ((![v99, v130] : Fin 2 → IVec S16 32) a x).toNat < S320x128.size a) ∧
  (∀ (k0_h3 : k0_cond3 v14 k0_t6 = 1#1), ∀ a x, ((![v99, v130] : Fin 2 → IVec S16 32) a x).toNat < S320x128.size a)
theorem k0_idx129_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v100, v130] : Fin 2 → IVec S16 32) a x).toNat < S16x128.size a := fun v14 k0_t6 v99 v100 v130 k0_hw29 k0_h3 => k0_hw29.1 k0_h3
theorem k0_idx130_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v99, v130] : Fin 2 → IVec S16 32) a x).toNat < S320x128.size a := fun v14 k0_t6 v99 v100 v130 k0_hw29 k0_h3 => k0_hw29.2.1 k0_h3
theorem k0_idx131_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v99, v130] : Fin 2 → IVec S16 32) a x).toNat < S320x128.size a := fun v14 k0_t6 v99 v100 v130 k0_hw29 k0_h3 => k0_hw29.2.2.1 k0_h3
theorem k0_idx132_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v99, v130] : Fin 2 → IVec S16 32) a x).toNat < S320x128.size a := fun v14 k0_t6 v99 v100 v130 k0_hw29 k0_h3 => k0_hw29.2.2.2.1 k0_h3
theorem k0_idx133_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v99, v130] : Fin 2 → IVec S16 32) a x).toNat < S320x128.size a := fun v14 k0_t6 v99 v100 v130 k0_hw29 k0_h3 => k0_hw29.2.2.2.2.1 k0_h3
theorem k0_idx134_inb : ∀ (v14 : BitVec 32) (k0_t6 : Fin (k0_t6_loop v14).trips) (v99 : IVec S16 32) (v100 : IVec S16 32) (v130 : IVec S16 32) (k0_hw29 : k0_chk29 v14 k0_t6 v99 v100 v130), ∀ (k0_h3 : k0_cond3 v14 k0_t6 = 1#1), ∀ a x, ((![v99, v130] : Fin 2 → IVec S16 32) a x).toNat < S320x128.size a := fun v14 k0_t6 v99 v100 v130 k0_hw29 k0_h3 => k0_hw29.2.2.2.2.2 k0_h3

def k0_chk30 (v14 : BitVec 32) (k0_t6 : Fin (k0_t6_loop v14).trips) (v99 : IVec S16 32) (v100 : IVec S16 32) (v137 : IVec S16 32) : Prop :=
  (∀ (k0_h3 : k0_cond3 v14 k0_t6 = 1#1), ∀ a x, ((![v100, v137] : Fin 2 → IVec S16 32) a x).toNat < S16x128.size a) ∧
  (∀ (k0_h3 : k0_cond3 v14 k0_t6 = 1#1), ∀ a x, ((![v99, v137] : Fin 2 → IVec S16 32) a x).toNat < S320x128.size a) ∧
  (∀ (k0_h3 : k0_cond3 v14 k0_t6 = 1#1), ∀ a x, ((![v99, v137] : Fin 2 → IVec S16 32) a x).toNat < S320x128.size a) ∧
  (∀ (k0_h3 : k0_cond3 v14 k0_t6 = 1#1), ∀ a x, ((![v99, v137] : Fin 2 → IVec S16 32) a x).toNat < S320x128.size a) ∧
  (∀ (k0_h3 : k0_cond3 v14 k0_t6 = 1#1), ∀ a x, ((![v99, v137] : Fin 2 → IVec S16 32) a x).toNat < S320x128.size a) ∧
  (∀ (k0_h3 : k0_cond3 v14 k0_t6 = 1#1), ∀ a x, ((![v99, v137] : Fin 2 → IVec S16 32) a x).toNat < S320x128.size a)
theorem k0_idx135_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v100, v137] : Fin 2 → IVec S16 32) a x).toNat < S16x128.size a := fun v14 k0_t6 v99 v100 v137 k0_hw30 k0_h3 => k0_hw30.1 k0_h3
theorem k0_idx136_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v99, v137] : Fin 2 → IVec S16 32) a x).toNat < S320x128.size a := fun v14 k0_t6 v99 v100 v137 k0_hw30 k0_h3 => k0_hw30.2.1 k0_h3
theorem k0_idx137_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v99, v137] : Fin 2 → IVec S16 32) a x).toNat < S320x128.size a := fun v14 k0_t6 v99 v100 v137 k0_hw30 k0_h3 => k0_hw30.2.2.1 k0_h3
theorem k0_idx138_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v99, v137] : Fin 2 → IVec S16 32) a x).toNat < S320x128.size a := fun v14 k0_t6 v99 v100 v137 k0_hw30 k0_h3 => k0_hw30.2.2.2.1 k0_h3
theorem k0_idx139_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v99, v137] : Fin 2 → IVec S16 32) a x).toNat < S320x128.size a := fun v14 k0_t6 v99 v100 v137 k0_hw30 k0_h3 => k0_hw30.2.2.2.2.1 k0_h3
theorem k0_idx140_inb : ∀ (v14 : BitVec 32) (k0_t6 : Fin (k0_t6_loop v14).trips) (v99 : IVec S16 32) (v100 : IVec S16 32) (v137 : IVec S16 32) (k0_hw30 : k0_chk30 v14 k0_t6 v99 v100 v137), ∀ (k0_h3 : k0_cond3 v14 k0_t6 = 1#1), ∀ a x, ((![v99, v137] : Fin 2 → IVec S16 32) a x).toNat < S320x128.size a := fun v14 k0_t6 v99 v100 v137 k0_hw30 k0_h3 => k0_hw30.2.2.2.2.2 k0_h3

def k0_chk31 (v14 : BitVec 32) (k0_t6 : Fin (k0_t6_loop v14).trips) (v99 : IVec S16 32) (v100 : IVec S16 32) (v144 : IVec S16 32) : Prop :=
  (∀ (k0_h3 : k0_cond3 v14 k0_t6 = 1#1), ∀ a x, ((![v100, v144] : Fin 2 → IVec S16 32) a x).toNat < S16x128.size a) ∧
  (∀ (k0_h3 : k0_cond3 v14 k0_t6 = 1#1), ∀ a x, ((![v99, v144] : Fin 2 → IVec S16 32) a x).toNat < S320x128.size a) ∧
  (∀ (k0_h3 : k0_cond3 v14 k0_t6 = 1#1), ∀ a x, ((![v99, v144] : Fin 2 → IVec S16 32) a x).toNat < S320x128.size a) ∧
  (∀ (k0_h3 : k0_cond3 v14 k0_t6 = 1#1), ∀ a x, ((![v99, v144] : Fin 2 → IVec S16 32) a x).toNat < S320x128.size a) ∧
  (∀ (k0_h3 : k0_cond3 v14 k0_t6 = 1#1), ∀ a x, ((![v99, v144] : Fin 2 → IVec S16 32) a x).toNat < S320x128.size a) ∧
  (∀ (k0_h3 : k0_cond3 v14 k0_t6 = 1#1), ∀ a x, ((![v99, v144] : Fin 2 → IVec S16 32) a x).toNat < S320x128.size a)
theorem k0_idx141_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v100, v144] : Fin 2 → IVec S16 32) a x).toNat < S16x128.size a := fun v14 k0_t6 v99 v100 v144 k0_hw31 k0_h3 => k0_hw31.1 k0_h3
theorem k0_idx142_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v99, v144] : Fin 2 → IVec S16 32) a x).toNat < S320x128.size a := fun v14 k0_t6 v99 v100 v144 k0_hw31 k0_h3 => k0_hw31.2.1 k0_h3
theorem k0_idx143_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v99, v144] : Fin 2 → IVec S16 32) a x).toNat < S320x128.size a := fun v14 k0_t6 v99 v100 v144 k0_hw31 k0_h3 => k0_hw31.2.2.1 k0_h3
theorem k0_idx144_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v99, v144] : Fin 2 → IVec S16 32) a x).toNat < S320x128.size a := fun v14 k0_t6 v99 v100 v144 k0_hw31 k0_h3 => k0_hw31.2.2.2.1 k0_h3
theorem k0_idx145_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v99, v144] : Fin 2 → IVec S16 32) a x).toNat < S320x128.size a := fun v14 k0_t6 v99 v100 v144 k0_hw31 k0_h3 => k0_hw31.2.2.2.2.1 k0_h3
theorem k0_idx146_inb : ∀ (v14 : BitVec 32) (k0_t6 : Fin (k0_t6_loop v14).trips) (v99 : IVec S16 32) (v100 : IVec S16 32) (v144 : IVec S16 32) (k0_hw31 : k0_chk31 v14 k0_t6 v99 v100 v144), ∀ (k0_h3 : k0_cond3 v14 k0_t6 = 1#1), ∀ a x, ((![v99, v144] : Fin 2 → IVec S16 32) a x).toNat < S320x128.size a := fun v14 k0_t6 v99 v100 v144 k0_hw31 k0_h3 => k0_hw31.2.2.2.2.2 k0_h3

def k0_chk32 (v14 : BitVec 32) (k0_t6 : Fin (k0_t6_loop v14).trips) (v99 : IVec S16 32) (v100 : IVec S16 32) (v151 : IVec S16 32) : Prop :=
  (∀ (k0_h3 : k0_cond3 v14 k0_t6 = 1#1), ∀ a x, ((![v100, v151] : Fin 2 → IVec S16 32) a x).toNat < S16x128.size a) ∧
  (∀ (k0_h3 : k0_cond3 v14 k0_t6 = 1#1), ∀ a x, ((![v99, v151] : Fin 2 → IVec S16 32) a x).toNat < S320x128.size a) ∧
  (∀ (k0_h3 : k0_cond3 v14 k0_t6 = 1#1), ∀ a x, ((![v99, v151] : Fin 2 → IVec S16 32) a x).toNat < S320x128.size a) ∧
  (∀ (k0_h3 : k0_cond3 v14 k0_t6 = 1#1), ∀ a x, ((![v99, v151] : Fin 2 → IVec S16 32) a x).toNat < S320x128.size a) ∧
  (∀ (k0_h3 : k0_cond3 v14 k0_t6 = 1#1), ∀ a x, ((![v99, v151] : Fin 2 → IVec S16 32) a x).toNat < S320x128.size a) ∧
  (∀ (k0_h3 : k0_cond3 v14 k0_t6 = 1#1), ∀ a x, ((![v99, v151] : Fin 2 → IVec S16 32) a x).toNat < S320x128.size a)
theorem k0_idx147_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v100, v151] : Fin 2 → IVec S16 32) a x).toNat < S16x128.size a := fun v14 k0_t6 v99 v100 v151 k0_hw32 k0_h3 => k0_hw32.1 k0_h3
theorem k0_idx148_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v99, v151] : Fin 2 → IVec S16 32) a x).toNat < S320x128.size a := fun v14 k0_t6 v99 v100 v151 k0_hw32 k0_h3 => k0_hw32.2.1 k0_h3
theorem k0_idx149_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v99, v151] : Fin 2 → IVec S16 32) a x).toNat < S320x128.size a := fun v14 k0_t6 v99 v100 v151 k0_hw32 k0_h3 => k0_hw32.2.2.1 k0_h3
theorem k0_idx150_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v99, v151] : Fin 2 → IVec S16 32) a x).toNat < S320x128.size a := fun v14 k0_t6 v99 v100 v151 k0_hw32 k0_h3 => k0_hw32.2.2.2.1 k0_h3
theorem k0_idx151_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v99, v151] : Fin 2 → IVec S16 32) a x).toNat < S320x128.size a := fun v14 k0_t6 v99 v100 v151 k0_hw32 k0_h3 => k0_hw32.2.2.2.2.1 k0_h3
theorem k0_idx152_inb : ∀ (v14 : BitVec 32) (k0_t6 : Fin (k0_t6_loop v14).trips) (v99 : IVec S16 32) (v100 : IVec S16 32) (v151 : IVec S16 32) (k0_hw32 : k0_chk32 v14 k0_t6 v99 v100 v151), ∀ (k0_h3 : k0_cond3 v14 k0_t6 = 1#1), ∀ a x, ((![v99, v151] : Fin 2 → IVec S16 32) a x).toNat < S320x128.size a := fun v14 k0_t6 v99 v100 v151 k0_hw32 k0_h3 => k0_hw32.2.2.2.2.2 k0_h3

def k0_chk33 (v14 : BitVec 32) (k0_t6 : Fin (k0_t6_loop v14).trips) (v99 : IVec S16 32) : Prop :=
  (∀ (k0_h3 : k0_cond3 v14 k0_t6 = 1#1), ∀ a x, ((![v99] : Fin 1 → IVec S16 32) a x).toNat < S320.size a)
theorem k0_idx153_inb : ∀ (v14 : BitVec 32) (k0_t6 : Fin (k0_t6_loop v14).trips) (v99 : IVec S16 32) (k0_hw33 : k0_chk33 v14 k0_t6 v99), ∀ (k0_h3 : k0_cond3 v14 k0_t6 = 1#1), ∀ a x, ((![v99] : Fin 1 → IVec S16 32) a x).toNat < S320.size a := fun v14 k0_t6 v99 k0_hw33 k0_h3 => k0_hw33 k0_h3
def k0_cond4 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c3_i32 : BitVec 32 := 3#32
  let v58 : BitVec 1 := Scalar.cmpi .sgt v45 c3_i32
  let v59 : BitVec 32 := Scalar.extui v58
  let c0_i32_46 : BitVec 32 := 0#32
  let v60 : BitVec 1 := Scalar.cmpi .ne v59 c0_i32_46
  v60

def k0_chk34 (v14 : BitVec 32) (k0_t6 : Fin (k0_t6_loop v14).trips) (v98 : IVec S16 32) : Prop :=
  (∀ (k0_h4 : k0_cond4 v14 k0_t6 = 1#1), ∀ a x, ((![v98] : Fin 1 → IVec S16 32) a x).toNat < S528.size a)
theorem k0_idx154_inb : ∀ (v14 : BitVec 32) (k0_t6 : Fin (k0_t6_loop v14).trips) (v98 : IVec S16 32) (k0_hw34 : k0_chk34 v14 k0_t6 v98), ∀ (k0_h4 : k0_cond4 v14 k0_t6 = 1#1), ∀ a x, ((![v98] : Fin 1 → IVec S16 32) a x).toNat < S528.size a := fun v14 k0_t6 v98 k0_hw34 k0_h4 => k0_hw34 k0_h4

def k0_chk35 (v14 : BitVec 32) (k0_t6 : Fin (k0_t6_loop v14).trips) (v99 : IVec S16 32) (v100 : IVec S16 32) (v102 : IVec S16 32) : Prop :=
  (∀ (k0_h4 : k0_cond4 v14 k0_t6 = 1#1), ∀ a x, ((![v100, v102] : Fin 2 → IVec S16 32) a x).toNat < S16x128.size a) ∧
  (∀ (k0_h4 : k0_cond4 v14 k0_t6 = 1#1), ∀ a x, ((![v99, v102] : Fin 2 → IVec S16 32) a x).toNat < S320x128.size a) ∧
  (∀ (k0_h4 : k0_cond4 v14 k0_t6 = 1#1), ∀ a x, ((![v99, v102] : Fin 2 → IVec S16 32) a x).toNat < S320x128.size a) ∧
  (∀ (k0_h4 : k0_cond4 v14 k0_t6 = 1#1), ∀ a x, ((![v99, v102] : Fin 2 → IVec S16 32) a x).toNat < S320x128.size a) ∧
  (∀ (k0_h4 : k0_cond4 v14 k0_t6 = 1#1), ∀ a x, ((![v99, v102] : Fin 2 → IVec S16 32) a x).toNat < S320x128.size a) ∧
  (∀ (k0_h4 : k0_cond4 v14 k0_t6 = 1#1), ∀ a x, ((![v99, v102] : Fin 2 → IVec S16 32) a x).toNat < S320x128.size a)
theorem k0_idx155_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v100, v102] : Fin 2 → IVec S16 32) a x).toNat < S16x128.size a := fun v14 k0_t6 v99 v100 v102 k0_hw35 k0_h4 => k0_hw35.1 k0_h4
theorem k0_idx156_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v99, v102] : Fin 2 → IVec S16 32) a x).toNat < S320x128.size a := fun v14 k0_t6 v99 v100 v102 k0_hw35 k0_h4 => k0_hw35.2.1 k0_h4
theorem k0_idx157_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v99, v102] : Fin 2 → IVec S16 32) a x).toNat < S320x128.size a := fun v14 k0_t6 v99 v100 v102 k0_hw35 k0_h4 => k0_hw35.2.2.1 k0_h4
theorem k0_idx158_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v99, v102] : Fin 2 → IVec S16 32) a x).toNat < S320x128.size a := fun v14 k0_t6 v99 v100 v102 k0_hw35 k0_h4 => k0_hw35.2.2.2.1 k0_h4
theorem k0_idx159_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v99, v102] : Fin 2 → IVec S16 32) a x).toNat < S320x128.size a := fun v14 k0_t6 v99 v100 v102 k0_hw35 k0_h4 => k0_hw35.2.2.2.2.1 k0_h4
theorem k0_idx160_inb : ∀ (v14 : BitVec 32) (k0_t6 : Fin (k0_t6_loop v14).trips) (v99 : IVec S16 32) (v100 : IVec S16 32) (v102 : IVec S16 32) (k0_hw35 : k0_chk35 v14 k0_t6 v99 v100 v102), ∀ (k0_h4 : k0_cond4 v14 k0_t6 = 1#1), ∀ a x, ((![v99, v102] : Fin 2 → IVec S16 32) a x).toNat < S320x128.size a := fun v14 k0_t6 v99 v100 v102 k0_hw35 k0_h4 => k0_hw35.2.2.2.2.2 k0_h4

def k0_chk36 (v14 : BitVec 32) (k0_t6 : Fin (k0_t6_loop v14).trips) (v99 : IVec S16 32) (v100 : IVec S16 32) (v109 : IVec S16 32) : Prop :=
  (∀ (k0_h4 : k0_cond4 v14 k0_t6 = 1#1), ∀ a x, ((![v100, v109] : Fin 2 → IVec S16 32) a x).toNat < S16x128.size a) ∧
  (∀ (k0_h4 : k0_cond4 v14 k0_t6 = 1#1), ∀ a x, ((![v99, v109] : Fin 2 → IVec S16 32) a x).toNat < S320x128.size a) ∧
  (∀ (k0_h4 : k0_cond4 v14 k0_t6 = 1#1), ∀ a x, ((![v99, v109] : Fin 2 → IVec S16 32) a x).toNat < S320x128.size a) ∧
  (∀ (k0_h4 : k0_cond4 v14 k0_t6 = 1#1), ∀ a x, ((![v99, v109] : Fin 2 → IVec S16 32) a x).toNat < S320x128.size a) ∧
  (∀ (k0_h4 : k0_cond4 v14 k0_t6 = 1#1), ∀ a x, ((![v99, v109] : Fin 2 → IVec S16 32) a x).toNat < S320x128.size a) ∧
  (∀ (k0_h4 : k0_cond4 v14 k0_t6 = 1#1), ∀ a x, ((![v99, v109] : Fin 2 → IVec S16 32) a x).toNat < S320x128.size a)
theorem k0_idx161_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v100, v109] : Fin 2 → IVec S16 32) a x).toNat < S16x128.size a := fun v14 k0_t6 v99 v100 v109 k0_hw36 k0_h4 => k0_hw36.1 k0_h4
theorem k0_idx162_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v99, v109] : Fin 2 → IVec S16 32) a x).toNat < S320x128.size a := fun v14 k0_t6 v99 v100 v109 k0_hw36 k0_h4 => k0_hw36.2.1 k0_h4
theorem k0_idx163_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v99, v109] : Fin 2 → IVec S16 32) a x).toNat < S320x128.size a := fun v14 k0_t6 v99 v100 v109 k0_hw36 k0_h4 => k0_hw36.2.2.1 k0_h4
theorem k0_idx164_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v99, v109] : Fin 2 → IVec S16 32) a x).toNat < S320x128.size a := fun v14 k0_t6 v99 v100 v109 k0_hw36 k0_h4 => k0_hw36.2.2.2.1 k0_h4
theorem k0_idx165_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v99, v109] : Fin 2 → IVec S16 32) a x).toNat < S320x128.size a := fun v14 k0_t6 v99 v100 v109 k0_hw36 k0_h4 => k0_hw36.2.2.2.2.1 k0_h4
theorem k0_idx166_inb : ∀ (v14 : BitVec 32) (k0_t6 : Fin (k0_t6_loop v14).trips) (v99 : IVec S16 32) (v100 : IVec S16 32) (v109 : IVec S16 32) (k0_hw36 : k0_chk36 v14 k0_t6 v99 v100 v109), ∀ (k0_h4 : k0_cond4 v14 k0_t6 = 1#1), ∀ a x, ((![v99, v109] : Fin 2 → IVec S16 32) a x).toNat < S320x128.size a := fun v14 k0_t6 v99 v100 v109 k0_hw36 k0_h4 => k0_hw36.2.2.2.2.2 k0_h4

def k0_chk37 (v14 : BitVec 32) (k0_t6 : Fin (k0_t6_loop v14).trips) (v99 : IVec S16 32) (v100 : IVec S16 32) (v116 : IVec S16 32) : Prop :=
  (∀ (k0_h4 : k0_cond4 v14 k0_t6 = 1#1), ∀ a x, ((![v100, v116] : Fin 2 → IVec S16 32) a x).toNat < S16x128.size a) ∧
  (∀ (k0_h4 : k0_cond4 v14 k0_t6 = 1#1), ∀ a x, ((![v99, v116] : Fin 2 → IVec S16 32) a x).toNat < S320x128.size a) ∧
  (∀ (k0_h4 : k0_cond4 v14 k0_t6 = 1#1), ∀ a x, ((![v99, v116] : Fin 2 → IVec S16 32) a x).toNat < S320x128.size a) ∧
  (∀ (k0_h4 : k0_cond4 v14 k0_t6 = 1#1), ∀ a x, ((![v99, v116] : Fin 2 → IVec S16 32) a x).toNat < S320x128.size a) ∧
  (∀ (k0_h4 : k0_cond4 v14 k0_t6 = 1#1), ∀ a x, ((![v99, v116] : Fin 2 → IVec S16 32) a x).toNat < S320x128.size a) ∧
  (∀ (k0_h4 : k0_cond4 v14 k0_t6 = 1#1), ∀ a x, ((![v99, v116] : Fin 2 → IVec S16 32) a x).toNat < S320x128.size a)
theorem k0_idx167_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v100, v116] : Fin 2 → IVec S16 32) a x).toNat < S16x128.size a := fun v14 k0_t6 v99 v100 v116 k0_hw37 k0_h4 => k0_hw37.1 k0_h4
theorem k0_idx168_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v99, v116] : Fin 2 → IVec S16 32) a x).toNat < S320x128.size a := fun v14 k0_t6 v99 v100 v116 k0_hw37 k0_h4 => k0_hw37.2.1 k0_h4
theorem k0_idx169_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v99, v116] : Fin 2 → IVec S16 32) a x).toNat < S320x128.size a := fun v14 k0_t6 v99 v100 v116 k0_hw37 k0_h4 => k0_hw37.2.2.1 k0_h4
theorem k0_idx170_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v99, v116] : Fin 2 → IVec S16 32) a x).toNat < S320x128.size a := fun v14 k0_t6 v99 v100 v116 k0_hw37 k0_h4 => k0_hw37.2.2.2.1 k0_h4
theorem k0_idx171_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v99, v116] : Fin 2 → IVec S16 32) a x).toNat < S320x128.size a := fun v14 k0_t6 v99 v100 v116 k0_hw37 k0_h4 => k0_hw37.2.2.2.2.1 k0_h4
theorem k0_idx172_inb : ∀ (v14 : BitVec 32) (k0_t6 : Fin (k0_t6_loop v14).trips) (v99 : IVec S16 32) (v100 : IVec S16 32) (v116 : IVec S16 32) (k0_hw37 : k0_chk37 v14 k0_t6 v99 v100 v116), ∀ (k0_h4 : k0_cond4 v14 k0_t6 = 1#1), ∀ a x, ((![v99, v116] : Fin 2 → IVec S16 32) a x).toNat < S320x128.size a := fun v14 k0_t6 v99 v100 v116 k0_hw37 k0_h4 => k0_hw37.2.2.2.2.2 k0_h4

def k0_chk38 (v14 : BitVec 32) (k0_t6 : Fin (k0_t6_loop v14).trips) (v99 : IVec S16 32) (v100 : IVec S16 32) (v123 : IVec S16 32) : Prop :=
  (∀ (k0_h4 : k0_cond4 v14 k0_t6 = 1#1), ∀ a x, ((![v100, v123] : Fin 2 → IVec S16 32) a x).toNat < S16x128.size a) ∧
  (∀ (k0_h4 : k0_cond4 v14 k0_t6 = 1#1), ∀ a x, ((![v99, v123] : Fin 2 → IVec S16 32) a x).toNat < S320x128.size a) ∧
  (∀ (k0_h4 : k0_cond4 v14 k0_t6 = 1#1), ∀ a x, ((![v99, v123] : Fin 2 → IVec S16 32) a x).toNat < S320x128.size a) ∧
  (∀ (k0_h4 : k0_cond4 v14 k0_t6 = 1#1), ∀ a x, ((![v99, v123] : Fin 2 → IVec S16 32) a x).toNat < S320x128.size a) ∧
  (∀ (k0_h4 : k0_cond4 v14 k0_t6 = 1#1), ∀ a x, ((![v99, v123] : Fin 2 → IVec S16 32) a x).toNat < S320x128.size a) ∧
  (∀ (k0_h4 : k0_cond4 v14 k0_t6 = 1#1), ∀ a x, ((![v99, v123] : Fin 2 → IVec S16 32) a x).toNat < S320x128.size a)
theorem k0_idx173_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v100, v123] : Fin 2 → IVec S16 32) a x).toNat < S16x128.size a := fun v14 k0_t6 v99 v100 v123 k0_hw38 k0_h4 => k0_hw38.1 k0_h4
theorem k0_idx174_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v99, v123] : Fin 2 → IVec S16 32) a x).toNat < S320x128.size a := fun v14 k0_t6 v99 v100 v123 k0_hw38 k0_h4 => k0_hw38.2.1 k0_h4
theorem k0_idx175_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v99, v123] : Fin 2 → IVec S16 32) a x).toNat < S320x128.size a := fun v14 k0_t6 v99 v100 v123 k0_hw38 k0_h4 => k0_hw38.2.2.1 k0_h4
theorem k0_idx176_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v99, v123] : Fin 2 → IVec S16 32) a x).toNat < S320x128.size a := fun v14 k0_t6 v99 v100 v123 k0_hw38 k0_h4 => k0_hw38.2.2.2.1 k0_h4
theorem k0_idx177_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v99, v123] : Fin 2 → IVec S16 32) a x).toNat < S320x128.size a := fun v14 k0_t6 v99 v100 v123 k0_hw38 k0_h4 => k0_hw38.2.2.2.2.1 k0_h4
theorem k0_idx178_inb : ∀ (v14 : BitVec 32) (k0_t6 : Fin (k0_t6_loop v14).trips) (v99 : IVec S16 32) (v100 : IVec S16 32) (v123 : IVec S16 32) (k0_hw38 : k0_chk38 v14 k0_t6 v99 v100 v123), ∀ (k0_h4 : k0_cond4 v14 k0_t6 = 1#1), ∀ a x, ((![v99, v123] : Fin 2 → IVec S16 32) a x).toNat < S320x128.size a := fun v14 k0_t6 v99 v100 v123 k0_hw38 k0_h4 => k0_hw38.2.2.2.2.2 k0_h4

def k0_chk39 (v14 : BitVec 32) (k0_t6 : Fin (k0_t6_loop v14).trips) (v99 : IVec S16 32) (v100 : IVec S16 32) (v130 : IVec S16 32) : Prop :=
  (∀ (k0_h4 : k0_cond4 v14 k0_t6 = 1#1), ∀ a x, ((![v100, v130] : Fin 2 → IVec S16 32) a x).toNat < S16x128.size a) ∧
  (∀ (k0_h4 : k0_cond4 v14 k0_t6 = 1#1), ∀ a x, ((![v99, v130] : Fin 2 → IVec S16 32) a x).toNat < S320x128.size a) ∧
  (∀ (k0_h4 : k0_cond4 v14 k0_t6 = 1#1), ∀ a x, ((![v99, v130] : Fin 2 → IVec S16 32) a x).toNat < S320x128.size a) ∧
  (∀ (k0_h4 : k0_cond4 v14 k0_t6 = 1#1), ∀ a x, ((![v99, v130] : Fin 2 → IVec S16 32) a x).toNat < S320x128.size a) ∧
  (∀ (k0_h4 : k0_cond4 v14 k0_t6 = 1#1), ∀ a x, ((![v99, v130] : Fin 2 → IVec S16 32) a x).toNat < S320x128.size a) ∧
  (∀ (k0_h4 : k0_cond4 v14 k0_t6 = 1#1), ∀ a x, ((![v99, v130] : Fin 2 → IVec S16 32) a x).toNat < S320x128.size a)
theorem k0_idx179_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v100, v130] : Fin 2 → IVec S16 32) a x).toNat < S16x128.size a := fun v14 k0_t6 v99 v100 v130 k0_hw39 k0_h4 => k0_hw39.1 k0_h4
theorem k0_idx180_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v99, v130] : Fin 2 → IVec S16 32) a x).toNat < S320x128.size a := fun v14 k0_t6 v99 v100 v130 k0_hw39 k0_h4 => k0_hw39.2.1 k0_h4
theorem k0_idx181_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v99, v130] : Fin 2 → IVec S16 32) a x).toNat < S320x128.size a := fun v14 k0_t6 v99 v100 v130 k0_hw39 k0_h4 => k0_hw39.2.2.1 k0_h4
theorem k0_idx182_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v99, v130] : Fin 2 → IVec S16 32) a x).toNat < S320x128.size a := fun v14 k0_t6 v99 v100 v130 k0_hw39 k0_h4 => k0_hw39.2.2.2.1 k0_h4
theorem k0_idx183_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v99, v130] : Fin 2 → IVec S16 32) a x).toNat < S320x128.size a := fun v14 k0_t6 v99 v100 v130 k0_hw39 k0_h4 => k0_hw39.2.2.2.2.1 k0_h4
theorem k0_idx184_inb : ∀ (v14 : BitVec 32) (k0_t6 : Fin (k0_t6_loop v14).trips) (v99 : IVec S16 32) (v100 : IVec S16 32) (v130 : IVec S16 32) (k0_hw39 : k0_chk39 v14 k0_t6 v99 v100 v130), ∀ (k0_h4 : k0_cond4 v14 k0_t6 = 1#1), ∀ a x, ((![v99, v130] : Fin 2 → IVec S16 32) a x).toNat < S320x128.size a := fun v14 k0_t6 v99 v100 v130 k0_hw39 k0_h4 => k0_hw39.2.2.2.2.2 k0_h4

def k0_chk40 (v14 : BitVec 32) (k0_t6 : Fin (k0_t6_loop v14).trips) (v99 : IVec S16 32) (v100 : IVec S16 32) (v137 : IVec S16 32) : Prop :=
  (∀ (k0_h4 : k0_cond4 v14 k0_t6 = 1#1), ∀ a x, ((![v100, v137] : Fin 2 → IVec S16 32) a x).toNat < S16x128.size a) ∧
  (∀ (k0_h4 : k0_cond4 v14 k0_t6 = 1#1), ∀ a x, ((![v99, v137] : Fin 2 → IVec S16 32) a x).toNat < S320x128.size a) ∧
  (∀ (k0_h4 : k0_cond4 v14 k0_t6 = 1#1), ∀ a x, ((![v99, v137] : Fin 2 → IVec S16 32) a x).toNat < S320x128.size a) ∧
  (∀ (k0_h4 : k0_cond4 v14 k0_t6 = 1#1), ∀ a x, ((![v99, v137] : Fin 2 → IVec S16 32) a x).toNat < S320x128.size a) ∧
  (∀ (k0_h4 : k0_cond4 v14 k0_t6 = 1#1), ∀ a x, ((![v99, v137] : Fin 2 → IVec S16 32) a x).toNat < S320x128.size a) ∧
  (∀ (k0_h4 : k0_cond4 v14 k0_t6 = 1#1), ∀ a x, ((![v99, v137] : Fin 2 → IVec S16 32) a x).toNat < S320x128.size a)
theorem k0_idx185_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v100, v137] : Fin 2 → IVec S16 32) a x).toNat < S16x128.size a := fun v14 k0_t6 v99 v100 v137 k0_hw40 k0_h4 => k0_hw40.1 k0_h4
theorem k0_idx186_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v99, v137] : Fin 2 → IVec S16 32) a x).toNat < S320x128.size a := fun v14 k0_t6 v99 v100 v137 k0_hw40 k0_h4 => k0_hw40.2.1 k0_h4
theorem k0_idx187_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v99, v137] : Fin 2 → IVec S16 32) a x).toNat < S320x128.size a := fun v14 k0_t6 v99 v100 v137 k0_hw40 k0_h4 => k0_hw40.2.2.1 k0_h4
theorem k0_idx188_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v99, v137] : Fin 2 → IVec S16 32) a x).toNat < S320x128.size a := fun v14 k0_t6 v99 v100 v137 k0_hw40 k0_h4 => k0_hw40.2.2.2.1 k0_h4
theorem k0_idx189_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v99, v137] : Fin 2 → IVec S16 32) a x).toNat < S320x128.size a := fun v14 k0_t6 v99 v100 v137 k0_hw40 k0_h4 => k0_hw40.2.2.2.2.1 k0_h4
theorem k0_idx190_inb : ∀ (v14 : BitVec 32) (k0_t6 : Fin (k0_t6_loop v14).trips) (v99 : IVec S16 32) (v100 : IVec S16 32) (v137 : IVec S16 32) (k0_hw40 : k0_chk40 v14 k0_t6 v99 v100 v137), ∀ (k0_h4 : k0_cond4 v14 k0_t6 = 1#1), ∀ a x, ((![v99, v137] : Fin 2 → IVec S16 32) a x).toNat < S320x128.size a := fun v14 k0_t6 v99 v100 v137 k0_hw40 k0_h4 => k0_hw40.2.2.2.2.2 k0_h4

def k0_chk41 (v14 : BitVec 32) (k0_t6 : Fin (k0_t6_loop v14).trips) (v99 : IVec S16 32) (v100 : IVec S16 32) (v144 : IVec S16 32) : Prop :=
  (∀ (k0_h4 : k0_cond4 v14 k0_t6 = 1#1), ∀ a x, ((![v100, v144] : Fin 2 → IVec S16 32) a x).toNat < S16x128.size a) ∧
  (∀ (k0_h4 : k0_cond4 v14 k0_t6 = 1#1), ∀ a x, ((![v99, v144] : Fin 2 → IVec S16 32) a x).toNat < S320x128.size a) ∧
  (∀ (k0_h4 : k0_cond4 v14 k0_t6 = 1#1), ∀ a x, ((![v99, v144] : Fin 2 → IVec S16 32) a x).toNat < S320x128.size a) ∧
  (∀ (k0_h4 : k0_cond4 v14 k0_t6 = 1#1), ∀ a x, ((![v99, v144] : Fin 2 → IVec S16 32) a x).toNat < S320x128.size a) ∧
  (∀ (k0_h4 : k0_cond4 v14 k0_t6 = 1#1), ∀ a x, ((![v99, v144] : Fin 2 → IVec S16 32) a x).toNat < S320x128.size a) ∧
  (∀ (k0_h4 : k0_cond4 v14 k0_t6 = 1#1), ∀ a x, ((![v99, v144] : Fin 2 → IVec S16 32) a x).toNat < S320x128.size a)
theorem k0_idx191_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v100, v144] : Fin 2 → IVec S16 32) a x).toNat < S16x128.size a := fun v14 k0_t6 v99 v100 v144 k0_hw41 k0_h4 => k0_hw41.1 k0_h4
theorem k0_idx192_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v99, v144] : Fin 2 → IVec S16 32) a x).toNat < S320x128.size a := fun v14 k0_t6 v99 v100 v144 k0_hw41 k0_h4 => k0_hw41.2.1 k0_h4
theorem k0_idx193_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v99, v144] : Fin 2 → IVec S16 32) a x).toNat < S320x128.size a := fun v14 k0_t6 v99 v100 v144 k0_hw41 k0_h4 => k0_hw41.2.2.1 k0_h4
theorem k0_idx194_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v99, v144] : Fin 2 → IVec S16 32) a x).toNat < S320x128.size a := fun v14 k0_t6 v99 v100 v144 k0_hw41 k0_h4 => k0_hw41.2.2.2.1 k0_h4
theorem k0_idx195_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v99, v144] : Fin 2 → IVec S16 32) a x).toNat < S320x128.size a := fun v14 k0_t6 v99 v100 v144 k0_hw41 k0_h4 => k0_hw41.2.2.2.2.1 k0_h4
theorem k0_idx196_inb : ∀ (v14 : BitVec 32) (k0_t6 : Fin (k0_t6_loop v14).trips) (v99 : IVec S16 32) (v100 : IVec S16 32) (v144 : IVec S16 32) (k0_hw41 : k0_chk41 v14 k0_t6 v99 v100 v144), ∀ (k0_h4 : k0_cond4 v14 k0_t6 = 1#1), ∀ a x, ((![v99, v144] : Fin 2 → IVec S16 32) a x).toNat < S320x128.size a := fun v14 k0_t6 v99 v100 v144 k0_hw41 k0_h4 => k0_hw41.2.2.2.2.2 k0_h4

def k0_chk42 (v14 : BitVec 32) (k0_t6 : Fin (k0_t6_loop v14).trips) (v99 : IVec S16 32) (v100 : IVec S16 32) (v151 : IVec S16 32) : Prop :=
  (∀ (k0_h4 : k0_cond4 v14 k0_t6 = 1#1), ∀ a x, ((![v100, v151] : Fin 2 → IVec S16 32) a x).toNat < S16x128.size a) ∧
  (∀ (k0_h4 : k0_cond4 v14 k0_t6 = 1#1), ∀ a x, ((![v99, v151] : Fin 2 → IVec S16 32) a x).toNat < S320x128.size a) ∧
  (∀ (k0_h4 : k0_cond4 v14 k0_t6 = 1#1), ∀ a x, ((![v99, v151] : Fin 2 → IVec S16 32) a x).toNat < S320x128.size a) ∧
  (∀ (k0_h4 : k0_cond4 v14 k0_t6 = 1#1), ∀ a x, ((![v99, v151] : Fin 2 → IVec S16 32) a x).toNat < S320x128.size a) ∧
  (∀ (k0_h4 : k0_cond4 v14 k0_t6 = 1#1), ∀ a x, ((![v99, v151] : Fin 2 → IVec S16 32) a x).toNat < S320x128.size a) ∧
  (∀ (k0_h4 : k0_cond4 v14 k0_t6 = 1#1), ∀ a x, ((![v99, v151] : Fin 2 → IVec S16 32) a x).toNat < S320x128.size a)
theorem k0_idx197_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v100, v151] : Fin 2 → IVec S16 32) a x).toNat < S16x128.size a := fun v14 k0_t6 v99 v100 v151 k0_hw42 k0_h4 => k0_hw42.1 k0_h4
theorem k0_idx198_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v99, v151] : Fin 2 → IVec S16 32) a x).toNat < S320x128.size a := fun v14 k0_t6 v99 v100 v151 k0_hw42 k0_h4 => k0_hw42.2.1 k0_h4
theorem k0_idx199_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v99, v151] : Fin 2 → IVec S16 32) a x).toNat < S320x128.size a := fun v14 k0_t6 v99 v100 v151 k0_hw42 k0_h4 => k0_hw42.2.2.1 k0_h4
theorem k0_idx200_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v99, v151] : Fin 2 → IVec S16 32) a x).toNat < S320x128.size a := fun v14 k0_t6 v99 v100 v151 k0_hw42 k0_h4 => k0_hw42.2.2.2.1 k0_h4
theorem k0_idx201_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v99, v151] : Fin 2 → IVec S16 32) a x).toNat < S320x128.size a := fun v14 k0_t6 v99 v100 v151 k0_hw42 k0_h4 => k0_hw42.2.2.2.2.1 k0_h4
theorem k0_idx202_inb : ∀ (v14 : BitVec 32) (k0_t6 : Fin (k0_t6_loop v14).trips) (v99 : IVec S16 32) (v100 : IVec S16 32) (v151 : IVec S16 32) (k0_hw42 : k0_chk42 v14 k0_t6 v99 v100 v151), ∀ (k0_h4 : k0_cond4 v14 k0_t6 = 1#1), ∀ a x, ((![v99, v151] : Fin 2 → IVec S16 32) a x).toNat < S320x128.size a := fun v14 k0_t6 v99 v100 v151 k0_hw42 k0_h4 => k0_hw42.2.2.2.2.2 k0_h4

def k0_chk43 (v14 : BitVec 32) (k0_t6 : Fin (k0_t6_loop v14).trips) (v99 : IVec S16 32) : Prop :=
  (∀ (k0_h4 : k0_cond4 v14 k0_t6 = 1#1), ∀ a x, ((![v99] : Fin 1 → IVec S16 32) a x).toNat < S320.size a)
theorem k0_idx203_inb : ∀ (v14 : BitVec 32) (k0_t6 : Fin (k0_t6_loop v14).trips) (v99 : IVec S16 32) (k0_hw43 : k0_chk43 v14 k0_t6 v99), ∀ (k0_h4 : k0_cond4 v14 k0_t6 = 1#1), ∀ a x, ((![v99] : Fin 1 → IVec S16 32) a x).toNat < S320.size a := fun v14 k0_t6 v99 k0_hw43 k0_h4 => k0_hw43 k0_h4
def k0_cond5 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c4_i32 : BitVec 32 := 4#32
  let v61 : BitVec 1 := Scalar.cmpi .sgt v45 c4_i32
  let v62 : BitVec 32 := Scalar.extui v61
  let c0_i32_47 : BitVec 32 := 0#32
  let v63 : BitVec 1 := Scalar.cmpi .ne v62 c0_i32_47
  v63

def k0_chk44 (v14 : BitVec 32) (k0_t6 : Fin (k0_t6_loop v14).trips) (v98 : IVec S16 32) : Prop :=
  (∀ (k0_h5 : k0_cond5 v14 k0_t6 = 1#1), ∀ a x, ((![v98] : Fin 1 → IVec S16 32) a x).toNat < S528.size a)
theorem k0_idx204_inb : ∀ (v14 : BitVec 32) (k0_t6 : Fin (k0_t6_loop v14).trips) (v98 : IVec S16 32) (k0_hw44 : k0_chk44 v14 k0_t6 v98), ∀ (k0_h5 : k0_cond5 v14 k0_t6 = 1#1), ∀ a x, ((![v98] : Fin 1 → IVec S16 32) a x).toNat < S528.size a := fun v14 k0_t6 v98 k0_hw44 k0_h5 => k0_hw44 k0_h5

def k0_chk45 (v14 : BitVec 32) (k0_t6 : Fin (k0_t6_loop v14).trips) (v99 : IVec S16 32) (v100 : IVec S16 32) (v102 : IVec S16 32) : Prop :=
  (∀ (k0_h5 : k0_cond5 v14 k0_t6 = 1#1), ∀ a x, ((![v100, v102] : Fin 2 → IVec S16 32) a x).toNat < S16x128.size a) ∧
  (∀ (k0_h5 : k0_cond5 v14 k0_t6 = 1#1), ∀ a x, ((![v99, v102] : Fin 2 → IVec S16 32) a x).toNat < S320x128.size a) ∧
  (∀ (k0_h5 : k0_cond5 v14 k0_t6 = 1#1), ∀ a x, ((![v99, v102] : Fin 2 → IVec S16 32) a x).toNat < S320x128.size a) ∧
  (∀ (k0_h5 : k0_cond5 v14 k0_t6 = 1#1), ∀ a x, ((![v99, v102] : Fin 2 → IVec S16 32) a x).toNat < S320x128.size a) ∧
  (∀ (k0_h5 : k0_cond5 v14 k0_t6 = 1#1), ∀ a x, ((![v99, v102] : Fin 2 → IVec S16 32) a x).toNat < S320x128.size a) ∧
  (∀ (k0_h5 : k0_cond5 v14 k0_t6 = 1#1), ∀ a x, ((![v99, v102] : Fin 2 → IVec S16 32) a x).toNat < S320x128.size a)
theorem k0_idx205_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v100, v102] : Fin 2 → IVec S16 32) a x).toNat < S16x128.size a := fun v14 k0_t6 v99 v100 v102 k0_hw45 k0_h5 => k0_hw45.1 k0_h5
theorem k0_idx206_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v99, v102] : Fin 2 → IVec S16 32) a x).toNat < S320x128.size a := fun v14 k0_t6 v99 v100 v102 k0_hw45 k0_h5 => k0_hw45.2.1 k0_h5
theorem k0_idx207_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v99, v102] : Fin 2 → IVec S16 32) a x).toNat < S320x128.size a := fun v14 k0_t6 v99 v100 v102 k0_hw45 k0_h5 => k0_hw45.2.2.1 k0_h5
theorem k0_idx208_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v99, v102] : Fin 2 → IVec S16 32) a x).toNat < S320x128.size a := fun v14 k0_t6 v99 v100 v102 k0_hw45 k0_h5 => k0_hw45.2.2.2.1 k0_h5
theorem k0_idx209_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v99, v102] : Fin 2 → IVec S16 32) a x).toNat < S320x128.size a := fun v14 k0_t6 v99 v100 v102 k0_hw45 k0_h5 => k0_hw45.2.2.2.2.1 k0_h5
theorem k0_idx210_inb : ∀ (v14 : BitVec 32) (k0_t6 : Fin (k0_t6_loop v14).trips) (v99 : IVec S16 32) (v100 : IVec S16 32) (v102 : IVec S16 32) (k0_hw45 : k0_chk45 v14 k0_t6 v99 v100 v102), ∀ (k0_h5 : k0_cond5 v14 k0_t6 = 1#1), ∀ a x, ((![v99, v102] : Fin 2 → IVec S16 32) a x).toNat < S320x128.size a := fun v14 k0_t6 v99 v100 v102 k0_hw45 k0_h5 => k0_hw45.2.2.2.2.2 k0_h5

def k0_chk46 (v14 : BitVec 32) (k0_t6 : Fin (k0_t6_loop v14).trips) (v99 : IVec S16 32) (v100 : IVec S16 32) (v109 : IVec S16 32) : Prop :=
  (∀ (k0_h5 : k0_cond5 v14 k0_t6 = 1#1), ∀ a x, ((![v100, v109] : Fin 2 → IVec S16 32) a x).toNat < S16x128.size a) ∧
  (∀ (k0_h5 : k0_cond5 v14 k0_t6 = 1#1), ∀ a x, ((![v99, v109] : Fin 2 → IVec S16 32) a x).toNat < S320x128.size a) ∧
  (∀ (k0_h5 : k0_cond5 v14 k0_t6 = 1#1), ∀ a x, ((![v99, v109] : Fin 2 → IVec S16 32) a x).toNat < S320x128.size a) ∧
  (∀ (k0_h5 : k0_cond5 v14 k0_t6 = 1#1), ∀ a x, ((![v99, v109] : Fin 2 → IVec S16 32) a x).toNat < S320x128.size a) ∧
  (∀ (k0_h5 : k0_cond5 v14 k0_t6 = 1#1), ∀ a x, ((![v99, v109] : Fin 2 → IVec S16 32) a x).toNat < S320x128.size a) ∧
  (∀ (k0_h5 : k0_cond5 v14 k0_t6 = 1#1), ∀ a x, ((![v99, v109] : Fin 2 → IVec S16 32) a x).toNat < S320x128.size a)
theorem k0_idx211_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v100, v109] : Fin 2 → IVec S16 32) a x).toNat < S16x128.size a := fun v14 k0_t6 v99 v100 v109 k0_hw46 k0_h5 => k0_hw46.1 k0_h5
theorem k0_idx212_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v99, v109] : Fin 2 → IVec S16 32) a x).toNat < S320x128.size a := fun v14 k0_t6 v99 v100 v109 k0_hw46 k0_h5 => k0_hw46.2.1 k0_h5
theorem k0_idx213_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v99, v109] : Fin 2 → IVec S16 32) a x).toNat < S320x128.size a := fun v14 k0_t6 v99 v100 v109 k0_hw46 k0_h5 => k0_hw46.2.2.1 k0_h5
theorem k0_idx214_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v99, v109] : Fin 2 → IVec S16 32) a x).toNat < S320x128.size a := fun v14 k0_t6 v99 v100 v109 k0_hw46 k0_h5 => k0_hw46.2.2.2.1 k0_h5
theorem k0_idx215_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v99, v109] : Fin 2 → IVec S16 32) a x).toNat < S320x128.size a := fun v14 k0_t6 v99 v100 v109 k0_hw46 k0_h5 => k0_hw46.2.2.2.2.1 k0_h5
theorem k0_idx216_inb : ∀ (v14 : BitVec 32) (k0_t6 : Fin (k0_t6_loop v14).trips) (v99 : IVec S16 32) (v100 : IVec S16 32) (v109 : IVec S16 32) (k0_hw46 : k0_chk46 v14 k0_t6 v99 v100 v109), ∀ (k0_h5 : k0_cond5 v14 k0_t6 = 1#1), ∀ a x, ((![v99, v109] : Fin 2 → IVec S16 32) a x).toNat < S320x128.size a := fun v14 k0_t6 v99 v100 v109 k0_hw46 k0_h5 => k0_hw46.2.2.2.2.2 k0_h5

def k0_chk47 (v14 : BitVec 32) (k0_t6 : Fin (k0_t6_loop v14).trips) (v99 : IVec S16 32) (v100 : IVec S16 32) (v116 : IVec S16 32) : Prop :=
  (∀ (k0_h5 : k0_cond5 v14 k0_t6 = 1#1), ∀ a x, ((![v100, v116] : Fin 2 → IVec S16 32) a x).toNat < S16x128.size a) ∧
  (∀ (k0_h5 : k0_cond5 v14 k0_t6 = 1#1), ∀ a x, ((![v99, v116] : Fin 2 → IVec S16 32) a x).toNat < S320x128.size a) ∧
  (∀ (k0_h5 : k0_cond5 v14 k0_t6 = 1#1), ∀ a x, ((![v99, v116] : Fin 2 → IVec S16 32) a x).toNat < S320x128.size a) ∧
  (∀ (k0_h5 : k0_cond5 v14 k0_t6 = 1#1), ∀ a x, ((![v99, v116] : Fin 2 → IVec S16 32) a x).toNat < S320x128.size a) ∧
  (∀ (k0_h5 : k0_cond5 v14 k0_t6 = 1#1), ∀ a x, ((![v99, v116] : Fin 2 → IVec S16 32) a x).toNat < S320x128.size a) ∧
  (∀ (k0_h5 : k0_cond5 v14 k0_t6 = 1#1), ∀ a x, ((![v99, v116] : Fin 2 → IVec S16 32) a x).toNat < S320x128.size a)
theorem k0_idx217_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v100, v116] : Fin 2 → IVec S16 32) a x).toNat < S16x128.size a := fun v14 k0_t6 v99 v100 v116 k0_hw47 k0_h5 => k0_hw47.1 k0_h5
theorem k0_idx218_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v99, v116] : Fin 2 → IVec S16 32) a x).toNat < S320x128.size a := fun v14 k0_t6 v99 v100 v116 k0_hw47 k0_h5 => k0_hw47.2.1 k0_h5
theorem k0_idx219_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v99, v116] : Fin 2 → IVec S16 32) a x).toNat < S320x128.size a := fun v14 k0_t6 v99 v100 v116 k0_hw47 k0_h5 => k0_hw47.2.2.1 k0_h5
theorem k0_idx220_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v99, v116] : Fin 2 → IVec S16 32) a x).toNat < S320x128.size a := fun v14 k0_t6 v99 v100 v116 k0_hw47 k0_h5 => k0_hw47.2.2.2.1 k0_h5
theorem k0_idx221_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v99, v116] : Fin 2 → IVec S16 32) a x).toNat < S320x128.size a := fun v14 k0_t6 v99 v100 v116 k0_hw47 k0_h5 => k0_hw47.2.2.2.2.1 k0_h5
theorem k0_idx222_inb : ∀ (v14 : BitVec 32) (k0_t6 : Fin (k0_t6_loop v14).trips) (v99 : IVec S16 32) (v100 : IVec S16 32) (v116 : IVec S16 32) (k0_hw47 : k0_chk47 v14 k0_t6 v99 v100 v116), ∀ (k0_h5 : k0_cond5 v14 k0_t6 = 1#1), ∀ a x, ((![v99, v116] : Fin 2 → IVec S16 32) a x).toNat < S320x128.size a := fun v14 k0_t6 v99 v100 v116 k0_hw47 k0_h5 => k0_hw47.2.2.2.2.2 k0_h5

def k0_chk48 (v14 : BitVec 32) (k0_t6 : Fin (k0_t6_loop v14).trips) (v99 : IVec S16 32) (v100 : IVec S16 32) (v123 : IVec S16 32) : Prop :=
  (∀ (k0_h5 : k0_cond5 v14 k0_t6 = 1#1), ∀ a x, ((![v100, v123] : Fin 2 → IVec S16 32) a x).toNat < S16x128.size a) ∧
  (∀ (k0_h5 : k0_cond5 v14 k0_t6 = 1#1), ∀ a x, ((![v99, v123] : Fin 2 → IVec S16 32) a x).toNat < S320x128.size a) ∧
  (∀ (k0_h5 : k0_cond5 v14 k0_t6 = 1#1), ∀ a x, ((![v99, v123] : Fin 2 → IVec S16 32) a x).toNat < S320x128.size a) ∧
  (∀ (k0_h5 : k0_cond5 v14 k0_t6 = 1#1), ∀ a x, ((![v99, v123] : Fin 2 → IVec S16 32) a x).toNat < S320x128.size a) ∧
  (∀ (k0_h5 : k0_cond5 v14 k0_t6 = 1#1), ∀ a x, ((![v99, v123] : Fin 2 → IVec S16 32) a x).toNat < S320x128.size a) ∧
  (∀ (k0_h5 : k0_cond5 v14 k0_t6 = 1#1), ∀ a x, ((![v99, v123] : Fin 2 → IVec S16 32) a x).toNat < S320x128.size a)
theorem k0_idx223_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v100, v123] : Fin 2 → IVec S16 32) a x).toNat < S16x128.size a := fun v14 k0_t6 v99 v100 v123 k0_hw48 k0_h5 => k0_hw48.1 k0_h5
theorem k0_idx224_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v99, v123] : Fin 2 → IVec S16 32) a x).toNat < S320x128.size a := fun v14 k0_t6 v99 v100 v123 k0_hw48 k0_h5 => k0_hw48.2.1 k0_h5
theorem k0_idx225_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v99, v123] : Fin 2 → IVec S16 32) a x).toNat < S320x128.size a := fun v14 k0_t6 v99 v100 v123 k0_hw48 k0_h5 => k0_hw48.2.2.1 k0_h5
theorem k0_idx226_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v99, v123] : Fin 2 → IVec S16 32) a x).toNat < S320x128.size a := fun v14 k0_t6 v99 v100 v123 k0_hw48 k0_h5 => k0_hw48.2.2.2.1 k0_h5
theorem k0_idx227_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v99, v123] : Fin 2 → IVec S16 32) a x).toNat < S320x128.size a := fun v14 k0_t6 v99 v100 v123 k0_hw48 k0_h5 => k0_hw48.2.2.2.2.1 k0_h5
theorem k0_idx228_inb : ∀ (v14 : BitVec 32) (k0_t6 : Fin (k0_t6_loop v14).trips) (v99 : IVec S16 32) (v100 : IVec S16 32) (v123 : IVec S16 32) (k0_hw48 : k0_chk48 v14 k0_t6 v99 v100 v123), ∀ (k0_h5 : k0_cond5 v14 k0_t6 = 1#1), ∀ a x, ((![v99, v123] : Fin 2 → IVec S16 32) a x).toNat < S320x128.size a := fun v14 k0_t6 v99 v100 v123 k0_hw48 k0_h5 => k0_hw48.2.2.2.2.2 k0_h5

def k0_chk49 (v14 : BitVec 32) (k0_t6 : Fin (k0_t6_loop v14).trips) (v99 : IVec S16 32) (v100 : IVec S16 32) (v130 : IVec S16 32) : Prop :=
  (∀ (k0_h5 : k0_cond5 v14 k0_t6 = 1#1), ∀ a x, ((![v100, v130] : Fin 2 → IVec S16 32) a x).toNat < S16x128.size a) ∧
  (∀ (k0_h5 : k0_cond5 v14 k0_t6 = 1#1), ∀ a x, ((![v99, v130] : Fin 2 → IVec S16 32) a x).toNat < S320x128.size a) ∧
  (∀ (k0_h5 : k0_cond5 v14 k0_t6 = 1#1), ∀ a x, ((![v99, v130] : Fin 2 → IVec S16 32) a x).toNat < S320x128.size a) ∧
  (∀ (k0_h5 : k0_cond5 v14 k0_t6 = 1#1), ∀ a x, ((![v99, v130] : Fin 2 → IVec S16 32) a x).toNat < S320x128.size a) ∧
  (∀ (k0_h5 : k0_cond5 v14 k0_t6 = 1#1), ∀ a x, ((![v99, v130] : Fin 2 → IVec S16 32) a x).toNat < S320x128.size a) ∧
  (∀ (k0_h5 : k0_cond5 v14 k0_t6 = 1#1), ∀ a x, ((![v99, v130] : Fin 2 → IVec S16 32) a x).toNat < S320x128.size a)
theorem k0_idx229_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v100, v130] : Fin 2 → IVec S16 32) a x).toNat < S16x128.size a := fun v14 k0_t6 v99 v100 v130 k0_hw49 k0_h5 => k0_hw49.1 k0_h5
theorem k0_idx230_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v99, v130] : Fin 2 → IVec S16 32) a x).toNat < S320x128.size a := fun v14 k0_t6 v99 v100 v130 k0_hw49 k0_h5 => k0_hw49.2.1 k0_h5
theorem k0_idx231_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v99, v130] : Fin 2 → IVec S16 32) a x).toNat < S320x128.size a := fun v14 k0_t6 v99 v100 v130 k0_hw49 k0_h5 => k0_hw49.2.2.1 k0_h5
theorem k0_idx232_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v99, v130] : Fin 2 → IVec S16 32) a x).toNat < S320x128.size a := fun v14 k0_t6 v99 v100 v130 k0_hw49 k0_h5 => k0_hw49.2.2.2.1 k0_h5
theorem k0_idx233_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v99, v130] : Fin 2 → IVec S16 32) a x).toNat < S320x128.size a := fun v14 k0_t6 v99 v100 v130 k0_hw49 k0_h5 => k0_hw49.2.2.2.2.1 k0_h5
theorem k0_idx234_inb : ∀ (v14 : BitVec 32) (k0_t6 : Fin (k0_t6_loop v14).trips) (v99 : IVec S16 32) (v100 : IVec S16 32) (v130 : IVec S16 32) (k0_hw49 : k0_chk49 v14 k0_t6 v99 v100 v130), ∀ (k0_h5 : k0_cond5 v14 k0_t6 = 1#1), ∀ a x, ((![v99, v130] : Fin 2 → IVec S16 32) a x).toNat < S320x128.size a := fun v14 k0_t6 v99 v100 v130 k0_hw49 k0_h5 => k0_hw49.2.2.2.2.2 k0_h5

def k0_chk50 (v14 : BitVec 32) (k0_t6 : Fin (k0_t6_loop v14).trips) (v99 : IVec S16 32) (v100 : IVec S16 32) (v137 : IVec S16 32) : Prop :=
  (∀ (k0_h5 : k0_cond5 v14 k0_t6 = 1#1), ∀ a x, ((![v100, v137] : Fin 2 → IVec S16 32) a x).toNat < S16x128.size a) ∧
  (∀ (k0_h5 : k0_cond5 v14 k0_t6 = 1#1), ∀ a x, ((![v99, v137] : Fin 2 → IVec S16 32) a x).toNat < S320x128.size a) ∧
  (∀ (k0_h5 : k0_cond5 v14 k0_t6 = 1#1), ∀ a x, ((![v99, v137] : Fin 2 → IVec S16 32) a x).toNat < S320x128.size a) ∧
  (∀ (k0_h5 : k0_cond5 v14 k0_t6 = 1#1), ∀ a x, ((![v99, v137] : Fin 2 → IVec S16 32) a x).toNat < S320x128.size a) ∧
  (∀ (k0_h5 : k0_cond5 v14 k0_t6 = 1#1), ∀ a x, ((![v99, v137] : Fin 2 → IVec S16 32) a x).toNat < S320x128.size a) ∧
  (∀ (k0_h5 : k0_cond5 v14 k0_t6 = 1#1), ∀ a x, ((![v99, v137] : Fin 2 → IVec S16 32) a x).toNat < S320x128.size a)
theorem k0_idx235_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v100, v137] : Fin 2 → IVec S16 32) a x).toNat < S16x128.size a := fun v14 k0_t6 v99 v100 v137 k0_hw50 k0_h5 => k0_hw50.1 k0_h5
theorem k0_idx236_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v99, v137] : Fin 2 → IVec S16 32) a x).toNat < S320x128.size a := fun v14 k0_t6 v99 v100 v137 k0_hw50 k0_h5 => k0_hw50.2.1 k0_h5
theorem k0_idx237_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v99, v137] : Fin 2 → IVec S16 32) a x).toNat < S320x128.size a := fun v14 k0_t6 v99 v100 v137 k0_hw50 k0_h5 => k0_hw50.2.2.1 k0_h5
theorem k0_idx238_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v99, v137] : Fin 2 → IVec S16 32) a x).toNat < S320x128.size a := fun v14 k0_t6 v99 v100 v137 k0_hw50 k0_h5 => k0_hw50.2.2.2.1 k0_h5
theorem k0_idx239_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v99, v137] : Fin 2 → IVec S16 32) a x).toNat < S320x128.size a := fun v14 k0_t6 v99 v100 v137 k0_hw50 k0_h5 => k0_hw50.2.2.2.2.1 k0_h5
theorem k0_idx240_inb : ∀ (v14 : BitVec 32) (k0_t6 : Fin (k0_t6_loop v14).trips) (v99 : IVec S16 32) (v100 : IVec S16 32) (v137 : IVec S16 32) (k0_hw50 : k0_chk50 v14 k0_t6 v99 v100 v137), ∀ (k0_h5 : k0_cond5 v14 k0_t6 = 1#1), ∀ a x, ((![v99, v137] : Fin 2 → IVec S16 32) a x).toNat < S320x128.size a := fun v14 k0_t6 v99 v100 v137 k0_hw50 k0_h5 => k0_hw50.2.2.2.2.2 k0_h5

def k0_chk51 (v14 : BitVec 32) (k0_t6 : Fin (k0_t6_loop v14).trips) (v99 : IVec S16 32) (v100 : IVec S16 32) (v144 : IVec S16 32) : Prop :=
  (∀ (k0_h5 : k0_cond5 v14 k0_t6 = 1#1), ∀ a x, ((![v100, v144] : Fin 2 → IVec S16 32) a x).toNat < S16x128.size a) ∧
  (∀ (k0_h5 : k0_cond5 v14 k0_t6 = 1#1), ∀ a x, ((![v99, v144] : Fin 2 → IVec S16 32) a x).toNat < S320x128.size a) ∧
  (∀ (k0_h5 : k0_cond5 v14 k0_t6 = 1#1), ∀ a x, ((![v99, v144] : Fin 2 → IVec S16 32) a x).toNat < S320x128.size a) ∧
  (∀ (k0_h5 : k0_cond5 v14 k0_t6 = 1#1), ∀ a x, ((![v99, v144] : Fin 2 → IVec S16 32) a x).toNat < S320x128.size a) ∧
  (∀ (k0_h5 : k0_cond5 v14 k0_t6 = 1#1), ∀ a x, ((![v99, v144] : Fin 2 → IVec S16 32) a x).toNat < S320x128.size a) ∧
  (∀ (k0_h5 : k0_cond5 v14 k0_t6 = 1#1), ∀ a x, ((![v99, v144] : Fin 2 → IVec S16 32) a x).toNat < S320x128.size a)
theorem k0_idx241_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v100, v144] : Fin 2 → IVec S16 32) a x).toNat < S16x128.size a := fun v14 k0_t6 v99 v100 v144 k0_hw51 k0_h5 => k0_hw51.1 k0_h5
theorem k0_idx242_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v99, v144] : Fin 2 → IVec S16 32) a x).toNat < S320x128.size a := fun v14 k0_t6 v99 v100 v144 k0_hw51 k0_h5 => k0_hw51.2.1 k0_h5
theorem k0_idx243_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v99, v144] : Fin 2 → IVec S16 32) a x).toNat < S320x128.size a := fun v14 k0_t6 v99 v100 v144 k0_hw51 k0_h5 => k0_hw51.2.2.1 k0_h5
theorem k0_idx244_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v99, v144] : Fin 2 → IVec S16 32) a x).toNat < S320x128.size a := fun v14 k0_t6 v99 v100 v144 k0_hw51 k0_h5 => k0_hw51.2.2.2.1 k0_h5
theorem k0_idx245_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v99, v144] : Fin 2 → IVec S16 32) a x).toNat < S320x128.size a := fun v14 k0_t6 v99 v100 v144 k0_hw51 k0_h5 => k0_hw51.2.2.2.2.1 k0_h5
theorem k0_idx246_inb : ∀ (v14 : BitVec 32) (k0_t6 : Fin (k0_t6_loop v14).trips) (v99 : IVec S16 32) (v100 : IVec S16 32) (v144 : IVec S16 32) (k0_hw51 : k0_chk51 v14 k0_t6 v99 v100 v144), ∀ (k0_h5 : k0_cond5 v14 k0_t6 = 1#1), ∀ a x, ((![v99, v144] : Fin 2 → IVec S16 32) a x).toNat < S320x128.size a := fun v14 k0_t6 v99 v100 v144 k0_hw51 k0_h5 => k0_hw51.2.2.2.2.2 k0_h5

def k0_chk52 (v14 : BitVec 32) (k0_t6 : Fin (k0_t6_loop v14).trips) (v99 : IVec S16 32) (v100 : IVec S16 32) (v151 : IVec S16 32) : Prop :=
  (∀ (k0_h5 : k0_cond5 v14 k0_t6 = 1#1), ∀ a x, ((![v100, v151] : Fin 2 → IVec S16 32) a x).toNat < S16x128.size a) ∧
  (∀ (k0_h5 : k0_cond5 v14 k0_t6 = 1#1), ∀ a x, ((![v99, v151] : Fin 2 → IVec S16 32) a x).toNat < S320x128.size a) ∧
  (∀ (k0_h5 : k0_cond5 v14 k0_t6 = 1#1), ∀ a x, ((![v99, v151] : Fin 2 → IVec S16 32) a x).toNat < S320x128.size a) ∧
  (∀ (k0_h5 : k0_cond5 v14 k0_t6 = 1#1), ∀ a x, ((![v99, v151] : Fin 2 → IVec S16 32) a x).toNat < S320x128.size a) ∧
  (∀ (k0_h5 : k0_cond5 v14 k0_t6 = 1#1), ∀ a x, ((![v99, v151] : Fin 2 → IVec S16 32) a x).toNat < S320x128.size a) ∧
  (∀ (k0_h5 : k0_cond5 v14 k0_t6 = 1#1), ∀ a x, ((![v99, v151] : Fin 2 → IVec S16 32) a x).toNat < S320x128.size a)
theorem k0_idx247_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v100, v151] : Fin 2 → IVec S16 32) a x).toNat < S16x128.size a := fun v14 k0_t6 v99 v100 v151 k0_hw52 k0_h5 => k0_hw52.1 k0_h5
theorem k0_idx248_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v99, v151] : Fin 2 → IVec S16 32) a x).toNat < S320x128.size a := fun v14 k0_t6 v99 v100 v151 k0_hw52 k0_h5 => k0_hw52.2.1 k0_h5
theorem k0_idx249_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v99, v151] : Fin 2 → IVec S16 32) a x).toNat < S320x128.size a := fun v14 k0_t6 v99 v100 v151 k0_hw52 k0_h5 => k0_hw52.2.2.1 k0_h5
theorem k0_idx250_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v99, v151] : Fin 2 → IVec S16 32) a x).toNat < S320x128.size a := fun v14 k0_t6 v99 v100 v151 k0_hw52 k0_h5 => k0_hw52.2.2.2.1 k0_h5
theorem k0_idx251_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v99, v151] : Fin 2 → IVec S16 32) a x).toNat < S320x128.size a := fun v14 k0_t6 v99 v100 v151 k0_hw52 k0_h5 => k0_hw52.2.2.2.2.1 k0_h5
theorem k0_idx252_inb : ∀ (v14 : BitVec 32) (k0_t6 : Fin (k0_t6_loop v14).trips) (v99 : IVec S16 32) (v100 : IVec S16 32) (v151 : IVec S16 32) (k0_hw52 : k0_chk52 v14 k0_t6 v99 v100 v151), ∀ (k0_h5 : k0_cond5 v14 k0_t6 = 1#1), ∀ a x, ((![v99, v151] : Fin 2 → IVec S16 32) a x).toNat < S320x128.size a := fun v14 k0_t6 v99 v100 v151 k0_hw52 k0_h5 => k0_hw52.2.2.2.2.2 k0_h5

def k0_chk53 (v14 : BitVec 32) (k0_t6 : Fin (k0_t6_loop v14).trips) (v99 : IVec S16 32) : Prop :=
  (∀ (k0_h5 : k0_cond5 v14 k0_t6 = 1#1), ∀ a x, ((![v99] : Fin 1 → IVec S16 32) a x).toNat < S320.size a)
theorem k0_idx253_inb : ∀ (v14 : BitVec 32) (k0_t6 : Fin (k0_t6_loop v14).trips) (v99 : IVec S16 32) (k0_hw53 : k0_chk53 v14 k0_t6 v99), ∀ (k0_h5 : k0_cond5 v14 k0_t6 = 1#1), ∀ a x, ((![v99] : Fin 1 → IVec S16 32) a x).toNat < S320.size a := fun v14 k0_t6 v99 k0_hw53 k0_h5 => k0_hw53 k0_h5
def k0_cond6 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c5_i32 : BitVec 32 := 5#32
  let v64 : BitVec 1 := Scalar.cmpi .sgt v45 c5_i32
  let v65 : BitVec 32 := Scalar.extui v64
  let c0_i32_48 : BitVec 32 := 0#32
  let v66 : BitVec 1 := Scalar.cmpi .ne v65 c0_i32_48
  v66

def k0_chk54 (v14 : BitVec 32) (k0_t6 : Fin (k0_t6_loop v14).trips) (v98 : IVec S16 32) : Prop :=
  (∀ (k0_h6 : k0_cond6 v14 k0_t6 = 1#1), ∀ a x, ((![v98] : Fin 1 → IVec S16 32) a x).toNat < S528.size a)
theorem k0_idx254_inb : ∀ (v14 : BitVec 32) (k0_t6 : Fin (k0_t6_loop v14).trips) (v98 : IVec S16 32) (k0_hw54 : k0_chk54 v14 k0_t6 v98), ∀ (k0_h6 : k0_cond6 v14 k0_t6 = 1#1), ∀ a x, ((![v98] : Fin 1 → IVec S16 32) a x).toNat < S528.size a := fun v14 k0_t6 v98 k0_hw54 k0_h6 => k0_hw54 k0_h6

def k0_chk55 (v14 : BitVec 32) (k0_t6 : Fin (k0_t6_loop v14).trips) (v99 : IVec S16 32) (v100 : IVec S16 32) (v102 : IVec S16 32) : Prop :=
  (∀ (k0_h6 : k0_cond6 v14 k0_t6 = 1#1), ∀ a x, ((![v100, v102] : Fin 2 → IVec S16 32) a x).toNat < S16x128.size a) ∧
  (∀ (k0_h6 : k0_cond6 v14 k0_t6 = 1#1), ∀ a x, ((![v99, v102] : Fin 2 → IVec S16 32) a x).toNat < S320x128.size a) ∧
  (∀ (k0_h6 : k0_cond6 v14 k0_t6 = 1#1), ∀ a x, ((![v99, v102] : Fin 2 → IVec S16 32) a x).toNat < S320x128.size a) ∧
  (∀ (k0_h6 : k0_cond6 v14 k0_t6 = 1#1), ∀ a x, ((![v99, v102] : Fin 2 → IVec S16 32) a x).toNat < S320x128.size a) ∧
  (∀ (k0_h6 : k0_cond6 v14 k0_t6 = 1#1), ∀ a x, ((![v99, v102] : Fin 2 → IVec S16 32) a x).toNat < S320x128.size a) ∧
  (∀ (k0_h6 : k0_cond6 v14 k0_t6 = 1#1), ∀ a x, ((![v99, v102] : Fin 2 → IVec S16 32) a x).toNat < S320x128.size a)
theorem k0_idx255_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v100, v102] : Fin 2 → IVec S16 32) a x).toNat < S16x128.size a := fun v14 k0_t6 v99 v100 v102 k0_hw55 k0_h6 => k0_hw55.1 k0_h6
theorem k0_idx256_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v99, v102] : Fin 2 → IVec S16 32) a x).toNat < S320x128.size a := fun v14 k0_t6 v99 v100 v102 k0_hw55 k0_h6 => k0_hw55.2.1 k0_h6
theorem k0_idx257_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v99, v102] : Fin 2 → IVec S16 32) a x).toNat < S320x128.size a := fun v14 k0_t6 v99 v100 v102 k0_hw55 k0_h6 => k0_hw55.2.2.1 k0_h6
theorem k0_idx258_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v99, v102] : Fin 2 → IVec S16 32) a x).toNat < S320x128.size a := fun v14 k0_t6 v99 v100 v102 k0_hw55 k0_h6 => k0_hw55.2.2.2.1 k0_h6
theorem k0_idx259_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v99, v102] : Fin 2 → IVec S16 32) a x).toNat < S320x128.size a := fun v14 k0_t6 v99 v100 v102 k0_hw55 k0_h6 => k0_hw55.2.2.2.2.1 k0_h6
theorem k0_idx260_inb : ∀ (v14 : BitVec 32) (k0_t6 : Fin (k0_t6_loop v14).trips) (v99 : IVec S16 32) (v100 : IVec S16 32) (v102 : IVec S16 32) (k0_hw55 : k0_chk55 v14 k0_t6 v99 v100 v102), ∀ (k0_h6 : k0_cond6 v14 k0_t6 = 1#1), ∀ a x, ((![v99, v102] : Fin 2 → IVec S16 32) a x).toNat < S320x128.size a := fun v14 k0_t6 v99 v100 v102 k0_hw55 k0_h6 => k0_hw55.2.2.2.2.2 k0_h6

def k0_chk56 (v14 : BitVec 32) (k0_t6 : Fin (k0_t6_loop v14).trips) (v99 : IVec S16 32) (v100 : IVec S16 32) (v109 : IVec S16 32) : Prop :=
  (∀ (k0_h6 : k0_cond6 v14 k0_t6 = 1#1), ∀ a x, ((![v100, v109] : Fin 2 → IVec S16 32) a x).toNat < S16x128.size a) ∧
  (∀ (k0_h6 : k0_cond6 v14 k0_t6 = 1#1), ∀ a x, ((![v99, v109] : Fin 2 → IVec S16 32) a x).toNat < S320x128.size a) ∧
  (∀ (k0_h6 : k0_cond6 v14 k0_t6 = 1#1), ∀ a x, ((![v99, v109] : Fin 2 → IVec S16 32) a x).toNat < S320x128.size a) ∧
  (∀ (k0_h6 : k0_cond6 v14 k0_t6 = 1#1), ∀ a x, ((![v99, v109] : Fin 2 → IVec S16 32) a x).toNat < S320x128.size a) ∧
  (∀ (k0_h6 : k0_cond6 v14 k0_t6 = 1#1), ∀ a x, ((![v99, v109] : Fin 2 → IVec S16 32) a x).toNat < S320x128.size a) ∧
  (∀ (k0_h6 : k0_cond6 v14 k0_t6 = 1#1), ∀ a x, ((![v99, v109] : Fin 2 → IVec S16 32) a x).toNat < S320x128.size a)
theorem k0_idx261_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v100, v109] : Fin 2 → IVec S16 32) a x).toNat < S16x128.size a := fun v14 k0_t6 v99 v100 v109 k0_hw56 k0_h6 => k0_hw56.1 k0_h6
theorem k0_idx262_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v99, v109] : Fin 2 → IVec S16 32) a x).toNat < S320x128.size a := fun v14 k0_t6 v99 v100 v109 k0_hw56 k0_h6 => k0_hw56.2.1 k0_h6
theorem k0_idx263_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v99, v109] : Fin 2 → IVec S16 32) a x).toNat < S320x128.size a := fun v14 k0_t6 v99 v100 v109 k0_hw56 k0_h6 => k0_hw56.2.2.1 k0_h6
theorem k0_idx264_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v99, v109] : Fin 2 → IVec S16 32) a x).toNat < S320x128.size a := fun v14 k0_t6 v99 v100 v109 k0_hw56 k0_h6 => k0_hw56.2.2.2.1 k0_h6
theorem k0_idx265_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v99, v109] : Fin 2 → IVec S16 32) a x).toNat < S320x128.size a := fun v14 k0_t6 v99 v100 v109 k0_hw56 k0_h6 => k0_hw56.2.2.2.2.1 k0_h6
theorem k0_idx266_inb : ∀ (v14 : BitVec 32) (k0_t6 : Fin (k0_t6_loop v14).trips) (v99 : IVec S16 32) (v100 : IVec S16 32) (v109 : IVec S16 32) (k0_hw56 : k0_chk56 v14 k0_t6 v99 v100 v109), ∀ (k0_h6 : k0_cond6 v14 k0_t6 = 1#1), ∀ a x, ((![v99, v109] : Fin 2 → IVec S16 32) a x).toNat < S320x128.size a := fun v14 k0_t6 v99 v100 v109 k0_hw56 k0_h6 => k0_hw56.2.2.2.2.2 k0_h6

def k0_chk57 (v14 : BitVec 32) (k0_t6 : Fin (k0_t6_loop v14).trips) (v99 : IVec S16 32) (v100 : IVec S16 32) (v116 : IVec S16 32) : Prop :=
  (∀ (k0_h6 : k0_cond6 v14 k0_t6 = 1#1), ∀ a x, ((![v100, v116] : Fin 2 → IVec S16 32) a x).toNat < S16x128.size a) ∧
  (∀ (k0_h6 : k0_cond6 v14 k0_t6 = 1#1), ∀ a x, ((![v99, v116] : Fin 2 → IVec S16 32) a x).toNat < S320x128.size a) ∧
  (∀ (k0_h6 : k0_cond6 v14 k0_t6 = 1#1), ∀ a x, ((![v99, v116] : Fin 2 → IVec S16 32) a x).toNat < S320x128.size a) ∧
  (∀ (k0_h6 : k0_cond6 v14 k0_t6 = 1#1), ∀ a x, ((![v99, v116] : Fin 2 → IVec S16 32) a x).toNat < S320x128.size a) ∧
  (∀ (k0_h6 : k0_cond6 v14 k0_t6 = 1#1), ∀ a x, ((![v99, v116] : Fin 2 → IVec S16 32) a x).toNat < S320x128.size a) ∧
  (∀ (k0_h6 : k0_cond6 v14 k0_t6 = 1#1), ∀ a x, ((![v99, v116] : Fin 2 → IVec S16 32) a x).toNat < S320x128.size a)
theorem k0_idx267_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v100, v116] : Fin 2 → IVec S16 32) a x).toNat < S16x128.size a := fun v14 k0_t6 v99 v100 v116 k0_hw57 k0_h6 => k0_hw57.1 k0_h6
theorem k0_idx268_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v99, v116] : Fin 2 → IVec S16 32) a x).toNat < S320x128.size a := fun v14 k0_t6 v99 v100 v116 k0_hw57 k0_h6 => k0_hw57.2.1 k0_h6
theorem k0_idx269_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v99, v116] : Fin 2 → IVec S16 32) a x).toNat < S320x128.size a := fun v14 k0_t6 v99 v100 v116 k0_hw57 k0_h6 => k0_hw57.2.2.1 k0_h6
theorem k0_idx270_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v99, v116] : Fin 2 → IVec S16 32) a x).toNat < S320x128.size a := fun v14 k0_t6 v99 v100 v116 k0_hw57 k0_h6 => k0_hw57.2.2.2.1 k0_h6
theorem k0_idx271_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v99, v116] : Fin 2 → IVec S16 32) a x).toNat < S320x128.size a := fun v14 k0_t6 v99 v100 v116 k0_hw57 k0_h6 => k0_hw57.2.2.2.2.1 k0_h6
theorem k0_idx272_inb : ∀ (v14 : BitVec 32) (k0_t6 : Fin (k0_t6_loop v14).trips) (v99 : IVec S16 32) (v100 : IVec S16 32) (v116 : IVec S16 32) (k0_hw57 : k0_chk57 v14 k0_t6 v99 v100 v116), ∀ (k0_h6 : k0_cond6 v14 k0_t6 = 1#1), ∀ a x, ((![v99, v116] : Fin 2 → IVec S16 32) a x).toNat < S320x128.size a := fun v14 k0_t6 v99 v100 v116 k0_hw57 k0_h6 => k0_hw57.2.2.2.2.2 k0_h6

def k0_chk58 (v14 : BitVec 32) (k0_t6 : Fin (k0_t6_loop v14).trips) (v99 : IVec S16 32) (v100 : IVec S16 32) (v123 : IVec S16 32) : Prop :=
  (∀ (k0_h6 : k0_cond6 v14 k0_t6 = 1#1), ∀ a x, ((![v100, v123] : Fin 2 → IVec S16 32) a x).toNat < S16x128.size a) ∧
  (∀ (k0_h6 : k0_cond6 v14 k0_t6 = 1#1), ∀ a x, ((![v99, v123] : Fin 2 → IVec S16 32) a x).toNat < S320x128.size a) ∧
  (∀ (k0_h6 : k0_cond6 v14 k0_t6 = 1#1), ∀ a x, ((![v99, v123] : Fin 2 → IVec S16 32) a x).toNat < S320x128.size a) ∧
  (∀ (k0_h6 : k0_cond6 v14 k0_t6 = 1#1), ∀ a x, ((![v99, v123] : Fin 2 → IVec S16 32) a x).toNat < S320x128.size a) ∧
  (∀ (k0_h6 : k0_cond6 v14 k0_t6 = 1#1), ∀ a x, ((![v99, v123] : Fin 2 → IVec S16 32) a x).toNat < S320x128.size a) ∧
  (∀ (k0_h6 : k0_cond6 v14 k0_t6 = 1#1), ∀ a x, ((![v99, v123] : Fin 2 → IVec S16 32) a x).toNat < S320x128.size a)
theorem k0_idx273_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v100, v123] : Fin 2 → IVec S16 32) a x).toNat < S16x128.size a := fun v14 k0_t6 v99 v100 v123 k0_hw58 k0_h6 => k0_hw58.1 k0_h6
theorem k0_idx274_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v99, v123] : Fin 2 → IVec S16 32) a x).toNat < S320x128.size a := fun v14 k0_t6 v99 v100 v123 k0_hw58 k0_h6 => k0_hw58.2.1 k0_h6
theorem k0_idx275_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v99, v123] : Fin 2 → IVec S16 32) a x).toNat < S320x128.size a := fun v14 k0_t6 v99 v100 v123 k0_hw58 k0_h6 => k0_hw58.2.2.1 k0_h6
theorem k0_idx276_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v99, v123] : Fin 2 → IVec S16 32) a x).toNat < S320x128.size a := fun v14 k0_t6 v99 v100 v123 k0_hw58 k0_h6 => k0_hw58.2.2.2.1 k0_h6
theorem k0_idx277_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v99, v123] : Fin 2 → IVec S16 32) a x).toNat < S320x128.size a := fun v14 k0_t6 v99 v100 v123 k0_hw58 k0_h6 => k0_hw58.2.2.2.2.1 k0_h6
theorem k0_idx278_inb : ∀ (v14 : BitVec 32) (k0_t6 : Fin (k0_t6_loop v14).trips) (v99 : IVec S16 32) (v100 : IVec S16 32) (v123 : IVec S16 32) (k0_hw58 : k0_chk58 v14 k0_t6 v99 v100 v123), ∀ (k0_h6 : k0_cond6 v14 k0_t6 = 1#1), ∀ a x, ((![v99, v123] : Fin 2 → IVec S16 32) a x).toNat < S320x128.size a := fun v14 k0_t6 v99 v100 v123 k0_hw58 k0_h6 => k0_hw58.2.2.2.2.2 k0_h6

def k0_chk59 (v14 : BitVec 32) (k0_t6 : Fin (k0_t6_loop v14).trips) (v99 : IVec S16 32) (v100 : IVec S16 32) (v130 : IVec S16 32) : Prop :=
  (∀ (k0_h6 : k0_cond6 v14 k0_t6 = 1#1), ∀ a x, ((![v100, v130] : Fin 2 → IVec S16 32) a x).toNat < S16x128.size a) ∧
  (∀ (k0_h6 : k0_cond6 v14 k0_t6 = 1#1), ∀ a x, ((![v99, v130] : Fin 2 → IVec S16 32) a x).toNat < S320x128.size a) ∧
  (∀ (k0_h6 : k0_cond6 v14 k0_t6 = 1#1), ∀ a x, ((![v99, v130] : Fin 2 → IVec S16 32) a x).toNat < S320x128.size a) ∧
  (∀ (k0_h6 : k0_cond6 v14 k0_t6 = 1#1), ∀ a x, ((![v99, v130] : Fin 2 → IVec S16 32) a x).toNat < S320x128.size a) ∧
  (∀ (k0_h6 : k0_cond6 v14 k0_t6 = 1#1), ∀ a x, ((![v99, v130] : Fin 2 → IVec S16 32) a x).toNat < S320x128.size a) ∧
  (∀ (k0_h6 : k0_cond6 v14 k0_t6 = 1#1), ∀ a x, ((![v99, v130] : Fin 2 → IVec S16 32) a x).toNat < S320x128.size a)
theorem k0_idx279_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v100, v130] : Fin 2 → IVec S16 32) a x).toNat < S16x128.size a := fun v14 k0_t6 v99 v100 v130 k0_hw59 k0_h6 => k0_hw59.1 k0_h6
theorem k0_idx280_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v99, v130] : Fin 2 → IVec S16 32) a x).toNat < S320x128.size a := fun v14 k0_t6 v99 v100 v130 k0_hw59 k0_h6 => k0_hw59.2.1 k0_h6
theorem k0_idx281_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v99, v130] : Fin 2 → IVec S16 32) a x).toNat < S320x128.size a := fun v14 k0_t6 v99 v100 v130 k0_hw59 k0_h6 => k0_hw59.2.2.1 k0_h6
theorem k0_idx282_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v99, v130] : Fin 2 → IVec S16 32) a x).toNat < S320x128.size a := fun v14 k0_t6 v99 v100 v130 k0_hw59 k0_h6 => k0_hw59.2.2.2.1 k0_h6
theorem k0_idx283_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v99, v130] : Fin 2 → IVec S16 32) a x).toNat < S320x128.size a := fun v14 k0_t6 v99 v100 v130 k0_hw59 k0_h6 => k0_hw59.2.2.2.2.1 k0_h6
theorem k0_idx284_inb : ∀ (v14 : BitVec 32) (k0_t6 : Fin (k0_t6_loop v14).trips) (v99 : IVec S16 32) (v100 : IVec S16 32) (v130 : IVec S16 32) (k0_hw59 : k0_chk59 v14 k0_t6 v99 v100 v130), ∀ (k0_h6 : k0_cond6 v14 k0_t6 = 1#1), ∀ a x, ((![v99, v130] : Fin 2 → IVec S16 32) a x).toNat < S320x128.size a := fun v14 k0_t6 v99 v100 v130 k0_hw59 k0_h6 => k0_hw59.2.2.2.2.2 k0_h6

def k0_chk60 (v14 : BitVec 32) (k0_t6 : Fin (k0_t6_loop v14).trips) (v99 : IVec S16 32) (v100 : IVec S16 32) (v137 : IVec S16 32) : Prop :=
  (∀ (k0_h6 : k0_cond6 v14 k0_t6 = 1#1), ∀ a x, ((![v100, v137] : Fin 2 → IVec S16 32) a x).toNat < S16x128.size a) ∧
  (∀ (k0_h6 : k0_cond6 v14 k0_t6 = 1#1), ∀ a x, ((![v99, v137] : Fin 2 → IVec S16 32) a x).toNat < S320x128.size a) ∧
  (∀ (k0_h6 : k0_cond6 v14 k0_t6 = 1#1), ∀ a x, ((![v99, v137] : Fin 2 → IVec S16 32) a x).toNat < S320x128.size a) ∧
  (∀ (k0_h6 : k0_cond6 v14 k0_t6 = 1#1), ∀ a x, ((![v99, v137] : Fin 2 → IVec S16 32) a x).toNat < S320x128.size a) ∧
  (∀ (k0_h6 : k0_cond6 v14 k0_t6 = 1#1), ∀ a x, ((![v99, v137] : Fin 2 → IVec S16 32) a x).toNat < S320x128.size a) ∧
  (∀ (k0_h6 : k0_cond6 v14 k0_t6 = 1#1), ∀ a x, ((![v99, v137] : Fin 2 → IVec S16 32) a x).toNat < S320x128.size a)
theorem k0_idx285_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v100, v137] : Fin 2 → IVec S16 32) a x).toNat < S16x128.size a := fun v14 k0_t6 v99 v100 v137 k0_hw60 k0_h6 => k0_hw60.1 k0_h6
theorem k0_idx286_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v99, v137] : Fin 2 → IVec S16 32) a x).toNat < S320x128.size a := fun v14 k0_t6 v99 v100 v137 k0_hw60 k0_h6 => k0_hw60.2.1 k0_h6
theorem k0_idx287_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v99, v137] : Fin 2 → IVec S16 32) a x).toNat < S320x128.size a := fun v14 k0_t6 v99 v100 v137 k0_hw60 k0_h6 => k0_hw60.2.2.1 k0_h6
theorem k0_idx288_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v99, v137] : Fin 2 → IVec S16 32) a x).toNat < S320x128.size a := fun v14 k0_t6 v99 v100 v137 k0_hw60 k0_h6 => k0_hw60.2.2.2.1 k0_h6
theorem k0_idx289_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v99, v137] : Fin 2 → IVec S16 32) a x).toNat < S320x128.size a := fun v14 k0_t6 v99 v100 v137 k0_hw60 k0_h6 => k0_hw60.2.2.2.2.1 k0_h6
theorem k0_idx290_inb : ∀ (v14 : BitVec 32) (k0_t6 : Fin (k0_t6_loop v14).trips) (v99 : IVec S16 32) (v100 : IVec S16 32) (v137 : IVec S16 32) (k0_hw60 : k0_chk60 v14 k0_t6 v99 v100 v137), ∀ (k0_h6 : k0_cond6 v14 k0_t6 = 1#1), ∀ a x, ((![v99, v137] : Fin 2 → IVec S16 32) a x).toNat < S320x128.size a := fun v14 k0_t6 v99 v100 v137 k0_hw60 k0_h6 => k0_hw60.2.2.2.2.2 k0_h6

def k0_chk61 (v14 : BitVec 32) (k0_t6 : Fin (k0_t6_loop v14).trips) (v99 : IVec S16 32) (v100 : IVec S16 32) (v144 : IVec S16 32) : Prop :=
  (∀ (k0_h6 : k0_cond6 v14 k0_t6 = 1#1), ∀ a x, ((![v100, v144] : Fin 2 → IVec S16 32) a x).toNat < S16x128.size a) ∧
  (∀ (k0_h6 : k0_cond6 v14 k0_t6 = 1#1), ∀ a x, ((![v99, v144] : Fin 2 → IVec S16 32) a x).toNat < S320x128.size a) ∧
  (∀ (k0_h6 : k0_cond6 v14 k0_t6 = 1#1), ∀ a x, ((![v99, v144] : Fin 2 → IVec S16 32) a x).toNat < S320x128.size a) ∧
  (∀ (k0_h6 : k0_cond6 v14 k0_t6 = 1#1), ∀ a x, ((![v99, v144] : Fin 2 → IVec S16 32) a x).toNat < S320x128.size a) ∧
  (∀ (k0_h6 : k0_cond6 v14 k0_t6 = 1#1), ∀ a x, ((![v99, v144] : Fin 2 → IVec S16 32) a x).toNat < S320x128.size a) ∧
  (∀ (k0_h6 : k0_cond6 v14 k0_t6 = 1#1), ∀ a x, ((![v99, v144] : Fin 2 → IVec S16 32) a x).toNat < S320x128.size a)
theorem k0_idx291_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v100, v144] : Fin 2 → IVec S16 32) a x).toNat < S16x128.size a := fun v14 k0_t6 v99 v100 v144 k0_hw61 k0_h6 => k0_hw61.1 k0_h6
theorem k0_idx292_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v99, v144] : Fin 2 → IVec S16 32) a x).toNat < S320x128.size a := fun v14 k0_t6 v99 v100 v144 k0_hw61 k0_h6 => k0_hw61.2.1 k0_h6
theorem k0_idx293_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v99, v144] : Fin 2 → IVec S16 32) a x).toNat < S320x128.size a := fun v14 k0_t6 v99 v100 v144 k0_hw61 k0_h6 => k0_hw61.2.2.1 k0_h6
theorem k0_idx294_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v99, v144] : Fin 2 → IVec S16 32) a x).toNat < S320x128.size a := fun v14 k0_t6 v99 v100 v144 k0_hw61 k0_h6 => k0_hw61.2.2.2.1 k0_h6
theorem k0_idx295_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v99, v144] : Fin 2 → IVec S16 32) a x).toNat < S320x128.size a := fun v14 k0_t6 v99 v100 v144 k0_hw61 k0_h6 => k0_hw61.2.2.2.2.1 k0_h6
theorem k0_idx296_inb : ∀ (v14 : BitVec 32) (k0_t6 : Fin (k0_t6_loop v14).trips) (v99 : IVec S16 32) (v100 : IVec S16 32) (v144 : IVec S16 32) (k0_hw61 : k0_chk61 v14 k0_t6 v99 v100 v144), ∀ (k0_h6 : k0_cond6 v14 k0_t6 = 1#1), ∀ a x, ((![v99, v144] : Fin 2 → IVec S16 32) a x).toNat < S320x128.size a := fun v14 k0_t6 v99 v100 v144 k0_hw61 k0_h6 => k0_hw61.2.2.2.2.2 k0_h6

def k0_chk62 (v14 : BitVec 32) (k0_t6 : Fin (k0_t6_loop v14).trips) (v99 : IVec S16 32) (v100 : IVec S16 32) (v151 : IVec S16 32) : Prop :=
  (∀ (k0_h6 : k0_cond6 v14 k0_t6 = 1#1), ∀ a x, ((![v100, v151] : Fin 2 → IVec S16 32) a x).toNat < S16x128.size a) ∧
  (∀ (k0_h6 : k0_cond6 v14 k0_t6 = 1#1), ∀ a x, ((![v99, v151] : Fin 2 → IVec S16 32) a x).toNat < S320x128.size a) ∧
  (∀ (k0_h6 : k0_cond6 v14 k0_t6 = 1#1), ∀ a x, ((![v99, v151] : Fin 2 → IVec S16 32) a x).toNat < S320x128.size a) ∧
  (∀ (k0_h6 : k0_cond6 v14 k0_t6 = 1#1), ∀ a x, ((![v99, v151] : Fin 2 → IVec S16 32) a x).toNat < S320x128.size a) ∧
  (∀ (k0_h6 : k0_cond6 v14 k0_t6 = 1#1), ∀ a x, ((![v99, v151] : Fin 2 → IVec S16 32) a x).toNat < S320x128.size a) ∧
  (∀ (k0_h6 : k0_cond6 v14 k0_t6 = 1#1), ∀ a x, ((![v99, v151] : Fin 2 → IVec S16 32) a x).toNat < S320x128.size a)
theorem k0_idx297_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v100, v151] : Fin 2 → IVec S16 32) a x).toNat < S16x128.size a := fun v14 k0_t6 v99 v100 v151 k0_hw62 k0_h6 => k0_hw62.1 k0_h6
theorem k0_idx298_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v99, v151] : Fin 2 → IVec S16 32) a x).toNat < S320x128.size a := fun v14 k0_t6 v99 v100 v151 k0_hw62 k0_h6 => k0_hw62.2.1 k0_h6
theorem k0_idx299_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v99, v151] : Fin 2 → IVec S16 32) a x).toNat < S320x128.size a := fun v14 k0_t6 v99 v100 v151 k0_hw62 k0_h6 => k0_hw62.2.2.1 k0_h6
theorem k0_idx300_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v99, v151] : Fin 2 → IVec S16 32) a x).toNat < S320x128.size a := fun v14 k0_t6 v99 v100 v151 k0_hw62 k0_h6 => k0_hw62.2.2.2.1 k0_h6
theorem k0_idx301_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v99, v151] : Fin 2 → IVec S16 32) a x).toNat < S320x128.size a := fun v14 k0_t6 v99 v100 v151 k0_hw62 k0_h6 => k0_hw62.2.2.2.2.1 k0_h6
theorem k0_idx302_inb : ∀ (v14 : BitVec 32) (k0_t6 : Fin (k0_t6_loop v14).trips) (v99 : IVec S16 32) (v100 : IVec S16 32) (v151 : IVec S16 32) (k0_hw62 : k0_chk62 v14 k0_t6 v99 v100 v151), ∀ (k0_h6 : k0_cond6 v14 k0_t6 = 1#1), ∀ a x, ((![v99, v151] : Fin 2 → IVec S16 32) a x).toNat < S320x128.size a := fun v14 k0_t6 v99 v100 v151 k0_hw62 k0_h6 => k0_hw62.2.2.2.2.2 k0_h6

def k0_chk63 (v14 : BitVec 32) (k0_t6 : Fin (k0_t6_loop v14).trips) (v99 : IVec S16 32) : Prop :=
  (∀ (k0_h6 : k0_cond6 v14 k0_t6 = 1#1), ∀ a x, ((![v99] : Fin 1 → IVec S16 32) a x).toNat < S320.size a)
theorem k0_idx303_inb : ∀ (v14 : BitVec 32) (k0_t6 : Fin (k0_t6_loop v14).trips) (v99 : IVec S16 32) (k0_hw63 : k0_chk63 v14 k0_t6 v99), ∀ (k0_h6 : k0_cond6 v14 k0_t6 = 1#1), ∀ a x, ((![v99] : Fin 1 → IVec S16 32) a x).toNat < S320.size a := fun v14 k0_t6 v99 k0_hw63 k0_h6 => k0_hw63 k0_h6
def k0_cond7 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c6_i32 : BitVec 32 := 6#32
  let v67 : BitVec 1 := Scalar.cmpi .sgt v45 c6_i32
  let v68 : BitVec 32 := Scalar.extui v67
  let c0_i32_49 : BitVec 32 := 0#32
  let v69 : BitVec 1 := Scalar.cmpi .ne v68 c0_i32_49
  v69

def k0_chk64 (v14 : BitVec 32) (k0_t6 : Fin (k0_t6_loop v14).trips) (v98 : IVec S16 32) : Prop :=
  (∀ (k0_h7 : k0_cond7 v14 k0_t6 = 1#1), ∀ a x, ((![v98] : Fin 1 → IVec S16 32) a x).toNat < S528.size a)
theorem k0_idx304_inb : ∀ (v14 : BitVec 32) (k0_t6 : Fin (k0_t6_loop v14).trips) (v98 : IVec S16 32) (k0_hw64 : k0_chk64 v14 k0_t6 v98), ∀ (k0_h7 : k0_cond7 v14 k0_t6 = 1#1), ∀ a x, ((![v98] : Fin 1 → IVec S16 32) a x).toNat < S528.size a := fun v14 k0_t6 v98 k0_hw64 k0_h7 => k0_hw64 k0_h7

def k0_chk65 (v14 : BitVec 32) (k0_t6 : Fin (k0_t6_loop v14).trips) (v99 : IVec S16 32) (v100 : IVec S16 32) (v102 : IVec S16 32) : Prop :=
  (∀ (k0_h7 : k0_cond7 v14 k0_t6 = 1#1), ∀ a x, ((![v100, v102] : Fin 2 → IVec S16 32) a x).toNat < S16x128.size a) ∧
  (∀ (k0_h7 : k0_cond7 v14 k0_t6 = 1#1), ∀ a x, ((![v99, v102] : Fin 2 → IVec S16 32) a x).toNat < S320x128.size a) ∧
  (∀ (k0_h7 : k0_cond7 v14 k0_t6 = 1#1), ∀ a x, ((![v99, v102] : Fin 2 → IVec S16 32) a x).toNat < S320x128.size a) ∧
  (∀ (k0_h7 : k0_cond7 v14 k0_t6 = 1#1), ∀ a x, ((![v99, v102] : Fin 2 → IVec S16 32) a x).toNat < S320x128.size a) ∧
  (∀ (k0_h7 : k0_cond7 v14 k0_t6 = 1#1), ∀ a x, ((![v99, v102] : Fin 2 → IVec S16 32) a x).toNat < S320x128.size a) ∧
  (∀ (k0_h7 : k0_cond7 v14 k0_t6 = 1#1), ∀ a x, ((![v99, v102] : Fin 2 → IVec S16 32) a x).toNat < S320x128.size a)
theorem k0_idx305_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v100, v102] : Fin 2 → IVec S16 32) a x).toNat < S16x128.size a := fun v14 k0_t6 v99 v100 v102 k0_hw65 k0_h7 => k0_hw65.1 k0_h7
theorem k0_idx306_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v99, v102] : Fin 2 → IVec S16 32) a x).toNat < S320x128.size a := fun v14 k0_t6 v99 v100 v102 k0_hw65 k0_h7 => k0_hw65.2.1 k0_h7
theorem k0_idx307_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v99, v102] : Fin 2 → IVec S16 32) a x).toNat < S320x128.size a := fun v14 k0_t6 v99 v100 v102 k0_hw65 k0_h7 => k0_hw65.2.2.1 k0_h7
theorem k0_idx308_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v99, v102] : Fin 2 → IVec S16 32) a x).toNat < S320x128.size a := fun v14 k0_t6 v99 v100 v102 k0_hw65 k0_h7 => k0_hw65.2.2.2.1 k0_h7
theorem k0_idx309_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v99, v102] : Fin 2 → IVec S16 32) a x).toNat < S320x128.size a := fun v14 k0_t6 v99 v100 v102 k0_hw65 k0_h7 => k0_hw65.2.2.2.2.1 k0_h7
theorem k0_idx310_inb : ∀ (v14 : BitVec 32) (k0_t6 : Fin (k0_t6_loop v14).trips) (v99 : IVec S16 32) (v100 : IVec S16 32) (v102 : IVec S16 32) (k0_hw65 : k0_chk65 v14 k0_t6 v99 v100 v102), ∀ (k0_h7 : k0_cond7 v14 k0_t6 = 1#1), ∀ a x, ((![v99, v102] : Fin 2 → IVec S16 32) a x).toNat < S320x128.size a := fun v14 k0_t6 v99 v100 v102 k0_hw65 k0_h7 => k0_hw65.2.2.2.2.2 k0_h7

def k0_chk66 (v14 : BitVec 32) (k0_t6 : Fin (k0_t6_loop v14).trips) (v99 : IVec S16 32) (v100 : IVec S16 32) (v109 : IVec S16 32) : Prop :=
  (∀ (k0_h7 : k0_cond7 v14 k0_t6 = 1#1), ∀ a x, ((![v100, v109] : Fin 2 → IVec S16 32) a x).toNat < S16x128.size a) ∧
  (∀ (k0_h7 : k0_cond7 v14 k0_t6 = 1#1), ∀ a x, ((![v99, v109] : Fin 2 → IVec S16 32) a x).toNat < S320x128.size a) ∧
  (∀ (k0_h7 : k0_cond7 v14 k0_t6 = 1#1), ∀ a x, ((![v99, v109] : Fin 2 → IVec S16 32) a x).toNat < S320x128.size a) ∧
  (∀ (k0_h7 : k0_cond7 v14 k0_t6 = 1#1), ∀ a x, ((![v99, v109] : Fin 2 → IVec S16 32) a x).toNat < S320x128.size a) ∧
  (∀ (k0_h7 : k0_cond7 v14 k0_t6 = 1#1), ∀ a x, ((![v99, v109] : Fin 2 → IVec S16 32) a x).toNat < S320x128.size a) ∧
  (∀ (k0_h7 : k0_cond7 v14 k0_t6 = 1#1), ∀ a x, ((![v99, v109] : Fin 2 → IVec S16 32) a x).toNat < S320x128.size a)
theorem k0_idx311_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v100, v109] : Fin 2 → IVec S16 32) a x).toNat < S16x128.size a := fun v14 k0_t6 v99 v100 v109 k0_hw66 k0_h7 => k0_hw66.1 k0_h7
theorem k0_idx312_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v99, v109] : Fin 2 → IVec S16 32) a x).toNat < S320x128.size a := fun v14 k0_t6 v99 v100 v109 k0_hw66 k0_h7 => k0_hw66.2.1 k0_h7
theorem k0_idx313_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v99, v109] : Fin 2 → IVec S16 32) a x).toNat < S320x128.size a := fun v14 k0_t6 v99 v100 v109 k0_hw66 k0_h7 => k0_hw66.2.2.1 k0_h7
theorem k0_idx314_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v99, v109] : Fin 2 → IVec S16 32) a x).toNat < S320x128.size a := fun v14 k0_t6 v99 v100 v109 k0_hw66 k0_h7 => k0_hw66.2.2.2.1 k0_h7
theorem k0_idx315_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v99, v109] : Fin 2 → IVec S16 32) a x).toNat < S320x128.size a := fun v14 k0_t6 v99 v100 v109 k0_hw66 k0_h7 => k0_hw66.2.2.2.2.1 k0_h7
theorem k0_idx316_inb : ∀ (v14 : BitVec 32) (k0_t6 : Fin (k0_t6_loop v14).trips) (v99 : IVec S16 32) (v100 : IVec S16 32) (v109 : IVec S16 32) (k0_hw66 : k0_chk66 v14 k0_t6 v99 v100 v109), ∀ (k0_h7 : k0_cond7 v14 k0_t6 = 1#1), ∀ a x, ((![v99, v109] : Fin 2 → IVec S16 32) a x).toNat < S320x128.size a := fun v14 k0_t6 v99 v100 v109 k0_hw66 k0_h7 => k0_hw66.2.2.2.2.2 k0_h7

def k0_chk67 (v14 : BitVec 32) (k0_t6 : Fin (k0_t6_loop v14).trips) (v99 : IVec S16 32) (v100 : IVec S16 32) (v116 : IVec S16 32) : Prop :=
  (∀ (k0_h7 : k0_cond7 v14 k0_t6 = 1#1), ∀ a x, ((![v100, v116] : Fin 2 → IVec S16 32) a x).toNat < S16x128.size a) ∧
  (∀ (k0_h7 : k0_cond7 v14 k0_t6 = 1#1), ∀ a x, ((![v99, v116] : Fin 2 → IVec S16 32) a x).toNat < S320x128.size a) ∧
  (∀ (k0_h7 : k0_cond7 v14 k0_t6 = 1#1), ∀ a x, ((![v99, v116] : Fin 2 → IVec S16 32) a x).toNat < S320x128.size a) ∧
  (∀ (k0_h7 : k0_cond7 v14 k0_t6 = 1#1), ∀ a x, ((![v99, v116] : Fin 2 → IVec S16 32) a x).toNat < S320x128.size a) ∧
  (∀ (k0_h7 : k0_cond7 v14 k0_t6 = 1#1), ∀ a x, ((![v99, v116] : Fin 2 → IVec S16 32) a x).toNat < S320x128.size a) ∧
  (∀ (k0_h7 : k0_cond7 v14 k0_t6 = 1#1), ∀ a x, ((![v99, v116] : Fin 2 → IVec S16 32) a x).toNat < S320x128.size a)
theorem k0_idx317_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v100, v116] : Fin 2 → IVec S16 32) a x).toNat < S16x128.size a := fun v14 k0_t6 v99 v100 v116 k0_hw67 k0_h7 => k0_hw67.1 k0_h7
theorem k0_idx318_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v99, v116] : Fin 2 → IVec S16 32) a x).toNat < S320x128.size a := fun v14 k0_t6 v99 v100 v116 k0_hw67 k0_h7 => k0_hw67.2.1 k0_h7
theorem k0_idx319_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v99, v116] : Fin 2 → IVec S16 32) a x).toNat < S320x128.size a := fun v14 k0_t6 v99 v100 v116 k0_hw67 k0_h7 => k0_hw67.2.2.1 k0_h7
theorem k0_idx320_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v99, v116] : Fin 2 → IVec S16 32) a x).toNat < S320x128.size a := fun v14 k0_t6 v99 v100 v116 k0_hw67 k0_h7 => k0_hw67.2.2.2.1 k0_h7
theorem k0_idx321_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v99, v116] : Fin 2 → IVec S16 32) a x).toNat < S320x128.size a := fun v14 k0_t6 v99 v100 v116 k0_hw67 k0_h7 => k0_hw67.2.2.2.2.1 k0_h7
theorem k0_idx322_inb : ∀ (v14 : BitVec 32) (k0_t6 : Fin (k0_t6_loop v14).trips) (v99 : IVec S16 32) (v100 : IVec S16 32) (v116 : IVec S16 32) (k0_hw67 : k0_chk67 v14 k0_t6 v99 v100 v116), ∀ (k0_h7 : k0_cond7 v14 k0_t6 = 1#1), ∀ a x, ((![v99, v116] : Fin 2 → IVec S16 32) a x).toNat < S320x128.size a := fun v14 k0_t6 v99 v100 v116 k0_hw67 k0_h7 => k0_hw67.2.2.2.2.2 k0_h7

def k0_chk68 (v14 : BitVec 32) (k0_t6 : Fin (k0_t6_loop v14).trips) (v99 : IVec S16 32) (v100 : IVec S16 32) (v123 : IVec S16 32) : Prop :=
  (∀ (k0_h7 : k0_cond7 v14 k0_t6 = 1#1), ∀ a x, ((![v100, v123] : Fin 2 → IVec S16 32) a x).toNat < S16x128.size a) ∧
  (∀ (k0_h7 : k0_cond7 v14 k0_t6 = 1#1), ∀ a x, ((![v99, v123] : Fin 2 → IVec S16 32) a x).toNat < S320x128.size a) ∧
  (∀ (k0_h7 : k0_cond7 v14 k0_t6 = 1#1), ∀ a x, ((![v99, v123] : Fin 2 → IVec S16 32) a x).toNat < S320x128.size a) ∧
  (∀ (k0_h7 : k0_cond7 v14 k0_t6 = 1#1), ∀ a x, ((![v99, v123] : Fin 2 → IVec S16 32) a x).toNat < S320x128.size a) ∧
  (∀ (k0_h7 : k0_cond7 v14 k0_t6 = 1#1), ∀ a x, ((![v99, v123] : Fin 2 → IVec S16 32) a x).toNat < S320x128.size a) ∧
  (∀ (k0_h7 : k0_cond7 v14 k0_t6 = 1#1), ∀ a x, ((![v99, v123] : Fin 2 → IVec S16 32) a x).toNat < S320x128.size a)
theorem k0_idx323_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v100, v123] : Fin 2 → IVec S16 32) a x).toNat < S16x128.size a := fun v14 k0_t6 v99 v100 v123 k0_hw68 k0_h7 => k0_hw68.1 k0_h7
theorem k0_idx324_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v99, v123] : Fin 2 → IVec S16 32) a x).toNat < S320x128.size a := fun v14 k0_t6 v99 v100 v123 k0_hw68 k0_h7 => k0_hw68.2.1 k0_h7
theorem k0_idx325_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v99, v123] : Fin 2 → IVec S16 32) a x).toNat < S320x128.size a := fun v14 k0_t6 v99 v100 v123 k0_hw68 k0_h7 => k0_hw68.2.2.1 k0_h7
theorem k0_idx326_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v99, v123] : Fin 2 → IVec S16 32) a x).toNat < S320x128.size a := fun v14 k0_t6 v99 v100 v123 k0_hw68 k0_h7 => k0_hw68.2.2.2.1 k0_h7
theorem k0_idx327_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v99, v123] : Fin 2 → IVec S16 32) a x).toNat < S320x128.size a := fun v14 k0_t6 v99 v100 v123 k0_hw68 k0_h7 => k0_hw68.2.2.2.2.1 k0_h7
theorem k0_idx328_inb : ∀ (v14 : BitVec 32) (k0_t6 : Fin (k0_t6_loop v14).trips) (v99 : IVec S16 32) (v100 : IVec S16 32) (v123 : IVec S16 32) (k0_hw68 : k0_chk68 v14 k0_t6 v99 v100 v123), ∀ (k0_h7 : k0_cond7 v14 k0_t6 = 1#1), ∀ a x, ((![v99, v123] : Fin 2 → IVec S16 32) a x).toNat < S320x128.size a := fun v14 k0_t6 v99 v100 v123 k0_hw68 k0_h7 => k0_hw68.2.2.2.2.2 k0_h7

def k0_chk69 (v14 : BitVec 32) (k0_t6 : Fin (k0_t6_loop v14).trips) (v99 : IVec S16 32) (v100 : IVec S16 32) (v130 : IVec S16 32) : Prop :=
  (∀ (k0_h7 : k0_cond7 v14 k0_t6 = 1#1), ∀ a x, ((![v100, v130] : Fin 2 → IVec S16 32) a x).toNat < S16x128.size a) ∧
  (∀ (k0_h7 : k0_cond7 v14 k0_t6 = 1#1), ∀ a x, ((![v99, v130] : Fin 2 → IVec S16 32) a x).toNat < S320x128.size a) ∧
  (∀ (k0_h7 : k0_cond7 v14 k0_t6 = 1#1), ∀ a x, ((![v99, v130] : Fin 2 → IVec S16 32) a x).toNat < S320x128.size a) ∧
  (∀ (k0_h7 : k0_cond7 v14 k0_t6 = 1#1), ∀ a x, ((![v99, v130] : Fin 2 → IVec S16 32) a x).toNat < S320x128.size a) ∧
  (∀ (k0_h7 : k0_cond7 v14 k0_t6 = 1#1), ∀ a x, ((![v99, v130] : Fin 2 → IVec S16 32) a x).toNat < S320x128.size a) ∧
  (∀ (k0_h7 : k0_cond7 v14 k0_t6 = 1#1), ∀ a x, ((![v99, v130] : Fin 2 → IVec S16 32) a x).toNat < S320x128.size a)
theorem k0_idx329_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v100, v130] : Fin 2 → IVec S16 32) a x).toNat < S16x128.size a := fun v14 k0_t6 v99 v100 v130 k0_hw69 k0_h7 => k0_hw69.1 k0_h7
theorem k0_idx330_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v99, v130] : Fin 2 → IVec S16 32) a x).toNat < S320x128.size a := fun v14 k0_t6 v99 v100 v130 k0_hw69 k0_h7 => k0_hw69.2.1 k0_h7
theorem k0_idx331_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v99, v130] : Fin 2 → IVec S16 32) a x).toNat < S320x128.size a := fun v14 k0_t6 v99 v100 v130 k0_hw69 k0_h7 => k0_hw69.2.2.1 k0_h7
theorem k0_idx332_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v99, v130] : Fin 2 → IVec S16 32) a x).toNat < S320x128.size a := fun v14 k0_t6 v99 v100 v130 k0_hw69 k0_h7 => k0_hw69.2.2.2.1 k0_h7
theorem k0_idx333_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v99, v130] : Fin 2 → IVec S16 32) a x).toNat < S320x128.size a := fun v14 k0_t6 v99 v100 v130 k0_hw69 k0_h7 => k0_hw69.2.2.2.2.1 k0_h7
theorem k0_idx334_inb : ∀ (v14 : BitVec 32) (k0_t6 : Fin (k0_t6_loop v14).trips) (v99 : IVec S16 32) (v100 : IVec S16 32) (v130 : IVec S16 32) (k0_hw69 : k0_chk69 v14 k0_t6 v99 v100 v130), ∀ (k0_h7 : k0_cond7 v14 k0_t6 = 1#1), ∀ a x, ((![v99, v130] : Fin 2 → IVec S16 32) a x).toNat < S320x128.size a := fun v14 k0_t6 v99 v100 v130 k0_hw69 k0_h7 => k0_hw69.2.2.2.2.2 k0_h7

def k0_chk70 (v14 : BitVec 32) (k0_t6 : Fin (k0_t6_loop v14).trips) (v99 : IVec S16 32) (v100 : IVec S16 32) (v137 : IVec S16 32) : Prop :=
  (∀ (k0_h7 : k0_cond7 v14 k0_t6 = 1#1), ∀ a x, ((![v100, v137] : Fin 2 → IVec S16 32) a x).toNat < S16x128.size a) ∧
  (∀ (k0_h7 : k0_cond7 v14 k0_t6 = 1#1), ∀ a x, ((![v99, v137] : Fin 2 → IVec S16 32) a x).toNat < S320x128.size a) ∧
  (∀ (k0_h7 : k0_cond7 v14 k0_t6 = 1#1), ∀ a x, ((![v99, v137] : Fin 2 → IVec S16 32) a x).toNat < S320x128.size a) ∧
  (∀ (k0_h7 : k0_cond7 v14 k0_t6 = 1#1), ∀ a x, ((![v99, v137] : Fin 2 → IVec S16 32) a x).toNat < S320x128.size a) ∧
  (∀ (k0_h7 : k0_cond7 v14 k0_t6 = 1#1), ∀ a x, ((![v99, v137] : Fin 2 → IVec S16 32) a x).toNat < S320x128.size a) ∧
  (∀ (k0_h7 : k0_cond7 v14 k0_t6 = 1#1), ∀ a x, ((![v99, v137] : Fin 2 → IVec S16 32) a x).toNat < S320x128.size a)
theorem k0_idx335_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v100, v137] : Fin 2 → IVec S16 32) a x).toNat < S16x128.size a := fun v14 k0_t6 v99 v100 v137 k0_hw70 k0_h7 => k0_hw70.1 k0_h7
theorem k0_idx336_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v99, v137] : Fin 2 → IVec S16 32) a x).toNat < S320x128.size a := fun v14 k0_t6 v99 v100 v137 k0_hw70 k0_h7 => k0_hw70.2.1 k0_h7
theorem k0_idx337_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v99, v137] : Fin 2 → IVec S16 32) a x).toNat < S320x128.size a := fun v14 k0_t6 v99 v100 v137 k0_hw70 k0_h7 => k0_hw70.2.2.1 k0_h7
theorem k0_idx338_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v99, v137] : Fin 2 → IVec S16 32) a x).toNat < S320x128.size a := fun v14 k0_t6 v99 v100 v137 k0_hw70 k0_h7 => k0_hw70.2.2.2.1 k0_h7
theorem k0_idx339_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v99, v137] : Fin 2 → IVec S16 32) a x).toNat < S320x128.size a := fun v14 k0_t6 v99 v100 v137 k0_hw70 k0_h7 => k0_hw70.2.2.2.2.1 k0_h7
theorem k0_idx340_inb : ∀ (v14 : BitVec 32) (k0_t6 : Fin (k0_t6_loop v14).trips) (v99 : IVec S16 32) (v100 : IVec S16 32) (v137 : IVec S16 32) (k0_hw70 : k0_chk70 v14 k0_t6 v99 v100 v137), ∀ (k0_h7 : k0_cond7 v14 k0_t6 = 1#1), ∀ a x, ((![v99, v137] : Fin 2 → IVec S16 32) a x).toNat < S320x128.size a := fun v14 k0_t6 v99 v100 v137 k0_hw70 k0_h7 => k0_hw70.2.2.2.2.2 k0_h7

def k0_chk71 (v14 : BitVec 32) (k0_t6 : Fin (k0_t6_loop v14).trips) (v99 : IVec S16 32) (v100 : IVec S16 32) (v144 : IVec S16 32) : Prop :=
  (∀ (k0_h7 : k0_cond7 v14 k0_t6 = 1#1), ∀ a x, ((![v100, v144] : Fin 2 → IVec S16 32) a x).toNat < S16x128.size a) ∧
  (∀ (k0_h7 : k0_cond7 v14 k0_t6 = 1#1), ∀ a x, ((![v99, v144] : Fin 2 → IVec S16 32) a x).toNat < S320x128.size a) ∧
  (∀ (k0_h7 : k0_cond7 v14 k0_t6 = 1#1), ∀ a x, ((![v99, v144] : Fin 2 → IVec S16 32) a x).toNat < S320x128.size a) ∧
  (∀ (k0_h7 : k0_cond7 v14 k0_t6 = 1#1), ∀ a x, ((![v99, v144] : Fin 2 → IVec S16 32) a x).toNat < S320x128.size a) ∧
  (∀ (k0_h7 : k0_cond7 v14 k0_t6 = 1#1), ∀ a x, ((![v99, v144] : Fin 2 → IVec S16 32) a x).toNat < S320x128.size a) ∧
  (∀ (k0_h7 : k0_cond7 v14 k0_t6 = 1#1), ∀ a x, ((![v99, v144] : Fin 2 → IVec S16 32) a x).toNat < S320x128.size a)
theorem k0_idx341_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v100, v144] : Fin 2 → IVec S16 32) a x).toNat < S16x128.size a := fun v14 k0_t6 v99 v100 v144 k0_hw71 k0_h7 => k0_hw71.1 k0_h7
theorem k0_idx342_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v99, v144] : Fin 2 → IVec S16 32) a x).toNat < S320x128.size a := fun v14 k0_t6 v99 v100 v144 k0_hw71 k0_h7 => k0_hw71.2.1 k0_h7
theorem k0_idx343_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v99, v144] : Fin 2 → IVec S16 32) a x).toNat < S320x128.size a := fun v14 k0_t6 v99 v100 v144 k0_hw71 k0_h7 => k0_hw71.2.2.1 k0_h7
theorem k0_idx344_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v99, v144] : Fin 2 → IVec S16 32) a x).toNat < S320x128.size a := fun v14 k0_t6 v99 v100 v144 k0_hw71 k0_h7 => k0_hw71.2.2.2.1 k0_h7
theorem k0_idx345_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v99, v144] : Fin 2 → IVec S16 32) a x).toNat < S320x128.size a := fun v14 k0_t6 v99 v100 v144 k0_hw71 k0_h7 => k0_hw71.2.2.2.2.1 k0_h7
theorem k0_idx346_inb : ∀ (v14 : BitVec 32) (k0_t6 : Fin (k0_t6_loop v14).trips) (v99 : IVec S16 32) (v100 : IVec S16 32) (v144 : IVec S16 32) (k0_hw71 : k0_chk71 v14 k0_t6 v99 v100 v144), ∀ (k0_h7 : k0_cond7 v14 k0_t6 = 1#1), ∀ a x, ((![v99, v144] : Fin 2 → IVec S16 32) a x).toNat < S320x128.size a := fun v14 k0_t6 v99 v100 v144 k0_hw71 k0_h7 => k0_hw71.2.2.2.2.2 k0_h7

def k0_chk72 (v14 : BitVec 32) (k0_t6 : Fin (k0_t6_loop v14).trips) (v99 : IVec S16 32) (v100 : IVec S16 32) (v151 : IVec S16 32) : Prop :=
  (∀ (k0_h7 : k0_cond7 v14 k0_t6 = 1#1), ∀ a x, ((![v100, v151] : Fin 2 → IVec S16 32) a x).toNat < S16x128.size a) ∧
  (∀ (k0_h7 : k0_cond7 v14 k0_t6 = 1#1), ∀ a x, ((![v99, v151] : Fin 2 → IVec S16 32) a x).toNat < S320x128.size a) ∧
  (∀ (k0_h7 : k0_cond7 v14 k0_t6 = 1#1), ∀ a x, ((![v99, v151] : Fin 2 → IVec S16 32) a x).toNat < S320x128.size a) ∧
  (∀ (k0_h7 : k0_cond7 v14 k0_t6 = 1#1), ∀ a x, ((![v99, v151] : Fin 2 → IVec S16 32) a x).toNat < S320x128.size a) ∧
  (∀ (k0_h7 : k0_cond7 v14 k0_t6 = 1#1), ∀ a x, ((![v99, v151] : Fin 2 → IVec S16 32) a x).toNat < S320x128.size a) ∧
  (∀ (k0_h7 : k0_cond7 v14 k0_t6 = 1#1), ∀ a x, ((![v99, v151] : Fin 2 → IVec S16 32) a x).toNat < S320x128.size a)
theorem k0_idx347_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v100, v151] : Fin 2 → IVec S16 32) a x).toNat < S16x128.size a := fun v14 k0_t6 v99 v100 v151 k0_hw72 k0_h7 => k0_hw72.1 k0_h7
theorem k0_idx348_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v99, v151] : Fin 2 → IVec S16 32) a x).toNat < S320x128.size a := fun v14 k0_t6 v99 v100 v151 k0_hw72 k0_h7 => k0_hw72.2.1 k0_h7
theorem k0_idx349_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v99, v151] : Fin 2 → IVec S16 32) a x).toNat < S320x128.size a := fun v14 k0_t6 v99 v100 v151 k0_hw72 k0_h7 => k0_hw72.2.2.1 k0_h7
theorem k0_idx350_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v99, v151] : Fin 2 → IVec S16 32) a x).toNat < S320x128.size a := fun v14 k0_t6 v99 v100 v151 k0_hw72 k0_h7 => k0_hw72.2.2.2.1 k0_h7
theorem k0_idx351_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v99, v151] : Fin 2 → IVec S16 32) a x).toNat < S320x128.size a := fun v14 k0_t6 v99 v100 v151 k0_hw72 k0_h7 => k0_hw72.2.2.2.2.1 k0_h7
theorem k0_idx352_inb : ∀ (v14 : BitVec 32) (k0_t6 : Fin (k0_t6_loop v14).trips) (v99 : IVec S16 32) (v100 : IVec S16 32) (v151 : IVec S16 32) (k0_hw72 : k0_chk72 v14 k0_t6 v99 v100 v151), ∀ (k0_h7 : k0_cond7 v14 k0_t6 = 1#1), ∀ a x, ((![v99, v151] : Fin 2 → IVec S16 32) a x).toNat < S320x128.size a := fun v14 k0_t6 v99 v100 v151 k0_hw72 k0_h7 => k0_hw72.2.2.2.2.2 k0_h7

def k0_chk73 (v14 : BitVec 32) (k0_t6 : Fin (k0_t6_loop v14).trips) (v99 : IVec S16 32) : Prop :=
  (∀ (k0_h7 : k0_cond7 v14 k0_t6 = 1#1), ∀ a x, ((![v99] : Fin 1 → IVec S16 32) a x).toNat < S320.size a)
theorem k0_idx353_inb : ∀ (v14 : BitVec 32) (k0_t6 : Fin (k0_t6_loop v14).trips) (v99 : IVec S16 32) (k0_hw73 : k0_chk73 v14 k0_t6 v99), ∀ (k0_h7 : k0_cond7 v14 k0_t6 = 1#1), ∀ a x, ((![v99] : Fin 1 → IVec S16 32) a x).toNat < S320.size a := fun v14 k0_t6 v99 k0_hw73 k0_h7 => k0_hw73 k0_h7
def k0_cond8 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c7_i32 : BitVec 32 := 7#32
  let v70 : BitVec 1 := Scalar.cmpi .sgt v45 c7_i32
  let v71 : BitVec 32 := Scalar.extui v70
  let c0_i32_50 : BitVec 32 := 0#32
  let v72 : BitVec 1 := Scalar.cmpi .ne v71 c0_i32_50
  v72

def k0_chk74 (v14 : BitVec 32) (k0_t6 : Fin (k0_t6_loop v14).trips) (v98 : IVec S16 32) : Prop :=
  (∀ (k0_h8 : k0_cond8 v14 k0_t6 = 1#1), ∀ a x, ((![v98] : Fin 1 → IVec S16 32) a x).toNat < S528.size a)
theorem k0_idx354_inb : ∀ (v14 : BitVec 32) (k0_t6 : Fin (k0_t6_loop v14).trips) (v98 : IVec S16 32) (k0_hw74 : k0_chk74 v14 k0_t6 v98), ∀ (k0_h8 : k0_cond8 v14 k0_t6 = 1#1), ∀ a x, ((![v98] : Fin 1 → IVec S16 32) a x).toNat < S528.size a := fun v14 k0_t6 v98 k0_hw74 k0_h8 => k0_hw74 k0_h8

def k0_chk75 (v14 : BitVec 32) (k0_t6 : Fin (k0_t6_loop v14).trips) (v99 : IVec S16 32) (v100 : IVec S16 32) (v102 : IVec S16 32) : Prop :=
  (∀ (k0_h8 : k0_cond8 v14 k0_t6 = 1#1), ∀ a x, ((![v100, v102] : Fin 2 → IVec S16 32) a x).toNat < S16x128.size a) ∧
  (∀ (k0_h8 : k0_cond8 v14 k0_t6 = 1#1), ∀ a x, ((![v99, v102] : Fin 2 → IVec S16 32) a x).toNat < S320x128.size a) ∧
  (∀ (k0_h8 : k0_cond8 v14 k0_t6 = 1#1), ∀ a x, ((![v99, v102] : Fin 2 → IVec S16 32) a x).toNat < S320x128.size a) ∧
  (∀ (k0_h8 : k0_cond8 v14 k0_t6 = 1#1), ∀ a x, ((![v99, v102] : Fin 2 → IVec S16 32) a x).toNat < S320x128.size a) ∧
  (∀ (k0_h8 : k0_cond8 v14 k0_t6 = 1#1), ∀ a x, ((![v99, v102] : Fin 2 → IVec S16 32) a x).toNat < S320x128.size a) ∧
  (∀ (k0_h8 : k0_cond8 v14 k0_t6 = 1#1), ∀ a x, ((![v99, v102] : Fin 2 → IVec S16 32) a x).toNat < S320x128.size a)
theorem k0_idx355_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v100, v102] : Fin 2 → IVec S16 32) a x).toNat < S16x128.size a := fun v14 k0_t6 v99 v100 v102 k0_hw75 k0_h8 => k0_hw75.1 k0_h8
theorem k0_idx356_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v99, v102] : Fin 2 → IVec S16 32) a x).toNat < S320x128.size a := fun v14 k0_t6 v99 v100 v102 k0_hw75 k0_h8 => k0_hw75.2.1 k0_h8
theorem k0_idx357_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v99, v102] : Fin 2 → IVec S16 32) a x).toNat < S320x128.size a := fun v14 k0_t6 v99 v100 v102 k0_hw75 k0_h8 => k0_hw75.2.2.1 k0_h8
theorem k0_idx358_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v99, v102] : Fin 2 → IVec S16 32) a x).toNat < S320x128.size a := fun v14 k0_t6 v99 v100 v102 k0_hw75 k0_h8 => k0_hw75.2.2.2.1 k0_h8
theorem k0_idx359_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v99, v102] : Fin 2 → IVec S16 32) a x).toNat < S320x128.size a := fun v14 k0_t6 v99 v100 v102 k0_hw75 k0_h8 => k0_hw75.2.2.2.2.1 k0_h8
theorem k0_idx360_inb : ∀ (v14 : BitVec 32) (k0_t6 : Fin (k0_t6_loop v14).trips) (v99 : IVec S16 32) (v100 : IVec S16 32) (v102 : IVec S16 32) (k0_hw75 : k0_chk75 v14 k0_t6 v99 v100 v102), ∀ (k0_h8 : k0_cond8 v14 k0_t6 = 1#1), ∀ a x, ((![v99, v102] : Fin 2 → IVec S16 32) a x).toNat < S320x128.size a := fun v14 k0_t6 v99 v100 v102 k0_hw75 k0_h8 => k0_hw75.2.2.2.2.2 k0_h8

def k0_chk76 (v14 : BitVec 32) (k0_t6 : Fin (k0_t6_loop v14).trips) (v99 : IVec S16 32) (v100 : IVec S16 32) (v109 : IVec S16 32) : Prop :=
  (∀ (k0_h8 : k0_cond8 v14 k0_t6 = 1#1), ∀ a x, ((![v100, v109] : Fin 2 → IVec S16 32) a x).toNat < S16x128.size a) ∧
  (∀ (k0_h8 : k0_cond8 v14 k0_t6 = 1#1), ∀ a x, ((![v99, v109] : Fin 2 → IVec S16 32) a x).toNat < S320x128.size a) ∧
  (∀ (k0_h8 : k0_cond8 v14 k0_t6 = 1#1), ∀ a x, ((![v99, v109] : Fin 2 → IVec S16 32) a x).toNat < S320x128.size a) ∧
  (∀ (k0_h8 : k0_cond8 v14 k0_t6 = 1#1), ∀ a x, ((![v99, v109] : Fin 2 → IVec S16 32) a x).toNat < S320x128.size a) ∧
  (∀ (k0_h8 : k0_cond8 v14 k0_t6 = 1#1), ∀ a x, ((![v99, v109] : Fin 2 → IVec S16 32) a x).toNat < S320x128.size a) ∧
  (∀ (k0_h8 : k0_cond8 v14 k0_t6 = 1#1), ∀ a x, ((![v99, v109] : Fin 2 → IVec S16 32) a x).toNat < S320x128.size a)
theorem k0_idx361_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v100, v109] : Fin 2 → IVec S16 32) a x).toNat < S16x128.size a := fun v14 k0_t6 v99 v100 v109 k0_hw76 k0_h8 => k0_hw76.1 k0_h8
theorem k0_idx362_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v99, v109] : Fin 2 → IVec S16 32) a x).toNat < S320x128.size a := fun v14 k0_t6 v99 v100 v109 k0_hw76 k0_h8 => k0_hw76.2.1 k0_h8
theorem k0_idx363_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v99, v109] : Fin 2 → IVec S16 32) a x).toNat < S320x128.size a := fun v14 k0_t6 v99 v100 v109 k0_hw76 k0_h8 => k0_hw76.2.2.1 k0_h8
theorem k0_idx364_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v99, v109] : Fin 2 → IVec S16 32) a x).toNat < S320x128.size a := fun v14 k0_t6 v99 v100 v109 k0_hw76 k0_h8 => k0_hw76.2.2.2.1 k0_h8
theorem k0_idx365_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v99, v109] : Fin 2 → IVec S16 32) a x).toNat < S320x128.size a := fun v14 k0_t6 v99 v100 v109 k0_hw76 k0_h8 => k0_hw76.2.2.2.2.1 k0_h8
theorem k0_idx366_inb : ∀ (v14 : BitVec 32) (k0_t6 : Fin (k0_t6_loop v14).trips) (v99 : IVec S16 32) (v100 : IVec S16 32) (v109 : IVec S16 32) (k0_hw76 : k0_chk76 v14 k0_t6 v99 v100 v109), ∀ (k0_h8 : k0_cond8 v14 k0_t6 = 1#1), ∀ a x, ((![v99, v109] : Fin 2 → IVec S16 32) a x).toNat < S320x128.size a := fun v14 k0_t6 v99 v100 v109 k0_hw76 k0_h8 => k0_hw76.2.2.2.2.2 k0_h8

def k0_chk77 (v14 : BitVec 32) (k0_t6 : Fin (k0_t6_loop v14).trips) (v99 : IVec S16 32) (v100 : IVec S16 32) (v116 : IVec S16 32) : Prop :=
  (∀ (k0_h8 : k0_cond8 v14 k0_t6 = 1#1), ∀ a x, ((![v100, v116] : Fin 2 → IVec S16 32) a x).toNat < S16x128.size a) ∧
  (∀ (k0_h8 : k0_cond8 v14 k0_t6 = 1#1), ∀ a x, ((![v99, v116] : Fin 2 → IVec S16 32) a x).toNat < S320x128.size a) ∧
  (∀ (k0_h8 : k0_cond8 v14 k0_t6 = 1#1), ∀ a x, ((![v99, v116] : Fin 2 → IVec S16 32) a x).toNat < S320x128.size a) ∧
  (∀ (k0_h8 : k0_cond8 v14 k0_t6 = 1#1), ∀ a x, ((![v99, v116] : Fin 2 → IVec S16 32) a x).toNat < S320x128.size a) ∧
  (∀ (k0_h8 : k0_cond8 v14 k0_t6 = 1#1), ∀ a x, ((![v99, v116] : Fin 2 → IVec S16 32) a x).toNat < S320x128.size a) ∧
  (∀ (k0_h8 : k0_cond8 v14 k0_t6 = 1#1), ∀ a x, ((![v99, v116] : Fin 2 → IVec S16 32) a x).toNat < S320x128.size a)
theorem k0_idx367_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v100, v116] : Fin 2 → IVec S16 32) a x).toNat < S16x128.size a := fun v14 k0_t6 v99 v100 v116 k0_hw77 k0_h8 => k0_hw77.1 k0_h8
theorem k0_idx368_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v99, v116] : Fin 2 → IVec S16 32) a x).toNat < S320x128.size a := fun v14 k0_t6 v99 v100 v116 k0_hw77 k0_h8 => k0_hw77.2.1 k0_h8
theorem k0_idx369_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v99, v116] : Fin 2 → IVec S16 32) a x).toNat < S320x128.size a := fun v14 k0_t6 v99 v100 v116 k0_hw77 k0_h8 => k0_hw77.2.2.1 k0_h8
theorem k0_idx370_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v99, v116] : Fin 2 → IVec S16 32) a x).toNat < S320x128.size a := fun v14 k0_t6 v99 v100 v116 k0_hw77 k0_h8 => k0_hw77.2.2.2.1 k0_h8
theorem k0_idx371_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v99, v116] : Fin 2 → IVec S16 32) a x).toNat < S320x128.size a := fun v14 k0_t6 v99 v100 v116 k0_hw77 k0_h8 => k0_hw77.2.2.2.2.1 k0_h8
theorem k0_idx372_inb : ∀ (v14 : BitVec 32) (k0_t6 : Fin (k0_t6_loop v14).trips) (v99 : IVec S16 32) (v100 : IVec S16 32) (v116 : IVec S16 32) (k0_hw77 : k0_chk77 v14 k0_t6 v99 v100 v116), ∀ (k0_h8 : k0_cond8 v14 k0_t6 = 1#1), ∀ a x, ((![v99, v116] : Fin 2 → IVec S16 32) a x).toNat < S320x128.size a := fun v14 k0_t6 v99 v100 v116 k0_hw77 k0_h8 => k0_hw77.2.2.2.2.2 k0_h8

def k0_chk78 (v14 : BitVec 32) (k0_t6 : Fin (k0_t6_loop v14).trips) (v99 : IVec S16 32) (v100 : IVec S16 32) (v123 : IVec S16 32) : Prop :=
  (∀ (k0_h8 : k0_cond8 v14 k0_t6 = 1#1), ∀ a x, ((![v100, v123] : Fin 2 → IVec S16 32) a x).toNat < S16x128.size a) ∧
  (∀ (k0_h8 : k0_cond8 v14 k0_t6 = 1#1), ∀ a x, ((![v99, v123] : Fin 2 → IVec S16 32) a x).toNat < S320x128.size a) ∧
  (∀ (k0_h8 : k0_cond8 v14 k0_t6 = 1#1), ∀ a x, ((![v99, v123] : Fin 2 → IVec S16 32) a x).toNat < S320x128.size a) ∧
  (∀ (k0_h8 : k0_cond8 v14 k0_t6 = 1#1), ∀ a x, ((![v99, v123] : Fin 2 → IVec S16 32) a x).toNat < S320x128.size a) ∧
  (∀ (k0_h8 : k0_cond8 v14 k0_t6 = 1#1), ∀ a x, ((![v99, v123] : Fin 2 → IVec S16 32) a x).toNat < S320x128.size a) ∧
  (∀ (k0_h8 : k0_cond8 v14 k0_t6 = 1#1), ∀ a x, ((![v99, v123] : Fin 2 → IVec S16 32) a x).toNat < S320x128.size a)
theorem k0_idx373_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v100, v123] : Fin 2 → IVec S16 32) a x).toNat < S16x128.size a := fun v14 k0_t6 v99 v100 v123 k0_hw78 k0_h8 => k0_hw78.1 k0_h8
theorem k0_idx374_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v99, v123] : Fin 2 → IVec S16 32) a x).toNat < S320x128.size a := fun v14 k0_t6 v99 v100 v123 k0_hw78 k0_h8 => k0_hw78.2.1 k0_h8
theorem k0_idx375_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v99, v123] : Fin 2 → IVec S16 32) a x).toNat < S320x128.size a := fun v14 k0_t6 v99 v100 v123 k0_hw78 k0_h8 => k0_hw78.2.2.1 k0_h8
theorem k0_idx376_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v99, v123] : Fin 2 → IVec S16 32) a x).toNat < S320x128.size a := fun v14 k0_t6 v99 v100 v123 k0_hw78 k0_h8 => k0_hw78.2.2.2.1 k0_h8
theorem k0_idx377_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v99, v123] : Fin 2 → IVec S16 32) a x).toNat < S320x128.size a := fun v14 k0_t6 v99 v100 v123 k0_hw78 k0_h8 => k0_hw78.2.2.2.2.1 k0_h8
theorem k0_idx378_inb : ∀ (v14 : BitVec 32) (k0_t6 : Fin (k0_t6_loop v14).trips) (v99 : IVec S16 32) (v100 : IVec S16 32) (v123 : IVec S16 32) (k0_hw78 : k0_chk78 v14 k0_t6 v99 v100 v123), ∀ (k0_h8 : k0_cond8 v14 k0_t6 = 1#1), ∀ a x, ((![v99, v123] : Fin 2 → IVec S16 32) a x).toNat < S320x128.size a := fun v14 k0_t6 v99 v100 v123 k0_hw78 k0_h8 => k0_hw78.2.2.2.2.2 k0_h8

def k0_chk79 (v14 : BitVec 32) (k0_t6 : Fin (k0_t6_loop v14).trips) (v99 : IVec S16 32) (v100 : IVec S16 32) (v130 : IVec S16 32) : Prop :=
  (∀ (k0_h8 : k0_cond8 v14 k0_t6 = 1#1), ∀ a x, ((![v100, v130] : Fin 2 → IVec S16 32) a x).toNat < S16x128.size a) ∧
  (∀ (k0_h8 : k0_cond8 v14 k0_t6 = 1#1), ∀ a x, ((![v99, v130] : Fin 2 → IVec S16 32) a x).toNat < S320x128.size a) ∧
  (∀ (k0_h8 : k0_cond8 v14 k0_t6 = 1#1), ∀ a x, ((![v99, v130] : Fin 2 → IVec S16 32) a x).toNat < S320x128.size a) ∧
  (∀ (k0_h8 : k0_cond8 v14 k0_t6 = 1#1), ∀ a x, ((![v99, v130] : Fin 2 → IVec S16 32) a x).toNat < S320x128.size a) ∧
  (∀ (k0_h8 : k0_cond8 v14 k0_t6 = 1#1), ∀ a x, ((![v99, v130] : Fin 2 → IVec S16 32) a x).toNat < S320x128.size a) ∧
  (∀ (k0_h8 : k0_cond8 v14 k0_t6 = 1#1), ∀ a x, ((![v99, v130] : Fin 2 → IVec S16 32) a x).toNat < S320x128.size a)
theorem k0_idx379_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v100, v130] : Fin 2 → IVec S16 32) a x).toNat < S16x128.size a := fun v14 k0_t6 v99 v100 v130 k0_hw79 k0_h8 => k0_hw79.1 k0_h8
theorem k0_idx380_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v99, v130] : Fin 2 → IVec S16 32) a x).toNat < S320x128.size a := fun v14 k0_t6 v99 v100 v130 k0_hw79 k0_h8 => k0_hw79.2.1 k0_h8
theorem k0_idx381_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v99, v130] : Fin 2 → IVec S16 32) a x).toNat < S320x128.size a := fun v14 k0_t6 v99 v100 v130 k0_hw79 k0_h8 => k0_hw79.2.2.1 k0_h8
theorem k0_idx382_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v99, v130] : Fin 2 → IVec S16 32) a x).toNat < S320x128.size a := fun v14 k0_t6 v99 v100 v130 k0_hw79 k0_h8 => k0_hw79.2.2.2.1 k0_h8
theorem k0_idx383_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v99, v130] : Fin 2 → IVec S16 32) a x).toNat < S320x128.size a := fun v14 k0_t6 v99 v100 v130 k0_hw79 k0_h8 => k0_hw79.2.2.2.2.1 k0_h8
theorem k0_idx384_inb : ∀ (v14 : BitVec 32) (k0_t6 : Fin (k0_t6_loop v14).trips) (v99 : IVec S16 32) (v100 : IVec S16 32) (v130 : IVec S16 32) (k0_hw79 : k0_chk79 v14 k0_t6 v99 v100 v130), ∀ (k0_h8 : k0_cond8 v14 k0_t6 = 1#1), ∀ a x, ((![v99, v130] : Fin 2 → IVec S16 32) a x).toNat < S320x128.size a := fun v14 k0_t6 v99 v100 v130 k0_hw79 k0_h8 => k0_hw79.2.2.2.2.2 k0_h8

def k0_chk80 (v14 : BitVec 32) (k0_t6 : Fin (k0_t6_loop v14).trips) (v99 : IVec S16 32) (v100 : IVec S16 32) (v137 : IVec S16 32) : Prop :=
  (∀ (k0_h8 : k0_cond8 v14 k0_t6 = 1#1), ∀ a x, ((![v100, v137] : Fin 2 → IVec S16 32) a x).toNat < S16x128.size a) ∧
  (∀ (k0_h8 : k0_cond8 v14 k0_t6 = 1#1), ∀ a x, ((![v99, v137] : Fin 2 → IVec S16 32) a x).toNat < S320x128.size a) ∧
  (∀ (k0_h8 : k0_cond8 v14 k0_t6 = 1#1), ∀ a x, ((![v99, v137] : Fin 2 → IVec S16 32) a x).toNat < S320x128.size a) ∧
  (∀ (k0_h8 : k0_cond8 v14 k0_t6 = 1#1), ∀ a x, ((![v99, v137] : Fin 2 → IVec S16 32) a x).toNat < S320x128.size a) ∧
  (∀ (k0_h8 : k0_cond8 v14 k0_t6 = 1#1), ∀ a x, ((![v99, v137] : Fin 2 → IVec S16 32) a x).toNat < S320x128.size a) ∧
  (∀ (k0_h8 : k0_cond8 v14 k0_t6 = 1#1), ∀ a x, ((![v99, v137] : Fin 2 → IVec S16 32) a x).toNat < S320x128.size a)
theorem k0_idx385_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v100, v137] : Fin 2 → IVec S16 32) a x).toNat < S16x128.size a := fun v14 k0_t6 v99 v100 v137 k0_hw80 k0_h8 => k0_hw80.1 k0_h8
theorem k0_idx386_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v99, v137] : Fin 2 → IVec S16 32) a x).toNat < S320x128.size a := fun v14 k0_t6 v99 v100 v137 k0_hw80 k0_h8 => k0_hw80.2.1 k0_h8
theorem k0_idx387_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v99, v137] : Fin 2 → IVec S16 32) a x).toNat < S320x128.size a := fun v14 k0_t6 v99 v100 v137 k0_hw80 k0_h8 => k0_hw80.2.2.1 k0_h8
theorem k0_idx388_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v99, v137] : Fin 2 → IVec S16 32) a x).toNat < S320x128.size a := fun v14 k0_t6 v99 v100 v137 k0_hw80 k0_h8 => k0_hw80.2.2.2.1 k0_h8
theorem k0_idx389_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v99, v137] : Fin 2 → IVec S16 32) a x).toNat < S320x128.size a := fun v14 k0_t6 v99 v100 v137 k0_hw80 k0_h8 => k0_hw80.2.2.2.2.1 k0_h8
theorem k0_idx390_inb : ∀ (v14 : BitVec 32) (k0_t6 : Fin (k0_t6_loop v14).trips) (v99 : IVec S16 32) (v100 : IVec S16 32) (v137 : IVec S16 32) (k0_hw80 : k0_chk80 v14 k0_t6 v99 v100 v137), ∀ (k0_h8 : k0_cond8 v14 k0_t6 = 1#1), ∀ a x, ((![v99, v137] : Fin 2 → IVec S16 32) a x).toNat < S320x128.size a := fun v14 k0_t6 v99 v100 v137 k0_hw80 k0_h8 => k0_hw80.2.2.2.2.2 k0_h8

def k0_chk81 (v14 : BitVec 32) (k0_t6 : Fin (k0_t6_loop v14).trips) (v99 : IVec S16 32) (v100 : IVec S16 32) (v144 : IVec S16 32) : Prop :=
  (∀ (k0_h8 : k0_cond8 v14 k0_t6 = 1#1), ∀ a x, ((![v100, v144] : Fin 2 → IVec S16 32) a x).toNat < S16x128.size a) ∧
  (∀ (k0_h8 : k0_cond8 v14 k0_t6 = 1#1), ∀ a x, ((![v99, v144] : Fin 2 → IVec S16 32) a x).toNat < S320x128.size a) ∧
  (∀ (k0_h8 : k0_cond8 v14 k0_t6 = 1#1), ∀ a x, ((![v99, v144] : Fin 2 → IVec S16 32) a x).toNat < S320x128.size a) ∧
  (∀ (k0_h8 : k0_cond8 v14 k0_t6 = 1#1), ∀ a x, ((![v99, v144] : Fin 2 → IVec S16 32) a x).toNat < S320x128.size a) ∧
  (∀ (k0_h8 : k0_cond8 v14 k0_t6 = 1#1), ∀ a x, ((![v99, v144] : Fin 2 → IVec S16 32) a x).toNat < S320x128.size a) ∧
  (∀ (k0_h8 : k0_cond8 v14 k0_t6 = 1#1), ∀ a x, ((![v99, v144] : Fin 2 → IVec S16 32) a x).toNat < S320x128.size a)
theorem k0_idx391_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v100, v144] : Fin 2 → IVec S16 32) a x).toNat < S16x128.size a := fun v14 k0_t6 v99 v100 v144 k0_hw81 k0_h8 => k0_hw81.1 k0_h8
theorem k0_idx392_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v99, v144] : Fin 2 → IVec S16 32) a x).toNat < S320x128.size a := fun v14 k0_t6 v99 v100 v144 k0_hw81 k0_h8 => k0_hw81.2.1 k0_h8
theorem k0_idx393_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v99, v144] : Fin 2 → IVec S16 32) a x).toNat < S320x128.size a := fun v14 k0_t6 v99 v100 v144 k0_hw81 k0_h8 => k0_hw81.2.2.1 k0_h8
theorem k0_idx394_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v99, v144] : Fin 2 → IVec S16 32) a x).toNat < S320x128.size a := fun v14 k0_t6 v99 v100 v144 k0_hw81 k0_h8 => k0_hw81.2.2.2.1 k0_h8
theorem k0_idx395_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v99, v144] : Fin 2 → IVec S16 32) a x).toNat < S320x128.size a := fun v14 k0_t6 v99 v100 v144 k0_hw81 k0_h8 => k0_hw81.2.2.2.2.1 k0_h8
theorem k0_idx396_inb : ∀ (v14 : BitVec 32) (k0_t6 : Fin (k0_t6_loop v14).trips) (v99 : IVec S16 32) (v100 : IVec S16 32) (v144 : IVec S16 32) (k0_hw81 : k0_chk81 v14 k0_t6 v99 v100 v144), ∀ (k0_h8 : k0_cond8 v14 k0_t6 = 1#1), ∀ a x, ((![v99, v144] : Fin 2 → IVec S16 32) a x).toNat < S320x128.size a := fun v14 k0_t6 v99 v100 v144 k0_hw81 k0_h8 => k0_hw81.2.2.2.2.2 k0_h8

def k0_chk82 (v14 : BitVec 32) (k0_t6 : Fin (k0_t6_loop v14).trips) (v99 : IVec S16 32) (v100 : IVec S16 32) (v151 : IVec S16 32) : Prop :=
  (∀ (k0_h8 : k0_cond8 v14 k0_t6 = 1#1), ∀ a x, ((![v100, v151] : Fin 2 → IVec S16 32) a x).toNat < S16x128.size a) ∧
  (∀ (k0_h8 : k0_cond8 v14 k0_t6 = 1#1), ∀ a x, ((![v99, v151] : Fin 2 → IVec S16 32) a x).toNat < S320x128.size a) ∧
  (∀ (k0_h8 : k0_cond8 v14 k0_t6 = 1#1), ∀ a x, ((![v99, v151] : Fin 2 → IVec S16 32) a x).toNat < S320x128.size a) ∧
  (∀ (k0_h8 : k0_cond8 v14 k0_t6 = 1#1), ∀ a x, ((![v99, v151] : Fin 2 → IVec S16 32) a x).toNat < S320x128.size a) ∧
  (∀ (k0_h8 : k0_cond8 v14 k0_t6 = 1#1), ∀ a x, ((![v99, v151] : Fin 2 → IVec S16 32) a x).toNat < S320x128.size a) ∧
  (∀ (k0_h8 : k0_cond8 v14 k0_t6 = 1#1), ∀ a x, ((![v99, v151] : Fin 2 → IVec S16 32) a x).toNat < S320x128.size a)
theorem k0_idx397_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v100, v151] : Fin 2 → IVec S16 32) a x).toNat < S16x128.size a := fun v14 k0_t6 v99 v100 v151 k0_hw82 k0_h8 => k0_hw82.1 k0_h8
theorem k0_idx398_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v99, v151] : Fin 2 → IVec S16 32) a x).toNat < S320x128.size a := fun v14 k0_t6 v99 v100 v151 k0_hw82 k0_h8 => k0_hw82.2.1 k0_h8
theorem k0_idx399_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v99, v151] : Fin 2 → IVec S16 32) a x).toNat < S320x128.size a := fun v14 k0_t6 v99 v100 v151 k0_hw82 k0_h8 => k0_hw82.2.2.1 k0_h8
theorem k0_idx400_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v99, v151] : Fin 2 → IVec S16 32) a x).toNat < S320x128.size a := fun v14 k0_t6 v99 v100 v151 k0_hw82 k0_h8 => k0_hw82.2.2.2.1 k0_h8
theorem k0_idx401_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v99, v151] : Fin 2 → IVec S16 32) a x).toNat < S320x128.size a := fun v14 k0_t6 v99 v100 v151 k0_hw82 k0_h8 => k0_hw82.2.2.2.2.1 k0_h8
theorem k0_idx402_inb : ∀ (v14 : BitVec 32) (k0_t6 : Fin (k0_t6_loop v14).trips) (v99 : IVec S16 32) (v100 : IVec S16 32) (v151 : IVec S16 32) (k0_hw82 : k0_chk82 v14 k0_t6 v99 v100 v151), ∀ (k0_h8 : k0_cond8 v14 k0_t6 = 1#1), ∀ a x, ((![v99, v151] : Fin 2 → IVec S16 32) a x).toNat < S320x128.size a := fun v14 k0_t6 v99 v100 v151 k0_hw82 k0_h8 => k0_hw82.2.2.2.2.2 k0_h8

def k0_chk83 (v14 : BitVec 32) (k0_t6 : Fin (k0_t6_loop v14).trips) (v99 : IVec S16 32) : Prop :=
  (∀ (k0_h8 : k0_cond8 v14 k0_t6 = 1#1), ∀ a x, ((![v99] : Fin 1 → IVec S16 32) a x).toNat < S320.size a)
theorem k0_idx403_inb : ∀ (v14 : BitVec 32) (k0_t6 : Fin (k0_t6_loop v14).trips) (v99 : IVec S16 32) (k0_hw83 : k0_chk83 v14 k0_t6 v99), ∀ (k0_h8 : k0_cond8 v14 k0_t6 = 1#1), ∀ a x, ((![v99] : Fin 1 → IVec S16 32) a x).toNat < S320.size a := fun v14 k0_t6 v99 k0_hw83 k0_h8 => k0_hw83 k0_h8
def k0_cond9 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c8_i32 : BitVec 32 := 8#32
  let v73 : BitVec 1 := Scalar.cmpi .sgt v45 c8_i32
  let v74 : BitVec 32 := Scalar.extui v73
  let c0_i32_51 : BitVec 32 := 0#32
  let v75 : BitVec 1 := Scalar.cmpi .ne v74 c0_i32_51
  v75

def k0_chk84 (v14 : BitVec 32) (k0_t6 : Fin (k0_t6_loop v14).trips) (v98 : IVec S16 32) : Prop :=
  (∀ (k0_h9 : k0_cond9 v14 k0_t6 = 1#1), ∀ a x, ((![v98] : Fin 1 → IVec S16 32) a x).toNat < S528.size a)
theorem k0_idx404_inb : ∀ (v14 : BitVec 32) (k0_t6 : Fin (k0_t6_loop v14).trips) (v98 : IVec S16 32) (k0_hw84 : k0_chk84 v14 k0_t6 v98), ∀ (k0_h9 : k0_cond9 v14 k0_t6 = 1#1), ∀ a x, ((![v98] : Fin 1 → IVec S16 32) a x).toNat < S528.size a := fun v14 k0_t6 v98 k0_hw84 k0_h9 => k0_hw84 k0_h9

def k0_chk85 (v14 : BitVec 32) (k0_t6 : Fin (k0_t6_loop v14).trips) (v99 : IVec S16 32) (v100 : IVec S16 32) (v102 : IVec S16 32) : Prop :=
  (∀ (k0_h9 : k0_cond9 v14 k0_t6 = 1#1), ∀ a x, ((![v100, v102] : Fin 2 → IVec S16 32) a x).toNat < S16x128.size a) ∧
  (∀ (k0_h9 : k0_cond9 v14 k0_t6 = 1#1), ∀ a x, ((![v99, v102] : Fin 2 → IVec S16 32) a x).toNat < S320x128.size a) ∧
  (∀ (k0_h9 : k0_cond9 v14 k0_t6 = 1#1), ∀ a x, ((![v99, v102] : Fin 2 → IVec S16 32) a x).toNat < S320x128.size a) ∧
  (∀ (k0_h9 : k0_cond9 v14 k0_t6 = 1#1), ∀ a x, ((![v99, v102] : Fin 2 → IVec S16 32) a x).toNat < S320x128.size a) ∧
  (∀ (k0_h9 : k0_cond9 v14 k0_t6 = 1#1), ∀ a x, ((![v99, v102] : Fin 2 → IVec S16 32) a x).toNat < S320x128.size a) ∧
  (∀ (k0_h9 : k0_cond9 v14 k0_t6 = 1#1), ∀ a x, ((![v99, v102] : Fin 2 → IVec S16 32) a x).toNat < S320x128.size a)
theorem k0_idx405_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v100, v102] : Fin 2 → IVec S16 32) a x).toNat < S16x128.size a := fun v14 k0_t6 v99 v100 v102 k0_hw85 k0_h9 => k0_hw85.1 k0_h9
theorem k0_idx406_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v99, v102] : Fin 2 → IVec S16 32) a x).toNat < S320x128.size a := fun v14 k0_t6 v99 v100 v102 k0_hw85 k0_h9 => k0_hw85.2.1 k0_h9
theorem k0_idx407_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v99, v102] : Fin 2 → IVec S16 32) a x).toNat < S320x128.size a := fun v14 k0_t6 v99 v100 v102 k0_hw85 k0_h9 => k0_hw85.2.2.1 k0_h9
theorem k0_idx408_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v99, v102] : Fin 2 → IVec S16 32) a x).toNat < S320x128.size a := fun v14 k0_t6 v99 v100 v102 k0_hw85 k0_h9 => k0_hw85.2.2.2.1 k0_h9
theorem k0_idx409_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v99, v102] : Fin 2 → IVec S16 32) a x).toNat < S320x128.size a := fun v14 k0_t6 v99 v100 v102 k0_hw85 k0_h9 => k0_hw85.2.2.2.2.1 k0_h9
theorem k0_idx410_inb : ∀ (v14 : BitVec 32) (k0_t6 : Fin (k0_t6_loop v14).trips) (v99 : IVec S16 32) (v100 : IVec S16 32) (v102 : IVec S16 32) (k0_hw85 : k0_chk85 v14 k0_t6 v99 v100 v102), ∀ (k0_h9 : k0_cond9 v14 k0_t6 = 1#1), ∀ a x, ((![v99, v102] : Fin 2 → IVec S16 32) a x).toNat < S320x128.size a := fun v14 k0_t6 v99 v100 v102 k0_hw85 k0_h9 => k0_hw85.2.2.2.2.2 k0_h9

def k0_chk86 (v14 : BitVec 32) (k0_t6 : Fin (k0_t6_loop v14).trips) (v99 : IVec S16 32) (v100 : IVec S16 32) (v109 : IVec S16 32) : Prop :=
  (∀ (k0_h9 : k0_cond9 v14 k0_t6 = 1#1), ∀ a x, ((![v100, v109] : Fin 2 → IVec S16 32) a x).toNat < S16x128.size a) ∧
  (∀ (k0_h9 : k0_cond9 v14 k0_t6 = 1#1), ∀ a x, ((![v99, v109] : Fin 2 → IVec S16 32) a x).toNat < S320x128.size a) ∧
  (∀ (k0_h9 : k0_cond9 v14 k0_t6 = 1#1), ∀ a x, ((![v99, v109] : Fin 2 → IVec S16 32) a x).toNat < S320x128.size a) ∧
  (∀ (k0_h9 : k0_cond9 v14 k0_t6 = 1#1), ∀ a x, ((![v99, v109] : Fin 2 → IVec S16 32) a x).toNat < S320x128.size a) ∧
  (∀ (k0_h9 : k0_cond9 v14 k0_t6 = 1#1), ∀ a x, ((![v99, v109] : Fin 2 → IVec S16 32) a x).toNat < S320x128.size a) ∧
  (∀ (k0_h9 : k0_cond9 v14 k0_t6 = 1#1), ∀ a x, ((![v99, v109] : Fin 2 → IVec S16 32) a x).toNat < S320x128.size a)
theorem k0_idx411_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v100, v109] : Fin 2 → IVec S16 32) a x).toNat < S16x128.size a := fun v14 k0_t6 v99 v100 v109 k0_hw86 k0_h9 => k0_hw86.1 k0_h9
theorem k0_idx412_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v99, v109] : Fin 2 → IVec S16 32) a x).toNat < S320x128.size a := fun v14 k0_t6 v99 v100 v109 k0_hw86 k0_h9 => k0_hw86.2.1 k0_h9
theorem k0_idx413_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v99, v109] : Fin 2 → IVec S16 32) a x).toNat < S320x128.size a := fun v14 k0_t6 v99 v100 v109 k0_hw86 k0_h9 => k0_hw86.2.2.1 k0_h9
theorem k0_idx414_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v99, v109] : Fin 2 → IVec S16 32) a x).toNat < S320x128.size a := fun v14 k0_t6 v99 v100 v109 k0_hw86 k0_h9 => k0_hw86.2.2.2.1 k0_h9
theorem k0_idx415_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v99, v109] : Fin 2 → IVec S16 32) a x).toNat < S320x128.size a := fun v14 k0_t6 v99 v100 v109 k0_hw86 k0_h9 => k0_hw86.2.2.2.2.1 k0_h9
theorem k0_idx416_inb : ∀ (v14 : BitVec 32) (k0_t6 : Fin (k0_t6_loop v14).trips) (v99 : IVec S16 32) (v100 : IVec S16 32) (v109 : IVec S16 32) (k0_hw86 : k0_chk86 v14 k0_t6 v99 v100 v109), ∀ (k0_h9 : k0_cond9 v14 k0_t6 = 1#1), ∀ a x, ((![v99, v109] : Fin 2 → IVec S16 32) a x).toNat < S320x128.size a := fun v14 k0_t6 v99 v100 v109 k0_hw86 k0_h9 => k0_hw86.2.2.2.2.2 k0_h9

def k0_chk87 (v14 : BitVec 32) (k0_t6 : Fin (k0_t6_loop v14).trips) (v99 : IVec S16 32) (v100 : IVec S16 32) (v116 : IVec S16 32) : Prop :=
  (∀ (k0_h9 : k0_cond9 v14 k0_t6 = 1#1), ∀ a x, ((![v100, v116] : Fin 2 → IVec S16 32) a x).toNat < S16x128.size a) ∧
  (∀ (k0_h9 : k0_cond9 v14 k0_t6 = 1#1), ∀ a x, ((![v99, v116] : Fin 2 → IVec S16 32) a x).toNat < S320x128.size a) ∧
  (∀ (k0_h9 : k0_cond9 v14 k0_t6 = 1#1), ∀ a x, ((![v99, v116] : Fin 2 → IVec S16 32) a x).toNat < S320x128.size a) ∧
  (∀ (k0_h9 : k0_cond9 v14 k0_t6 = 1#1), ∀ a x, ((![v99, v116] : Fin 2 → IVec S16 32) a x).toNat < S320x128.size a) ∧
  (∀ (k0_h9 : k0_cond9 v14 k0_t6 = 1#1), ∀ a x, ((![v99, v116] : Fin 2 → IVec S16 32) a x).toNat < S320x128.size a) ∧
  (∀ (k0_h9 : k0_cond9 v14 k0_t6 = 1#1), ∀ a x, ((![v99, v116] : Fin 2 → IVec S16 32) a x).toNat < S320x128.size a)
theorem k0_idx417_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v100, v116] : Fin 2 → IVec S16 32) a x).toNat < S16x128.size a := fun v14 k0_t6 v99 v100 v116 k0_hw87 k0_h9 => k0_hw87.1 k0_h9
theorem k0_idx418_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v99, v116] : Fin 2 → IVec S16 32) a x).toNat < S320x128.size a := fun v14 k0_t6 v99 v100 v116 k0_hw87 k0_h9 => k0_hw87.2.1 k0_h9
theorem k0_idx419_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v99, v116] : Fin 2 → IVec S16 32) a x).toNat < S320x128.size a := fun v14 k0_t6 v99 v100 v116 k0_hw87 k0_h9 => k0_hw87.2.2.1 k0_h9
theorem k0_idx420_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v99, v116] : Fin 2 → IVec S16 32) a x).toNat < S320x128.size a := fun v14 k0_t6 v99 v100 v116 k0_hw87 k0_h9 => k0_hw87.2.2.2.1 k0_h9
theorem k0_idx421_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v99, v116] : Fin 2 → IVec S16 32) a x).toNat < S320x128.size a := fun v14 k0_t6 v99 v100 v116 k0_hw87 k0_h9 => k0_hw87.2.2.2.2.1 k0_h9
theorem k0_idx422_inb : ∀ (v14 : BitVec 32) (k0_t6 : Fin (k0_t6_loop v14).trips) (v99 : IVec S16 32) (v100 : IVec S16 32) (v116 : IVec S16 32) (k0_hw87 : k0_chk87 v14 k0_t6 v99 v100 v116), ∀ (k0_h9 : k0_cond9 v14 k0_t6 = 1#1), ∀ a x, ((![v99, v116] : Fin 2 → IVec S16 32) a x).toNat < S320x128.size a := fun v14 k0_t6 v99 v100 v116 k0_hw87 k0_h9 => k0_hw87.2.2.2.2.2 k0_h9

def k0_chk88 (v14 : BitVec 32) (k0_t6 : Fin (k0_t6_loop v14).trips) (v99 : IVec S16 32) (v100 : IVec S16 32) (v123 : IVec S16 32) : Prop :=
  (∀ (k0_h9 : k0_cond9 v14 k0_t6 = 1#1), ∀ a x, ((![v100, v123] : Fin 2 → IVec S16 32) a x).toNat < S16x128.size a) ∧
  (∀ (k0_h9 : k0_cond9 v14 k0_t6 = 1#1), ∀ a x, ((![v99, v123] : Fin 2 → IVec S16 32) a x).toNat < S320x128.size a) ∧
  (∀ (k0_h9 : k0_cond9 v14 k0_t6 = 1#1), ∀ a x, ((![v99, v123] : Fin 2 → IVec S16 32) a x).toNat < S320x128.size a) ∧
  (∀ (k0_h9 : k0_cond9 v14 k0_t6 = 1#1), ∀ a x, ((![v99, v123] : Fin 2 → IVec S16 32) a x).toNat < S320x128.size a) ∧
  (∀ (k0_h9 : k0_cond9 v14 k0_t6 = 1#1), ∀ a x, ((![v99, v123] : Fin 2 → IVec S16 32) a x).toNat < S320x128.size a) ∧
  (∀ (k0_h9 : k0_cond9 v14 k0_t6 = 1#1), ∀ a x, ((![v99, v123] : Fin 2 → IVec S16 32) a x).toNat < S320x128.size a)
theorem k0_idx423_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v100, v123] : Fin 2 → IVec S16 32) a x).toNat < S16x128.size a := fun v14 k0_t6 v99 v100 v123 k0_hw88 k0_h9 => k0_hw88.1 k0_h9
theorem k0_idx424_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v99, v123] : Fin 2 → IVec S16 32) a x).toNat < S320x128.size a := fun v14 k0_t6 v99 v100 v123 k0_hw88 k0_h9 => k0_hw88.2.1 k0_h9
theorem k0_idx425_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v99, v123] : Fin 2 → IVec S16 32) a x).toNat < S320x128.size a := fun v14 k0_t6 v99 v100 v123 k0_hw88 k0_h9 => k0_hw88.2.2.1 k0_h9
theorem k0_idx426_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v99, v123] : Fin 2 → IVec S16 32) a x).toNat < S320x128.size a := fun v14 k0_t6 v99 v100 v123 k0_hw88 k0_h9 => k0_hw88.2.2.2.1 k0_h9
theorem k0_idx427_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v99, v123] : Fin 2 → IVec S16 32) a x).toNat < S320x128.size a := fun v14 k0_t6 v99 v100 v123 k0_hw88 k0_h9 => k0_hw88.2.2.2.2.1 k0_h9
theorem k0_idx428_inb : ∀ (v14 : BitVec 32) (k0_t6 : Fin (k0_t6_loop v14).trips) (v99 : IVec S16 32) (v100 : IVec S16 32) (v123 : IVec S16 32) (k0_hw88 : k0_chk88 v14 k0_t6 v99 v100 v123), ∀ (k0_h9 : k0_cond9 v14 k0_t6 = 1#1), ∀ a x, ((![v99, v123] : Fin 2 → IVec S16 32) a x).toNat < S320x128.size a := fun v14 k0_t6 v99 v100 v123 k0_hw88 k0_h9 => k0_hw88.2.2.2.2.2 k0_h9

def k0_chk89 (v14 : BitVec 32) (k0_t6 : Fin (k0_t6_loop v14).trips) (v99 : IVec S16 32) (v100 : IVec S16 32) (v130 : IVec S16 32) : Prop :=
  (∀ (k0_h9 : k0_cond9 v14 k0_t6 = 1#1), ∀ a x, ((![v100, v130] : Fin 2 → IVec S16 32) a x).toNat < S16x128.size a) ∧
  (∀ (k0_h9 : k0_cond9 v14 k0_t6 = 1#1), ∀ a x, ((![v99, v130] : Fin 2 → IVec S16 32) a x).toNat < S320x128.size a) ∧
  (∀ (k0_h9 : k0_cond9 v14 k0_t6 = 1#1), ∀ a x, ((![v99, v130] : Fin 2 → IVec S16 32) a x).toNat < S320x128.size a) ∧
  (∀ (k0_h9 : k0_cond9 v14 k0_t6 = 1#1), ∀ a x, ((![v99, v130] : Fin 2 → IVec S16 32) a x).toNat < S320x128.size a) ∧
  (∀ (k0_h9 : k0_cond9 v14 k0_t6 = 1#1), ∀ a x, ((![v99, v130] : Fin 2 → IVec S16 32) a x).toNat < S320x128.size a) ∧
  (∀ (k0_h9 : k0_cond9 v14 k0_t6 = 1#1), ∀ a x, ((![v99, v130] : Fin 2 → IVec S16 32) a x).toNat < S320x128.size a)
theorem k0_idx429_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v100, v130] : Fin 2 → IVec S16 32) a x).toNat < S16x128.size a := fun v14 k0_t6 v99 v100 v130 k0_hw89 k0_h9 => k0_hw89.1 k0_h9
theorem k0_idx430_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v99, v130] : Fin 2 → IVec S16 32) a x).toNat < S320x128.size a := fun v14 k0_t6 v99 v100 v130 k0_hw89 k0_h9 => k0_hw89.2.1 k0_h9
theorem k0_idx431_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v99, v130] : Fin 2 → IVec S16 32) a x).toNat < S320x128.size a := fun v14 k0_t6 v99 v100 v130 k0_hw89 k0_h9 => k0_hw89.2.2.1 k0_h9
theorem k0_idx432_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v99, v130] : Fin 2 → IVec S16 32) a x).toNat < S320x128.size a := fun v14 k0_t6 v99 v100 v130 k0_hw89 k0_h9 => k0_hw89.2.2.2.1 k0_h9
theorem k0_idx433_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v99, v130] : Fin 2 → IVec S16 32) a x).toNat < S320x128.size a := fun v14 k0_t6 v99 v100 v130 k0_hw89 k0_h9 => k0_hw89.2.2.2.2.1 k0_h9
theorem k0_idx434_inb : ∀ (v14 : BitVec 32) (k0_t6 : Fin (k0_t6_loop v14).trips) (v99 : IVec S16 32) (v100 : IVec S16 32) (v130 : IVec S16 32) (k0_hw89 : k0_chk89 v14 k0_t6 v99 v100 v130), ∀ (k0_h9 : k0_cond9 v14 k0_t6 = 1#1), ∀ a x, ((![v99, v130] : Fin 2 → IVec S16 32) a x).toNat < S320x128.size a := fun v14 k0_t6 v99 v100 v130 k0_hw89 k0_h9 => k0_hw89.2.2.2.2.2 k0_h9

def k0_chk90 (v14 : BitVec 32) (k0_t6 : Fin (k0_t6_loop v14).trips) (v99 : IVec S16 32) (v100 : IVec S16 32) (v137 : IVec S16 32) : Prop :=
  (∀ (k0_h9 : k0_cond9 v14 k0_t6 = 1#1), ∀ a x, ((![v100, v137] : Fin 2 → IVec S16 32) a x).toNat < S16x128.size a) ∧
  (∀ (k0_h9 : k0_cond9 v14 k0_t6 = 1#1), ∀ a x, ((![v99, v137] : Fin 2 → IVec S16 32) a x).toNat < S320x128.size a) ∧
  (∀ (k0_h9 : k0_cond9 v14 k0_t6 = 1#1), ∀ a x, ((![v99, v137] : Fin 2 → IVec S16 32) a x).toNat < S320x128.size a) ∧
  (∀ (k0_h9 : k0_cond9 v14 k0_t6 = 1#1), ∀ a x, ((![v99, v137] : Fin 2 → IVec S16 32) a x).toNat < S320x128.size a) ∧
  (∀ (k0_h9 : k0_cond9 v14 k0_t6 = 1#1), ∀ a x, ((![v99, v137] : Fin 2 → IVec S16 32) a x).toNat < S320x128.size a) ∧
  (∀ (k0_h9 : k0_cond9 v14 k0_t6 = 1#1), ∀ a x, ((![v99, v137] : Fin 2 → IVec S16 32) a x).toNat < S320x128.size a)
theorem k0_idx435_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v100, v137] : Fin 2 → IVec S16 32) a x).toNat < S16x128.size a := fun v14 k0_t6 v99 v100 v137 k0_hw90 k0_h9 => k0_hw90.1 k0_h9
theorem k0_idx436_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v99, v137] : Fin 2 → IVec S16 32) a x).toNat < S320x128.size a := fun v14 k0_t6 v99 v100 v137 k0_hw90 k0_h9 => k0_hw90.2.1 k0_h9
theorem k0_idx437_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v99, v137] : Fin 2 → IVec S16 32) a x).toNat < S320x128.size a := fun v14 k0_t6 v99 v100 v137 k0_hw90 k0_h9 => k0_hw90.2.2.1 k0_h9
theorem k0_idx438_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v99, v137] : Fin 2 → IVec S16 32) a x).toNat < S320x128.size a := fun v14 k0_t6 v99 v100 v137 k0_hw90 k0_h9 => k0_hw90.2.2.2.1 k0_h9
theorem k0_idx439_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v99, v137] : Fin 2 → IVec S16 32) a x).toNat < S320x128.size a := fun v14 k0_t6 v99 v100 v137 k0_hw90 k0_h9 => k0_hw90.2.2.2.2.1 k0_h9
theorem k0_idx440_inb : ∀ (v14 : BitVec 32) (k0_t6 : Fin (k0_t6_loop v14).trips) (v99 : IVec S16 32) (v100 : IVec S16 32) (v137 : IVec S16 32) (k0_hw90 : k0_chk90 v14 k0_t6 v99 v100 v137), ∀ (k0_h9 : k0_cond9 v14 k0_t6 = 1#1), ∀ a x, ((![v99, v137] : Fin 2 → IVec S16 32) a x).toNat < S320x128.size a := fun v14 k0_t6 v99 v100 v137 k0_hw90 k0_h9 => k0_hw90.2.2.2.2.2 k0_h9

def k0_chk91 (v14 : BitVec 32) (k0_t6 : Fin (k0_t6_loop v14).trips) (v99 : IVec S16 32) (v100 : IVec S16 32) (v144 : IVec S16 32) : Prop :=
  (∀ (k0_h9 : k0_cond9 v14 k0_t6 = 1#1), ∀ a x, ((![v100, v144] : Fin 2 → IVec S16 32) a x).toNat < S16x128.size a) ∧
  (∀ (k0_h9 : k0_cond9 v14 k0_t6 = 1#1), ∀ a x, ((![v99, v144] : Fin 2 → IVec S16 32) a x).toNat < S320x128.size a) ∧
  (∀ (k0_h9 : k0_cond9 v14 k0_t6 = 1#1), ∀ a x, ((![v99, v144] : Fin 2 → IVec S16 32) a x).toNat < S320x128.size a) ∧
  (∀ (k0_h9 : k0_cond9 v14 k0_t6 = 1#1), ∀ a x, ((![v99, v144] : Fin 2 → IVec S16 32) a x).toNat < S320x128.size a) ∧
  (∀ (k0_h9 : k0_cond9 v14 k0_t6 = 1#1), ∀ a x, ((![v99, v144] : Fin 2 → IVec S16 32) a x).toNat < S320x128.size a) ∧
  (∀ (k0_h9 : k0_cond9 v14 k0_t6 = 1#1), ∀ a x, ((![v99, v144] : Fin 2 → IVec S16 32) a x).toNat < S320x128.size a)
theorem k0_idx441_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v100, v144] : Fin 2 → IVec S16 32) a x).toNat < S16x128.size a := fun v14 k0_t6 v99 v100 v144 k0_hw91 k0_h9 => k0_hw91.1 k0_h9
theorem k0_idx442_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v99, v144] : Fin 2 → IVec S16 32) a x).toNat < S320x128.size a := fun v14 k0_t6 v99 v100 v144 k0_hw91 k0_h9 => k0_hw91.2.1 k0_h9
theorem k0_idx443_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v99, v144] : Fin 2 → IVec S16 32) a x).toNat < S320x128.size a := fun v14 k0_t6 v99 v100 v144 k0_hw91 k0_h9 => k0_hw91.2.2.1 k0_h9
theorem k0_idx444_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v99, v144] : Fin 2 → IVec S16 32) a x).toNat < S320x128.size a := fun v14 k0_t6 v99 v100 v144 k0_hw91 k0_h9 => k0_hw91.2.2.2.1 k0_h9
theorem k0_idx445_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v99, v144] : Fin 2 → IVec S16 32) a x).toNat < S320x128.size a := fun v14 k0_t6 v99 v100 v144 k0_hw91 k0_h9 => k0_hw91.2.2.2.2.1 k0_h9
theorem k0_idx446_inb : ∀ (v14 : BitVec 32) (k0_t6 : Fin (k0_t6_loop v14).trips) (v99 : IVec S16 32) (v100 : IVec S16 32) (v144 : IVec S16 32) (k0_hw91 : k0_chk91 v14 k0_t6 v99 v100 v144), ∀ (k0_h9 : k0_cond9 v14 k0_t6 = 1#1), ∀ a x, ((![v99, v144] : Fin 2 → IVec S16 32) a x).toNat < S320x128.size a := fun v14 k0_t6 v99 v100 v144 k0_hw91 k0_h9 => k0_hw91.2.2.2.2.2 k0_h9

def k0_chk92 (v14 : BitVec 32) (k0_t6 : Fin (k0_t6_loop v14).trips) (v99 : IVec S16 32) (v100 : IVec S16 32) (v151 : IVec S16 32) : Prop :=
  (∀ (k0_h9 : k0_cond9 v14 k0_t6 = 1#1), ∀ a x, ((![v100, v151] : Fin 2 → IVec S16 32) a x).toNat < S16x128.size a) ∧
  (∀ (k0_h9 : k0_cond9 v14 k0_t6 = 1#1), ∀ a x, ((![v99, v151] : Fin 2 → IVec S16 32) a x).toNat < S320x128.size a) ∧
  (∀ (k0_h9 : k0_cond9 v14 k0_t6 = 1#1), ∀ a x, ((![v99, v151] : Fin 2 → IVec S16 32) a x).toNat < S320x128.size a) ∧
  (∀ (k0_h9 : k0_cond9 v14 k0_t6 = 1#1), ∀ a x, ((![v99, v151] : Fin 2 → IVec S16 32) a x).toNat < S320x128.size a) ∧
  (∀ (k0_h9 : k0_cond9 v14 k0_t6 = 1#1), ∀ a x, ((![v99, v151] : Fin 2 → IVec S16 32) a x).toNat < S320x128.size a) ∧
  (∀ (k0_h9 : k0_cond9 v14 k0_t6 = 1#1), ∀ a x, ((![v99, v151] : Fin 2 → IVec S16 32) a x).toNat < S320x128.size a)
theorem k0_idx447_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v100, v151] : Fin 2 → IVec S16 32) a x).toNat < S16x128.size a := fun v14 k0_t6 v99 v100 v151 k0_hw92 k0_h9 => k0_hw92.1 k0_h9
theorem k0_idx448_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v99, v151] : Fin 2 → IVec S16 32) a x).toNat < S320x128.size a := fun v14 k0_t6 v99 v100 v151 k0_hw92 k0_h9 => k0_hw92.2.1 k0_h9
theorem k0_idx449_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v99, v151] : Fin 2 → IVec S16 32) a x).toNat < S320x128.size a := fun v14 k0_t6 v99 v100 v151 k0_hw92 k0_h9 => k0_hw92.2.2.1 k0_h9
theorem k0_idx450_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v99, v151] : Fin 2 → IVec S16 32) a x).toNat < S320x128.size a := fun v14 k0_t6 v99 v100 v151 k0_hw92 k0_h9 => k0_hw92.2.2.2.1 k0_h9
theorem k0_idx451_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v99, v151] : Fin 2 → IVec S16 32) a x).toNat < S320x128.size a := fun v14 k0_t6 v99 v100 v151 k0_hw92 k0_h9 => k0_hw92.2.2.2.2.1 k0_h9
theorem k0_idx452_inb : ∀ (v14 : BitVec 32) (k0_t6 : Fin (k0_t6_loop v14).trips) (v99 : IVec S16 32) (v100 : IVec S16 32) (v151 : IVec S16 32) (k0_hw92 : k0_chk92 v14 k0_t6 v99 v100 v151), ∀ (k0_h9 : k0_cond9 v14 k0_t6 = 1#1), ∀ a x, ((![v99, v151] : Fin 2 → IVec S16 32) a x).toNat < S320x128.size a := fun v14 k0_t6 v99 v100 v151 k0_hw92 k0_h9 => k0_hw92.2.2.2.2.2 k0_h9

def k0_chk93 (v14 : BitVec 32) (k0_t6 : Fin (k0_t6_loop v14).trips) (v99 : IVec S16 32) : Prop :=
  (∀ (k0_h9 : k0_cond9 v14 k0_t6 = 1#1), ∀ a x, ((![v99] : Fin 1 → IVec S16 32) a x).toNat < S320.size a)
theorem k0_idx453_inb : ∀ (v14 : BitVec 32) (k0_t6 : Fin (k0_t6_loop v14).trips) (v99 : IVec S16 32) (k0_hw93 : k0_chk93 v14 k0_t6 v99), ∀ (k0_h9 : k0_cond9 v14 k0_t6 = 1#1), ∀ a x, ((![v99] : Fin 1 → IVec S16 32) a x).toNat < S320.size a := fun v14 k0_t6 v99 k0_hw93 k0_h9 => k0_hw93 k0_h9
def k0_cond10 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c9_i32 : BitVec 32 := 9#32
  let v76 : BitVec 1 := Scalar.cmpi .sgt v45 c9_i32
  let v77 : BitVec 32 := Scalar.extui v76
  let c0_i32_52 : BitVec 32 := 0#32
  let v78 : BitVec 1 := Scalar.cmpi .ne v77 c0_i32_52
  v78

def k0_chk94 (v14 : BitVec 32) (k0_t6 : Fin (k0_t6_loop v14).trips) (v98 : IVec S16 32) : Prop :=
  (∀ (k0_h10 : k0_cond10 v14 k0_t6 = 1#1), ∀ a x, ((![v98] : Fin 1 → IVec S16 32) a x).toNat < S528.size a)
theorem k0_idx454_inb : ∀ (v14 : BitVec 32) (k0_t6 : Fin (k0_t6_loop v14).trips) (v98 : IVec S16 32) (k0_hw94 : k0_chk94 v14 k0_t6 v98), ∀ (k0_h10 : k0_cond10 v14 k0_t6 = 1#1), ∀ a x, ((![v98] : Fin 1 → IVec S16 32) a x).toNat < S528.size a := fun v14 k0_t6 v98 k0_hw94 k0_h10 => k0_hw94 k0_h10

def k0_chk95 (v14 : BitVec 32) (k0_t6 : Fin (k0_t6_loop v14).trips) (v99 : IVec S16 32) (v100 : IVec S16 32) (v102 : IVec S16 32) : Prop :=
  (∀ (k0_h10 : k0_cond10 v14 k0_t6 = 1#1), ∀ a x, ((![v100, v102] : Fin 2 → IVec S16 32) a x).toNat < S16x128.size a) ∧
  (∀ (k0_h10 : k0_cond10 v14 k0_t6 = 1#1), ∀ a x, ((![v99, v102] : Fin 2 → IVec S16 32) a x).toNat < S320x128.size a) ∧
  (∀ (k0_h10 : k0_cond10 v14 k0_t6 = 1#1), ∀ a x, ((![v99, v102] : Fin 2 → IVec S16 32) a x).toNat < S320x128.size a) ∧
  (∀ (k0_h10 : k0_cond10 v14 k0_t6 = 1#1), ∀ a x, ((![v99, v102] : Fin 2 → IVec S16 32) a x).toNat < S320x128.size a) ∧
  (∀ (k0_h10 : k0_cond10 v14 k0_t6 = 1#1), ∀ a x, ((![v99, v102] : Fin 2 → IVec S16 32) a x).toNat < S320x128.size a) ∧
  (∀ (k0_h10 : k0_cond10 v14 k0_t6 = 1#1), ∀ a x, ((![v99, v102] : Fin 2 → IVec S16 32) a x).toNat < S320x128.size a)
theorem k0_idx455_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v100, v102] : Fin 2 → IVec S16 32) a x).toNat < S16x128.size a := fun v14 k0_t6 v99 v100 v102 k0_hw95 k0_h10 => k0_hw95.1 k0_h10
theorem k0_idx456_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v99, v102] : Fin 2 → IVec S16 32) a x).toNat < S320x128.size a := fun v14 k0_t6 v99 v100 v102 k0_hw95 k0_h10 => k0_hw95.2.1 k0_h10
theorem k0_idx457_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v99, v102] : Fin 2 → IVec S16 32) a x).toNat < S320x128.size a := fun v14 k0_t6 v99 v100 v102 k0_hw95 k0_h10 => k0_hw95.2.2.1 k0_h10
theorem k0_idx458_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v99, v102] : Fin 2 → IVec S16 32) a x).toNat < S320x128.size a := fun v14 k0_t6 v99 v100 v102 k0_hw95 k0_h10 => k0_hw95.2.2.2.1 k0_h10
theorem k0_idx459_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v99, v102] : Fin 2 → IVec S16 32) a x).toNat < S320x128.size a := fun v14 k0_t6 v99 v100 v102 k0_hw95 k0_h10 => k0_hw95.2.2.2.2.1 k0_h10
theorem k0_idx460_inb : ∀ (v14 : BitVec 32) (k0_t6 : Fin (k0_t6_loop v14).trips) (v99 : IVec S16 32) (v100 : IVec S16 32) (v102 : IVec S16 32) (k0_hw95 : k0_chk95 v14 k0_t6 v99 v100 v102), ∀ (k0_h10 : k0_cond10 v14 k0_t6 = 1#1), ∀ a x, ((![v99, v102] : Fin 2 → IVec S16 32) a x).toNat < S320x128.size a := fun v14 k0_t6 v99 v100 v102 k0_hw95 k0_h10 => k0_hw95.2.2.2.2.2 k0_h10

def k0_chk96 (v14 : BitVec 32) (k0_t6 : Fin (k0_t6_loop v14).trips) (v99 : IVec S16 32) (v100 : IVec S16 32) (v109 : IVec S16 32) : Prop :=
  (∀ (k0_h10 : k0_cond10 v14 k0_t6 = 1#1), ∀ a x, ((![v100, v109] : Fin 2 → IVec S16 32) a x).toNat < S16x128.size a) ∧
  (∀ (k0_h10 : k0_cond10 v14 k0_t6 = 1#1), ∀ a x, ((![v99, v109] : Fin 2 → IVec S16 32) a x).toNat < S320x128.size a) ∧
  (∀ (k0_h10 : k0_cond10 v14 k0_t6 = 1#1), ∀ a x, ((![v99, v109] : Fin 2 → IVec S16 32) a x).toNat < S320x128.size a) ∧
  (∀ (k0_h10 : k0_cond10 v14 k0_t6 = 1#1), ∀ a x, ((![v99, v109] : Fin 2 → IVec S16 32) a x).toNat < S320x128.size a) ∧
  (∀ (k0_h10 : k0_cond10 v14 k0_t6 = 1#1), ∀ a x, ((![v99, v109] : Fin 2 → IVec S16 32) a x).toNat < S320x128.size a) ∧
  (∀ (k0_h10 : k0_cond10 v14 k0_t6 = 1#1), ∀ a x, ((![v99, v109] : Fin 2 → IVec S16 32) a x).toNat < S320x128.size a)
theorem k0_idx461_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v100, v109] : Fin 2 → IVec S16 32) a x).toNat < S16x128.size a := fun v14 k0_t6 v99 v100 v109 k0_hw96 k0_h10 => k0_hw96.1 k0_h10
theorem k0_idx462_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v99, v109] : Fin 2 → IVec S16 32) a x).toNat < S320x128.size a := fun v14 k0_t6 v99 v100 v109 k0_hw96 k0_h10 => k0_hw96.2.1 k0_h10
theorem k0_idx463_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v99, v109] : Fin 2 → IVec S16 32) a x).toNat < S320x128.size a := fun v14 k0_t6 v99 v100 v109 k0_hw96 k0_h10 => k0_hw96.2.2.1 k0_h10
theorem k0_idx464_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v99, v109] : Fin 2 → IVec S16 32) a x).toNat < S320x128.size a := fun v14 k0_t6 v99 v100 v109 k0_hw96 k0_h10 => k0_hw96.2.2.2.1 k0_h10
theorem k0_idx465_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v99, v109] : Fin 2 → IVec S16 32) a x).toNat < S320x128.size a := fun v14 k0_t6 v99 v100 v109 k0_hw96 k0_h10 => k0_hw96.2.2.2.2.1 k0_h10
theorem k0_idx466_inb : ∀ (v14 : BitVec 32) (k0_t6 : Fin (k0_t6_loop v14).trips) (v99 : IVec S16 32) (v100 : IVec S16 32) (v109 : IVec S16 32) (k0_hw96 : k0_chk96 v14 k0_t6 v99 v100 v109), ∀ (k0_h10 : k0_cond10 v14 k0_t6 = 1#1), ∀ a x, ((![v99, v109] : Fin 2 → IVec S16 32) a x).toNat < S320x128.size a := fun v14 k0_t6 v99 v100 v109 k0_hw96 k0_h10 => k0_hw96.2.2.2.2.2 k0_h10

def k0_chk97 (v14 : BitVec 32) (k0_t6 : Fin (k0_t6_loop v14).trips) (v99 : IVec S16 32) (v100 : IVec S16 32) (v116 : IVec S16 32) : Prop :=
  (∀ (k0_h10 : k0_cond10 v14 k0_t6 = 1#1), ∀ a x, ((![v100, v116] : Fin 2 → IVec S16 32) a x).toNat < S16x128.size a) ∧
  (∀ (k0_h10 : k0_cond10 v14 k0_t6 = 1#1), ∀ a x, ((![v99, v116] : Fin 2 → IVec S16 32) a x).toNat < S320x128.size a) ∧
  (∀ (k0_h10 : k0_cond10 v14 k0_t6 = 1#1), ∀ a x, ((![v99, v116] : Fin 2 → IVec S16 32) a x).toNat < S320x128.size a) ∧
  (∀ (k0_h10 : k0_cond10 v14 k0_t6 = 1#1), ∀ a x, ((![v99, v116] : Fin 2 → IVec S16 32) a x).toNat < S320x128.size a) ∧
  (∀ (k0_h10 : k0_cond10 v14 k0_t6 = 1#1), ∀ a x, ((![v99, v116] : Fin 2 → IVec S16 32) a x).toNat < S320x128.size a) ∧
  (∀ (k0_h10 : k0_cond10 v14 k0_t6 = 1#1), ∀ a x, ((![v99, v116] : Fin 2 → IVec S16 32) a x).toNat < S320x128.size a)
theorem k0_idx467_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v100, v116] : Fin 2 → IVec S16 32) a x).toNat < S16x128.size a := fun v14 k0_t6 v99 v100 v116 k0_hw97 k0_h10 => k0_hw97.1 k0_h10
theorem k0_idx468_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v99, v116] : Fin 2 → IVec S16 32) a x).toNat < S320x128.size a := fun v14 k0_t6 v99 v100 v116 k0_hw97 k0_h10 => k0_hw97.2.1 k0_h10
theorem k0_idx469_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v99, v116] : Fin 2 → IVec S16 32) a x).toNat < S320x128.size a := fun v14 k0_t6 v99 v100 v116 k0_hw97 k0_h10 => k0_hw97.2.2.1 k0_h10
theorem k0_idx470_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v99, v116] : Fin 2 → IVec S16 32) a x).toNat < S320x128.size a := fun v14 k0_t6 v99 v100 v116 k0_hw97 k0_h10 => k0_hw97.2.2.2.1 k0_h10
theorem k0_idx471_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v99, v116] : Fin 2 → IVec S16 32) a x).toNat < S320x128.size a := fun v14 k0_t6 v99 v100 v116 k0_hw97 k0_h10 => k0_hw97.2.2.2.2.1 k0_h10
theorem k0_idx472_inb : ∀ (v14 : BitVec 32) (k0_t6 : Fin (k0_t6_loop v14).trips) (v99 : IVec S16 32) (v100 : IVec S16 32) (v116 : IVec S16 32) (k0_hw97 : k0_chk97 v14 k0_t6 v99 v100 v116), ∀ (k0_h10 : k0_cond10 v14 k0_t6 = 1#1), ∀ a x, ((![v99, v116] : Fin 2 → IVec S16 32) a x).toNat < S320x128.size a := fun v14 k0_t6 v99 v100 v116 k0_hw97 k0_h10 => k0_hw97.2.2.2.2.2 k0_h10

def k0_chk98 (v14 : BitVec 32) (k0_t6 : Fin (k0_t6_loop v14).trips) (v99 : IVec S16 32) (v100 : IVec S16 32) (v123 : IVec S16 32) : Prop :=
  (∀ (k0_h10 : k0_cond10 v14 k0_t6 = 1#1), ∀ a x, ((![v100, v123] : Fin 2 → IVec S16 32) a x).toNat < S16x128.size a) ∧
  (∀ (k0_h10 : k0_cond10 v14 k0_t6 = 1#1), ∀ a x, ((![v99, v123] : Fin 2 → IVec S16 32) a x).toNat < S320x128.size a) ∧
  (∀ (k0_h10 : k0_cond10 v14 k0_t6 = 1#1), ∀ a x, ((![v99, v123] : Fin 2 → IVec S16 32) a x).toNat < S320x128.size a) ∧
  (∀ (k0_h10 : k0_cond10 v14 k0_t6 = 1#1), ∀ a x, ((![v99, v123] : Fin 2 → IVec S16 32) a x).toNat < S320x128.size a) ∧
  (∀ (k0_h10 : k0_cond10 v14 k0_t6 = 1#1), ∀ a x, ((![v99, v123] : Fin 2 → IVec S16 32) a x).toNat < S320x128.size a) ∧
  (∀ (k0_h10 : k0_cond10 v14 k0_t6 = 1#1), ∀ a x, ((![v99, v123] : Fin 2 → IVec S16 32) a x).toNat < S320x128.size a)
theorem k0_idx473_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v100, v123] : Fin 2 → IVec S16 32) a x).toNat < S16x128.size a := fun v14 k0_t6 v99 v100 v123 k0_hw98 k0_h10 => k0_hw98.1 k0_h10
theorem k0_idx474_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v99, v123] : Fin 2 → IVec S16 32) a x).toNat < S320x128.size a := fun v14 k0_t6 v99 v100 v123 k0_hw98 k0_h10 => k0_hw98.2.1 k0_h10
theorem k0_idx475_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v99, v123] : Fin 2 → IVec S16 32) a x).toNat < S320x128.size a := fun v14 k0_t6 v99 v100 v123 k0_hw98 k0_h10 => k0_hw98.2.2.1 k0_h10
theorem k0_idx476_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v99, v123] : Fin 2 → IVec S16 32) a x).toNat < S320x128.size a := fun v14 k0_t6 v99 v100 v123 k0_hw98 k0_h10 => k0_hw98.2.2.2.1 k0_h10
theorem k0_idx477_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v99, v123] : Fin 2 → IVec S16 32) a x).toNat < S320x128.size a := fun v14 k0_t6 v99 v100 v123 k0_hw98 k0_h10 => k0_hw98.2.2.2.2.1 k0_h10
theorem k0_idx478_inb : ∀ (v14 : BitVec 32) (k0_t6 : Fin (k0_t6_loop v14).trips) (v99 : IVec S16 32) (v100 : IVec S16 32) (v123 : IVec S16 32) (k0_hw98 : k0_chk98 v14 k0_t6 v99 v100 v123), ∀ (k0_h10 : k0_cond10 v14 k0_t6 = 1#1), ∀ a x, ((![v99, v123] : Fin 2 → IVec S16 32) a x).toNat < S320x128.size a := fun v14 k0_t6 v99 v100 v123 k0_hw98 k0_h10 => k0_hw98.2.2.2.2.2 k0_h10

def k0_chk99 (v14 : BitVec 32) (k0_t6 : Fin (k0_t6_loop v14).trips) (v99 : IVec S16 32) (v100 : IVec S16 32) (v130 : IVec S16 32) : Prop :=
  (∀ (k0_h10 : k0_cond10 v14 k0_t6 = 1#1), ∀ a x, ((![v100, v130] : Fin 2 → IVec S16 32) a x).toNat < S16x128.size a) ∧
  (∀ (k0_h10 : k0_cond10 v14 k0_t6 = 1#1), ∀ a x, ((![v99, v130] : Fin 2 → IVec S16 32) a x).toNat < S320x128.size a) ∧
  (∀ (k0_h10 : k0_cond10 v14 k0_t6 = 1#1), ∀ a x, ((![v99, v130] : Fin 2 → IVec S16 32) a x).toNat < S320x128.size a) ∧
  (∀ (k0_h10 : k0_cond10 v14 k0_t6 = 1#1), ∀ a x, ((![v99, v130] : Fin 2 → IVec S16 32) a x).toNat < S320x128.size a) ∧
  (∀ (k0_h10 : k0_cond10 v14 k0_t6 = 1#1), ∀ a x, ((![v99, v130] : Fin 2 → IVec S16 32) a x).toNat < S320x128.size a) ∧
  (∀ (k0_h10 : k0_cond10 v14 k0_t6 = 1#1), ∀ a x, ((![v99, v130] : Fin 2 → IVec S16 32) a x).toNat < S320x128.size a)
theorem k0_idx479_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v100, v130] : Fin 2 → IVec S16 32) a x).toNat < S16x128.size a := fun v14 k0_t6 v99 v100 v130 k0_hw99 k0_h10 => k0_hw99.1 k0_h10
theorem k0_idx480_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v99, v130] : Fin 2 → IVec S16 32) a x).toNat < S320x128.size a := fun v14 k0_t6 v99 v100 v130 k0_hw99 k0_h10 => k0_hw99.2.1 k0_h10
theorem k0_idx481_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v99, v130] : Fin 2 → IVec S16 32) a x).toNat < S320x128.size a := fun v14 k0_t6 v99 v100 v130 k0_hw99 k0_h10 => k0_hw99.2.2.1 k0_h10
theorem k0_idx482_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v99, v130] : Fin 2 → IVec S16 32) a x).toNat < S320x128.size a := fun v14 k0_t6 v99 v100 v130 k0_hw99 k0_h10 => k0_hw99.2.2.2.1 k0_h10
theorem k0_idx483_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v99, v130] : Fin 2 → IVec S16 32) a x).toNat < S320x128.size a := fun v14 k0_t6 v99 v100 v130 k0_hw99 k0_h10 => k0_hw99.2.2.2.2.1 k0_h10
theorem k0_idx484_inb : ∀ (v14 : BitVec 32) (k0_t6 : Fin (k0_t6_loop v14).trips) (v99 : IVec S16 32) (v100 : IVec S16 32) (v130 : IVec S16 32) (k0_hw99 : k0_chk99 v14 k0_t6 v99 v100 v130), ∀ (k0_h10 : k0_cond10 v14 k0_t6 = 1#1), ∀ a x, ((![v99, v130] : Fin 2 → IVec S16 32) a x).toNat < S320x128.size a := fun v14 k0_t6 v99 v100 v130 k0_hw99 k0_h10 => k0_hw99.2.2.2.2.2 k0_h10

def k0_chk100 (v14 : BitVec 32) (k0_t6 : Fin (k0_t6_loop v14).trips) (v99 : IVec S16 32) (v100 : IVec S16 32) (v137 : IVec S16 32) : Prop :=
  (∀ (k0_h10 : k0_cond10 v14 k0_t6 = 1#1), ∀ a x, ((![v100, v137] : Fin 2 → IVec S16 32) a x).toNat < S16x128.size a) ∧
  (∀ (k0_h10 : k0_cond10 v14 k0_t6 = 1#1), ∀ a x, ((![v99, v137] : Fin 2 → IVec S16 32) a x).toNat < S320x128.size a) ∧
  (∀ (k0_h10 : k0_cond10 v14 k0_t6 = 1#1), ∀ a x, ((![v99, v137] : Fin 2 → IVec S16 32) a x).toNat < S320x128.size a) ∧
  (∀ (k0_h10 : k0_cond10 v14 k0_t6 = 1#1), ∀ a x, ((![v99, v137] : Fin 2 → IVec S16 32) a x).toNat < S320x128.size a) ∧
  (∀ (k0_h10 : k0_cond10 v14 k0_t6 = 1#1), ∀ a x, ((![v99, v137] : Fin 2 → IVec S16 32) a x).toNat < S320x128.size a) ∧
  (∀ (k0_h10 : k0_cond10 v14 k0_t6 = 1#1), ∀ a x, ((![v99, v137] : Fin 2 → IVec S16 32) a x).toNat < S320x128.size a)
theorem k0_idx485_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v100, v137] : Fin 2 → IVec S16 32) a x).toNat < S16x128.size a := fun v14 k0_t6 v99 v100 v137 k0_hw100 k0_h10 => k0_hw100.1 k0_h10
theorem k0_idx486_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v99, v137] : Fin 2 → IVec S16 32) a x).toNat < S320x128.size a := fun v14 k0_t6 v99 v100 v137 k0_hw100 k0_h10 => k0_hw100.2.1 k0_h10
theorem k0_idx487_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v99, v137] : Fin 2 → IVec S16 32) a x).toNat < S320x128.size a := fun v14 k0_t6 v99 v100 v137 k0_hw100 k0_h10 => k0_hw100.2.2.1 k0_h10
theorem k0_idx488_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v99, v137] : Fin 2 → IVec S16 32) a x).toNat < S320x128.size a := fun v14 k0_t6 v99 v100 v137 k0_hw100 k0_h10 => k0_hw100.2.2.2.1 k0_h10
theorem k0_idx489_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v99, v137] : Fin 2 → IVec S16 32) a x).toNat < S320x128.size a := fun v14 k0_t6 v99 v100 v137 k0_hw100 k0_h10 => k0_hw100.2.2.2.2.1 k0_h10
theorem k0_idx490_inb : ∀ (v14 : BitVec 32) (k0_t6 : Fin (k0_t6_loop v14).trips) (v99 : IVec S16 32) (v100 : IVec S16 32) (v137 : IVec S16 32) (k0_hw100 : k0_chk100 v14 k0_t6 v99 v100 v137), ∀ (k0_h10 : k0_cond10 v14 k0_t6 = 1#1), ∀ a x, ((![v99, v137] : Fin 2 → IVec S16 32) a x).toNat < S320x128.size a := fun v14 k0_t6 v99 v100 v137 k0_hw100 k0_h10 => k0_hw100.2.2.2.2.2 k0_h10

def k0_chk101 (v14 : BitVec 32) (k0_t6 : Fin (k0_t6_loop v14).trips) (v99 : IVec S16 32) (v100 : IVec S16 32) (v144 : IVec S16 32) : Prop :=
  (∀ (k0_h10 : k0_cond10 v14 k0_t6 = 1#1), ∀ a x, ((![v100, v144] : Fin 2 → IVec S16 32) a x).toNat < S16x128.size a) ∧
  (∀ (k0_h10 : k0_cond10 v14 k0_t6 = 1#1), ∀ a x, ((![v99, v144] : Fin 2 → IVec S16 32) a x).toNat < S320x128.size a) ∧
  (∀ (k0_h10 : k0_cond10 v14 k0_t6 = 1#1), ∀ a x, ((![v99, v144] : Fin 2 → IVec S16 32) a x).toNat < S320x128.size a) ∧
  (∀ (k0_h10 : k0_cond10 v14 k0_t6 = 1#1), ∀ a x, ((![v99, v144] : Fin 2 → IVec S16 32) a x).toNat < S320x128.size a) ∧
  (∀ (k0_h10 : k0_cond10 v14 k0_t6 = 1#1), ∀ a x, ((![v99, v144] : Fin 2 → IVec S16 32) a x).toNat < S320x128.size a) ∧
  (∀ (k0_h10 : k0_cond10 v14 k0_t6 = 1#1), ∀ a x, ((![v99, v144] : Fin 2 → IVec S16 32) a x).toNat < S320x128.size a)
theorem k0_idx491_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v100, v144] : Fin 2 → IVec S16 32) a x).toNat < S16x128.size a := fun v14 k0_t6 v99 v100 v144 k0_hw101 k0_h10 => k0_hw101.1 k0_h10
theorem k0_idx492_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v99, v144] : Fin 2 → IVec S16 32) a x).toNat < S320x128.size a := fun v14 k0_t6 v99 v100 v144 k0_hw101 k0_h10 => k0_hw101.2.1 k0_h10
theorem k0_idx493_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v99, v144] : Fin 2 → IVec S16 32) a x).toNat < S320x128.size a := fun v14 k0_t6 v99 v100 v144 k0_hw101 k0_h10 => k0_hw101.2.2.1 k0_h10
theorem k0_idx494_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v99, v144] : Fin 2 → IVec S16 32) a x).toNat < S320x128.size a := fun v14 k0_t6 v99 v100 v144 k0_hw101 k0_h10 => k0_hw101.2.2.2.1 k0_h10
theorem k0_idx495_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v99, v144] : Fin 2 → IVec S16 32) a x).toNat < S320x128.size a := fun v14 k0_t6 v99 v100 v144 k0_hw101 k0_h10 => k0_hw101.2.2.2.2.1 k0_h10
theorem k0_idx496_inb : ∀ (v14 : BitVec 32) (k0_t6 : Fin (k0_t6_loop v14).trips) (v99 : IVec S16 32) (v100 : IVec S16 32) (v144 : IVec S16 32) (k0_hw101 : k0_chk101 v14 k0_t6 v99 v100 v144), ∀ (k0_h10 : k0_cond10 v14 k0_t6 = 1#1), ∀ a x, ((![v99, v144] : Fin 2 → IVec S16 32) a x).toNat < S320x128.size a := fun v14 k0_t6 v99 v100 v144 k0_hw101 k0_h10 => k0_hw101.2.2.2.2.2 k0_h10

def k0_chk102 (v14 : BitVec 32) (k0_t6 : Fin (k0_t6_loop v14).trips) (v99 : IVec S16 32) (v100 : IVec S16 32) (v151 : IVec S16 32) : Prop :=
  (∀ (k0_h10 : k0_cond10 v14 k0_t6 = 1#1), ∀ a x, ((![v100, v151] : Fin 2 → IVec S16 32) a x).toNat < S16x128.size a) ∧
  (∀ (k0_h10 : k0_cond10 v14 k0_t6 = 1#1), ∀ a x, ((![v99, v151] : Fin 2 → IVec S16 32) a x).toNat < S320x128.size a) ∧
  (∀ (k0_h10 : k0_cond10 v14 k0_t6 = 1#1), ∀ a x, ((![v99, v151] : Fin 2 → IVec S16 32) a x).toNat < S320x128.size a) ∧
  (∀ (k0_h10 : k0_cond10 v14 k0_t6 = 1#1), ∀ a x, ((![v99, v151] : Fin 2 → IVec S16 32) a x).toNat < S320x128.size a) ∧
  (∀ (k0_h10 : k0_cond10 v14 k0_t6 = 1#1), ∀ a x, ((![v99, v151] : Fin 2 → IVec S16 32) a x).toNat < S320x128.size a) ∧
  (∀ (k0_h10 : k0_cond10 v14 k0_t6 = 1#1), ∀ a x, ((![v99, v151] : Fin 2 → IVec S16 32) a x).toNat < S320x128.size a)
theorem k0_idx497_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v100, v151] : Fin 2 → IVec S16 32) a x).toNat < S16x128.size a := fun v14 k0_t6 v99 v100 v151 k0_hw102 k0_h10 => k0_hw102.1 k0_h10
theorem k0_idx498_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v99, v151] : Fin 2 → IVec S16 32) a x).toNat < S320x128.size a := fun v14 k0_t6 v99 v100 v151 k0_hw102 k0_h10 => k0_hw102.2.1 k0_h10
theorem k0_idx499_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v99, v151] : Fin 2 → IVec S16 32) a x).toNat < S320x128.size a := fun v14 k0_t6 v99 v100 v151 k0_hw102 k0_h10 => k0_hw102.2.2.1 k0_h10
theorem k0_idx500_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v99, v151] : Fin 2 → IVec S16 32) a x).toNat < S320x128.size a := fun v14 k0_t6 v99 v100 v151 k0_hw102 k0_h10 => k0_hw102.2.2.2.1 k0_h10
theorem k0_idx501_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v99, v151] : Fin 2 → IVec S16 32) a x).toNat < S320x128.size a := fun v14 k0_t6 v99 v100 v151 k0_hw102 k0_h10 => k0_hw102.2.2.2.2.1 k0_h10
theorem k0_idx502_inb : ∀ (v14 : BitVec 32) (k0_t6 : Fin (k0_t6_loop v14).trips) (v99 : IVec S16 32) (v100 : IVec S16 32) (v151 : IVec S16 32) (k0_hw102 : k0_chk102 v14 k0_t6 v99 v100 v151), ∀ (k0_h10 : k0_cond10 v14 k0_t6 = 1#1), ∀ a x, ((![v99, v151] : Fin 2 → IVec S16 32) a x).toNat < S320x128.size a := fun v14 k0_t6 v99 v100 v151 k0_hw102 k0_h10 => k0_hw102.2.2.2.2.2 k0_h10

def k0_chk103 (v14 : BitVec 32) (k0_t6 : Fin (k0_t6_loop v14).trips) (v99 : IVec S16 32) : Prop :=
  (∀ (k0_h10 : k0_cond10 v14 k0_t6 = 1#1), ∀ a x, ((![v99] : Fin 1 → IVec S16 32) a x).toNat < S320.size a)
theorem k0_idx503_inb : ∀ (v14 : BitVec 32) (k0_t6 : Fin (k0_t6_loop v14).trips) (v99 : IVec S16 32) (k0_hw103 : k0_chk103 v14 k0_t6 v99), ∀ (k0_h10 : k0_cond10 v14 k0_t6 = 1#1), ∀ a x, ((![v99] : Fin 1 → IVec S16 32) a x).toNat < S320.size a := fun v14 k0_t6 v99 k0_hw103 k0_h10 => k0_hw103 k0_h10
def k0_cond11 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c10_i32 : BitVec 32 := 10#32
  let v79 : BitVec 1 := Scalar.cmpi .sgt v45 c10_i32
  let v80 : BitVec 32 := Scalar.extui v79
  let c0_i32_53 : BitVec 32 := 0#32
  let v81 : BitVec 1 := Scalar.cmpi .ne v80 c0_i32_53
  v81

def k0_chk104 (v14 : BitVec 32) (k0_t6 : Fin (k0_t6_loop v14).trips) (v98 : IVec S16 32) : Prop :=
  (∀ (k0_h11 : k0_cond11 v14 k0_t6 = 1#1), ∀ a x, ((![v98] : Fin 1 → IVec S16 32) a x).toNat < S528.size a)
theorem k0_idx504_inb : ∀ (v14 : BitVec 32) (k0_t6 : Fin (k0_t6_loop v14).trips) (v98 : IVec S16 32) (k0_hw104 : k0_chk104 v14 k0_t6 v98), ∀ (k0_h11 : k0_cond11 v14 k0_t6 = 1#1), ∀ a x, ((![v98] : Fin 1 → IVec S16 32) a x).toNat < S528.size a := fun v14 k0_t6 v98 k0_hw104 k0_h11 => k0_hw104 k0_h11

def k0_chk105 (v14 : BitVec 32) (k0_t6 : Fin (k0_t6_loop v14).trips) (v99 : IVec S16 32) (v100 : IVec S16 32) (v102 : IVec S16 32) : Prop :=
  (∀ (k0_h11 : k0_cond11 v14 k0_t6 = 1#1), ∀ a x, ((![v100, v102] : Fin 2 → IVec S16 32) a x).toNat < S16x128.size a) ∧
  (∀ (k0_h11 : k0_cond11 v14 k0_t6 = 1#1), ∀ a x, ((![v99, v102] : Fin 2 → IVec S16 32) a x).toNat < S320x128.size a) ∧
  (∀ (k0_h11 : k0_cond11 v14 k0_t6 = 1#1), ∀ a x, ((![v99, v102] : Fin 2 → IVec S16 32) a x).toNat < S320x128.size a) ∧
  (∀ (k0_h11 : k0_cond11 v14 k0_t6 = 1#1), ∀ a x, ((![v99, v102] : Fin 2 → IVec S16 32) a x).toNat < S320x128.size a) ∧
  (∀ (k0_h11 : k0_cond11 v14 k0_t6 = 1#1), ∀ a x, ((![v99, v102] : Fin 2 → IVec S16 32) a x).toNat < S320x128.size a) ∧
  (∀ (k0_h11 : k0_cond11 v14 k0_t6 = 1#1), ∀ a x, ((![v99, v102] : Fin 2 → IVec S16 32) a x).toNat < S320x128.size a)
theorem k0_idx505_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v100, v102] : Fin 2 → IVec S16 32) a x).toNat < S16x128.size a := fun v14 k0_t6 v99 v100 v102 k0_hw105 k0_h11 => k0_hw105.1 k0_h11
theorem k0_idx506_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v99, v102] : Fin 2 → IVec S16 32) a x).toNat < S320x128.size a := fun v14 k0_t6 v99 v100 v102 k0_hw105 k0_h11 => k0_hw105.2.1 k0_h11
theorem k0_idx507_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v99, v102] : Fin 2 → IVec S16 32) a x).toNat < S320x128.size a := fun v14 k0_t6 v99 v100 v102 k0_hw105 k0_h11 => k0_hw105.2.2.1 k0_h11
theorem k0_idx508_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v99, v102] : Fin 2 → IVec S16 32) a x).toNat < S320x128.size a := fun v14 k0_t6 v99 v100 v102 k0_hw105 k0_h11 => k0_hw105.2.2.2.1 k0_h11
theorem k0_idx509_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v99, v102] : Fin 2 → IVec S16 32) a x).toNat < S320x128.size a := fun v14 k0_t6 v99 v100 v102 k0_hw105 k0_h11 => k0_hw105.2.2.2.2.1 k0_h11
theorem k0_idx510_inb : ∀ (v14 : BitVec 32) (k0_t6 : Fin (k0_t6_loop v14).trips) (v99 : IVec S16 32) (v100 : IVec S16 32) (v102 : IVec S16 32) (k0_hw105 : k0_chk105 v14 k0_t6 v99 v100 v102), ∀ (k0_h11 : k0_cond11 v14 k0_t6 = 1#1), ∀ a x, ((![v99, v102] : Fin 2 → IVec S16 32) a x).toNat < S320x128.size a := fun v14 k0_t6 v99 v100 v102 k0_hw105 k0_h11 => k0_hw105.2.2.2.2.2 k0_h11

def k0_chk106 (v14 : BitVec 32) (k0_t6 : Fin (k0_t6_loop v14).trips) (v99 : IVec S16 32) (v100 : IVec S16 32) (v109 : IVec S16 32) : Prop :=
  (∀ (k0_h11 : k0_cond11 v14 k0_t6 = 1#1), ∀ a x, ((![v100, v109] : Fin 2 → IVec S16 32) a x).toNat < S16x128.size a) ∧
  (∀ (k0_h11 : k0_cond11 v14 k0_t6 = 1#1), ∀ a x, ((![v99, v109] : Fin 2 → IVec S16 32) a x).toNat < S320x128.size a) ∧
  (∀ (k0_h11 : k0_cond11 v14 k0_t6 = 1#1), ∀ a x, ((![v99, v109] : Fin 2 → IVec S16 32) a x).toNat < S320x128.size a) ∧
  (∀ (k0_h11 : k0_cond11 v14 k0_t6 = 1#1), ∀ a x, ((![v99, v109] : Fin 2 → IVec S16 32) a x).toNat < S320x128.size a) ∧
  (∀ (k0_h11 : k0_cond11 v14 k0_t6 = 1#1), ∀ a x, ((![v99, v109] : Fin 2 → IVec S16 32) a x).toNat < S320x128.size a) ∧
  (∀ (k0_h11 : k0_cond11 v14 k0_t6 = 1#1), ∀ a x, ((![v99, v109] : Fin 2 → IVec S16 32) a x).toNat < S320x128.size a)
theorem k0_idx511_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v100, v109] : Fin 2 → IVec S16 32) a x).toNat < S16x128.size a := fun v14 k0_t6 v99 v100 v109 k0_hw106 k0_h11 => k0_hw106.1 k0_h11
theorem k0_idx512_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v99, v109] : Fin 2 → IVec S16 32) a x).toNat < S320x128.size a := fun v14 k0_t6 v99 v100 v109 k0_hw106 k0_h11 => k0_hw106.2.1 k0_h11
theorem k0_idx513_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v99, v109] : Fin 2 → IVec S16 32) a x).toNat < S320x128.size a := fun v14 k0_t6 v99 v100 v109 k0_hw106 k0_h11 => k0_hw106.2.2.1 k0_h11
theorem k0_idx514_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v99, v109] : Fin 2 → IVec S16 32) a x).toNat < S320x128.size a := fun v14 k0_t6 v99 v100 v109 k0_hw106 k0_h11 => k0_hw106.2.2.2.1 k0_h11
theorem k0_idx515_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v99, v109] : Fin 2 → IVec S16 32) a x).toNat < S320x128.size a := fun v14 k0_t6 v99 v100 v109 k0_hw106 k0_h11 => k0_hw106.2.2.2.2.1 k0_h11
theorem k0_idx516_inb : ∀ (v14 : BitVec 32) (k0_t6 : Fin (k0_t6_loop v14).trips) (v99 : IVec S16 32) (v100 : IVec S16 32) (v109 : IVec S16 32) (k0_hw106 : k0_chk106 v14 k0_t6 v99 v100 v109), ∀ (k0_h11 : k0_cond11 v14 k0_t6 = 1#1), ∀ a x, ((![v99, v109] : Fin 2 → IVec S16 32) a x).toNat < S320x128.size a := fun v14 k0_t6 v99 v100 v109 k0_hw106 k0_h11 => k0_hw106.2.2.2.2.2 k0_h11

def k0_chk107 (v14 : BitVec 32) (k0_t6 : Fin (k0_t6_loop v14).trips) (v99 : IVec S16 32) (v100 : IVec S16 32) (v116 : IVec S16 32) : Prop :=
  (∀ (k0_h11 : k0_cond11 v14 k0_t6 = 1#1), ∀ a x, ((![v100, v116] : Fin 2 → IVec S16 32) a x).toNat < S16x128.size a) ∧
  (∀ (k0_h11 : k0_cond11 v14 k0_t6 = 1#1), ∀ a x, ((![v99, v116] : Fin 2 → IVec S16 32) a x).toNat < S320x128.size a) ∧
  (∀ (k0_h11 : k0_cond11 v14 k0_t6 = 1#1), ∀ a x, ((![v99, v116] : Fin 2 → IVec S16 32) a x).toNat < S320x128.size a) ∧
  (∀ (k0_h11 : k0_cond11 v14 k0_t6 = 1#1), ∀ a x, ((![v99, v116] : Fin 2 → IVec S16 32) a x).toNat < S320x128.size a) ∧
  (∀ (k0_h11 : k0_cond11 v14 k0_t6 = 1#1), ∀ a x, ((![v99, v116] : Fin 2 → IVec S16 32) a x).toNat < S320x128.size a) ∧
  (∀ (k0_h11 : k0_cond11 v14 k0_t6 = 1#1), ∀ a x, ((![v99, v116] : Fin 2 → IVec S16 32) a x).toNat < S320x128.size a)
theorem k0_idx517_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v100, v116] : Fin 2 → IVec S16 32) a x).toNat < S16x128.size a := fun v14 k0_t6 v99 v100 v116 k0_hw107 k0_h11 => k0_hw107.1 k0_h11
theorem k0_idx518_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v99, v116] : Fin 2 → IVec S16 32) a x).toNat < S320x128.size a := fun v14 k0_t6 v99 v100 v116 k0_hw107 k0_h11 => k0_hw107.2.1 k0_h11
theorem k0_idx519_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v99, v116] : Fin 2 → IVec S16 32) a x).toNat < S320x128.size a := fun v14 k0_t6 v99 v100 v116 k0_hw107 k0_h11 => k0_hw107.2.2.1 k0_h11
theorem k0_idx520_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v99, v116] : Fin 2 → IVec S16 32) a x).toNat < S320x128.size a := fun v14 k0_t6 v99 v100 v116 k0_hw107 k0_h11 => k0_hw107.2.2.2.1 k0_h11
theorem k0_idx521_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v99, v116] : Fin 2 → IVec S16 32) a x).toNat < S320x128.size a := fun v14 k0_t6 v99 v100 v116 k0_hw107 k0_h11 => k0_hw107.2.2.2.2.1 k0_h11
theorem k0_idx522_inb : ∀ (v14 : BitVec 32) (k0_t6 : Fin (k0_t6_loop v14).trips) (v99 : IVec S16 32) (v100 : IVec S16 32) (v116 : IVec S16 32) (k0_hw107 : k0_chk107 v14 k0_t6 v99 v100 v116), ∀ (k0_h11 : k0_cond11 v14 k0_t6 = 1#1), ∀ a x, ((![v99, v116] : Fin 2 → IVec S16 32) a x).toNat < S320x128.size a := fun v14 k0_t6 v99 v100 v116 k0_hw107 k0_h11 => k0_hw107.2.2.2.2.2 k0_h11

def k0_chk108 (v14 : BitVec 32) (k0_t6 : Fin (k0_t6_loop v14).trips) (v99 : IVec S16 32) (v100 : IVec S16 32) (v123 : IVec S16 32) : Prop :=
  (∀ (k0_h11 : k0_cond11 v14 k0_t6 = 1#1), ∀ a x, ((![v100, v123] : Fin 2 → IVec S16 32) a x).toNat < S16x128.size a) ∧
  (∀ (k0_h11 : k0_cond11 v14 k0_t6 = 1#1), ∀ a x, ((![v99, v123] : Fin 2 → IVec S16 32) a x).toNat < S320x128.size a) ∧
  (∀ (k0_h11 : k0_cond11 v14 k0_t6 = 1#1), ∀ a x, ((![v99, v123] : Fin 2 → IVec S16 32) a x).toNat < S320x128.size a) ∧
  (∀ (k0_h11 : k0_cond11 v14 k0_t6 = 1#1), ∀ a x, ((![v99, v123] : Fin 2 → IVec S16 32) a x).toNat < S320x128.size a) ∧
  (∀ (k0_h11 : k0_cond11 v14 k0_t6 = 1#1), ∀ a x, ((![v99, v123] : Fin 2 → IVec S16 32) a x).toNat < S320x128.size a) ∧
  (∀ (k0_h11 : k0_cond11 v14 k0_t6 = 1#1), ∀ a x, ((![v99, v123] : Fin 2 → IVec S16 32) a x).toNat < S320x128.size a)
theorem k0_idx523_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v100, v123] : Fin 2 → IVec S16 32) a x).toNat < S16x128.size a := fun v14 k0_t6 v99 v100 v123 k0_hw108 k0_h11 => k0_hw108.1 k0_h11
theorem k0_idx524_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v99, v123] : Fin 2 → IVec S16 32) a x).toNat < S320x128.size a := fun v14 k0_t6 v99 v100 v123 k0_hw108 k0_h11 => k0_hw108.2.1 k0_h11
theorem k0_idx525_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v99, v123] : Fin 2 → IVec S16 32) a x).toNat < S320x128.size a := fun v14 k0_t6 v99 v100 v123 k0_hw108 k0_h11 => k0_hw108.2.2.1 k0_h11
theorem k0_idx526_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v99, v123] : Fin 2 → IVec S16 32) a x).toNat < S320x128.size a := fun v14 k0_t6 v99 v100 v123 k0_hw108 k0_h11 => k0_hw108.2.2.2.1 k0_h11
theorem k0_idx527_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v99, v123] : Fin 2 → IVec S16 32) a x).toNat < S320x128.size a := fun v14 k0_t6 v99 v100 v123 k0_hw108 k0_h11 => k0_hw108.2.2.2.2.1 k0_h11
theorem k0_idx528_inb : ∀ (v14 : BitVec 32) (k0_t6 : Fin (k0_t6_loop v14).trips) (v99 : IVec S16 32) (v100 : IVec S16 32) (v123 : IVec S16 32) (k0_hw108 : k0_chk108 v14 k0_t6 v99 v100 v123), ∀ (k0_h11 : k0_cond11 v14 k0_t6 = 1#1), ∀ a x, ((![v99, v123] : Fin 2 → IVec S16 32) a x).toNat < S320x128.size a := fun v14 k0_t6 v99 v100 v123 k0_hw108 k0_h11 => k0_hw108.2.2.2.2.2 k0_h11

def k0_chk109 (v14 : BitVec 32) (k0_t6 : Fin (k0_t6_loop v14).trips) (v99 : IVec S16 32) (v100 : IVec S16 32) (v130 : IVec S16 32) : Prop :=
  (∀ (k0_h11 : k0_cond11 v14 k0_t6 = 1#1), ∀ a x, ((![v100, v130] : Fin 2 → IVec S16 32) a x).toNat < S16x128.size a) ∧
  (∀ (k0_h11 : k0_cond11 v14 k0_t6 = 1#1), ∀ a x, ((![v99, v130] : Fin 2 → IVec S16 32) a x).toNat < S320x128.size a) ∧
  (∀ (k0_h11 : k0_cond11 v14 k0_t6 = 1#1), ∀ a x, ((![v99, v130] : Fin 2 → IVec S16 32) a x).toNat < S320x128.size a) ∧
  (∀ (k0_h11 : k0_cond11 v14 k0_t6 = 1#1), ∀ a x, ((![v99, v130] : Fin 2 → IVec S16 32) a x).toNat < S320x128.size a) ∧
  (∀ (k0_h11 : k0_cond11 v14 k0_t6 = 1#1), ∀ a x, ((![v99, v130] : Fin 2 → IVec S16 32) a x).toNat < S320x128.size a) ∧
  (∀ (k0_h11 : k0_cond11 v14 k0_t6 = 1#1), ∀ a x, ((![v99, v130] : Fin 2 → IVec S16 32) a x).toNat < S320x128.size a)
theorem k0_idx529_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v100, v130] : Fin 2 → IVec S16 32) a x).toNat < S16x128.size a := fun v14 k0_t6 v99 v100 v130 k0_hw109 k0_h11 => k0_hw109.1 k0_h11
theorem k0_idx530_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v99, v130] : Fin 2 → IVec S16 32) a x).toNat < S320x128.size a := fun v14 k0_t6 v99 v100 v130 k0_hw109 k0_h11 => k0_hw109.2.1 k0_h11
theorem k0_idx531_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v99, v130] : Fin 2 → IVec S16 32) a x).toNat < S320x128.size a := fun v14 k0_t6 v99 v100 v130 k0_hw109 k0_h11 => k0_hw109.2.2.1 k0_h11
theorem k0_idx532_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v99, v130] : Fin 2 → IVec S16 32) a x).toNat < S320x128.size a := fun v14 k0_t6 v99 v100 v130 k0_hw109 k0_h11 => k0_hw109.2.2.2.1 k0_h11
theorem k0_idx533_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v99, v130] : Fin 2 → IVec S16 32) a x).toNat < S320x128.size a := fun v14 k0_t6 v99 v100 v130 k0_hw109 k0_h11 => k0_hw109.2.2.2.2.1 k0_h11
theorem k0_idx534_inb : ∀ (v14 : BitVec 32) (k0_t6 : Fin (k0_t6_loop v14).trips) (v99 : IVec S16 32) (v100 : IVec S16 32) (v130 : IVec S16 32) (k0_hw109 : k0_chk109 v14 k0_t6 v99 v100 v130), ∀ (k0_h11 : k0_cond11 v14 k0_t6 = 1#1), ∀ a x, ((![v99, v130] : Fin 2 → IVec S16 32) a x).toNat < S320x128.size a := fun v14 k0_t6 v99 v100 v130 k0_hw109 k0_h11 => k0_hw109.2.2.2.2.2 k0_h11

def k0_chk110 (v14 : BitVec 32) (k0_t6 : Fin (k0_t6_loop v14).trips) (v99 : IVec S16 32) (v100 : IVec S16 32) (v137 : IVec S16 32) : Prop :=
  (∀ (k0_h11 : k0_cond11 v14 k0_t6 = 1#1), ∀ a x, ((![v100, v137] : Fin 2 → IVec S16 32) a x).toNat < S16x128.size a) ∧
  (∀ (k0_h11 : k0_cond11 v14 k0_t6 = 1#1), ∀ a x, ((![v99, v137] : Fin 2 → IVec S16 32) a x).toNat < S320x128.size a) ∧
  (∀ (k0_h11 : k0_cond11 v14 k0_t6 = 1#1), ∀ a x, ((![v99, v137] : Fin 2 → IVec S16 32) a x).toNat < S320x128.size a) ∧
  (∀ (k0_h11 : k0_cond11 v14 k0_t6 = 1#1), ∀ a x, ((![v99, v137] : Fin 2 → IVec S16 32) a x).toNat < S320x128.size a) ∧
  (∀ (k0_h11 : k0_cond11 v14 k0_t6 = 1#1), ∀ a x, ((![v99, v137] : Fin 2 → IVec S16 32) a x).toNat < S320x128.size a) ∧
  (∀ (k0_h11 : k0_cond11 v14 k0_t6 = 1#1), ∀ a x, ((![v99, v137] : Fin 2 → IVec S16 32) a x).toNat < S320x128.size a)
theorem k0_idx535_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v100, v137] : Fin 2 → IVec S16 32) a x).toNat < S16x128.size a := fun v14 k0_t6 v99 v100 v137 k0_hw110 k0_h11 => k0_hw110.1 k0_h11
theorem k0_idx536_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v99, v137] : Fin 2 → IVec S16 32) a x).toNat < S320x128.size a := fun v14 k0_t6 v99 v100 v137 k0_hw110 k0_h11 => k0_hw110.2.1 k0_h11
theorem k0_idx537_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v99, v137] : Fin 2 → IVec S16 32) a x).toNat < S320x128.size a := fun v14 k0_t6 v99 v100 v137 k0_hw110 k0_h11 => k0_hw110.2.2.1 k0_h11
theorem k0_idx538_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v99, v137] : Fin 2 → IVec S16 32) a x).toNat < S320x128.size a := fun v14 k0_t6 v99 v100 v137 k0_hw110 k0_h11 => k0_hw110.2.2.2.1 k0_h11
theorem k0_idx539_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v99, v137] : Fin 2 → IVec S16 32) a x).toNat < S320x128.size a := fun v14 k0_t6 v99 v100 v137 k0_hw110 k0_h11 => k0_hw110.2.2.2.2.1 k0_h11
theorem k0_idx540_inb : ∀ (v14 : BitVec 32) (k0_t6 : Fin (k0_t6_loop v14).trips) (v99 : IVec S16 32) (v100 : IVec S16 32) (v137 : IVec S16 32) (k0_hw110 : k0_chk110 v14 k0_t6 v99 v100 v137), ∀ (k0_h11 : k0_cond11 v14 k0_t6 = 1#1), ∀ a x, ((![v99, v137] : Fin 2 → IVec S16 32) a x).toNat < S320x128.size a := fun v14 k0_t6 v99 v100 v137 k0_hw110 k0_h11 => k0_hw110.2.2.2.2.2 k0_h11

def k0_chk111 (v14 : BitVec 32) (k0_t6 : Fin (k0_t6_loop v14).trips) (v99 : IVec S16 32) (v100 : IVec S16 32) (v144 : IVec S16 32) : Prop :=
  (∀ (k0_h11 : k0_cond11 v14 k0_t6 = 1#1), ∀ a x, ((![v100, v144] : Fin 2 → IVec S16 32) a x).toNat < S16x128.size a) ∧
  (∀ (k0_h11 : k0_cond11 v14 k0_t6 = 1#1), ∀ a x, ((![v99, v144] : Fin 2 → IVec S16 32) a x).toNat < S320x128.size a) ∧
  (∀ (k0_h11 : k0_cond11 v14 k0_t6 = 1#1), ∀ a x, ((![v99, v144] : Fin 2 → IVec S16 32) a x).toNat < S320x128.size a) ∧
  (∀ (k0_h11 : k0_cond11 v14 k0_t6 = 1#1), ∀ a x, ((![v99, v144] : Fin 2 → IVec S16 32) a x).toNat < S320x128.size a) ∧
  (∀ (k0_h11 : k0_cond11 v14 k0_t6 = 1#1), ∀ a x, ((![v99, v144] : Fin 2 → IVec S16 32) a x).toNat < S320x128.size a) ∧
  (∀ (k0_h11 : k0_cond11 v14 k0_t6 = 1#1), ∀ a x, ((![v99, v144] : Fin 2 → IVec S16 32) a x).toNat < S320x128.size a)
theorem k0_idx541_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v100, v144] : Fin 2 → IVec S16 32) a x).toNat < S16x128.size a := fun v14 k0_t6 v99 v100 v144 k0_hw111 k0_h11 => k0_hw111.1 k0_h11
theorem k0_idx542_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v99, v144] : Fin 2 → IVec S16 32) a x).toNat < S320x128.size a := fun v14 k0_t6 v99 v100 v144 k0_hw111 k0_h11 => k0_hw111.2.1 k0_h11
theorem k0_idx543_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v99, v144] : Fin 2 → IVec S16 32) a x).toNat < S320x128.size a := fun v14 k0_t6 v99 v100 v144 k0_hw111 k0_h11 => k0_hw111.2.2.1 k0_h11
theorem k0_idx544_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v99, v144] : Fin 2 → IVec S16 32) a x).toNat < S320x128.size a := fun v14 k0_t6 v99 v100 v144 k0_hw111 k0_h11 => k0_hw111.2.2.2.1 k0_h11
theorem k0_idx545_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v99, v144] : Fin 2 → IVec S16 32) a x).toNat < S320x128.size a := fun v14 k0_t6 v99 v100 v144 k0_hw111 k0_h11 => k0_hw111.2.2.2.2.1 k0_h11
theorem k0_idx546_inb : ∀ (v14 : BitVec 32) (k0_t6 : Fin (k0_t6_loop v14).trips) (v99 : IVec S16 32) (v100 : IVec S16 32) (v144 : IVec S16 32) (k0_hw111 : k0_chk111 v14 k0_t6 v99 v100 v144), ∀ (k0_h11 : k0_cond11 v14 k0_t6 = 1#1), ∀ a x, ((![v99, v144] : Fin 2 → IVec S16 32) a x).toNat < S320x128.size a := fun v14 k0_t6 v99 v100 v144 k0_hw111 k0_h11 => k0_hw111.2.2.2.2.2 k0_h11

def k0_chk112 (v14 : BitVec 32) (k0_t6 : Fin (k0_t6_loop v14).trips) (v99 : IVec S16 32) (v100 : IVec S16 32) (v151 : IVec S16 32) : Prop :=
  (∀ (k0_h11 : k0_cond11 v14 k0_t6 = 1#1), ∀ a x, ((![v100, v151] : Fin 2 → IVec S16 32) a x).toNat < S16x128.size a) ∧
  (∀ (k0_h11 : k0_cond11 v14 k0_t6 = 1#1), ∀ a x, ((![v99, v151] : Fin 2 → IVec S16 32) a x).toNat < S320x128.size a) ∧
  (∀ (k0_h11 : k0_cond11 v14 k0_t6 = 1#1), ∀ a x, ((![v99, v151] : Fin 2 → IVec S16 32) a x).toNat < S320x128.size a) ∧
  (∀ (k0_h11 : k0_cond11 v14 k0_t6 = 1#1), ∀ a x, ((![v99, v151] : Fin 2 → IVec S16 32) a x).toNat < S320x128.size a) ∧
  (∀ (k0_h11 : k0_cond11 v14 k0_t6 = 1#1), ∀ a x, ((![v99, v151] : Fin 2 → IVec S16 32) a x).toNat < S320x128.size a) ∧
  (∀ (k0_h11 : k0_cond11 v14 k0_t6 = 1#1), ∀ a x, ((![v99, v151] : Fin 2 → IVec S16 32) a x).toNat < S320x128.size a)
theorem k0_idx547_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v100, v151] : Fin 2 → IVec S16 32) a x).toNat < S16x128.size a := fun v14 k0_t6 v99 v100 v151 k0_hw112 k0_h11 => k0_hw112.1 k0_h11
theorem k0_idx548_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v99, v151] : Fin 2 → IVec S16 32) a x).toNat < S320x128.size a := fun v14 k0_t6 v99 v100 v151 k0_hw112 k0_h11 => k0_hw112.2.1 k0_h11
theorem k0_idx549_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v99, v151] : Fin 2 → IVec S16 32) a x).toNat < S320x128.size a := fun v14 k0_t6 v99 v100 v151 k0_hw112 k0_h11 => k0_hw112.2.2.1 k0_h11
theorem k0_idx550_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v99, v151] : Fin 2 → IVec S16 32) a x).toNat < S320x128.size a := fun v14 k0_t6 v99 v100 v151 k0_hw112 k0_h11 => k0_hw112.2.2.2.1 k0_h11
theorem k0_idx551_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v99, v151] : Fin 2 → IVec S16 32) a x).toNat < S320x128.size a := fun v14 k0_t6 v99 v100 v151 k0_hw112 k0_h11 => k0_hw112.2.2.2.2.1 k0_h11
theorem k0_idx552_inb : ∀ (v14 : BitVec 32) (k0_t6 : Fin (k0_t6_loop v14).trips) (v99 : IVec S16 32) (v100 : IVec S16 32) (v151 : IVec S16 32) (k0_hw112 : k0_chk112 v14 k0_t6 v99 v100 v151), ∀ (k0_h11 : k0_cond11 v14 k0_t6 = 1#1), ∀ a x, ((![v99, v151] : Fin 2 → IVec S16 32) a x).toNat < S320x128.size a := fun v14 k0_t6 v99 v100 v151 k0_hw112 k0_h11 => k0_hw112.2.2.2.2.2 k0_h11

def k0_chk113 (v14 : BitVec 32) (k0_t6 : Fin (k0_t6_loop v14).trips) (v99 : IVec S16 32) : Prop :=
  (∀ (k0_h11 : k0_cond11 v14 k0_t6 = 1#1), ∀ a x, ((![v99] : Fin 1 → IVec S16 32) a x).toNat < S320.size a)
theorem k0_idx553_inb : ∀ (v14 : BitVec 32) (k0_t6 : Fin (k0_t6_loop v14).trips) (v99 : IVec S16 32) (k0_hw113 : k0_chk113 v14 k0_t6 v99), ∀ (k0_h11 : k0_cond11 v14 k0_t6 = 1#1), ∀ a x, ((![v99] : Fin 1 → IVec S16 32) a x).toNat < S320.size a := fun v14 k0_t6 v99 k0_hw113 k0_h11 => k0_hw113 k0_h11
def k0_cond12 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c11_i32 : BitVec 32 := 11#32
  let v82 : BitVec 1 := Scalar.cmpi .sgt v45 c11_i32
  let v83 : BitVec 32 := Scalar.extui v82
  let c0_i32_54 : BitVec 32 := 0#32
  let v84 : BitVec 1 := Scalar.cmpi .ne v83 c0_i32_54
  v84

def k0_chk114 (v14 : BitVec 32) (k0_t6 : Fin (k0_t6_loop v14).trips) (v98 : IVec S16 32) : Prop :=
  (∀ (k0_h12 : k0_cond12 v14 k0_t6 = 1#1), ∀ a x, ((![v98] : Fin 1 → IVec S16 32) a x).toNat < S528.size a)
theorem k0_idx554_inb : ∀ (v14 : BitVec 32) (k0_t6 : Fin (k0_t6_loop v14).trips) (v98 : IVec S16 32) (k0_hw114 : k0_chk114 v14 k0_t6 v98), ∀ (k0_h12 : k0_cond12 v14 k0_t6 = 1#1), ∀ a x, ((![v98] : Fin 1 → IVec S16 32) a x).toNat < S528.size a := fun v14 k0_t6 v98 k0_hw114 k0_h12 => k0_hw114 k0_h12

def k0_chk115 (v14 : BitVec 32) (k0_t6 : Fin (k0_t6_loop v14).trips) (v99 : IVec S16 32) (v100 : IVec S16 32) (v102 : IVec S16 32) : Prop :=
  (∀ (k0_h12 : k0_cond12 v14 k0_t6 = 1#1), ∀ a x, ((![v100, v102] : Fin 2 → IVec S16 32) a x).toNat < S16x128.size a) ∧
  (∀ (k0_h12 : k0_cond12 v14 k0_t6 = 1#1), ∀ a x, ((![v99, v102] : Fin 2 → IVec S16 32) a x).toNat < S320x128.size a) ∧
  (∀ (k0_h12 : k0_cond12 v14 k0_t6 = 1#1), ∀ a x, ((![v99, v102] : Fin 2 → IVec S16 32) a x).toNat < S320x128.size a) ∧
  (∀ (k0_h12 : k0_cond12 v14 k0_t6 = 1#1), ∀ a x, ((![v99, v102] : Fin 2 → IVec S16 32) a x).toNat < S320x128.size a) ∧
  (∀ (k0_h12 : k0_cond12 v14 k0_t6 = 1#1), ∀ a x, ((![v99, v102] : Fin 2 → IVec S16 32) a x).toNat < S320x128.size a) ∧
  (∀ (k0_h12 : k0_cond12 v14 k0_t6 = 1#1), ∀ a x, ((![v99, v102] : Fin 2 → IVec S16 32) a x).toNat < S320x128.size a)
theorem k0_idx555_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v100, v102] : Fin 2 → IVec S16 32) a x).toNat < S16x128.size a := fun v14 k0_t6 v99 v100 v102 k0_hw115 k0_h12 => k0_hw115.1 k0_h12
theorem k0_idx556_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v99, v102] : Fin 2 → IVec S16 32) a x).toNat < S320x128.size a := fun v14 k0_t6 v99 v100 v102 k0_hw115 k0_h12 => k0_hw115.2.1 k0_h12
theorem k0_idx557_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v99, v102] : Fin 2 → IVec S16 32) a x).toNat < S320x128.size a := fun v14 k0_t6 v99 v100 v102 k0_hw115 k0_h12 => k0_hw115.2.2.1 k0_h12
theorem k0_idx558_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v99, v102] : Fin 2 → IVec S16 32) a x).toNat < S320x128.size a := fun v14 k0_t6 v99 v100 v102 k0_hw115 k0_h12 => k0_hw115.2.2.2.1 k0_h12
theorem k0_idx559_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v99, v102] : Fin 2 → IVec S16 32) a x).toNat < S320x128.size a := fun v14 k0_t6 v99 v100 v102 k0_hw115 k0_h12 => k0_hw115.2.2.2.2.1 k0_h12
theorem k0_idx560_inb : ∀ (v14 : BitVec 32) (k0_t6 : Fin (k0_t6_loop v14).trips) (v99 : IVec S16 32) (v100 : IVec S16 32) (v102 : IVec S16 32) (k0_hw115 : k0_chk115 v14 k0_t6 v99 v100 v102), ∀ (k0_h12 : k0_cond12 v14 k0_t6 = 1#1), ∀ a x, ((![v99, v102] : Fin 2 → IVec S16 32) a x).toNat < S320x128.size a := fun v14 k0_t6 v99 v100 v102 k0_hw115 k0_h12 => k0_hw115.2.2.2.2.2 k0_h12

def k0_chk116 (v14 : BitVec 32) (k0_t6 : Fin (k0_t6_loop v14).trips) (v99 : IVec S16 32) (v100 : IVec S16 32) (v109 : IVec S16 32) : Prop :=
  (∀ (k0_h12 : k0_cond12 v14 k0_t6 = 1#1), ∀ a x, ((![v100, v109] : Fin 2 → IVec S16 32) a x).toNat < S16x128.size a) ∧
  (∀ (k0_h12 : k0_cond12 v14 k0_t6 = 1#1), ∀ a x, ((![v99, v109] : Fin 2 → IVec S16 32) a x).toNat < S320x128.size a) ∧
  (∀ (k0_h12 : k0_cond12 v14 k0_t6 = 1#1), ∀ a x, ((![v99, v109] : Fin 2 → IVec S16 32) a x).toNat < S320x128.size a) ∧
  (∀ (k0_h12 : k0_cond12 v14 k0_t6 = 1#1), ∀ a x, ((![v99, v109] : Fin 2 → IVec S16 32) a x).toNat < S320x128.size a) ∧
  (∀ (k0_h12 : k0_cond12 v14 k0_t6 = 1#1), ∀ a x, ((![v99, v109] : Fin 2 → IVec S16 32) a x).toNat < S320x128.size a) ∧
  (∀ (k0_h12 : k0_cond12 v14 k0_t6 = 1#1), ∀ a x, ((![v99, v109] : Fin 2 → IVec S16 32) a x).toNat < S320x128.size a)
theorem k0_idx561_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v100, v109] : Fin 2 → IVec S16 32) a x).toNat < S16x128.size a := fun v14 k0_t6 v99 v100 v109 k0_hw116 k0_h12 => k0_hw116.1 k0_h12
theorem k0_idx562_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v99, v109] : Fin 2 → IVec S16 32) a x).toNat < S320x128.size a := fun v14 k0_t6 v99 v100 v109 k0_hw116 k0_h12 => k0_hw116.2.1 k0_h12
theorem k0_idx563_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v99, v109] : Fin 2 → IVec S16 32) a x).toNat < S320x128.size a := fun v14 k0_t6 v99 v100 v109 k0_hw116 k0_h12 => k0_hw116.2.2.1 k0_h12
theorem k0_idx564_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v99, v109] : Fin 2 → IVec S16 32) a x).toNat < S320x128.size a := fun v14 k0_t6 v99 v100 v109 k0_hw116 k0_h12 => k0_hw116.2.2.2.1 k0_h12
theorem k0_idx565_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v99, v109] : Fin 2 → IVec S16 32) a x).toNat < S320x128.size a := fun v14 k0_t6 v99 v100 v109 k0_hw116 k0_h12 => k0_hw116.2.2.2.2.1 k0_h12
theorem k0_idx566_inb : ∀ (v14 : BitVec 32) (k0_t6 : Fin (k0_t6_loop v14).trips) (v99 : IVec S16 32) (v100 : IVec S16 32) (v109 : IVec S16 32) (k0_hw116 : k0_chk116 v14 k0_t6 v99 v100 v109), ∀ (k0_h12 : k0_cond12 v14 k0_t6 = 1#1), ∀ a x, ((![v99, v109] : Fin 2 → IVec S16 32) a x).toNat < S320x128.size a := fun v14 k0_t6 v99 v100 v109 k0_hw116 k0_h12 => k0_hw116.2.2.2.2.2 k0_h12

def k0_chk117 (v14 : BitVec 32) (k0_t6 : Fin (k0_t6_loop v14).trips) (v99 : IVec S16 32) (v100 : IVec S16 32) (v116 : IVec S16 32) : Prop :=
  (∀ (k0_h12 : k0_cond12 v14 k0_t6 = 1#1), ∀ a x, ((![v100, v116] : Fin 2 → IVec S16 32) a x).toNat < S16x128.size a) ∧
  (∀ (k0_h12 : k0_cond12 v14 k0_t6 = 1#1), ∀ a x, ((![v99, v116] : Fin 2 → IVec S16 32) a x).toNat < S320x128.size a) ∧
  (∀ (k0_h12 : k0_cond12 v14 k0_t6 = 1#1), ∀ a x, ((![v99, v116] : Fin 2 → IVec S16 32) a x).toNat < S320x128.size a) ∧
  (∀ (k0_h12 : k0_cond12 v14 k0_t6 = 1#1), ∀ a x, ((![v99, v116] : Fin 2 → IVec S16 32) a x).toNat < S320x128.size a) ∧
  (∀ (k0_h12 : k0_cond12 v14 k0_t6 = 1#1), ∀ a x, ((![v99, v116] : Fin 2 → IVec S16 32) a x).toNat < S320x128.size a) ∧
  (∀ (k0_h12 : k0_cond12 v14 k0_t6 = 1#1), ∀ a x, ((![v99, v116] : Fin 2 → IVec S16 32) a x).toNat < S320x128.size a)
theorem k0_idx567_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v100, v116] : Fin 2 → IVec S16 32) a x).toNat < S16x128.size a := fun v14 k0_t6 v99 v100 v116 k0_hw117 k0_h12 => k0_hw117.1 k0_h12
theorem k0_idx568_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v99, v116] : Fin 2 → IVec S16 32) a x).toNat < S320x128.size a := fun v14 k0_t6 v99 v100 v116 k0_hw117 k0_h12 => k0_hw117.2.1 k0_h12
theorem k0_idx569_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v99, v116] : Fin 2 → IVec S16 32) a x).toNat < S320x128.size a := fun v14 k0_t6 v99 v100 v116 k0_hw117 k0_h12 => k0_hw117.2.2.1 k0_h12
theorem k0_idx570_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v99, v116] : Fin 2 → IVec S16 32) a x).toNat < S320x128.size a := fun v14 k0_t6 v99 v100 v116 k0_hw117 k0_h12 => k0_hw117.2.2.2.1 k0_h12
theorem k0_idx571_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v99, v116] : Fin 2 → IVec S16 32) a x).toNat < S320x128.size a := fun v14 k0_t6 v99 v100 v116 k0_hw117 k0_h12 => k0_hw117.2.2.2.2.1 k0_h12
theorem k0_idx572_inb : ∀ (v14 : BitVec 32) (k0_t6 : Fin (k0_t6_loop v14).trips) (v99 : IVec S16 32) (v100 : IVec S16 32) (v116 : IVec S16 32) (k0_hw117 : k0_chk117 v14 k0_t6 v99 v100 v116), ∀ (k0_h12 : k0_cond12 v14 k0_t6 = 1#1), ∀ a x, ((![v99, v116] : Fin 2 → IVec S16 32) a x).toNat < S320x128.size a := fun v14 k0_t6 v99 v100 v116 k0_hw117 k0_h12 => k0_hw117.2.2.2.2.2 k0_h12

def k0_chk118 (v14 : BitVec 32) (k0_t6 : Fin (k0_t6_loop v14).trips) (v99 : IVec S16 32) (v100 : IVec S16 32) (v123 : IVec S16 32) : Prop :=
  (∀ (k0_h12 : k0_cond12 v14 k0_t6 = 1#1), ∀ a x, ((![v100, v123] : Fin 2 → IVec S16 32) a x).toNat < S16x128.size a) ∧
  (∀ (k0_h12 : k0_cond12 v14 k0_t6 = 1#1), ∀ a x, ((![v99, v123] : Fin 2 → IVec S16 32) a x).toNat < S320x128.size a) ∧
  (∀ (k0_h12 : k0_cond12 v14 k0_t6 = 1#1), ∀ a x, ((![v99, v123] : Fin 2 → IVec S16 32) a x).toNat < S320x128.size a) ∧
  (∀ (k0_h12 : k0_cond12 v14 k0_t6 = 1#1), ∀ a x, ((![v99, v123] : Fin 2 → IVec S16 32) a x).toNat < S320x128.size a) ∧
  (∀ (k0_h12 : k0_cond12 v14 k0_t6 = 1#1), ∀ a x, ((![v99, v123] : Fin 2 → IVec S16 32) a x).toNat < S320x128.size a) ∧
  (∀ (k0_h12 : k0_cond12 v14 k0_t6 = 1#1), ∀ a x, ((![v99, v123] : Fin 2 → IVec S16 32) a x).toNat < S320x128.size a)
theorem k0_idx573_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v100, v123] : Fin 2 → IVec S16 32) a x).toNat < S16x128.size a := fun v14 k0_t6 v99 v100 v123 k0_hw118 k0_h12 => k0_hw118.1 k0_h12
theorem k0_idx574_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v99, v123] : Fin 2 → IVec S16 32) a x).toNat < S320x128.size a := fun v14 k0_t6 v99 v100 v123 k0_hw118 k0_h12 => k0_hw118.2.1 k0_h12
theorem k0_idx575_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v99, v123] : Fin 2 → IVec S16 32) a x).toNat < S320x128.size a := fun v14 k0_t6 v99 v100 v123 k0_hw118 k0_h12 => k0_hw118.2.2.1 k0_h12
theorem k0_idx576_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v99, v123] : Fin 2 → IVec S16 32) a x).toNat < S320x128.size a := fun v14 k0_t6 v99 v100 v123 k0_hw118 k0_h12 => k0_hw118.2.2.2.1 k0_h12
theorem k0_idx577_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v99, v123] : Fin 2 → IVec S16 32) a x).toNat < S320x128.size a := fun v14 k0_t6 v99 v100 v123 k0_hw118 k0_h12 => k0_hw118.2.2.2.2.1 k0_h12
theorem k0_idx578_inb : ∀ (v14 : BitVec 32) (k0_t6 : Fin (k0_t6_loop v14).trips) (v99 : IVec S16 32) (v100 : IVec S16 32) (v123 : IVec S16 32) (k0_hw118 : k0_chk118 v14 k0_t6 v99 v100 v123), ∀ (k0_h12 : k0_cond12 v14 k0_t6 = 1#1), ∀ a x, ((![v99, v123] : Fin 2 → IVec S16 32) a x).toNat < S320x128.size a := fun v14 k0_t6 v99 v100 v123 k0_hw118 k0_h12 => k0_hw118.2.2.2.2.2 k0_h12

def k0_chk119 (v14 : BitVec 32) (k0_t6 : Fin (k0_t6_loop v14).trips) (v99 : IVec S16 32) (v100 : IVec S16 32) (v130 : IVec S16 32) : Prop :=
  (∀ (k0_h12 : k0_cond12 v14 k0_t6 = 1#1), ∀ a x, ((![v100, v130] : Fin 2 → IVec S16 32) a x).toNat < S16x128.size a) ∧
  (∀ (k0_h12 : k0_cond12 v14 k0_t6 = 1#1), ∀ a x, ((![v99, v130] : Fin 2 → IVec S16 32) a x).toNat < S320x128.size a) ∧
  (∀ (k0_h12 : k0_cond12 v14 k0_t6 = 1#1), ∀ a x, ((![v99, v130] : Fin 2 → IVec S16 32) a x).toNat < S320x128.size a) ∧
  (∀ (k0_h12 : k0_cond12 v14 k0_t6 = 1#1), ∀ a x, ((![v99, v130] : Fin 2 → IVec S16 32) a x).toNat < S320x128.size a) ∧
  (∀ (k0_h12 : k0_cond12 v14 k0_t6 = 1#1), ∀ a x, ((![v99, v130] : Fin 2 → IVec S16 32) a x).toNat < S320x128.size a) ∧
  (∀ (k0_h12 : k0_cond12 v14 k0_t6 = 1#1), ∀ a x, ((![v99, v130] : Fin 2 → IVec S16 32) a x).toNat < S320x128.size a)
theorem k0_idx579_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v100, v130] : Fin 2 → IVec S16 32) a x).toNat < S16x128.size a := fun v14 k0_t6 v99 v100 v130 k0_hw119 k0_h12 => k0_hw119.1 k0_h12
theorem k0_idx580_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v99, v130] : Fin 2 → IVec S16 32) a x).toNat < S320x128.size a := fun v14 k0_t6 v99 v100 v130 k0_hw119 k0_h12 => k0_hw119.2.1 k0_h12
theorem k0_idx581_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v99, v130] : Fin 2 → IVec S16 32) a x).toNat < S320x128.size a := fun v14 k0_t6 v99 v100 v130 k0_hw119 k0_h12 => k0_hw119.2.2.1 k0_h12
theorem k0_idx582_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v99, v130] : Fin 2 → IVec S16 32) a x).toNat < S320x128.size a := fun v14 k0_t6 v99 v100 v130 k0_hw119 k0_h12 => k0_hw119.2.2.2.1 k0_h12
theorem k0_idx583_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v99, v130] : Fin 2 → IVec S16 32) a x).toNat < S320x128.size a := fun v14 k0_t6 v99 v100 v130 k0_hw119 k0_h12 => k0_hw119.2.2.2.2.1 k0_h12
theorem k0_idx584_inb : ∀ (v14 : BitVec 32) (k0_t6 : Fin (k0_t6_loop v14).trips) (v99 : IVec S16 32) (v100 : IVec S16 32) (v130 : IVec S16 32) (k0_hw119 : k0_chk119 v14 k0_t6 v99 v100 v130), ∀ (k0_h12 : k0_cond12 v14 k0_t6 = 1#1), ∀ a x, ((![v99, v130] : Fin 2 → IVec S16 32) a x).toNat < S320x128.size a := fun v14 k0_t6 v99 v100 v130 k0_hw119 k0_h12 => k0_hw119.2.2.2.2.2 k0_h12

def k0_chk120 (v14 : BitVec 32) (k0_t6 : Fin (k0_t6_loop v14).trips) (v99 : IVec S16 32) (v100 : IVec S16 32) (v137 : IVec S16 32) : Prop :=
  (∀ (k0_h12 : k0_cond12 v14 k0_t6 = 1#1), ∀ a x, ((![v100, v137] : Fin 2 → IVec S16 32) a x).toNat < S16x128.size a) ∧
  (∀ (k0_h12 : k0_cond12 v14 k0_t6 = 1#1), ∀ a x, ((![v99, v137] : Fin 2 → IVec S16 32) a x).toNat < S320x128.size a) ∧
  (∀ (k0_h12 : k0_cond12 v14 k0_t6 = 1#1), ∀ a x, ((![v99, v137] : Fin 2 → IVec S16 32) a x).toNat < S320x128.size a) ∧
  (∀ (k0_h12 : k0_cond12 v14 k0_t6 = 1#1), ∀ a x, ((![v99, v137] : Fin 2 → IVec S16 32) a x).toNat < S320x128.size a) ∧
  (∀ (k0_h12 : k0_cond12 v14 k0_t6 = 1#1), ∀ a x, ((![v99, v137] : Fin 2 → IVec S16 32) a x).toNat < S320x128.size a) ∧
  (∀ (k0_h12 : k0_cond12 v14 k0_t6 = 1#1), ∀ a x, ((![v99, v137] : Fin 2 → IVec S16 32) a x).toNat < S320x128.size a)
theorem k0_idx585_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v100, v137] : Fin 2 → IVec S16 32) a x).toNat < S16x128.size a := fun v14 k0_t6 v99 v100 v137 k0_hw120 k0_h12 => k0_hw120.1 k0_h12
theorem k0_idx586_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v99, v137] : Fin 2 → IVec S16 32) a x).toNat < S320x128.size a := fun v14 k0_t6 v99 v100 v137 k0_hw120 k0_h12 => k0_hw120.2.1 k0_h12
theorem k0_idx587_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v99, v137] : Fin 2 → IVec S16 32) a x).toNat < S320x128.size a := fun v14 k0_t6 v99 v100 v137 k0_hw120 k0_h12 => k0_hw120.2.2.1 k0_h12
theorem k0_idx588_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v99, v137] : Fin 2 → IVec S16 32) a x).toNat < S320x128.size a := fun v14 k0_t6 v99 v100 v137 k0_hw120 k0_h12 => k0_hw120.2.2.2.1 k0_h12
theorem k0_idx589_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v99, v137] : Fin 2 → IVec S16 32) a x).toNat < S320x128.size a := fun v14 k0_t6 v99 v100 v137 k0_hw120 k0_h12 => k0_hw120.2.2.2.2.1 k0_h12
theorem k0_idx590_inb : ∀ (v14 : BitVec 32) (k0_t6 : Fin (k0_t6_loop v14).trips) (v99 : IVec S16 32) (v100 : IVec S16 32) (v137 : IVec S16 32) (k0_hw120 : k0_chk120 v14 k0_t6 v99 v100 v137), ∀ (k0_h12 : k0_cond12 v14 k0_t6 = 1#1), ∀ a x, ((![v99, v137] : Fin 2 → IVec S16 32) a x).toNat < S320x128.size a := fun v14 k0_t6 v99 v100 v137 k0_hw120 k0_h12 => k0_hw120.2.2.2.2.2 k0_h12

def k0_chk121 (v14 : BitVec 32) (k0_t6 : Fin (k0_t6_loop v14).trips) (v99 : IVec S16 32) (v100 : IVec S16 32) (v144 : IVec S16 32) : Prop :=
  (∀ (k0_h12 : k0_cond12 v14 k0_t6 = 1#1), ∀ a x, ((![v100, v144] : Fin 2 → IVec S16 32) a x).toNat < S16x128.size a) ∧
  (∀ (k0_h12 : k0_cond12 v14 k0_t6 = 1#1), ∀ a x, ((![v99, v144] : Fin 2 → IVec S16 32) a x).toNat < S320x128.size a) ∧
  (∀ (k0_h12 : k0_cond12 v14 k0_t6 = 1#1), ∀ a x, ((![v99, v144] : Fin 2 → IVec S16 32) a x).toNat < S320x128.size a) ∧
  (∀ (k0_h12 : k0_cond12 v14 k0_t6 = 1#1), ∀ a x, ((![v99, v144] : Fin 2 → IVec S16 32) a x).toNat < S320x128.size a) ∧
  (∀ (k0_h12 : k0_cond12 v14 k0_t6 = 1#1), ∀ a x, ((![v99, v144] : Fin 2 → IVec S16 32) a x).toNat < S320x128.size a) ∧
  (∀ (k0_h12 : k0_cond12 v14 k0_t6 = 1#1), ∀ a x, ((![v99, v144] : Fin 2 → IVec S16 32) a x).toNat < S320x128.size a)
theorem k0_idx591_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v100, v144] : Fin 2 → IVec S16 32) a x).toNat < S16x128.size a := fun v14 k0_t6 v99 v100 v144 k0_hw121 k0_h12 => k0_hw121.1 k0_h12
theorem k0_idx592_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v99, v144] : Fin 2 → IVec S16 32) a x).toNat < S320x128.size a := fun v14 k0_t6 v99 v100 v144 k0_hw121 k0_h12 => k0_hw121.2.1 k0_h12
theorem k0_idx593_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v99, v144] : Fin 2 → IVec S16 32) a x).toNat < S320x128.size a := fun v14 k0_t6 v99 v100 v144 k0_hw121 k0_h12 => k0_hw121.2.2.1 k0_h12
theorem k0_idx594_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v99, v144] : Fin 2 → IVec S16 32) a x).toNat < S320x128.size a := fun v14 k0_t6 v99 v100 v144 k0_hw121 k0_h12 => k0_hw121.2.2.2.1 k0_h12
theorem k0_idx595_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v99, v144] : Fin 2 → IVec S16 32) a x).toNat < S320x128.size a := fun v14 k0_t6 v99 v100 v144 k0_hw121 k0_h12 => k0_hw121.2.2.2.2.1 k0_h12
theorem k0_idx596_inb : ∀ (v14 : BitVec 32) (k0_t6 : Fin (k0_t6_loop v14).trips) (v99 : IVec S16 32) (v100 : IVec S16 32) (v144 : IVec S16 32) (k0_hw121 : k0_chk121 v14 k0_t6 v99 v100 v144), ∀ (k0_h12 : k0_cond12 v14 k0_t6 = 1#1), ∀ a x, ((![v99, v144] : Fin 2 → IVec S16 32) a x).toNat < S320x128.size a := fun v14 k0_t6 v99 v100 v144 k0_hw121 k0_h12 => k0_hw121.2.2.2.2.2 k0_h12

def k0_chk122 (v14 : BitVec 32) (k0_t6 : Fin (k0_t6_loop v14).trips) (v99 : IVec S16 32) (v100 : IVec S16 32) (v151 : IVec S16 32) : Prop :=
  (∀ (k0_h12 : k0_cond12 v14 k0_t6 = 1#1), ∀ a x, ((![v100, v151] : Fin 2 → IVec S16 32) a x).toNat < S16x128.size a) ∧
  (∀ (k0_h12 : k0_cond12 v14 k0_t6 = 1#1), ∀ a x, ((![v99, v151] : Fin 2 → IVec S16 32) a x).toNat < S320x128.size a) ∧
  (∀ (k0_h12 : k0_cond12 v14 k0_t6 = 1#1), ∀ a x, ((![v99, v151] : Fin 2 → IVec S16 32) a x).toNat < S320x128.size a) ∧
  (∀ (k0_h12 : k0_cond12 v14 k0_t6 = 1#1), ∀ a x, ((![v99, v151] : Fin 2 → IVec S16 32) a x).toNat < S320x128.size a) ∧
  (∀ (k0_h12 : k0_cond12 v14 k0_t6 = 1#1), ∀ a x, ((![v99, v151] : Fin 2 → IVec S16 32) a x).toNat < S320x128.size a) ∧
  (∀ (k0_h12 : k0_cond12 v14 k0_t6 = 1#1), ∀ a x, ((![v99, v151] : Fin 2 → IVec S16 32) a x).toNat < S320x128.size a)
theorem k0_idx597_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v100, v151] : Fin 2 → IVec S16 32) a x).toNat < S16x128.size a := fun v14 k0_t6 v99 v100 v151 k0_hw122 k0_h12 => k0_hw122.1 k0_h12
theorem k0_idx598_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v99, v151] : Fin 2 → IVec S16 32) a x).toNat < S320x128.size a := fun v14 k0_t6 v99 v100 v151 k0_hw122 k0_h12 => k0_hw122.2.1 k0_h12
theorem k0_idx599_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v99, v151] : Fin 2 → IVec S16 32) a x).toNat < S320x128.size a := fun v14 k0_t6 v99 v100 v151 k0_hw122 k0_h12 => k0_hw122.2.2.1 k0_h12
theorem k0_idx600_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v99, v151] : Fin 2 → IVec S16 32) a x).toNat < S320x128.size a := fun v14 k0_t6 v99 v100 v151 k0_hw122 k0_h12 => k0_hw122.2.2.2.1 k0_h12
theorem k0_idx601_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v99, v151] : Fin 2 → IVec S16 32) a x).toNat < S320x128.size a := fun v14 k0_t6 v99 v100 v151 k0_hw122 k0_h12 => k0_hw122.2.2.2.2.1 k0_h12
theorem k0_idx602_inb : ∀ (v14 : BitVec 32) (k0_t6 : Fin (k0_t6_loop v14).trips) (v99 : IVec S16 32) (v100 : IVec S16 32) (v151 : IVec S16 32) (k0_hw122 : k0_chk122 v14 k0_t6 v99 v100 v151), ∀ (k0_h12 : k0_cond12 v14 k0_t6 = 1#1), ∀ a x, ((![v99, v151] : Fin 2 → IVec S16 32) a x).toNat < S320x128.size a := fun v14 k0_t6 v99 v100 v151 k0_hw122 k0_h12 => k0_hw122.2.2.2.2.2 k0_h12

def k0_chk123 (v14 : BitVec 32) (k0_t6 : Fin (k0_t6_loop v14).trips) (v99 : IVec S16 32) : Prop :=
  (∀ (k0_h12 : k0_cond12 v14 k0_t6 = 1#1), ∀ a x, ((![v99] : Fin 1 → IVec S16 32) a x).toNat < S320.size a)
theorem k0_idx603_inb : ∀ (v14 : BitVec 32) (k0_t6 : Fin (k0_t6_loop v14).trips) (v99 : IVec S16 32) (k0_hw123 : k0_chk123 v14 k0_t6 v99), ∀ (k0_h12 : k0_cond12 v14 k0_t6 = 1#1), ∀ a x, ((![v99] : Fin 1 → IVec S16 32) a x).toNat < S320.size a := fun v14 k0_t6 v99 k0_hw123 k0_h12 => k0_hw123 k0_h12
def k0_cond13 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c12_i32 : BitVec 32 := 12#32
  let v85 : BitVec 1 := Scalar.cmpi .sgt v45 c12_i32
  let v86 : BitVec 32 := Scalar.extui v85
  let c0_i32_55 : BitVec 32 := 0#32
  let v87 : BitVec 1 := Scalar.cmpi .ne v86 c0_i32_55
  v87

def k0_chk124 (v14 : BitVec 32) (k0_t6 : Fin (k0_t6_loop v14).trips) (v98 : IVec S16 32) : Prop :=
  (∀ (k0_h13 : k0_cond13 v14 k0_t6 = 1#1), ∀ a x, ((![v98] : Fin 1 → IVec S16 32) a x).toNat < S528.size a)
theorem k0_idx604_inb : ∀ (v14 : BitVec 32) (k0_t6 : Fin (k0_t6_loop v14).trips) (v98 : IVec S16 32) (k0_hw124 : k0_chk124 v14 k0_t6 v98), ∀ (k0_h13 : k0_cond13 v14 k0_t6 = 1#1), ∀ a x, ((![v98] : Fin 1 → IVec S16 32) a x).toNat < S528.size a := fun v14 k0_t6 v98 k0_hw124 k0_h13 => k0_hw124 k0_h13

def k0_chk125 (v14 : BitVec 32) (k0_t6 : Fin (k0_t6_loop v14).trips) (v99 : IVec S16 32) (v100 : IVec S16 32) (v102 : IVec S16 32) : Prop :=
  (∀ (k0_h13 : k0_cond13 v14 k0_t6 = 1#1), ∀ a x, ((![v100, v102] : Fin 2 → IVec S16 32) a x).toNat < S16x128.size a) ∧
  (∀ (k0_h13 : k0_cond13 v14 k0_t6 = 1#1), ∀ a x, ((![v99, v102] : Fin 2 → IVec S16 32) a x).toNat < S320x128.size a) ∧
  (∀ (k0_h13 : k0_cond13 v14 k0_t6 = 1#1), ∀ a x, ((![v99, v102] : Fin 2 → IVec S16 32) a x).toNat < S320x128.size a) ∧
  (∀ (k0_h13 : k0_cond13 v14 k0_t6 = 1#1), ∀ a x, ((![v99, v102] : Fin 2 → IVec S16 32) a x).toNat < S320x128.size a) ∧
  (∀ (k0_h13 : k0_cond13 v14 k0_t6 = 1#1), ∀ a x, ((![v99, v102] : Fin 2 → IVec S16 32) a x).toNat < S320x128.size a) ∧
  (∀ (k0_h13 : k0_cond13 v14 k0_t6 = 1#1), ∀ a x, ((![v99, v102] : Fin 2 → IVec S16 32) a x).toNat < S320x128.size a)
theorem k0_idx605_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v100, v102] : Fin 2 → IVec S16 32) a x).toNat < S16x128.size a := fun v14 k0_t6 v99 v100 v102 k0_hw125 k0_h13 => k0_hw125.1 k0_h13
theorem k0_idx606_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v99, v102] : Fin 2 → IVec S16 32) a x).toNat < S320x128.size a := fun v14 k0_t6 v99 v100 v102 k0_hw125 k0_h13 => k0_hw125.2.1 k0_h13
theorem k0_idx607_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v99, v102] : Fin 2 → IVec S16 32) a x).toNat < S320x128.size a := fun v14 k0_t6 v99 v100 v102 k0_hw125 k0_h13 => k0_hw125.2.2.1 k0_h13
theorem k0_idx608_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v99, v102] : Fin 2 → IVec S16 32) a x).toNat < S320x128.size a := fun v14 k0_t6 v99 v100 v102 k0_hw125 k0_h13 => k0_hw125.2.2.2.1 k0_h13
theorem k0_idx609_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v99, v102] : Fin 2 → IVec S16 32) a x).toNat < S320x128.size a := fun v14 k0_t6 v99 v100 v102 k0_hw125 k0_h13 => k0_hw125.2.2.2.2.1 k0_h13
theorem k0_idx610_inb : ∀ (v14 : BitVec 32) (k0_t6 : Fin (k0_t6_loop v14).trips) (v99 : IVec S16 32) (v100 : IVec S16 32) (v102 : IVec S16 32) (k0_hw125 : k0_chk125 v14 k0_t6 v99 v100 v102), ∀ (k0_h13 : k0_cond13 v14 k0_t6 = 1#1), ∀ a x, ((![v99, v102] : Fin 2 → IVec S16 32) a x).toNat < S320x128.size a := fun v14 k0_t6 v99 v100 v102 k0_hw125 k0_h13 => k0_hw125.2.2.2.2.2 k0_h13

def k0_chk126 (v14 : BitVec 32) (k0_t6 : Fin (k0_t6_loop v14).trips) (v99 : IVec S16 32) (v100 : IVec S16 32) (v109 : IVec S16 32) : Prop :=
  (∀ (k0_h13 : k0_cond13 v14 k0_t6 = 1#1), ∀ a x, ((![v100, v109] : Fin 2 → IVec S16 32) a x).toNat < S16x128.size a) ∧
  (∀ (k0_h13 : k0_cond13 v14 k0_t6 = 1#1), ∀ a x, ((![v99, v109] : Fin 2 → IVec S16 32) a x).toNat < S320x128.size a) ∧
  (∀ (k0_h13 : k0_cond13 v14 k0_t6 = 1#1), ∀ a x, ((![v99, v109] : Fin 2 → IVec S16 32) a x).toNat < S320x128.size a) ∧
  (∀ (k0_h13 : k0_cond13 v14 k0_t6 = 1#1), ∀ a x, ((![v99, v109] : Fin 2 → IVec S16 32) a x).toNat < S320x128.size a) ∧
  (∀ (k0_h13 : k0_cond13 v14 k0_t6 = 1#1), ∀ a x, ((![v99, v109] : Fin 2 → IVec S16 32) a x).toNat < S320x128.size a) ∧
  (∀ (k0_h13 : k0_cond13 v14 k0_t6 = 1#1), ∀ a x, ((![v99, v109] : Fin 2 → IVec S16 32) a x).toNat < S320x128.size a)
theorem k0_idx611_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v100, v109] : Fin 2 → IVec S16 32) a x).toNat < S16x128.size a := fun v14 k0_t6 v99 v100 v109 k0_hw126 k0_h13 => k0_hw126.1 k0_h13
theorem k0_idx612_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v99, v109] : Fin 2 → IVec S16 32) a x).toNat < S320x128.size a := fun v14 k0_t6 v99 v100 v109 k0_hw126 k0_h13 => k0_hw126.2.1 k0_h13
theorem k0_idx613_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v99, v109] : Fin 2 → IVec S16 32) a x).toNat < S320x128.size a := fun v14 k0_t6 v99 v100 v109 k0_hw126 k0_h13 => k0_hw126.2.2.1 k0_h13
theorem k0_idx614_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v99, v109] : Fin 2 → IVec S16 32) a x).toNat < S320x128.size a := fun v14 k0_t6 v99 v100 v109 k0_hw126 k0_h13 => k0_hw126.2.2.2.1 k0_h13
theorem k0_idx615_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v99, v109] : Fin 2 → IVec S16 32) a x).toNat < S320x128.size a := fun v14 k0_t6 v99 v100 v109 k0_hw126 k0_h13 => k0_hw126.2.2.2.2.1 k0_h13
theorem k0_idx616_inb : ∀ (v14 : BitVec 32) (k0_t6 : Fin (k0_t6_loop v14).trips) (v99 : IVec S16 32) (v100 : IVec S16 32) (v109 : IVec S16 32) (k0_hw126 : k0_chk126 v14 k0_t6 v99 v100 v109), ∀ (k0_h13 : k0_cond13 v14 k0_t6 = 1#1), ∀ a x, ((![v99, v109] : Fin 2 → IVec S16 32) a x).toNat < S320x128.size a := fun v14 k0_t6 v99 v100 v109 k0_hw126 k0_h13 => k0_hw126.2.2.2.2.2 k0_h13

def k0_chk127 (v14 : BitVec 32) (k0_t6 : Fin (k0_t6_loop v14).trips) (v99 : IVec S16 32) (v100 : IVec S16 32) (v116 : IVec S16 32) : Prop :=
  (∀ (k0_h13 : k0_cond13 v14 k0_t6 = 1#1), ∀ a x, ((![v100, v116] : Fin 2 → IVec S16 32) a x).toNat < S16x128.size a) ∧
  (∀ (k0_h13 : k0_cond13 v14 k0_t6 = 1#1), ∀ a x, ((![v99, v116] : Fin 2 → IVec S16 32) a x).toNat < S320x128.size a) ∧
  (∀ (k0_h13 : k0_cond13 v14 k0_t6 = 1#1), ∀ a x, ((![v99, v116] : Fin 2 → IVec S16 32) a x).toNat < S320x128.size a) ∧
  (∀ (k0_h13 : k0_cond13 v14 k0_t6 = 1#1), ∀ a x, ((![v99, v116] : Fin 2 → IVec S16 32) a x).toNat < S320x128.size a) ∧
  (∀ (k0_h13 : k0_cond13 v14 k0_t6 = 1#1), ∀ a x, ((![v99, v116] : Fin 2 → IVec S16 32) a x).toNat < S320x128.size a) ∧
  (∀ (k0_h13 : k0_cond13 v14 k0_t6 = 1#1), ∀ a x, ((![v99, v116] : Fin 2 → IVec S16 32) a x).toNat < S320x128.size a)
theorem k0_idx617_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v100, v116] : Fin 2 → IVec S16 32) a x).toNat < S16x128.size a := fun v14 k0_t6 v99 v100 v116 k0_hw127 k0_h13 => k0_hw127.1 k0_h13
theorem k0_idx618_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v99, v116] : Fin 2 → IVec S16 32) a x).toNat < S320x128.size a := fun v14 k0_t6 v99 v100 v116 k0_hw127 k0_h13 => k0_hw127.2.1 k0_h13
theorem k0_idx619_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v99, v116] : Fin 2 → IVec S16 32) a x).toNat < S320x128.size a := fun v14 k0_t6 v99 v100 v116 k0_hw127 k0_h13 => k0_hw127.2.2.1 k0_h13
theorem k0_idx620_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v99, v116] : Fin 2 → IVec S16 32) a x).toNat < S320x128.size a := fun v14 k0_t6 v99 v100 v116 k0_hw127 k0_h13 => k0_hw127.2.2.2.1 k0_h13
theorem k0_idx621_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v99, v116] : Fin 2 → IVec S16 32) a x).toNat < S320x128.size a := fun v14 k0_t6 v99 v100 v116 k0_hw127 k0_h13 => k0_hw127.2.2.2.2.1 k0_h13
theorem k0_idx622_inb : ∀ (v14 : BitVec 32) (k0_t6 : Fin (k0_t6_loop v14).trips) (v99 : IVec S16 32) (v100 : IVec S16 32) (v116 : IVec S16 32) (k0_hw127 : k0_chk127 v14 k0_t6 v99 v100 v116), ∀ (k0_h13 : k0_cond13 v14 k0_t6 = 1#1), ∀ a x, ((![v99, v116] : Fin 2 → IVec S16 32) a x).toNat < S320x128.size a := fun v14 k0_t6 v99 v100 v116 k0_hw127 k0_h13 => k0_hw127.2.2.2.2.2 k0_h13

def k0_chk128 (v14 : BitVec 32) (k0_t6 : Fin (k0_t6_loop v14).trips) (v99 : IVec S16 32) (v100 : IVec S16 32) (v123 : IVec S16 32) : Prop :=
  (∀ (k0_h13 : k0_cond13 v14 k0_t6 = 1#1), ∀ a x, ((![v100, v123] : Fin 2 → IVec S16 32) a x).toNat < S16x128.size a) ∧
  (∀ (k0_h13 : k0_cond13 v14 k0_t6 = 1#1), ∀ a x, ((![v99, v123] : Fin 2 → IVec S16 32) a x).toNat < S320x128.size a) ∧
  (∀ (k0_h13 : k0_cond13 v14 k0_t6 = 1#1), ∀ a x, ((![v99, v123] : Fin 2 → IVec S16 32) a x).toNat < S320x128.size a) ∧
  (∀ (k0_h13 : k0_cond13 v14 k0_t6 = 1#1), ∀ a x, ((![v99, v123] : Fin 2 → IVec S16 32) a x).toNat < S320x128.size a) ∧
  (∀ (k0_h13 : k0_cond13 v14 k0_t6 = 1#1), ∀ a x, ((![v99, v123] : Fin 2 → IVec S16 32) a x).toNat < S320x128.size a) ∧
  (∀ (k0_h13 : k0_cond13 v14 k0_t6 = 1#1), ∀ a x, ((![v99, v123] : Fin 2 → IVec S16 32) a x).toNat < S320x128.size a)
theorem k0_idx623_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v100, v123] : Fin 2 → IVec S16 32) a x).toNat < S16x128.size a := fun v14 k0_t6 v99 v100 v123 k0_hw128 k0_h13 => k0_hw128.1 k0_h13
theorem k0_idx624_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v99, v123] : Fin 2 → IVec S16 32) a x).toNat < S320x128.size a := fun v14 k0_t6 v99 v100 v123 k0_hw128 k0_h13 => k0_hw128.2.1 k0_h13
theorem k0_idx625_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v99, v123] : Fin 2 → IVec S16 32) a x).toNat < S320x128.size a := fun v14 k0_t6 v99 v100 v123 k0_hw128 k0_h13 => k0_hw128.2.2.1 k0_h13
theorem k0_idx626_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v99, v123] : Fin 2 → IVec S16 32) a x).toNat < S320x128.size a := fun v14 k0_t6 v99 v100 v123 k0_hw128 k0_h13 => k0_hw128.2.2.2.1 k0_h13
theorem k0_idx627_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v99, v123] : Fin 2 → IVec S16 32) a x).toNat < S320x128.size a := fun v14 k0_t6 v99 v100 v123 k0_hw128 k0_h13 => k0_hw128.2.2.2.2.1 k0_h13
theorem k0_idx628_inb : ∀ (v14 : BitVec 32) (k0_t6 : Fin (k0_t6_loop v14).trips) (v99 : IVec S16 32) (v100 : IVec S16 32) (v123 : IVec S16 32) (k0_hw128 : k0_chk128 v14 k0_t6 v99 v100 v123), ∀ (k0_h13 : k0_cond13 v14 k0_t6 = 1#1), ∀ a x, ((![v99, v123] : Fin 2 → IVec S16 32) a x).toNat < S320x128.size a := fun v14 k0_t6 v99 v100 v123 k0_hw128 k0_h13 => k0_hw128.2.2.2.2.2 k0_h13

def k0_chk129 (v14 : BitVec 32) (k0_t6 : Fin (k0_t6_loop v14).trips) (v99 : IVec S16 32) (v100 : IVec S16 32) (v130 : IVec S16 32) : Prop :=
  (∀ (k0_h13 : k0_cond13 v14 k0_t6 = 1#1), ∀ a x, ((![v100, v130] : Fin 2 → IVec S16 32) a x).toNat < S16x128.size a) ∧
  (∀ (k0_h13 : k0_cond13 v14 k0_t6 = 1#1), ∀ a x, ((![v99, v130] : Fin 2 → IVec S16 32) a x).toNat < S320x128.size a) ∧
  (∀ (k0_h13 : k0_cond13 v14 k0_t6 = 1#1), ∀ a x, ((![v99, v130] : Fin 2 → IVec S16 32) a x).toNat < S320x128.size a) ∧
  (∀ (k0_h13 : k0_cond13 v14 k0_t6 = 1#1), ∀ a x, ((![v99, v130] : Fin 2 → IVec S16 32) a x).toNat < S320x128.size a) ∧
  (∀ (k0_h13 : k0_cond13 v14 k0_t6 = 1#1), ∀ a x, ((![v99, v130] : Fin 2 → IVec S16 32) a x).toNat < S320x128.size a) ∧
  (∀ (k0_h13 : k0_cond13 v14 k0_t6 = 1#1), ∀ a x, ((![v99, v130] : Fin 2 → IVec S16 32) a x).toNat < S320x128.size a)
theorem k0_idx629_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v100, v130] : Fin 2 → IVec S16 32) a x).toNat < S16x128.size a := fun v14 k0_t6 v99 v100 v130 k0_hw129 k0_h13 => k0_hw129.1 k0_h13
theorem k0_idx630_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v99, v130] : Fin 2 → IVec S16 32) a x).toNat < S320x128.size a := fun v14 k0_t6 v99 v100 v130 k0_hw129 k0_h13 => k0_hw129.2.1 k0_h13
theorem k0_idx631_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v99, v130] : Fin 2 → IVec S16 32) a x).toNat < S320x128.size a := fun v14 k0_t6 v99 v100 v130 k0_hw129 k0_h13 => k0_hw129.2.2.1 k0_h13
theorem k0_idx632_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v99, v130] : Fin 2 → IVec S16 32) a x).toNat < S320x128.size a := fun v14 k0_t6 v99 v100 v130 k0_hw129 k0_h13 => k0_hw129.2.2.2.1 k0_h13
theorem k0_idx633_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v99, v130] : Fin 2 → IVec S16 32) a x).toNat < S320x128.size a := fun v14 k0_t6 v99 v100 v130 k0_hw129 k0_h13 => k0_hw129.2.2.2.2.1 k0_h13
theorem k0_idx634_inb : ∀ (v14 : BitVec 32) (k0_t6 : Fin (k0_t6_loop v14).trips) (v99 : IVec S16 32) (v100 : IVec S16 32) (v130 : IVec S16 32) (k0_hw129 : k0_chk129 v14 k0_t6 v99 v100 v130), ∀ (k0_h13 : k0_cond13 v14 k0_t6 = 1#1), ∀ a x, ((![v99, v130] : Fin 2 → IVec S16 32) a x).toNat < S320x128.size a := fun v14 k0_t6 v99 v100 v130 k0_hw129 k0_h13 => k0_hw129.2.2.2.2.2 k0_h13

def k0_chk130 (v14 : BitVec 32) (k0_t6 : Fin (k0_t6_loop v14).trips) (v99 : IVec S16 32) (v100 : IVec S16 32) (v137 : IVec S16 32) : Prop :=
  (∀ (k0_h13 : k0_cond13 v14 k0_t6 = 1#1), ∀ a x, ((![v100, v137] : Fin 2 → IVec S16 32) a x).toNat < S16x128.size a) ∧
  (∀ (k0_h13 : k0_cond13 v14 k0_t6 = 1#1), ∀ a x, ((![v99, v137] : Fin 2 → IVec S16 32) a x).toNat < S320x128.size a) ∧
  (∀ (k0_h13 : k0_cond13 v14 k0_t6 = 1#1), ∀ a x, ((![v99, v137] : Fin 2 → IVec S16 32) a x).toNat < S320x128.size a) ∧
  (∀ (k0_h13 : k0_cond13 v14 k0_t6 = 1#1), ∀ a x, ((![v99, v137] : Fin 2 → IVec S16 32) a x).toNat < S320x128.size a) ∧
  (∀ (k0_h13 : k0_cond13 v14 k0_t6 = 1#1), ∀ a x, ((![v99, v137] : Fin 2 → IVec S16 32) a x).toNat < S320x128.size a) ∧
  (∀ (k0_h13 : k0_cond13 v14 k0_t6 = 1#1), ∀ a x, ((![v99, v137] : Fin 2 → IVec S16 32) a x).toNat < S320x128.size a)
theorem k0_idx635_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v100, v137] : Fin 2 → IVec S16 32) a x).toNat < S16x128.size a := fun v14 k0_t6 v99 v100 v137 k0_hw130 k0_h13 => k0_hw130.1 k0_h13
theorem k0_idx636_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v99, v137] : Fin 2 → IVec S16 32) a x).toNat < S320x128.size a := fun v14 k0_t6 v99 v100 v137 k0_hw130 k0_h13 => k0_hw130.2.1 k0_h13
theorem k0_idx637_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v99, v137] : Fin 2 → IVec S16 32) a x).toNat < S320x128.size a := fun v14 k0_t6 v99 v100 v137 k0_hw130 k0_h13 => k0_hw130.2.2.1 k0_h13
theorem k0_idx638_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v99, v137] : Fin 2 → IVec S16 32) a x).toNat < S320x128.size a := fun v14 k0_t6 v99 v100 v137 k0_hw130 k0_h13 => k0_hw130.2.2.2.1 k0_h13
theorem k0_idx639_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v99, v137] : Fin 2 → IVec S16 32) a x).toNat < S320x128.size a := fun v14 k0_t6 v99 v100 v137 k0_hw130 k0_h13 => k0_hw130.2.2.2.2.1 k0_h13
theorem k0_idx640_inb : ∀ (v14 : BitVec 32) (k0_t6 : Fin (k0_t6_loop v14).trips) (v99 : IVec S16 32) (v100 : IVec S16 32) (v137 : IVec S16 32) (k0_hw130 : k0_chk130 v14 k0_t6 v99 v100 v137), ∀ (k0_h13 : k0_cond13 v14 k0_t6 = 1#1), ∀ a x, ((![v99, v137] : Fin 2 → IVec S16 32) a x).toNat < S320x128.size a := fun v14 k0_t6 v99 v100 v137 k0_hw130 k0_h13 => k0_hw130.2.2.2.2.2 k0_h13

def k0_chk131 (v14 : BitVec 32) (k0_t6 : Fin (k0_t6_loop v14).trips) (v99 : IVec S16 32) (v100 : IVec S16 32) (v144 : IVec S16 32) : Prop :=
  (∀ (k0_h13 : k0_cond13 v14 k0_t6 = 1#1), ∀ a x, ((![v100, v144] : Fin 2 → IVec S16 32) a x).toNat < S16x128.size a) ∧
  (∀ (k0_h13 : k0_cond13 v14 k0_t6 = 1#1), ∀ a x, ((![v99, v144] : Fin 2 → IVec S16 32) a x).toNat < S320x128.size a) ∧
  (∀ (k0_h13 : k0_cond13 v14 k0_t6 = 1#1), ∀ a x, ((![v99, v144] : Fin 2 → IVec S16 32) a x).toNat < S320x128.size a) ∧
  (∀ (k0_h13 : k0_cond13 v14 k0_t6 = 1#1), ∀ a x, ((![v99, v144] : Fin 2 → IVec S16 32) a x).toNat < S320x128.size a) ∧
  (∀ (k0_h13 : k0_cond13 v14 k0_t6 = 1#1), ∀ a x, ((![v99, v144] : Fin 2 → IVec S16 32) a x).toNat < S320x128.size a) ∧
  (∀ (k0_h13 : k0_cond13 v14 k0_t6 = 1#1), ∀ a x, ((![v99, v144] : Fin 2 → IVec S16 32) a x).toNat < S320x128.size a)
theorem k0_idx641_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v100, v144] : Fin 2 → IVec S16 32) a x).toNat < S16x128.size a := fun v14 k0_t6 v99 v100 v144 k0_hw131 k0_h13 => k0_hw131.1 k0_h13
theorem k0_idx642_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v99, v144] : Fin 2 → IVec S16 32) a x).toNat < S320x128.size a := fun v14 k0_t6 v99 v100 v144 k0_hw131 k0_h13 => k0_hw131.2.1 k0_h13
theorem k0_idx643_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v99, v144] : Fin 2 → IVec S16 32) a x).toNat < S320x128.size a := fun v14 k0_t6 v99 v100 v144 k0_hw131 k0_h13 => k0_hw131.2.2.1 k0_h13
theorem k0_idx644_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v99, v144] : Fin 2 → IVec S16 32) a x).toNat < S320x128.size a := fun v14 k0_t6 v99 v100 v144 k0_hw131 k0_h13 => k0_hw131.2.2.2.1 k0_h13
theorem k0_idx645_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v99, v144] : Fin 2 → IVec S16 32) a x).toNat < S320x128.size a := fun v14 k0_t6 v99 v100 v144 k0_hw131 k0_h13 => k0_hw131.2.2.2.2.1 k0_h13
theorem k0_idx646_inb : ∀ (v14 : BitVec 32) (k0_t6 : Fin (k0_t6_loop v14).trips) (v99 : IVec S16 32) (v100 : IVec S16 32) (v144 : IVec S16 32) (k0_hw131 : k0_chk131 v14 k0_t6 v99 v100 v144), ∀ (k0_h13 : k0_cond13 v14 k0_t6 = 1#1), ∀ a x, ((![v99, v144] : Fin 2 → IVec S16 32) a x).toNat < S320x128.size a := fun v14 k0_t6 v99 v100 v144 k0_hw131 k0_h13 => k0_hw131.2.2.2.2.2 k0_h13

def k0_chk132 (v14 : BitVec 32) (k0_t6 : Fin (k0_t6_loop v14).trips) (v99 : IVec S16 32) (v100 : IVec S16 32) (v151 : IVec S16 32) : Prop :=
  (∀ (k0_h13 : k0_cond13 v14 k0_t6 = 1#1), ∀ a x, ((![v100, v151] : Fin 2 → IVec S16 32) a x).toNat < S16x128.size a) ∧
  (∀ (k0_h13 : k0_cond13 v14 k0_t6 = 1#1), ∀ a x, ((![v99, v151] : Fin 2 → IVec S16 32) a x).toNat < S320x128.size a) ∧
  (∀ (k0_h13 : k0_cond13 v14 k0_t6 = 1#1), ∀ a x, ((![v99, v151] : Fin 2 → IVec S16 32) a x).toNat < S320x128.size a) ∧
  (∀ (k0_h13 : k0_cond13 v14 k0_t6 = 1#1), ∀ a x, ((![v99, v151] : Fin 2 → IVec S16 32) a x).toNat < S320x128.size a) ∧
  (∀ (k0_h13 : k0_cond13 v14 k0_t6 = 1#1), ∀ a x, ((![v99, v151] : Fin 2 → IVec S16 32) a x).toNat < S320x128.size a) ∧
  (∀ (k0_h13 : k0_cond13 v14 k0_t6 = 1#1), ∀ a x, ((![v99, v151] : Fin 2 → IVec S16 32) a x).toNat < S320x128.size a)
theorem k0_idx647_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v100, v151] : Fin 2 → IVec S16 32) a x).toNat < S16x128.size a := fun v14 k0_t6 v99 v100 v151 k0_hw132 k0_h13 => k0_hw132.1 k0_h13
theorem k0_idx648_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v99, v151] : Fin 2 → IVec S16 32) a x).toNat < S320x128.size a := fun v14 k0_t6 v99 v100 v151 k0_hw132 k0_h13 => k0_hw132.2.1 k0_h13
theorem k0_idx649_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v99, v151] : Fin 2 → IVec S16 32) a x).toNat < S320x128.size a := fun v14 k0_t6 v99 v100 v151 k0_hw132 k0_h13 => k0_hw132.2.2.1 k0_h13
theorem k0_idx650_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v99, v151] : Fin 2 → IVec S16 32) a x).toNat < S320x128.size a := fun v14 k0_t6 v99 v100 v151 k0_hw132 k0_h13 => k0_hw132.2.2.2.1 k0_h13
theorem k0_idx651_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v99, v151] : Fin 2 → IVec S16 32) a x).toNat < S320x128.size a := fun v14 k0_t6 v99 v100 v151 k0_hw132 k0_h13 => k0_hw132.2.2.2.2.1 k0_h13
theorem k0_idx652_inb : ∀ (v14 : BitVec 32) (k0_t6 : Fin (k0_t6_loop v14).trips) (v99 : IVec S16 32) (v100 : IVec S16 32) (v151 : IVec S16 32) (k0_hw132 : k0_chk132 v14 k0_t6 v99 v100 v151), ∀ (k0_h13 : k0_cond13 v14 k0_t6 = 1#1), ∀ a x, ((![v99, v151] : Fin 2 → IVec S16 32) a x).toNat < S320x128.size a := fun v14 k0_t6 v99 v100 v151 k0_hw132 k0_h13 => k0_hw132.2.2.2.2.2 k0_h13

def k0_chk133 (v14 : BitVec 32) (k0_t6 : Fin (k0_t6_loop v14).trips) (v99 : IVec S16 32) : Prop :=
  (∀ (k0_h13 : k0_cond13 v14 k0_t6 = 1#1), ∀ a x, ((![v99] : Fin 1 → IVec S16 32) a x).toNat < S320.size a)
theorem k0_idx653_inb : ∀ (v14 : BitVec 32) (k0_t6 : Fin (k0_t6_loop v14).trips) (v99 : IVec S16 32) (k0_hw133 : k0_chk133 v14 k0_t6 v99), ∀ (k0_h13 : k0_cond13 v14 k0_t6 = 1#1), ∀ a x, ((![v99] : Fin 1 → IVec S16 32) a x).toNat < S320.size a := fun v14 k0_t6 v99 k0_hw133 k0_h13 => k0_hw133 k0_h13
def k0_cond14 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c13_i32 : BitVec 32 := 13#32
  let v88 : BitVec 1 := Scalar.cmpi .sgt v45 c13_i32
  let v89 : BitVec 32 := Scalar.extui v88
  let c0_i32_56 : BitVec 32 := 0#32
  let v90 : BitVec 1 := Scalar.cmpi .ne v89 c0_i32_56
  v90

def k0_chk134 (v14 : BitVec 32) (k0_t6 : Fin (k0_t6_loop v14).trips) (v98 : IVec S16 32) : Prop :=
  (∀ (k0_h14 : k0_cond14 v14 k0_t6 = 1#1), ∀ a x, ((![v98] : Fin 1 → IVec S16 32) a x).toNat < S528.size a)
theorem k0_idx654_inb : ∀ (v14 : BitVec 32) (k0_t6 : Fin (k0_t6_loop v14).trips) (v98 : IVec S16 32) (k0_hw134 : k0_chk134 v14 k0_t6 v98), ∀ (k0_h14 : k0_cond14 v14 k0_t6 = 1#1), ∀ a x, ((![v98] : Fin 1 → IVec S16 32) a x).toNat < S528.size a := fun v14 k0_t6 v98 k0_hw134 k0_h14 => k0_hw134 k0_h14

def k0_chk135 (v14 : BitVec 32) (k0_t6 : Fin (k0_t6_loop v14).trips) (v99 : IVec S16 32) (v100 : IVec S16 32) (v102 : IVec S16 32) : Prop :=
  (∀ (k0_h14 : k0_cond14 v14 k0_t6 = 1#1), ∀ a x, ((![v100, v102] : Fin 2 → IVec S16 32) a x).toNat < S16x128.size a) ∧
  (∀ (k0_h14 : k0_cond14 v14 k0_t6 = 1#1), ∀ a x, ((![v99, v102] : Fin 2 → IVec S16 32) a x).toNat < S320x128.size a) ∧
  (∀ (k0_h14 : k0_cond14 v14 k0_t6 = 1#1), ∀ a x, ((![v99, v102] : Fin 2 → IVec S16 32) a x).toNat < S320x128.size a) ∧
  (∀ (k0_h14 : k0_cond14 v14 k0_t6 = 1#1), ∀ a x, ((![v99, v102] : Fin 2 → IVec S16 32) a x).toNat < S320x128.size a) ∧
  (∀ (k0_h14 : k0_cond14 v14 k0_t6 = 1#1), ∀ a x, ((![v99, v102] : Fin 2 → IVec S16 32) a x).toNat < S320x128.size a) ∧
  (∀ (k0_h14 : k0_cond14 v14 k0_t6 = 1#1), ∀ a x, ((![v99, v102] : Fin 2 → IVec S16 32) a x).toNat < S320x128.size a)
theorem k0_idx655_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v100, v102] : Fin 2 → IVec S16 32) a x).toNat < S16x128.size a := fun v14 k0_t6 v99 v100 v102 k0_hw135 k0_h14 => k0_hw135.1 k0_h14
theorem k0_idx656_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v99, v102] : Fin 2 → IVec S16 32) a x).toNat < S320x128.size a := fun v14 k0_t6 v99 v100 v102 k0_hw135 k0_h14 => k0_hw135.2.1 k0_h14
theorem k0_idx657_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v99, v102] : Fin 2 → IVec S16 32) a x).toNat < S320x128.size a := fun v14 k0_t6 v99 v100 v102 k0_hw135 k0_h14 => k0_hw135.2.2.1 k0_h14
theorem k0_idx658_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v99, v102] : Fin 2 → IVec S16 32) a x).toNat < S320x128.size a := fun v14 k0_t6 v99 v100 v102 k0_hw135 k0_h14 => k0_hw135.2.2.2.1 k0_h14
theorem k0_idx659_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v99, v102] : Fin 2 → IVec S16 32) a x).toNat < S320x128.size a := fun v14 k0_t6 v99 v100 v102 k0_hw135 k0_h14 => k0_hw135.2.2.2.2.1 k0_h14
theorem k0_idx660_inb : ∀ (v14 : BitVec 32) (k0_t6 : Fin (k0_t6_loop v14).trips) (v99 : IVec S16 32) (v100 : IVec S16 32) (v102 : IVec S16 32) (k0_hw135 : k0_chk135 v14 k0_t6 v99 v100 v102), ∀ (k0_h14 : k0_cond14 v14 k0_t6 = 1#1), ∀ a x, ((![v99, v102] : Fin 2 → IVec S16 32) a x).toNat < S320x128.size a := fun v14 k0_t6 v99 v100 v102 k0_hw135 k0_h14 => k0_hw135.2.2.2.2.2 k0_h14

def k0_chk136 (v14 : BitVec 32) (k0_t6 : Fin (k0_t6_loop v14).trips) (v99 : IVec S16 32) (v100 : IVec S16 32) (v109 : IVec S16 32) : Prop :=
  (∀ (k0_h14 : k0_cond14 v14 k0_t6 = 1#1), ∀ a x, ((![v100, v109] : Fin 2 → IVec S16 32) a x).toNat < S16x128.size a) ∧
  (∀ (k0_h14 : k0_cond14 v14 k0_t6 = 1#1), ∀ a x, ((![v99, v109] : Fin 2 → IVec S16 32) a x).toNat < S320x128.size a) ∧
  (∀ (k0_h14 : k0_cond14 v14 k0_t6 = 1#1), ∀ a x, ((![v99, v109] : Fin 2 → IVec S16 32) a x).toNat < S320x128.size a) ∧
  (∀ (k0_h14 : k0_cond14 v14 k0_t6 = 1#1), ∀ a x, ((![v99, v109] : Fin 2 → IVec S16 32) a x).toNat < S320x128.size a) ∧
  (∀ (k0_h14 : k0_cond14 v14 k0_t6 = 1#1), ∀ a x, ((![v99, v109] : Fin 2 → IVec S16 32) a x).toNat < S320x128.size a) ∧
  (∀ (k0_h14 : k0_cond14 v14 k0_t6 = 1#1), ∀ a x, ((![v99, v109] : Fin 2 → IVec S16 32) a x).toNat < S320x128.size a)
theorem k0_idx661_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v100, v109] : Fin 2 → IVec S16 32) a x).toNat < S16x128.size a := fun v14 k0_t6 v99 v100 v109 k0_hw136 k0_h14 => k0_hw136.1 k0_h14
theorem k0_idx662_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v99, v109] : Fin 2 → IVec S16 32) a x).toNat < S320x128.size a := fun v14 k0_t6 v99 v100 v109 k0_hw136 k0_h14 => k0_hw136.2.1 k0_h14
theorem k0_idx663_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v99, v109] : Fin 2 → IVec S16 32) a x).toNat < S320x128.size a := fun v14 k0_t6 v99 v100 v109 k0_hw136 k0_h14 => k0_hw136.2.2.1 k0_h14
theorem k0_idx664_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v99, v109] : Fin 2 → IVec S16 32) a x).toNat < S320x128.size a := fun v14 k0_t6 v99 v100 v109 k0_hw136 k0_h14 => k0_hw136.2.2.2.1 k0_h14
theorem k0_idx665_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v99, v109] : Fin 2 → IVec S16 32) a x).toNat < S320x128.size a := fun v14 k0_t6 v99 v100 v109 k0_hw136 k0_h14 => k0_hw136.2.2.2.2.1 k0_h14
theorem k0_idx666_inb : ∀ (v14 : BitVec 32) (k0_t6 : Fin (k0_t6_loop v14).trips) (v99 : IVec S16 32) (v100 : IVec S16 32) (v109 : IVec S16 32) (k0_hw136 : k0_chk136 v14 k0_t6 v99 v100 v109), ∀ (k0_h14 : k0_cond14 v14 k0_t6 = 1#1), ∀ a x, ((![v99, v109] : Fin 2 → IVec S16 32) a x).toNat < S320x128.size a := fun v14 k0_t6 v99 v100 v109 k0_hw136 k0_h14 => k0_hw136.2.2.2.2.2 k0_h14

def k0_chk137 (v14 : BitVec 32) (k0_t6 : Fin (k0_t6_loop v14).trips) (v99 : IVec S16 32) (v100 : IVec S16 32) (v116 : IVec S16 32) : Prop :=
  (∀ (k0_h14 : k0_cond14 v14 k0_t6 = 1#1), ∀ a x, ((![v100, v116] : Fin 2 → IVec S16 32) a x).toNat < S16x128.size a) ∧
  (∀ (k0_h14 : k0_cond14 v14 k0_t6 = 1#1), ∀ a x, ((![v99, v116] : Fin 2 → IVec S16 32) a x).toNat < S320x128.size a) ∧
  (∀ (k0_h14 : k0_cond14 v14 k0_t6 = 1#1), ∀ a x, ((![v99, v116] : Fin 2 → IVec S16 32) a x).toNat < S320x128.size a) ∧
  (∀ (k0_h14 : k0_cond14 v14 k0_t6 = 1#1), ∀ a x, ((![v99, v116] : Fin 2 → IVec S16 32) a x).toNat < S320x128.size a) ∧
  (∀ (k0_h14 : k0_cond14 v14 k0_t6 = 1#1), ∀ a x, ((![v99, v116] : Fin 2 → IVec S16 32) a x).toNat < S320x128.size a) ∧
  (∀ (k0_h14 : k0_cond14 v14 k0_t6 = 1#1), ∀ a x, ((![v99, v116] : Fin 2 → IVec S16 32) a x).toNat < S320x128.size a)
theorem k0_idx667_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v100, v116] : Fin 2 → IVec S16 32) a x).toNat < S16x128.size a := fun v14 k0_t6 v99 v100 v116 k0_hw137 k0_h14 => k0_hw137.1 k0_h14
theorem k0_idx668_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v99, v116] : Fin 2 → IVec S16 32) a x).toNat < S320x128.size a := fun v14 k0_t6 v99 v100 v116 k0_hw137 k0_h14 => k0_hw137.2.1 k0_h14
theorem k0_idx669_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v99, v116] : Fin 2 → IVec S16 32) a x).toNat < S320x128.size a := fun v14 k0_t6 v99 v100 v116 k0_hw137 k0_h14 => k0_hw137.2.2.1 k0_h14
theorem k0_idx670_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v99, v116] : Fin 2 → IVec S16 32) a x).toNat < S320x128.size a := fun v14 k0_t6 v99 v100 v116 k0_hw137 k0_h14 => k0_hw137.2.2.2.1 k0_h14
theorem k0_idx671_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v99, v116] : Fin 2 → IVec S16 32) a x).toNat < S320x128.size a := fun v14 k0_t6 v99 v100 v116 k0_hw137 k0_h14 => k0_hw137.2.2.2.2.1 k0_h14
theorem k0_idx672_inb : ∀ (v14 : BitVec 32) (k0_t6 : Fin (k0_t6_loop v14).trips) (v99 : IVec S16 32) (v100 : IVec S16 32) (v116 : IVec S16 32) (k0_hw137 : k0_chk137 v14 k0_t6 v99 v100 v116), ∀ (k0_h14 : k0_cond14 v14 k0_t6 = 1#1), ∀ a x, ((![v99, v116] : Fin 2 → IVec S16 32) a x).toNat < S320x128.size a := fun v14 k0_t6 v99 v100 v116 k0_hw137 k0_h14 => k0_hw137.2.2.2.2.2 k0_h14

def k0_chk138 (v14 : BitVec 32) (k0_t6 : Fin (k0_t6_loop v14).trips) (v99 : IVec S16 32) (v100 : IVec S16 32) (v123 : IVec S16 32) : Prop :=
  (∀ (k0_h14 : k0_cond14 v14 k0_t6 = 1#1), ∀ a x, ((![v100, v123] : Fin 2 → IVec S16 32) a x).toNat < S16x128.size a) ∧
  (∀ (k0_h14 : k0_cond14 v14 k0_t6 = 1#1), ∀ a x, ((![v99, v123] : Fin 2 → IVec S16 32) a x).toNat < S320x128.size a) ∧
  (∀ (k0_h14 : k0_cond14 v14 k0_t6 = 1#1), ∀ a x, ((![v99, v123] : Fin 2 → IVec S16 32) a x).toNat < S320x128.size a) ∧
  (∀ (k0_h14 : k0_cond14 v14 k0_t6 = 1#1), ∀ a x, ((![v99, v123] : Fin 2 → IVec S16 32) a x).toNat < S320x128.size a) ∧
  (∀ (k0_h14 : k0_cond14 v14 k0_t6 = 1#1), ∀ a x, ((![v99, v123] : Fin 2 → IVec S16 32) a x).toNat < S320x128.size a) ∧
  (∀ (k0_h14 : k0_cond14 v14 k0_t6 = 1#1), ∀ a x, ((![v99, v123] : Fin 2 → IVec S16 32) a x).toNat < S320x128.size a)
theorem k0_idx673_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v100, v123] : Fin 2 → IVec S16 32) a x).toNat < S16x128.size a := fun v14 k0_t6 v99 v100 v123 k0_hw138 k0_h14 => k0_hw138.1 k0_h14
theorem k0_idx674_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v99, v123] : Fin 2 → IVec S16 32) a x).toNat < S320x128.size a := fun v14 k0_t6 v99 v100 v123 k0_hw138 k0_h14 => k0_hw138.2.1 k0_h14
theorem k0_idx675_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v99, v123] : Fin 2 → IVec S16 32) a x).toNat < S320x128.size a := fun v14 k0_t6 v99 v100 v123 k0_hw138 k0_h14 => k0_hw138.2.2.1 k0_h14
theorem k0_idx676_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v99, v123] : Fin 2 → IVec S16 32) a x).toNat < S320x128.size a := fun v14 k0_t6 v99 v100 v123 k0_hw138 k0_h14 => k0_hw138.2.2.2.1 k0_h14
theorem k0_idx677_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v99, v123] : Fin 2 → IVec S16 32) a x).toNat < S320x128.size a := fun v14 k0_t6 v99 v100 v123 k0_hw138 k0_h14 => k0_hw138.2.2.2.2.1 k0_h14
theorem k0_idx678_inb : ∀ (v14 : BitVec 32) (k0_t6 : Fin (k0_t6_loop v14).trips) (v99 : IVec S16 32) (v100 : IVec S16 32) (v123 : IVec S16 32) (k0_hw138 : k0_chk138 v14 k0_t6 v99 v100 v123), ∀ (k0_h14 : k0_cond14 v14 k0_t6 = 1#1), ∀ a x, ((![v99, v123] : Fin 2 → IVec S16 32) a x).toNat < S320x128.size a := fun v14 k0_t6 v99 v100 v123 k0_hw138 k0_h14 => k0_hw138.2.2.2.2.2 k0_h14

def k0_chk139 (v14 : BitVec 32) (k0_t6 : Fin (k0_t6_loop v14).trips) (v99 : IVec S16 32) (v100 : IVec S16 32) (v130 : IVec S16 32) : Prop :=
  (∀ (k0_h14 : k0_cond14 v14 k0_t6 = 1#1), ∀ a x, ((![v100, v130] : Fin 2 → IVec S16 32) a x).toNat < S16x128.size a) ∧
  (∀ (k0_h14 : k0_cond14 v14 k0_t6 = 1#1), ∀ a x, ((![v99, v130] : Fin 2 → IVec S16 32) a x).toNat < S320x128.size a) ∧
  (∀ (k0_h14 : k0_cond14 v14 k0_t6 = 1#1), ∀ a x, ((![v99, v130] : Fin 2 → IVec S16 32) a x).toNat < S320x128.size a) ∧
  (∀ (k0_h14 : k0_cond14 v14 k0_t6 = 1#1), ∀ a x, ((![v99, v130] : Fin 2 → IVec S16 32) a x).toNat < S320x128.size a) ∧
  (∀ (k0_h14 : k0_cond14 v14 k0_t6 = 1#1), ∀ a x, ((![v99, v130] : Fin 2 → IVec S16 32) a x).toNat < S320x128.size a) ∧
  (∀ (k0_h14 : k0_cond14 v14 k0_t6 = 1#1), ∀ a x, ((![v99, v130] : Fin 2 → IVec S16 32) a x).toNat < S320x128.size a)
theorem k0_idx679_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v100, v130] : Fin 2 → IVec S16 32) a x).toNat < S16x128.size a := fun v14 k0_t6 v99 v100 v130 k0_hw139 k0_h14 => k0_hw139.1 k0_h14
theorem k0_idx680_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v99, v130] : Fin 2 → IVec S16 32) a x).toNat < S320x128.size a := fun v14 k0_t6 v99 v100 v130 k0_hw139 k0_h14 => k0_hw139.2.1 k0_h14
theorem k0_idx681_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v99, v130] : Fin 2 → IVec S16 32) a x).toNat < S320x128.size a := fun v14 k0_t6 v99 v100 v130 k0_hw139 k0_h14 => k0_hw139.2.2.1 k0_h14
theorem k0_idx682_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v99, v130] : Fin 2 → IVec S16 32) a x).toNat < S320x128.size a := fun v14 k0_t6 v99 v100 v130 k0_hw139 k0_h14 => k0_hw139.2.2.2.1 k0_h14
theorem k0_idx683_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v99, v130] : Fin 2 → IVec S16 32) a x).toNat < S320x128.size a := fun v14 k0_t6 v99 v100 v130 k0_hw139 k0_h14 => k0_hw139.2.2.2.2.1 k0_h14
theorem k0_idx684_inb : ∀ (v14 : BitVec 32) (k0_t6 : Fin (k0_t6_loop v14).trips) (v99 : IVec S16 32) (v100 : IVec S16 32) (v130 : IVec S16 32) (k0_hw139 : k0_chk139 v14 k0_t6 v99 v100 v130), ∀ (k0_h14 : k0_cond14 v14 k0_t6 = 1#1), ∀ a x, ((![v99, v130] : Fin 2 → IVec S16 32) a x).toNat < S320x128.size a := fun v14 k0_t6 v99 v100 v130 k0_hw139 k0_h14 => k0_hw139.2.2.2.2.2 k0_h14

def k0_chk140 (v14 : BitVec 32) (k0_t6 : Fin (k0_t6_loop v14).trips) (v99 : IVec S16 32) (v100 : IVec S16 32) (v137 : IVec S16 32) : Prop :=
  (∀ (k0_h14 : k0_cond14 v14 k0_t6 = 1#1), ∀ a x, ((![v100, v137] : Fin 2 → IVec S16 32) a x).toNat < S16x128.size a) ∧
  (∀ (k0_h14 : k0_cond14 v14 k0_t6 = 1#1), ∀ a x, ((![v99, v137] : Fin 2 → IVec S16 32) a x).toNat < S320x128.size a) ∧
  (∀ (k0_h14 : k0_cond14 v14 k0_t6 = 1#1), ∀ a x, ((![v99, v137] : Fin 2 → IVec S16 32) a x).toNat < S320x128.size a) ∧
  (∀ (k0_h14 : k0_cond14 v14 k0_t6 = 1#1), ∀ a x, ((![v99, v137] : Fin 2 → IVec S16 32) a x).toNat < S320x128.size a) ∧
  (∀ (k0_h14 : k0_cond14 v14 k0_t6 = 1#1), ∀ a x, ((![v99, v137] : Fin 2 → IVec S16 32) a x).toNat < S320x128.size a) ∧
  (∀ (k0_h14 : k0_cond14 v14 k0_t6 = 1#1), ∀ a x, ((![v99, v137] : Fin 2 → IVec S16 32) a x).toNat < S320x128.size a)
theorem k0_idx685_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v100, v137] : Fin 2 → IVec S16 32) a x).toNat < S16x128.size a := fun v14 k0_t6 v99 v100 v137 k0_hw140 k0_h14 => k0_hw140.1 k0_h14
theorem k0_idx686_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v99, v137] : Fin 2 → IVec S16 32) a x).toNat < S320x128.size a := fun v14 k0_t6 v99 v100 v137 k0_hw140 k0_h14 => k0_hw140.2.1 k0_h14
theorem k0_idx687_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v99, v137] : Fin 2 → IVec S16 32) a x).toNat < S320x128.size a := fun v14 k0_t6 v99 v100 v137 k0_hw140 k0_h14 => k0_hw140.2.2.1 k0_h14
theorem k0_idx688_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v99, v137] : Fin 2 → IVec S16 32) a x).toNat < S320x128.size a := fun v14 k0_t6 v99 v100 v137 k0_hw140 k0_h14 => k0_hw140.2.2.2.1 k0_h14
theorem k0_idx689_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v99, v137] : Fin 2 → IVec S16 32) a x).toNat < S320x128.size a := fun v14 k0_t6 v99 v100 v137 k0_hw140 k0_h14 => k0_hw140.2.2.2.2.1 k0_h14
theorem k0_idx690_inb : ∀ (v14 : BitVec 32) (k0_t6 : Fin (k0_t6_loop v14).trips) (v99 : IVec S16 32) (v100 : IVec S16 32) (v137 : IVec S16 32) (k0_hw140 : k0_chk140 v14 k0_t6 v99 v100 v137), ∀ (k0_h14 : k0_cond14 v14 k0_t6 = 1#1), ∀ a x, ((![v99, v137] : Fin 2 → IVec S16 32) a x).toNat < S320x128.size a := fun v14 k0_t6 v99 v100 v137 k0_hw140 k0_h14 => k0_hw140.2.2.2.2.2 k0_h14

def k0_chk141 (v14 : BitVec 32) (k0_t6 : Fin (k0_t6_loop v14).trips) (v99 : IVec S16 32) (v100 : IVec S16 32) (v144 : IVec S16 32) : Prop :=
  (∀ (k0_h14 : k0_cond14 v14 k0_t6 = 1#1), ∀ a x, ((![v100, v144] : Fin 2 → IVec S16 32) a x).toNat < S16x128.size a) ∧
  (∀ (k0_h14 : k0_cond14 v14 k0_t6 = 1#1), ∀ a x, ((![v99, v144] : Fin 2 → IVec S16 32) a x).toNat < S320x128.size a) ∧
  (∀ (k0_h14 : k0_cond14 v14 k0_t6 = 1#1), ∀ a x, ((![v99, v144] : Fin 2 → IVec S16 32) a x).toNat < S320x128.size a) ∧
  (∀ (k0_h14 : k0_cond14 v14 k0_t6 = 1#1), ∀ a x, ((![v99, v144] : Fin 2 → IVec S16 32) a x).toNat < S320x128.size a) ∧
  (∀ (k0_h14 : k0_cond14 v14 k0_t6 = 1#1), ∀ a x, ((![v99, v144] : Fin 2 → IVec S16 32) a x).toNat < S320x128.size a) ∧
  (∀ (k0_h14 : k0_cond14 v14 k0_t6 = 1#1), ∀ a x, ((![v99, v144] : Fin 2 → IVec S16 32) a x).toNat < S320x128.size a)
theorem k0_idx691_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v100, v144] : Fin 2 → IVec S16 32) a x).toNat < S16x128.size a := fun v14 k0_t6 v99 v100 v144 k0_hw141 k0_h14 => k0_hw141.1 k0_h14
theorem k0_idx692_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v99, v144] : Fin 2 → IVec S16 32) a x).toNat < S320x128.size a := fun v14 k0_t6 v99 v100 v144 k0_hw141 k0_h14 => k0_hw141.2.1 k0_h14
theorem k0_idx693_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v99, v144] : Fin 2 → IVec S16 32) a x).toNat < S320x128.size a := fun v14 k0_t6 v99 v100 v144 k0_hw141 k0_h14 => k0_hw141.2.2.1 k0_h14
theorem k0_idx694_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v99, v144] : Fin 2 → IVec S16 32) a x).toNat < S320x128.size a := fun v14 k0_t6 v99 v100 v144 k0_hw141 k0_h14 => k0_hw141.2.2.2.1 k0_h14
theorem k0_idx695_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v99, v144] : Fin 2 → IVec S16 32) a x).toNat < S320x128.size a := fun v14 k0_t6 v99 v100 v144 k0_hw141 k0_h14 => k0_hw141.2.2.2.2.1 k0_h14
theorem k0_idx696_inb : ∀ (v14 : BitVec 32) (k0_t6 : Fin (k0_t6_loop v14).trips) (v99 : IVec S16 32) (v100 : IVec S16 32) (v144 : IVec S16 32) (k0_hw141 : k0_chk141 v14 k0_t6 v99 v100 v144), ∀ (k0_h14 : k0_cond14 v14 k0_t6 = 1#1), ∀ a x, ((![v99, v144] : Fin 2 → IVec S16 32) a x).toNat < S320x128.size a := fun v14 k0_t6 v99 v100 v144 k0_hw141 k0_h14 => k0_hw141.2.2.2.2.2 k0_h14

def k0_chk142 (v14 : BitVec 32) (k0_t6 : Fin (k0_t6_loop v14).trips) (v99 : IVec S16 32) (v100 : IVec S16 32) (v151 : IVec S16 32) : Prop :=
  (∀ (k0_h14 : k0_cond14 v14 k0_t6 = 1#1), ∀ a x, ((![v100, v151] : Fin 2 → IVec S16 32) a x).toNat < S16x128.size a) ∧
  (∀ (k0_h14 : k0_cond14 v14 k0_t6 = 1#1), ∀ a x, ((![v99, v151] : Fin 2 → IVec S16 32) a x).toNat < S320x128.size a) ∧
  (∀ (k0_h14 : k0_cond14 v14 k0_t6 = 1#1), ∀ a x, ((![v99, v151] : Fin 2 → IVec S16 32) a x).toNat < S320x128.size a) ∧
  (∀ (k0_h14 : k0_cond14 v14 k0_t6 = 1#1), ∀ a x, ((![v99, v151] : Fin 2 → IVec S16 32) a x).toNat < S320x128.size a) ∧
  (∀ (k0_h14 : k0_cond14 v14 k0_t6 = 1#1), ∀ a x, ((![v99, v151] : Fin 2 → IVec S16 32) a x).toNat < S320x128.size a) ∧
  (∀ (k0_h14 : k0_cond14 v14 k0_t6 = 1#1), ∀ a x, ((![v99, v151] : Fin 2 → IVec S16 32) a x).toNat < S320x128.size a)
theorem k0_idx697_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v100, v151] : Fin 2 → IVec S16 32) a x).toNat < S16x128.size a := fun v14 k0_t6 v99 v100 v151 k0_hw142 k0_h14 => k0_hw142.1 k0_h14
theorem k0_idx698_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v99, v151] : Fin 2 → IVec S16 32) a x).toNat < S320x128.size a := fun v14 k0_t6 v99 v100 v151 k0_hw142 k0_h14 => k0_hw142.2.1 k0_h14
theorem k0_idx699_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v99, v151] : Fin 2 → IVec S16 32) a x).toNat < S320x128.size a := fun v14 k0_t6 v99 v100 v151 k0_hw142 k0_h14 => k0_hw142.2.2.1 k0_h14
theorem k0_idx700_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v99, v151] : Fin 2 → IVec S16 32) a x).toNat < S320x128.size a := fun v14 k0_t6 v99 v100 v151 k0_hw142 k0_h14 => k0_hw142.2.2.2.1 k0_h14
theorem k0_idx701_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v99, v151] : Fin 2 → IVec S16 32) a x).toNat < S320x128.size a := fun v14 k0_t6 v99 v100 v151 k0_hw142 k0_h14 => k0_hw142.2.2.2.2.1 k0_h14
theorem k0_idx702_inb : ∀ (v14 : BitVec 32) (k0_t6 : Fin (k0_t6_loop v14).trips) (v99 : IVec S16 32) (v100 : IVec S16 32) (v151 : IVec S16 32) (k0_hw142 : k0_chk142 v14 k0_t6 v99 v100 v151), ∀ (k0_h14 : k0_cond14 v14 k0_t6 = 1#1), ∀ a x, ((![v99, v151] : Fin 2 → IVec S16 32) a x).toNat < S320x128.size a := fun v14 k0_t6 v99 v100 v151 k0_hw142 k0_h14 => k0_hw142.2.2.2.2.2 k0_h14

def k0_chk143 (v14 : BitVec 32) (k0_t6 : Fin (k0_t6_loop v14).trips) (v99 : IVec S16 32) : Prop :=
  (∀ (k0_h14 : k0_cond14 v14 k0_t6 = 1#1), ∀ a x, ((![v99] : Fin 1 → IVec S16 32) a x).toNat < S320.size a)
theorem k0_idx703_inb : ∀ (v14 : BitVec 32) (k0_t6 : Fin (k0_t6_loop v14).trips) (v99 : IVec S16 32) (k0_hw143 : k0_chk143 v14 k0_t6 v99), ∀ (k0_h14 : k0_cond14 v14 k0_t6 = 1#1), ∀ a x, ((![v99] : Fin 1 → IVec S16 32) a x).toNat < S320.size a := fun v14 k0_t6 v99 k0_hw143 k0_h14 => k0_hw143 k0_h14
def k0_cond15 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c14_i32 : BitVec 32 := 14#32
  let v91 : BitVec 1 := Scalar.cmpi .sgt v45 c14_i32
  let v92 : BitVec 32 := Scalar.extui v91
  let c0_i32_57 : BitVec 32 := 0#32
  let v93 : BitVec 1 := Scalar.cmpi .ne v92 c0_i32_57
  v93

def k0_chk144 (v14 : BitVec 32) (k0_t6 : Fin (k0_t6_loop v14).trips) (v98 : IVec S16 32) : Prop :=
  (∀ (k0_h15 : k0_cond15 v14 k0_t6 = 1#1), ∀ a x, ((![v98] : Fin 1 → IVec S16 32) a x).toNat < S528.size a)
theorem k0_idx704_inb : ∀ (v14 : BitVec 32) (k0_t6 : Fin (k0_t6_loop v14).trips) (v98 : IVec S16 32) (k0_hw144 : k0_chk144 v14 k0_t6 v98), ∀ (k0_h15 : k0_cond15 v14 k0_t6 = 1#1), ∀ a x, ((![v98] : Fin 1 → IVec S16 32) a x).toNat < S528.size a := fun v14 k0_t6 v98 k0_hw144 k0_h15 => k0_hw144 k0_h15

def k0_chk145 (v14 : BitVec 32) (k0_t6 : Fin (k0_t6_loop v14).trips) (v99 : IVec S16 32) (v100 : IVec S16 32) (v102 : IVec S16 32) : Prop :=
  (∀ (k0_h15 : k0_cond15 v14 k0_t6 = 1#1), ∀ a x, ((![v100, v102] : Fin 2 → IVec S16 32) a x).toNat < S16x128.size a) ∧
  (∀ (k0_h15 : k0_cond15 v14 k0_t6 = 1#1), ∀ a x, ((![v99, v102] : Fin 2 → IVec S16 32) a x).toNat < S320x128.size a) ∧
  (∀ (k0_h15 : k0_cond15 v14 k0_t6 = 1#1), ∀ a x, ((![v99, v102] : Fin 2 → IVec S16 32) a x).toNat < S320x128.size a) ∧
  (∀ (k0_h15 : k0_cond15 v14 k0_t6 = 1#1), ∀ a x, ((![v99, v102] : Fin 2 → IVec S16 32) a x).toNat < S320x128.size a) ∧
  (∀ (k0_h15 : k0_cond15 v14 k0_t6 = 1#1), ∀ a x, ((![v99, v102] : Fin 2 → IVec S16 32) a x).toNat < S320x128.size a) ∧
  (∀ (k0_h15 : k0_cond15 v14 k0_t6 = 1#1), ∀ a x, ((![v99, v102] : Fin 2 → IVec S16 32) a x).toNat < S320x128.size a)
theorem k0_idx705_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v100, v102] : Fin 2 → IVec S16 32) a x).toNat < S16x128.size a := fun v14 k0_t6 v99 v100 v102 k0_hw145 k0_h15 => k0_hw145.1 k0_h15
theorem k0_idx706_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v99, v102] : Fin 2 → IVec S16 32) a x).toNat < S320x128.size a := fun v14 k0_t6 v99 v100 v102 k0_hw145 k0_h15 => k0_hw145.2.1 k0_h15
theorem k0_idx707_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v99, v102] : Fin 2 → IVec S16 32) a x).toNat < S320x128.size a := fun v14 k0_t6 v99 v100 v102 k0_hw145 k0_h15 => k0_hw145.2.2.1 k0_h15
theorem k0_idx708_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v99, v102] : Fin 2 → IVec S16 32) a x).toNat < S320x128.size a := fun v14 k0_t6 v99 v100 v102 k0_hw145 k0_h15 => k0_hw145.2.2.2.1 k0_h15
theorem k0_idx709_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v99, v102] : Fin 2 → IVec S16 32) a x).toNat < S320x128.size a := fun v14 k0_t6 v99 v100 v102 k0_hw145 k0_h15 => k0_hw145.2.2.2.2.1 k0_h15
theorem k0_idx710_inb : ∀ (v14 : BitVec 32) (k0_t6 : Fin (k0_t6_loop v14).trips) (v99 : IVec S16 32) (v100 : IVec S16 32) (v102 : IVec S16 32) (k0_hw145 : k0_chk145 v14 k0_t6 v99 v100 v102), ∀ (k0_h15 : k0_cond15 v14 k0_t6 = 1#1), ∀ a x, ((![v99, v102] : Fin 2 → IVec S16 32) a x).toNat < S320x128.size a := fun v14 k0_t6 v99 v100 v102 k0_hw145 k0_h15 => k0_hw145.2.2.2.2.2 k0_h15

def k0_chk146 (v14 : BitVec 32) (k0_t6 : Fin (k0_t6_loop v14).trips) (v99 : IVec S16 32) (v100 : IVec S16 32) (v109 : IVec S16 32) : Prop :=
  (∀ (k0_h15 : k0_cond15 v14 k0_t6 = 1#1), ∀ a x, ((![v100, v109] : Fin 2 → IVec S16 32) a x).toNat < S16x128.size a) ∧
  (∀ (k0_h15 : k0_cond15 v14 k0_t6 = 1#1), ∀ a x, ((![v99, v109] : Fin 2 → IVec S16 32) a x).toNat < S320x128.size a) ∧
  (∀ (k0_h15 : k0_cond15 v14 k0_t6 = 1#1), ∀ a x, ((![v99, v109] : Fin 2 → IVec S16 32) a x).toNat < S320x128.size a) ∧
  (∀ (k0_h15 : k0_cond15 v14 k0_t6 = 1#1), ∀ a x, ((![v99, v109] : Fin 2 → IVec S16 32) a x).toNat < S320x128.size a) ∧
  (∀ (k0_h15 : k0_cond15 v14 k0_t6 = 1#1), ∀ a x, ((![v99, v109] : Fin 2 → IVec S16 32) a x).toNat < S320x128.size a) ∧
  (∀ (k0_h15 : k0_cond15 v14 k0_t6 = 1#1), ∀ a x, ((![v99, v109] : Fin 2 → IVec S16 32) a x).toNat < S320x128.size a)
theorem k0_idx711_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v100, v109] : Fin 2 → IVec S16 32) a x).toNat < S16x128.size a := fun v14 k0_t6 v99 v100 v109 k0_hw146 k0_h15 => k0_hw146.1 k0_h15
theorem k0_idx712_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v99, v109] : Fin 2 → IVec S16 32) a x).toNat < S320x128.size a := fun v14 k0_t6 v99 v100 v109 k0_hw146 k0_h15 => k0_hw146.2.1 k0_h15
theorem k0_idx713_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v99, v109] : Fin 2 → IVec S16 32) a x).toNat < S320x128.size a := fun v14 k0_t6 v99 v100 v109 k0_hw146 k0_h15 => k0_hw146.2.2.1 k0_h15
theorem k0_idx714_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v99, v109] : Fin 2 → IVec S16 32) a x).toNat < S320x128.size a := fun v14 k0_t6 v99 v100 v109 k0_hw146 k0_h15 => k0_hw146.2.2.2.1 k0_h15
theorem k0_idx715_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v99, v109] : Fin 2 → IVec S16 32) a x).toNat < S320x128.size a := fun v14 k0_t6 v99 v100 v109 k0_hw146 k0_h15 => k0_hw146.2.2.2.2.1 k0_h15
theorem k0_idx716_inb : ∀ (v14 : BitVec 32) (k0_t6 : Fin (k0_t6_loop v14).trips) (v99 : IVec S16 32) (v100 : IVec S16 32) (v109 : IVec S16 32) (k0_hw146 : k0_chk146 v14 k0_t6 v99 v100 v109), ∀ (k0_h15 : k0_cond15 v14 k0_t6 = 1#1), ∀ a x, ((![v99, v109] : Fin 2 → IVec S16 32) a x).toNat < S320x128.size a := fun v14 k0_t6 v99 v100 v109 k0_hw146 k0_h15 => k0_hw146.2.2.2.2.2 k0_h15

def k0_chk147 (v14 : BitVec 32) (k0_t6 : Fin (k0_t6_loop v14).trips) (v99 : IVec S16 32) (v100 : IVec S16 32) (v116 : IVec S16 32) : Prop :=
  (∀ (k0_h15 : k0_cond15 v14 k0_t6 = 1#1), ∀ a x, ((![v100, v116] : Fin 2 → IVec S16 32) a x).toNat < S16x128.size a) ∧
  (∀ (k0_h15 : k0_cond15 v14 k0_t6 = 1#1), ∀ a x, ((![v99, v116] : Fin 2 → IVec S16 32) a x).toNat < S320x128.size a) ∧
  (∀ (k0_h15 : k0_cond15 v14 k0_t6 = 1#1), ∀ a x, ((![v99, v116] : Fin 2 → IVec S16 32) a x).toNat < S320x128.size a) ∧
  (∀ (k0_h15 : k0_cond15 v14 k0_t6 = 1#1), ∀ a x, ((![v99, v116] : Fin 2 → IVec S16 32) a x).toNat < S320x128.size a) ∧
  (∀ (k0_h15 : k0_cond15 v14 k0_t6 = 1#1), ∀ a x, ((![v99, v116] : Fin 2 → IVec S16 32) a x).toNat < S320x128.size a) ∧
  (∀ (k0_h15 : k0_cond15 v14 k0_t6 = 1#1), ∀ a x, ((![v99, v116] : Fin 2 → IVec S16 32) a x).toNat < S320x128.size a)
theorem k0_idx717_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v100, v116] : Fin 2 → IVec S16 32) a x).toNat < S16x128.size a := fun v14 k0_t6 v99 v100 v116 k0_hw147 k0_h15 => k0_hw147.1 k0_h15
theorem k0_idx718_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v99, v116] : Fin 2 → IVec S16 32) a x).toNat < S320x128.size a := fun v14 k0_t6 v99 v100 v116 k0_hw147 k0_h15 => k0_hw147.2.1 k0_h15
theorem k0_idx719_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v99, v116] : Fin 2 → IVec S16 32) a x).toNat < S320x128.size a := fun v14 k0_t6 v99 v100 v116 k0_hw147 k0_h15 => k0_hw147.2.2.1 k0_h15
theorem k0_idx720_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v99, v116] : Fin 2 → IVec S16 32) a x).toNat < S320x128.size a := fun v14 k0_t6 v99 v100 v116 k0_hw147 k0_h15 => k0_hw147.2.2.2.1 k0_h15
theorem k0_idx721_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v99, v116] : Fin 2 → IVec S16 32) a x).toNat < S320x128.size a := fun v14 k0_t6 v99 v100 v116 k0_hw147 k0_h15 => k0_hw147.2.2.2.2.1 k0_h15
theorem k0_idx722_inb : ∀ (v14 : BitVec 32) (k0_t6 : Fin (k0_t6_loop v14).trips) (v99 : IVec S16 32) (v100 : IVec S16 32) (v116 : IVec S16 32) (k0_hw147 : k0_chk147 v14 k0_t6 v99 v100 v116), ∀ (k0_h15 : k0_cond15 v14 k0_t6 = 1#1), ∀ a x, ((![v99, v116] : Fin 2 → IVec S16 32) a x).toNat < S320x128.size a := fun v14 k0_t6 v99 v100 v116 k0_hw147 k0_h15 => k0_hw147.2.2.2.2.2 k0_h15

def k0_chk148 (v14 : BitVec 32) (k0_t6 : Fin (k0_t6_loop v14).trips) (v99 : IVec S16 32) (v100 : IVec S16 32) (v123 : IVec S16 32) : Prop :=
  (∀ (k0_h15 : k0_cond15 v14 k0_t6 = 1#1), ∀ a x, ((![v100, v123] : Fin 2 → IVec S16 32) a x).toNat < S16x128.size a) ∧
  (∀ (k0_h15 : k0_cond15 v14 k0_t6 = 1#1), ∀ a x, ((![v99, v123] : Fin 2 → IVec S16 32) a x).toNat < S320x128.size a) ∧
  (∀ (k0_h15 : k0_cond15 v14 k0_t6 = 1#1), ∀ a x, ((![v99, v123] : Fin 2 → IVec S16 32) a x).toNat < S320x128.size a) ∧
  (∀ (k0_h15 : k0_cond15 v14 k0_t6 = 1#1), ∀ a x, ((![v99, v123] : Fin 2 → IVec S16 32) a x).toNat < S320x128.size a) ∧
  (∀ (k0_h15 : k0_cond15 v14 k0_t6 = 1#1), ∀ a x, ((![v99, v123] : Fin 2 → IVec S16 32) a x).toNat < S320x128.size a) ∧
  (∀ (k0_h15 : k0_cond15 v14 k0_t6 = 1#1), ∀ a x, ((![v99, v123] : Fin 2 → IVec S16 32) a x).toNat < S320x128.size a)
theorem k0_idx723_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v100, v123] : Fin 2 → IVec S16 32) a x).toNat < S16x128.size a := fun v14 k0_t6 v99 v100 v123 k0_hw148 k0_h15 => k0_hw148.1 k0_h15
theorem k0_idx724_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v99, v123] : Fin 2 → IVec S16 32) a x).toNat < S320x128.size a := fun v14 k0_t6 v99 v100 v123 k0_hw148 k0_h15 => k0_hw148.2.1 k0_h15
theorem k0_idx725_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v99, v123] : Fin 2 → IVec S16 32) a x).toNat < S320x128.size a := fun v14 k0_t6 v99 v100 v123 k0_hw148 k0_h15 => k0_hw148.2.2.1 k0_h15
theorem k0_idx726_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v99, v123] : Fin 2 → IVec S16 32) a x).toNat < S320x128.size a := fun v14 k0_t6 v99 v100 v123 k0_hw148 k0_h15 => k0_hw148.2.2.2.1 k0_h15
theorem k0_idx727_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v99, v123] : Fin 2 → IVec S16 32) a x).toNat < S320x128.size a := fun v14 k0_t6 v99 v100 v123 k0_hw148 k0_h15 => k0_hw148.2.2.2.2.1 k0_h15
theorem k0_idx728_inb : ∀ (v14 : BitVec 32) (k0_t6 : Fin (k0_t6_loop v14).trips) (v99 : IVec S16 32) (v100 : IVec S16 32) (v123 : IVec S16 32) (k0_hw148 : k0_chk148 v14 k0_t6 v99 v100 v123), ∀ (k0_h15 : k0_cond15 v14 k0_t6 = 1#1), ∀ a x, ((![v99, v123] : Fin 2 → IVec S16 32) a x).toNat < S320x128.size a := fun v14 k0_t6 v99 v100 v123 k0_hw148 k0_h15 => k0_hw148.2.2.2.2.2 k0_h15

def k0_chk149 (v14 : BitVec 32) (k0_t6 : Fin (k0_t6_loop v14).trips) (v99 : IVec S16 32) (v100 : IVec S16 32) (v130 : IVec S16 32) : Prop :=
  (∀ (k0_h15 : k0_cond15 v14 k0_t6 = 1#1), ∀ a x, ((![v100, v130] : Fin 2 → IVec S16 32) a x).toNat < S16x128.size a) ∧
  (∀ (k0_h15 : k0_cond15 v14 k0_t6 = 1#1), ∀ a x, ((![v99, v130] : Fin 2 → IVec S16 32) a x).toNat < S320x128.size a) ∧
  (∀ (k0_h15 : k0_cond15 v14 k0_t6 = 1#1), ∀ a x, ((![v99, v130] : Fin 2 → IVec S16 32) a x).toNat < S320x128.size a) ∧
  (∀ (k0_h15 : k0_cond15 v14 k0_t6 = 1#1), ∀ a x, ((![v99, v130] : Fin 2 → IVec S16 32) a x).toNat < S320x128.size a) ∧
  (∀ (k0_h15 : k0_cond15 v14 k0_t6 = 1#1), ∀ a x, ((![v99, v130] : Fin 2 → IVec S16 32) a x).toNat < S320x128.size a) ∧
  (∀ (k0_h15 : k0_cond15 v14 k0_t6 = 1#1), ∀ a x, ((![v99, v130] : Fin 2 → IVec S16 32) a x).toNat < S320x128.size a)
theorem k0_idx729_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v100, v130] : Fin 2 → IVec S16 32) a x).toNat < S16x128.size a := fun v14 k0_t6 v99 v100 v130 k0_hw149 k0_h15 => k0_hw149.1 k0_h15
theorem k0_idx730_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v99, v130] : Fin 2 → IVec S16 32) a x).toNat < S320x128.size a := fun v14 k0_t6 v99 v100 v130 k0_hw149 k0_h15 => k0_hw149.2.1 k0_h15
theorem k0_idx731_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v99, v130] : Fin 2 → IVec S16 32) a x).toNat < S320x128.size a := fun v14 k0_t6 v99 v100 v130 k0_hw149 k0_h15 => k0_hw149.2.2.1 k0_h15
theorem k0_idx732_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v99, v130] : Fin 2 → IVec S16 32) a x).toNat < S320x128.size a := fun v14 k0_t6 v99 v100 v130 k0_hw149 k0_h15 => k0_hw149.2.2.2.1 k0_h15
theorem k0_idx733_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v99, v130] : Fin 2 → IVec S16 32) a x).toNat < S320x128.size a := fun v14 k0_t6 v99 v100 v130 k0_hw149 k0_h15 => k0_hw149.2.2.2.2.1 k0_h15
theorem k0_idx734_inb : ∀ (v14 : BitVec 32) (k0_t6 : Fin (k0_t6_loop v14).trips) (v99 : IVec S16 32) (v100 : IVec S16 32) (v130 : IVec S16 32) (k0_hw149 : k0_chk149 v14 k0_t6 v99 v100 v130), ∀ (k0_h15 : k0_cond15 v14 k0_t6 = 1#1), ∀ a x, ((![v99, v130] : Fin 2 → IVec S16 32) a x).toNat < S320x128.size a := fun v14 k0_t6 v99 v100 v130 k0_hw149 k0_h15 => k0_hw149.2.2.2.2.2 k0_h15

def k0_chk150 (v14 : BitVec 32) (k0_t6 : Fin (k0_t6_loop v14).trips) (v99 : IVec S16 32) (v100 : IVec S16 32) (v137 : IVec S16 32) : Prop :=
  (∀ (k0_h15 : k0_cond15 v14 k0_t6 = 1#1), ∀ a x, ((![v100, v137] : Fin 2 → IVec S16 32) a x).toNat < S16x128.size a) ∧
  (∀ (k0_h15 : k0_cond15 v14 k0_t6 = 1#1), ∀ a x, ((![v99, v137] : Fin 2 → IVec S16 32) a x).toNat < S320x128.size a) ∧
  (∀ (k0_h15 : k0_cond15 v14 k0_t6 = 1#1), ∀ a x, ((![v99, v137] : Fin 2 → IVec S16 32) a x).toNat < S320x128.size a) ∧
  (∀ (k0_h15 : k0_cond15 v14 k0_t6 = 1#1), ∀ a x, ((![v99, v137] : Fin 2 → IVec S16 32) a x).toNat < S320x128.size a) ∧
  (∀ (k0_h15 : k0_cond15 v14 k0_t6 = 1#1), ∀ a x, ((![v99, v137] : Fin 2 → IVec S16 32) a x).toNat < S320x128.size a) ∧
  (∀ (k0_h15 : k0_cond15 v14 k0_t6 = 1#1), ∀ a x, ((![v99, v137] : Fin 2 → IVec S16 32) a x).toNat < S320x128.size a)
theorem k0_idx735_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v100, v137] : Fin 2 → IVec S16 32) a x).toNat < S16x128.size a := fun v14 k0_t6 v99 v100 v137 k0_hw150 k0_h15 => k0_hw150.1 k0_h15
theorem k0_idx736_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v99, v137] : Fin 2 → IVec S16 32) a x).toNat < S320x128.size a := fun v14 k0_t6 v99 v100 v137 k0_hw150 k0_h15 => k0_hw150.2.1 k0_h15
theorem k0_idx737_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v99, v137] : Fin 2 → IVec S16 32) a x).toNat < S320x128.size a := fun v14 k0_t6 v99 v100 v137 k0_hw150 k0_h15 => k0_hw150.2.2.1 k0_h15
theorem k0_idx738_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v99, v137] : Fin 2 → IVec S16 32) a x).toNat < S320x128.size a := fun v14 k0_t6 v99 v100 v137 k0_hw150 k0_h15 => k0_hw150.2.2.2.1 k0_h15
theorem k0_idx739_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v99, v137] : Fin 2 → IVec S16 32) a x).toNat < S320x128.size a := fun v14 k0_t6 v99 v100 v137 k0_hw150 k0_h15 => k0_hw150.2.2.2.2.1 k0_h15
theorem k0_idx740_inb : ∀ (v14 : BitVec 32) (k0_t6 : Fin (k0_t6_loop v14).trips) (v99 : IVec S16 32) (v100 : IVec S16 32) (v137 : IVec S16 32) (k0_hw150 : k0_chk150 v14 k0_t6 v99 v100 v137), ∀ (k0_h15 : k0_cond15 v14 k0_t6 = 1#1), ∀ a x, ((![v99, v137] : Fin 2 → IVec S16 32) a x).toNat < S320x128.size a := fun v14 k0_t6 v99 v100 v137 k0_hw150 k0_h15 => k0_hw150.2.2.2.2.2 k0_h15

def k0_chk151 (v14 : BitVec 32) (k0_t6 : Fin (k0_t6_loop v14).trips) (v99 : IVec S16 32) (v100 : IVec S16 32) (v144 : IVec S16 32) : Prop :=
  (∀ (k0_h15 : k0_cond15 v14 k0_t6 = 1#1), ∀ a x, ((![v100, v144] : Fin 2 → IVec S16 32) a x).toNat < S16x128.size a) ∧
  (∀ (k0_h15 : k0_cond15 v14 k0_t6 = 1#1), ∀ a x, ((![v99, v144] : Fin 2 → IVec S16 32) a x).toNat < S320x128.size a) ∧
  (∀ (k0_h15 : k0_cond15 v14 k0_t6 = 1#1), ∀ a x, ((![v99, v144] : Fin 2 → IVec S16 32) a x).toNat < S320x128.size a) ∧
  (∀ (k0_h15 : k0_cond15 v14 k0_t6 = 1#1), ∀ a x, ((![v99, v144] : Fin 2 → IVec S16 32) a x).toNat < S320x128.size a) ∧
  (∀ (k0_h15 : k0_cond15 v14 k0_t6 = 1#1), ∀ a x, ((![v99, v144] : Fin 2 → IVec S16 32) a x).toNat < S320x128.size a) ∧
  (∀ (k0_h15 : k0_cond15 v14 k0_t6 = 1#1), ∀ a x, ((![v99, v144] : Fin 2 → IVec S16 32) a x).toNat < S320x128.size a)
theorem k0_idx741_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v100, v144] : Fin 2 → IVec S16 32) a x).toNat < S16x128.size a := fun v14 k0_t6 v99 v100 v144 k0_hw151 k0_h15 => k0_hw151.1 k0_h15
theorem k0_idx742_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v99, v144] : Fin 2 → IVec S16 32) a x).toNat < S320x128.size a := fun v14 k0_t6 v99 v100 v144 k0_hw151 k0_h15 => k0_hw151.2.1 k0_h15
theorem k0_idx743_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v99, v144] : Fin 2 → IVec S16 32) a x).toNat < S320x128.size a := fun v14 k0_t6 v99 v100 v144 k0_hw151 k0_h15 => k0_hw151.2.2.1 k0_h15
theorem k0_idx744_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v99, v144] : Fin 2 → IVec S16 32) a x).toNat < S320x128.size a := fun v14 k0_t6 v99 v100 v144 k0_hw151 k0_h15 => k0_hw151.2.2.2.1 k0_h15
theorem k0_idx745_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v99, v144] : Fin 2 → IVec S16 32) a x).toNat < S320x128.size a := fun v14 k0_t6 v99 v100 v144 k0_hw151 k0_h15 => k0_hw151.2.2.2.2.1 k0_h15
theorem k0_idx746_inb : ∀ (v14 : BitVec 32) (k0_t6 : Fin (k0_t6_loop v14).trips) (v99 : IVec S16 32) (v100 : IVec S16 32) (v144 : IVec S16 32) (k0_hw151 : k0_chk151 v14 k0_t6 v99 v100 v144), ∀ (k0_h15 : k0_cond15 v14 k0_t6 = 1#1), ∀ a x, ((![v99, v144] : Fin 2 → IVec S16 32) a x).toNat < S320x128.size a := fun v14 k0_t6 v99 v100 v144 k0_hw151 k0_h15 => k0_hw151.2.2.2.2.2 k0_h15

def k0_chk152 (v14 : BitVec 32) (k0_t6 : Fin (k0_t6_loop v14).trips) (v99 : IVec S16 32) (v100 : IVec S16 32) (v151 : IVec S16 32) : Prop :=
  (∀ (k0_h15 : k0_cond15 v14 k0_t6 = 1#1), ∀ a x, ((![v100, v151] : Fin 2 → IVec S16 32) a x).toNat < S16x128.size a) ∧
  (∀ (k0_h15 : k0_cond15 v14 k0_t6 = 1#1), ∀ a x, ((![v99, v151] : Fin 2 → IVec S16 32) a x).toNat < S320x128.size a) ∧
  (∀ (k0_h15 : k0_cond15 v14 k0_t6 = 1#1), ∀ a x, ((![v99, v151] : Fin 2 → IVec S16 32) a x).toNat < S320x128.size a) ∧
  (∀ (k0_h15 : k0_cond15 v14 k0_t6 = 1#1), ∀ a x, ((![v99, v151] : Fin 2 → IVec S16 32) a x).toNat < S320x128.size a) ∧
  (∀ (k0_h15 : k0_cond15 v14 k0_t6 = 1#1), ∀ a x, ((![v99, v151] : Fin 2 → IVec S16 32) a x).toNat < S320x128.size a) ∧
  (∀ (k0_h15 : k0_cond15 v14 k0_t6 = 1#1), ∀ a x, ((![v99, v151] : Fin 2 → IVec S16 32) a x).toNat < S320x128.size a)
theorem k0_idx747_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v100, v151] : Fin 2 → IVec S16 32) a x).toNat < S16x128.size a := fun v14 k0_t6 v99 v100 v151 k0_hw152 k0_h15 => k0_hw152.1 k0_h15
theorem k0_idx748_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v99, v151] : Fin 2 → IVec S16 32) a x).toNat < S320x128.size a := fun v14 k0_t6 v99 v100 v151 k0_hw152 k0_h15 => k0_hw152.2.1 k0_h15
theorem k0_idx749_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v99, v151] : Fin 2 → IVec S16 32) a x).toNat < S320x128.size a := fun v14 k0_t6 v99 v100 v151 k0_hw152 k0_h15 => k0_hw152.2.2.1 k0_h15
theorem k0_idx750_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v99, v151] : Fin 2 → IVec S16 32) a x).toNat < S320x128.size a := fun v14 k0_t6 v99 v100 v151 k0_hw152 k0_h15 => k0_hw152.2.2.2.1 k0_h15
theorem k0_idx751_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v99, v151] : Fin 2 → IVec S16 32) a x).toNat < S320x128.size a := fun v14 k0_t6 v99 v100 v151 k0_hw152 k0_h15 => k0_hw152.2.2.2.2.1 k0_h15
theorem k0_idx752_inb : ∀ (v14 : BitVec 32) (k0_t6 : Fin (k0_t6_loop v14).trips) (v99 : IVec S16 32) (v100 : IVec S16 32) (v151 : IVec S16 32) (k0_hw152 : k0_chk152 v14 k0_t6 v99 v100 v151), ∀ (k0_h15 : k0_cond15 v14 k0_t6 = 1#1), ∀ a x, ((![v99, v151] : Fin 2 → IVec S16 32) a x).toNat < S320x128.size a := fun v14 k0_t6 v99 v100 v151 k0_hw152 k0_h15 => k0_hw152.2.2.2.2.2 k0_h15

def k0_chk153 (v14 : BitVec 32) (k0_t6 : Fin (k0_t6_loop v14).trips) (v99 : IVec S16 32) : Prop :=
  (∀ (k0_h15 : k0_cond15 v14 k0_t6 = 1#1), ∀ a x, ((![v99] : Fin 1 → IVec S16 32) a x).toNat < S320.size a)
theorem k0_idx753_inb : ∀ (v14 : BitVec 32) (k0_t6 : Fin (k0_t6_loop v14).trips) (v99 : IVec S16 32) (k0_hw153 : k0_chk153 v14 k0_t6 v99), ∀ (k0_h15 : k0_cond15 v14 k0_t6 = 1#1), ∀ a x, ((![v99] : Fin 1 → IVec S16 32) a x).toNat < S320.size a := fun v14 k0_t6 v99 k0_hw153 k0_h15 => k0_hw153 k0_h15
def k0_cond16 (v14 : BitVec 32) (k0_t6 : Fin (k0_t6_loop v14).trips) : BitVec 1 :=
  let c0_i32_29 : BitVec 32 := 0#32
  let c1_i32_31 : BitVec 32 := 1#32
  let arg21 : BitVec 32 := Scf.iv c0_i32_29 c1_i32_31 k0_t6
  let c16_i32_33 : BitVec 32 := 16#32
  let v38 : BitVec 32 := Scalar.muli arg21 c16_i32_33
  let v45 : BitVec 32 := Scalar.subi v14 v38
  let c15_i32_58 : BitVec 32 := 15#32
  let v94 : BitVec 1 := Scalar.cmpi .sgt v45 c15_i32_58
  let v95 : BitVec 32 := Scalar.extui v94
  let c0_i32_59 : BitVec 32 := 0#32
  let v96 : BitVec 1 := Scalar.cmpi .ne v95 c0_i32_59
  v96

def k0_chk154 (v14 : BitVec 32) (k0_t6 : Fin (k0_t6_loop v14).trips) (v98 : IVec S16 32) : Prop :=
  (∀ (k0_h16 : k0_cond16 v14 k0_t6 = 1#1), ∀ a x, ((![v98] : Fin 1 → IVec S16 32) a x).toNat < S528.size a)
theorem k0_idx754_inb : ∀ (v14 : BitVec 32) (k0_t6 : Fin (k0_t6_loop v14).trips) (v98 : IVec S16 32) (k0_hw154 : k0_chk154 v14 k0_t6 v98), ∀ (k0_h16 : k0_cond16 v14 k0_t6 = 1#1), ∀ a x, ((![v98] : Fin 1 → IVec S16 32) a x).toNat < S528.size a := fun v14 k0_t6 v98 k0_hw154 k0_h16 => k0_hw154 k0_h16

def k0_chk155 (v14 : BitVec 32) (k0_t6 : Fin (k0_t6_loop v14).trips) (v99 : IVec S16 32) (v100 : IVec S16 32) (v102 : IVec S16 32) : Prop :=
  (∀ (k0_h16 : k0_cond16 v14 k0_t6 = 1#1), ∀ a x, ((![v100, v102] : Fin 2 → IVec S16 32) a x).toNat < S16x128.size a) ∧
  (∀ (k0_h16 : k0_cond16 v14 k0_t6 = 1#1), ∀ a x, ((![v99, v102] : Fin 2 → IVec S16 32) a x).toNat < S320x128.size a) ∧
  (∀ (k0_h16 : k0_cond16 v14 k0_t6 = 1#1), ∀ a x, ((![v99, v102] : Fin 2 → IVec S16 32) a x).toNat < S320x128.size a) ∧
  (∀ (k0_h16 : k0_cond16 v14 k0_t6 = 1#1), ∀ a x, ((![v99, v102] : Fin 2 → IVec S16 32) a x).toNat < S320x128.size a) ∧
  (∀ (k0_h16 : k0_cond16 v14 k0_t6 = 1#1), ∀ a x, ((![v99, v102] : Fin 2 → IVec S16 32) a x).toNat < S320x128.size a) ∧
  (∀ (k0_h16 : k0_cond16 v14 k0_t6 = 1#1), ∀ a x, ((![v99, v102] : Fin 2 → IVec S16 32) a x).toNat < S320x128.size a)
theorem k0_idx755_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v100, v102] : Fin 2 → IVec S16 32) a x).toNat < S16x128.size a := fun v14 k0_t6 v99 v100 v102 k0_hw155 k0_h16 => k0_hw155.1 k0_h16
theorem k0_idx756_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v99, v102] : Fin 2 → IVec S16 32) a x).toNat < S320x128.size a := fun v14 k0_t6 v99 v100 v102 k0_hw155 k0_h16 => k0_hw155.2.1 k0_h16
theorem k0_idx757_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v99, v102] : Fin 2 → IVec S16 32) a x).toNat < S320x128.size a := fun v14 k0_t6 v99 v100 v102 k0_hw155 k0_h16 => k0_hw155.2.2.1 k0_h16
theorem k0_idx758_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v99, v102] : Fin 2 → IVec S16 32) a x).toNat < S320x128.size a := fun v14 k0_t6 v99 v100 v102 k0_hw155 k0_h16 => k0_hw155.2.2.2.1 k0_h16
theorem k0_idx759_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v99, v102] : Fin 2 → IVec S16 32) a x).toNat < S320x128.size a := fun v14 k0_t6 v99 v100 v102 k0_hw155 k0_h16 => k0_hw155.2.2.2.2.1 k0_h16
theorem k0_idx760_inb : ∀ (v14 : BitVec 32) (k0_t6 : Fin (k0_t6_loop v14).trips) (v99 : IVec S16 32) (v100 : IVec S16 32) (v102 : IVec S16 32) (k0_hw155 : k0_chk155 v14 k0_t6 v99 v100 v102), ∀ (k0_h16 : k0_cond16 v14 k0_t6 = 1#1), ∀ a x, ((![v99, v102] : Fin 2 → IVec S16 32) a x).toNat < S320x128.size a := fun v14 k0_t6 v99 v100 v102 k0_hw155 k0_h16 => k0_hw155.2.2.2.2.2 k0_h16

def k0_chk156 (v14 : BitVec 32) (k0_t6 : Fin (k0_t6_loop v14).trips) (v99 : IVec S16 32) (v100 : IVec S16 32) (v109 : IVec S16 32) : Prop :=
  (∀ (k0_h16 : k0_cond16 v14 k0_t6 = 1#1), ∀ a x, ((![v100, v109] : Fin 2 → IVec S16 32) a x).toNat < S16x128.size a) ∧
  (∀ (k0_h16 : k0_cond16 v14 k0_t6 = 1#1), ∀ a x, ((![v99, v109] : Fin 2 → IVec S16 32) a x).toNat < S320x128.size a) ∧
  (∀ (k0_h16 : k0_cond16 v14 k0_t6 = 1#1), ∀ a x, ((![v99, v109] : Fin 2 → IVec S16 32) a x).toNat < S320x128.size a) ∧
  (∀ (k0_h16 : k0_cond16 v14 k0_t6 = 1#1), ∀ a x, ((![v99, v109] : Fin 2 → IVec S16 32) a x).toNat < S320x128.size a) ∧
  (∀ (k0_h16 : k0_cond16 v14 k0_t6 = 1#1), ∀ a x, ((![v99, v109] : Fin 2 → IVec S16 32) a x).toNat < S320x128.size a) ∧
  (∀ (k0_h16 : k0_cond16 v14 k0_t6 = 1#1), ∀ a x, ((![v99, v109] : Fin 2 → IVec S16 32) a x).toNat < S320x128.size a)
theorem k0_idx761_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v100, v109] : Fin 2 → IVec S16 32) a x).toNat < S16x128.size a := fun v14 k0_t6 v99 v100 v109 k0_hw156 k0_h16 => k0_hw156.1 k0_h16
theorem k0_idx762_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v99, v109] : Fin 2 → IVec S16 32) a x).toNat < S320x128.size a := fun v14 k0_t6 v99 v100 v109 k0_hw156 k0_h16 => k0_hw156.2.1 k0_h16
theorem k0_idx763_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v99, v109] : Fin 2 → IVec S16 32) a x).toNat < S320x128.size a := fun v14 k0_t6 v99 v100 v109 k0_hw156 k0_h16 => k0_hw156.2.2.1 k0_h16
theorem k0_idx764_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v99, v109] : Fin 2 → IVec S16 32) a x).toNat < S320x128.size a := fun v14 k0_t6 v99 v100 v109 k0_hw156 k0_h16 => k0_hw156.2.2.2.1 k0_h16
theorem k0_idx765_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v99, v109] : Fin 2 → IVec S16 32) a x).toNat < S320x128.size a := fun v14 k0_t6 v99 v100 v109 k0_hw156 k0_h16 => k0_hw156.2.2.2.2.1 k0_h16
theorem k0_idx766_inb : ∀ (v14 : BitVec 32) (k0_t6 : Fin (k0_t6_loop v14).trips) (v99 : IVec S16 32) (v100 : IVec S16 32) (v109 : IVec S16 32) (k0_hw156 : k0_chk156 v14 k0_t6 v99 v100 v109), ∀ (k0_h16 : k0_cond16 v14 k0_t6 = 1#1), ∀ a x, ((![v99, v109] : Fin 2 → IVec S16 32) a x).toNat < S320x128.size a := fun v14 k0_t6 v99 v100 v109 k0_hw156 k0_h16 => k0_hw156.2.2.2.2.2 k0_h16

def k0_chk157 (v14 : BitVec 32) (k0_t6 : Fin (k0_t6_loop v14).trips) (v99 : IVec S16 32) (v100 : IVec S16 32) (v116 : IVec S16 32) : Prop :=
  (∀ (k0_h16 : k0_cond16 v14 k0_t6 = 1#1), ∀ a x, ((![v100, v116] : Fin 2 → IVec S16 32) a x).toNat < S16x128.size a) ∧
  (∀ (k0_h16 : k0_cond16 v14 k0_t6 = 1#1), ∀ a x, ((![v99, v116] : Fin 2 → IVec S16 32) a x).toNat < S320x128.size a) ∧
  (∀ (k0_h16 : k0_cond16 v14 k0_t6 = 1#1), ∀ a x, ((![v99, v116] : Fin 2 → IVec S16 32) a x).toNat < S320x128.size a) ∧
  (∀ (k0_h16 : k0_cond16 v14 k0_t6 = 1#1), ∀ a x, ((![v99, v116] : Fin 2 → IVec S16 32) a x).toNat < S320x128.size a) ∧
  (∀ (k0_h16 : k0_cond16 v14 k0_t6 = 1#1), ∀ a x, ((![v99, v116] : Fin 2 → IVec S16 32) a x).toNat < S320x128.size a) ∧
  (∀ (k0_h16 : k0_cond16 v14 k0_t6 = 1#1), ∀ a x, ((![v99, v116] : Fin 2 → IVec S16 32) a x).toNat < S320x128.size a)
theorem k0_idx767_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v100, v116] : Fin 2 → IVec S16 32) a x).toNat < S16x128.size a := fun v14 k0_t6 v99 v100 v116 k0_hw157 k0_h16 => k0_hw157.1 k0_h16
theorem k0_idx768_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v99, v116] : Fin 2 → IVec S16 32) a x).toNat < S320x128.size a := fun v14 k0_t6 v99 v100 v116 k0_hw157 k0_h16 => k0_hw157.2.1 k0_h16
theorem k0_idx769_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v99, v116] : Fin 2 → IVec S16 32) a x).toNat < S320x128.size a := fun v14 k0_t6 v99 v100 v116 k0_hw157 k0_h16 => k0_hw157.2.2.1 k0_h16
theorem k0_idx770_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v99, v116] : Fin 2 → IVec S16 32) a x).toNat < S320x128.size a := fun v14 k0_t6 v99 v100 v116 k0_hw157 k0_h16 => k0_hw157.2.2.2.1 k0_h16
theorem k0_idx771_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v99, v116] : Fin 2 → IVec S16 32) a x).toNat < S320x128.size a := fun v14 k0_t6 v99 v100 v116 k0_hw157 k0_h16 => k0_hw157.2.2.2.2.1 k0_h16
theorem k0_idx772_inb : ∀ (v14 : BitVec 32) (k0_t6 : Fin (k0_t6_loop v14).trips) (v99 : IVec S16 32) (v100 : IVec S16 32) (v116 : IVec S16 32) (k0_hw157 : k0_chk157 v14 k0_t6 v99 v100 v116), ∀ (k0_h16 : k0_cond16 v14 k0_t6 = 1#1), ∀ a x, ((![v99, v116] : Fin 2 → IVec S16 32) a x).toNat < S320x128.size a := fun v14 k0_t6 v99 v100 v116 k0_hw157 k0_h16 => k0_hw157.2.2.2.2.2 k0_h16

def k0_chk158 (v14 : BitVec 32) (k0_t6 : Fin (k0_t6_loop v14).trips) (v99 : IVec S16 32) (v100 : IVec S16 32) (v123 : IVec S16 32) : Prop :=
  (∀ (k0_h16 : k0_cond16 v14 k0_t6 = 1#1), ∀ a x, ((![v100, v123] : Fin 2 → IVec S16 32) a x).toNat < S16x128.size a) ∧
  (∀ (k0_h16 : k0_cond16 v14 k0_t6 = 1#1), ∀ a x, ((![v99, v123] : Fin 2 → IVec S16 32) a x).toNat < S320x128.size a) ∧
  (∀ (k0_h16 : k0_cond16 v14 k0_t6 = 1#1), ∀ a x, ((![v99, v123] : Fin 2 → IVec S16 32) a x).toNat < S320x128.size a) ∧
  (∀ (k0_h16 : k0_cond16 v14 k0_t6 = 1#1), ∀ a x, ((![v99, v123] : Fin 2 → IVec S16 32) a x).toNat < S320x128.size a) ∧
  (∀ (k0_h16 : k0_cond16 v14 k0_t6 = 1#1), ∀ a x, ((![v99, v123] : Fin 2 → IVec S16 32) a x).toNat < S320x128.size a) ∧
  (∀ (k0_h16 : k0_cond16 v14 k0_t6 = 1#1), ∀ a x, ((![v99, v123] : Fin 2 → IVec S16 32) a x).toNat < S320x128.size a)
theorem k0_idx773_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v100, v123] : Fin 2 → IVec S16 32) a x).toNat < S16x128.size a := fun v14 k0_t6 v99 v100 v123 k0_hw158 k0_h16 => k0_hw158.1 k0_h16
theorem k0_idx774_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v99, v123] : Fin 2 → IVec S16 32) a x).toNat < S320x128.size a := fun v14 k0_t6 v99 v100 v123 k0_hw158 k0_h16 => k0_hw158.2.1 k0_h16
theorem k0_idx775_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v99, v123] : Fin 2 → IVec S16 32) a x).toNat < S320x128.size a := fun v14 k0_t6 v99 v100 v123 k0_hw158 k0_h16 => k0_hw158.2.2.1 k0_h16
theorem k0_idx776_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v99, v123] : Fin 2 → IVec S16 32) a x).toNat < S320x128.size a := fun v14 k0_t6 v99 v100 v123 k0_hw158 k0_h16 => k0_hw158.2.2.2.1 k0_h16
theorem k0_idx777_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v99, v123] : Fin 2 → IVec S16 32) a x).toNat < S320x128.size a := fun v14 k0_t6 v99 v100 v123 k0_hw158 k0_h16 => k0_hw158.2.2.2.2.1 k0_h16
theorem k0_idx778_inb : ∀ (v14 : BitVec 32) (k0_t6 : Fin (k0_t6_loop v14).trips) (v99 : IVec S16 32) (v100 : IVec S16 32) (v123 : IVec S16 32) (k0_hw158 : k0_chk158 v14 k0_t6 v99 v100 v123), ∀ (k0_h16 : k0_cond16 v14 k0_t6 = 1#1), ∀ a x, ((![v99, v123] : Fin 2 → IVec S16 32) a x).toNat < S320x128.size a := fun v14 k0_t6 v99 v100 v123 k0_hw158 k0_h16 => k0_hw158.2.2.2.2.2 k0_h16

def k0_chk159 (v14 : BitVec 32) (k0_t6 : Fin (k0_t6_loop v14).trips) (v99 : IVec S16 32) (v100 : IVec S16 32) (v130 : IVec S16 32) : Prop :=
  (∀ (k0_h16 : k0_cond16 v14 k0_t6 = 1#1), ∀ a x, ((![v100, v130] : Fin 2 → IVec S16 32) a x).toNat < S16x128.size a) ∧
  (∀ (k0_h16 : k0_cond16 v14 k0_t6 = 1#1), ∀ a x, ((![v99, v130] : Fin 2 → IVec S16 32) a x).toNat < S320x128.size a) ∧
  (∀ (k0_h16 : k0_cond16 v14 k0_t6 = 1#1), ∀ a x, ((![v99, v130] : Fin 2 → IVec S16 32) a x).toNat < S320x128.size a) ∧
  (∀ (k0_h16 : k0_cond16 v14 k0_t6 = 1#1), ∀ a x, ((![v99, v130] : Fin 2 → IVec S16 32) a x).toNat < S320x128.size a) ∧
  (∀ (k0_h16 : k0_cond16 v14 k0_t6 = 1#1), ∀ a x, ((![v99, v130] : Fin 2 → IVec S16 32) a x).toNat < S320x128.size a) ∧
  (∀ (k0_h16 : k0_cond16 v14 k0_t6 = 1#1), ∀ a x, ((![v99, v130] : Fin 2 → IVec S16 32) a x).toNat < S320x128.size a)
theorem k0_idx779_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v100, v130] : Fin 2 → IVec S16 32) a x).toNat < S16x128.size a := fun v14 k0_t6 v99 v100 v130 k0_hw159 k0_h16 => k0_hw159.1 k0_h16
theorem k0_idx780_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v99, v130] : Fin 2 → IVec S16 32) a x).toNat < S320x128.size a := fun v14 k0_t6 v99 v100 v130 k0_hw159 k0_h16 => k0_hw159.2.1 k0_h16
theorem k0_idx781_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v99, v130] : Fin 2 → IVec S16 32) a x).toNat < S320x128.size a := fun v14 k0_t6 v99 v100 v130 k0_hw159 k0_h16 => k0_hw159.2.2.1 k0_h16
theorem k0_idx782_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v99, v130] : Fin 2 → IVec S16 32) a x).toNat < S320x128.size a := fun v14 k0_t6 v99 v100 v130 k0_hw159 k0_h16 => k0_hw159.2.2.2.1 k0_h16
theorem k0_idx783_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v99, v130] : Fin 2 → IVec S16 32) a x).toNat < S320x128.size a := fun v14 k0_t6 v99 v100 v130 k0_hw159 k0_h16 => k0_hw159.2.2.2.2.1 k0_h16
theorem k0_idx784_inb : ∀ (v14 : BitVec 32) (k0_t6 : Fin (k0_t6_loop v14).trips) (v99 : IVec S16 32) (v100 : IVec S16 32) (v130 : IVec S16 32) (k0_hw159 : k0_chk159 v14 k0_t6 v99 v100 v130), ∀ (k0_h16 : k0_cond16 v14 k0_t6 = 1#1), ∀ a x, ((![v99, v130] : Fin 2 → IVec S16 32) a x).toNat < S320x128.size a := fun v14 k0_t6 v99 v100 v130 k0_hw159 k0_h16 => k0_hw159.2.2.2.2.2 k0_h16

def k0_chk160 (v14 : BitVec 32) (k0_t6 : Fin (k0_t6_loop v14).trips) (v99 : IVec S16 32) (v100 : IVec S16 32) (v137 : IVec S16 32) : Prop :=
  (∀ (k0_h16 : k0_cond16 v14 k0_t6 = 1#1), ∀ a x, ((![v100, v137] : Fin 2 → IVec S16 32) a x).toNat < S16x128.size a) ∧
  (∀ (k0_h16 : k0_cond16 v14 k0_t6 = 1#1), ∀ a x, ((![v99, v137] : Fin 2 → IVec S16 32) a x).toNat < S320x128.size a) ∧
  (∀ (k0_h16 : k0_cond16 v14 k0_t6 = 1#1), ∀ a x, ((![v99, v137] : Fin 2 → IVec S16 32) a x).toNat < S320x128.size a) ∧
  (∀ (k0_h16 : k0_cond16 v14 k0_t6 = 1#1), ∀ a x, ((![v99, v137] : Fin 2 → IVec S16 32) a x).toNat < S320x128.size a) ∧
  (∀ (k0_h16 : k0_cond16 v14 k0_t6 = 1#1), ∀ a x, ((![v99, v137] : Fin 2 → IVec S16 32) a x).toNat < S320x128.size a) ∧
  (∀ (k0_h16 : k0_cond16 v14 k0_t6 = 1#1), ∀ a x, ((![v99, v137] : Fin 2 → IVec S16 32) a x).toNat < S320x128.size a)
theorem k0_idx785_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v100, v137] : Fin 2 → IVec S16 32) a x).toNat < S16x128.size a := fun v14 k0_t6 v99 v100 v137 k0_hw160 k0_h16 => k0_hw160.1 k0_h16
theorem k0_idx786_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v99, v137] : Fin 2 → IVec S16 32) a x).toNat < S320x128.size a := fun v14 k0_t6 v99 v100 v137 k0_hw160 k0_h16 => k0_hw160.2.1 k0_h16
theorem k0_idx787_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v99, v137] : Fin 2 → IVec S16 32) a x).toNat < S320x128.size a := fun v14 k0_t6 v99 v100 v137 k0_hw160 k0_h16 => k0_hw160.2.2.1 k0_h16
theorem k0_idx788_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v99, v137] : Fin 2 → IVec S16 32) a x).toNat < S320x128.size a := fun v14 k0_t6 v99 v100 v137 k0_hw160 k0_h16 => k0_hw160.2.2.2.1 k0_h16
theorem k0_idx789_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v99, v137] : Fin 2 → IVec S16 32) a x).toNat < S320x128.size a := fun v14 k0_t6 v99 v100 v137 k0_hw160 k0_h16 => k0_hw160.2.2.2.2.1 k0_h16
theorem k0_idx790_inb : ∀ (v14 : BitVec 32) (k0_t6 : Fin (k0_t6_loop v14).trips) (v99 : IVec S16 32) (v100 : IVec S16 32) (v137 : IVec S16 32) (k0_hw160 : k0_chk160 v14 k0_t6 v99 v100 v137), ∀ (k0_h16 : k0_cond16 v14 k0_t6 = 1#1), ∀ a x, ((![v99, v137] : Fin 2 → IVec S16 32) a x).toNat < S320x128.size a := fun v14 k0_t6 v99 v100 v137 k0_hw160 k0_h16 => k0_hw160.2.2.2.2.2 k0_h16

def k0_chk161 (v14 : BitVec 32) (k0_t6 : Fin (k0_t6_loop v14).trips) (v99 : IVec S16 32) (v100 : IVec S16 32) (v144 : IVec S16 32) : Prop :=
  (∀ (k0_h16 : k0_cond16 v14 k0_t6 = 1#1), ∀ a x, ((![v100, v144] : Fin 2 → IVec S16 32) a x).toNat < S16x128.size a) ∧
  (∀ (k0_h16 : k0_cond16 v14 k0_t6 = 1#1), ∀ a x, ((![v99, v144] : Fin 2 → IVec S16 32) a x).toNat < S320x128.size a) ∧
  (∀ (k0_h16 : k0_cond16 v14 k0_t6 = 1#1), ∀ a x, ((![v99, v144] : Fin 2 → IVec S16 32) a x).toNat < S320x128.size a) ∧
  (∀ (k0_h16 : k0_cond16 v14 k0_t6 = 1#1), ∀ a x, ((![v99, v144] : Fin 2 → IVec S16 32) a x).toNat < S320x128.size a) ∧
  (∀ (k0_h16 : k0_cond16 v14 k0_t6 = 1#1), ∀ a x, ((![v99, v144] : Fin 2 → IVec S16 32) a x).toNat < S320x128.size a) ∧
  (∀ (k0_h16 : k0_cond16 v14 k0_t6 = 1#1), ∀ a x, ((![v99, v144] : Fin 2 → IVec S16 32) a x).toNat < S320x128.size a)
theorem k0_idx791_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v100, v144] : Fin 2 → IVec S16 32) a x).toNat < S16x128.size a := fun v14 k0_t6 v99 v100 v144 k0_hw161 k0_h16 => k0_hw161.1 k0_h16
theorem k0_idx792_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v99, v144] : Fin 2 → IVec S16 32) a x).toNat < S320x128.size a := fun v14 k0_t6 v99 v100 v144 k0_hw161 k0_h16 => k0_hw161.2.1 k0_h16
theorem k0_idx793_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v99, v144] : Fin 2 → IVec S16 32) a x).toNat < S320x128.size a := fun v14 k0_t6 v99 v100 v144 k0_hw161 k0_h16 => k0_hw161.2.2.1 k0_h16
theorem k0_idx794_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v99, v144] : Fin 2 → IVec S16 32) a x).toNat < S320x128.size a := fun v14 k0_t6 v99 v100 v144 k0_hw161 k0_h16 => k0_hw161.2.2.2.1 k0_h16
theorem k0_idx795_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v99, v144] : Fin 2 → IVec S16 32) a x).toNat < S320x128.size a := fun v14 k0_t6 v99 v100 v144 k0_hw161 k0_h16 => k0_hw161.2.2.2.2.1 k0_h16
theorem k0_idx796_inb : ∀ (v14 : BitVec 32) (k0_t6 : Fin (k0_t6_loop v14).trips) (v99 : IVec S16 32) (v100 : IVec S16 32) (v144 : IVec S16 32) (k0_hw161 : k0_chk161 v14 k0_t6 v99 v100 v144), ∀ (k0_h16 : k0_cond16 v14 k0_t6 = 1#1), ∀ a x, ((![v99, v144] : Fin 2 → IVec S16 32) a x).toNat < S320x128.size a := fun v14 k0_t6 v99 v100 v144 k0_hw161 k0_h16 => k0_hw161.2.2.2.2.2 k0_h16

def k0_chk162 (v14 : BitVec 32) (k0_t6 : Fin (k0_t6_loop v14).trips) (v99 : IVec S16 32) (v100 : IVec S16 32) (v151 : IVec S16 32) : Prop :=
  (∀ (k0_h16 : k0_cond16 v14 k0_t6 = 1#1), ∀ a x, ((![v100, v151] : Fin 2 → IVec S16 32) a x).toNat < S16x128.size a) ∧
  (∀ (k0_h16 : k0_cond16 v14 k0_t6 = 1#1), ∀ a x, ((![v99, v151] : Fin 2 → IVec S16 32) a x).toNat < S320x128.size a) ∧
  (∀ (k0_h16 : k0_cond16 v14 k0_t6 = 1#1), ∀ a x, ((![v99, v151] : Fin 2 → IVec S16 32) a x).toNat < S320x128.size a) ∧
  (∀ (k0_h16 : k0_cond16 v14 k0_t6 = 1#1), ∀ a x, ((![v99, v151] : Fin 2 → IVec S16 32) a x).toNat < S320x128.size a) ∧
  (∀ (k0_h16 : k0_cond16 v14 k0_t6 = 1#1), ∀ a x, ((![v99, v151] : Fin 2 → IVec S16 32) a x).toNat < S320x128.size a) ∧
  (∀ (k0_h16 : k0_cond16 v14 k0_t6 = 1#1), ∀ a x, ((![v99, v151] : Fin 2 → IVec S16 32) a x).toNat < S320x128.size a)
theorem k0_idx797_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v100, v151] : Fin 2 → IVec S16 32) a x).toNat < S16x128.size a := fun v14 k0_t6 v99 v100 v151 k0_hw162 k0_h16 => k0_hw162.1 k0_h16
theorem k0_idx798_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v99, v151] : Fin 2 → IVec S16 32) a x).toNat < S320x128.size a := fun v14 k0_t6 v99 v100 v151 k0_hw162 k0_h16 => k0_hw162.2.1 k0_h16
theorem k0_idx799_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v99, v151] : Fin 2 → IVec S16 32) a x).toNat < S320x128.size a := fun v14 k0_t6 v99 v100 v151 k0_hw162 k0_h16 => k0_hw162.2.2.1 k0_h16
theorem k0_idx800_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v99, v151] : Fin 2 → IVec S16 32) a x).toNat < S320x128.size a := fun v14 k0_t6 v99 v100 v151 k0_hw162 k0_h16 => k0_hw162.2.2.2.1 k0_h16
theorem k0_idx801_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v99, v151] : Fin 2 → IVec S16 32) a x).toNat < S320x128.size a := fun v14 k0_t6 v99 v100 v151 k0_hw162 k0_h16 => k0_hw162.2.2.2.2.1 k0_h16
theorem k0_idx802_inb : ∀ (v14 : BitVec 32) (k0_t6 : Fin (k0_t6_loop v14).trips) (v99 : IVec S16 32) (v100 : IVec S16 32) (v151 : IVec S16 32) (k0_hw162 : k0_chk162 v14 k0_t6 v99 v100 v151), ∀ (k0_h16 : k0_cond16 v14 k0_t6 = 1#1), ∀ a x, ((![v99, v151] : Fin 2 → IVec S16 32) a x).toNat < S320x128.size a := fun v14 k0_t6 v99 v100 v151 k0_hw162 k0_h16 => k0_hw162.2.2.2.2.2 k0_h16

def k0_chk163 (v14 : BitVec 32) (k0_t6 : Fin (k0_t6_loop v14).trips) (v99 : IVec S16 32) : Prop :=
  (∀ (k0_h16 : k0_cond16 v14 k0_t6 = 1#1), ∀ a x, ((![v99] : Fin 1 → IVec S16 32) a x).toNat < S320.size a)
theorem k0_idx803_inb : ∀ (v14 : BitVec 32) (k0_t6 : Fin (k0_t6_loop v14).trips) (v99 : IVec S16 32) (k0_hw163 : k0_chk163 v14 k0_t6 v99), ∀ (k0_h16 : k0_cond16 v14 k0_t6 = 1#1), ∀ a x, ((![v99] : Fin 1 → IVec S16 32) a x).toNat < S320.size a := fun v14 k0_t6 v99 k0_hw163 k0_h16 => k0_hw163 k0_h16
@[reducible] def k0_t7_loop (v14 : BitVec 32) : Scf.Loop 32 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let v34 : BitVec 32 := Scalar.addi c0_i32_29 v33
  let c1_i32_32 : BitVec 32 := 1#32
  ⟨v37, v34, c1_i32_32⟩

def k0_chk2 (v14 : BitVec 32) : Prop :=
  ((k0_t6_loop v14).OK) ∧
  ((k0_t7_loop v14).OK)
theorem k0_t6_ok : ∀ (v14 : BitVec 32) (k0_hw2 : k0_chk2 v14), (k0_t6_loop v14).OK := fun v14 k0_hw2 => k0_hw2.1
theorem k0_t7_ok : ∀ (v14 : BitVec 32) (k0_hw2 : k0_chk2 v14), (k0_t7_loop v14).OK := fun v14 k0_hw2 => k0_hw2.2

def k0_chk164 (v40 : IVec S16 32) : Prop :=
  (∀ a x, ((![v40] : Fin 1 → IVec S16 32) a x).toNat < S528.size a)
theorem k0_idx804_inb : ∀ (v40 : IVec S16 32) (k0_hw164 : k0_chk164 v40), ∀ a x, ((![v40] : Fin 1 → IVec S16 32) a x).toNat < S528.size a := fun v40 k0_hw164 => k0_hw164
def k0_cond17 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c0_i32_40 : BitVec 32 := 0#32
  let v49 : BitVec 1 := Scalar.cmpi .sgt v45 c0_i32_40
  let v50 : BitVec 32 := Scalar.extui v49
  let c0_i32_41 : BitVec 32 := 0#32
  let v51 : BitVec 1 := Scalar.cmpi .ne v50 c0_i32_41
  v51

def k0_chk165 (v14 : BitVec 32) (k0_t7 : Fin (k0_t7_loop v14).trips) (v98 : IVec S16 32) : Prop :=
  (∀ (k0_h17 : k0_cond17 v14 k0_t7 = 1#1), ∀ a x, ((![v98] : Fin 1 → IVec S16 32) a x).toNat < S528.size a)
theorem k0_idx805_inb : ∀ (v14 : BitVec 32) (k0_t7 : Fin (k0_t7_loop v14).trips) (v98 : IVec S16 32) (k0_hw165 : k0_chk165 v14 k0_t7 v98), ∀ (k0_h17 : k0_cond17 v14 k0_t7 = 1#1), ∀ a x, ((![v98] : Fin 1 → IVec S16 32) a x).toNat < S528.size a := fun v14 k0_t7 v98 k0_hw165 k0_h17 => k0_hw165 k0_h17

def k0_chk166 (v14 : BitVec 32) (k0_t7 : Fin (k0_t7_loop v14).trips) (v99 : IVec S16 32) (v100 : IVec S16 32) (v102 : IVec S16 32) : Prop :=
  (∀ (k0_h17 : k0_cond17 v14 k0_t7 = 1#1), ∀ a x, ((![v100, v102] : Fin 2 → IVec S16 32) a x).toNat < S16x128.size a) ∧
  (∀ (k0_h17 : k0_cond17 v14 k0_t7 = 1#1), ∀ a x, ((![v99, v102] : Fin 2 → IVec S16 32) a x).toNat < S320x128.size a) ∧
  (∀ (k0_h17 : k0_cond17 v14 k0_t7 = 1#1), ∀ a x, ((![v99, v102] : Fin 2 → IVec S16 32) a x).toNat < S320x128.size a) ∧
  (∀ (k0_h17 : k0_cond17 v14 k0_t7 = 1#1), ∀ a x, ((![v99, v102] : Fin 2 → IVec S16 32) a x).toNat < S320x128.size a) ∧
  (∀ (k0_h17 : k0_cond17 v14 k0_t7 = 1#1), ∀ a x, ((![v99, v102] : Fin 2 → IVec S16 32) a x).toNat < S320x128.size a) ∧
  (∀ (k0_h17 : k0_cond17 v14 k0_t7 = 1#1), ∀ a x, ((![v99, v102] : Fin 2 → IVec S16 32) a x).toNat < S320x128.size a)
theorem k0_idx806_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v100, v102] : Fin 2 → IVec S16 32) a x).toNat < S16x128.size a := fun v14 k0_t7 v99 v100 v102 k0_hw166 k0_h17 => k0_hw166.1 k0_h17
theorem k0_idx807_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v99, v102] : Fin 2 → IVec S16 32) a x).toNat < S320x128.size a := fun v14 k0_t7 v99 v100 v102 k0_hw166 k0_h17 => k0_hw166.2.1 k0_h17
theorem k0_idx808_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v99, v102] : Fin 2 → IVec S16 32) a x).toNat < S320x128.size a := fun v14 k0_t7 v99 v100 v102 k0_hw166 k0_h17 => k0_hw166.2.2.1 k0_h17
theorem k0_idx809_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v99, v102] : Fin 2 → IVec S16 32) a x).toNat < S320x128.size a := fun v14 k0_t7 v99 v100 v102 k0_hw166 k0_h17 => k0_hw166.2.2.2.1 k0_h17
theorem k0_idx810_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v99, v102] : Fin 2 → IVec S16 32) a x).toNat < S320x128.size a := fun v14 k0_t7 v99 v100 v102 k0_hw166 k0_h17 => k0_hw166.2.2.2.2.1 k0_h17
theorem k0_idx811_inb : ∀ (v14 : BitVec 32) (k0_t7 : Fin (k0_t7_loop v14).trips) (v99 : IVec S16 32) (v100 : IVec S16 32) (v102 : IVec S16 32) (k0_hw166 : k0_chk166 v14 k0_t7 v99 v100 v102), ∀ (k0_h17 : k0_cond17 v14 k0_t7 = 1#1), ∀ a x, ((![v99, v102] : Fin 2 → IVec S16 32) a x).toNat < S320x128.size a := fun v14 k0_t7 v99 v100 v102 k0_hw166 k0_h17 => k0_hw166.2.2.2.2.2 k0_h17

def k0_chk167 (v14 : BitVec 32) (k0_t7 : Fin (k0_t7_loop v14).trips) (v99 : IVec S16 32) (v100 : IVec S16 32) (v109 : IVec S16 32) : Prop :=
  (∀ (k0_h17 : k0_cond17 v14 k0_t7 = 1#1), ∀ a x, ((![v100, v109] : Fin 2 → IVec S16 32) a x).toNat < S16x128.size a) ∧
  (∀ (k0_h17 : k0_cond17 v14 k0_t7 = 1#1), ∀ a x, ((![v99, v109] : Fin 2 → IVec S16 32) a x).toNat < S320x128.size a) ∧
  (∀ (k0_h17 : k0_cond17 v14 k0_t7 = 1#1), ∀ a x, ((![v99, v109] : Fin 2 → IVec S16 32) a x).toNat < S320x128.size a) ∧
  (∀ (k0_h17 : k0_cond17 v14 k0_t7 = 1#1), ∀ a x, ((![v99, v109] : Fin 2 → IVec S16 32) a x).toNat < S320x128.size a) ∧
  (∀ (k0_h17 : k0_cond17 v14 k0_t7 = 1#1), ∀ a x, ((![v99, v109] : Fin 2 → IVec S16 32) a x).toNat < S320x128.size a) ∧
  (∀ (k0_h17 : k0_cond17 v14 k0_t7 = 1#1), ∀ a x, ((![v99, v109] : Fin 2 → IVec S16 32) a x).toNat < S320x128.size a)
theorem k0_idx812_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v100, v109] : Fin 2 → IVec S16 32) a x).toNat < S16x128.size a := fun v14 k0_t7 v99 v100 v109 k0_hw167 k0_h17 => k0_hw167.1 k0_h17
theorem k0_idx813_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v99, v109] : Fin 2 → IVec S16 32) a x).toNat < S320x128.size a := fun v14 k0_t7 v99 v100 v109 k0_hw167 k0_h17 => k0_hw167.2.1 k0_h17
theorem k0_idx814_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v99, v109] : Fin 2 → IVec S16 32) a x).toNat < S320x128.size a := fun v14 k0_t7 v99 v100 v109 k0_hw167 k0_h17 => k0_hw167.2.2.1 k0_h17
theorem k0_idx815_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v99, v109] : Fin 2 → IVec S16 32) a x).toNat < S320x128.size a := fun v14 k0_t7 v99 v100 v109 k0_hw167 k0_h17 => k0_hw167.2.2.2.1 k0_h17
theorem k0_idx816_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v99, v109] : Fin 2 → IVec S16 32) a x).toNat < S320x128.size a := fun v14 k0_t7 v99 v100 v109 k0_hw167 k0_h17 => k0_hw167.2.2.2.2.1 k0_h17
theorem k0_idx817_inb : ∀ (v14 : BitVec 32) (k0_t7 : Fin (k0_t7_loop v14).trips) (v99 : IVec S16 32) (v100 : IVec S16 32) (v109 : IVec S16 32) (k0_hw167 : k0_chk167 v14 k0_t7 v99 v100 v109), ∀ (k0_h17 : k0_cond17 v14 k0_t7 = 1#1), ∀ a x, ((![v99, v109] : Fin 2 → IVec S16 32) a x).toNat < S320x128.size a := fun v14 k0_t7 v99 v100 v109 k0_hw167 k0_h17 => k0_hw167.2.2.2.2.2 k0_h17

def k0_chk168 (v14 : BitVec 32) (k0_t7 : Fin (k0_t7_loop v14).trips) (v99 : IVec S16 32) (v100 : IVec S16 32) (v116 : IVec S16 32) : Prop :=
  (∀ (k0_h17 : k0_cond17 v14 k0_t7 = 1#1), ∀ a x, ((![v100, v116] : Fin 2 → IVec S16 32) a x).toNat < S16x128.size a) ∧
  (∀ (k0_h17 : k0_cond17 v14 k0_t7 = 1#1), ∀ a x, ((![v99, v116] : Fin 2 → IVec S16 32) a x).toNat < S320x128.size a) ∧
  (∀ (k0_h17 : k0_cond17 v14 k0_t7 = 1#1), ∀ a x, ((![v99, v116] : Fin 2 → IVec S16 32) a x).toNat < S320x128.size a) ∧
  (∀ (k0_h17 : k0_cond17 v14 k0_t7 = 1#1), ∀ a x, ((![v99, v116] : Fin 2 → IVec S16 32) a x).toNat < S320x128.size a) ∧
  (∀ (k0_h17 : k0_cond17 v14 k0_t7 = 1#1), ∀ a x, ((![v99, v116] : Fin 2 → IVec S16 32) a x).toNat < S320x128.size a) ∧
  (∀ (k0_h17 : k0_cond17 v14 k0_t7 = 1#1), ∀ a x, ((![v99, v116] : Fin 2 → IVec S16 32) a x).toNat < S320x128.size a)
theorem k0_idx818_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v100, v116] : Fin 2 → IVec S16 32) a x).toNat < S16x128.size a := fun v14 k0_t7 v99 v100 v116 k0_hw168 k0_h17 => k0_hw168.1 k0_h17
theorem k0_idx819_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v99, v116] : Fin 2 → IVec S16 32) a x).toNat < S320x128.size a := fun v14 k0_t7 v99 v100 v116 k0_hw168 k0_h17 => k0_hw168.2.1 k0_h17
theorem k0_idx820_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v99, v116] : Fin 2 → IVec S16 32) a x).toNat < S320x128.size a := fun v14 k0_t7 v99 v100 v116 k0_hw168 k0_h17 => k0_hw168.2.2.1 k0_h17
theorem k0_idx821_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v99, v116] : Fin 2 → IVec S16 32) a x).toNat < S320x128.size a := fun v14 k0_t7 v99 v100 v116 k0_hw168 k0_h17 => k0_hw168.2.2.2.1 k0_h17
theorem k0_idx822_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v99, v116] : Fin 2 → IVec S16 32) a x).toNat < S320x128.size a := fun v14 k0_t7 v99 v100 v116 k0_hw168 k0_h17 => k0_hw168.2.2.2.2.1 k0_h17
theorem k0_idx823_inb : ∀ (v14 : BitVec 32) (k0_t7 : Fin (k0_t7_loop v14).trips) (v99 : IVec S16 32) (v100 : IVec S16 32) (v116 : IVec S16 32) (k0_hw168 : k0_chk168 v14 k0_t7 v99 v100 v116), ∀ (k0_h17 : k0_cond17 v14 k0_t7 = 1#1), ∀ a x, ((![v99, v116] : Fin 2 → IVec S16 32) a x).toNat < S320x128.size a := fun v14 k0_t7 v99 v100 v116 k0_hw168 k0_h17 => k0_hw168.2.2.2.2.2 k0_h17

def k0_chk169 (v14 : BitVec 32) (k0_t7 : Fin (k0_t7_loop v14).trips) (v99 : IVec S16 32) (v100 : IVec S16 32) (v123 : IVec S16 32) : Prop :=
  (∀ (k0_h17 : k0_cond17 v14 k0_t7 = 1#1), ∀ a x, ((![v100, v123] : Fin 2 → IVec S16 32) a x).toNat < S16x128.size a) ∧
  (∀ (k0_h17 : k0_cond17 v14 k0_t7 = 1#1), ∀ a x, ((![v99, v123] : Fin 2 → IVec S16 32) a x).toNat < S320x128.size a) ∧
  (∀ (k0_h17 : k0_cond17 v14 k0_t7 = 1#1), ∀ a x, ((![v99, v123] : Fin 2 → IVec S16 32) a x).toNat < S320x128.size a) ∧
  (∀ (k0_h17 : k0_cond17 v14 k0_t7 = 1#1), ∀ a x, ((![v99, v123] : Fin 2 → IVec S16 32) a x).toNat < S320x128.size a) ∧
  (∀ (k0_h17 : k0_cond17 v14 k0_t7 = 1#1), ∀ a x, ((![v99, v123] : Fin 2 → IVec S16 32) a x).toNat < S320x128.size a) ∧
  (∀ (k0_h17 : k0_cond17 v14 k0_t7 = 1#1), ∀ a x, ((![v99, v123] : Fin 2 → IVec S16 32) a x).toNat < S320x128.size a)
theorem k0_idx824_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v100, v123] : Fin 2 → IVec S16 32) a x).toNat < S16x128.size a := fun v14 k0_t7 v99 v100 v123 k0_hw169 k0_h17 => k0_hw169.1 k0_h17
theorem k0_idx825_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v99, v123] : Fin 2 → IVec S16 32) a x).toNat < S320x128.size a := fun v14 k0_t7 v99 v100 v123 k0_hw169 k0_h17 => k0_hw169.2.1 k0_h17
theorem k0_idx826_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v99, v123] : Fin 2 → IVec S16 32) a x).toNat < S320x128.size a := fun v14 k0_t7 v99 v100 v123 k0_hw169 k0_h17 => k0_hw169.2.2.1 k0_h17
theorem k0_idx827_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v99, v123] : Fin 2 → IVec S16 32) a x).toNat < S320x128.size a := fun v14 k0_t7 v99 v100 v123 k0_hw169 k0_h17 => k0_hw169.2.2.2.1 k0_h17
theorem k0_idx828_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v99, v123] : Fin 2 → IVec S16 32) a x).toNat < S320x128.size a := fun v14 k0_t7 v99 v100 v123 k0_hw169 k0_h17 => k0_hw169.2.2.2.2.1 k0_h17
theorem k0_idx829_inb : ∀ (v14 : BitVec 32) (k0_t7 : Fin (k0_t7_loop v14).trips) (v99 : IVec S16 32) (v100 : IVec S16 32) (v123 : IVec S16 32) (k0_hw169 : k0_chk169 v14 k0_t7 v99 v100 v123), ∀ (k0_h17 : k0_cond17 v14 k0_t7 = 1#1), ∀ a x, ((![v99, v123] : Fin 2 → IVec S16 32) a x).toNat < S320x128.size a := fun v14 k0_t7 v99 v100 v123 k0_hw169 k0_h17 => k0_hw169.2.2.2.2.2 k0_h17

def k0_chk170 (v14 : BitVec 32) (k0_t7 : Fin (k0_t7_loop v14).trips) (v99 : IVec S16 32) (v100 : IVec S16 32) (v130 : IVec S16 32) : Prop :=
  (∀ (k0_h17 : k0_cond17 v14 k0_t7 = 1#1), ∀ a x, ((![v100, v130] : Fin 2 → IVec S16 32) a x).toNat < S16x128.size a) ∧
  (∀ (k0_h17 : k0_cond17 v14 k0_t7 = 1#1), ∀ a x, ((![v99, v130] : Fin 2 → IVec S16 32) a x).toNat < S320x128.size a) ∧
  (∀ (k0_h17 : k0_cond17 v14 k0_t7 = 1#1), ∀ a x, ((![v99, v130] : Fin 2 → IVec S16 32) a x).toNat < S320x128.size a) ∧
  (∀ (k0_h17 : k0_cond17 v14 k0_t7 = 1#1), ∀ a x, ((![v99, v130] : Fin 2 → IVec S16 32) a x).toNat < S320x128.size a) ∧
  (∀ (k0_h17 : k0_cond17 v14 k0_t7 = 1#1), ∀ a x, ((![v99, v130] : Fin 2 → IVec S16 32) a x).toNat < S320x128.size a) ∧
  (∀ (k0_h17 : k0_cond17 v14 k0_t7 = 1#1), ∀ a x, ((![v99, v130] : Fin 2 → IVec S16 32) a x).toNat < S320x128.size a)
theorem k0_idx830_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v100, v130] : Fin 2 → IVec S16 32) a x).toNat < S16x128.size a := fun v14 k0_t7 v99 v100 v130 k0_hw170 k0_h17 => k0_hw170.1 k0_h17
theorem k0_idx831_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v99, v130] : Fin 2 → IVec S16 32) a x).toNat < S320x128.size a := fun v14 k0_t7 v99 v100 v130 k0_hw170 k0_h17 => k0_hw170.2.1 k0_h17
theorem k0_idx832_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v99, v130] : Fin 2 → IVec S16 32) a x).toNat < S320x128.size a := fun v14 k0_t7 v99 v100 v130 k0_hw170 k0_h17 => k0_hw170.2.2.1 k0_h17
theorem k0_idx833_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v99, v130] : Fin 2 → IVec S16 32) a x).toNat < S320x128.size a := fun v14 k0_t7 v99 v100 v130 k0_hw170 k0_h17 => k0_hw170.2.2.2.1 k0_h17
theorem k0_idx834_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v99, v130] : Fin 2 → IVec S16 32) a x).toNat < S320x128.size a := fun v14 k0_t7 v99 v100 v130 k0_hw170 k0_h17 => k0_hw170.2.2.2.2.1 k0_h17
theorem k0_idx835_inb : ∀ (v14 : BitVec 32) (k0_t7 : Fin (k0_t7_loop v14).trips) (v99 : IVec S16 32) (v100 : IVec S16 32) (v130 : IVec S16 32) (k0_hw170 : k0_chk170 v14 k0_t7 v99 v100 v130), ∀ (k0_h17 : k0_cond17 v14 k0_t7 = 1#1), ∀ a x, ((![v99, v130] : Fin 2 → IVec S16 32) a x).toNat < S320x128.size a := fun v14 k0_t7 v99 v100 v130 k0_hw170 k0_h17 => k0_hw170.2.2.2.2.2 k0_h17

def k0_chk171 (v14 : BitVec 32) (k0_t7 : Fin (k0_t7_loop v14).trips) (v99 : IVec S16 32) (v100 : IVec S16 32) (v137 : IVec S16 32) : Prop :=
  (∀ (k0_h17 : k0_cond17 v14 k0_t7 = 1#1), ∀ a x, ((![v100, v137] : Fin 2 → IVec S16 32) a x).toNat < S16x128.size a) ∧
  (∀ (k0_h17 : k0_cond17 v14 k0_t7 = 1#1), ∀ a x, ((![v99, v137] : Fin 2 → IVec S16 32) a x).toNat < S320x128.size a) ∧
  (∀ (k0_h17 : k0_cond17 v14 k0_t7 = 1#1), ∀ a x, ((![v99, v137] : Fin 2 → IVec S16 32) a x).toNat < S320x128.size a) ∧
  (∀ (k0_h17 : k0_cond17 v14 k0_t7 = 1#1), ∀ a x, ((![v99, v137] : Fin 2 → IVec S16 32) a x).toNat < S320x128.size a) ∧
  (∀ (k0_h17 : k0_cond17 v14 k0_t7 = 1#1), ∀ a x, ((![v99, v137] : Fin 2 → IVec S16 32) a x).toNat < S320x128.size a) ∧
  (∀ (k0_h17 : k0_cond17 v14 k0_t7 = 1#1), ∀ a x, ((![v99, v137] : Fin 2 → IVec S16 32) a x).toNat < S320x128.size a)
theorem k0_idx836_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v100, v137] : Fin 2 → IVec S16 32) a x).toNat < S16x128.size a := fun v14 k0_t7 v99 v100 v137 k0_hw171 k0_h17 => k0_hw171.1 k0_h17
theorem k0_idx837_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v99, v137] : Fin 2 → IVec S16 32) a x).toNat < S320x128.size a := fun v14 k0_t7 v99 v100 v137 k0_hw171 k0_h17 => k0_hw171.2.1 k0_h17
theorem k0_idx838_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v99, v137] : Fin 2 → IVec S16 32) a x).toNat < S320x128.size a := fun v14 k0_t7 v99 v100 v137 k0_hw171 k0_h17 => k0_hw171.2.2.1 k0_h17
theorem k0_idx839_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v99, v137] : Fin 2 → IVec S16 32) a x).toNat < S320x128.size a := fun v14 k0_t7 v99 v100 v137 k0_hw171 k0_h17 => k0_hw171.2.2.2.1 k0_h17
theorem k0_idx840_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v99, v137] : Fin 2 → IVec S16 32) a x).toNat < S320x128.size a := fun v14 k0_t7 v99 v100 v137 k0_hw171 k0_h17 => k0_hw171.2.2.2.2.1 k0_h17
theorem k0_idx841_inb : ∀ (v14 : BitVec 32) (k0_t7 : Fin (k0_t7_loop v14).trips) (v99 : IVec S16 32) (v100 : IVec S16 32) (v137 : IVec S16 32) (k0_hw171 : k0_chk171 v14 k0_t7 v99 v100 v137), ∀ (k0_h17 : k0_cond17 v14 k0_t7 = 1#1), ∀ a x, ((![v99, v137] : Fin 2 → IVec S16 32) a x).toNat < S320x128.size a := fun v14 k0_t7 v99 v100 v137 k0_hw171 k0_h17 => k0_hw171.2.2.2.2.2 k0_h17

def k0_chk172 (v14 : BitVec 32) (k0_t7 : Fin (k0_t7_loop v14).trips) (v99 : IVec S16 32) (v100 : IVec S16 32) (v144 : IVec S16 32) : Prop :=
  (∀ (k0_h17 : k0_cond17 v14 k0_t7 = 1#1), ∀ a x, ((![v100, v144] : Fin 2 → IVec S16 32) a x).toNat < S16x128.size a) ∧
  (∀ (k0_h17 : k0_cond17 v14 k0_t7 = 1#1), ∀ a x, ((![v99, v144] : Fin 2 → IVec S16 32) a x).toNat < S320x128.size a) ∧
  (∀ (k0_h17 : k0_cond17 v14 k0_t7 = 1#1), ∀ a x, ((![v99, v144] : Fin 2 → IVec S16 32) a x).toNat < S320x128.size a) ∧
  (∀ (k0_h17 : k0_cond17 v14 k0_t7 = 1#1), ∀ a x, ((![v99, v144] : Fin 2 → IVec S16 32) a x).toNat < S320x128.size a) ∧
  (∀ (k0_h17 : k0_cond17 v14 k0_t7 = 1#1), ∀ a x, ((![v99, v144] : Fin 2 → IVec S16 32) a x).toNat < S320x128.size a) ∧
  (∀ (k0_h17 : k0_cond17 v14 k0_t7 = 1#1), ∀ a x, ((![v99, v144] : Fin 2 → IVec S16 32) a x).toNat < S320x128.size a)
theorem k0_idx842_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v100, v144] : Fin 2 → IVec S16 32) a x).toNat < S16x128.size a := fun v14 k0_t7 v99 v100 v144 k0_hw172 k0_h17 => k0_hw172.1 k0_h17
theorem k0_idx843_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v99, v144] : Fin 2 → IVec S16 32) a x).toNat < S320x128.size a := fun v14 k0_t7 v99 v100 v144 k0_hw172 k0_h17 => k0_hw172.2.1 k0_h17
theorem k0_idx844_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v99, v144] : Fin 2 → IVec S16 32) a x).toNat < S320x128.size a := fun v14 k0_t7 v99 v100 v144 k0_hw172 k0_h17 => k0_hw172.2.2.1 k0_h17
theorem k0_idx845_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v99, v144] : Fin 2 → IVec S16 32) a x).toNat < S320x128.size a := fun v14 k0_t7 v99 v100 v144 k0_hw172 k0_h17 => k0_hw172.2.2.2.1 k0_h17
theorem k0_idx846_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v99, v144] : Fin 2 → IVec S16 32) a x).toNat < S320x128.size a := fun v14 k0_t7 v99 v100 v144 k0_hw172 k0_h17 => k0_hw172.2.2.2.2.1 k0_h17
theorem k0_idx847_inb : ∀ (v14 : BitVec 32) (k0_t7 : Fin (k0_t7_loop v14).trips) (v99 : IVec S16 32) (v100 : IVec S16 32) (v144 : IVec S16 32) (k0_hw172 : k0_chk172 v14 k0_t7 v99 v100 v144), ∀ (k0_h17 : k0_cond17 v14 k0_t7 = 1#1), ∀ a x, ((![v99, v144] : Fin 2 → IVec S16 32) a x).toNat < S320x128.size a := fun v14 k0_t7 v99 v100 v144 k0_hw172 k0_h17 => k0_hw172.2.2.2.2.2 k0_h17

def k0_chk173 (v14 : BitVec 32) (k0_t7 : Fin (k0_t7_loop v14).trips) (v99 : IVec S16 32) (v100 : IVec S16 32) (v151 : IVec S16 32) : Prop :=
  (∀ (k0_h17 : k0_cond17 v14 k0_t7 = 1#1), ∀ a x, ((![v100, v151] : Fin 2 → IVec S16 32) a x).toNat < S16x128.size a) ∧
  (∀ (k0_h17 : k0_cond17 v14 k0_t7 = 1#1), ∀ a x, ((![v99, v151] : Fin 2 → IVec S16 32) a x).toNat < S320x128.size a) ∧
  (∀ (k0_h17 : k0_cond17 v14 k0_t7 = 1#1), ∀ a x, ((![v99, v151] : Fin 2 → IVec S16 32) a x).toNat < S320x128.size a) ∧
  (∀ (k0_h17 : k0_cond17 v14 k0_t7 = 1#1), ∀ a x, ((![v99, v151] : Fin 2 → IVec S16 32) a x).toNat < S320x128.size a) ∧
  (∀ (k0_h17 : k0_cond17 v14 k0_t7 = 1#1), ∀ a x, ((![v99, v151] : Fin 2 → IVec S16 32) a x).toNat < S320x128.size a) ∧
  (∀ (k0_h17 : k0_cond17 v14 k0_t7 = 1#1), ∀ a x, ((![v99, v151] : Fin 2 → IVec S16 32) a x).toNat < S320x128.size a)
theorem k0_idx848_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v100, v151] : Fin 2 → IVec S16 32) a x).toNat < S16x128.size a := fun v14 k0_t7 v99 v100 v151 k0_hw173 k0_h17 => k0_hw173.1 k0_h17
theorem k0_idx849_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v99, v151] : Fin 2 → IVec S16 32) a x).toNat < S320x128.size a := fun v14 k0_t7 v99 v100 v151 k0_hw173 k0_h17 => k0_hw173.2.1 k0_h17
theorem k0_idx850_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v99, v151] : Fin 2 → IVec S16 32) a x).toNat < S320x128.size a := fun v14 k0_t7 v99 v100 v151 k0_hw173 k0_h17 => k0_hw173.2.2.1 k0_h17
theorem k0_idx851_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v99, v151] : Fin 2 → IVec S16 32) a x).toNat < S320x128.size a := fun v14 k0_t7 v99 v100 v151 k0_hw173 k0_h17 => k0_hw173.2.2.2.1 k0_h17
theorem k0_idx852_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v99, v151] : Fin 2 → IVec S16 32) a x).toNat < S320x128.size a := fun v14 k0_t7 v99 v100 v151 k0_hw173 k0_h17 => k0_hw173.2.2.2.2.1 k0_h17
theorem k0_idx853_inb : ∀ (v14 : BitVec 32) (k0_t7 : Fin (k0_t7_loop v14).trips) (v99 : IVec S16 32) (v100 : IVec S16 32) (v151 : IVec S16 32) (k0_hw173 : k0_chk173 v14 k0_t7 v99 v100 v151), ∀ (k0_h17 : k0_cond17 v14 k0_t7 = 1#1), ∀ a x, ((![v99, v151] : Fin 2 → IVec S16 32) a x).toNat < S320x128.size a := fun v14 k0_t7 v99 v100 v151 k0_hw173 k0_h17 => k0_hw173.2.2.2.2.2 k0_h17

def k0_chk174 (v14 : BitVec 32) (k0_t7 : Fin (k0_t7_loop v14).trips) (v99 : IVec S16 32) : Prop :=
  (∀ (k0_h17 : k0_cond17 v14 k0_t7 = 1#1), ∀ a x, ((![v99] : Fin 1 → IVec S16 32) a x).toNat < S320.size a)
theorem k0_idx854_inb : ∀ (v14 : BitVec 32) (k0_t7 : Fin (k0_t7_loop v14).trips) (v99 : IVec S16 32) (k0_hw174 : k0_chk174 v14 k0_t7 v99), ∀ (k0_h17 : k0_cond17 v14 k0_t7 = 1#1), ∀ a x, ((![v99] : Fin 1 → IVec S16 32) a x).toNat < S320.size a := fun v14 k0_t7 v99 k0_hw174 k0_h17 => k0_hw174 k0_h17
def k0_cond18 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c1_i32_42 : BitVec 32 := 1#32
  let v52 : BitVec 1 := Scalar.cmpi .sgt v45 c1_i32_42
  let v53 : BitVec 32 := Scalar.extui v52
  let c0_i32_43 : BitVec 32 := 0#32
  let v54 : BitVec 1 := Scalar.cmpi .ne v53 c0_i32_43
  v54

def k0_chk175 (v14 : BitVec 32) (k0_t7 : Fin (k0_t7_loop v14).trips) (v98 : IVec S16 32) : Prop :=
  (∀ (k0_h18 : k0_cond18 v14 k0_t7 = 1#1), ∀ a x, ((![v98] : Fin 1 → IVec S16 32) a x).toNat < S528.size a)
theorem k0_idx855_inb : ∀ (v14 : BitVec 32) (k0_t7 : Fin (k0_t7_loop v14).trips) (v98 : IVec S16 32) (k0_hw175 : k0_chk175 v14 k0_t7 v98), ∀ (k0_h18 : k0_cond18 v14 k0_t7 = 1#1), ∀ a x, ((![v98] : Fin 1 → IVec S16 32) a x).toNat < S528.size a := fun v14 k0_t7 v98 k0_hw175 k0_h18 => k0_hw175 k0_h18

def k0_chk176 (v14 : BitVec 32) (k0_t7 : Fin (k0_t7_loop v14).trips) (v99 : IVec S16 32) (v100 : IVec S16 32) (v102 : IVec S16 32) : Prop :=
  (∀ (k0_h18 : k0_cond18 v14 k0_t7 = 1#1), ∀ a x, ((![v100, v102] : Fin 2 → IVec S16 32) a x).toNat < S16x128.size a) ∧
  (∀ (k0_h18 : k0_cond18 v14 k0_t7 = 1#1), ∀ a x, ((![v99, v102] : Fin 2 → IVec S16 32) a x).toNat < S320x128.size a) ∧
  (∀ (k0_h18 : k0_cond18 v14 k0_t7 = 1#1), ∀ a x, ((![v99, v102] : Fin 2 → IVec S16 32) a x).toNat < S320x128.size a) ∧
  (∀ (k0_h18 : k0_cond18 v14 k0_t7 = 1#1), ∀ a x, ((![v99, v102] : Fin 2 → IVec S16 32) a x).toNat < S320x128.size a) ∧
  (∀ (k0_h18 : k0_cond18 v14 k0_t7 = 1#1), ∀ a x, ((![v99, v102] : Fin 2 → IVec S16 32) a x).toNat < S320x128.size a) ∧
  (∀ (k0_h18 : k0_cond18 v14 k0_t7 = 1#1), ∀ a x, ((![v99, v102] : Fin 2 → IVec S16 32) a x).toNat < S320x128.size a)
theorem k0_idx856_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v100, v102] : Fin 2 → IVec S16 32) a x).toNat < S16x128.size a := fun v14 k0_t7 v99 v100 v102 k0_hw176 k0_h18 => k0_hw176.1 k0_h18
theorem k0_idx857_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v99, v102] : Fin 2 → IVec S16 32) a x).toNat < S320x128.size a := fun v14 k0_t7 v99 v100 v102 k0_hw176 k0_h18 => k0_hw176.2.1 k0_h18
theorem k0_idx858_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v99, v102] : Fin 2 → IVec S16 32) a x).toNat < S320x128.size a := fun v14 k0_t7 v99 v100 v102 k0_hw176 k0_h18 => k0_hw176.2.2.1 k0_h18
theorem k0_idx859_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v99, v102] : Fin 2 → IVec S16 32) a x).toNat < S320x128.size a := fun v14 k0_t7 v99 v100 v102 k0_hw176 k0_h18 => k0_hw176.2.2.2.1 k0_h18
theorem k0_idx860_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v99, v102] : Fin 2 → IVec S16 32) a x).toNat < S320x128.size a := fun v14 k0_t7 v99 v100 v102 k0_hw176 k0_h18 => k0_hw176.2.2.2.2.1 k0_h18
theorem k0_idx861_inb : ∀ (v14 : BitVec 32) (k0_t7 : Fin (k0_t7_loop v14).trips) (v99 : IVec S16 32) (v100 : IVec S16 32) (v102 : IVec S16 32) (k0_hw176 : k0_chk176 v14 k0_t7 v99 v100 v102), ∀ (k0_h18 : k0_cond18 v14 k0_t7 = 1#1), ∀ a x, ((![v99, v102] : Fin 2 → IVec S16 32) a x).toNat < S320x128.size a := fun v14 k0_t7 v99 v100 v102 k0_hw176 k0_h18 => k0_hw176.2.2.2.2.2 k0_h18

def k0_chk177 (v14 : BitVec 32) (k0_t7 : Fin (k0_t7_loop v14).trips) (v99 : IVec S16 32) (v100 : IVec S16 32) (v109 : IVec S16 32) : Prop :=
  (∀ (k0_h18 : k0_cond18 v14 k0_t7 = 1#1), ∀ a x, ((![v100, v109] : Fin 2 → IVec S16 32) a x).toNat < S16x128.size a) ∧
  (∀ (k0_h18 : k0_cond18 v14 k0_t7 = 1#1), ∀ a x, ((![v99, v109] : Fin 2 → IVec S16 32) a x).toNat < S320x128.size a) ∧
  (∀ (k0_h18 : k0_cond18 v14 k0_t7 = 1#1), ∀ a x, ((![v99, v109] : Fin 2 → IVec S16 32) a x).toNat < S320x128.size a) ∧
  (∀ (k0_h18 : k0_cond18 v14 k0_t7 = 1#1), ∀ a x, ((![v99, v109] : Fin 2 → IVec S16 32) a x).toNat < S320x128.size a) ∧
  (∀ (k0_h18 : k0_cond18 v14 k0_t7 = 1#1), ∀ a x, ((![v99, v109] : Fin 2 → IVec S16 32) a x).toNat < S320x128.size a) ∧
  (∀ (k0_h18 : k0_cond18 v14 k0_t7 = 1#1), ∀ a x, ((![v99, v109] : Fin 2 → IVec S16 32) a x).toNat < S320x128.size a)
theorem k0_idx862_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v100, v109] : Fin 2 → IVec S16 32) a x).toNat < S16x128.size a := fun v14 k0_t7 v99 v100 v109 k0_hw177 k0_h18 => k0_hw177.1 k0_h18
theorem k0_idx863_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v99, v109] : Fin 2 → IVec S16 32) a x).toNat < S320x128.size a := fun v14 k0_t7 v99 v100 v109 k0_hw177 k0_h18 => k0_hw177.2.1 k0_h18
theorem k0_idx864_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v99, v109] : Fin 2 → IVec S16 32) a x).toNat < S320x128.size a := fun v14 k0_t7 v99 v100 v109 k0_hw177 k0_h18 => k0_hw177.2.2.1 k0_h18
theorem k0_idx865_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v99, v109] : Fin 2 → IVec S16 32) a x).toNat < S320x128.size a := fun v14 k0_t7 v99 v100 v109 k0_hw177 k0_h18 => k0_hw177.2.2.2.1 k0_h18
theorem k0_idx866_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v99, v109] : Fin 2 → IVec S16 32) a x).toNat < S320x128.size a := fun v14 k0_t7 v99 v100 v109 k0_hw177 k0_h18 => k0_hw177.2.2.2.2.1 k0_h18
theorem k0_idx867_inb : ∀ (v14 : BitVec 32) (k0_t7 : Fin (k0_t7_loop v14).trips) (v99 : IVec S16 32) (v100 : IVec S16 32) (v109 : IVec S16 32) (k0_hw177 : k0_chk177 v14 k0_t7 v99 v100 v109), ∀ (k0_h18 : k0_cond18 v14 k0_t7 = 1#1), ∀ a x, ((![v99, v109] : Fin 2 → IVec S16 32) a x).toNat < S320x128.size a := fun v14 k0_t7 v99 v100 v109 k0_hw177 k0_h18 => k0_hw177.2.2.2.2.2 k0_h18

def k0_chk178 (v14 : BitVec 32) (k0_t7 : Fin (k0_t7_loop v14).trips) (v99 : IVec S16 32) (v100 : IVec S16 32) (v116 : IVec S16 32) : Prop :=
  (∀ (k0_h18 : k0_cond18 v14 k0_t7 = 1#1), ∀ a x, ((![v100, v116] : Fin 2 → IVec S16 32) a x).toNat < S16x128.size a) ∧
  (∀ (k0_h18 : k0_cond18 v14 k0_t7 = 1#1), ∀ a x, ((![v99, v116] : Fin 2 → IVec S16 32) a x).toNat < S320x128.size a) ∧
  (∀ (k0_h18 : k0_cond18 v14 k0_t7 = 1#1), ∀ a x, ((![v99, v116] : Fin 2 → IVec S16 32) a x).toNat < S320x128.size a) ∧
  (∀ (k0_h18 : k0_cond18 v14 k0_t7 = 1#1), ∀ a x, ((![v99, v116] : Fin 2 → IVec S16 32) a x).toNat < S320x128.size a) ∧
  (∀ (k0_h18 : k0_cond18 v14 k0_t7 = 1#1), ∀ a x, ((![v99, v116] : Fin 2 → IVec S16 32) a x).toNat < S320x128.size a) ∧
  (∀ (k0_h18 : k0_cond18 v14 k0_t7 = 1#1), ∀ a x, ((![v99, v116] : Fin 2 → IVec S16 32) a x).toNat < S320x128.size a)
theorem k0_idx868_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v100, v116] : Fin 2 → IVec S16 32) a x).toNat < S16x128.size a := fun v14 k0_t7 v99 v100 v116 k0_hw178 k0_h18 => k0_hw178.1 k0_h18
theorem k0_idx869_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v99, v116] : Fin 2 → IVec S16 32) a x).toNat < S320x128.size a := fun v14 k0_t7 v99 v100 v116 k0_hw178 k0_h18 => k0_hw178.2.1 k0_h18
theorem k0_idx870_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v99, v116] : Fin 2 → IVec S16 32) a x).toNat < S320x128.size a := fun v14 k0_t7 v99 v100 v116 k0_hw178 k0_h18 => k0_hw178.2.2.1 k0_h18
theorem k0_idx871_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v99, v116] : Fin 2 → IVec S16 32) a x).toNat < S320x128.size a := fun v14 k0_t7 v99 v100 v116 k0_hw178 k0_h18 => k0_hw178.2.2.2.1 k0_h18
theorem k0_idx872_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v99, v116] : Fin 2 → IVec S16 32) a x).toNat < S320x128.size a := fun v14 k0_t7 v99 v100 v116 k0_hw178 k0_h18 => k0_hw178.2.2.2.2.1 k0_h18
theorem k0_idx873_inb : ∀ (v14 : BitVec 32) (k0_t7 : Fin (k0_t7_loop v14).trips) (v99 : IVec S16 32) (v100 : IVec S16 32) (v116 : IVec S16 32) (k0_hw178 : k0_chk178 v14 k0_t7 v99 v100 v116), ∀ (k0_h18 : k0_cond18 v14 k0_t7 = 1#1), ∀ a x, ((![v99, v116] : Fin 2 → IVec S16 32) a x).toNat < S320x128.size a := fun v14 k0_t7 v99 v100 v116 k0_hw178 k0_h18 => k0_hw178.2.2.2.2.2 k0_h18

def k0_chk179 (v14 : BitVec 32) (k0_t7 : Fin (k0_t7_loop v14).trips) (v99 : IVec S16 32) (v100 : IVec S16 32) (v123 : IVec S16 32) : Prop :=
  (∀ (k0_h18 : k0_cond18 v14 k0_t7 = 1#1), ∀ a x, ((![v100, v123] : Fin 2 → IVec S16 32) a x).toNat < S16x128.size a) ∧
  (∀ (k0_h18 : k0_cond18 v14 k0_t7 = 1#1), ∀ a x, ((![v99, v123] : Fin 2 → IVec S16 32) a x).toNat < S320x128.size a) ∧
  (∀ (k0_h18 : k0_cond18 v14 k0_t7 = 1#1), ∀ a x, ((![v99, v123] : Fin 2 → IVec S16 32) a x).toNat < S320x128.size a) ∧
  (∀ (k0_h18 : k0_cond18 v14 k0_t7 = 1#1), ∀ a x, ((![v99, v123] : Fin 2 → IVec S16 32) a x).toNat < S320x128.size a) ∧
  (∀ (k0_h18 : k0_cond18 v14 k0_t7 = 1#1), ∀ a x, ((![v99, v123] : Fin 2 → IVec S16 32) a x).toNat < S320x128.size a) ∧
  (∀ (k0_h18 : k0_cond18 v14 k0_t7 = 1#1), ∀ a x, ((![v99, v123] : Fin 2 → IVec S16 32) a x).toNat < S320x128.size a)
theorem k0_idx874_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v100, v123] : Fin 2 → IVec S16 32) a x).toNat < S16x128.size a := fun v14 k0_t7 v99 v100 v123 k0_hw179 k0_h18 => k0_hw179.1 k0_h18
theorem k0_idx875_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v99, v123] : Fin 2 → IVec S16 32) a x).toNat < S320x128.size a := fun v14 k0_t7 v99 v100 v123 k0_hw179 k0_h18 => k0_hw179.2.1 k0_h18
theorem k0_idx876_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v99, v123] : Fin 2 → IVec S16 32) a x).toNat < S320x128.size a := fun v14 k0_t7 v99 v100 v123 k0_hw179 k0_h18 => k0_hw179.2.2.1 k0_h18
theorem k0_idx877_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v99, v123] : Fin 2 → IVec S16 32) a x).toNat < S320x128.size a := fun v14 k0_t7 v99 v100 v123 k0_hw179 k0_h18 => k0_hw179.2.2.2.1 k0_h18
theorem k0_idx878_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v99, v123] : Fin 2 → IVec S16 32) a x).toNat < S320x128.size a := fun v14 k0_t7 v99 v100 v123 k0_hw179 k0_h18 => k0_hw179.2.2.2.2.1 k0_h18
theorem k0_idx879_inb : ∀ (v14 : BitVec 32) (k0_t7 : Fin (k0_t7_loop v14).trips) (v99 : IVec S16 32) (v100 : IVec S16 32) (v123 : IVec S16 32) (k0_hw179 : k0_chk179 v14 k0_t7 v99 v100 v123), ∀ (k0_h18 : k0_cond18 v14 k0_t7 = 1#1), ∀ a x, ((![v99, v123] : Fin 2 → IVec S16 32) a x).toNat < S320x128.size a := fun v14 k0_t7 v99 v100 v123 k0_hw179 k0_h18 => k0_hw179.2.2.2.2.2 k0_h18

def k0_chk180 (v14 : BitVec 32) (k0_t7 : Fin (k0_t7_loop v14).trips) (v99 : IVec S16 32) (v100 : IVec S16 32) (v130 : IVec S16 32) : Prop :=
  (∀ (k0_h18 : k0_cond18 v14 k0_t7 = 1#1), ∀ a x, ((![v100, v130] : Fin 2 → IVec S16 32) a x).toNat < S16x128.size a) ∧
  (∀ (k0_h18 : k0_cond18 v14 k0_t7 = 1#1), ∀ a x, ((![v99, v130] : Fin 2 → IVec S16 32) a x).toNat < S320x128.size a) ∧
  (∀ (k0_h18 : k0_cond18 v14 k0_t7 = 1#1), ∀ a x, ((![v99, v130] : Fin 2 → IVec S16 32) a x).toNat < S320x128.size a) ∧
  (∀ (k0_h18 : k0_cond18 v14 k0_t7 = 1#1), ∀ a x, ((![v99, v130] : Fin 2 → IVec S16 32) a x).toNat < S320x128.size a) ∧
  (∀ (k0_h18 : k0_cond18 v14 k0_t7 = 1#1), ∀ a x, ((![v99, v130] : Fin 2 → IVec S16 32) a x).toNat < S320x128.size a) ∧
  (∀ (k0_h18 : k0_cond18 v14 k0_t7 = 1#1), ∀ a x, ((![v99, v130] : Fin 2 → IVec S16 32) a x).toNat < S320x128.size a)
theorem k0_idx880_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v100, v130] : Fin 2 → IVec S16 32) a x).toNat < S16x128.size a := fun v14 k0_t7 v99 v100 v130 k0_hw180 k0_h18 => k0_hw180.1 k0_h18
theorem k0_idx881_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v99, v130] : Fin 2 → IVec S16 32) a x).toNat < S320x128.size a := fun v14 k0_t7 v99 v100 v130 k0_hw180 k0_h18 => k0_hw180.2.1 k0_h18
theorem k0_idx882_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v99, v130] : Fin 2 → IVec S16 32) a x).toNat < S320x128.size a := fun v14 k0_t7 v99 v100 v130 k0_hw180 k0_h18 => k0_hw180.2.2.1 k0_h18
theorem k0_idx883_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v99, v130] : Fin 2 → IVec S16 32) a x).toNat < S320x128.size a := fun v14 k0_t7 v99 v100 v130 k0_hw180 k0_h18 => k0_hw180.2.2.2.1 k0_h18
theorem k0_idx884_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v99, v130] : Fin 2 → IVec S16 32) a x).toNat < S320x128.size a := fun v14 k0_t7 v99 v100 v130 k0_hw180 k0_h18 => k0_hw180.2.2.2.2.1 k0_h18
theorem k0_idx885_inb : ∀ (v14 : BitVec 32) (k0_t7 : Fin (k0_t7_loop v14).trips) (v99 : IVec S16 32) (v100 : IVec S16 32) (v130 : IVec S16 32) (k0_hw180 : k0_chk180 v14 k0_t7 v99 v100 v130), ∀ (k0_h18 : k0_cond18 v14 k0_t7 = 1#1), ∀ a x, ((![v99, v130] : Fin 2 → IVec S16 32) a x).toNat < S320x128.size a := fun v14 k0_t7 v99 v100 v130 k0_hw180 k0_h18 => k0_hw180.2.2.2.2.2 k0_h18

def k0_chk181 (v14 : BitVec 32) (k0_t7 : Fin (k0_t7_loop v14).trips) (v99 : IVec S16 32) (v100 : IVec S16 32) (v137 : IVec S16 32) : Prop :=
  (∀ (k0_h18 : k0_cond18 v14 k0_t7 = 1#1), ∀ a x, ((![v100, v137] : Fin 2 → IVec S16 32) a x).toNat < S16x128.size a) ∧
  (∀ (k0_h18 : k0_cond18 v14 k0_t7 = 1#1), ∀ a x, ((![v99, v137] : Fin 2 → IVec S16 32) a x).toNat < S320x128.size a) ∧
  (∀ (k0_h18 : k0_cond18 v14 k0_t7 = 1#1), ∀ a x, ((![v99, v137] : Fin 2 → IVec S16 32) a x).toNat < S320x128.size a) ∧
  (∀ (k0_h18 : k0_cond18 v14 k0_t7 = 1#1), ∀ a x, ((![v99, v137] : Fin 2 → IVec S16 32) a x).toNat < S320x128.size a) ∧
  (∀ (k0_h18 : k0_cond18 v14 k0_t7 = 1#1), ∀ a x, ((![v99, v137] : Fin 2 → IVec S16 32) a x).toNat < S320x128.size a) ∧
  (∀ (k0_h18 : k0_cond18 v14 k0_t7 = 1#1), ∀ a x, ((![v99, v137] : Fin 2 → IVec S16 32) a x).toNat < S320x128.size a)
theorem k0_idx886_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v100, v137] : Fin 2 → IVec S16 32) a x).toNat < S16x128.size a := fun v14 k0_t7 v99 v100 v137 k0_hw181 k0_h18 => k0_hw181.1 k0_h18
theorem k0_idx887_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v99, v137] : Fin 2 → IVec S16 32) a x).toNat < S320x128.size a := fun v14 k0_t7 v99 v100 v137 k0_hw181 k0_h18 => k0_hw181.2.1 k0_h18
theorem k0_idx888_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v99, v137] : Fin 2 → IVec S16 32) a x).toNat < S320x128.size a := fun v14 k0_t7 v99 v100 v137 k0_hw181 k0_h18 => k0_hw181.2.2.1 k0_h18
theorem k0_idx889_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v99, v137] : Fin 2 → IVec S16 32) a x).toNat < S320x128.size a := fun v14 k0_t7 v99 v100 v137 k0_hw181 k0_h18 => k0_hw181.2.2.2.1 k0_h18
theorem k0_idx890_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v99, v137] : Fin 2 → IVec S16 32) a x).toNat < S320x128.size a := fun v14 k0_t7 v99 v100 v137 k0_hw181 k0_h18 => k0_hw181.2.2.2.2.1 k0_h18
theorem k0_idx891_inb : ∀ (v14 : BitVec 32) (k0_t7 : Fin (k0_t7_loop v14).trips) (v99 : IVec S16 32) (v100 : IVec S16 32) (v137 : IVec S16 32) (k0_hw181 : k0_chk181 v14 k0_t7 v99 v100 v137), ∀ (k0_h18 : k0_cond18 v14 k0_t7 = 1#1), ∀ a x, ((![v99, v137] : Fin 2 → IVec S16 32) a x).toNat < S320x128.size a := fun v14 k0_t7 v99 v100 v137 k0_hw181 k0_h18 => k0_hw181.2.2.2.2.2 k0_h18

def k0_chk182 (v14 : BitVec 32) (k0_t7 : Fin (k0_t7_loop v14).trips) (v99 : IVec S16 32) (v100 : IVec S16 32) (v144 : IVec S16 32) : Prop :=
  (∀ (k0_h18 : k0_cond18 v14 k0_t7 = 1#1), ∀ a x, ((![v100, v144] : Fin 2 → IVec S16 32) a x).toNat < S16x128.size a) ∧
  (∀ (k0_h18 : k0_cond18 v14 k0_t7 = 1#1), ∀ a x, ((![v99, v144] : Fin 2 → IVec S16 32) a x).toNat < S320x128.size a) ∧
  (∀ (k0_h18 : k0_cond18 v14 k0_t7 = 1#1), ∀ a x, ((![v99, v144] : Fin 2 → IVec S16 32) a x).toNat < S320x128.size a) ∧
  (∀ (k0_h18 : k0_cond18 v14 k0_t7 = 1#1), ∀ a x, ((![v99, v144] : Fin 2 → IVec S16 32) a x).toNat < S320x128.size a) ∧
  (∀ (k0_h18 : k0_cond18 v14 k0_t7 = 1#1), ∀ a x, ((![v99, v144] : Fin 2 → IVec S16 32) a x).toNat < S320x128.size a) ∧
  (∀ (k0_h18 : k0_cond18 v14 k0_t7 = 1#1), ∀ a x, ((![v99, v144] : Fin 2 → IVec S16 32) a x).toNat < S320x128.size a)
theorem k0_idx892_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v100, v144] : Fin 2 → IVec S16 32) a x).toNat < S16x128.size a := fun v14 k0_t7 v99 v100 v144 k0_hw182 k0_h18 => k0_hw182.1 k0_h18
theorem k0_idx893_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v99, v144] : Fin 2 → IVec S16 32) a x).toNat < S320x128.size a := fun v14 k0_t7 v99 v100 v144 k0_hw182 k0_h18 => k0_hw182.2.1 k0_h18
theorem k0_idx894_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v99, v144] : Fin 2 → IVec S16 32) a x).toNat < S320x128.size a := fun v14 k0_t7 v99 v100 v144 k0_hw182 k0_h18 => k0_hw182.2.2.1 k0_h18
theorem k0_idx895_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v99, v144] : Fin 2 → IVec S16 32) a x).toNat < S320x128.size a := fun v14 k0_t7 v99 v100 v144 k0_hw182 k0_h18 => k0_hw182.2.2.2.1 k0_h18
theorem k0_idx896_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v99, v144] : Fin 2 → IVec S16 32) a x).toNat < S320x128.size a := fun v14 k0_t7 v99 v100 v144 k0_hw182 k0_h18 => k0_hw182.2.2.2.2.1 k0_h18
theorem k0_idx897_inb : ∀ (v14 : BitVec 32) (k0_t7 : Fin (k0_t7_loop v14).trips) (v99 : IVec S16 32) (v100 : IVec S16 32) (v144 : IVec S16 32) (k0_hw182 : k0_chk182 v14 k0_t7 v99 v100 v144), ∀ (k0_h18 : k0_cond18 v14 k0_t7 = 1#1), ∀ a x, ((![v99, v144] : Fin 2 → IVec S16 32) a x).toNat < S320x128.size a := fun v14 k0_t7 v99 v100 v144 k0_hw182 k0_h18 => k0_hw182.2.2.2.2.2 k0_h18

def k0_chk183 (v14 : BitVec 32) (k0_t7 : Fin (k0_t7_loop v14).trips) (v99 : IVec S16 32) (v100 : IVec S16 32) (v151 : IVec S16 32) : Prop :=
  (∀ (k0_h18 : k0_cond18 v14 k0_t7 = 1#1), ∀ a x, ((![v100, v151] : Fin 2 → IVec S16 32) a x).toNat < S16x128.size a) ∧
  (∀ (k0_h18 : k0_cond18 v14 k0_t7 = 1#1), ∀ a x, ((![v99, v151] : Fin 2 → IVec S16 32) a x).toNat < S320x128.size a) ∧
  (∀ (k0_h18 : k0_cond18 v14 k0_t7 = 1#1), ∀ a x, ((![v99, v151] : Fin 2 → IVec S16 32) a x).toNat < S320x128.size a) ∧
  (∀ (k0_h18 : k0_cond18 v14 k0_t7 = 1#1), ∀ a x, ((![v99, v151] : Fin 2 → IVec S16 32) a x).toNat < S320x128.size a) ∧
  (∀ (k0_h18 : k0_cond18 v14 k0_t7 = 1#1), ∀ a x, ((![v99, v151] : Fin 2 → IVec S16 32) a x).toNat < S320x128.size a) ∧
  (∀ (k0_h18 : k0_cond18 v14 k0_t7 = 1#1), ∀ a x, ((![v99, v151] : Fin 2 → IVec S16 32) a x).toNat < S320x128.size a)
theorem k0_idx898_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v100, v151] : Fin 2 → IVec S16 32) a x).toNat < S16x128.size a := fun v14 k0_t7 v99 v100 v151 k0_hw183 k0_h18 => k0_hw183.1 k0_h18
theorem k0_idx899_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v99, v151] : Fin 2 → IVec S16 32) a x).toNat < S320x128.size a := fun v14 k0_t7 v99 v100 v151 k0_hw183 k0_h18 => k0_hw183.2.1 k0_h18
theorem k0_idx900_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v99, v151] : Fin 2 → IVec S16 32) a x).toNat < S320x128.size a := fun v14 k0_t7 v99 v100 v151 k0_hw183 k0_h18 => k0_hw183.2.2.1 k0_h18
theorem k0_idx901_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v99, v151] : Fin 2 → IVec S16 32) a x).toNat < S320x128.size a := fun v14 k0_t7 v99 v100 v151 k0_hw183 k0_h18 => k0_hw183.2.2.2.1 k0_h18
theorem k0_idx902_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v99, v151] : Fin 2 → IVec S16 32) a x).toNat < S320x128.size a := fun v14 k0_t7 v99 v100 v151 k0_hw183 k0_h18 => k0_hw183.2.2.2.2.1 k0_h18
theorem k0_idx903_inb : ∀ (v14 : BitVec 32) (k0_t7 : Fin (k0_t7_loop v14).trips) (v99 : IVec S16 32) (v100 : IVec S16 32) (v151 : IVec S16 32) (k0_hw183 : k0_chk183 v14 k0_t7 v99 v100 v151), ∀ (k0_h18 : k0_cond18 v14 k0_t7 = 1#1), ∀ a x, ((![v99, v151] : Fin 2 → IVec S16 32) a x).toNat < S320x128.size a := fun v14 k0_t7 v99 v100 v151 k0_hw183 k0_h18 => k0_hw183.2.2.2.2.2 k0_h18

def k0_chk184 (v14 : BitVec 32) (k0_t7 : Fin (k0_t7_loop v14).trips) (v99 : IVec S16 32) : Prop :=
  (∀ (k0_h18 : k0_cond18 v14 k0_t7 = 1#1), ∀ a x, ((![v99] : Fin 1 → IVec S16 32) a x).toNat < S320.size a)
theorem k0_idx904_inb : ∀ (v14 : BitVec 32) (k0_t7 : Fin (k0_t7_loop v14).trips) (v99 : IVec S16 32) (k0_hw184 : k0_chk184 v14 k0_t7 v99), ∀ (k0_h18 : k0_cond18 v14 k0_t7 = 1#1), ∀ a x, ((![v99] : Fin 1 → IVec S16 32) a x).toNat < S320.size a := fun v14 k0_t7 v99 k0_hw184 k0_h18 => k0_hw184 k0_h18
def k0_cond19 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c2_i32_44 : BitVec 32 := 2#32
  let v55 : BitVec 1 := Scalar.cmpi .sgt v45 c2_i32_44
  let v56 : BitVec 32 := Scalar.extui v55
  let c0_i32_45 : BitVec 32 := 0#32
  let v57 : BitVec 1 := Scalar.cmpi .ne v56 c0_i32_45
  v57

def k0_chk185 (v14 : BitVec 32) (k0_t7 : Fin (k0_t7_loop v14).trips) (v98 : IVec S16 32) : Prop :=
  (∀ (k0_h19 : k0_cond19 v14 k0_t7 = 1#1), ∀ a x, ((![v98] : Fin 1 → IVec S16 32) a x).toNat < S528.size a)
theorem k0_idx905_inb : ∀ (v14 : BitVec 32) (k0_t7 : Fin (k0_t7_loop v14).trips) (v98 : IVec S16 32) (k0_hw185 : k0_chk185 v14 k0_t7 v98), ∀ (k0_h19 : k0_cond19 v14 k0_t7 = 1#1), ∀ a x, ((![v98] : Fin 1 → IVec S16 32) a x).toNat < S528.size a := fun v14 k0_t7 v98 k0_hw185 k0_h19 => k0_hw185 k0_h19

def k0_chk186 (v14 : BitVec 32) (k0_t7 : Fin (k0_t7_loop v14).trips) (v99 : IVec S16 32) (v100 : IVec S16 32) (v102 : IVec S16 32) : Prop :=
  (∀ (k0_h19 : k0_cond19 v14 k0_t7 = 1#1), ∀ a x, ((![v100, v102] : Fin 2 → IVec S16 32) a x).toNat < S16x128.size a) ∧
  (∀ (k0_h19 : k0_cond19 v14 k0_t7 = 1#1), ∀ a x, ((![v99, v102] : Fin 2 → IVec S16 32) a x).toNat < S320x128.size a) ∧
  (∀ (k0_h19 : k0_cond19 v14 k0_t7 = 1#1), ∀ a x, ((![v99, v102] : Fin 2 → IVec S16 32) a x).toNat < S320x128.size a) ∧
  (∀ (k0_h19 : k0_cond19 v14 k0_t7 = 1#1), ∀ a x, ((![v99, v102] : Fin 2 → IVec S16 32) a x).toNat < S320x128.size a) ∧
  (∀ (k0_h19 : k0_cond19 v14 k0_t7 = 1#1), ∀ a x, ((![v99, v102] : Fin 2 → IVec S16 32) a x).toNat < S320x128.size a) ∧
  (∀ (k0_h19 : k0_cond19 v14 k0_t7 = 1#1), ∀ a x, ((![v99, v102] : Fin 2 → IVec S16 32) a x).toNat < S320x128.size a)
theorem k0_idx906_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v100, v102] : Fin 2 → IVec S16 32) a x).toNat < S16x128.size a := fun v14 k0_t7 v99 v100 v102 k0_hw186 k0_h19 => k0_hw186.1 k0_h19
theorem k0_idx907_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v99, v102] : Fin 2 → IVec S16 32) a x).toNat < S320x128.size a := fun v14 k0_t7 v99 v100 v102 k0_hw186 k0_h19 => k0_hw186.2.1 k0_h19
theorem k0_idx908_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v99, v102] : Fin 2 → IVec S16 32) a x).toNat < S320x128.size a := fun v14 k0_t7 v99 v100 v102 k0_hw186 k0_h19 => k0_hw186.2.2.1 k0_h19
theorem k0_idx909_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v99, v102] : Fin 2 → IVec S16 32) a x).toNat < S320x128.size a := fun v14 k0_t7 v99 v100 v102 k0_hw186 k0_h19 => k0_hw186.2.2.2.1 k0_h19
theorem k0_idx910_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v99, v102] : Fin 2 → IVec S16 32) a x).toNat < S320x128.size a := fun v14 k0_t7 v99 v100 v102 k0_hw186 k0_h19 => k0_hw186.2.2.2.2.1 k0_h19
theorem k0_idx911_inb : ∀ (v14 : BitVec 32) (k0_t7 : Fin (k0_t7_loop v14).trips) (v99 : IVec S16 32) (v100 : IVec S16 32) (v102 : IVec S16 32) (k0_hw186 : k0_chk186 v14 k0_t7 v99 v100 v102), ∀ (k0_h19 : k0_cond19 v14 k0_t7 = 1#1), ∀ a x, ((![v99, v102] : Fin 2 → IVec S16 32) a x).toNat < S320x128.size a := fun v14 k0_t7 v99 v100 v102 k0_hw186 k0_h19 => k0_hw186.2.2.2.2.2 k0_h19

def k0_chk187 (v14 : BitVec 32) (k0_t7 : Fin (k0_t7_loop v14).trips) (v99 : IVec S16 32) (v100 : IVec S16 32) (v109 : IVec S16 32) : Prop :=
  (∀ (k0_h19 : k0_cond19 v14 k0_t7 = 1#1), ∀ a x, ((![v100, v109] : Fin 2 → IVec S16 32) a x).toNat < S16x128.size a) ∧
  (∀ (k0_h19 : k0_cond19 v14 k0_t7 = 1#1), ∀ a x, ((![v99, v109] : Fin 2 → IVec S16 32) a x).toNat < S320x128.size a) ∧
  (∀ (k0_h19 : k0_cond19 v14 k0_t7 = 1#1), ∀ a x, ((![v99, v109] : Fin 2 → IVec S16 32) a x).toNat < S320x128.size a) ∧
  (∀ (k0_h19 : k0_cond19 v14 k0_t7 = 1#1), ∀ a x, ((![v99, v109] : Fin 2 → IVec S16 32) a x).toNat < S320x128.size a) ∧
  (∀ (k0_h19 : k0_cond19 v14 k0_t7 = 1#1), ∀ a x, ((![v99, v109] : Fin 2 → IVec S16 32) a x).toNat < S320x128.size a) ∧
  (∀ (k0_h19 : k0_cond19 v14 k0_t7 = 1#1), ∀ a x, ((![v99, v109] : Fin 2 → IVec S16 32) a x).toNat < S320x128.size a)
theorem k0_idx912_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v100, v109] : Fin 2 → IVec S16 32) a x).toNat < S16x128.size a := fun v14 k0_t7 v99 v100 v109 k0_hw187 k0_h19 => k0_hw187.1 k0_h19
theorem k0_idx913_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v99, v109] : Fin 2 → IVec S16 32) a x).toNat < S320x128.size a := fun v14 k0_t7 v99 v100 v109 k0_hw187 k0_h19 => k0_hw187.2.1 k0_h19
theorem k0_idx914_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v99, v109] : Fin 2 → IVec S16 32) a x).toNat < S320x128.size a := fun v14 k0_t7 v99 v100 v109 k0_hw187 k0_h19 => k0_hw187.2.2.1 k0_h19
theorem k0_idx915_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v99, v109] : Fin 2 → IVec S16 32) a x).toNat < S320x128.size a := fun v14 k0_t7 v99 v100 v109 k0_hw187 k0_h19 => k0_hw187.2.2.2.1 k0_h19
theorem k0_idx916_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v99, v109] : Fin 2 → IVec S16 32) a x).toNat < S320x128.size a := fun v14 k0_t7 v99 v100 v109 k0_hw187 k0_h19 => k0_hw187.2.2.2.2.1 k0_h19
theorem k0_idx917_inb : ∀ (v14 : BitVec 32) (k0_t7 : Fin (k0_t7_loop v14).trips) (v99 : IVec S16 32) (v100 : IVec S16 32) (v109 : IVec S16 32) (k0_hw187 : k0_chk187 v14 k0_t7 v99 v100 v109), ∀ (k0_h19 : k0_cond19 v14 k0_t7 = 1#1), ∀ a x, ((![v99, v109] : Fin 2 → IVec S16 32) a x).toNat < S320x128.size a := fun v14 k0_t7 v99 v100 v109 k0_hw187 k0_h19 => k0_hw187.2.2.2.2.2 k0_h19

def k0_chk188 (v14 : BitVec 32) (k0_t7 : Fin (k0_t7_loop v14).trips) (v99 : IVec S16 32) (v100 : IVec S16 32) (v116 : IVec S16 32) : Prop :=
  (∀ (k0_h19 : k0_cond19 v14 k0_t7 = 1#1), ∀ a x, ((![v100, v116] : Fin 2 → IVec S16 32) a x).toNat < S16x128.size a) ∧
  (∀ (k0_h19 : k0_cond19 v14 k0_t7 = 1#1), ∀ a x, ((![v99, v116] : Fin 2 → IVec S16 32) a x).toNat < S320x128.size a) ∧
  (∀ (k0_h19 : k0_cond19 v14 k0_t7 = 1#1), ∀ a x, ((![v99, v116] : Fin 2 → IVec S16 32) a x).toNat < S320x128.size a) ∧
  (∀ (k0_h19 : k0_cond19 v14 k0_t7 = 1#1), ∀ a x, ((![v99, v116] : Fin 2 → IVec S16 32) a x).toNat < S320x128.size a) ∧
  (∀ (k0_h19 : k0_cond19 v14 k0_t7 = 1#1), ∀ a x, ((![v99, v116] : Fin 2 → IVec S16 32) a x).toNat < S320x128.size a) ∧
  (∀ (k0_h19 : k0_cond19 v14 k0_t7 = 1#1), ∀ a x, ((![v99, v116] : Fin 2 → IVec S16 32) a x).toNat < S320x128.size a)
theorem k0_idx918_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v100, v116] : Fin 2 → IVec S16 32) a x).toNat < S16x128.size a := fun v14 k0_t7 v99 v100 v116 k0_hw188 k0_h19 => k0_hw188.1 k0_h19
theorem k0_idx919_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v99, v116] : Fin 2 → IVec S16 32) a x).toNat < S320x128.size a := fun v14 k0_t7 v99 v100 v116 k0_hw188 k0_h19 => k0_hw188.2.1 k0_h19
theorem k0_idx920_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v99, v116] : Fin 2 → IVec S16 32) a x).toNat < S320x128.size a := fun v14 k0_t7 v99 v100 v116 k0_hw188 k0_h19 => k0_hw188.2.2.1 k0_h19
theorem k0_idx921_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v99, v116] : Fin 2 → IVec S16 32) a x).toNat < S320x128.size a := fun v14 k0_t7 v99 v100 v116 k0_hw188 k0_h19 => k0_hw188.2.2.2.1 k0_h19
theorem k0_idx922_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v99, v116] : Fin 2 → IVec S16 32) a x).toNat < S320x128.size a := fun v14 k0_t7 v99 v100 v116 k0_hw188 k0_h19 => k0_hw188.2.2.2.2.1 k0_h19
theorem k0_idx923_inb : ∀ (v14 : BitVec 32) (k0_t7 : Fin (k0_t7_loop v14).trips) (v99 : IVec S16 32) (v100 : IVec S16 32) (v116 : IVec S16 32) (k0_hw188 : k0_chk188 v14 k0_t7 v99 v100 v116), ∀ (k0_h19 : k0_cond19 v14 k0_t7 = 1#1), ∀ a x, ((![v99, v116] : Fin 2 → IVec S16 32) a x).toNat < S320x128.size a := fun v14 k0_t7 v99 v100 v116 k0_hw188 k0_h19 => k0_hw188.2.2.2.2.2 k0_h19

def k0_chk189 (v14 : BitVec 32) (k0_t7 : Fin (k0_t7_loop v14).trips) (v99 : IVec S16 32) (v100 : IVec S16 32) (v123 : IVec S16 32) : Prop :=
  (∀ (k0_h19 : k0_cond19 v14 k0_t7 = 1#1), ∀ a x, ((![v100, v123] : Fin 2 → IVec S16 32) a x).toNat < S16x128.size a) ∧
  (∀ (k0_h19 : k0_cond19 v14 k0_t7 = 1#1), ∀ a x, ((![v99, v123] : Fin 2 → IVec S16 32) a x).toNat < S320x128.size a) ∧
  (∀ (k0_h19 : k0_cond19 v14 k0_t7 = 1#1), ∀ a x, ((![v99, v123] : Fin 2 → IVec S16 32) a x).toNat < S320x128.size a) ∧
  (∀ (k0_h19 : k0_cond19 v14 k0_t7 = 1#1), ∀ a x, ((![v99, v123] : Fin 2 → IVec S16 32) a x).toNat < S320x128.size a) ∧
  (∀ (k0_h19 : k0_cond19 v14 k0_t7 = 1#1), ∀ a x, ((![v99, v123] : Fin 2 → IVec S16 32) a x).toNat < S320x128.size a) ∧
  (∀ (k0_h19 : k0_cond19 v14 k0_t7 = 1#1), ∀ a x, ((![v99, v123] : Fin 2 → IVec S16 32) a x).toNat < S320x128.size a)
theorem k0_idx924_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v100, v123] : Fin 2 → IVec S16 32) a x).toNat < S16x128.size a := fun v14 k0_t7 v99 v100 v123 k0_hw189 k0_h19 => k0_hw189.1 k0_h19
theorem k0_idx925_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v99, v123] : Fin 2 → IVec S16 32) a x).toNat < S320x128.size a := fun v14 k0_t7 v99 v100 v123 k0_hw189 k0_h19 => k0_hw189.2.1 k0_h19
theorem k0_idx926_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v99, v123] : Fin 2 → IVec S16 32) a x).toNat < S320x128.size a := fun v14 k0_t7 v99 v100 v123 k0_hw189 k0_h19 => k0_hw189.2.2.1 k0_h19
theorem k0_idx927_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v99, v123] : Fin 2 → IVec S16 32) a x).toNat < S320x128.size a := fun v14 k0_t7 v99 v100 v123 k0_hw189 k0_h19 => k0_hw189.2.2.2.1 k0_h19
theorem k0_idx928_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v99, v123] : Fin 2 → IVec S16 32) a x).toNat < S320x128.size a := fun v14 k0_t7 v99 v100 v123 k0_hw189 k0_h19 => k0_hw189.2.2.2.2.1 k0_h19
theorem k0_idx929_inb : ∀ (v14 : BitVec 32) (k0_t7 : Fin (k0_t7_loop v14).trips) (v99 : IVec S16 32) (v100 : IVec S16 32) (v123 : IVec S16 32) (k0_hw189 : k0_chk189 v14 k0_t7 v99 v100 v123), ∀ (k0_h19 : k0_cond19 v14 k0_t7 = 1#1), ∀ a x, ((![v99, v123] : Fin 2 → IVec S16 32) a x).toNat < S320x128.size a := fun v14 k0_t7 v99 v100 v123 k0_hw189 k0_h19 => k0_hw189.2.2.2.2.2 k0_h19

def k0_chk190 (v14 : BitVec 32) (k0_t7 : Fin (k0_t7_loop v14).trips) (v99 : IVec S16 32) (v100 : IVec S16 32) (v130 : IVec S16 32) : Prop :=
  (∀ (k0_h19 : k0_cond19 v14 k0_t7 = 1#1), ∀ a x, ((![v100, v130] : Fin 2 → IVec S16 32) a x).toNat < S16x128.size a) ∧
  (∀ (k0_h19 : k0_cond19 v14 k0_t7 = 1#1), ∀ a x, ((![v99, v130] : Fin 2 → IVec S16 32) a x).toNat < S320x128.size a) ∧
  (∀ (k0_h19 : k0_cond19 v14 k0_t7 = 1#1), ∀ a x, ((![v99, v130] : Fin 2 → IVec S16 32) a x).toNat < S320x128.size a) ∧
  (∀ (k0_h19 : k0_cond19 v14 k0_t7 = 1#1), ∀ a x, ((![v99, v130] : Fin 2 → IVec S16 32) a x).toNat < S320x128.size a) ∧
  (∀ (k0_h19 : k0_cond19 v14 k0_t7 = 1#1), ∀ a x, ((![v99, v130] : Fin 2 → IVec S16 32) a x).toNat < S320x128.size a) ∧
  (∀ (k0_h19 : k0_cond19 v14 k0_t7 = 1#1), ∀ a x, ((![v99, v130] : Fin 2 → IVec S16 32) a x).toNat < S320x128.size a)
theorem k0_idx930_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v100, v130] : Fin 2 → IVec S16 32) a x).toNat < S16x128.size a := fun v14 k0_t7 v99 v100 v130 k0_hw190 k0_h19 => k0_hw190.1 k0_h19
theorem k0_idx931_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v99, v130] : Fin 2 → IVec S16 32) a x).toNat < S320x128.size a := fun v14 k0_t7 v99 v100 v130 k0_hw190 k0_h19 => k0_hw190.2.1 k0_h19
theorem k0_idx932_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v99, v130] : Fin 2 → IVec S16 32) a x).toNat < S320x128.size a := fun v14 k0_t7 v99 v100 v130 k0_hw190 k0_h19 => k0_hw190.2.2.1 k0_h19
theorem k0_idx933_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v99, v130] : Fin 2 → IVec S16 32) a x).toNat < S320x128.size a := fun v14 k0_t7 v99 v100 v130 k0_hw190 k0_h19 => k0_hw190.2.2.2.1 k0_h19
theorem k0_idx934_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v99, v130] : Fin 2 → IVec S16 32) a x).toNat < S320x128.size a := fun v14 k0_t7 v99 v100 v130 k0_hw190 k0_h19 => k0_hw190.2.2.2.2.1 k0_h19
theorem k0_idx935_inb : ∀ (v14 : BitVec 32) (k0_t7 : Fin (k0_t7_loop v14).trips) (v99 : IVec S16 32) (v100 : IVec S16 32) (v130 : IVec S16 32) (k0_hw190 : k0_chk190 v14 k0_t7 v99 v100 v130), ∀ (k0_h19 : k0_cond19 v14 k0_t7 = 1#1), ∀ a x, ((![v99, v130] : Fin 2 → IVec S16 32) a x).toNat < S320x128.size a := fun v14 k0_t7 v99 v100 v130 k0_hw190 k0_h19 => k0_hw190.2.2.2.2.2 k0_h19

def k0_chk191 (v14 : BitVec 32) (k0_t7 : Fin (k0_t7_loop v14).trips) (v99 : IVec S16 32) (v100 : IVec S16 32) (v137 : IVec S16 32) : Prop :=
  (∀ (k0_h19 : k0_cond19 v14 k0_t7 = 1#1), ∀ a x, ((![v100, v137] : Fin 2 → IVec S16 32) a x).toNat < S16x128.size a) ∧
  (∀ (k0_h19 : k0_cond19 v14 k0_t7 = 1#1), ∀ a x, ((![v99, v137] : Fin 2 → IVec S16 32) a x).toNat < S320x128.size a) ∧
  (∀ (k0_h19 : k0_cond19 v14 k0_t7 = 1#1), ∀ a x, ((![v99, v137] : Fin 2 → IVec S16 32) a x).toNat < S320x128.size a) ∧
  (∀ (k0_h19 : k0_cond19 v14 k0_t7 = 1#1), ∀ a x, ((![v99, v137] : Fin 2 → IVec S16 32) a x).toNat < S320x128.size a) ∧
  (∀ (k0_h19 : k0_cond19 v14 k0_t7 = 1#1), ∀ a x, ((![v99, v137] : Fin 2 → IVec S16 32) a x).toNat < S320x128.size a) ∧
  (∀ (k0_h19 : k0_cond19 v14 k0_t7 = 1#1), ∀ a x, ((![v99, v137] : Fin 2 → IVec S16 32) a x).toNat < S320x128.size a)
theorem k0_idx936_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v100, v137] : Fin 2 → IVec S16 32) a x).toNat < S16x128.size a := fun v14 k0_t7 v99 v100 v137 k0_hw191 k0_h19 => k0_hw191.1 k0_h19
theorem k0_idx937_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v99, v137] : Fin 2 → IVec S16 32) a x).toNat < S320x128.size a := fun v14 k0_t7 v99 v100 v137 k0_hw191 k0_h19 => k0_hw191.2.1 k0_h19
theorem k0_idx938_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v99, v137] : Fin 2 → IVec S16 32) a x).toNat < S320x128.size a := fun v14 k0_t7 v99 v100 v137 k0_hw191 k0_h19 => k0_hw191.2.2.1 k0_h19
theorem k0_idx939_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v99, v137] : Fin 2 → IVec S16 32) a x).toNat < S320x128.size a := fun v14 k0_t7 v99 v100 v137 k0_hw191 k0_h19 => k0_hw191.2.2.2.1 k0_h19
theorem k0_idx940_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v99, v137] : Fin 2 → IVec S16 32) a x).toNat < S320x128.size a := fun v14 k0_t7 v99 v100 v137 k0_hw191 k0_h19 => k0_hw191.2.2.2.2.1 k0_h19
theorem k0_idx941_inb : ∀ (v14 : BitVec 32) (k0_t7 : Fin (k0_t7_loop v14).trips) (v99 : IVec S16 32) (v100 : IVec S16 32) (v137 : IVec S16 32) (k0_hw191 : k0_chk191 v14 k0_t7 v99 v100 v137), ∀ (k0_h19 : k0_cond19 v14 k0_t7 = 1#1), ∀ a x, ((![v99, v137] : Fin 2 → IVec S16 32) a x).toNat < S320x128.size a := fun v14 k0_t7 v99 v100 v137 k0_hw191 k0_h19 => k0_hw191.2.2.2.2.2 k0_h19

def k0_chk192 (v14 : BitVec 32) (k0_t7 : Fin (k0_t7_loop v14).trips) (v99 : IVec S16 32) (v100 : IVec S16 32) (v144 : IVec S16 32) : Prop :=
  (∀ (k0_h19 : k0_cond19 v14 k0_t7 = 1#1), ∀ a x, ((![v100, v144] : Fin 2 → IVec S16 32) a x).toNat < S16x128.size a) ∧
  (∀ (k0_h19 : k0_cond19 v14 k0_t7 = 1#1), ∀ a x, ((![v99, v144] : Fin 2 → IVec S16 32) a x).toNat < S320x128.size a) ∧
  (∀ (k0_h19 : k0_cond19 v14 k0_t7 = 1#1), ∀ a x, ((![v99, v144] : Fin 2 → IVec S16 32) a x).toNat < S320x128.size a) ∧
  (∀ (k0_h19 : k0_cond19 v14 k0_t7 = 1#1), ∀ a x, ((![v99, v144] : Fin 2 → IVec S16 32) a x).toNat < S320x128.size a) ∧
  (∀ (k0_h19 : k0_cond19 v14 k0_t7 = 1#1), ∀ a x, ((![v99, v144] : Fin 2 → IVec S16 32) a x).toNat < S320x128.size a) ∧
  (∀ (k0_h19 : k0_cond19 v14 k0_t7 = 1#1), ∀ a x, ((![v99, v144] : Fin 2 → IVec S16 32) a x).toNat < S320x128.size a)
theorem k0_idx942_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v100, v144] : Fin 2 → IVec S16 32) a x).toNat < S16x128.size a := fun v14 k0_t7 v99 v100 v144 k0_hw192 k0_h19 => k0_hw192.1 k0_h19
theorem k0_idx943_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v99, v144] : Fin 2 → IVec S16 32) a x).toNat < S320x128.size a := fun v14 k0_t7 v99 v100 v144 k0_hw192 k0_h19 => k0_hw192.2.1 k0_h19
theorem k0_idx944_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v99, v144] : Fin 2 → IVec S16 32) a x).toNat < S320x128.size a := fun v14 k0_t7 v99 v100 v144 k0_hw192 k0_h19 => k0_hw192.2.2.1 k0_h19
theorem k0_idx945_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v99, v144] : Fin 2 → IVec S16 32) a x).toNat < S320x128.size a := fun v14 k0_t7 v99 v100 v144 k0_hw192 k0_h19 => k0_hw192.2.2.2.1 k0_h19
theorem k0_idx946_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v99, v144] : Fin 2 → IVec S16 32) a x).toNat < S320x128.size a := fun v14 k0_t7 v99 v100 v144 k0_hw192 k0_h19 => k0_hw192.2.2.2.2.1 k0_h19
theorem k0_idx947_inb : ∀ (v14 : BitVec 32) (k0_t7 : Fin (k0_t7_loop v14).trips) (v99 : IVec S16 32) (v100 : IVec S16 32) (v144 : IVec S16 32) (k0_hw192 : k0_chk192 v14 k0_t7 v99 v100 v144), ∀ (k0_h19 : k0_cond19 v14 k0_t7 = 1#1), ∀ a x, ((![v99, v144] : Fin 2 → IVec S16 32) a x).toNat < S320x128.size a := fun v14 k0_t7 v99 v100 v144 k0_hw192 k0_h19 => k0_hw192.2.2.2.2.2 k0_h19

def k0_chk193 (v14 : BitVec 32) (k0_t7 : Fin (k0_t7_loop v14).trips) (v99 : IVec S16 32) (v100 : IVec S16 32) (v151 : IVec S16 32) : Prop :=
  (∀ (k0_h19 : k0_cond19 v14 k0_t7 = 1#1), ∀ a x, ((![v100, v151] : Fin 2 → IVec S16 32) a x).toNat < S16x128.size a) ∧
  (∀ (k0_h19 : k0_cond19 v14 k0_t7 = 1#1), ∀ a x, ((![v99, v151] : Fin 2 → IVec S16 32) a x).toNat < S320x128.size a) ∧
  (∀ (k0_h19 : k0_cond19 v14 k0_t7 = 1#1), ∀ a x, ((![v99, v151] : Fin 2 → IVec S16 32) a x).toNat < S320x128.size a) ∧
  (∀ (k0_h19 : k0_cond19 v14 k0_t7 = 1#1), ∀ a x, ((![v99, v151] : Fin 2 → IVec S16 32) a x).toNat < S320x128.size a) ∧
  (∀ (k0_h19 : k0_cond19 v14 k0_t7 = 1#1), ∀ a x, ((![v99, v151] : Fin 2 → IVec S16 32) a x).toNat < S320x128.size a) ∧
  (∀ (k0_h19 : k0_cond19 v14 k0_t7 = 1#1), ∀ a x, ((![v99, v151] : Fin 2 → IVec S16 32) a x).toNat < S320x128.size a)
theorem k0_idx948_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v100, v151] : Fin 2 → IVec S16 32) a x).toNat < S16x128.size a := fun v14 k0_t7 v99 v100 v151 k0_hw193 k0_h19 => k0_hw193.1 k0_h19
theorem k0_idx949_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v99, v151] : Fin 2 → IVec S16 32) a x).toNat < S320x128.size a := fun v14 k0_t7 v99 v100 v151 k0_hw193 k0_h19 => k0_hw193.2.1 k0_h19
theorem k0_idx950_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v99, v151] : Fin 2 → IVec S16 32) a x).toNat < S320x128.size a := fun v14 k0_t7 v99 v100 v151 k0_hw193 k0_h19 => k0_hw193.2.2.1 k0_h19
theorem k0_idx951_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v99, v151] : Fin 2 → IVec S16 32) a x).toNat < S320x128.size a := fun v14 k0_t7 v99 v100 v151 k0_hw193 k0_h19 => k0_hw193.2.2.2.1 k0_h19
theorem k0_idx952_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v99, v151] : Fin 2 → IVec S16 32) a x).toNat < S320x128.size a := fun v14 k0_t7 v99 v100 v151 k0_hw193 k0_h19 => k0_hw193.2.2.2.2.1 k0_h19
theorem k0_idx953_inb : ∀ (v14 : BitVec 32) (k0_t7 : Fin (k0_t7_loop v14).trips) (v99 : IVec S16 32) (v100 : IVec S16 32) (v151 : IVec S16 32) (k0_hw193 : k0_chk193 v14 k0_t7 v99 v100 v151), ∀ (k0_h19 : k0_cond19 v14 k0_t7 = 1#1), ∀ a x, ((![v99, v151] : Fin 2 → IVec S16 32) a x).toNat < S320x128.size a := fun v14 k0_t7 v99 v100 v151 k0_hw193 k0_h19 => k0_hw193.2.2.2.2.2 k0_h19

def k0_chk194 (v14 : BitVec 32) (k0_t7 : Fin (k0_t7_loop v14).trips) (v99 : IVec S16 32) : Prop :=
  (∀ (k0_h19 : k0_cond19 v14 k0_t7 = 1#1), ∀ a x, ((![v99] : Fin 1 → IVec S16 32) a x).toNat < S320.size a)
theorem k0_idx954_inb : ∀ (v14 : BitVec 32) (k0_t7 : Fin (k0_t7_loop v14).trips) (v99 : IVec S16 32) (k0_hw194 : k0_chk194 v14 k0_t7 v99), ∀ (k0_h19 : k0_cond19 v14 k0_t7 = 1#1), ∀ a x, ((![v99] : Fin 1 → IVec S16 32) a x).toNat < S320.size a := fun v14 k0_t7 v99 k0_hw194 k0_h19 => k0_hw194 k0_h19
def k0_cond20 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c3_i32 : BitVec 32 := 3#32
  let v58 : BitVec 1 := Scalar.cmpi .sgt v45 c3_i32
  let v59 : BitVec 32 := Scalar.extui v58
  let c0_i32_46 : BitVec 32 := 0#32
  let v60 : BitVec 1 := Scalar.cmpi .ne v59 c0_i32_46
  v60

def k0_chk195 (v14 : BitVec 32) (k0_t7 : Fin (k0_t7_loop v14).trips) (v98 : IVec S16 32) : Prop :=
  (∀ (k0_h20 : k0_cond20 v14 k0_t7 = 1#1), ∀ a x, ((![v98] : Fin 1 → IVec S16 32) a x).toNat < S528.size a)
theorem k0_idx955_inb : ∀ (v14 : BitVec 32) (k0_t7 : Fin (k0_t7_loop v14).trips) (v98 : IVec S16 32) (k0_hw195 : k0_chk195 v14 k0_t7 v98), ∀ (k0_h20 : k0_cond20 v14 k0_t7 = 1#1), ∀ a x, ((![v98] : Fin 1 → IVec S16 32) a x).toNat < S528.size a := fun v14 k0_t7 v98 k0_hw195 k0_h20 => k0_hw195 k0_h20

def k0_chk196 (v14 : BitVec 32) (k0_t7 : Fin (k0_t7_loop v14).trips) (v99 : IVec S16 32) (v100 : IVec S16 32) (v102 : IVec S16 32) : Prop :=
  (∀ (k0_h20 : k0_cond20 v14 k0_t7 = 1#1), ∀ a x, ((![v100, v102] : Fin 2 → IVec S16 32) a x).toNat < S16x128.size a) ∧
  (∀ (k0_h20 : k0_cond20 v14 k0_t7 = 1#1), ∀ a x, ((![v99, v102] : Fin 2 → IVec S16 32) a x).toNat < S320x128.size a) ∧
  (∀ (k0_h20 : k0_cond20 v14 k0_t7 = 1#1), ∀ a x, ((![v99, v102] : Fin 2 → IVec S16 32) a x).toNat < S320x128.size a) ∧
  (∀ (k0_h20 : k0_cond20 v14 k0_t7 = 1#1), ∀ a x, ((![v99, v102] : Fin 2 → IVec S16 32) a x).toNat < S320x128.size a) ∧
  (∀ (k0_h20 : k0_cond20 v14 k0_t7 = 1#1), ∀ a x, ((![v99, v102] : Fin 2 → IVec S16 32) a x).toNat < S320x128.size a) ∧
  (∀ (k0_h20 : k0_cond20 v14 k0_t7 = 1#1), ∀ a x, ((![v99, v102] : Fin 2 → IVec S16 32) a x).toNat < S320x128.size a)
theorem k0_idx956_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v100, v102] : Fin 2 → IVec S16 32) a x).toNat < S16x128.size a := fun v14 k0_t7 v99 v100 v102 k0_hw196 k0_h20 => k0_hw196.1 k0_h20
theorem k0_idx957_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v99, v102] : Fin 2 → IVec S16 32) a x).toNat < S320x128.size a := fun v14 k0_t7 v99 v100 v102 k0_hw196 k0_h20 => k0_hw196.2.1 k0_h20
theorem k0_idx958_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v99, v102] : Fin 2 → IVec S16 32) a x).toNat < S320x128.size a := fun v14 k0_t7 v99 v100 v102 k0_hw196 k0_h20 => k0_hw196.2.2.1 k0_h20
theorem k0_idx959_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v99, v102] : Fin 2 → IVec S16 32) a x).toNat < S320x128.size a := fun v14 k0_t7 v99 v100 v102 k0_hw196 k0_h20 => k0_hw196.2.2.2.1 k0_h20
theorem k0_idx960_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v99, v102] : Fin 2 → IVec S16 32) a x).toNat < S320x128.size a := fun v14 k0_t7 v99 v100 v102 k0_hw196 k0_h20 => k0_hw196.2.2.2.2.1 k0_h20
theorem k0_idx961_inb : ∀ (v14 : BitVec 32) (k0_t7 : Fin (k0_t7_loop v14).trips) (v99 : IVec S16 32) (v100 : IVec S16 32) (v102 : IVec S16 32) (k0_hw196 : k0_chk196 v14 k0_t7 v99 v100 v102), ∀ (k0_h20 : k0_cond20 v14 k0_t7 = 1#1), ∀ a x, ((![v99, v102] : Fin 2 → IVec S16 32) a x).toNat < S320x128.size a := fun v14 k0_t7 v99 v100 v102 k0_hw196 k0_h20 => k0_hw196.2.2.2.2.2 k0_h20

def k0_chk197 (v14 : BitVec 32) (k0_t7 : Fin (k0_t7_loop v14).trips) (v99 : IVec S16 32) (v100 : IVec S16 32) (v109 : IVec S16 32) : Prop :=
  (∀ (k0_h20 : k0_cond20 v14 k0_t7 = 1#1), ∀ a x, ((![v100, v109] : Fin 2 → IVec S16 32) a x).toNat < S16x128.size a) ∧
  (∀ (k0_h20 : k0_cond20 v14 k0_t7 = 1#1), ∀ a x, ((![v99, v109] : Fin 2 → IVec S16 32) a x).toNat < S320x128.size a) ∧
  (∀ (k0_h20 : k0_cond20 v14 k0_t7 = 1#1), ∀ a x, ((![v99, v109] : Fin 2 → IVec S16 32) a x).toNat < S320x128.size a) ∧
  (∀ (k0_h20 : k0_cond20 v14 k0_t7 = 1#1), ∀ a x, ((![v99, v109] : Fin 2 → IVec S16 32) a x).toNat < S320x128.size a) ∧
  (∀ (k0_h20 : k0_cond20 v14 k0_t7 = 1#1), ∀ a x, ((![v99, v109] : Fin 2 → IVec S16 32) a x).toNat < S320x128.size a) ∧
  (∀ (k0_h20 : k0_cond20 v14 k0_t7 = 1#1), ∀ a x, ((![v99, v109] : Fin 2 → IVec S16 32) a x).toNat < S320x128.size a)
theorem k0_idx962_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v100, v109] : Fin 2 → IVec S16 32) a x).toNat < S16x128.size a := fun v14 k0_t7 v99 v100 v109 k0_hw197 k0_h20 => k0_hw197.1 k0_h20
theorem k0_idx963_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v99, v109] : Fin 2 → IVec S16 32) a x).toNat < S320x128.size a := fun v14 k0_t7 v99 v100 v109 k0_hw197 k0_h20 => k0_hw197.2.1 k0_h20
theorem k0_idx964_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v99, v109] : Fin 2 → IVec S16 32) a x).toNat < S320x128.size a := fun v14 k0_t7 v99 v100 v109 k0_hw197 k0_h20 => k0_hw197.2.2.1 k0_h20
theorem k0_idx965_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v99, v109] : Fin 2 → IVec S16 32) a x).toNat < S320x128.size a := fun v14 k0_t7 v99 v100 v109 k0_hw197 k0_h20 => k0_hw197.2.2.2.1 k0_h20
theorem k0_idx966_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v99, v109] : Fin 2 → IVec S16 32) a x).toNat < S320x128.size a := fun v14 k0_t7 v99 v100 v109 k0_hw197 k0_h20 => k0_hw197.2.2.2.2.1 k0_h20
theorem k0_idx967_inb : ∀ (v14 : BitVec 32) (k0_t7 : Fin (k0_t7_loop v14).trips) (v99 : IVec S16 32) (v100 : IVec S16 32) (v109 : IVec S16 32) (k0_hw197 : k0_chk197 v14 k0_t7 v99 v100 v109), ∀ (k0_h20 : k0_cond20 v14 k0_t7 = 1#1), ∀ a x, ((![v99, v109] : Fin 2 → IVec S16 32) a x).toNat < S320x128.size a := fun v14 k0_t7 v99 v100 v109 k0_hw197 k0_h20 => k0_hw197.2.2.2.2.2 k0_h20

def k0_chk198 (v14 : BitVec 32) (k0_t7 : Fin (k0_t7_loop v14).trips) (v99 : IVec S16 32) (v100 : IVec S16 32) (v116 : IVec S16 32) : Prop :=
  (∀ (k0_h20 : k0_cond20 v14 k0_t7 = 1#1), ∀ a x, ((![v100, v116] : Fin 2 → IVec S16 32) a x).toNat < S16x128.size a) ∧
  (∀ (k0_h20 : k0_cond20 v14 k0_t7 = 1#1), ∀ a x, ((![v99, v116] : Fin 2 → IVec S16 32) a x).toNat < S320x128.size a) ∧
  (∀ (k0_h20 : k0_cond20 v14 k0_t7 = 1#1), ∀ a x, ((![v99, v116] : Fin 2 → IVec S16 32) a x).toNat < S320x128.size a) ∧
  (∀ (k0_h20 : k0_cond20 v14 k0_t7 = 1#1), ∀ a x, ((![v99, v116] : Fin 2 → IVec S16 32) a x).toNat < S320x128.size a) ∧
  (∀ (k0_h20 : k0_cond20 v14 k0_t7 = 1#1), ∀ a x, ((![v99, v116] : Fin 2 → IVec S16 32) a x).toNat < S320x128.size a) ∧
  (∀ (k0_h20 : k0_cond20 v14 k0_t7 = 1#1), ∀ a x, ((![v99, v116] : Fin 2 → IVec S16 32) a x).toNat < S320x128.size a)
theorem k0_idx968_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v100, v116] : Fin 2 → IVec S16 32) a x).toNat < S16x128.size a := fun v14 k0_t7 v99 v100 v116 k0_hw198 k0_h20 => k0_hw198.1 k0_h20
theorem k0_idx969_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v99, v116] : Fin 2 → IVec S16 32) a x).toNat < S320x128.size a := fun v14 k0_t7 v99 v100 v116 k0_hw198 k0_h20 => k0_hw198.2.1 k0_h20
theorem k0_idx970_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v99, v116] : Fin 2 → IVec S16 32) a x).toNat < S320x128.size a := fun v14 k0_t7 v99 v100 v116 k0_hw198 k0_h20 => k0_hw198.2.2.1 k0_h20
theorem k0_idx971_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v99, v116] : Fin 2 → IVec S16 32) a x).toNat < S320x128.size a := fun v14 k0_t7 v99 v100 v116 k0_hw198 k0_h20 => k0_hw198.2.2.2.1 k0_h20
theorem k0_idx972_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v99, v116] : Fin 2 → IVec S16 32) a x).toNat < S320x128.size a := fun v14 k0_t7 v99 v100 v116 k0_hw198 k0_h20 => k0_hw198.2.2.2.2.1 k0_h20
theorem k0_idx973_inb : ∀ (v14 : BitVec 32) (k0_t7 : Fin (k0_t7_loop v14).trips) (v99 : IVec S16 32) (v100 : IVec S16 32) (v116 : IVec S16 32) (k0_hw198 : k0_chk198 v14 k0_t7 v99 v100 v116), ∀ (k0_h20 : k0_cond20 v14 k0_t7 = 1#1), ∀ a x, ((![v99, v116] : Fin 2 → IVec S16 32) a x).toNat < S320x128.size a := fun v14 k0_t7 v99 v100 v116 k0_hw198 k0_h20 => k0_hw198.2.2.2.2.2 k0_h20

def k0_chk199 (v14 : BitVec 32) (k0_t7 : Fin (k0_t7_loop v14).trips) (v99 : IVec S16 32) (v100 : IVec S16 32) (v123 : IVec S16 32) : Prop :=
  (∀ (k0_h20 : k0_cond20 v14 k0_t7 = 1#1), ∀ a x, ((![v100, v123] : Fin 2 → IVec S16 32) a x).toNat < S16x128.size a) ∧
  (∀ (k0_h20 : k0_cond20 v14 k0_t7 = 1#1), ∀ a x, ((![v99, v123] : Fin 2 → IVec S16 32) a x).toNat < S320x128.size a) ∧
  (∀ (k0_h20 : k0_cond20 v14 k0_t7 = 1#1), ∀ a x, ((![v99, v123] : Fin 2 → IVec S16 32) a x).toNat < S320x128.size a) ∧
  (∀ (k0_h20 : k0_cond20 v14 k0_t7 = 1#1), ∀ a x, ((![v99, v123] : Fin 2 → IVec S16 32) a x).toNat < S320x128.size a) ∧
  (∀ (k0_h20 : k0_cond20 v14 k0_t7 = 1#1), ∀ a x, ((![v99, v123] : Fin 2 → IVec S16 32) a x).toNat < S320x128.size a) ∧
  (∀ (k0_h20 : k0_cond20 v14 k0_t7 = 1#1), ∀ a x, ((![v99, v123] : Fin 2 → IVec S16 32) a x).toNat < S320x128.size a)
theorem k0_idx974_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v100, v123] : Fin 2 → IVec S16 32) a x).toNat < S16x128.size a := fun v14 k0_t7 v99 v100 v123 k0_hw199 k0_h20 => k0_hw199.1 k0_h20
theorem k0_idx975_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v99, v123] : Fin 2 → IVec S16 32) a x).toNat < S320x128.size a := fun v14 k0_t7 v99 v100 v123 k0_hw199 k0_h20 => k0_hw199.2.1 k0_h20
theorem k0_idx976_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v99, v123] : Fin 2 → IVec S16 32) a x).toNat < S320x128.size a := fun v14 k0_t7 v99 v100 v123 k0_hw199 k0_h20 => k0_hw199.2.2.1 k0_h20
theorem k0_idx977_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v99, v123] : Fin 2 → IVec S16 32) a x).toNat < S320x128.size a := fun v14 k0_t7 v99 v100 v123 k0_hw199 k0_h20 => k0_hw199.2.2.2.1 k0_h20
theorem k0_idx978_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v99, v123] : Fin 2 → IVec S16 32) a x).toNat < S320x128.size a := fun v14 k0_t7 v99 v100 v123 k0_hw199 k0_h20 => k0_hw199.2.2.2.2.1 k0_h20
theorem k0_idx979_inb : ∀ (v14 : BitVec 32) (k0_t7 : Fin (k0_t7_loop v14).trips) (v99 : IVec S16 32) (v100 : IVec S16 32) (v123 : IVec S16 32) (k0_hw199 : k0_chk199 v14 k0_t7 v99 v100 v123), ∀ (k0_h20 : k0_cond20 v14 k0_t7 = 1#1), ∀ a x, ((![v99, v123] : Fin 2 → IVec S16 32) a x).toNat < S320x128.size a := fun v14 k0_t7 v99 v100 v123 k0_hw199 k0_h20 => k0_hw199.2.2.2.2.2 k0_h20

def k0_chk200 (v14 : BitVec 32) (k0_t7 : Fin (k0_t7_loop v14).trips) (v99 : IVec S16 32) (v100 : IVec S16 32) (v130 : IVec S16 32) : Prop :=
  (∀ (k0_h20 : k0_cond20 v14 k0_t7 = 1#1), ∀ a x, ((![v100, v130] : Fin 2 → IVec S16 32) a x).toNat < S16x128.size a) ∧
  (∀ (k0_h20 : k0_cond20 v14 k0_t7 = 1#1), ∀ a x, ((![v99, v130] : Fin 2 → IVec S16 32) a x).toNat < S320x128.size a) ∧
  (∀ (k0_h20 : k0_cond20 v14 k0_t7 = 1#1), ∀ a x, ((![v99, v130] : Fin 2 → IVec S16 32) a x).toNat < S320x128.size a) ∧
  (∀ (k0_h20 : k0_cond20 v14 k0_t7 = 1#1), ∀ a x, ((![v99, v130] : Fin 2 → IVec S16 32) a x).toNat < S320x128.size a) ∧
  (∀ (k0_h20 : k0_cond20 v14 k0_t7 = 1#1), ∀ a x, ((![v99, v130] : Fin 2 → IVec S16 32) a x).toNat < S320x128.size a) ∧
  (∀ (k0_h20 : k0_cond20 v14 k0_t7 = 1#1), ∀ a x, ((![v99, v130] : Fin 2 → IVec S16 32) a x).toNat < S320x128.size a)
theorem k0_idx980_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v100, v130] : Fin 2 → IVec S16 32) a x).toNat < S16x128.size a := fun v14 k0_t7 v99 v100 v130 k0_hw200 k0_h20 => k0_hw200.1 k0_h20
theorem k0_idx981_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v99, v130] : Fin 2 → IVec S16 32) a x).toNat < S320x128.size a := fun v14 k0_t7 v99 v100 v130 k0_hw200 k0_h20 => k0_hw200.2.1 k0_h20
theorem k0_idx982_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v99, v130] : Fin 2 → IVec S16 32) a x).toNat < S320x128.size a := fun v14 k0_t7 v99 v100 v130 k0_hw200 k0_h20 => k0_hw200.2.2.1 k0_h20
theorem k0_idx983_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v99, v130] : Fin 2 → IVec S16 32) a x).toNat < S320x128.size a := fun v14 k0_t7 v99 v100 v130 k0_hw200 k0_h20 => k0_hw200.2.2.2.1 k0_h20
theorem k0_idx984_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v99, v130] : Fin 2 → IVec S16 32) a x).toNat < S320x128.size a := fun v14 k0_t7 v99 v100 v130 k0_hw200 k0_h20 => k0_hw200.2.2.2.2.1 k0_h20
theorem k0_idx985_inb : ∀ (v14 : BitVec 32) (k0_t7 : Fin (k0_t7_loop v14).trips) (v99 : IVec S16 32) (v100 : IVec S16 32) (v130 : IVec S16 32) (k0_hw200 : k0_chk200 v14 k0_t7 v99 v100 v130), ∀ (k0_h20 : k0_cond20 v14 k0_t7 = 1#1), ∀ a x, ((![v99, v130] : Fin 2 → IVec S16 32) a x).toNat < S320x128.size a := fun v14 k0_t7 v99 v100 v130 k0_hw200 k0_h20 => k0_hw200.2.2.2.2.2 k0_h20

def k0_chk201 (v14 : BitVec 32) (k0_t7 : Fin (k0_t7_loop v14).trips) (v99 : IVec S16 32) (v100 : IVec S16 32) (v137 : IVec S16 32) : Prop :=
  (∀ (k0_h20 : k0_cond20 v14 k0_t7 = 1#1), ∀ a x, ((![v100, v137] : Fin 2 → IVec S16 32) a x).toNat < S16x128.size a) ∧
  (∀ (k0_h20 : k0_cond20 v14 k0_t7 = 1#1), ∀ a x, ((![v99, v137] : Fin 2 → IVec S16 32) a x).toNat < S320x128.size a) ∧
  (∀ (k0_h20 : k0_cond20 v14 k0_t7 = 1#1), ∀ a x, ((![v99, v137] : Fin 2 → IVec S16 32) a x).toNat < S320x128.size a) ∧
  (∀ (k0_h20 : k0_cond20 v14 k0_t7 = 1#1), ∀ a x, ((![v99, v137] : Fin 2 → IVec S16 32) a x).toNat < S320x128.size a) ∧
  (∀ (k0_h20 : k0_cond20 v14 k0_t7 = 1#1), ∀ a x, ((![v99, v137] : Fin 2 → IVec S16 32) a x).toNat < S320x128.size a) ∧
  (∀ (k0_h20 : k0_cond20 v14 k0_t7 = 1#1), ∀ a x, ((![v99, v137] : Fin 2 → IVec S16 32) a x).toNat < S320x128.size a)
theorem k0_idx986_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v100, v137] : Fin 2 → IVec S16 32) a x).toNat < S16x128.size a := fun v14 k0_t7 v99 v100 v137 k0_hw201 k0_h20 => k0_hw201.1 k0_h20
theorem k0_idx987_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v99, v137] : Fin 2 → IVec S16 32) a x).toNat < S320x128.size a := fun v14 k0_t7 v99 v100 v137 k0_hw201 k0_h20 => k0_hw201.2.1 k0_h20
theorem k0_idx988_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v99, v137] : Fin 2 → IVec S16 32) a x).toNat < S320x128.size a := fun v14 k0_t7 v99 v100 v137 k0_hw201 k0_h20 => k0_hw201.2.2.1 k0_h20
theorem k0_idx989_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v99, v137] : Fin 2 → IVec S16 32) a x).toNat < S320x128.size a := fun v14 k0_t7 v99 v100 v137 k0_hw201 k0_h20 => k0_hw201.2.2.2.1 k0_h20
theorem k0_idx990_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v99, v137] : Fin 2 → IVec S16 32) a x).toNat < S320x128.size a := fun v14 k0_t7 v99 v100 v137 k0_hw201 k0_h20 => k0_hw201.2.2.2.2.1 k0_h20
theorem k0_idx991_inb : ∀ (v14 : BitVec 32) (k0_t7 : Fin (k0_t7_loop v14).trips) (v99 : IVec S16 32) (v100 : IVec S16 32) (v137 : IVec S16 32) (k0_hw201 : k0_chk201 v14 k0_t7 v99 v100 v137), ∀ (k0_h20 : k0_cond20 v14 k0_t7 = 1#1), ∀ a x, ((![v99, v137] : Fin 2 → IVec S16 32) a x).toNat < S320x128.size a := fun v14 k0_t7 v99 v100 v137 k0_hw201 k0_h20 => k0_hw201.2.2.2.2.2 k0_h20

def k0_chk202 (v14 : BitVec 32) (k0_t7 : Fin (k0_t7_loop v14).trips) (v99 : IVec S16 32) (v100 : IVec S16 32) (v144 : IVec S16 32) : Prop :=
  (∀ (k0_h20 : k0_cond20 v14 k0_t7 = 1#1), ∀ a x, ((![v100, v144] : Fin 2 → IVec S16 32) a x).toNat < S16x128.size a) ∧
  (∀ (k0_h20 : k0_cond20 v14 k0_t7 = 1#1), ∀ a x, ((![v99, v144] : Fin 2 → IVec S16 32) a x).toNat < S320x128.size a) ∧
  (∀ (k0_h20 : k0_cond20 v14 k0_t7 = 1#1), ∀ a x, ((![v99, v144] : Fin 2 → IVec S16 32) a x).toNat < S320x128.size a) ∧
  (∀ (k0_h20 : k0_cond20 v14 k0_t7 = 1#1), ∀ a x, ((![v99, v144] : Fin 2 → IVec S16 32) a x).toNat < S320x128.size a) ∧
  (∀ (k0_h20 : k0_cond20 v14 k0_t7 = 1#1), ∀ a x, ((![v99, v144] : Fin 2 → IVec S16 32) a x).toNat < S320x128.size a) ∧
  (∀ (k0_h20 : k0_cond20 v14 k0_t7 = 1#1), ∀ a x, ((![v99, v144] : Fin 2 → IVec S16 32) a x).toNat < S320x128.size a)
theorem k0_idx992_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v100, v144] : Fin 2 → IVec S16 32) a x).toNat < S16x128.size a := fun v14 k0_t7 v99 v100 v144 k0_hw202 k0_h20 => k0_hw202.1 k0_h20
theorem k0_idx993_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v99, v144] : Fin 2 → IVec S16 32) a x).toNat < S320x128.size a := fun v14 k0_t7 v99 v100 v144 k0_hw202 k0_h20 => k0_hw202.2.1 k0_h20
theorem k0_idx994_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v99, v144] : Fin 2 → IVec S16 32) a x).toNat < S320x128.size a := fun v14 k0_t7 v99 v100 v144 k0_hw202 k0_h20 => k0_hw202.2.2.1 k0_h20
theorem k0_idx995_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v99, v144] : Fin 2 → IVec S16 32) a x).toNat < S320x128.size a := fun v14 k0_t7 v99 v100 v144 k0_hw202 k0_h20 => k0_hw202.2.2.2.1 k0_h20
theorem k0_idx996_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v99, v144] : Fin 2 → IVec S16 32) a x).toNat < S320x128.size a := fun v14 k0_t7 v99 v100 v144 k0_hw202 k0_h20 => k0_hw202.2.2.2.2.1 k0_h20
theorem k0_idx997_inb : ∀ (v14 : BitVec 32) (k0_t7 : Fin (k0_t7_loop v14).trips) (v99 : IVec S16 32) (v100 : IVec S16 32) (v144 : IVec S16 32) (k0_hw202 : k0_chk202 v14 k0_t7 v99 v100 v144), ∀ (k0_h20 : k0_cond20 v14 k0_t7 = 1#1), ∀ a x, ((![v99, v144] : Fin 2 → IVec S16 32) a x).toNat < S320x128.size a := fun v14 k0_t7 v99 v100 v144 k0_hw202 k0_h20 => k0_hw202.2.2.2.2.2 k0_h20

def k0_chk203 (v14 : BitVec 32) (k0_t7 : Fin (k0_t7_loop v14).trips) (v99 : IVec S16 32) (v100 : IVec S16 32) (v151 : IVec S16 32) : Prop :=
  (∀ (k0_h20 : k0_cond20 v14 k0_t7 = 1#1), ∀ a x, ((![v100, v151] : Fin 2 → IVec S16 32) a x).toNat < S16x128.size a) ∧
  (∀ (k0_h20 : k0_cond20 v14 k0_t7 = 1#1), ∀ a x, ((![v99, v151] : Fin 2 → IVec S16 32) a x).toNat < S320x128.size a) ∧
  (∀ (k0_h20 : k0_cond20 v14 k0_t7 = 1#1), ∀ a x, ((![v99, v151] : Fin 2 → IVec S16 32) a x).toNat < S320x128.size a) ∧
  (∀ (k0_h20 : k0_cond20 v14 k0_t7 = 1#1), ∀ a x, ((![v99, v151] : Fin 2 → IVec S16 32) a x).toNat < S320x128.size a) ∧
  (∀ (k0_h20 : k0_cond20 v14 k0_t7 = 1#1), ∀ a x, ((![v99, v151] : Fin 2 → IVec S16 32) a x).toNat < S320x128.size a) ∧
  (∀ (k0_h20 : k0_cond20 v14 k0_t7 = 1#1), ∀ a x, ((![v99, v151] : Fin 2 → IVec S16 32) a x).toNat < S320x128.size a)
theorem k0_idx998_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v100, v151] : Fin 2 → IVec S16 32) a x).toNat < S16x128.size a := fun v14 k0_t7 v99 v100 v151 k0_hw203 k0_h20 => k0_hw203.1 k0_h20
theorem k0_idx999_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v99, v151] : Fin 2 → IVec S16 32) a x).toNat < S320x128.size a := fun v14 k0_t7 v99 v100 v151 k0_hw203 k0_h20 => k0_hw203.2.1 k0_h20
theorem k0_idx1000_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v99, v151] : Fin 2 → IVec S16 32) a x).toNat < S320x128.size a := fun v14 k0_t7 v99 v100 v151 k0_hw203 k0_h20 => k0_hw203.2.2.1 k0_h20
theorem k0_idx1001_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v99, v151] : Fin 2 → IVec S16 32) a x).toNat < S320x128.size a := fun v14 k0_t7 v99 v100 v151 k0_hw203 k0_h20 => k0_hw203.2.2.2.1 k0_h20
theorem k0_idx1002_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v99, v151] : Fin 2 → IVec S16 32) a x).toNat < S320x128.size a := fun v14 k0_t7 v99 v100 v151 k0_hw203 k0_h20 => k0_hw203.2.2.2.2.1 k0_h20
theorem k0_idx1003_inb : ∀ (v14 : BitVec 32) (k0_t7 : Fin (k0_t7_loop v14).trips) (v99 : IVec S16 32) (v100 : IVec S16 32) (v151 : IVec S16 32) (k0_hw203 : k0_chk203 v14 k0_t7 v99 v100 v151), ∀ (k0_h20 : k0_cond20 v14 k0_t7 = 1#1), ∀ a x, ((![v99, v151] : Fin 2 → IVec S16 32) a x).toNat < S320x128.size a := fun v14 k0_t7 v99 v100 v151 k0_hw203 k0_h20 => k0_hw203.2.2.2.2.2 k0_h20

def k0_chk204 (v14 : BitVec 32) (k0_t7 : Fin (k0_t7_loop v14).trips) (v99 : IVec S16 32) : Prop :=
  (∀ (k0_h20 : k0_cond20 v14 k0_t7 = 1#1), ∀ a x, ((![v99] : Fin 1 → IVec S16 32) a x).toNat < S320.size a)
theorem k0_idx1004_inb : ∀ (v14 : BitVec 32) (k0_t7 : Fin (k0_t7_loop v14).trips) (v99 : IVec S16 32) (k0_hw204 : k0_chk204 v14 k0_t7 v99), ∀ (k0_h20 : k0_cond20 v14 k0_t7 = 1#1), ∀ a x, ((![v99] : Fin 1 → IVec S16 32) a x).toNat < S320.size a := fun v14 k0_t7 v99 k0_hw204 k0_h20 => k0_hw204 k0_h20
def k0_cond21 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c4_i32 : BitVec 32 := 4#32
  let v61 : BitVec 1 := Scalar.cmpi .sgt v45 c4_i32
  let v62 : BitVec 32 := Scalar.extui v61
  let c0_i32_47 : BitVec 32 := 0#32
  let v63 : BitVec 1 := Scalar.cmpi .ne v62 c0_i32_47
  v63

def k0_chk205 (v14 : BitVec 32) (k0_t7 : Fin (k0_t7_loop v14).trips) (v98 : IVec S16 32) : Prop :=
  (∀ (k0_h21 : k0_cond21 v14 k0_t7 = 1#1), ∀ a x, ((![v98] : Fin 1 → IVec S16 32) a x).toNat < S528.size a)
theorem k0_idx1005_inb : ∀ (v14 : BitVec 32) (k0_t7 : Fin (k0_t7_loop v14).trips) (v98 : IVec S16 32) (k0_hw205 : k0_chk205 v14 k0_t7 v98), ∀ (k0_h21 : k0_cond21 v14 k0_t7 = 1#1), ∀ a x, ((![v98] : Fin 1 → IVec S16 32) a x).toNat < S528.size a := fun v14 k0_t7 v98 k0_hw205 k0_h21 => k0_hw205 k0_h21

def k0_chk206 (v14 : BitVec 32) (k0_t7 : Fin (k0_t7_loop v14).trips) (v99 : IVec S16 32) (v100 : IVec S16 32) (v102 : IVec S16 32) : Prop :=
  (∀ (k0_h21 : k0_cond21 v14 k0_t7 = 1#1), ∀ a x, ((![v100, v102] : Fin 2 → IVec S16 32) a x).toNat < S16x128.size a) ∧
  (∀ (k0_h21 : k0_cond21 v14 k0_t7 = 1#1), ∀ a x, ((![v99, v102] : Fin 2 → IVec S16 32) a x).toNat < S320x128.size a) ∧
  (∀ (k0_h21 : k0_cond21 v14 k0_t7 = 1#1), ∀ a x, ((![v99, v102] : Fin 2 → IVec S16 32) a x).toNat < S320x128.size a) ∧
  (∀ (k0_h21 : k0_cond21 v14 k0_t7 = 1#1), ∀ a x, ((![v99, v102] : Fin 2 → IVec S16 32) a x).toNat < S320x128.size a) ∧
  (∀ (k0_h21 : k0_cond21 v14 k0_t7 = 1#1), ∀ a x, ((![v99, v102] : Fin 2 → IVec S16 32) a x).toNat < S320x128.size a) ∧
  (∀ (k0_h21 : k0_cond21 v14 k0_t7 = 1#1), ∀ a x, ((![v99, v102] : Fin 2 → IVec S16 32) a x).toNat < S320x128.size a)
theorem k0_idx1006_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v100, v102] : Fin 2 → IVec S16 32) a x).toNat < S16x128.size a := fun v14 k0_t7 v99 v100 v102 k0_hw206 k0_h21 => k0_hw206.1 k0_h21
theorem k0_idx1007_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v99, v102] : Fin 2 → IVec S16 32) a x).toNat < S320x128.size a := fun v14 k0_t7 v99 v100 v102 k0_hw206 k0_h21 => k0_hw206.2.1 k0_h21
theorem k0_idx1008_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v99, v102] : Fin 2 → IVec S16 32) a x).toNat < S320x128.size a := fun v14 k0_t7 v99 v100 v102 k0_hw206 k0_h21 => k0_hw206.2.2.1 k0_h21
theorem k0_idx1009_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v99, v102] : Fin 2 → IVec S16 32) a x).toNat < S320x128.size a := fun v14 k0_t7 v99 v100 v102 k0_hw206 k0_h21 => k0_hw206.2.2.2.1 k0_h21
theorem k0_idx1010_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v99, v102] : Fin 2 → IVec S16 32) a x).toNat < S320x128.size a := fun v14 k0_t7 v99 v100 v102 k0_hw206 k0_h21 => k0_hw206.2.2.2.2.1 k0_h21
theorem k0_idx1011_inb : ∀ (v14 : BitVec 32) (k0_t7 : Fin (k0_t7_loop v14).trips) (v99 : IVec S16 32) (v100 : IVec S16 32) (v102 : IVec S16 32) (k0_hw206 : k0_chk206 v14 k0_t7 v99 v100 v102), ∀ (k0_h21 : k0_cond21 v14 k0_t7 = 1#1), ∀ a x, ((![v99, v102] : Fin 2 → IVec S16 32) a x).toNat < S320x128.size a := fun v14 k0_t7 v99 v100 v102 k0_hw206 k0_h21 => k0_hw206.2.2.2.2.2 k0_h21

def k0_chk207 (v14 : BitVec 32) (k0_t7 : Fin (k0_t7_loop v14).trips) (v99 : IVec S16 32) (v100 : IVec S16 32) (v109 : IVec S16 32) : Prop :=
  (∀ (k0_h21 : k0_cond21 v14 k0_t7 = 1#1), ∀ a x, ((![v100, v109] : Fin 2 → IVec S16 32) a x).toNat < S16x128.size a) ∧
  (∀ (k0_h21 : k0_cond21 v14 k0_t7 = 1#1), ∀ a x, ((![v99, v109] : Fin 2 → IVec S16 32) a x).toNat < S320x128.size a) ∧
  (∀ (k0_h21 : k0_cond21 v14 k0_t7 = 1#1), ∀ a x, ((![v99, v109] : Fin 2 → IVec S16 32) a x).toNat < S320x128.size a) ∧
  (∀ (k0_h21 : k0_cond21 v14 k0_t7 = 1#1), ∀ a x, ((![v99, v109] : Fin 2 → IVec S16 32) a x).toNat < S320x128.size a) ∧
  (∀ (k0_h21 : k0_cond21 v14 k0_t7 = 1#1), ∀ a x, ((![v99, v109] : Fin 2 → IVec S16 32) a x).toNat < S320x128.size a) ∧
  (∀ (k0_h21 : k0_cond21 v14 k0_t7 = 1#1), ∀ a x, ((![v99, v109] : Fin 2 → IVec S16 32) a x).toNat < S320x128.size a)
theorem k0_idx1012_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v100, v109] : Fin 2 → IVec S16 32) a x).toNat < S16x128.size a := fun v14 k0_t7 v99 v100 v109 k0_hw207 k0_h21 => k0_hw207.1 k0_h21
theorem k0_idx1013_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v99, v109] : Fin 2 → IVec S16 32) a x).toNat < S320x128.size a := fun v14 k0_t7 v99 v100 v109 k0_hw207 k0_h21 => k0_hw207.2.1 k0_h21
theorem k0_idx1014_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v99, v109] : Fin 2 → IVec S16 32) a x).toNat < S320x128.size a := fun v14 k0_t7 v99 v100 v109 k0_hw207 k0_h21 => k0_hw207.2.2.1 k0_h21
theorem k0_idx1015_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v99, v109] : Fin 2 → IVec S16 32) a x).toNat < S320x128.size a := fun v14 k0_t7 v99 v100 v109 k0_hw207 k0_h21 => k0_hw207.2.2.2.1 k0_h21
theorem k0_idx1016_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v99, v109] : Fin 2 → IVec S16 32) a x).toNat < S320x128.size a := fun v14 k0_t7 v99 v100 v109 k0_hw207 k0_h21 => k0_hw207.2.2.2.2.1 k0_h21
theorem k0_idx1017_inb : ∀ (v14 : BitVec 32) (k0_t7 : Fin (k0_t7_loop v14).trips) (v99 : IVec S16 32) (v100 : IVec S16 32) (v109 : IVec S16 32) (k0_hw207 : k0_chk207 v14 k0_t7 v99 v100 v109), ∀ (k0_h21 : k0_cond21 v14 k0_t7 = 1#1), ∀ a x, ((![v99, v109] : Fin 2 → IVec S16 32) a x).toNat < S320x128.size a := fun v14 k0_t7 v99 v100 v109 k0_hw207 k0_h21 => k0_hw207.2.2.2.2.2 k0_h21

def k0_chk208 (v14 : BitVec 32) (k0_t7 : Fin (k0_t7_loop v14).trips) (v99 : IVec S16 32) (v100 : IVec S16 32) (v116 : IVec S16 32) : Prop :=
  (∀ (k0_h21 : k0_cond21 v14 k0_t7 = 1#1), ∀ a x, ((![v100, v116] : Fin 2 → IVec S16 32) a x).toNat < S16x128.size a) ∧
  (∀ (k0_h21 : k0_cond21 v14 k0_t7 = 1#1), ∀ a x, ((![v99, v116] : Fin 2 → IVec S16 32) a x).toNat < S320x128.size a) ∧
  (∀ (k0_h21 : k0_cond21 v14 k0_t7 = 1#1), ∀ a x, ((![v99, v116] : Fin 2 → IVec S16 32) a x).toNat < S320x128.size a) ∧
  (∀ (k0_h21 : k0_cond21 v14 k0_t7 = 1#1), ∀ a x, ((![v99, v116] : Fin 2 → IVec S16 32) a x).toNat < S320x128.size a) ∧
  (∀ (k0_h21 : k0_cond21 v14 k0_t7 = 1#1), ∀ a x, ((![v99, v116] : Fin 2 → IVec S16 32) a x).toNat < S320x128.size a) ∧
  (∀ (k0_h21 : k0_cond21 v14 k0_t7 = 1#1), ∀ a x, ((![v99, v116] : Fin 2 → IVec S16 32) a x).toNat < S320x128.size a)
theorem k0_idx1018_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v100, v116] : Fin 2 → IVec S16 32) a x).toNat < S16x128.size a := fun v14 k0_t7 v99 v100 v116 k0_hw208 k0_h21 => k0_hw208.1 k0_h21
theorem k0_idx1019_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v99, v116] : Fin 2 → IVec S16 32) a x).toNat < S320x128.size a := fun v14 k0_t7 v99 v100 v116 k0_hw208 k0_h21 => k0_hw208.2.1 k0_h21
theorem k0_idx1020_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v99, v116] : Fin 2 → IVec S16 32) a x).toNat < S320x128.size a := fun v14 k0_t7 v99 v100 v116 k0_hw208 k0_h21 => k0_hw208.2.2.1 k0_h21
theorem k0_idx1021_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v99, v116] : Fin 2 → IVec S16 32) a x).toNat < S320x128.size a := fun v14 k0_t7 v99 v100 v116 k0_hw208 k0_h21 => k0_hw208.2.2.2.1 k0_h21
theorem k0_idx1022_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v99, v116] : Fin 2 → IVec S16 32) a x).toNat < S320x128.size a := fun v14 k0_t7 v99 v100 v116 k0_hw208 k0_h21 => k0_hw208.2.2.2.2.1 k0_h21
theorem k0_idx1023_inb : ∀ (v14 : BitVec 32) (k0_t7 : Fin (k0_t7_loop v14).trips) (v99 : IVec S16 32) (v100 : IVec S16 32) (v116 : IVec S16 32) (k0_hw208 : k0_chk208 v14 k0_t7 v99 v100 v116), ∀ (k0_h21 : k0_cond21 v14 k0_t7 = 1#1), ∀ a x, ((![v99, v116] : Fin 2 → IVec S16 32) a x).toNat < S320x128.size a := fun v14 k0_t7 v99 v100 v116 k0_hw208 k0_h21 => k0_hw208.2.2.2.2.2 k0_h21

def k0_chk209 (v14 : BitVec 32) (k0_t7 : Fin (k0_t7_loop v14).trips) (v99 : IVec S16 32) (v100 : IVec S16 32) (v123 : IVec S16 32) : Prop :=
  (∀ (k0_h21 : k0_cond21 v14 k0_t7 = 1#1), ∀ a x, ((![v100, v123] : Fin 2 → IVec S16 32) a x).toNat < S16x128.size a) ∧
  (∀ (k0_h21 : k0_cond21 v14 k0_t7 = 1#1), ∀ a x, ((![v99, v123] : Fin 2 → IVec S16 32) a x).toNat < S320x128.size a) ∧
  (∀ (k0_h21 : k0_cond21 v14 k0_t7 = 1#1), ∀ a x, ((![v99, v123] : Fin 2 → IVec S16 32) a x).toNat < S320x128.size a) ∧
  (∀ (k0_h21 : k0_cond21 v14 k0_t7 = 1#1), ∀ a x, ((![v99, v123] : Fin 2 → IVec S16 32) a x).toNat < S320x128.size a) ∧
  (∀ (k0_h21 : k0_cond21 v14 k0_t7 = 1#1), ∀ a x, ((![v99, v123] : Fin 2 → IVec S16 32) a x).toNat < S320x128.size a) ∧
  (∀ (k0_h21 : k0_cond21 v14 k0_t7 = 1#1), ∀ a x, ((![v99, v123] : Fin 2 → IVec S16 32) a x).toNat < S320x128.size a)
theorem k0_idx1024_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v100, v123] : Fin 2 → IVec S16 32) a x).toNat < S16x128.size a := fun v14 k0_t7 v99 v100 v123 k0_hw209 k0_h21 => k0_hw209.1 k0_h21
theorem k0_idx1025_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v99, v123] : Fin 2 → IVec S16 32) a x).toNat < S320x128.size a := fun v14 k0_t7 v99 v100 v123 k0_hw209 k0_h21 => k0_hw209.2.1 k0_h21
theorem k0_idx1026_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v99, v123] : Fin 2 → IVec S16 32) a x).toNat < S320x128.size a := fun v14 k0_t7 v99 v100 v123 k0_hw209 k0_h21 => k0_hw209.2.2.1 k0_h21
theorem k0_idx1027_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v99, v123] : Fin 2 → IVec S16 32) a x).toNat < S320x128.size a := fun v14 k0_t7 v99 v100 v123 k0_hw209 k0_h21 => k0_hw209.2.2.2.1 k0_h21
theorem k0_idx1028_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v99, v123] : Fin 2 → IVec S16 32) a x).toNat < S320x128.size a := fun v14 k0_t7 v99 v100 v123 k0_hw209 k0_h21 => k0_hw209.2.2.2.2.1 k0_h21
theorem k0_idx1029_inb : ∀ (v14 : BitVec 32) (k0_t7 : Fin (k0_t7_loop v14).trips) (v99 : IVec S16 32) (v100 : IVec S16 32) (v123 : IVec S16 32) (k0_hw209 : k0_chk209 v14 k0_t7 v99 v100 v123), ∀ (k0_h21 : k0_cond21 v14 k0_t7 = 1#1), ∀ a x, ((![v99, v123] : Fin 2 → IVec S16 32) a x).toNat < S320x128.size a := fun v14 k0_t7 v99 v100 v123 k0_hw209 k0_h21 => k0_hw209.2.2.2.2.2 k0_h21

def k0_chk210 (v14 : BitVec 32) (k0_t7 : Fin (k0_t7_loop v14).trips) (v99 : IVec S16 32) (v100 : IVec S16 32) (v130 : IVec S16 32) : Prop :=
  (∀ (k0_h21 : k0_cond21 v14 k0_t7 = 1#1), ∀ a x, ((![v100, v130] : Fin 2 → IVec S16 32) a x).toNat < S16x128.size a) ∧
  (∀ (k0_h21 : k0_cond21 v14 k0_t7 = 1#1), ∀ a x, ((![v99, v130] : Fin 2 → IVec S16 32) a x).toNat < S320x128.size a) ∧
  (∀ (k0_h21 : k0_cond21 v14 k0_t7 = 1#1), ∀ a x, ((![v99, v130] : Fin 2 → IVec S16 32) a x).toNat < S320x128.size a) ∧
  (∀ (k0_h21 : k0_cond21 v14 k0_t7 = 1#1), ∀ a x, ((![v99, v130] : Fin 2 → IVec S16 32) a x).toNat < S320x128.size a) ∧
  (∀ (k0_h21 : k0_cond21 v14 k0_t7 = 1#1), ∀ a x, ((![v99, v130] : Fin 2 → IVec S16 32) a x).toNat < S320x128.size a) ∧
  (∀ (k0_h21 : k0_cond21 v14 k0_t7 = 1#1), ∀ a x, ((![v99, v130] : Fin 2 → IVec S16 32) a x).toNat < S320x128.size a)
theorem k0_idx1030_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v100, v130] : Fin 2 → IVec S16 32) a x).toNat < S16x128.size a := fun v14 k0_t7 v99 v100 v130 k0_hw210 k0_h21 => k0_hw210.1 k0_h21
theorem k0_idx1031_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v99, v130] : Fin 2 → IVec S16 32) a x).toNat < S320x128.size a := fun v14 k0_t7 v99 v100 v130 k0_hw210 k0_h21 => k0_hw210.2.1 k0_h21
theorem k0_idx1032_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v99, v130] : Fin 2 → IVec S16 32) a x).toNat < S320x128.size a := fun v14 k0_t7 v99 v100 v130 k0_hw210 k0_h21 => k0_hw210.2.2.1 k0_h21
theorem k0_idx1033_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v99, v130] : Fin 2 → IVec S16 32) a x).toNat < S320x128.size a := fun v14 k0_t7 v99 v100 v130 k0_hw210 k0_h21 => k0_hw210.2.2.2.1 k0_h21
theorem k0_idx1034_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v99, v130] : Fin 2 → IVec S16 32) a x).toNat < S320x128.size a := fun v14 k0_t7 v99 v100 v130 k0_hw210 k0_h21 => k0_hw210.2.2.2.2.1 k0_h21
theorem k0_idx1035_inb : ∀ (v14 : BitVec 32) (k0_t7 : Fin (k0_t7_loop v14).trips) (v99 : IVec S16 32) (v100 : IVec S16 32) (v130 : IVec S16 32) (k0_hw210 : k0_chk210 v14 k0_t7 v99 v100 v130), ∀ (k0_h21 : k0_cond21 v14 k0_t7 = 1#1), ∀ a x, ((![v99, v130] : Fin 2 → IVec S16 32) a x).toNat < S320x128.size a := fun v14 k0_t7 v99 v100 v130 k0_hw210 k0_h21 => k0_hw210.2.2.2.2.2 k0_h21

def k0_chk211 (v14 : BitVec 32) (k0_t7 : Fin (k0_t7_loop v14).trips) (v99 : IVec S16 32) (v100 : IVec S16 32) (v137 : IVec S16 32) : Prop :=
  (∀ (k0_h21 : k0_cond21 v14 k0_t7 = 1#1), ∀ a x, ((![v100, v137] : Fin 2 → IVec S16 32) a x).toNat < S16x128.size a) ∧
  (∀ (k0_h21 : k0_cond21 v14 k0_t7 = 1#1), ∀ a x, ((![v99, v137] : Fin 2 → IVec S16 32) a x).toNat < S320x128.size a) ∧
  (∀ (k0_h21 : k0_cond21 v14 k0_t7 = 1#1), ∀ a x, ((![v99, v137] : Fin 2 → IVec S16 32) a x).toNat < S320x128.size a) ∧
  (∀ (k0_h21 : k0_cond21 v14 k0_t7 = 1#1), ∀ a x, ((![v99, v137] : Fin 2 → IVec S16 32) a x).toNat < S320x128.size a) ∧
  (∀ (k0_h21 : k0_cond21 v14 k0_t7 = 1#1), ∀ a x, ((![v99, v137] : Fin 2 → IVec S16 32) a x).toNat < S320x128.size a) ∧
  (∀ (k0_h21 : k0_cond21 v14 k0_t7 = 1#1), ∀ a x, ((![v99, v137] : Fin 2 → IVec S16 32) a x).toNat < S320x128.size a)
theorem k0_idx1036_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v100, v137] : Fin 2 → IVec S16 32) a x).toNat < S16x128.size a := fun v14 k0_t7 v99 v100 v137 k0_hw211 k0_h21 => k0_hw211.1 k0_h21
theorem k0_idx1037_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v99, v137] : Fin 2 → IVec S16 32) a x).toNat < S320x128.size a := fun v14 k0_t7 v99 v100 v137 k0_hw211 k0_h21 => k0_hw211.2.1 k0_h21
theorem k0_idx1038_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v99, v137] : Fin 2 → IVec S16 32) a x).toNat < S320x128.size a := fun v14 k0_t7 v99 v100 v137 k0_hw211 k0_h21 => k0_hw211.2.2.1 k0_h21
theorem k0_idx1039_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v99, v137] : Fin 2 → IVec S16 32) a x).toNat < S320x128.size a := fun v14 k0_t7 v99 v100 v137 k0_hw211 k0_h21 => k0_hw211.2.2.2.1 k0_h21
theorem k0_idx1040_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v99, v137] : Fin 2 → IVec S16 32) a x).toNat < S320x128.size a := fun v14 k0_t7 v99 v100 v137 k0_hw211 k0_h21 => k0_hw211.2.2.2.2.1 k0_h21
theorem k0_idx1041_inb : ∀ (v14 : BitVec 32) (k0_t7 : Fin (k0_t7_loop v14).trips) (v99 : IVec S16 32) (v100 : IVec S16 32) (v137 : IVec S16 32) (k0_hw211 : k0_chk211 v14 k0_t7 v99 v100 v137), ∀ (k0_h21 : k0_cond21 v14 k0_t7 = 1#1), ∀ a x, ((![v99, v137] : Fin 2 → IVec S16 32) a x).toNat < S320x128.size a := fun v14 k0_t7 v99 v100 v137 k0_hw211 k0_h21 => k0_hw211.2.2.2.2.2 k0_h21

def k0_chk212 (v14 : BitVec 32) (k0_t7 : Fin (k0_t7_loop v14).trips) (v99 : IVec S16 32) (v100 : IVec S16 32) (v144 : IVec S16 32) : Prop :=
  (∀ (k0_h21 : k0_cond21 v14 k0_t7 = 1#1), ∀ a x, ((![v100, v144] : Fin 2 → IVec S16 32) a x).toNat < S16x128.size a) ∧
  (∀ (k0_h21 : k0_cond21 v14 k0_t7 = 1#1), ∀ a x, ((![v99, v144] : Fin 2 → IVec S16 32) a x).toNat < S320x128.size a) ∧
  (∀ (k0_h21 : k0_cond21 v14 k0_t7 = 1#1), ∀ a x, ((![v99, v144] : Fin 2 → IVec S16 32) a x).toNat < S320x128.size a) ∧
  (∀ (k0_h21 : k0_cond21 v14 k0_t7 = 1#1), ∀ a x, ((![v99, v144] : Fin 2 → IVec S16 32) a x).toNat < S320x128.size a) ∧
  (∀ (k0_h21 : k0_cond21 v14 k0_t7 = 1#1), ∀ a x, ((![v99, v144] : Fin 2 → IVec S16 32) a x).toNat < S320x128.size a) ∧
  (∀ (k0_h21 : k0_cond21 v14 k0_t7 = 1#1), ∀ a x, ((![v99, v144] : Fin 2 → IVec S16 32) a x).toNat < S320x128.size a)
theorem k0_idx1042_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v100, v144] : Fin 2 → IVec S16 32) a x).toNat < S16x128.size a := fun v14 k0_t7 v99 v100 v144 k0_hw212 k0_h21 => k0_hw212.1 k0_h21
theorem k0_idx1043_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v99, v144] : Fin 2 → IVec S16 32) a x).toNat < S320x128.size a := fun v14 k0_t7 v99 v100 v144 k0_hw212 k0_h21 => k0_hw212.2.1 k0_h21
theorem k0_idx1044_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v99, v144] : Fin 2 → IVec S16 32) a x).toNat < S320x128.size a := fun v14 k0_t7 v99 v100 v144 k0_hw212 k0_h21 => k0_hw212.2.2.1 k0_h21
theorem k0_idx1045_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v99, v144] : Fin 2 → IVec S16 32) a x).toNat < S320x128.size a := fun v14 k0_t7 v99 v100 v144 k0_hw212 k0_h21 => k0_hw212.2.2.2.1 k0_h21
theorem k0_idx1046_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v99, v144] : Fin 2 → IVec S16 32) a x).toNat < S320x128.size a := fun v14 k0_t7 v99 v100 v144 k0_hw212 k0_h21 => k0_hw212.2.2.2.2.1 k0_h21
theorem k0_idx1047_inb : ∀ (v14 : BitVec 32) (k0_t7 : Fin (k0_t7_loop v14).trips) (v99 : IVec S16 32) (v100 : IVec S16 32) (v144 : IVec S16 32) (k0_hw212 : k0_chk212 v14 k0_t7 v99 v100 v144), ∀ (k0_h21 : k0_cond21 v14 k0_t7 = 1#1), ∀ a x, ((![v99, v144] : Fin 2 → IVec S16 32) a x).toNat < S320x128.size a := fun v14 k0_t7 v99 v100 v144 k0_hw212 k0_h21 => k0_hw212.2.2.2.2.2 k0_h21

def k0_chk213 (v14 : BitVec 32) (k0_t7 : Fin (k0_t7_loop v14).trips) (v99 : IVec S16 32) (v100 : IVec S16 32) (v151 : IVec S16 32) : Prop :=
  (∀ (k0_h21 : k0_cond21 v14 k0_t7 = 1#1), ∀ a x, ((![v100, v151] : Fin 2 → IVec S16 32) a x).toNat < S16x128.size a) ∧
  (∀ (k0_h21 : k0_cond21 v14 k0_t7 = 1#1), ∀ a x, ((![v99, v151] : Fin 2 → IVec S16 32) a x).toNat < S320x128.size a) ∧
  (∀ (k0_h21 : k0_cond21 v14 k0_t7 = 1#1), ∀ a x, ((![v99, v151] : Fin 2 → IVec S16 32) a x).toNat < S320x128.size a) ∧
  (∀ (k0_h21 : k0_cond21 v14 k0_t7 = 1#1), ∀ a x, ((![v99, v151] : Fin 2 → IVec S16 32) a x).toNat < S320x128.size a) ∧
  (∀ (k0_h21 : k0_cond21 v14 k0_t7 = 1#1), ∀ a x, ((![v99, v151] : Fin 2 → IVec S16 32) a x).toNat < S320x128.size a) ∧
  (∀ (k0_h21 : k0_cond21 v14 k0_t7 = 1#1), ∀ a x, ((![v99, v151] : Fin 2 → IVec S16 32) a x).toNat < S320x128.size a)
theorem k0_idx1048_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v100, v151] : Fin 2 → IVec S16 32) a x).toNat < S16x128.size a := fun v14 k0_t7 v99 v100 v151 k0_hw213 k0_h21 => k0_hw213.1 k0_h21
theorem k0_idx1049_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v99, v151] : Fin 2 → IVec S16 32) a x).toNat < S320x128.size a := fun v14 k0_t7 v99 v100 v151 k0_hw213 k0_h21 => k0_hw213.2.1 k0_h21
theorem k0_idx1050_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v99, v151] : Fin 2 → IVec S16 32) a x).toNat < S320x128.size a := fun v14 k0_t7 v99 v100 v151 k0_hw213 k0_h21 => k0_hw213.2.2.1 k0_h21
theorem k0_idx1051_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v99, v151] : Fin 2 → IVec S16 32) a x).toNat < S320x128.size a := fun v14 k0_t7 v99 v100 v151 k0_hw213 k0_h21 => k0_hw213.2.2.2.1 k0_h21
theorem k0_idx1052_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v99, v151] : Fin 2 → IVec S16 32) a x).toNat < S320x128.size a := fun v14 k0_t7 v99 v100 v151 k0_hw213 k0_h21 => k0_hw213.2.2.2.2.1 k0_h21
theorem k0_idx1053_inb : ∀ (v14 : BitVec 32) (k0_t7 : Fin (k0_t7_loop v14).trips) (v99 : IVec S16 32) (v100 : IVec S16 32) (v151 : IVec S16 32) (k0_hw213 : k0_chk213 v14 k0_t7 v99 v100 v151), ∀ (k0_h21 : k0_cond21 v14 k0_t7 = 1#1), ∀ a x, ((![v99, v151] : Fin 2 → IVec S16 32) a x).toNat < S320x128.size a := fun v14 k0_t7 v99 v100 v151 k0_hw213 k0_h21 => k0_hw213.2.2.2.2.2 k0_h21

def k0_chk214 (v14 : BitVec 32) (k0_t7 : Fin (k0_t7_loop v14).trips) (v99 : IVec S16 32) : Prop :=
  (∀ (k0_h21 : k0_cond21 v14 k0_t7 = 1#1), ∀ a x, ((![v99] : Fin 1 → IVec S16 32) a x).toNat < S320.size a)
theorem k0_idx1054_inb : ∀ (v14 : BitVec 32) (k0_t7 : Fin (k0_t7_loop v14).trips) (v99 : IVec S16 32) (k0_hw214 : k0_chk214 v14 k0_t7 v99), ∀ (k0_h21 : k0_cond21 v14 k0_t7 = 1#1), ∀ a x, ((![v99] : Fin 1 → IVec S16 32) a x).toNat < S320.size a := fun v14 k0_t7 v99 k0_hw214 k0_h21 => k0_hw214 k0_h21
def k0_cond22 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c5_i32 : BitVec 32 := 5#32
  let v64 : BitVec 1 := Scalar.cmpi .sgt v45 c5_i32
  let v65 : BitVec 32 := Scalar.extui v64
  let c0_i32_48 : BitVec 32 := 0#32
  let v66 : BitVec 1 := Scalar.cmpi .ne v65 c0_i32_48
  v66

def k0_chk215 (v14 : BitVec 32) (k0_t7 : Fin (k0_t7_loop v14).trips) (v98 : IVec S16 32) : Prop :=
  (∀ (k0_h22 : k0_cond22 v14 k0_t7 = 1#1), ∀ a x, ((![v98] : Fin 1 → IVec S16 32) a x).toNat < S528.size a)
theorem k0_idx1055_inb : ∀ (v14 : BitVec 32) (k0_t7 : Fin (k0_t7_loop v14).trips) (v98 : IVec S16 32) (k0_hw215 : k0_chk215 v14 k0_t7 v98), ∀ (k0_h22 : k0_cond22 v14 k0_t7 = 1#1), ∀ a x, ((![v98] : Fin 1 → IVec S16 32) a x).toNat < S528.size a := fun v14 k0_t7 v98 k0_hw215 k0_h22 => k0_hw215 k0_h22

def k0_chk216 (v14 : BitVec 32) (k0_t7 : Fin (k0_t7_loop v14).trips) (v99 : IVec S16 32) (v100 : IVec S16 32) (v102 : IVec S16 32) : Prop :=
  (∀ (k0_h22 : k0_cond22 v14 k0_t7 = 1#1), ∀ a x, ((![v100, v102] : Fin 2 → IVec S16 32) a x).toNat < S16x128.size a) ∧
  (∀ (k0_h22 : k0_cond22 v14 k0_t7 = 1#1), ∀ a x, ((![v99, v102] : Fin 2 → IVec S16 32) a x).toNat < S320x128.size a) ∧
  (∀ (k0_h22 : k0_cond22 v14 k0_t7 = 1#1), ∀ a x, ((![v99, v102] : Fin 2 → IVec S16 32) a x).toNat < S320x128.size a) ∧
  (∀ (k0_h22 : k0_cond22 v14 k0_t7 = 1#1), ∀ a x, ((![v99, v102] : Fin 2 → IVec S16 32) a x).toNat < S320x128.size a) ∧
  (∀ (k0_h22 : k0_cond22 v14 k0_t7 = 1#1), ∀ a x, ((![v99, v102] : Fin 2 → IVec S16 32) a x).toNat < S320x128.size a) ∧
  (∀ (k0_h22 : k0_cond22 v14 k0_t7 = 1#1), ∀ a x, ((![v99, v102] : Fin 2 → IVec S16 32) a x).toNat < S320x128.size a)
theorem k0_idx1056_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v100, v102] : Fin 2 → IVec S16 32) a x).toNat < S16x128.size a := fun v14 k0_t7 v99 v100 v102 k0_hw216 k0_h22 => k0_hw216.1 k0_h22
theorem k0_idx1057_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v99, v102] : Fin 2 → IVec S16 32) a x).toNat < S320x128.size a := fun v14 k0_t7 v99 v100 v102 k0_hw216 k0_h22 => k0_hw216.2.1 k0_h22
theorem k0_idx1058_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v99, v102] : Fin 2 → IVec S16 32) a x).toNat < S320x128.size a := fun v14 k0_t7 v99 v100 v102 k0_hw216 k0_h22 => k0_hw216.2.2.1 k0_h22
theorem k0_idx1059_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v99, v102] : Fin 2 → IVec S16 32) a x).toNat < S320x128.size a := fun v14 k0_t7 v99 v100 v102 k0_hw216 k0_h22 => k0_hw216.2.2.2.1 k0_h22
theorem k0_idx1060_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v99, v102] : Fin 2 → IVec S16 32) a x).toNat < S320x128.size a := fun v14 k0_t7 v99 v100 v102 k0_hw216 k0_h22 => k0_hw216.2.2.2.2.1 k0_h22
theorem k0_idx1061_inb : ∀ (v14 : BitVec 32) (k0_t7 : Fin (k0_t7_loop v14).trips) (v99 : IVec S16 32) (v100 : IVec S16 32) (v102 : IVec S16 32) (k0_hw216 : k0_chk216 v14 k0_t7 v99 v100 v102), ∀ (k0_h22 : k0_cond22 v14 k0_t7 = 1#1), ∀ a x, ((![v99, v102] : Fin 2 → IVec S16 32) a x).toNat < S320x128.size a := fun v14 k0_t7 v99 v100 v102 k0_hw216 k0_h22 => k0_hw216.2.2.2.2.2 k0_h22

def k0_chk217 (v14 : BitVec 32) (k0_t7 : Fin (k0_t7_loop v14).trips) (v99 : IVec S16 32) (v100 : IVec S16 32) (v109 : IVec S16 32) : Prop :=
  (∀ (k0_h22 : k0_cond22 v14 k0_t7 = 1#1), ∀ a x, ((![v100, v109] : Fin 2 → IVec S16 32) a x).toNat < S16x128.size a) ∧
  (∀ (k0_h22 : k0_cond22 v14 k0_t7 = 1#1), ∀ a x, ((![v99, v109] : Fin 2 → IVec S16 32) a x).toNat < S320x128.size a) ∧
  (∀ (k0_h22 : k0_cond22 v14 k0_t7 = 1#1), ∀ a x, ((![v99, v109] : Fin 2 → IVec S16 32) a x).toNat < S320x128.size a) ∧
  (∀ (k0_h22 : k0_cond22 v14 k0_t7 = 1#1), ∀ a x, ((![v99, v109] : Fin 2 → IVec S16 32) a x).toNat < S320x128.size a) ∧
  (∀ (k0_h22 : k0_cond22 v14 k0_t7 = 1#1), ∀ a x, ((![v99, v109] : Fin 2 → IVec S16 32) a x).toNat < S320x128.size a) ∧
  (∀ (k0_h22 : k0_cond22 v14 k0_t7 = 1#1), ∀ a x, ((![v99, v109] : Fin 2 → IVec S16 32) a x).toNat < S320x128.size a)
theorem k0_idx1062_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v100, v109] : Fin 2 → IVec S16 32) a x).toNat < S16x128.size a := fun v14 k0_t7 v99 v100 v109 k0_hw217 k0_h22 => k0_hw217.1 k0_h22
theorem k0_idx1063_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v99, v109] : Fin 2 → IVec S16 32) a x).toNat < S320x128.size a := fun v14 k0_t7 v99 v100 v109 k0_hw217 k0_h22 => k0_hw217.2.1 k0_h22
theorem k0_idx1064_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v99, v109] : Fin 2 → IVec S16 32) a x).toNat < S320x128.size a := fun v14 k0_t7 v99 v100 v109 k0_hw217 k0_h22 => k0_hw217.2.2.1 k0_h22
theorem k0_idx1065_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v99, v109] : Fin 2 → IVec S16 32) a x).toNat < S320x128.size a := fun v14 k0_t7 v99 v100 v109 k0_hw217 k0_h22 => k0_hw217.2.2.2.1 k0_h22
theorem k0_idx1066_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v99, v109] : Fin 2 → IVec S16 32) a x).toNat < S320x128.size a := fun v14 k0_t7 v99 v100 v109 k0_hw217 k0_h22 => k0_hw217.2.2.2.2.1 k0_h22
theorem k0_idx1067_inb : ∀ (v14 : BitVec 32) (k0_t7 : Fin (k0_t7_loop v14).trips) (v99 : IVec S16 32) (v100 : IVec S16 32) (v109 : IVec S16 32) (k0_hw217 : k0_chk217 v14 k0_t7 v99 v100 v109), ∀ (k0_h22 : k0_cond22 v14 k0_t7 = 1#1), ∀ a x, ((![v99, v109] : Fin 2 → IVec S16 32) a x).toNat < S320x128.size a := fun v14 k0_t7 v99 v100 v109 k0_hw217 k0_h22 => k0_hw217.2.2.2.2.2 k0_h22

def k0_chk218 (v14 : BitVec 32) (k0_t7 : Fin (k0_t7_loop v14).trips) (v99 : IVec S16 32) (v100 : IVec S16 32) (v116 : IVec S16 32) : Prop :=
  (∀ (k0_h22 : k0_cond22 v14 k0_t7 = 1#1), ∀ a x, ((![v100, v116] : Fin 2 → IVec S16 32) a x).toNat < S16x128.size a) ∧
  (∀ (k0_h22 : k0_cond22 v14 k0_t7 = 1#1), ∀ a x, ((![v99, v116] : Fin 2 → IVec S16 32) a x).toNat < S320x128.size a) ∧
  (∀ (k0_h22 : k0_cond22 v14 k0_t7 = 1#1), ∀ a x, ((![v99, v116] : Fin 2 → IVec S16 32) a x).toNat < S320x128.size a) ∧
  (∀ (k0_h22 : k0_cond22 v14 k0_t7 = 1#1), ∀ a x, ((![v99, v116] : Fin 2 → IVec S16 32) a x).toNat < S320x128.size a) ∧
  (∀ (k0_h22 : k0_cond22 v14 k0_t7 = 1#1), ∀ a x, ((![v99, v116] : Fin 2 → IVec S16 32) a x).toNat < S320x128.size a) ∧
  (∀ (k0_h22 : k0_cond22 v14 k0_t7 = 1#1), ∀ a x, ((![v99, v116] : Fin 2 → IVec S16 32) a x).toNat < S320x128.size a)
theorem k0_idx1068_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v100, v116] : Fin 2 → IVec S16 32) a x).toNat < S16x128.size a := fun v14 k0_t7 v99 v100 v116 k0_hw218 k0_h22 => k0_hw218.1 k0_h22
theorem k0_idx1069_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v99, v116] : Fin 2 → IVec S16 32) a x).toNat < S320x128.size a := fun v14 k0_t7 v99 v100 v116 k0_hw218 k0_h22 => k0_hw218.2.1 k0_h22
theorem k0_idx1070_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v99, v116] : Fin 2 → IVec S16 32) a x).toNat < S320x128.size a := fun v14 k0_t7 v99 v100 v116 k0_hw218 k0_h22 => k0_hw218.2.2.1 k0_h22
theorem k0_idx1071_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v99, v116] : Fin 2 → IVec S16 32) a x).toNat < S320x128.size a := fun v14 k0_t7 v99 v100 v116 k0_hw218 k0_h22 => k0_hw218.2.2.2.1 k0_h22
theorem k0_idx1072_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v99, v116] : Fin 2 → IVec S16 32) a x).toNat < S320x128.size a := fun v14 k0_t7 v99 v100 v116 k0_hw218 k0_h22 => k0_hw218.2.2.2.2.1 k0_h22
theorem k0_idx1073_inb : ∀ (v14 : BitVec 32) (k0_t7 : Fin (k0_t7_loop v14).trips) (v99 : IVec S16 32) (v100 : IVec S16 32) (v116 : IVec S16 32) (k0_hw218 : k0_chk218 v14 k0_t7 v99 v100 v116), ∀ (k0_h22 : k0_cond22 v14 k0_t7 = 1#1), ∀ a x, ((![v99, v116] : Fin 2 → IVec S16 32) a x).toNat < S320x128.size a := fun v14 k0_t7 v99 v100 v116 k0_hw218 k0_h22 => k0_hw218.2.2.2.2.2 k0_h22

def k0_chk219 (v14 : BitVec 32) (k0_t7 : Fin (k0_t7_loop v14).trips) (v99 : IVec S16 32) (v100 : IVec S16 32) (v123 : IVec S16 32) : Prop :=
  (∀ (k0_h22 : k0_cond22 v14 k0_t7 = 1#1), ∀ a x, ((![v100, v123] : Fin 2 → IVec S16 32) a x).toNat < S16x128.size a) ∧
  (∀ (k0_h22 : k0_cond22 v14 k0_t7 = 1#1), ∀ a x, ((![v99, v123] : Fin 2 → IVec S16 32) a x).toNat < S320x128.size a) ∧
  (∀ (k0_h22 : k0_cond22 v14 k0_t7 = 1#1), ∀ a x, ((![v99, v123] : Fin 2 → IVec S16 32) a x).toNat < S320x128.size a) ∧
  (∀ (k0_h22 : k0_cond22 v14 k0_t7 = 1#1), ∀ a x, ((![v99, v123] : Fin 2 → IVec S16 32) a x).toNat < S320x128.size a) ∧
  (∀ (k0_h22 : k0_cond22 v14 k0_t7 = 1#1), ∀ a x, ((![v99, v123] : Fin 2 → IVec S16 32) a x).toNat < S320x128.size a) ∧
  (∀ (k0_h22 : k0_cond22 v14 k0_t7 = 1#1), ∀ a x, ((![v99, v123] : Fin 2 → IVec S16 32) a x).toNat < S320x128.size a)
theorem k0_idx1074_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v100, v123] : Fin 2 → IVec S16 32) a x).toNat < S16x128.size a := fun v14 k0_t7 v99 v100 v123 k0_hw219 k0_h22 => k0_hw219.1 k0_h22
theorem k0_idx1075_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v99, v123] : Fin 2 → IVec S16 32) a x).toNat < S320x128.size a := fun v14 k0_t7 v99 v100 v123 k0_hw219 k0_h22 => k0_hw219.2.1 k0_h22
theorem k0_idx1076_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v99, v123] : Fin 2 → IVec S16 32) a x).toNat < S320x128.size a := fun v14 k0_t7 v99 v100 v123 k0_hw219 k0_h22 => k0_hw219.2.2.1 k0_h22
theorem k0_idx1077_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v99, v123] : Fin 2 → IVec S16 32) a x).toNat < S320x128.size a := fun v14 k0_t7 v99 v100 v123 k0_hw219 k0_h22 => k0_hw219.2.2.2.1 k0_h22
theorem k0_idx1078_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v99, v123] : Fin 2 → IVec S16 32) a x).toNat < S320x128.size a := fun v14 k0_t7 v99 v100 v123 k0_hw219 k0_h22 => k0_hw219.2.2.2.2.1 k0_h22
theorem k0_idx1079_inb : ∀ (v14 : BitVec 32) (k0_t7 : Fin (k0_t7_loop v14).trips) (v99 : IVec S16 32) (v100 : IVec S16 32) (v123 : IVec S16 32) (k0_hw219 : k0_chk219 v14 k0_t7 v99 v100 v123), ∀ (k0_h22 : k0_cond22 v14 k0_t7 = 1#1), ∀ a x, ((![v99, v123] : Fin 2 → IVec S16 32) a x).toNat < S320x128.size a := fun v14 k0_t7 v99 v100 v123 k0_hw219 k0_h22 => k0_hw219.2.2.2.2.2 k0_h22

def k0_chk220 (v14 : BitVec 32) (k0_t7 : Fin (k0_t7_loop v14).trips) (v99 : IVec S16 32) (v100 : IVec S16 32) (v130 : IVec S16 32) : Prop :=
  (∀ (k0_h22 : k0_cond22 v14 k0_t7 = 1#1), ∀ a x, ((![v100, v130] : Fin 2 → IVec S16 32) a x).toNat < S16x128.size a) ∧
  (∀ (k0_h22 : k0_cond22 v14 k0_t7 = 1#1), ∀ a x, ((![v99, v130] : Fin 2 → IVec S16 32) a x).toNat < S320x128.size a) ∧
  (∀ (k0_h22 : k0_cond22 v14 k0_t7 = 1#1), ∀ a x, ((![v99, v130] : Fin 2 → IVec S16 32) a x).toNat < S320x128.size a) ∧
  (∀ (k0_h22 : k0_cond22 v14 k0_t7 = 1#1), ∀ a x, ((![v99, v130] : Fin 2 → IVec S16 32) a x).toNat < S320x128.size a) ∧
  (∀ (k0_h22 : k0_cond22 v14 k0_t7 = 1#1), ∀ a x, ((![v99, v130] : Fin 2 → IVec S16 32) a x).toNat < S320x128.size a) ∧
  (∀ (k0_h22 : k0_cond22 v14 k0_t7 = 1#1), ∀ a x, ((![v99, v130] : Fin 2 → IVec S16 32) a x).toNat < S320x128.size a)
theorem k0_idx1080_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v100, v130] : Fin 2 → IVec S16 32) a x).toNat < S16x128.size a := fun v14 k0_t7 v99 v100 v130 k0_hw220 k0_h22 => k0_hw220.1 k0_h22
theorem k0_idx1081_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v99, v130] : Fin 2 → IVec S16 32) a x).toNat < S320x128.size a := fun v14 k0_t7 v99 v100 v130 k0_hw220 k0_h22 => k0_hw220.2.1 k0_h22
theorem k0_idx1082_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v99, v130] : Fin 2 → IVec S16 32) a x).toNat < S320x128.size a := fun v14 k0_t7 v99 v100 v130 k0_hw220 k0_h22 => k0_hw220.2.2.1 k0_h22
theorem k0_idx1083_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v99, v130] : Fin 2 → IVec S16 32) a x).toNat < S320x128.size a := fun v14 k0_t7 v99 v100 v130 k0_hw220 k0_h22 => k0_hw220.2.2.2.1 k0_h22
theorem k0_idx1084_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v99, v130] : Fin 2 → IVec S16 32) a x).toNat < S320x128.size a := fun v14 k0_t7 v99 v100 v130 k0_hw220 k0_h22 => k0_hw220.2.2.2.2.1 k0_h22
theorem k0_idx1085_inb : ∀ (v14 : BitVec 32) (k0_t7 : Fin (k0_t7_loop v14).trips) (v99 : IVec S16 32) (v100 : IVec S16 32) (v130 : IVec S16 32) (k0_hw220 : k0_chk220 v14 k0_t7 v99 v100 v130), ∀ (k0_h22 : k0_cond22 v14 k0_t7 = 1#1), ∀ a x, ((![v99, v130] : Fin 2 → IVec S16 32) a x).toNat < S320x128.size a := fun v14 k0_t7 v99 v100 v130 k0_hw220 k0_h22 => k0_hw220.2.2.2.2.2 k0_h22

def k0_chk221 (v14 : BitVec 32) (k0_t7 : Fin (k0_t7_loop v14).trips) (v99 : IVec S16 32) (v100 : IVec S16 32) (v137 : IVec S16 32) : Prop :=
  (∀ (k0_h22 : k0_cond22 v14 k0_t7 = 1#1), ∀ a x, ((![v100, v137] : Fin 2 → IVec S16 32) a x).toNat < S16x128.size a) ∧
  (∀ (k0_h22 : k0_cond22 v14 k0_t7 = 1#1), ∀ a x, ((![v99, v137] : Fin 2 → IVec S16 32) a x).toNat < S320x128.size a) ∧
  (∀ (k0_h22 : k0_cond22 v14 k0_t7 = 1#1), ∀ a x, ((![v99, v137] : Fin 2 → IVec S16 32) a x).toNat < S320x128.size a) ∧
  (∀ (k0_h22 : k0_cond22 v14 k0_t7 = 1#1), ∀ a x, ((![v99, v137] : Fin 2 → IVec S16 32) a x).toNat < S320x128.size a) ∧
  (∀ (k0_h22 : k0_cond22 v14 k0_t7 = 1#1), ∀ a x, ((![v99, v137] : Fin 2 → IVec S16 32) a x).toNat < S320x128.size a) ∧
  (∀ (k0_h22 : k0_cond22 v14 k0_t7 = 1#1), ∀ a x, ((![v99, v137] : Fin 2 → IVec S16 32) a x).toNat < S320x128.size a)
theorem k0_idx1086_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v100, v137] : Fin 2 → IVec S16 32) a x).toNat < S16x128.size a := fun v14 k0_t7 v99 v100 v137 k0_hw221 k0_h22 => k0_hw221.1 k0_h22
theorem k0_idx1087_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v99, v137] : Fin 2 → IVec S16 32) a x).toNat < S320x128.size a := fun v14 k0_t7 v99 v100 v137 k0_hw221 k0_h22 => k0_hw221.2.1 k0_h22
theorem k0_idx1088_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v99, v137] : Fin 2 → IVec S16 32) a x).toNat < S320x128.size a := fun v14 k0_t7 v99 v100 v137 k0_hw221 k0_h22 => k0_hw221.2.2.1 k0_h22
theorem k0_idx1089_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v99, v137] : Fin 2 → IVec S16 32) a x).toNat < S320x128.size a := fun v14 k0_t7 v99 v100 v137 k0_hw221 k0_h22 => k0_hw221.2.2.2.1 k0_h22
theorem k0_idx1090_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v99, v137] : Fin 2 → IVec S16 32) a x).toNat < S320x128.size a := fun v14 k0_t7 v99 v100 v137 k0_hw221 k0_h22 => k0_hw221.2.2.2.2.1 k0_h22
theorem k0_idx1091_inb : ∀ (v14 : BitVec 32) (k0_t7 : Fin (k0_t7_loop v14).trips) (v99 : IVec S16 32) (v100 : IVec S16 32) (v137 : IVec S16 32) (k0_hw221 : k0_chk221 v14 k0_t7 v99 v100 v137), ∀ (k0_h22 : k0_cond22 v14 k0_t7 = 1#1), ∀ a x, ((![v99, v137] : Fin 2 → IVec S16 32) a x).toNat < S320x128.size a := fun v14 k0_t7 v99 v100 v137 k0_hw221 k0_h22 => k0_hw221.2.2.2.2.2 k0_h22

def k0_chk222 (v14 : BitVec 32) (k0_t7 : Fin (k0_t7_loop v14).trips) (v99 : IVec S16 32) (v100 : IVec S16 32) (v144 : IVec S16 32) : Prop :=
  (∀ (k0_h22 : k0_cond22 v14 k0_t7 = 1#1), ∀ a x, ((![v100, v144] : Fin 2 → IVec S16 32) a x).toNat < S16x128.size a) ∧
  (∀ (k0_h22 : k0_cond22 v14 k0_t7 = 1#1), ∀ a x, ((![v99, v144] : Fin 2 → IVec S16 32) a x).toNat < S320x128.size a) ∧
  (∀ (k0_h22 : k0_cond22 v14 k0_t7 = 1#1), ∀ a x, ((![v99, v144] : Fin 2 → IVec S16 32) a x).toNat < S320x128.size a) ∧
  (∀ (k0_h22 : k0_cond22 v14 k0_t7 = 1#1), ∀ a x, ((![v99, v144] : Fin 2 → IVec S16 32) a x).toNat < S320x128.size a) ∧
  (∀ (k0_h22 : k0_cond22 v14 k0_t7 = 1#1), ∀ a x, ((![v99, v144] : Fin 2 → IVec S16 32) a x).toNat < S320x128.size a) ∧
  (∀ (k0_h22 : k0_cond22 v14 k0_t7 = 1#1), ∀ a x, ((![v99, v144] : Fin 2 → IVec S16 32) a x).toNat < S320x128.size a)
theorem k0_idx1092_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v100, v144] : Fin 2 → IVec S16 32) a x).toNat < S16x128.size a := fun v14 k0_t7 v99 v100 v144 k0_hw222 k0_h22 => k0_hw222.1 k0_h22
theorem k0_idx1093_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v99, v144] : Fin 2 → IVec S16 32) a x).toNat < S320x128.size a := fun v14 k0_t7 v99 v100 v144 k0_hw222 k0_h22 => k0_hw222.2.1 k0_h22
theorem k0_idx1094_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v99, v144] : Fin 2 → IVec S16 32) a x).toNat < S320x128.size a := fun v14 k0_t7 v99 v100 v144 k0_hw222 k0_h22 => k0_hw222.2.2.1 k0_h22
theorem k0_idx1095_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v99, v144] : Fin 2 → IVec S16 32) a x).toNat < S320x128.size a := fun v14 k0_t7 v99 v100 v144 k0_hw222 k0_h22 => k0_hw222.2.2.2.1 k0_h22
theorem k0_idx1096_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v99, v144] : Fin 2 → IVec S16 32) a x).toNat < S320x128.size a := fun v14 k0_t7 v99 v100 v144 k0_hw222 k0_h22 => k0_hw222.2.2.2.2.1 k0_h22
theorem k0_idx1097_inb : ∀ (v14 : BitVec 32) (k0_t7 : Fin (k0_t7_loop v14).trips) (v99 : IVec S16 32) (v100 : IVec S16 32) (v144 : IVec S16 32) (k0_hw222 : k0_chk222 v14 k0_t7 v99 v100 v144), ∀ (k0_h22 : k0_cond22 v14 k0_t7 = 1#1), ∀ a x, ((![v99, v144] : Fin 2 → IVec S16 32) a x).toNat < S320x128.size a := fun v14 k0_t7 v99 v100 v144 k0_hw222 k0_h22 => k0_hw222.2.2.2.2.2 k0_h22

def k0_chk223 (v14 : BitVec 32) (k0_t7 : Fin (k0_t7_loop v14).trips) (v99 : IVec S16 32) (v100 : IVec S16 32) (v151 : IVec S16 32) : Prop :=
  (∀ (k0_h22 : k0_cond22 v14 k0_t7 = 1#1), ∀ a x, ((![v100, v151] : Fin 2 → IVec S16 32) a x).toNat < S16x128.size a) ∧
  (∀ (k0_h22 : k0_cond22 v14 k0_t7 = 1#1), ∀ a x, ((![v99, v151] : Fin 2 → IVec S16 32) a x).toNat < S320x128.size a) ∧
  (∀ (k0_h22 : k0_cond22 v14 k0_t7 = 1#1), ∀ a x, ((![v99, v151] : Fin 2 → IVec S16 32) a x).toNat < S320x128.size a) ∧
  (∀ (k0_h22 : k0_cond22 v14 k0_t7 = 1#1), ∀ a x, ((![v99, v151] : Fin 2 → IVec S16 32) a x).toNat < S320x128.size a) ∧
  (∀ (k0_h22 : k0_cond22 v14 k0_t7 = 1#1), ∀ a x, ((![v99, v151] : Fin 2 → IVec S16 32) a x).toNat < S320x128.size a) ∧
  (∀ (k0_h22 : k0_cond22 v14 k0_t7 = 1#1), ∀ a x, ((![v99, v151] : Fin 2 → IVec S16 32) a x).toNat < S320x128.size a)
theorem k0_idx1098_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v100, v151] : Fin 2 → IVec S16 32) a x).toNat < S16x128.size a := fun v14 k0_t7 v99 v100 v151 k0_hw223 k0_h22 => k0_hw223.1 k0_h22
theorem k0_idx1099_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v99, v151] : Fin 2 → IVec S16 32) a x).toNat < S320x128.size a := fun v14 k0_t7 v99 v100 v151 k0_hw223 k0_h22 => k0_hw223.2.1 k0_h22
theorem k0_idx1100_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v99, v151] : Fin 2 → IVec S16 32) a x).toNat < S320x128.size a := fun v14 k0_t7 v99 v100 v151 k0_hw223 k0_h22 => k0_hw223.2.2.1 k0_h22
theorem k0_idx1101_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v99, v151] : Fin 2 → IVec S16 32) a x).toNat < S320x128.size a := fun v14 k0_t7 v99 v100 v151 k0_hw223 k0_h22 => k0_hw223.2.2.2.1 k0_h22
theorem k0_idx1102_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v99, v151] : Fin 2 → IVec S16 32) a x).toNat < S320x128.size a := fun v14 k0_t7 v99 v100 v151 k0_hw223 k0_h22 => k0_hw223.2.2.2.2.1 k0_h22
theorem k0_idx1103_inb : ∀ (v14 : BitVec 32) (k0_t7 : Fin (k0_t7_loop v14).trips) (v99 : IVec S16 32) (v100 : IVec S16 32) (v151 : IVec S16 32) (k0_hw223 : k0_chk223 v14 k0_t7 v99 v100 v151), ∀ (k0_h22 : k0_cond22 v14 k0_t7 = 1#1), ∀ a x, ((![v99, v151] : Fin 2 → IVec S16 32) a x).toNat < S320x128.size a := fun v14 k0_t7 v99 v100 v151 k0_hw223 k0_h22 => k0_hw223.2.2.2.2.2 k0_h22

def k0_chk224 (v14 : BitVec 32) (k0_t7 : Fin (k0_t7_loop v14).trips) (v99 : IVec S16 32) : Prop :=
  (∀ (k0_h22 : k0_cond22 v14 k0_t7 = 1#1), ∀ a x, ((![v99] : Fin 1 → IVec S16 32) a x).toNat < S320.size a)
theorem k0_idx1104_inb : ∀ (v14 : BitVec 32) (k0_t7 : Fin (k0_t7_loop v14).trips) (v99 : IVec S16 32) (k0_hw224 : k0_chk224 v14 k0_t7 v99), ∀ (k0_h22 : k0_cond22 v14 k0_t7 = 1#1), ∀ a x, ((![v99] : Fin 1 → IVec S16 32) a x).toNat < S320.size a := fun v14 k0_t7 v99 k0_hw224 k0_h22 => k0_hw224 k0_h22
def k0_cond23 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c6_i32 : BitVec 32 := 6#32
  let v67 : BitVec 1 := Scalar.cmpi .sgt v45 c6_i32
  let v68 : BitVec 32 := Scalar.extui v67
  let c0_i32_49 : BitVec 32 := 0#32
  let v69 : BitVec 1 := Scalar.cmpi .ne v68 c0_i32_49
  v69

def k0_chk225 (v14 : BitVec 32) (k0_t7 : Fin (k0_t7_loop v14).trips) (v98 : IVec S16 32) : Prop :=
  (∀ (k0_h23 : k0_cond23 v14 k0_t7 = 1#1), ∀ a x, ((![v98] : Fin 1 → IVec S16 32) a x).toNat < S528.size a)
theorem k0_idx1105_inb : ∀ (v14 : BitVec 32) (k0_t7 : Fin (k0_t7_loop v14).trips) (v98 : IVec S16 32) (k0_hw225 : k0_chk225 v14 k0_t7 v98), ∀ (k0_h23 : k0_cond23 v14 k0_t7 = 1#1), ∀ a x, ((![v98] : Fin 1 → IVec S16 32) a x).toNat < S528.size a := fun v14 k0_t7 v98 k0_hw225 k0_h23 => k0_hw225 k0_h23

def k0_chk226 (v14 : BitVec 32) (k0_t7 : Fin (k0_t7_loop v14).trips) (v99 : IVec S16 32) (v100 : IVec S16 32) (v102 : IVec S16 32) : Prop :=
  (∀ (k0_h23 : k0_cond23 v14 k0_t7 = 1#1), ∀ a x, ((![v100, v102] : Fin 2 → IVec S16 32) a x).toNat < S16x128.size a) ∧
  (∀ (k0_h23 : k0_cond23 v14 k0_t7 = 1#1), ∀ a x, ((![v99, v102] : Fin 2 → IVec S16 32) a x).toNat < S320x128.size a) ∧
  (∀ (k0_h23 : k0_cond23 v14 k0_t7 = 1#1), ∀ a x, ((![v99, v102] : Fin 2 → IVec S16 32) a x).toNat < S320x128.size a) ∧
  (∀ (k0_h23 : k0_cond23 v14 k0_t7 = 1#1), ∀ a x, ((![v99, v102] : Fin 2 → IVec S16 32) a x).toNat < S320x128.size a) ∧
  (∀ (k0_h23 : k0_cond23 v14 k0_t7 = 1#1), ∀ a x, ((![v99, v102] : Fin 2 → IVec S16 32) a x).toNat < S320x128.size a) ∧
  (∀ (k0_h23 : k0_cond23 v14 k0_t7 = 1#1), ∀ a x, ((![v99, v102] : Fin 2 → IVec S16 32) a x).toNat < S320x128.size a)
theorem k0_idx1106_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v100, v102] : Fin 2 → IVec S16 32) a x).toNat < S16x128.size a := fun v14 k0_t7 v99 v100 v102 k0_hw226 k0_h23 => k0_hw226.1 k0_h23
theorem k0_idx1107_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v99, v102] : Fin 2 → IVec S16 32) a x).toNat < S320x128.size a := fun v14 k0_t7 v99 v100 v102 k0_hw226 k0_h23 => k0_hw226.2.1 k0_h23
theorem k0_idx1108_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v99, v102] : Fin 2 → IVec S16 32) a x).toNat < S320x128.size a := fun v14 k0_t7 v99 v100 v102 k0_hw226 k0_h23 => k0_hw226.2.2.1 k0_h23
theorem k0_idx1109_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v99, v102] : Fin 2 → IVec S16 32) a x).toNat < S320x128.size a := fun v14 k0_t7 v99 v100 v102 k0_hw226 k0_h23 => k0_hw226.2.2.2.1 k0_h23
theorem k0_idx1110_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v99, v102] : Fin 2 → IVec S16 32) a x).toNat < S320x128.size a := fun v14 k0_t7 v99 v100 v102 k0_hw226 k0_h23 => k0_hw226.2.2.2.2.1 k0_h23
theorem k0_idx1111_inb : ∀ (v14 : BitVec 32) (k0_t7 : Fin (k0_t7_loop v14).trips) (v99 : IVec S16 32) (v100 : IVec S16 32) (v102 : IVec S16 32) (k0_hw226 : k0_chk226 v14 k0_t7 v99 v100 v102), ∀ (k0_h23 : k0_cond23 v14 k0_t7 = 1#1), ∀ a x, ((![v99, v102] : Fin 2 → IVec S16 32) a x).toNat < S320x128.size a := fun v14 k0_t7 v99 v100 v102 k0_hw226 k0_h23 => k0_hw226.2.2.2.2.2 k0_h23

def k0_chk227 (v14 : BitVec 32) (k0_t7 : Fin (k0_t7_loop v14).trips) (v99 : IVec S16 32) (v100 : IVec S16 32) (v109 : IVec S16 32) : Prop :=
  (∀ (k0_h23 : k0_cond23 v14 k0_t7 = 1#1), ∀ a x, ((![v100, v109] : Fin 2 → IVec S16 32) a x).toNat < S16x128.size a) ∧
  (∀ (k0_h23 : k0_cond23 v14 k0_t7 = 1#1), ∀ a x, ((![v99, v109] : Fin 2 → IVec S16 32) a x).toNat < S320x128.size a) ∧
  (∀ (k0_h23 : k0_cond23 v14 k0_t7 = 1#1), ∀ a x, ((![v99, v109] : Fin 2 → IVec S16 32) a x).toNat < S320x128.size a) ∧
  (∀ (k0_h23 : k0_cond23 v14 k0_t7 = 1#1), ∀ a x, ((![v99, v109] : Fin 2 → IVec S16 32) a x).toNat < S320x128.size a) ∧
  (∀ (k0_h23 : k0_cond23 v14 k0_t7 = 1#1), ∀ a x, ((![v99, v109] : Fin 2 → IVec S16 32) a x).toNat < S320x128.size a) ∧
  (∀ (k0_h23 : k0_cond23 v14 k0_t7 = 1#1), ∀ a x, ((![v99, v109] : Fin 2 → IVec S16 32) a x).toNat < S320x128.size a)
theorem k0_idx1112_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v100, v109] : Fin 2 → IVec S16 32) a x).toNat < S16x128.size a := fun v14 k0_t7 v99 v100 v109 k0_hw227 k0_h23 => k0_hw227.1 k0_h23
theorem k0_idx1113_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v99, v109] : Fin 2 → IVec S16 32) a x).toNat < S320x128.size a := fun v14 k0_t7 v99 v100 v109 k0_hw227 k0_h23 => k0_hw227.2.1 k0_h23
theorem k0_idx1114_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v99, v109] : Fin 2 → IVec S16 32) a x).toNat < S320x128.size a := fun v14 k0_t7 v99 v100 v109 k0_hw227 k0_h23 => k0_hw227.2.2.1 k0_h23
theorem k0_idx1115_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v99, v109] : Fin 2 → IVec S16 32) a x).toNat < S320x128.size a := fun v14 k0_t7 v99 v100 v109 k0_hw227 k0_h23 => k0_hw227.2.2.2.1 k0_h23
theorem k0_idx1116_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v99, v109] : Fin 2 → IVec S16 32) a x).toNat < S320x128.size a := fun v14 k0_t7 v99 v100 v109 k0_hw227 k0_h23 => k0_hw227.2.2.2.2.1 k0_h23
theorem k0_idx1117_inb : ∀ (v14 : BitVec 32) (k0_t7 : Fin (k0_t7_loop v14).trips) (v99 : IVec S16 32) (v100 : IVec S16 32) (v109 : IVec S16 32) (k0_hw227 : k0_chk227 v14 k0_t7 v99 v100 v109), ∀ (k0_h23 : k0_cond23 v14 k0_t7 = 1#1), ∀ a x, ((![v99, v109] : Fin 2 → IVec S16 32) a x).toNat < S320x128.size a := fun v14 k0_t7 v99 v100 v109 k0_hw227 k0_h23 => k0_hw227.2.2.2.2.2 k0_h23

def k0_chk228 (v14 : BitVec 32) (k0_t7 : Fin (k0_t7_loop v14).trips) (v99 : IVec S16 32) (v100 : IVec S16 32) (v116 : IVec S16 32) : Prop :=
  (∀ (k0_h23 : k0_cond23 v14 k0_t7 = 1#1), ∀ a x, ((![v100, v116] : Fin 2 → IVec S16 32) a x).toNat < S16x128.size a) ∧
  (∀ (k0_h23 : k0_cond23 v14 k0_t7 = 1#1), ∀ a x, ((![v99, v116] : Fin 2 → IVec S16 32) a x).toNat < S320x128.size a) ∧
  (∀ (k0_h23 : k0_cond23 v14 k0_t7 = 1#1), ∀ a x, ((![v99, v116] : Fin 2 → IVec S16 32) a x).toNat < S320x128.size a) ∧
  (∀ (k0_h23 : k0_cond23 v14 k0_t7 = 1#1), ∀ a x, ((![v99, v116] : Fin 2 → IVec S16 32) a x).toNat < S320x128.size a) ∧
  (∀ (k0_h23 : k0_cond23 v14 k0_t7 = 1#1), ∀ a x, ((![v99, v116] : Fin 2 → IVec S16 32) a x).toNat < S320x128.size a) ∧
  (∀ (k0_h23 : k0_cond23 v14 k0_t7 = 1#1), ∀ a x, ((![v99, v116] : Fin 2 → IVec S16 32) a x).toNat < S320x128.size a)
theorem k0_idx1118_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v100, v116] : Fin 2 → IVec S16 32) a x).toNat < S16x128.size a := fun v14 k0_t7 v99 v100 v116 k0_hw228 k0_h23 => k0_hw228.1 k0_h23
theorem k0_idx1119_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v99, v116] : Fin 2 → IVec S16 32) a x).toNat < S320x128.size a := fun v14 k0_t7 v99 v100 v116 k0_hw228 k0_h23 => k0_hw228.2.1 k0_h23
theorem k0_idx1120_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v99, v116] : Fin 2 → IVec S16 32) a x).toNat < S320x128.size a := fun v14 k0_t7 v99 v100 v116 k0_hw228 k0_h23 => k0_hw228.2.2.1 k0_h23
theorem k0_idx1121_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v99, v116] : Fin 2 → IVec S16 32) a x).toNat < S320x128.size a := fun v14 k0_t7 v99 v100 v116 k0_hw228 k0_h23 => k0_hw228.2.2.2.1 k0_h23
theorem k0_idx1122_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v99, v116] : Fin 2 → IVec S16 32) a x).toNat < S320x128.size a := fun v14 k0_t7 v99 v100 v116 k0_hw228 k0_h23 => k0_hw228.2.2.2.2.1 k0_h23
theorem k0_idx1123_inb : ∀ (v14 : BitVec 32) (k0_t7 : Fin (k0_t7_loop v14).trips) (v99 : IVec S16 32) (v100 : IVec S16 32) (v116 : IVec S16 32) (k0_hw228 : k0_chk228 v14 k0_t7 v99 v100 v116), ∀ (k0_h23 : k0_cond23 v14 k0_t7 = 1#1), ∀ a x, ((![v99, v116] : Fin 2 → IVec S16 32) a x).toNat < S320x128.size a := fun v14 k0_t7 v99 v100 v116 k0_hw228 k0_h23 => k0_hw228.2.2.2.2.2 k0_h23

def k0_chk229 (v14 : BitVec 32) (k0_t7 : Fin (k0_t7_loop v14).trips) (v99 : IVec S16 32) (v100 : IVec S16 32) (v123 : IVec S16 32) : Prop :=
  (∀ (k0_h23 : k0_cond23 v14 k0_t7 = 1#1), ∀ a x, ((![v100, v123] : Fin 2 → IVec S16 32) a x).toNat < S16x128.size a) ∧
  (∀ (k0_h23 : k0_cond23 v14 k0_t7 = 1#1), ∀ a x, ((![v99, v123] : Fin 2 → IVec S16 32) a x).toNat < S320x128.size a) ∧
  (∀ (k0_h23 : k0_cond23 v14 k0_t7 = 1#1), ∀ a x, ((![v99, v123] : Fin 2 → IVec S16 32) a x).toNat < S320x128.size a) ∧
  (∀ (k0_h23 : k0_cond23 v14 k0_t7 = 1#1), ∀ a x, ((![v99, v123] : Fin 2 → IVec S16 32) a x).toNat < S320x128.size a) ∧
  (∀ (k0_h23 : k0_cond23 v14 k0_t7 = 1#1), ∀ a x, ((![v99, v123] : Fin 2 → IVec S16 32) a x).toNat < S320x128.size a) ∧
  (∀ (k0_h23 : k0_cond23 v14 k0_t7 = 1#1), ∀ a x, ((![v99, v123] : Fin 2 → IVec S16 32) a x).toNat < S320x128.size a)
theorem k0_idx1124_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v100, v123] : Fin 2 → IVec S16 32) a x).toNat < S16x128.size a := fun v14 k0_t7 v99 v100 v123 k0_hw229 k0_h23 => k0_hw229.1 k0_h23
theorem k0_idx1125_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v99, v123] : Fin 2 → IVec S16 32) a x).toNat < S320x128.size a := fun v14 k0_t7 v99 v100 v123 k0_hw229 k0_h23 => k0_hw229.2.1 k0_h23
theorem k0_idx1126_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v99, v123] : Fin 2 → IVec S16 32) a x).toNat < S320x128.size a := fun v14 k0_t7 v99 v100 v123 k0_hw229 k0_h23 => k0_hw229.2.2.1 k0_h23
theorem k0_idx1127_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v99, v123] : Fin 2 → IVec S16 32) a x).toNat < S320x128.size a := fun v14 k0_t7 v99 v100 v123 k0_hw229 k0_h23 => k0_hw229.2.2.2.1 k0_h23
theorem k0_idx1128_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v99, v123] : Fin 2 → IVec S16 32) a x).toNat < S320x128.size a := fun v14 k0_t7 v99 v100 v123 k0_hw229 k0_h23 => k0_hw229.2.2.2.2.1 k0_h23
theorem k0_idx1129_inb : ∀ (v14 : BitVec 32) (k0_t7 : Fin (k0_t7_loop v14).trips) (v99 : IVec S16 32) (v100 : IVec S16 32) (v123 : IVec S16 32) (k0_hw229 : k0_chk229 v14 k0_t7 v99 v100 v123), ∀ (k0_h23 : k0_cond23 v14 k0_t7 = 1#1), ∀ a x, ((![v99, v123] : Fin 2 → IVec S16 32) a x).toNat < S320x128.size a := fun v14 k0_t7 v99 v100 v123 k0_hw229 k0_h23 => k0_hw229.2.2.2.2.2 k0_h23

def k0_chk230 (v14 : BitVec 32) (k0_t7 : Fin (k0_t7_loop v14).trips) (v99 : IVec S16 32) (v100 : IVec S16 32) (v130 : IVec S16 32) : Prop :=
  (∀ (k0_h23 : k0_cond23 v14 k0_t7 = 1#1), ∀ a x, ((![v100, v130] : Fin 2 → IVec S16 32) a x).toNat < S16x128.size a) ∧
  (∀ (k0_h23 : k0_cond23 v14 k0_t7 = 1#1), ∀ a x, ((![v99, v130] : Fin 2 → IVec S16 32) a x).toNat < S320x128.size a) ∧
  (∀ (k0_h23 : k0_cond23 v14 k0_t7 = 1#1), ∀ a x, ((![v99, v130] : Fin 2 → IVec S16 32) a x).toNat < S320x128.size a) ∧
  (∀ (k0_h23 : k0_cond23 v14 k0_t7 = 1#1), ∀ a x, ((![v99, v130] : Fin 2 → IVec S16 32) a x).toNat < S320x128.size a) ∧
  (∀ (k0_h23 : k0_cond23 v14 k0_t7 = 1#1), ∀ a x, ((![v99, v130] : Fin 2 → IVec S16 32) a x).toNat < S320x128.size a) ∧
  (∀ (k0_h23 : k0_cond23 v14 k0_t7 = 1#1), ∀ a x, ((![v99, v130] : Fin 2 → IVec S16 32) a x).toNat < S320x128.size a)
theorem k0_idx1130_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v100, v130] : Fin 2 → IVec S16 32) a x).toNat < S16x128.size a := fun v14 k0_t7 v99 v100 v130 k0_hw230 k0_h23 => k0_hw230.1 k0_h23
theorem k0_idx1131_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v99, v130] : Fin 2 → IVec S16 32) a x).toNat < S320x128.size a := fun v14 k0_t7 v99 v100 v130 k0_hw230 k0_h23 => k0_hw230.2.1 k0_h23
theorem k0_idx1132_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v99, v130] : Fin 2 → IVec S16 32) a x).toNat < S320x128.size a := fun v14 k0_t7 v99 v100 v130 k0_hw230 k0_h23 => k0_hw230.2.2.1 k0_h23
theorem k0_idx1133_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v99, v130] : Fin 2 → IVec S16 32) a x).toNat < S320x128.size a := fun v14 k0_t7 v99 v100 v130 k0_hw230 k0_h23 => k0_hw230.2.2.2.1 k0_h23
theorem k0_idx1134_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v99, v130] : Fin 2 → IVec S16 32) a x).toNat < S320x128.size a := fun v14 k0_t7 v99 v100 v130 k0_hw230 k0_h23 => k0_hw230.2.2.2.2.1 k0_h23
theorem k0_idx1135_inb : ∀ (v14 : BitVec 32) (k0_t7 : Fin (k0_t7_loop v14).trips) (v99 : IVec S16 32) (v100 : IVec S16 32) (v130 : IVec S16 32) (k0_hw230 : k0_chk230 v14 k0_t7 v99 v100 v130), ∀ (k0_h23 : k0_cond23 v14 k0_t7 = 1#1), ∀ a x, ((![v99, v130] : Fin 2 → IVec S16 32) a x).toNat < S320x128.size a := fun v14 k0_t7 v99 v100 v130 k0_hw230 k0_h23 => k0_hw230.2.2.2.2.2 k0_h23

def k0_chk231 (v14 : BitVec 32) (k0_t7 : Fin (k0_t7_loop v14).trips) (v99 : IVec S16 32) (v100 : IVec S16 32) (v137 : IVec S16 32) : Prop :=
  (∀ (k0_h23 : k0_cond23 v14 k0_t7 = 1#1), ∀ a x, ((![v100, v137] : Fin 2 → IVec S16 32) a x).toNat < S16x128.size a) ∧
  (∀ (k0_h23 : k0_cond23 v14 k0_t7 = 1#1), ∀ a x, ((![v99, v137] : Fin 2 → IVec S16 32) a x).toNat < S320x128.size a) ∧
  (∀ (k0_h23 : k0_cond23 v14 k0_t7 = 1#1), ∀ a x, ((![v99, v137] : Fin 2 → IVec S16 32) a x).toNat < S320x128.size a) ∧
  (∀ (k0_h23 : k0_cond23 v14 k0_t7 = 1#1), ∀ a x, ((![v99, v137] : Fin 2 → IVec S16 32) a x).toNat < S320x128.size a) ∧
  (∀ (k0_h23 : k0_cond23 v14 k0_t7 = 1#1), ∀ a x, ((![v99, v137] : Fin 2 → IVec S16 32) a x).toNat < S320x128.size a) ∧
  (∀ (k0_h23 : k0_cond23 v14 k0_t7 = 1#1), ∀ a x, ((![v99, v137] : Fin 2 → IVec S16 32) a x).toNat < S320x128.size a)
theorem k0_idx1136_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v100, v137] : Fin 2 → IVec S16 32) a x).toNat < S16x128.size a := fun v14 k0_t7 v99 v100 v137 k0_hw231 k0_h23 => k0_hw231.1 k0_h23
theorem k0_idx1137_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v99, v137] : Fin 2 → IVec S16 32) a x).toNat < S320x128.size a := fun v14 k0_t7 v99 v100 v137 k0_hw231 k0_h23 => k0_hw231.2.1 k0_h23
theorem k0_idx1138_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v99, v137] : Fin 2 → IVec S16 32) a x).toNat < S320x128.size a := fun v14 k0_t7 v99 v100 v137 k0_hw231 k0_h23 => k0_hw231.2.2.1 k0_h23
theorem k0_idx1139_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v99, v137] : Fin 2 → IVec S16 32) a x).toNat < S320x128.size a := fun v14 k0_t7 v99 v100 v137 k0_hw231 k0_h23 => k0_hw231.2.2.2.1 k0_h23
theorem k0_idx1140_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v99, v137] : Fin 2 → IVec S16 32) a x).toNat < S320x128.size a := fun v14 k0_t7 v99 v100 v137 k0_hw231 k0_h23 => k0_hw231.2.2.2.2.1 k0_h23
theorem k0_idx1141_inb : ∀ (v14 : BitVec 32) (k0_t7 : Fin (k0_t7_loop v14).trips) (v99 : IVec S16 32) (v100 : IVec S16 32) (v137 : IVec S16 32) (k0_hw231 : k0_chk231 v14 k0_t7 v99 v100 v137), ∀ (k0_h23 : k0_cond23 v14 k0_t7 = 1#1), ∀ a x, ((![v99, v137] : Fin 2 → IVec S16 32) a x).toNat < S320x128.size a := fun v14 k0_t7 v99 v100 v137 k0_hw231 k0_h23 => k0_hw231.2.2.2.2.2 k0_h23

def k0_chk232 (v14 : BitVec 32) (k0_t7 : Fin (k0_t7_loop v14).trips) (v99 : IVec S16 32) (v100 : IVec S16 32) (v144 : IVec S16 32) : Prop :=
  (∀ (k0_h23 : k0_cond23 v14 k0_t7 = 1#1), ∀ a x, ((![v100, v144] : Fin 2 → IVec S16 32) a x).toNat < S16x128.size a) ∧
  (∀ (k0_h23 : k0_cond23 v14 k0_t7 = 1#1), ∀ a x, ((![v99, v144] : Fin 2 → IVec S16 32) a x).toNat < S320x128.size a) ∧
  (∀ (k0_h23 : k0_cond23 v14 k0_t7 = 1#1), ∀ a x, ((![v99, v144] : Fin 2 → IVec S16 32) a x).toNat < S320x128.size a) ∧
  (∀ (k0_h23 : k0_cond23 v14 k0_t7 = 1#1), ∀ a x, ((![v99, v144] : Fin 2 → IVec S16 32) a x).toNat < S320x128.size a) ∧
  (∀ (k0_h23 : k0_cond23 v14 k0_t7 = 1#1), ∀ a x, ((![v99, v144] : Fin 2 → IVec S16 32) a x).toNat < S320x128.size a) ∧
  (∀ (k0_h23 : k0_cond23 v14 k0_t7 = 1#1), ∀ a x, ((![v99, v144] : Fin 2 → IVec S16 32) a x).toNat < S320x128.size a)
theorem k0_idx1142_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v100, v144] : Fin 2 → IVec S16 32) a x).toNat < S16x128.size a := fun v14 k0_t7 v99 v100 v144 k0_hw232 k0_h23 => k0_hw232.1 k0_h23
theorem k0_idx1143_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v99, v144] : Fin 2 → IVec S16 32) a x).toNat < S320x128.size a := fun v14 k0_t7 v99 v100 v144 k0_hw232 k0_h23 => k0_hw232.2.1 k0_h23
theorem k0_idx1144_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v99, v144] : Fin 2 → IVec S16 32) a x).toNat < S320x128.size a := fun v14 k0_t7 v99 v100 v144 k0_hw232 k0_h23 => k0_hw232.2.2.1 k0_h23
theorem k0_idx1145_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v99, v144] : Fin 2 → IVec S16 32) a x).toNat < S320x128.size a := fun v14 k0_t7 v99 v100 v144 k0_hw232 k0_h23 => k0_hw232.2.2.2.1 k0_h23
theorem k0_idx1146_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v99, v144] : Fin 2 → IVec S16 32) a x).toNat < S320x128.size a := fun v14 k0_t7 v99 v100 v144 k0_hw232 k0_h23 => k0_hw232.2.2.2.2.1 k0_h23
theorem k0_idx1147_inb : ∀ (v14 : BitVec 32) (k0_t7 : Fin (k0_t7_loop v14).trips) (v99 : IVec S16 32) (v100 : IVec S16 32) (v144 : IVec S16 32) (k0_hw232 : k0_chk232 v14 k0_t7 v99 v100 v144), ∀ (k0_h23 : k0_cond23 v14 k0_t7 = 1#1), ∀ a x, ((![v99, v144] : Fin 2 → IVec S16 32) a x).toNat < S320x128.size a := fun v14 k0_t7 v99 v100 v144 k0_hw232 k0_h23 => k0_hw232.2.2.2.2.2 k0_h23

def k0_chk233 (v14 : BitVec 32) (k0_t7 : Fin (k0_t7_loop v14).trips) (v99 : IVec S16 32) (v100 : IVec S16 32) (v151 : IVec S16 32) : Prop :=
  (∀ (k0_h23 : k0_cond23 v14 k0_t7 = 1#1), ∀ a x, ((![v100, v151] : Fin 2 → IVec S16 32) a x).toNat < S16x128.size a) ∧
  (∀ (k0_h23 : k0_cond23 v14 k0_t7 = 1#1), ∀ a x, ((![v99, v151] : Fin 2 → IVec S16 32) a x).toNat < S320x128.size a) ∧
  (∀ (k0_h23 : k0_cond23 v14 k0_t7 = 1#1), ∀ a x, ((![v99, v151] : Fin 2 → IVec S16 32) a x).toNat < S320x128.size a) ∧
  (∀ (k0_h23 : k0_cond23 v14 k0_t7 = 1#1), ∀ a x, ((![v99, v151] : Fin 2 → IVec S16 32) a x).toNat < S320x128.size a) ∧
  (∀ (k0_h23 : k0_cond23 v14 k0_t7 = 1#1), ∀ a x, ((![v99, v151] : Fin 2 → IVec S16 32) a x).toNat < S320x128.size a) ∧
  (∀ (k0_h23 : k0_cond23 v14 k0_t7 = 1#1), ∀ a x, ((![v99, v151] : Fin 2 → IVec S16 32) a x).toNat < S320x128.size a)
theorem k0_idx1148_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v100, v151] : Fin 2 → IVec S16 32) a x).toNat < S16x128.size a := fun v14 k0_t7 v99 v100 v151 k0_hw233 k0_h23 => k0_hw233.1 k0_h23
theorem k0_idx1149_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v99, v151] : Fin 2 → IVec S16 32) a x).toNat < S320x128.size a := fun v14 k0_t7 v99 v100 v151 k0_hw233 k0_h23 => k0_hw233.2.1 k0_h23
theorem k0_idx1150_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v99, v151] : Fin 2 → IVec S16 32) a x).toNat < S320x128.size a := fun v14 k0_t7 v99 v100 v151 k0_hw233 k0_h23 => k0_hw233.2.2.1 k0_h23
theorem k0_idx1151_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v99, v151] : Fin 2 → IVec S16 32) a x).toNat < S320x128.size a := fun v14 k0_t7 v99 v100 v151 k0_hw233 k0_h23 => k0_hw233.2.2.2.1 k0_h23
theorem k0_idx1152_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v99, v151] : Fin 2 → IVec S16 32) a x).toNat < S320x128.size a := fun v14 k0_t7 v99 v100 v151 k0_hw233 k0_h23 => k0_hw233.2.2.2.2.1 k0_h23
theorem k0_idx1153_inb : ∀ (v14 : BitVec 32) (k0_t7 : Fin (k0_t7_loop v14).trips) (v99 : IVec S16 32) (v100 : IVec S16 32) (v151 : IVec S16 32) (k0_hw233 : k0_chk233 v14 k0_t7 v99 v100 v151), ∀ (k0_h23 : k0_cond23 v14 k0_t7 = 1#1), ∀ a x, ((![v99, v151] : Fin 2 → IVec S16 32) a x).toNat < S320x128.size a := fun v14 k0_t7 v99 v100 v151 k0_hw233 k0_h23 => k0_hw233.2.2.2.2.2 k0_h23

def k0_chk234 (v14 : BitVec 32) (k0_t7 : Fin (k0_t7_loop v14).trips) (v99 : IVec S16 32) : Prop :=
  (∀ (k0_h23 : k0_cond23 v14 k0_t7 = 1#1), ∀ a x, ((![v99] : Fin 1 → IVec S16 32) a x).toNat < S320.size a)
theorem k0_idx1154_inb : ∀ (v14 : BitVec 32) (k0_t7 : Fin (k0_t7_loop v14).trips) (v99 : IVec S16 32) (k0_hw234 : k0_chk234 v14 k0_t7 v99), ∀ (k0_h23 : k0_cond23 v14 k0_t7 = 1#1), ∀ a x, ((![v99] : Fin 1 → IVec S16 32) a x).toNat < S320.size a := fun v14 k0_t7 v99 k0_hw234 k0_h23 => k0_hw234 k0_h23
def k0_cond24 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c7_i32 : BitVec 32 := 7#32
  let v70 : BitVec 1 := Scalar.cmpi .sgt v45 c7_i32
  let v71 : BitVec 32 := Scalar.extui v70
  let c0_i32_50 : BitVec 32 := 0#32
  let v72 : BitVec 1 := Scalar.cmpi .ne v71 c0_i32_50
  v72

def k0_chk235 (v14 : BitVec 32) (k0_t7 : Fin (k0_t7_loop v14).trips) (v98 : IVec S16 32) : Prop :=
  (∀ (k0_h24 : k0_cond24 v14 k0_t7 = 1#1), ∀ a x, ((![v98] : Fin 1 → IVec S16 32) a x).toNat < S528.size a)
theorem k0_idx1155_inb : ∀ (v14 : BitVec 32) (k0_t7 : Fin (k0_t7_loop v14).trips) (v98 : IVec S16 32) (k0_hw235 : k0_chk235 v14 k0_t7 v98), ∀ (k0_h24 : k0_cond24 v14 k0_t7 = 1#1), ∀ a x, ((![v98] : Fin 1 → IVec S16 32) a x).toNat < S528.size a := fun v14 k0_t7 v98 k0_hw235 k0_h24 => k0_hw235 k0_h24

def k0_chk236 (v14 : BitVec 32) (k0_t7 : Fin (k0_t7_loop v14).trips) (v99 : IVec S16 32) (v100 : IVec S16 32) (v102 : IVec S16 32) : Prop :=
  (∀ (k0_h24 : k0_cond24 v14 k0_t7 = 1#1), ∀ a x, ((![v100, v102] : Fin 2 → IVec S16 32) a x).toNat < S16x128.size a) ∧
  (∀ (k0_h24 : k0_cond24 v14 k0_t7 = 1#1), ∀ a x, ((![v99, v102] : Fin 2 → IVec S16 32) a x).toNat < S320x128.size a) ∧
  (∀ (k0_h24 : k0_cond24 v14 k0_t7 = 1#1), ∀ a x, ((![v99, v102] : Fin 2 → IVec S16 32) a x).toNat < S320x128.size a) ∧
  (∀ (k0_h24 : k0_cond24 v14 k0_t7 = 1#1), ∀ a x, ((![v99, v102] : Fin 2 → IVec S16 32) a x).toNat < S320x128.size a) ∧
  (∀ (k0_h24 : k0_cond24 v14 k0_t7 = 1#1), ∀ a x, ((![v99, v102] : Fin 2 → IVec S16 32) a x).toNat < S320x128.size a) ∧
  (∀ (k0_h24 : k0_cond24 v14 k0_t7 = 1#1), ∀ a x, ((![v99, v102] : Fin 2 → IVec S16 32) a x).toNat < S320x128.size a)
theorem k0_idx1156_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v100, v102] : Fin 2 → IVec S16 32) a x).toNat < S16x128.size a := fun v14 k0_t7 v99 v100 v102 k0_hw236 k0_h24 => k0_hw236.1 k0_h24
theorem k0_idx1157_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v99, v102] : Fin 2 → IVec S16 32) a x).toNat < S320x128.size a := fun v14 k0_t7 v99 v100 v102 k0_hw236 k0_h24 => k0_hw236.2.1 k0_h24
theorem k0_idx1158_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v99, v102] : Fin 2 → IVec S16 32) a x).toNat < S320x128.size a := fun v14 k0_t7 v99 v100 v102 k0_hw236 k0_h24 => k0_hw236.2.2.1 k0_h24
theorem k0_idx1159_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v99, v102] : Fin 2 → IVec S16 32) a x).toNat < S320x128.size a := fun v14 k0_t7 v99 v100 v102 k0_hw236 k0_h24 => k0_hw236.2.2.2.1 k0_h24
theorem k0_idx1160_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v99, v102] : Fin 2 → IVec S16 32) a x).toNat < S320x128.size a := fun v14 k0_t7 v99 v100 v102 k0_hw236 k0_h24 => k0_hw236.2.2.2.2.1 k0_h24
theorem k0_idx1161_inb : ∀ (v14 : BitVec 32) (k0_t7 : Fin (k0_t7_loop v14).trips) (v99 : IVec S16 32) (v100 : IVec S16 32) (v102 : IVec S16 32) (k0_hw236 : k0_chk236 v14 k0_t7 v99 v100 v102), ∀ (k0_h24 : k0_cond24 v14 k0_t7 = 1#1), ∀ a x, ((![v99, v102] : Fin 2 → IVec S16 32) a x).toNat < S320x128.size a := fun v14 k0_t7 v99 v100 v102 k0_hw236 k0_h24 => k0_hw236.2.2.2.2.2 k0_h24

def k0_chk237 (v14 : BitVec 32) (k0_t7 : Fin (k0_t7_loop v14).trips) (v99 : IVec S16 32) (v100 : IVec S16 32) (v109 : IVec S16 32) : Prop :=
  (∀ (k0_h24 : k0_cond24 v14 k0_t7 = 1#1), ∀ a x, ((![v100, v109] : Fin 2 → IVec S16 32) a x).toNat < S16x128.size a) ∧
  (∀ (k0_h24 : k0_cond24 v14 k0_t7 = 1#1), ∀ a x, ((![v99, v109] : Fin 2 → IVec S16 32) a x).toNat < S320x128.size a) ∧
  (∀ (k0_h24 : k0_cond24 v14 k0_t7 = 1#1), ∀ a x, ((![v99, v109] : Fin 2 → IVec S16 32) a x).toNat < S320x128.size a) ∧
  (∀ (k0_h24 : k0_cond24 v14 k0_t7 = 1#1), ∀ a x, ((![v99, v109] : Fin 2 → IVec S16 32) a x).toNat < S320x128.size a) ∧
  (∀ (k0_h24 : k0_cond24 v14 k0_t7 = 1#1), ∀ a x, ((![v99, v109] : Fin 2 → IVec S16 32) a x).toNat < S320x128.size a) ∧
  (∀ (k0_h24 : k0_cond24 v14 k0_t7 = 1#1), ∀ a x, ((![v99, v109] : Fin 2 → IVec S16 32) a x).toNat < S320x128.size a)
theorem k0_idx1162_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v100, v109] : Fin 2 → IVec S16 32) a x).toNat < S16x128.size a := fun v14 k0_t7 v99 v100 v109 k0_hw237 k0_h24 => k0_hw237.1 k0_h24
theorem k0_idx1163_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v99, v109] : Fin 2 → IVec S16 32) a x).toNat < S320x128.size a := fun v14 k0_t7 v99 v100 v109 k0_hw237 k0_h24 => k0_hw237.2.1 k0_h24
theorem k0_idx1164_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v99, v109] : Fin 2 → IVec S16 32) a x).toNat < S320x128.size a := fun v14 k0_t7 v99 v100 v109 k0_hw237 k0_h24 => k0_hw237.2.2.1 k0_h24
theorem k0_idx1165_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v99, v109] : Fin 2 → IVec S16 32) a x).toNat < S320x128.size a := fun v14 k0_t7 v99 v100 v109 k0_hw237 k0_h24 => k0_hw237.2.2.2.1 k0_h24
theorem k0_idx1166_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v99, v109] : Fin 2 → IVec S16 32) a x).toNat < S320x128.size a := fun v14 k0_t7 v99 v100 v109 k0_hw237 k0_h24 => k0_hw237.2.2.2.2.1 k0_h24
theorem k0_idx1167_inb : ∀ (v14 : BitVec 32) (k0_t7 : Fin (k0_t7_loop v14).trips) (v99 : IVec S16 32) (v100 : IVec S16 32) (v109 : IVec S16 32) (k0_hw237 : k0_chk237 v14 k0_t7 v99 v100 v109), ∀ (k0_h24 : k0_cond24 v14 k0_t7 = 1#1), ∀ a x, ((![v99, v109] : Fin 2 → IVec S16 32) a x).toNat < S320x128.size a := fun v14 k0_t7 v99 v100 v109 k0_hw237 k0_h24 => k0_hw237.2.2.2.2.2 k0_h24

def k0_chk238 (v14 : BitVec 32) (k0_t7 : Fin (k0_t7_loop v14).trips) (v99 : IVec S16 32) (v100 : IVec S16 32) (v116 : IVec S16 32) : Prop :=
  (∀ (k0_h24 : k0_cond24 v14 k0_t7 = 1#1), ∀ a x, ((![v100, v116] : Fin 2 → IVec S16 32) a x).toNat < S16x128.size a) ∧
  (∀ (k0_h24 : k0_cond24 v14 k0_t7 = 1#1), ∀ a x, ((![v99, v116] : Fin 2 → IVec S16 32) a x).toNat < S320x128.size a) ∧
  (∀ (k0_h24 : k0_cond24 v14 k0_t7 = 1#1), ∀ a x, ((![v99, v116] : Fin 2 → IVec S16 32) a x).toNat < S320x128.size a) ∧
  (∀ (k0_h24 : k0_cond24 v14 k0_t7 = 1#1), ∀ a x, ((![v99, v116] : Fin 2 → IVec S16 32) a x).toNat < S320x128.size a) ∧
  (∀ (k0_h24 : k0_cond24 v14 k0_t7 = 1#1), ∀ a x, ((![v99, v116] : Fin 2 → IVec S16 32) a x).toNat < S320x128.size a) ∧
  (∀ (k0_h24 : k0_cond24 v14 k0_t7 = 1#1), ∀ a x, ((![v99, v116] : Fin 2 → IVec S16 32) a x).toNat < S320x128.size a)
theorem k0_idx1168_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v100, v116] : Fin 2 → IVec S16 32) a x).toNat < S16x128.size a := fun v14 k0_t7 v99 v100 v116 k0_hw238 k0_h24 => k0_hw238.1 k0_h24
theorem k0_idx1169_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v99, v116] : Fin 2 → IVec S16 32) a x).toNat < S320x128.size a := fun v14 k0_t7 v99 v100 v116 k0_hw238 k0_h24 => k0_hw238.2.1 k0_h24
theorem k0_idx1170_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v99, v116] : Fin 2 → IVec S16 32) a x).toNat < S320x128.size a := fun v14 k0_t7 v99 v100 v116 k0_hw238 k0_h24 => k0_hw238.2.2.1 k0_h24
theorem k0_idx1171_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v99, v116] : Fin 2 → IVec S16 32) a x).toNat < S320x128.size a := fun v14 k0_t7 v99 v100 v116 k0_hw238 k0_h24 => k0_hw238.2.2.2.1 k0_h24
theorem k0_idx1172_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v99, v116] : Fin 2 → IVec S16 32) a x).toNat < S320x128.size a := fun v14 k0_t7 v99 v100 v116 k0_hw238 k0_h24 => k0_hw238.2.2.2.2.1 k0_h24
theorem k0_idx1173_inb : ∀ (v14 : BitVec 32) (k0_t7 : Fin (k0_t7_loop v14).trips) (v99 : IVec S16 32) (v100 : IVec S16 32) (v116 : IVec S16 32) (k0_hw238 : k0_chk238 v14 k0_t7 v99 v100 v116), ∀ (k0_h24 : k0_cond24 v14 k0_t7 = 1#1), ∀ a x, ((![v99, v116] : Fin 2 → IVec S16 32) a x).toNat < S320x128.size a := fun v14 k0_t7 v99 v100 v116 k0_hw238 k0_h24 => k0_hw238.2.2.2.2.2 k0_h24

def k0_chk239 (v14 : BitVec 32) (k0_t7 : Fin (k0_t7_loop v14).trips) (v99 : IVec S16 32) (v100 : IVec S16 32) (v123 : IVec S16 32) : Prop :=
  (∀ (k0_h24 : k0_cond24 v14 k0_t7 = 1#1), ∀ a x, ((![v100, v123] : Fin 2 → IVec S16 32) a x).toNat < S16x128.size a) ∧
  (∀ (k0_h24 : k0_cond24 v14 k0_t7 = 1#1), ∀ a x, ((![v99, v123] : Fin 2 → IVec S16 32) a x).toNat < S320x128.size a) ∧
  (∀ (k0_h24 : k0_cond24 v14 k0_t7 = 1#1), ∀ a x, ((![v99, v123] : Fin 2 → IVec S16 32) a x).toNat < S320x128.size a) ∧
  (∀ (k0_h24 : k0_cond24 v14 k0_t7 = 1#1), ∀ a x, ((![v99, v123] : Fin 2 → IVec S16 32) a x).toNat < S320x128.size a) ∧
  (∀ (k0_h24 : k0_cond24 v14 k0_t7 = 1#1), ∀ a x, ((![v99, v123] : Fin 2 → IVec S16 32) a x).toNat < S320x128.size a) ∧
  (∀ (k0_h24 : k0_cond24 v14 k0_t7 = 1#1), ∀ a x, ((![v99, v123] : Fin 2 → IVec S16 32) a x).toNat < S320x128.size a)
theorem k0_idx1174_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v100, v123] : Fin 2 → IVec S16 32) a x).toNat < S16x128.size a := fun v14 k0_t7 v99 v100 v123 k0_hw239 k0_h24 => k0_hw239.1 k0_h24
theorem k0_idx1175_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v99, v123] : Fin 2 → IVec S16 32) a x).toNat < S320x128.size a := fun v14 k0_t7 v99 v100 v123 k0_hw239 k0_h24 => k0_hw239.2.1 k0_h24
theorem k0_idx1176_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v99, v123] : Fin 2 → IVec S16 32) a x).toNat < S320x128.size a := fun v14 k0_t7 v99 v100 v123 k0_hw239 k0_h24 => k0_hw239.2.2.1 k0_h24
theorem k0_idx1177_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v99, v123] : Fin 2 → IVec S16 32) a x).toNat < S320x128.size a := fun v14 k0_t7 v99 v100 v123 k0_hw239 k0_h24 => k0_hw239.2.2.2.1 k0_h24
theorem k0_idx1178_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v99, v123] : Fin 2 → IVec S16 32) a x).toNat < S320x128.size a := fun v14 k0_t7 v99 v100 v123 k0_hw239 k0_h24 => k0_hw239.2.2.2.2.1 k0_h24
theorem k0_idx1179_inb : ∀ (v14 : BitVec 32) (k0_t7 : Fin (k0_t7_loop v14).trips) (v99 : IVec S16 32) (v100 : IVec S16 32) (v123 : IVec S16 32) (k0_hw239 : k0_chk239 v14 k0_t7 v99 v100 v123), ∀ (k0_h24 : k0_cond24 v14 k0_t7 = 1#1), ∀ a x, ((![v99, v123] : Fin 2 → IVec S16 32) a x).toNat < S320x128.size a := fun v14 k0_t7 v99 v100 v123 k0_hw239 k0_h24 => k0_hw239.2.2.2.2.2 k0_h24

def k0_chk240 (v14 : BitVec 32) (k0_t7 : Fin (k0_t7_loop v14).trips) (v99 : IVec S16 32) (v100 : IVec S16 32) (v130 : IVec S16 32) : Prop :=
  (∀ (k0_h24 : k0_cond24 v14 k0_t7 = 1#1), ∀ a x, ((![v100, v130] : Fin 2 → IVec S16 32) a x).toNat < S16x128.size a) ∧
  (∀ (k0_h24 : k0_cond24 v14 k0_t7 = 1#1), ∀ a x, ((![v99, v130] : Fin 2 → IVec S16 32) a x).toNat < S320x128.size a) ∧
  (∀ (k0_h24 : k0_cond24 v14 k0_t7 = 1#1), ∀ a x, ((![v99, v130] : Fin 2 → IVec S16 32) a x).toNat < S320x128.size a) ∧
  (∀ (k0_h24 : k0_cond24 v14 k0_t7 = 1#1), ∀ a x, ((![v99, v130] : Fin 2 → IVec S16 32) a x).toNat < S320x128.size a) ∧
  (∀ (k0_h24 : k0_cond24 v14 k0_t7 = 1#1), ∀ a x, ((![v99, v130] : Fin 2 → IVec S16 32) a x).toNat < S320x128.size a) ∧
  (∀ (k0_h24 : k0_cond24 v14 k0_t7 = 1#1), ∀ a x, ((![v99, v130] : Fin 2 → IVec S16 32) a x).toNat < S320x128.size a)
theorem k0_idx1180_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v100, v130] : Fin 2 → IVec S16 32) a x).toNat < S16x128.size a := fun v14 k0_t7 v99 v100 v130 k0_hw240 k0_h24 => k0_hw240.1 k0_h24
theorem k0_idx1181_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v99, v130] : Fin 2 → IVec S16 32) a x).toNat < S320x128.size a := fun v14 k0_t7 v99 v100 v130 k0_hw240 k0_h24 => k0_hw240.2.1 k0_h24
theorem k0_idx1182_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v99, v130] : Fin 2 → IVec S16 32) a x).toNat < S320x128.size a := fun v14 k0_t7 v99 v100 v130 k0_hw240 k0_h24 => k0_hw240.2.2.1 k0_h24
theorem k0_idx1183_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v99, v130] : Fin 2 → IVec S16 32) a x).toNat < S320x128.size a := fun v14 k0_t7 v99 v100 v130 k0_hw240 k0_h24 => k0_hw240.2.2.2.1 k0_h24
theorem k0_idx1184_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v99, v130] : Fin 2 → IVec S16 32) a x).toNat < S320x128.size a := fun v14 k0_t7 v99 v100 v130 k0_hw240 k0_h24 => k0_hw240.2.2.2.2.1 k0_h24
theorem k0_idx1185_inb : ∀ (v14 : BitVec 32) (k0_t7 : Fin (k0_t7_loop v14).trips) (v99 : IVec S16 32) (v100 : IVec S16 32) (v130 : IVec S16 32) (k0_hw240 : k0_chk240 v14 k0_t7 v99 v100 v130), ∀ (k0_h24 : k0_cond24 v14 k0_t7 = 1#1), ∀ a x, ((![v99, v130] : Fin 2 → IVec S16 32) a x).toNat < S320x128.size a := fun v14 k0_t7 v99 v100 v130 k0_hw240 k0_h24 => k0_hw240.2.2.2.2.2 k0_h24

def k0_chk241 (v14 : BitVec 32) (k0_t7 : Fin (k0_t7_loop v14).trips) (v99 : IVec S16 32) (v100 : IVec S16 32) (v137 : IVec S16 32) : Prop :=
  (∀ (k0_h24 : k0_cond24 v14 k0_t7 = 1#1), ∀ a x, ((![v100, v137] : Fin 2 → IVec S16 32) a x).toNat < S16x128.size a) ∧
  (∀ (k0_h24 : k0_cond24 v14 k0_t7 = 1#1), ∀ a x, ((![v99, v137] : Fin 2 → IVec S16 32) a x).toNat < S320x128.size a) ∧
  (∀ (k0_h24 : k0_cond24 v14 k0_t7 = 1#1), ∀ a x, ((![v99, v137] : Fin 2 → IVec S16 32) a x).toNat < S320x128.size a) ∧
  (∀ (k0_h24 : k0_cond24 v14 k0_t7 = 1#1), ∀ a x, ((![v99, v137] : Fin 2 → IVec S16 32) a x).toNat < S320x128.size a) ∧
  (∀ (k0_h24 : k0_cond24 v14 k0_t7 = 1#1), ∀ a x, ((![v99, v137] : Fin 2 → IVec S16 32) a x).toNat < S320x128.size a) ∧
  (∀ (k0_h24 : k0_cond24 v14 k0_t7 = 1#1), ∀ a x, ((![v99, v137] : Fin 2 → IVec S16 32) a x).toNat < S320x128.size a)
theorem k0_idx1186_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v100, v137] : Fin 2 → IVec S16 32) a x).toNat < S16x128.size a := fun v14 k0_t7 v99 v100 v137 k0_hw241 k0_h24 => k0_hw241.1 k0_h24
theorem k0_idx1187_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v99, v137] : Fin 2 → IVec S16 32) a x).toNat < S320x128.size a := fun v14 k0_t7 v99 v100 v137 k0_hw241 k0_h24 => k0_hw241.2.1 k0_h24
theorem k0_idx1188_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v99, v137] : Fin 2 → IVec S16 32) a x).toNat < S320x128.size a := fun v14 k0_t7 v99 v100 v137 k0_hw241 k0_h24 => k0_hw241.2.2.1 k0_h24
theorem k0_idx1189_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v99, v137] : Fin 2 → IVec S16 32) a x).toNat < S320x128.size a := fun v14 k0_t7 v99 v100 v137 k0_hw241 k0_h24 => k0_hw241.2.2.2.1 k0_h24
theorem k0_idx1190_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v99, v137] : Fin 2 → IVec S16 32) a x).toNat < S320x128.size a := fun v14 k0_t7 v99 v100 v137 k0_hw241 k0_h24 => k0_hw241.2.2.2.2.1 k0_h24
theorem k0_idx1191_inb : ∀ (v14 : BitVec 32) (k0_t7 : Fin (k0_t7_loop v14).trips) (v99 : IVec S16 32) (v100 : IVec S16 32) (v137 : IVec S16 32) (k0_hw241 : k0_chk241 v14 k0_t7 v99 v100 v137), ∀ (k0_h24 : k0_cond24 v14 k0_t7 = 1#1), ∀ a x, ((![v99, v137] : Fin 2 → IVec S16 32) a x).toNat < S320x128.size a := fun v14 k0_t7 v99 v100 v137 k0_hw241 k0_h24 => k0_hw241.2.2.2.2.2 k0_h24

def k0_chk242 (v14 : BitVec 32) (k0_t7 : Fin (k0_t7_loop v14).trips) (v99 : IVec S16 32) (v100 : IVec S16 32) (v144 : IVec S16 32) : Prop :=
  (∀ (k0_h24 : k0_cond24 v14 k0_t7 = 1#1), ∀ a x, ((![v100, v144] : Fin 2 → IVec S16 32) a x).toNat < S16x128.size a) ∧
  (∀ (k0_h24 : k0_cond24 v14 k0_t7 = 1#1), ∀ a x, ((![v99, v144] : Fin 2 → IVec S16 32) a x).toNat < S320x128.size a) ∧
  (∀ (k0_h24 : k0_cond24 v14 k0_t7 = 1#1), ∀ a x, ((![v99, v144] : Fin 2 → IVec S16 32) a x).toNat < S320x128.size a) ∧
  (∀ (k0_h24 : k0_cond24 v14 k0_t7 = 1#1), ∀ a x, ((![v99, v144] : Fin 2 → IVec S16 32) a x).toNat < S320x128.size a) ∧
  (∀ (k0_h24 : k0_cond24 v14 k0_t7 = 1#1), ∀ a x, ((![v99, v144] : Fin 2 → IVec S16 32) a x).toNat < S320x128.size a) ∧
  (∀ (k0_h24 : k0_cond24 v14 k0_t7 = 1#1), ∀ a x, ((![v99, v144] : Fin 2 → IVec S16 32) a x).toNat < S320x128.size a)
theorem k0_idx1192_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v100, v144] : Fin 2 → IVec S16 32) a x).toNat < S16x128.size a := fun v14 k0_t7 v99 v100 v144 k0_hw242 k0_h24 => k0_hw242.1 k0_h24
theorem k0_idx1193_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v99, v144] : Fin 2 → IVec S16 32) a x).toNat < S320x128.size a := fun v14 k0_t7 v99 v100 v144 k0_hw242 k0_h24 => k0_hw242.2.1 k0_h24
theorem k0_idx1194_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v99, v144] : Fin 2 → IVec S16 32) a x).toNat < S320x128.size a := fun v14 k0_t7 v99 v100 v144 k0_hw242 k0_h24 => k0_hw242.2.2.1 k0_h24
theorem k0_idx1195_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v99, v144] : Fin 2 → IVec S16 32) a x).toNat < S320x128.size a := fun v14 k0_t7 v99 v100 v144 k0_hw242 k0_h24 => k0_hw242.2.2.2.1 k0_h24
theorem k0_idx1196_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v99, v144] : Fin 2 → IVec S16 32) a x).toNat < S320x128.size a := fun v14 k0_t7 v99 v100 v144 k0_hw242 k0_h24 => k0_hw242.2.2.2.2.1 k0_h24
theorem k0_idx1197_inb : ∀ (v14 : BitVec 32) (k0_t7 : Fin (k0_t7_loop v14).trips) (v99 : IVec S16 32) (v100 : IVec S16 32) (v144 : IVec S16 32) (k0_hw242 : k0_chk242 v14 k0_t7 v99 v100 v144), ∀ (k0_h24 : k0_cond24 v14 k0_t7 = 1#1), ∀ a x, ((![v99, v144] : Fin 2 → IVec S16 32) a x).toNat < S320x128.size a := fun v14 k0_t7 v99 v100 v144 k0_hw242 k0_h24 => k0_hw242.2.2.2.2.2 k0_h24

def k0_chk243 (v14 : BitVec 32) (k0_t7 : Fin (k0_t7_loop v14).trips) (v99 : IVec S16 32) (v100 : IVec S16 32) (v151 : IVec S16 32) : Prop :=
  (∀ (k0_h24 : k0_cond24 v14 k0_t7 = 1#1), ∀ a x, ((![v100, v151] : Fin 2 → IVec S16 32) a x).toNat < S16x128.size a) ∧
  (∀ (k0_h24 : k0_cond24 v14 k0_t7 = 1#1), ∀ a x, ((![v99, v151] : Fin 2 → IVec S16 32) a x).toNat < S320x128.size a) ∧
  (∀ (k0_h24 : k0_cond24 v14 k0_t7 = 1#1), ∀ a x, ((![v99, v151] : Fin 2 → IVec S16 32) a x).toNat < S320x128.size a) ∧
  (∀ (k0_h24 : k0_cond24 v14 k0_t7 = 1#1), ∀ a x, ((![v99, v151] : Fin 2 → IVec S16 32) a x).toNat < S320x128.size a) ∧
  (∀ (k0_h24 : k0_cond24 v14 k0_t7 = 1#1), ∀ a x, ((![v99, v151] : Fin 2 → IVec S16 32) a x).toNat < S320x128.size a) ∧
  (∀ (k0_h24 : k0_cond24 v14 k0_t7 = 1#1), ∀ a x, ((![v99, v151] : Fin 2 → IVec S16 32) a x).toNat < S320x128.size a)
theorem k0_idx1198_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v100, v151] : Fin 2 → IVec S16 32) a x).toNat < S16x128.size a := fun v14 k0_t7 v99 v100 v151 k0_hw243 k0_h24 => k0_hw243.1 k0_h24
theorem k0_idx1199_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v99, v151] : Fin 2 → IVec S16 32) a x).toNat < S320x128.size a := fun v14 k0_t7 v99 v100 v151 k0_hw243 k0_h24 => k0_hw243.2.1 k0_h24
theorem k0_idx1200_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v99, v151] : Fin 2 → IVec S16 32) a x).toNat < S320x128.size a := fun v14 k0_t7 v99 v100 v151 k0_hw243 k0_h24 => k0_hw243.2.2.1 k0_h24
theorem k0_idx1201_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v99, v151] : Fin 2 → IVec S16 32) a x).toNat < S320x128.size a := fun v14 k0_t7 v99 v100 v151 k0_hw243 k0_h24 => k0_hw243.2.2.2.1 k0_h24
theorem k0_idx1202_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v99, v151] : Fin 2 → IVec S16 32) a x).toNat < S320x128.size a := fun v14 k0_t7 v99 v100 v151 k0_hw243 k0_h24 => k0_hw243.2.2.2.2.1 k0_h24
theorem k0_idx1203_inb : ∀ (v14 : BitVec 32) (k0_t7 : Fin (k0_t7_loop v14).trips) (v99 : IVec S16 32) (v100 : IVec S16 32) (v151 : IVec S16 32) (k0_hw243 : k0_chk243 v14 k0_t7 v99 v100 v151), ∀ (k0_h24 : k0_cond24 v14 k0_t7 = 1#1), ∀ a x, ((![v99, v151] : Fin 2 → IVec S16 32) a x).toNat < S320x128.size a := fun v14 k0_t7 v99 v100 v151 k0_hw243 k0_h24 => k0_hw243.2.2.2.2.2 k0_h24

def k0_chk244 (v14 : BitVec 32) (k0_t7 : Fin (k0_t7_loop v14).trips) (v99 : IVec S16 32) : Prop :=
  (∀ (k0_h24 : k0_cond24 v14 k0_t7 = 1#1), ∀ a x, ((![v99] : Fin 1 → IVec S16 32) a x).toNat < S320.size a)
theorem k0_idx1204_inb : ∀ (v14 : BitVec 32) (k0_t7 : Fin (k0_t7_loop v14).trips) (v99 : IVec S16 32) (k0_hw244 : k0_chk244 v14 k0_t7 v99), ∀ (k0_h24 : k0_cond24 v14 k0_t7 = 1#1), ∀ a x, ((![v99] : Fin 1 → IVec S16 32) a x).toNat < S320.size a := fun v14 k0_t7 v99 k0_hw244 k0_h24 => k0_hw244 k0_h24
def k0_cond25 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c8_i32 : BitVec 32 := 8#32
  let v73 : BitVec 1 := Scalar.cmpi .sgt v45 c8_i32
  let v74 : BitVec 32 := Scalar.extui v73
  let c0_i32_51 : BitVec 32 := 0#32
  let v75 : BitVec 1 := Scalar.cmpi .ne v74 c0_i32_51
  v75

def k0_chk245 (v14 : BitVec 32) (k0_t7 : Fin (k0_t7_loop v14).trips) (v98 : IVec S16 32) : Prop :=
  (∀ (k0_h25 : k0_cond25 v14 k0_t7 = 1#1), ∀ a x, ((![v98] : Fin 1 → IVec S16 32) a x).toNat < S528.size a)
theorem k0_idx1205_inb : ∀ (v14 : BitVec 32) (k0_t7 : Fin (k0_t7_loop v14).trips) (v98 : IVec S16 32) (k0_hw245 : k0_chk245 v14 k0_t7 v98), ∀ (k0_h25 : k0_cond25 v14 k0_t7 = 1#1), ∀ a x, ((![v98] : Fin 1 → IVec S16 32) a x).toNat < S528.size a := fun v14 k0_t7 v98 k0_hw245 k0_h25 => k0_hw245 k0_h25

def k0_chk246 (v14 : BitVec 32) (k0_t7 : Fin (k0_t7_loop v14).trips) (v99 : IVec S16 32) (v100 : IVec S16 32) (v102 : IVec S16 32) : Prop :=
  (∀ (k0_h25 : k0_cond25 v14 k0_t7 = 1#1), ∀ a x, ((![v100, v102] : Fin 2 → IVec S16 32) a x).toNat < S16x128.size a) ∧
  (∀ (k0_h25 : k0_cond25 v14 k0_t7 = 1#1), ∀ a x, ((![v99, v102] : Fin 2 → IVec S16 32) a x).toNat < S320x128.size a) ∧
  (∀ (k0_h25 : k0_cond25 v14 k0_t7 = 1#1), ∀ a x, ((![v99, v102] : Fin 2 → IVec S16 32) a x).toNat < S320x128.size a) ∧
  (∀ (k0_h25 : k0_cond25 v14 k0_t7 = 1#1), ∀ a x, ((![v99, v102] : Fin 2 → IVec S16 32) a x).toNat < S320x128.size a) ∧
  (∀ (k0_h25 : k0_cond25 v14 k0_t7 = 1#1), ∀ a x, ((![v99, v102] : Fin 2 → IVec S16 32) a x).toNat < S320x128.size a) ∧
  (∀ (k0_h25 : k0_cond25 v14 k0_t7 = 1#1), ∀ a x, ((![v99, v102] : Fin 2 → IVec S16 32) a x).toNat < S320x128.size a)
theorem k0_idx1206_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v100, v102] : Fin 2 → IVec S16 32) a x).toNat < S16x128.size a := fun v14 k0_t7 v99 v100 v102 k0_hw246 k0_h25 => k0_hw246.1 k0_h25
theorem k0_idx1207_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v99, v102] : Fin 2 → IVec S16 32) a x).toNat < S320x128.size a := fun v14 k0_t7 v99 v100 v102 k0_hw246 k0_h25 => k0_hw246.2.1 k0_h25
theorem k0_idx1208_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v99, v102] : Fin 2 → IVec S16 32) a x).toNat < S320x128.size a := fun v14 k0_t7 v99 v100 v102 k0_hw246 k0_h25 => k0_hw246.2.2.1 k0_h25
theorem k0_idx1209_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v99, v102] : Fin 2 → IVec S16 32) a x).toNat < S320x128.size a := fun v14 k0_t7 v99 v100 v102 k0_hw246 k0_h25 => k0_hw246.2.2.2.1 k0_h25
theorem k0_idx1210_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v99, v102] : Fin 2 → IVec S16 32) a x).toNat < S320x128.size a := fun v14 k0_t7 v99 v100 v102 k0_hw246 k0_h25 => k0_hw246.2.2.2.2.1 k0_h25
theorem k0_idx1211_inb : ∀ (v14 : BitVec 32) (k0_t7 : Fin (k0_t7_loop v14).trips) (v99 : IVec S16 32) (v100 : IVec S16 32) (v102 : IVec S16 32) (k0_hw246 : k0_chk246 v14 k0_t7 v99 v100 v102), ∀ (k0_h25 : k0_cond25 v14 k0_t7 = 1#1), ∀ a x, ((![v99, v102] : Fin 2 → IVec S16 32) a x).toNat < S320x128.size a := fun v14 k0_t7 v99 v100 v102 k0_hw246 k0_h25 => k0_hw246.2.2.2.2.2 k0_h25

def k0_chk247 (v14 : BitVec 32) (k0_t7 : Fin (k0_t7_loop v14).trips) (v99 : IVec S16 32) (v100 : IVec S16 32) (v109 : IVec S16 32) : Prop :=
  (∀ (k0_h25 : k0_cond25 v14 k0_t7 = 1#1), ∀ a x, ((![v100, v109] : Fin 2 → IVec S16 32) a x).toNat < S16x128.size a) ∧
  (∀ (k0_h25 : k0_cond25 v14 k0_t7 = 1#1), ∀ a x, ((![v99, v109] : Fin 2 → IVec S16 32) a x).toNat < S320x128.size a) ∧
  (∀ (k0_h25 : k0_cond25 v14 k0_t7 = 1#1), ∀ a x, ((![v99, v109] : Fin 2 → IVec S16 32) a x).toNat < S320x128.size a) ∧
  (∀ (k0_h25 : k0_cond25 v14 k0_t7 = 1#1), ∀ a x, ((![v99, v109] : Fin 2 → IVec S16 32) a x).toNat < S320x128.size a) ∧
  (∀ (k0_h25 : k0_cond25 v14 k0_t7 = 1#1), ∀ a x, ((![v99, v109] : Fin 2 → IVec S16 32) a x).toNat < S320x128.size a) ∧
  (∀ (k0_h25 : k0_cond25 v14 k0_t7 = 1#1), ∀ a x, ((![v99, v109] : Fin 2 → IVec S16 32) a x).toNat < S320x128.size a)
theorem k0_idx1212_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v100, v109] : Fin 2 → IVec S16 32) a x).toNat < S16x128.size a := fun v14 k0_t7 v99 v100 v109 k0_hw247 k0_h25 => k0_hw247.1 k0_h25
theorem k0_idx1213_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v99, v109] : Fin 2 → IVec S16 32) a x).toNat < S320x128.size a := fun v14 k0_t7 v99 v100 v109 k0_hw247 k0_h25 => k0_hw247.2.1 k0_h25
theorem k0_idx1214_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v99, v109] : Fin 2 → IVec S16 32) a x).toNat < S320x128.size a := fun v14 k0_t7 v99 v100 v109 k0_hw247 k0_h25 => k0_hw247.2.2.1 k0_h25
theorem k0_idx1215_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v99, v109] : Fin 2 → IVec S16 32) a x).toNat < S320x128.size a := fun v14 k0_t7 v99 v100 v109 k0_hw247 k0_h25 => k0_hw247.2.2.2.1 k0_h25
theorem k0_idx1216_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v99, v109] : Fin 2 → IVec S16 32) a x).toNat < S320x128.size a := fun v14 k0_t7 v99 v100 v109 k0_hw247 k0_h25 => k0_hw247.2.2.2.2.1 k0_h25
theorem k0_idx1217_inb : ∀ (v14 : BitVec 32) (k0_t7 : Fin (k0_t7_loop v14).trips) (v99 : IVec S16 32) (v100 : IVec S16 32) (v109 : IVec S16 32) (k0_hw247 : k0_chk247 v14 k0_t7 v99 v100 v109), ∀ (k0_h25 : k0_cond25 v14 k0_t7 = 1#1), ∀ a x, ((![v99, v109] : Fin 2 → IVec S16 32) a x).toNat < S320x128.size a := fun v14 k0_t7 v99 v100 v109 k0_hw247 k0_h25 => k0_hw247.2.2.2.2.2 k0_h25

def k0_chk248 (v14 : BitVec 32) (k0_t7 : Fin (k0_t7_loop v14).trips) (v99 : IVec S16 32) (v100 : IVec S16 32) (v116 : IVec S16 32) : Prop :=
  (∀ (k0_h25 : k0_cond25 v14 k0_t7 = 1#1), ∀ a x, ((![v100, v116] : Fin 2 → IVec S16 32) a x).toNat < S16x128.size a) ∧
  (∀ (k0_h25 : k0_cond25 v14 k0_t7 = 1#1), ∀ a x, ((![v99, v116] : Fin 2 → IVec S16 32) a x).toNat < S320x128.size a) ∧
  (∀ (k0_h25 : k0_cond25 v14 k0_t7 = 1#1), ∀ a x, ((![v99, v116] : Fin 2 → IVec S16 32) a x).toNat < S320x128.size a) ∧
  (∀ (k0_h25 : k0_cond25 v14 k0_t7 = 1#1), ∀ a x, ((![v99, v116] : Fin 2 → IVec S16 32) a x).toNat < S320x128.size a) ∧
  (∀ (k0_h25 : k0_cond25 v14 k0_t7 = 1#1), ∀ a x, ((![v99, v116] : Fin 2 → IVec S16 32) a x).toNat < S320x128.size a) ∧
  (∀ (k0_h25 : k0_cond25 v14 k0_t7 = 1#1), ∀ a x, ((![v99, v116] : Fin 2 → IVec S16 32) a x).toNat < S320x128.size a)
theorem k0_idx1218_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v100, v116] : Fin 2 → IVec S16 32) a x).toNat < S16x128.size a := fun v14 k0_t7 v99 v100 v116 k0_hw248 k0_h25 => k0_hw248.1 k0_h25
theorem k0_idx1219_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v99, v116] : Fin 2 → IVec S16 32) a x).toNat < S320x128.size a := fun v14 k0_t7 v99 v100 v116 k0_hw248 k0_h25 => k0_hw248.2.1 k0_h25
theorem k0_idx1220_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v99, v116] : Fin 2 → IVec S16 32) a x).toNat < S320x128.size a := fun v14 k0_t7 v99 v100 v116 k0_hw248 k0_h25 => k0_hw248.2.2.1 k0_h25
theorem k0_idx1221_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v99, v116] : Fin 2 → IVec S16 32) a x).toNat < S320x128.size a := fun v14 k0_t7 v99 v100 v116 k0_hw248 k0_h25 => k0_hw248.2.2.2.1 k0_h25
theorem k0_idx1222_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v99, v116] : Fin 2 → IVec S16 32) a x).toNat < S320x128.size a := fun v14 k0_t7 v99 v100 v116 k0_hw248 k0_h25 => k0_hw248.2.2.2.2.1 k0_h25
theorem k0_idx1223_inb : ∀ (v14 : BitVec 32) (k0_t7 : Fin (k0_t7_loop v14).trips) (v99 : IVec S16 32) (v100 : IVec S16 32) (v116 : IVec S16 32) (k0_hw248 : k0_chk248 v14 k0_t7 v99 v100 v116), ∀ (k0_h25 : k0_cond25 v14 k0_t7 = 1#1), ∀ a x, ((![v99, v116] : Fin 2 → IVec S16 32) a x).toNat < S320x128.size a := fun v14 k0_t7 v99 v100 v116 k0_hw248 k0_h25 => k0_hw248.2.2.2.2.2 k0_h25

def k0_chk249 (v14 : BitVec 32) (k0_t7 : Fin (k0_t7_loop v14).trips) (v99 : IVec S16 32) (v100 : IVec S16 32) (v123 : IVec S16 32) : Prop :=
  (∀ (k0_h25 : k0_cond25 v14 k0_t7 = 1#1), ∀ a x, ((![v100, v123] : Fin 2 → IVec S16 32) a x).toNat < S16x128.size a) ∧
  (∀ (k0_h25 : k0_cond25 v14 k0_t7 = 1#1), ∀ a x, ((![v99, v123] : Fin 2 → IVec S16 32) a x).toNat < S320x128.size a) ∧
  (∀ (k0_h25 : k0_cond25 v14 k0_t7 = 1#1), ∀ a x, ((![v99, v123] : Fin 2 → IVec S16 32) a x).toNat < S320x128.size a) ∧
  (∀ (k0_h25 : k0_cond25 v14 k0_t7 = 1#1), ∀ a x, ((![v99, v123] : Fin 2 → IVec S16 32) a x).toNat < S320x128.size a) ∧
  (∀ (k0_h25 : k0_cond25 v14 k0_t7 = 1#1), ∀ a x, ((![v99, v123] : Fin 2 → IVec S16 32) a x).toNat < S320x128.size a) ∧
  (∀ (k0_h25 : k0_cond25 v14 k0_t7 = 1#1), ∀ a x, ((![v99, v123] : Fin 2 → IVec S16 32) a x).toNat < S320x128.size a)
theorem k0_idx1224_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v100, v123] : Fin 2 → IVec S16 32) a x).toNat < S16x128.size a := fun v14 k0_t7 v99 v100 v123 k0_hw249 k0_h25 => k0_hw249.1 k0_h25
theorem k0_idx1225_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v99, v123] : Fin 2 → IVec S16 32) a x).toNat < S320x128.size a := fun v14 k0_t7 v99 v100 v123 k0_hw249 k0_h25 => k0_hw249.2.1 k0_h25
theorem k0_idx1226_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v99, v123] : Fin 2 → IVec S16 32) a x).toNat < S320x128.size a := fun v14 k0_t7 v99 v100 v123 k0_hw249 k0_h25 => k0_hw249.2.2.1 k0_h25
theorem k0_idx1227_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v99, v123] : Fin 2 → IVec S16 32) a x).toNat < S320x128.size a := fun v14 k0_t7 v99 v100 v123 k0_hw249 k0_h25 => k0_hw249.2.2.2.1 k0_h25
theorem k0_idx1228_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v99, v123] : Fin 2 → IVec S16 32) a x).toNat < S320x128.size a := fun v14 k0_t7 v99 v100 v123 k0_hw249 k0_h25 => k0_hw249.2.2.2.2.1 k0_h25
theorem k0_idx1229_inb : ∀ (v14 : BitVec 32) (k0_t7 : Fin (k0_t7_loop v14).trips) (v99 : IVec S16 32) (v100 : IVec S16 32) (v123 : IVec S16 32) (k0_hw249 : k0_chk249 v14 k0_t7 v99 v100 v123), ∀ (k0_h25 : k0_cond25 v14 k0_t7 = 1#1), ∀ a x, ((![v99, v123] : Fin 2 → IVec S16 32) a x).toNat < S320x128.size a := fun v14 k0_t7 v99 v100 v123 k0_hw249 k0_h25 => k0_hw249.2.2.2.2.2 k0_h25

def k0_chk250 (v14 : BitVec 32) (k0_t7 : Fin (k0_t7_loop v14).trips) (v99 : IVec S16 32) (v100 : IVec S16 32) (v130 : IVec S16 32) : Prop :=
  (∀ (k0_h25 : k0_cond25 v14 k0_t7 = 1#1), ∀ a x, ((![v100, v130] : Fin 2 → IVec S16 32) a x).toNat < S16x128.size a) ∧
  (∀ (k0_h25 : k0_cond25 v14 k0_t7 = 1#1), ∀ a x, ((![v99, v130] : Fin 2 → IVec S16 32) a x).toNat < S320x128.size a) ∧
  (∀ (k0_h25 : k0_cond25 v14 k0_t7 = 1#1), ∀ a x, ((![v99, v130] : Fin 2 → IVec S16 32) a x).toNat < S320x128.size a) ∧
  (∀ (k0_h25 : k0_cond25 v14 k0_t7 = 1#1), ∀ a x, ((![v99, v130] : Fin 2 → IVec S16 32) a x).toNat < S320x128.size a) ∧
  (∀ (k0_h25 : k0_cond25 v14 k0_t7 = 1#1), ∀ a x, ((![v99, v130] : Fin 2 → IVec S16 32) a x).toNat < S320x128.size a) ∧
  (∀ (k0_h25 : k0_cond25 v14 k0_t7 = 1#1), ∀ a x, ((![v99, v130] : Fin 2 → IVec S16 32) a x).toNat < S320x128.size a)
theorem k0_idx1230_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v100, v130] : Fin 2 → IVec S16 32) a x).toNat < S16x128.size a := fun v14 k0_t7 v99 v100 v130 k0_hw250 k0_h25 => k0_hw250.1 k0_h25
theorem k0_idx1231_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v99, v130] : Fin 2 → IVec S16 32) a x).toNat < S320x128.size a := fun v14 k0_t7 v99 v100 v130 k0_hw250 k0_h25 => k0_hw250.2.1 k0_h25
theorem k0_idx1232_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v99, v130] : Fin 2 → IVec S16 32) a x).toNat < S320x128.size a := fun v14 k0_t7 v99 v100 v130 k0_hw250 k0_h25 => k0_hw250.2.2.1 k0_h25
theorem k0_idx1233_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v99, v130] : Fin 2 → IVec S16 32) a x).toNat < S320x128.size a := fun v14 k0_t7 v99 v100 v130 k0_hw250 k0_h25 => k0_hw250.2.2.2.1 k0_h25
theorem k0_idx1234_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v99, v130] : Fin 2 → IVec S16 32) a x).toNat < S320x128.size a := fun v14 k0_t7 v99 v100 v130 k0_hw250 k0_h25 => k0_hw250.2.2.2.2.1 k0_h25
theorem k0_idx1235_inb : ∀ (v14 : BitVec 32) (k0_t7 : Fin (k0_t7_loop v14).trips) (v99 : IVec S16 32) (v100 : IVec S16 32) (v130 : IVec S16 32) (k0_hw250 : k0_chk250 v14 k0_t7 v99 v100 v130), ∀ (k0_h25 : k0_cond25 v14 k0_t7 = 1#1), ∀ a x, ((![v99, v130] : Fin 2 → IVec S16 32) a x).toNat < S320x128.size a := fun v14 k0_t7 v99 v100 v130 k0_hw250 k0_h25 => k0_hw250.2.2.2.2.2 k0_h25

def k0_chk251 (v14 : BitVec 32) (k0_t7 : Fin (k0_t7_loop v14).trips) (v99 : IVec S16 32) (v100 : IVec S16 32) (v137 : IVec S16 32) : Prop :=
  (∀ (k0_h25 : k0_cond25 v14 k0_t7 = 1#1), ∀ a x, ((![v100, v137] : Fin 2 → IVec S16 32) a x).toNat < S16x128.size a) ∧
  (∀ (k0_h25 : k0_cond25 v14 k0_t7 = 1#1), ∀ a x, ((![v99, v137] : Fin 2 → IVec S16 32) a x).toNat < S320x128.size a) ∧
  (∀ (k0_h25 : k0_cond25 v14 k0_t7 = 1#1), ∀ a x, ((![v99, v137] : Fin 2 → IVec S16 32) a x).toNat < S320x128.size a) ∧
  (∀ (k0_h25 : k0_cond25 v14 k0_t7 = 1#1), ∀ a x, ((![v99, v137] : Fin 2 → IVec S16 32) a x).toNat < S320x128.size a) ∧
  (∀ (k0_h25 : k0_cond25 v14 k0_t7 = 1#1), ∀ a x, ((![v99, v137] : Fin 2 → IVec S16 32) a x).toNat < S320x128.size a) ∧
  (∀ (k0_h25 : k0_cond25 v14 k0_t7 = 1#1), ∀ a x, ((![v99, v137] : Fin 2 → IVec S16 32) a x).toNat < S320x128.size a)
theorem k0_idx1236_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v100, v137] : Fin 2 → IVec S16 32) a x).toNat < S16x128.size a := fun v14 k0_t7 v99 v100 v137 k0_hw251 k0_h25 => k0_hw251.1 k0_h25
theorem k0_idx1237_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v99, v137] : Fin 2 → IVec S16 32) a x).toNat < S320x128.size a := fun v14 k0_t7 v99 v100 v137 k0_hw251 k0_h25 => k0_hw251.2.1 k0_h25
theorem k0_idx1238_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v99, v137] : Fin 2 → IVec S16 32) a x).toNat < S320x128.size a := fun v14 k0_t7 v99 v100 v137 k0_hw251 k0_h25 => k0_hw251.2.2.1 k0_h25
theorem k0_idx1239_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v99, v137] : Fin 2 → IVec S16 32) a x).toNat < S320x128.size a := fun v14 k0_t7 v99 v100 v137 k0_hw251 k0_h25 => k0_hw251.2.2.2.1 k0_h25
theorem k0_idx1240_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v99, v137] : Fin 2 → IVec S16 32) a x).toNat < S320x128.size a := fun v14 k0_t7 v99 v100 v137 k0_hw251 k0_h25 => k0_hw251.2.2.2.2.1 k0_h25
theorem k0_idx1241_inb : ∀ (v14 : BitVec 32) (k0_t7 : Fin (k0_t7_loop v14).trips) (v99 : IVec S16 32) (v100 : IVec S16 32) (v137 : IVec S16 32) (k0_hw251 : k0_chk251 v14 k0_t7 v99 v100 v137), ∀ (k0_h25 : k0_cond25 v14 k0_t7 = 1#1), ∀ a x, ((![v99, v137] : Fin 2 → IVec S16 32) a x).toNat < S320x128.size a := fun v14 k0_t7 v99 v100 v137 k0_hw251 k0_h25 => k0_hw251.2.2.2.2.2 k0_h25

def k0_chk252 (v14 : BitVec 32) (k0_t7 : Fin (k0_t7_loop v14).trips) (v99 : IVec S16 32) (v100 : IVec S16 32) (v144 : IVec S16 32) : Prop :=
  (∀ (k0_h25 : k0_cond25 v14 k0_t7 = 1#1), ∀ a x, ((![v100, v144] : Fin 2 → IVec S16 32) a x).toNat < S16x128.size a) ∧
  (∀ (k0_h25 : k0_cond25 v14 k0_t7 = 1#1), ∀ a x, ((![v99, v144] : Fin 2 → IVec S16 32) a x).toNat < S320x128.size a) ∧
  (∀ (k0_h25 : k0_cond25 v14 k0_t7 = 1#1), ∀ a x, ((![v99, v144] : Fin 2 → IVec S16 32) a x).toNat < S320x128.size a) ∧
  (∀ (k0_h25 : k0_cond25 v14 k0_t7 = 1#1), ∀ a x, ((![v99, v144] : Fin 2 → IVec S16 32) a x).toNat < S320x128.size a) ∧
  (∀ (k0_h25 : k0_cond25 v14 k0_t7 = 1#1), ∀ a x, ((![v99, v144] : Fin 2 → IVec S16 32) a x).toNat < S320x128.size a) ∧
  (∀ (k0_h25 : k0_cond25 v14 k0_t7 = 1#1), ∀ a x, ((![v99, v144] : Fin 2 → IVec S16 32) a x).toNat < S320x128.size a)
theorem k0_idx1242_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v100, v144] : Fin 2 → IVec S16 32) a x).toNat < S16x128.size a := fun v14 k0_t7 v99 v100 v144 k0_hw252 k0_h25 => k0_hw252.1 k0_h25
theorem k0_idx1243_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v99, v144] : Fin 2 → IVec S16 32) a x).toNat < S320x128.size a := fun v14 k0_t7 v99 v100 v144 k0_hw252 k0_h25 => k0_hw252.2.1 k0_h25
theorem k0_idx1244_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v99, v144] : Fin 2 → IVec S16 32) a x).toNat < S320x128.size a := fun v14 k0_t7 v99 v100 v144 k0_hw252 k0_h25 => k0_hw252.2.2.1 k0_h25
theorem k0_idx1245_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v99, v144] : Fin 2 → IVec S16 32) a x).toNat < S320x128.size a := fun v14 k0_t7 v99 v100 v144 k0_hw252 k0_h25 => k0_hw252.2.2.2.1 k0_h25
theorem k0_idx1246_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v99, v144] : Fin 2 → IVec S16 32) a x).toNat < S320x128.size a := fun v14 k0_t7 v99 v100 v144 k0_hw252 k0_h25 => k0_hw252.2.2.2.2.1 k0_h25
theorem k0_idx1247_inb : ∀ (v14 : BitVec 32) (k0_t7 : Fin (k0_t7_loop v14).trips) (v99 : IVec S16 32) (v100 : IVec S16 32) (v144 : IVec S16 32) (k0_hw252 : k0_chk252 v14 k0_t7 v99 v100 v144), ∀ (k0_h25 : k0_cond25 v14 k0_t7 = 1#1), ∀ a x, ((![v99, v144] : Fin 2 → IVec S16 32) a x).toNat < S320x128.size a := fun v14 k0_t7 v99 v100 v144 k0_hw252 k0_h25 => k0_hw252.2.2.2.2.2 k0_h25

def k0_chk253 (v14 : BitVec 32) (k0_t7 : Fin (k0_t7_loop v14).trips) (v99 : IVec S16 32) (v100 : IVec S16 32) (v151 : IVec S16 32) : Prop :=
  (∀ (k0_h25 : k0_cond25 v14 k0_t7 = 1#1), ∀ a x, ((![v100, v151] : Fin 2 → IVec S16 32) a x).toNat < S16x128.size a) ∧
  (∀ (k0_h25 : k0_cond25 v14 k0_t7 = 1#1), ∀ a x, ((![v99, v151] : Fin 2 → IVec S16 32) a x).toNat < S320x128.size a) ∧
  (∀ (k0_h25 : k0_cond25 v14 k0_t7 = 1#1), ∀ a x, ((![v99, v151] : Fin 2 → IVec S16 32) a x).toNat < S320x128.size a) ∧
  (∀ (k0_h25 : k0_cond25 v14 k0_t7 = 1#1), ∀ a x, ((![v99, v151] : Fin 2 → IVec S16 32) a x).toNat < S320x128.size a) ∧
  (∀ (k0_h25 : k0_cond25 v14 k0_t7 = 1#1), ∀ a x, ((![v99, v151] : Fin 2 → IVec S16 32) a x).toNat < S320x128.size a) ∧
  (∀ (k0_h25 : k0_cond25 v14 k0_t7 = 1#1), ∀ a x, ((![v99, v151] : Fin 2 → IVec S16 32) a x).toNat < S320x128.size a)
theorem k0_idx1248_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v100, v151] : Fin 2 → IVec S16 32) a x).toNat < S16x128.size a := fun v14 k0_t7 v99 v100 v151 k0_hw253 k0_h25 => k0_hw253.1 k0_h25
theorem k0_idx1249_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v99, v151] : Fin 2 → IVec S16 32) a x).toNat < S320x128.size a := fun v14 k0_t7 v99 v100 v151 k0_hw253 k0_h25 => k0_hw253.2.1 k0_h25
theorem k0_idx1250_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v99, v151] : Fin 2 → IVec S16 32) a x).toNat < S320x128.size a := fun v14 k0_t7 v99 v100 v151 k0_hw253 k0_h25 => k0_hw253.2.2.1 k0_h25
theorem k0_idx1251_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v99, v151] : Fin 2 → IVec S16 32) a x).toNat < S320x128.size a := fun v14 k0_t7 v99 v100 v151 k0_hw253 k0_h25 => k0_hw253.2.2.2.1 k0_h25
theorem k0_idx1252_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v99, v151] : Fin 2 → IVec S16 32) a x).toNat < S320x128.size a := fun v14 k0_t7 v99 v100 v151 k0_hw253 k0_h25 => k0_hw253.2.2.2.2.1 k0_h25
theorem k0_idx1253_inb : ∀ (v14 : BitVec 32) (k0_t7 : Fin (k0_t7_loop v14).trips) (v99 : IVec S16 32) (v100 : IVec S16 32) (v151 : IVec S16 32) (k0_hw253 : k0_chk253 v14 k0_t7 v99 v100 v151), ∀ (k0_h25 : k0_cond25 v14 k0_t7 = 1#1), ∀ a x, ((![v99, v151] : Fin 2 → IVec S16 32) a x).toNat < S320x128.size a := fun v14 k0_t7 v99 v100 v151 k0_hw253 k0_h25 => k0_hw253.2.2.2.2.2 k0_h25

def k0_chk254 (v14 : BitVec 32) (k0_t7 : Fin (k0_t7_loop v14).trips) (v99 : IVec S16 32) : Prop :=
  (∀ (k0_h25 : k0_cond25 v14 k0_t7 = 1#1), ∀ a x, ((![v99] : Fin 1 → IVec S16 32) a x).toNat < S320.size a)
theorem k0_idx1254_inb : ∀ (v14 : BitVec 32) (k0_t7 : Fin (k0_t7_loop v14).trips) (v99 : IVec S16 32) (k0_hw254 : k0_chk254 v14 k0_t7 v99), ∀ (k0_h25 : k0_cond25 v14 k0_t7 = 1#1), ∀ a x, ((![v99] : Fin 1 → IVec S16 32) a x).toNat < S320.size a := fun v14 k0_t7 v99 k0_hw254 k0_h25 => k0_hw254 k0_h25
def k0_cond26 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c9_i32 : BitVec 32 := 9#32
  let v76 : BitVec 1 := Scalar.cmpi .sgt v45 c9_i32
  let v77 : BitVec 32 := Scalar.extui v76
  let c0_i32_52 : BitVec 32 := 0#32
  let v78 : BitVec 1 := Scalar.cmpi .ne v77 c0_i32_52
  v78

def k0_chk255 (v14 : BitVec 32) (k0_t7 : Fin (k0_t7_loop v14).trips) (v98 : IVec S16 32) : Prop :=
  (∀ (k0_h26 : k0_cond26 v14 k0_t7 = 1#1), ∀ a x, ((![v98] : Fin 1 → IVec S16 32) a x).toNat < S528.size a)
theorem k0_idx1255_inb : ∀ (v14 : BitVec 32) (k0_t7 : Fin (k0_t7_loop v14).trips) (v98 : IVec S16 32) (k0_hw255 : k0_chk255 v14 k0_t7 v98), ∀ (k0_h26 : k0_cond26 v14 k0_t7 = 1#1), ∀ a x, ((![v98] : Fin 1 → IVec S16 32) a x).toNat < S528.size a := fun v14 k0_t7 v98 k0_hw255 k0_h26 => k0_hw255 k0_h26

def k0_chk256 (v14 : BitVec 32) (k0_t7 : Fin (k0_t7_loop v14).trips) (v99 : IVec S16 32) (v100 : IVec S16 32) (v102 : IVec S16 32) : Prop :=
  (∀ (k0_h26 : k0_cond26 v14 k0_t7 = 1#1), ∀ a x, ((![v100, v102] : Fin 2 → IVec S16 32) a x).toNat < S16x128.size a) ∧
  (∀ (k0_h26 : k0_cond26 v14 k0_t7 = 1#1), ∀ a x, ((![v99, v102] : Fin 2 → IVec S16 32) a x).toNat < S320x128.size a) ∧
  (∀ (k0_h26 : k0_cond26 v14 k0_t7 = 1#1), ∀ a x, ((![v99, v102] : Fin 2 → IVec S16 32) a x).toNat < S320x128.size a) ∧
  (∀ (k0_h26 : k0_cond26 v14 k0_t7 = 1#1), ∀ a x, ((![v99, v102] : Fin 2 → IVec S16 32) a x).toNat < S320x128.size a) ∧
  (∀ (k0_h26 : k0_cond26 v14 k0_t7 = 1#1), ∀ a x, ((![v99, v102] : Fin 2 → IVec S16 32) a x).toNat < S320x128.size a) ∧
  (∀ (k0_h26 : k0_cond26 v14 k0_t7 = 1#1), ∀ a x, ((![v99, v102] : Fin 2 → IVec S16 32) a x).toNat < S320x128.size a)
theorem k0_idx1256_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v100, v102] : Fin 2 → IVec S16 32) a x).toNat < S16x128.size a := fun v14 k0_t7 v99 v100 v102 k0_hw256 k0_h26 => k0_hw256.1 k0_h26
theorem k0_idx1257_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v99, v102] : Fin 2 → IVec S16 32) a x).toNat < S320x128.size a := fun v14 k0_t7 v99 v100 v102 k0_hw256 k0_h26 => k0_hw256.2.1 k0_h26
theorem k0_idx1258_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v99, v102] : Fin 2 → IVec S16 32) a x).toNat < S320x128.size a := fun v14 k0_t7 v99 v100 v102 k0_hw256 k0_h26 => k0_hw256.2.2.1 k0_h26
theorem k0_idx1259_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v99, v102] : Fin 2 → IVec S16 32) a x).toNat < S320x128.size a := fun v14 k0_t7 v99 v100 v102 k0_hw256 k0_h26 => k0_hw256.2.2.2.1 k0_h26
theorem k0_idx1260_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v99, v102] : Fin 2 → IVec S16 32) a x).toNat < S320x128.size a := fun v14 k0_t7 v99 v100 v102 k0_hw256 k0_h26 => k0_hw256.2.2.2.2.1 k0_h26
theorem k0_idx1261_inb : ∀ (v14 : BitVec 32) (k0_t7 : Fin (k0_t7_loop v14).trips) (v99 : IVec S16 32) (v100 : IVec S16 32) (v102 : IVec S16 32) (k0_hw256 : k0_chk256 v14 k0_t7 v99 v100 v102), ∀ (k0_h26 : k0_cond26 v14 k0_t7 = 1#1), ∀ a x, ((![v99, v102] : Fin 2 → IVec S16 32) a x).toNat < S320x128.size a := fun v14 k0_t7 v99 v100 v102 k0_hw256 k0_h26 => k0_hw256.2.2.2.2.2 k0_h26

def k0_chk257 (v14 : BitVec 32) (k0_t7 : Fin (k0_t7_loop v14).trips) (v99 : IVec S16 32) (v100 : IVec S16 32) (v109 : IVec S16 32) : Prop :=
  (∀ (k0_h26 : k0_cond26 v14 k0_t7 = 1#1), ∀ a x, ((![v100, v109] : Fin 2 → IVec S16 32) a x).toNat < S16x128.size a) ∧
  (∀ (k0_h26 : k0_cond26 v14 k0_t7 = 1#1), ∀ a x, ((![v99, v109] : Fin 2 → IVec S16 32) a x).toNat < S320x128.size a) ∧
  (∀ (k0_h26 : k0_cond26 v14 k0_t7 = 1#1), ∀ a x, ((![v99, v109] : Fin 2 → IVec S16 32) a x).toNat < S320x128.size a) ∧
  (∀ (k0_h26 : k0_cond26 v14 k0_t7 = 1#1), ∀ a x, ((![v99, v109] : Fin 2 → IVec S16 32) a x).toNat < S320x128.size a) ∧
  (∀ (k0_h26 : k0_cond26 v14 k0_t7 = 1#1), ∀ a x, ((![v99, v109] : Fin 2 → IVec S16 32) a x).toNat < S320x128.size a) ∧
  (∀ (k0_h26 : k0_cond26 v14 k0_t7 = 1#1), ∀ a x, ((![v99, v109] : Fin 2 → IVec S16 32) a x).toNat < S320x128.size a)
theorem k0_idx1262_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v100, v109] : Fin 2 → IVec S16 32) a x).toNat < S16x128.size a := fun v14 k0_t7 v99 v100 v109 k0_hw257 k0_h26 => k0_hw257.1 k0_h26
theorem k0_idx1263_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v99, v109] : Fin 2 → IVec S16 32) a x).toNat < S320x128.size a := fun v14 k0_t7 v99 v100 v109 k0_hw257 k0_h26 => k0_hw257.2.1 k0_h26
theorem k0_idx1264_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v99, v109] : Fin 2 → IVec S16 32) a x).toNat < S320x128.size a := fun v14 k0_t7 v99 v100 v109 k0_hw257 k0_h26 => k0_hw257.2.2.1 k0_h26
theorem k0_idx1265_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v99, v109] : Fin 2 → IVec S16 32) a x).toNat < S320x128.size a := fun v14 k0_t7 v99 v100 v109 k0_hw257 k0_h26 => k0_hw257.2.2.2.1 k0_h26
theorem k0_idx1266_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v99, v109] : Fin 2 → IVec S16 32) a x).toNat < S320x128.size a := fun v14 k0_t7 v99 v100 v109 k0_hw257 k0_h26 => k0_hw257.2.2.2.2.1 k0_h26
theorem k0_idx1267_inb : ∀ (v14 : BitVec 32) (k0_t7 : Fin (k0_t7_loop v14).trips) (v99 : IVec S16 32) (v100 : IVec S16 32) (v109 : IVec S16 32) (k0_hw257 : k0_chk257 v14 k0_t7 v99 v100 v109), ∀ (k0_h26 : k0_cond26 v14 k0_t7 = 1#1), ∀ a x, ((![v99, v109] : Fin 2 → IVec S16 32) a x).toNat < S320x128.size a := fun v14 k0_t7 v99 v100 v109 k0_hw257 k0_h26 => k0_hw257.2.2.2.2.2 k0_h26

def k0_chk258 (v14 : BitVec 32) (k0_t7 : Fin (k0_t7_loop v14).trips) (v99 : IVec S16 32) (v100 : IVec S16 32) (v116 : IVec S16 32) : Prop :=
  (∀ (k0_h26 : k0_cond26 v14 k0_t7 = 1#1), ∀ a x, ((![v100, v116] : Fin 2 → IVec S16 32) a x).toNat < S16x128.size a) ∧
  (∀ (k0_h26 : k0_cond26 v14 k0_t7 = 1#1), ∀ a x, ((![v99, v116] : Fin 2 → IVec S16 32) a x).toNat < S320x128.size a) ∧
  (∀ (k0_h26 : k0_cond26 v14 k0_t7 = 1#1), ∀ a x, ((![v99, v116] : Fin 2 → IVec S16 32) a x).toNat < S320x128.size a) ∧
  (∀ (k0_h26 : k0_cond26 v14 k0_t7 = 1#1), ∀ a x, ((![v99, v116] : Fin 2 → IVec S16 32) a x).toNat < S320x128.size a) ∧
  (∀ (k0_h26 : k0_cond26 v14 k0_t7 = 1#1), ∀ a x, ((![v99, v116] : Fin 2 → IVec S16 32) a x).toNat < S320x128.size a) ∧
  (∀ (k0_h26 : k0_cond26 v14 k0_t7 = 1#1), ∀ a x, ((![v99, v116] : Fin 2 → IVec S16 32) a x).toNat < S320x128.size a)
theorem k0_idx1268_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v100, v116] : Fin 2 → IVec S16 32) a x).toNat < S16x128.size a := fun v14 k0_t7 v99 v100 v116 k0_hw258 k0_h26 => k0_hw258.1 k0_h26
theorem k0_idx1269_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v99, v116] : Fin 2 → IVec S16 32) a x).toNat < S320x128.size a := fun v14 k0_t7 v99 v100 v116 k0_hw258 k0_h26 => k0_hw258.2.1 k0_h26
theorem k0_idx1270_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v99, v116] : Fin 2 → IVec S16 32) a x).toNat < S320x128.size a := fun v14 k0_t7 v99 v100 v116 k0_hw258 k0_h26 => k0_hw258.2.2.1 k0_h26
theorem k0_idx1271_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v99, v116] : Fin 2 → IVec S16 32) a x).toNat < S320x128.size a := fun v14 k0_t7 v99 v100 v116 k0_hw258 k0_h26 => k0_hw258.2.2.2.1 k0_h26
theorem k0_idx1272_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v99, v116] : Fin 2 → IVec S16 32) a x).toNat < S320x128.size a := fun v14 k0_t7 v99 v100 v116 k0_hw258 k0_h26 => k0_hw258.2.2.2.2.1 k0_h26
theorem k0_idx1273_inb : ∀ (v14 : BitVec 32) (k0_t7 : Fin (k0_t7_loop v14).trips) (v99 : IVec S16 32) (v100 : IVec S16 32) (v116 : IVec S16 32) (k0_hw258 : k0_chk258 v14 k0_t7 v99 v100 v116), ∀ (k0_h26 : k0_cond26 v14 k0_t7 = 1#1), ∀ a x, ((![v99, v116] : Fin 2 → IVec S16 32) a x).toNat < S320x128.size a := fun v14 k0_t7 v99 v100 v116 k0_hw258 k0_h26 => k0_hw258.2.2.2.2.2 k0_h26

def k0_chk259 (v14 : BitVec 32) (k0_t7 : Fin (k0_t7_loop v14).trips) (v99 : IVec S16 32) (v100 : IVec S16 32) (v123 : IVec S16 32) : Prop :=
  (∀ (k0_h26 : k0_cond26 v14 k0_t7 = 1#1), ∀ a x, ((![v100, v123] : Fin 2 → IVec S16 32) a x).toNat < S16x128.size a) ∧
  (∀ (k0_h26 : k0_cond26 v14 k0_t7 = 1#1), ∀ a x, ((![v99, v123] : Fin 2 → IVec S16 32) a x).toNat < S320x128.size a) ∧
  (∀ (k0_h26 : k0_cond26 v14 k0_t7 = 1#1), ∀ a x, ((![v99, v123] : Fin 2 → IVec S16 32) a x).toNat < S320x128.size a) ∧
  (∀ (k0_h26 : k0_cond26 v14 k0_t7 = 1#1), ∀ a x, ((![v99, v123] : Fin 2 → IVec S16 32) a x).toNat < S320x128.size a) ∧
  (∀ (k0_h26 : k0_cond26 v14 k0_t7 = 1#1), ∀ a x, ((![v99, v123] : Fin 2 → IVec S16 32) a x).toNat < S320x128.size a) ∧
  (∀ (k0_h26 : k0_cond26 v14 k0_t7 = 1#1), ∀ a x, ((![v99, v123] : Fin 2 → IVec S16 32) a x).toNat < S320x128.size a)
theorem k0_idx1274_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v100, v123] : Fin 2 → IVec S16 32) a x).toNat < S16x128.size a := fun v14 k0_t7 v99 v100 v123 k0_hw259 k0_h26 => k0_hw259.1 k0_h26
theorem k0_idx1275_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v99, v123] : Fin 2 → IVec S16 32) a x).toNat < S320x128.size a := fun v14 k0_t7 v99 v100 v123 k0_hw259 k0_h26 => k0_hw259.2.1 k0_h26
theorem k0_idx1276_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v99, v123] : Fin 2 → IVec S16 32) a x).toNat < S320x128.size a := fun v14 k0_t7 v99 v100 v123 k0_hw259 k0_h26 => k0_hw259.2.2.1 k0_h26
theorem k0_idx1277_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v99, v123] : Fin 2 → IVec S16 32) a x).toNat < S320x128.size a := fun v14 k0_t7 v99 v100 v123 k0_hw259 k0_h26 => k0_hw259.2.2.2.1 k0_h26
theorem k0_idx1278_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v99, v123] : Fin 2 → IVec S16 32) a x).toNat < S320x128.size a := fun v14 k0_t7 v99 v100 v123 k0_hw259 k0_h26 => k0_hw259.2.2.2.2.1 k0_h26
theorem k0_idx1279_inb : ∀ (v14 : BitVec 32) (k0_t7 : Fin (k0_t7_loop v14).trips) (v99 : IVec S16 32) (v100 : IVec S16 32) (v123 : IVec S16 32) (k0_hw259 : k0_chk259 v14 k0_t7 v99 v100 v123), ∀ (k0_h26 : k0_cond26 v14 k0_t7 = 1#1), ∀ a x, ((![v99, v123] : Fin 2 → IVec S16 32) a x).toNat < S320x128.size a := fun v14 k0_t7 v99 v100 v123 k0_hw259 k0_h26 => k0_hw259.2.2.2.2.2 k0_h26

def k0_chk260 (v14 : BitVec 32) (k0_t7 : Fin (k0_t7_loop v14).trips) (v99 : IVec S16 32) (v100 : IVec S16 32) (v130 : IVec S16 32) : Prop :=
  (∀ (k0_h26 : k0_cond26 v14 k0_t7 = 1#1), ∀ a x, ((![v100, v130] : Fin 2 → IVec S16 32) a x).toNat < S16x128.size a) ∧
  (∀ (k0_h26 : k0_cond26 v14 k0_t7 = 1#1), ∀ a x, ((![v99, v130] : Fin 2 → IVec S16 32) a x).toNat < S320x128.size a) ∧
  (∀ (k0_h26 : k0_cond26 v14 k0_t7 = 1#1), ∀ a x, ((![v99, v130] : Fin 2 → IVec S16 32) a x).toNat < S320x128.size a) ∧
  (∀ (k0_h26 : k0_cond26 v14 k0_t7 = 1#1), ∀ a x, ((![v99, v130] : Fin 2 → IVec S16 32) a x).toNat < S320x128.size a) ∧
  (∀ (k0_h26 : k0_cond26 v14 k0_t7 = 1#1), ∀ a x, ((![v99, v130] : Fin 2 → IVec S16 32) a x).toNat < S320x128.size a) ∧
  (∀ (k0_h26 : k0_cond26 v14 k0_t7 = 1#1), ∀ a x, ((![v99, v130] : Fin 2 → IVec S16 32) a x).toNat < S320x128.size a)
theorem k0_idx1280_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v100, v130] : Fin 2 → IVec S16 32) a x).toNat < S16x128.size a := fun v14 k0_t7 v99 v100 v130 k0_hw260 k0_h26 => k0_hw260.1 k0_h26
theorem k0_idx1281_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v99, v130] : Fin 2 → IVec S16 32) a x).toNat < S320x128.size a := fun v14 k0_t7 v99 v100 v130 k0_hw260 k0_h26 => k0_hw260.2.1 k0_h26
theorem k0_idx1282_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v99, v130] : Fin 2 → IVec S16 32) a x).toNat < S320x128.size a := fun v14 k0_t7 v99 v100 v130 k0_hw260 k0_h26 => k0_hw260.2.2.1 k0_h26
theorem k0_idx1283_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v99, v130] : Fin 2 → IVec S16 32) a x).toNat < S320x128.size a := fun v14 k0_t7 v99 v100 v130 k0_hw260 k0_h26 => k0_hw260.2.2.2.1 k0_h26
theorem k0_idx1284_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v99, v130] : Fin 2 → IVec S16 32) a x).toNat < S320x128.size a := fun v14 k0_t7 v99 v100 v130 k0_hw260 k0_h26 => k0_hw260.2.2.2.2.1 k0_h26
theorem k0_idx1285_inb : ∀ (v14 : BitVec 32) (k0_t7 : Fin (k0_t7_loop v14).trips) (v99 : IVec S16 32) (v100 : IVec S16 32) (v130 : IVec S16 32) (k0_hw260 : k0_chk260 v14 k0_t7 v99 v100 v130), ∀ (k0_h26 : k0_cond26 v14 k0_t7 = 1#1), ∀ a x, ((![v99, v130] : Fin 2 → IVec S16 32) a x).toNat < S320x128.size a := fun v14 k0_t7 v99 v100 v130 k0_hw260 k0_h26 => k0_hw260.2.2.2.2.2 k0_h26

def k0_chk261 (v14 : BitVec 32) (k0_t7 : Fin (k0_t7_loop v14).trips) (v99 : IVec S16 32) (v100 : IVec S16 32) (v137 : IVec S16 32) : Prop :=
  (∀ (k0_h26 : k0_cond26 v14 k0_t7 = 1#1), ∀ a x, ((![v100, v137] : Fin 2 → IVec S16 32) a x).toNat < S16x128.size a) ∧
  (∀ (k0_h26 : k0_cond26 v14 k0_t7 = 1#1), ∀ a x, ((![v99, v137] : Fin 2 → IVec S16 32) a x).toNat < S320x128.size a) ∧
  (∀ (k0_h26 : k0_cond26 v14 k0_t7 = 1#1), ∀ a x, ((![v99, v137] : Fin 2 → IVec S16 32) a x).toNat < S320x128.size a) ∧
  (∀ (k0_h26 : k0_cond26 v14 k0_t7 = 1#1), ∀ a x, ((![v99, v137] : Fin 2 → IVec S16 32) a x).toNat < S320x128.size a) ∧
  (∀ (k0_h26 : k0_cond26 v14 k0_t7 = 1#1), ∀ a x, ((![v99, v137] : Fin 2 → IVec S16 32) a x).toNat < S320x128.size a) ∧
  (∀ (k0_h26 : k0_cond26 v14 k0_t7 = 1#1), ∀ a x, ((![v99, v137] : Fin 2 → IVec S16 32) a x).toNat < S320x128.size a)
theorem k0_idx1286_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v100, v137] : Fin 2 → IVec S16 32) a x).toNat < S16x128.size a := fun v14 k0_t7 v99 v100 v137 k0_hw261 k0_h26 => k0_hw261.1 k0_h26
theorem k0_idx1287_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v99, v137] : Fin 2 → IVec S16 32) a x).toNat < S320x128.size a := fun v14 k0_t7 v99 v100 v137 k0_hw261 k0_h26 => k0_hw261.2.1 k0_h26
theorem k0_idx1288_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v99, v137] : Fin 2 → IVec S16 32) a x).toNat < S320x128.size a := fun v14 k0_t7 v99 v100 v137 k0_hw261 k0_h26 => k0_hw261.2.2.1 k0_h26
theorem k0_idx1289_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v99, v137] : Fin 2 → IVec S16 32) a x).toNat < S320x128.size a := fun v14 k0_t7 v99 v100 v137 k0_hw261 k0_h26 => k0_hw261.2.2.2.1 k0_h26
theorem k0_idx1290_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v99, v137] : Fin 2 → IVec S16 32) a x).toNat < S320x128.size a := fun v14 k0_t7 v99 v100 v137 k0_hw261 k0_h26 => k0_hw261.2.2.2.2.1 k0_h26
theorem k0_idx1291_inb : ∀ (v14 : BitVec 32) (k0_t7 : Fin (k0_t7_loop v14).trips) (v99 : IVec S16 32) (v100 : IVec S16 32) (v137 : IVec S16 32) (k0_hw261 : k0_chk261 v14 k0_t7 v99 v100 v137), ∀ (k0_h26 : k0_cond26 v14 k0_t7 = 1#1), ∀ a x, ((![v99, v137] : Fin 2 → IVec S16 32) a x).toNat < S320x128.size a := fun v14 k0_t7 v99 v100 v137 k0_hw261 k0_h26 => k0_hw261.2.2.2.2.2 k0_h26

def k0_chk262 (v14 : BitVec 32) (k0_t7 : Fin (k0_t7_loop v14).trips) (v99 : IVec S16 32) (v100 : IVec S16 32) (v144 : IVec S16 32) : Prop :=
  (∀ (k0_h26 : k0_cond26 v14 k0_t7 = 1#1), ∀ a x, ((![v100, v144] : Fin 2 → IVec S16 32) a x).toNat < S16x128.size a) ∧
  (∀ (k0_h26 : k0_cond26 v14 k0_t7 = 1#1), ∀ a x, ((![v99, v144] : Fin 2 → IVec S16 32) a x).toNat < S320x128.size a) ∧
  (∀ (k0_h26 : k0_cond26 v14 k0_t7 = 1#1), ∀ a x, ((![v99, v144] : Fin 2 → IVec S16 32) a x).toNat < S320x128.size a) ∧
  (∀ (k0_h26 : k0_cond26 v14 k0_t7 = 1#1), ∀ a x, ((![v99, v144] : Fin 2 → IVec S16 32) a x).toNat < S320x128.size a) ∧
  (∀ (k0_h26 : k0_cond26 v14 k0_t7 = 1#1), ∀ a x, ((![v99, v144] : Fin 2 → IVec S16 32) a x).toNat < S320x128.size a) ∧
  (∀ (k0_h26 : k0_cond26 v14 k0_t7 = 1#1), ∀ a x, ((![v99, v144] : Fin 2 → IVec S16 32) a x).toNat < S320x128.size a)
theorem k0_idx1292_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v100, v144] : Fin 2 → IVec S16 32) a x).toNat < S16x128.size a := fun v14 k0_t7 v99 v100 v144 k0_hw262 k0_h26 => k0_hw262.1 k0_h26
theorem k0_idx1293_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v99, v144] : Fin 2 → IVec S16 32) a x).toNat < S320x128.size a := fun v14 k0_t7 v99 v100 v144 k0_hw262 k0_h26 => k0_hw262.2.1 k0_h26
theorem k0_idx1294_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v99, v144] : Fin 2 → IVec S16 32) a x).toNat < S320x128.size a := fun v14 k0_t7 v99 v100 v144 k0_hw262 k0_h26 => k0_hw262.2.2.1 k0_h26
theorem k0_idx1295_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v99, v144] : Fin 2 → IVec S16 32) a x).toNat < S320x128.size a := fun v14 k0_t7 v99 v100 v144 k0_hw262 k0_h26 => k0_hw262.2.2.2.1 k0_h26
theorem k0_idx1296_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v99, v144] : Fin 2 → IVec S16 32) a x).toNat < S320x128.size a := fun v14 k0_t7 v99 v100 v144 k0_hw262 k0_h26 => k0_hw262.2.2.2.2.1 k0_h26
theorem k0_idx1297_inb : ∀ (v14 : BitVec 32) (k0_t7 : Fin (k0_t7_loop v14).trips) (v99 : IVec S16 32) (v100 : IVec S16 32) (v144 : IVec S16 32) (k0_hw262 : k0_chk262 v14 k0_t7 v99 v100 v144), ∀ (k0_h26 : k0_cond26 v14 k0_t7 = 1#1), ∀ a x, ((![v99, v144] : Fin 2 → IVec S16 32) a x).toNat < S320x128.size a := fun v14 k0_t7 v99 v100 v144 k0_hw262 k0_h26 => k0_hw262.2.2.2.2.2 k0_h26

def k0_chk263 (v14 : BitVec 32) (k0_t7 : Fin (k0_t7_loop v14).trips) (v99 : IVec S16 32) (v100 : IVec S16 32) (v151 : IVec S16 32) : Prop :=
  (∀ (k0_h26 : k0_cond26 v14 k0_t7 = 1#1), ∀ a x, ((![v100, v151] : Fin 2 → IVec S16 32) a x).toNat < S16x128.size a) ∧
  (∀ (k0_h26 : k0_cond26 v14 k0_t7 = 1#1), ∀ a x, ((![v99, v151] : Fin 2 → IVec S16 32) a x).toNat < S320x128.size a) ∧
  (∀ (k0_h26 : k0_cond26 v14 k0_t7 = 1#1), ∀ a x, ((![v99, v151] : Fin 2 → IVec S16 32) a x).toNat < S320x128.size a) ∧
  (∀ (k0_h26 : k0_cond26 v14 k0_t7 = 1#1), ∀ a x, ((![v99, v151] : Fin 2 → IVec S16 32) a x).toNat < S320x128.size a) ∧
  (∀ (k0_h26 : k0_cond26 v14 k0_t7 = 1#1), ∀ a x, ((![v99, v151] : Fin 2 → IVec S16 32) a x).toNat < S320x128.size a) ∧
  (∀ (k0_h26 : k0_cond26 v14 k0_t7 = 1#1), ∀ a x, ((![v99, v151] : Fin 2 → IVec S16 32) a x).toNat < S320x128.size a)
theorem k0_idx1298_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v100, v151] : Fin 2 → IVec S16 32) a x).toNat < S16x128.size a := fun v14 k0_t7 v99 v100 v151 k0_hw263 k0_h26 => k0_hw263.1 k0_h26
theorem k0_idx1299_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v99, v151] : Fin 2 → IVec S16 32) a x).toNat < S320x128.size a := fun v14 k0_t7 v99 v100 v151 k0_hw263 k0_h26 => k0_hw263.2.1 k0_h26
theorem k0_idx1300_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v99, v151] : Fin 2 → IVec S16 32) a x).toNat < S320x128.size a := fun v14 k0_t7 v99 v100 v151 k0_hw263 k0_h26 => k0_hw263.2.2.1 k0_h26
theorem k0_idx1301_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v99, v151] : Fin 2 → IVec S16 32) a x).toNat < S320x128.size a := fun v14 k0_t7 v99 v100 v151 k0_hw263 k0_h26 => k0_hw263.2.2.2.1 k0_h26
theorem k0_idx1302_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v99, v151] : Fin 2 → IVec S16 32) a x).toNat < S320x128.size a := fun v14 k0_t7 v99 v100 v151 k0_hw263 k0_h26 => k0_hw263.2.2.2.2.1 k0_h26
theorem k0_idx1303_inb : ∀ (v14 : BitVec 32) (k0_t7 : Fin (k0_t7_loop v14).trips) (v99 : IVec S16 32) (v100 : IVec S16 32) (v151 : IVec S16 32) (k0_hw263 : k0_chk263 v14 k0_t7 v99 v100 v151), ∀ (k0_h26 : k0_cond26 v14 k0_t7 = 1#1), ∀ a x, ((![v99, v151] : Fin 2 → IVec S16 32) a x).toNat < S320x128.size a := fun v14 k0_t7 v99 v100 v151 k0_hw263 k0_h26 => k0_hw263.2.2.2.2.2 k0_h26

def k0_chk264 (v14 : BitVec 32) (k0_t7 : Fin (k0_t7_loop v14).trips) (v99 : IVec S16 32) : Prop :=
  (∀ (k0_h26 : k0_cond26 v14 k0_t7 = 1#1), ∀ a x, ((![v99] : Fin 1 → IVec S16 32) a x).toNat < S320.size a)
theorem k0_idx1304_inb : ∀ (v14 : BitVec 32) (k0_t7 : Fin (k0_t7_loop v14).trips) (v99 : IVec S16 32) (k0_hw264 : k0_chk264 v14 k0_t7 v99), ∀ (k0_h26 : k0_cond26 v14 k0_t7 = 1#1), ∀ a x, ((![v99] : Fin 1 → IVec S16 32) a x).toNat < S320.size a := fun v14 k0_t7 v99 k0_hw264 k0_h26 => k0_hw264 k0_h26
def k0_cond27 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c10_i32 : BitVec 32 := 10#32
  let v79 : BitVec 1 := Scalar.cmpi .sgt v45 c10_i32
  let v80 : BitVec 32 := Scalar.extui v79
  let c0_i32_53 : BitVec 32 := 0#32
  let v81 : BitVec 1 := Scalar.cmpi .ne v80 c0_i32_53
  v81

def k0_chk265 (v14 : BitVec 32) (k0_t7 : Fin (k0_t7_loop v14).trips) (v98 : IVec S16 32) : Prop :=
  (∀ (k0_h27 : k0_cond27 v14 k0_t7 = 1#1), ∀ a x, ((![v98] : Fin 1 → IVec S16 32) a x).toNat < S528.size a)
theorem k0_idx1305_inb : ∀ (v14 : BitVec 32) (k0_t7 : Fin (k0_t7_loop v14).trips) (v98 : IVec S16 32) (k0_hw265 : k0_chk265 v14 k0_t7 v98), ∀ (k0_h27 : k0_cond27 v14 k0_t7 = 1#1), ∀ a x, ((![v98] : Fin 1 → IVec S16 32) a x).toNat < S528.size a := fun v14 k0_t7 v98 k0_hw265 k0_h27 => k0_hw265 k0_h27

def k0_chk266 (v14 : BitVec 32) (k0_t7 : Fin (k0_t7_loop v14).trips) (v99 : IVec S16 32) (v100 : IVec S16 32) (v102 : IVec S16 32) : Prop :=
  (∀ (k0_h27 : k0_cond27 v14 k0_t7 = 1#1), ∀ a x, ((![v100, v102] : Fin 2 → IVec S16 32) a x).toNat < S16x128.size a) ∧
  (∀ (k0_h27 : k0_cond27 v14 k0_t7 = 1#1), ∀ a x, ((![v99, v102] : Fin 2 → IVec S16 32) a x).toNat < S320x128.size a) ∧
  (∀ (k0_h27 : k0_cond27 v14 k0_t7 = 1#1), ∀ a x, ((![v99, v102] : Fin 2 → IVec S16 32) a x).toNat < S320x128.size a) ∧
  (∀ (k0_h27 : k0_cond27 v14 k0_t7 = 1#1), ∀ a x, ((![v99, v102] : Fin 2 → IVec S16 32) a x).toNat < S320x128.size a) ∧
  (∀ (k0_h27 : k0_cond27 v14 k0_t7 = 1#1), ∀ a x, ((![v99, v102] : Fin 2 → IVec S16 32) a x).toNat < S320x128.size a) ∧
  (∀ (k0_h27 : k0_cond27 v14 k0_t7 = 1#1), ∀ a x, ((![v99, v102] : Fin 2 → IVec S16 32) a x).toNat < S320x128.size a)
theorem k0_idx1306_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v100, v102] : Fin 2 → IVec S16 32) a x).toNat < S16x128.size a := fun v14 k0_t7 v99 v100 v102 k0_hw266 k0_h27 => k0_hw266.1 k0_h27
theorem k0_idx1307_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v99, v102] : Fin 2 → IVec S16 32) a x).toNat < S320x128.size a := fun v14 k0_t7 v99 v100 v102 k0_hw266 k0_h27 => k0_hw266.2.1 k0_h27
theorem k0_idx1308_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v99, v102] : Fin 2 → IVec S16 32) a x).toNat < S320x128.size a := fun v14 k0_t7 v99 v100 v102 k0_hw266 k0_h27 => k0_hw266.2.2.1 k0_h27
theorem k0_idx1309_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v99, v102] : Fin 2 → IVec S16 32) a x).toNat < S320x128.size a := fun v14 k0_t7 v99 v100 v102 k0_hw266 k0_h27 => k0_hw266.2.2.2.1 k0_h27
theorem k0_idx1310_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v99, v102] : Fin 2 → IVec S16 32) a x).toNat < S320x128.size a := fun v14 k0_t7 v99 v100 v102 k0_hw266 k0_h27 => k0_hw266.2.2.2.2.1 k0_h27
theorem k0_idx1311_inb : ∀ (v14 : BitVec 32) (k0_t7 : Fin (k0_t7_loop v14).trips) (v99 : IVec S16 32) (v100 : IVec S16 32) (v102 : IVec S16 32) (k0_hw266 : k0_chk266 v14 k0_t7 v99 v100 v102), ∀ (k0_h27 : k0_cond27 v14 k0_t7 = 1#1), ∀ a x, ((![v99, v102] : Fin 2 → IVec S16 32) a x).toNat < S320x128.size a := fun v14 k0_t7 v99 v100 v102 k0_hw266 k0_h27 => k0_hw266.2.2.2.2.2 k0_h27

def k0_chk267 (v14 : BitVec 32) (k0_t7 : Fin (k0_t7_loop v14).trips) (v99 : IVec S16 32) (v100 : IVec S16 32) (v109 : IVec S16 32) : Prop :=
  (∀ (k0_h27 : k0_cond27 v14 k0_t7 = 1#1), ∀ a x, ((![v100, v109] : Fin 2 → IVec S16 32) a x).toNat < S16x128.size a) ∧
  (∀ (k0_h27 : k0_cond27 v14 k0_t7 = 1#1), ∀ a x, ((![v99, v109] : Fin 2 → IVec S16 32) a x).toNat < S320x128.size a) ∧
  (∀ (k0_h27 : k0_cond27 v14 k0_t7 = 1#1), ∀ a x, ((![v99, v109] : Fin 2 → IVec S16 32) a x).toNat < S320x128.size a) ∧
  (∀ (k0_h27 : k0_cond27 v14 k0_t7 = 1#1), ∀ a x, ((![v99, v109] : Fin 2 → IVec S16 32) a x).toNat < S320x128.size a) ∧
  (∀ (k0_h27 : k0_cond27 v14 k0_t7 = 1#1), ∀ a x, ((![v99, v109] : Fin 2 → IVec S16 32) a x).toNat < S320x128.size a) ∧
  (∀ (k0_h27 : k0_cond27 v14 k0_t7 = 1#1), ∀ a x, ((![v99, v109] : Fin 2 → IVec S16 32) a x).toNat < S320x128.size a)
theorem k0_idx1312_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v100, v109] : Fin 2 → IVec S16 32) a x).toNat < S16x128.size a := fun v14 k0_t7 v99 v100 v109 k0_hw267 k0_h27 => k0_hw267.1 k0_h27
theorem k0_idx1313_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v99, v109] : Fin 2 → IVec S16 32) a x).toNat < S320x128.size a := fun v14 k0_t7 v99 v100 v109 k0_hw267 k0_h27 => k0_hw267.2.1 k0_h27
theorem k0_idx1314_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v99, v109] : Fin 2 → IVec S16 32) a x).toNat < S320x128.size a := fun v14 k0_t7 v99 v100 v109 k0_hw267 k0_h27 => k0_hw267.2.2.1 k0_h27
theorem k0_idx1315_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v99, v109] : Fin 2 → IVec S16 32) a x).toNat < S320x128.size a := fun v14 k0_t7 v99 v100 v109 k0_hw267 k0_h27 => k0_hw267.2.2.2.1 k0_h27
theorem k0_idx1316_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v99, v109] : Fin 2 → IVec S16 32) a x).toNat < S320x128.size a := fun v14 k0_t7 v99 v100 v109 k0_hw267 k0_h27 => k0_hw267.2.2.2.2.1 k0_h27
theorem k0_idx1317_inb : ∀ (v14 : BitVec 32) (k0_t7 : Fin (k0_t7_loop v14).trips) (v99 : IVec S16 32) (v100 : IVec S16 32) (v109 : IVec S16 32) (k0_hw267 : k0_chk267 v14 k0_t7 v99 v100 v109), ∀ (k0_h27 : k0_cond27 v14 k0_t7 = 1#1), ∀ a x, ((![v99, v109] : Fin 2 → IVec S16 32) a x).toNat < S320x128.size a := fun v14 k0_t7 v99 v100 v109 k0_hw267 k0_h27 => k0_hw267.2.2.2.2.2 k0_h27

def k0_chk268 (v14 : BitVec 32) (k0_t7 : Fin (k0_t7_loop v14).trips) (v99 : IVec S16 32) (v100 : IVec S16 32) (v116 : IVec S16 32) : Prop :=
  (∀ (k0_h27 : k0_cond27 v14 k0_t7 = 1#1), ∀ a x, ((![v100, v116] : Fin 2 → IVec S16 32) a x).toNat < S16x128.size a) ∧
  (∀ (k0_h27 : k0_cond27 v14 k0_t7 = 1#1), ∀ a x, ((![v99, v116] : Fin 2 → IVec S16 32) a x).toNat < S320x128.size a) ∧
  (∀ (k0_h27 : k0_cond27 v14 k0_t7 = 1#1), ∀ a x, ((![v99, v116] : Fin 2 → IVec S16 32) a x).toNat < S320x128.size a) ∧
  (∀ (k0_h27 : k0_cond27 v14 k0_t7 = 1#1), ∀ a x, ((![v99, v116] : Fin 2 → IVec S16 32) a x).toNat < S320x128.size a) ∧
  (∀ (k0_h27 : k0_cond27 v14 k0_t7 = 1#1), ∀ a x, ((![v99, v116] : Fin 2 → IVec S16 32) a x).toNat < S320x128.size a) ∧
  (∀ (k0_h27 : k0_cond27 v14 k0_t7 = 1#1), ∀ a x, ((![v99, v116] : Fin 2 → IVec S16 32) a x).toNat < S320x128.size a)
theorem k0_idx1318_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v100, v116] : Fin 2 → IVec S16 32) a x).toNat < S16x128.size a := fun v14 k0_t7 v99 v100 v116 k0_hw268 k0_h27 => k0_hw268.1 k0_h27
theorem k0_idx1319_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v99, v116] : Fin 2 → IVec S16 32) a x).toNat < S320x128.size a := fun v14 k0_t7 v99 v100 v116 k0_hw268 k0_h27 => k0_hw268.2.1 k0_h27
theorem k0_idx1320_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v99, v116] : Fin 2 → IVec S16 32) a x).toNat < S320x128.size a := fun v14 k0_t7 v99 v100 v116 k0_hw268 k0_h27 => k0_hw268.2.2.1 k0_h27
theorem k0_idx1321_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v99, v116] : Fin 2 → IVec S16 32) a x).toNat < S320x128.size a := fun v14 k0_t7 v99 v100 v116 k0_hw268 k0_h27 => k0_hw268.2.2.2.1 k0_h27
theorem k0_idx1322_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v99, v116] : Fin 2 → IVec S16 32) a x).toNat < S320x128.size a := fun v14 k0_t7 v99 v100 v116 k0_hw268 k0_h27 => k0_hw268.2.2.2.2.1 k0_h27
theorem k0_idx1323_inb : ∀ (v14 : BitVec 32) (k0_t7 : Fin (k0_t7_loop v14).trips) (v99 : IVec S16 32) (v100 : IVec S16 32) (v116 : IVec S16 32) (k0_hw268 : k0_chk268 v14 k0_t7 v99 v100 v116), ∀ (k0_h27 : k0_cond27 v14 k0_t7 = 1#1), ∀ a x, ((![v99, v116] : Fin 2 → IVec S16 32) a x).toNat < S320x128.size a := fun v14 k0_t7 v99 v100 v116 k0_hw268 k0_h27 => k0_hw268.2.2.2.2.2 k0_h27

def k0_chk269 (v14 : BitVec 32) (k0_t7 : Fin (k0_t7_loop v14).trips) (v99 : IVec S16 32) (v100 : IVec S16 32) (v123 : IVec S16 32) : Prop :=
  (∀ (k0_h27 : k0_cond27 v14 k0_t7 = 1#1), ∀ a x, ((![v100, v123] : Fin 2 → IVec S16 32) a x).toNat < S16x128.size a) ∧
  (∀ (k0_h27 : k0_cond27 v14 k0_t7 = 1#1), ∀ a x, ((![v99, v123] : Fin 2 → IVec S16 32) a x).toNat < S320x128.size a) ∧
  (∀ (k0_h27 : k0_cond27 v14 k0_t7 = 1#1), ∀ a x, ((![v99, v123] : Fin 2 → IVec S16 32) a x).toNat < S320x128.size a) ∧
  (∀ (k0_h27 : k0_cond27 v14 k0_t7 = 1#1), ∀ a x, ((![v99, v123] : Fin 2 → IVec S16 32) a x).toNat < S320x128.size a) ∧
  (∀ (k0_h27 : k0_cond27 v14 k0_t7 = 1#1), ∀ a x, ((![v99, v123] : Fin 2 → IVec S16 32) a x).toNat < S320x128.size a) ∧
  (∀ (k0_h27 : k0_cond27 v14 k0_t7 = 1#1), ∀ a x, ((![v99, v123] : Fin 2 → IVec S16 32) a x).toNat < S320x128.size a)
theorem k0_idx1324_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v100, v123] : Fin 2 → IVec S16 32) a x).toNat < S16x128.size a := fun v14 k0_t7 v99 v100 v123 k0_hw269 k0_h27 => k0_hw269.1 k0_h27
theorem k0_idx1325_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v99, v123] : Fin 2 → IVec S16 32) a x).toNat < S320x128.size a := fun v14 k0_t7 v99 v100 v123 k0_hw269 k0_h27 => k0_hw269.2.1 k0_h27
theorem k0_idx1326_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v99, v123] : Fin 2 → IVec S16 32) a x).toNat < S320x128.size a := fun v14 k0_t7 v99 v100 v123 k0_hw269 k0_h27 => k0_hw269.2.2.1 k0_h27
theorem k0_idx1327_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v99, v123] : Fin 2 → IVec S16 32) a x).toNat < S320x128.size a := fun v14 k0_t7 v99 v100 v123 k0_hw269 k0_h27 => k0_hw269.2.2.2.1 k0_h27
theorem k0_idx1328_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v99, v123] : Fin 2 → IVec S16 32) a x).toNat < S320x128.size a := fun v14 k0_t7 v99 v100 v123 k0_hw269 k0_h27 => k0_hw269.2.2.2.2.1 k0_h27
theorem k0_idx1329_inb : ∀ (v14 : BitVec 32) (k0_t7 : Fin (k0_t7_loop v14).trips) (v99 : IVec S16 32) (v100 : IVec S16 32) (v123 : IVec S16 32) (k0_hw269 : k0_chk269 v14 k0_t7 v99 v100 v123), ∀ (k0_h27 : k0_cond27 v14 k0_t7 = 1#1), ∀ a x, ((![v99, v123] : Fin 2 → IVec S16 32) a x).toNat < S320x128.size a := fun v14 k0_t7 v99 v100 v123 k0_hw269 k0_h27 => k0_hw269.2.2.2.2.2 k0_h27

def k0_chk270 (v14 : BitVec 32) (k0_t7 : Fin (k0_t7_loop v14).trips) (v99 : IVec S16 32) (v100 : IVec S16 32) (v130 : IVec S16 32) : Prop :=
  (∀ (k0_h27 : k0_cond27 v14 k0_t7 = 1#1), ∀ a x, ((![v100, v130] : Fin 2 → IVec S16 32) a x).toNat < S16x128.size a) ∧
  (∀ (k0_h27 : k0_cond27 v14 k0_t7 = 1#1), ∀ a x, ((![v99, v130] : Fin 2 → IVec S16 32) a x).toNat < S320x128.size a) ∧
  (∀ (k0_h27 : k0_cond27 v14 k0_t7 = 1#1), ∀ a x, ((![v99, v130] : Fin 2 → IVec S16 32) a x).toNat < S320x128.size a) ∧
  (∀ (k0_h27 : k0_cond27 v14 k0_t7 = 1#1), ∀ a x, ((![v99, v130] : Fin 2 → IVec S16 32) a x).toNat < S320x128.size a) ∧
  (∀ (k0_h27 : k0_cond27 v14 k0_t7 = 1#1), ∀ a x, ((![v99, v130] : Fin 2 → IVec S16 32) a x).toNat < S320x128.size a) ∧
  (∀ (k0_h27 : k0_cond27 v14 k0_t7 = 1#1), ∀ a x, ((![v99, v130] : Fin 2 → IVec S16 32) a x).toNat < S320x128.size a)
theorem k0_idx1330_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v100, v130] : Fin 2 → IVec S16 32) a x).toNat < S16x128.size a := fun v14 k0_t7 v99 v100 v130 k0_hw270 k0_h27 => k0_hw270.1 k0_h27
theorem k0_idx1331_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v99, v130] : Fin 2 → IVec S16 32) a x).toNat < S320x128.size a := fun v14 k0_t7 v99 v100 v130 k0_hw270 k0_h27 => k0_hw270.2.1 k0_h27
theorem k0_idx1332_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v99, v130] : Fin 2 → IVec S16 32) a x).toNat < S320x128.size a := fun v14 k0_t7 v99 v100 v130 k0_hw270 k0_h27 => k0_hw270.2.2.1 k0_h27
theorem k0_idx1333_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v99, v130] : Fin 2 → IVec S16 32) a x).toNat < S320x128.size a := fun v14 k0_t7 v99 v100 v130 k0_hw270 k0_h27 => k0_hw270.2.2.2.1 k0_h27
theorem k0_idx1334_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v99, v130] : Fin 2 → IVec S16 32) a x).toNat < S320x128.size a := fun v14 k0_t7 v99 v100 v130 k0_hw270 k0_h27 => k0_hw270.2.2.2.2.1 k0_h27
theorem k0_idx1335_inb : ∀ (v14 : BitVec 32) (k0_t7 : Fin (k0_t7_loop v14).trips) (v99 : IVec S16 32) (v100 : IVec S16 32) (v130 : IVec S16 32) (k0_hw270 : k0_chk270 v14 k0_t7 v99 v100 v130), ∀ (k0_h27 : k0_cond27 v14 k0_t7 = 1#1), ∀ a x, ((![v99, v130] : Fin 2 → IVec S16 32) a x).toNat < S320x128.size a := fun v14 k0_t7 v99 v100 v130 k0_hw270 k0_h27 => k0_hw270.2.2.2.2.2 k0_h27

def k0_chk271 (v14 : BitVec 32) (k0_t7 : Fin (k0_t7_loop v14).trips) (v99 : IVec S16 32) (v100 : IVec S16 32) (v137 : IVec S16 32) : Prop :=
  (∀ (k0_h27 : k0_cond27 v14 k0_t7 = 1#1), ∀ a x, ((![v100, v137] : Fin 2 → IVec S16 32) a x).toNat < S16x128.size a) ∧
  (∀ (k0_h27 : k0_cond27 v14 k0_t7 = 1#1), ∀ a x, ((![v99, v137] : Fin 2 → IVec S16 32) a x).toNat < S320x128.size a) ∧
  (∀ (k0_h27 : k0_cond27 v14 k0_t7 = 1#1), ∀ a x, ((![v99, v137] : Fin 2 → IVec S16 32) a x).toNat < S320x128.size a) ∧
  (∀ (k0_h27 : k0_cond27 v14 k0_t7 = 1#1), ∀ a x, ((![v99, v137] : Fin 2 → IVec S16 32) a x).toNat < S320x128.size a) ∧
  (∀ (k0_h27 : k0_cond27 v14 k0_t7 = 1#1), ∀ a x, ((![v99, v137] : Fin 2 → IVec S16 32) a x).toNat < S320x128.size a) ∧
  (∀ (k0_h27 : k0_cond27 v14 k0_t7 = 1#1), ∀ a x, ((![v99, v137] : Fin 2 → IVec S16 32) a x).toNat < S320x128.size a)
theorem k0_idx1336_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v100, v137] : Fin 2 → IVec S16 32) a x).toNat < S16x128.size a := fun v14 k0_t7 v99 v100 v137 k0_hw271 k0_h27 => k0_hw271.1 k0_h27
theorem k0_idx1337_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v99, v137] : Fin 2 → IVec S16 32) a x).toNat < S320x128.size a := fun v14 k0_t7 v99 v100 v137 k0_hw271 k0_h27 => k0_hw271.2.1 k0_h27
theorem k0_idx1338_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v99, v137] : Fin 2 → IVec S16 32) a x).toNat < S320x128.size a := fun v14 k0_t7 v99 v100 v137 k0_hw271 k0_h27 => k0_hw271.2.2.1 k0_h27
theorem k0_idx1339_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v99, v137] : Fin 2 → IVec S16 32) a x).toNat < S320x128.size a := fun v14 k0_t7 v99 v100 v137 k0_hw271 k0_h27 => k0_hw271.2.2.2.1 k0_h27
theorem k0_idx1340_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v99, v137] : Fin 2 → IVec S16 32) a x).toNat < S320x128.size a := fun v14 k0_t7 v99 v100 v137 k0_hw271 k0_h27 => k0_hw271.2.2.2.2.1 k0_h27
theorem k0_idx1341_inb : ∀ (v14 : BitVec 32) (k0_t7 : Fin (k0_t7_loop v14).trips) (v99 : IVec S16 32) (v100 : IVec S16 32) (v137 : IVec S16 32) (k0_hw271 : k0_chk271 v14 k0_t7 v99 v100 v137), ∀ (k0_h27 : k0_cond27 v14 k0_t7 = 1#1), ∀ a x, ((![v99, v137] : Fin 2 → IVec S16 32) a x).toNat < S320x128.size a := fun v14 k0_t7 v99 v100 v137 k0_hw271 k0_h27 => k0_hw271.2.2.2.2.2 k0_h27

def k0_chk272 (v14 : BitVec 32) (k0_t7 : Fin (k0_t7_loop v14).trips) (v99 : IVec S16 32) (v100 : IVec S16 32) (v144 : IVec S16 32) : Prop :=
  (∀ (k0_h27 : k0_cond27 v14 k0_t7 = 1#1), ∀ a x, ((![v100, v144] : Fin 2 → IVec S16 32) a x).toNat < S16x128.size a) ∧
  (∀ (k0_h27 : k0_cond27 v14 k0_t7 = 1#1), ∀ a x, ((![v99, v144] : Fin 2 → IVec S16 32) a x).toNat < S320x128.size a) ∧
  (∀ (k0_h27 : k0_cond27 v14 k0_t7 = 1#1), ∀ a x, ((![v99, v144] : Fin 2 → IVec S16 32) a x).toNat < S320x128.size a) ∧
  (∀ (k0_h27 : k0_cond27 v14 k0_t7 = 1#1), ∀ a x, ((![v99, v144] : Fin 2 → IVec S16 32) a x).toNat < S320x128.size a) ∧
  (∀ (k0_h27 : k0_cond27 v14 k0_t7 = 1#1), ∀ a x, ((![v99, v144] : Fin 2 → IVec S16 32) a x).toNat < S320x128.size a) ∧
  (∀ (k0_h27 : k0_cond27 v14 k0_t7 = 1#1), ∀ a x, ((![v99, v144] : Fin 2 → IVec S16 32) a x).toNat < S320x128.size a)
theorem k0_idx1342_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v100, v144] : Fin 2 → IVec S16 32) a x).toNat < S16x128.size a := fun v14 k0_t7 v99 v100 v144 k0_hw272 k0_h27 => k0_hw272.1 k0_h27
theorem k0_idx1343_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v99, v144] : Fin 2 → IVec S16 32) a x).toNat < S320x128.size a := fun v14 k0_t7 v99 v100 v144 k0_hw272 k0_h27 => k0_hw272.2.1 k0_h27
theorem k0_idx1344_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v99, v144] : Fin 2 → IVec S16 32) a x).toNat < S320x128.size a := fun v14 k0_t7 v99 v100 v144 k0_hw272 k0_h27 => k0_hw272.2.2.1 k0_h27
theorem k0_idx1345_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v99, v144] : Fin 2 → IVec S16 32) a x).toNat < S320x128.size a := fun v14 k0_t7 v99 v100 v144 k0_hw272 k0_h27 => k0_hw272.2.2.2.1 k0_h27
theorem k0_idx1346_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v99, v144] : Fin 2 → IVec S16 32) a x).toNat < S320x128.size a := fun v14 k0_t7 v99 v100 v144 k0_hw272 k0_h27 => k0_hw272.2.2.2.2.1 k0_h27
theorem k0_idx1347_inb : ∀ (v14 : BitVec 32) (k0_t7 : Fin (k0_t7_loop v14).trips) (v99 : IVec S16 32) (v100 : IVec S16 32) (v144 : IVec S16 32) (k0_hw272 : k0_chk272 v14 k0_t7 v99 v100 v144), ∀ (k0_h27 : k0_cond27 v14 k0_t7 = 1#1), ∀ a x, ((![v99, v144] : Fin 2 → IVec S16 32) a x).toNat < S320x128.size a := fun v14 k0_t7 v99 v100 v144 k0_hw272 k0_h27 => k0_hw272.2.2.2.2.2 k0_h27

def k0_chk273 (v14 : BitVec 32) (k0_t7 : Fin (k0_t7_loop v14).trips) (v99 : IVec S16 32) (v100 : IVec S16 32) (v151 : IVec S16 32) : Prop :=
  (∀ (k0_h27 : k0_cond27 v14 k0_t7 = 1#1), ∀ a x, ((![v100, v151] : Fin 2 → IVec S16 32) a x).toNat < S16x128.size a) ∧
  (∀ (k0_h27 : k0_cond27 v14 k0_t7 = 1#1), ∀ a x, ((![v99, v151] : Fin 2 → IVec S16 32) a x).toNat < S320x128.size a) ∧
  (∀ (k0_h27 : k0_cond27 v14 k0_t7 = 1#1), ∀ a x, ((![v99, v151] : Fin 2 → IVec S16 32) a x).toNat < S320x128.size a) ∧
  (∀ (k0_h27 : k0_cond27 v14 k0_t7 = 1#1), ∀ a x, ((![v99, v151] : Fin 2 → IVec S16 32) a x).toNat < S320x128.size a) ∧
  (∀ (k0_h27 : k0_cond27 v14 k0_t7 = 1#1), ∀ a x, ((![v99, v151] : Fin 2 → IVec S16 32) a x).toNat < S320x128.size a) ∧
  (∀ (k0_h27 : k0_cond27 v14 k0_t7 = 1#1), ∀ a x, ((![v99, v151] : Fin 2 → IVec S16 32) a x).toNat < S320x128.size a)
theorem k0_idx1348_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v100, v151] : Fin 2 → IVec S16 32) a x).toNat < S16x128.size a := fun v14 k0_t7 v99 v100 v151 k0_hw273 k0_h27 => k0_hw273.1 k0_h27
theorem k0_idx1349_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v99, v151] : Fin 2 → IVec S16 32) a x).toNat < S320x128.size a := fun v14 k0_t7 v99 v100 v151 k0_hw273 k0_h27 => k0_hw273.2.1 k0_h27
theorem k0_idx1350_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v99, v151] : Fin 2 → IVec S16 32) a x).toNat < S320x128.size a := fun v14 k0_t7 v99 v100 v151 k0_hw273 k0_h27 => k0_hw273.2.2.1 k0_h27
theorem k0_idx1351_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v99, v151] : Fin 2 → IVec S16 32) a x).toNat < S320x128.size a := fun v14 k0_t7 v99 v100 v151 k0_hw273 k0_h27 => k0_hw273.2.2.2.1 k0_h27
theorem k0_idx1352_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v99, v151] : Fin 2 → IVec S16 32) a x).toNat < S320x128.size a := fun v14 k0_t7 v99 v100 v151 k0_hw273 k0_h27 => k0_hw273.2.2.2.2.1 k0_h27
theorem k0_idx1353_inb : ∀ (v14 : BitVec 32) (k0_t7 : Fin (k0_t7_loop v14).trips) (v99 : IVec S16 32) (v100 : IVec S16 32) (v151 : IVec S16 32) (k0_hw273 : k0_chk273 v14 k0_t7 v99 v100 v151), ∀ (k0_h27 : k0_cond27 v14 k0_t7 = 1#1), ∀ a x, ((![v99, v151] : Fin 2 → IVec S16 32) a x).toNat < S320x128.size a := fun v14 k0_t7 v99 v100 v151 k0_hw273 k0_h27 => k0_hw273.2.2.2.2.2 k0_h27

def k0_chk274 (v14 : BitVec 32) (k0_t7 : Fin (k0_t7_loop v14).trips) (v99 : IVec S16 32) : Prop :=
  (∀ (k0_h27 : k0_cond27 v14 k0_t7 = 1#1), ∀ a x, ((![v99] : Fin 1 → IVec S16 32) a x).toNat < S320.size a)
theorem k0_idx1354_inb : ∀ (v14 : BitVec 32) (k0_t7 : Fin (k0_t7_loop v14).trips) (v99 : IVec S16 32) (k0_hw274 : k0_chk274 v14 k0_t7 v99), ∀ (k0_h27 : k0_cond27 v14 k0_t7 = 1#1), ∀ a x, ((![v99] : Fin 1 → IVec S16 32) a x).toNat < S320.size a := fun v14 k0_t7 v99 k0_hw274 k0_h27 => k0_hw274 k0_h27
def k0_cond28 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c11_i32 : BitVec 32 := 11#32
  let v82 : BitVec 1 := Scalar.cmpi .sgt v45 c11_i32
  let v83 : BitVec 32 := Scalar.extui v82
  let c0_i32_54 : BitVec 32 := 0#32
  let v84 : BitVec 1 := Scalar.cmpi .ne v83 c0_i32_54
  v84

def k0_chk275 (v14 : BitVec 32) (k0_t7 : Fin (k0_t7_loop v14).trips) (v98 : IVec S16 32) : Prop :=
  (∀ (k0_h28 : k0_cond28 v14 k0_t7 = 1#1), ∀ a x, ((![v98] : Fin 1 → IVec S16 32) a x).toNat < S528.size a)
theorem k0_idx1355_inb : ∀ (v14 : BitVec 32) (k0_t7 : Fin (k0_t7_loop v14).trips) (v98 : IVec S16 32) (k0_hw275 : k0_chk275 v14 k0_t7 v98), ∀ (k0_h28 : k0_cond28 v14 k0_t7 = 1#1), ∀ a x, ((![v98] : Fin 1 → IVec S16 32) a x).toNat < S528.size a := fun v14 k0_t7 v98 k0_hw275 k0_h28 => k0_hw275 k0_h28

def k0_chk276 (v14 : BitVec 32) (k0_t7 : Fin (k0_t7_loop v14).trips) (v99 : IVec S16 32) (v100 : IVec S16 32) (v102 : IVec S16 32) : Prop :=
  (∀ (k0_h28 : k0_cond28 v14 k0_t7 = 1#1), ∀ a x, ((![v100, v102] : Fin 2 → IVec S16 32) a x).toNat < S16x128.size a) ∧
  (∀ (k0_h28 : k0_cond28 v14 k0_t7 = 1#1), ∀ a x, ((![v99, v102] : Fin 2 → IVec S16 32) a x).toNat < S320x128.size a) ∧
  (∀ (k0_h28 : k0_cond28 v14 k0_t7 = 1#1), ∀ a x, ((![v99, v102] : Fin 2 → IVec S16 32) a x).toNat < S320x128.size a) ∧
  (∀ (k0_h28 : k0_cond28 v14 k0_t7 = 1#1), ∀ a x, ((![v99, v102] : Fin 2 → IVec S16 32) a x).toNat < S320x128.size a) ∧
  (∀ (k0_h28 : k0_cond28 v14 k0_t7 = 1#1), ∀ a x, ((![v99, v102] : Fin 2 → IVec S16 32) a x).toNat < S320x128.size a) ∧
  (∀ (k0_h28 : k0_cond28 v14 k0_t7 = 1#1), ∀ a x, ((![v99, v102] : Fin 2 → IVec S16 32) a x).toNat < S320x128.size a)
theorem k0_idx1356_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v100, v102] : Fin 2 → IVec S16 32) a x).toNat < S16x128.size a := fun v14 k0_t7 v99 v100 v102 k0_hw276 k0_h28 => k0_hw276.1 k0_h28
theorem k0_idx1357_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v99, v102] : Fin 2 → IVec S16 32) a x).toNat < S320x128.size a := fun v14 k0_t7 v99 v100 v102 k0_hw276 k0_h28 => k0_hw276.2.1 k0_h28
theorem k0_idx1358_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v99, v102] : Fin 2 → IVec S16 32) a x).toNat < S320x128.size a := fun v14 k0_t7 v99 v100 v102 k0_hw276 k0_h28 => k0_hw276.2.2.1 k0_h28
theorem k0_idx1359_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v99, v102] : Fin 2 → IVec S16 32) a x).toNat < S320x128.size a := fun v14 k0_t7 v99 v100 v102 k0_hw276 k0_h28 => k0_hw276.2.2.2.1 k0_h28
theorem k0_idx1360_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v99, v102] : Fin 2 → IVec S16 32) a x).toNat < S320x128.size a := fun v14 k0_t7 v99 v100 v102 k0_hw276 k0_h28 => k0_hw276.2.2.2.2.1 k0_h28
theorem k0_idx1361_inb : ∀ (v14 : BitVec 32) (k0_t7 : Fin (k0_t7_loop v14).trips) (v99 : IVec S16 32) (v100 : IVec S16 32) (v102 : IVec S16 32) (k0_hw276 : k0_chk276 v14 k0_t7 v99 v100 v102), ∀ (k0_h28 : k0_cond28 v14 k0_t7 = 1#1), ∀ a x, ((![v99, v102] : Fin 2 → IVec S16 32) a x).toNat < S320x128.size a := fun v14 k0_t7 v99 v100 v102 k0_hw276 k0_h28 => k0_hw276.2.2.2.2.2 k0_h28

def k0_chk277 (v14 : BitVec 32) (k0_t7 : Fin (k0_t7_loop v14).trips) (v99 : IVec S16 32) (v100 : IVec S16 32) (v109 : IVec S16 32) : Prop :=
  (∀ (k0_h28 : k0_cond28 v14 k0_t7 = 1#1), ∀ a x, ((![v100, v109] : Fin 2 → IVec S16 32) a x).toNat < S16x128.size a) ∧
  (∀ (k0_h28 : k0_cond28 v14 k0_t7 = 1#1), ∀ a x, ((![v99, v109] : Fin 2 → IVec S16 32) a x).toNat < S320x128.size a) ∧
  (∀ (k0_h28 : k0_cond28 v14 k0_t7 = 1#1), ∀ a x, ((![v99, v109] : Fin 2 → IVec S16 32) a x).toNat < S320x128.size a) ∧
  (∀ (k0_h28 : k0_cond28 v14 k0_t7 = 1#1), ∀ a x, ((![v99, v109] : Fin 2 → IVec S16 32) a x).toNat < S320x128.size a) ∧
  (∀ (k0_h28 : k0_cond28 v14 k0_t7 = 1#1), ∀ a x, ((![v99, v109] : Fin 2 → IVec S16 32) a x).toNat < S320x128.size a) ∧
  (∀ (k0_h28 : k0_cond28 v14 k0_t7 = 1#1), ∀ a x, ((![v99, v109] : Fin 2 → IVec S16 32) a x).toNat < S320x128.size a)
theorem k0_idx1362_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v100, v109] : Fin 2 → IVec S16 32) a x).toNat < S16x128.size a := fun v14 k0_t7 v99 v100 v109 k0_hw277 k0_h28 => k0_hw277.1 k0_h28
theorem k0_idx1363_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v99, v109] : Fin 2 → IVec S16 32) a x).toNat < S320x128.size a := fun v14 k0_t7 v99 v100 v109 k0_hw277 k0_h28 => k0_hw277.2.1 k0_h28
theorem k0_idx1364_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v99, v109] : Fin 2 → IVec S16 32) a x).toNat < S320x128.size a := fun v14 k0_t7 v99 v100 v109 k0_hw277 k0_h28 => k0_hw277.2.2.1 k0_h28
theorem k0_idx1365_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v99, v109] : Fin 2 → IVec S16 32) a x).toNat < S320x128.size a := fun v14 k0_t7 v99 v100 v109 k0_hw277 k0_h28 => k0_hw277.2.2.2.1 k0_h28
theorem k0_idx1366_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v99, v109] : Fin 2 → IVec S16 32) a x).toNat < S320x128.size a := fun v14 k0_t7 v99 v100 v109 k0_hw277 k0_h28 => k0_hw277.2.2.2.2.1 k0_h28
theorem k0_idx1367_inb : ∀ (v14 : BitVec 32) (k0_t7 : Fin (k0_t7_loop v14).trips) (v99 : IVec S16 32) (v100 : IVec S16 32) (v109 : IVec S16 32) (k0_hw277 : k0_chk277 v14 k0_t7 v99 v100 v109), ∀ (k0_h28 : k0_cond28 v14 k0_t7 = 1#1), ∀ a x, ((![v99, v109] : Fin 2 → IVec S16 32) a x).toNat < S320x128.size a := fun v14 k0_t7 v99 v100 v109 k0_hw277 k0_h28 => k0_hw277.2.2.2.2.2 k0_h28

def k0_chk278 (v14 : BitVec 32) (k0_t7 : Fin (k0_t7_loop v14).trips) (v99 : IVec S16 32) (v100 : IVec S16 32) (v116 : IVec S16 32) : Prop :=
  (∀ (k0_h28 : k0_cond28 v14 k0_t7 = 1#1), ∀ a x, ((![v100, v116] : Fin 2 → IVec S16 32) a x).toNat < S16x128.size a) ∧
  (∀ (k0_h28 : k0_cond28 v14 k0_t7 = 1#1), ∀ a x, ((![v99, v116] : Fin 2 → IVec S16 32) a x).toNat < S320x128.size a) ∧
  (∀ (k0_h28 : k0_cond28 v14 k0_t7 = 1#1), ∀ a x, ((![v99, v116] : Fin 2 → IVec S16 32) a x).toNat < S320x128.size a) ∧
  (∀ (k0_h28 : k0_cond28 v14 k0_t7 = 1#1), ∀ a x, ((![v99, v116] : Fin 2 → IVec S16 32) a x).toNat < S320x128.size a) ∧
  (∀ (k0_h28 : k0_cond28 v14 k0_t7 = 1#1), ∀ a x, ((![v99, v116] : Fin 2 → IVec S16 32) a x).toNat < S320x128.size a) ∧
  (∀ (k0_h28 : k0_cond28 v14 k0_t7 = 1#1), ∀ a x, ((![v99, v116] : Fin 2 → IVec S16 32) a x).toNat < S320x128.size a)
theorem k0_idx1368_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v100, v116] : Fin 2 → IVec S16 32) a x).toNat < S16x128.size a := fun v14 k0_t7 v99 v100 v116 k0_hw278 k0_h28 => k0_hw278.1 k0_h28
theorem k0_idx1369_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v99, v116] : Fin 2 → IVec S16 32) a x).toNat < S320x128.size a := fun v14 k0_t7 v99 v100 v116 k0_hw278 k0_h28 => k0_hw278.2.1 k0_h28
theorem k0_idx1370_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v99, v116] : Fin 2 → IVec S16 32) a x).toNat < S320x128.size a := fun v14 k0_t7 v99 v100 v116 k0_hw278 k0_h28 => k0_hw278.2.2.1 k0_h28
theorem k0_idx1371_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v99, v116] : Fin 2 → IVec S16 32) a x).toNat < S320x128.size a := fun v14 k0_t7 v99 v100 v116 k0_hw278 k0_h28 => k0_hw278.2.2.2.1 k0_h28
theorem k0_idx1372_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v99, v116] : Fin 2 → IVec S16 32) a x).toNat < S320x128.size a := fun v14 k0_t7 v99 v100 v116 k0_hw278 k0_h28 => k0_hw278.2.2.2.2.1 k0_h28
theorem k0_idx1373_inb : ∀ (v14 : BitVec 32) (k0_t7 : Fin (k0_t7_loop v14).trips) (v99 : IVec S16 32) (v100 : IVec S16 32) (v116 : IVec S16 32) (k0_hw278 : k0_chk278 v14 k0_t7 v99 v100 v116), ∀ (k0_h28 : k0_cond28 v14 k0_t7 = 1#1), ∀ a x, ((![v99, v116] : Fin 2 → IVec S16 32) a x).toNat < S320x128.size a := fun v14 k0_t7 v99 v100 v116 k0_hw278 k0_h28 => k0_hw278.2.2.2.2.2 k0_h28

def k0_chk279 (v14 : BitVec 32) (k0_t7 : Fin (k0_t7_loop v14).trips) (v99 : IVec S16 32) (v100 : IVec S16 32) (v123 : IVec S16 32) : Prop :=
  (∀ (k0_h28 : k0_cond28 v14 k0_t7 = 1#1), ∀ a x, ((![v100, v123] : Fin 2 → IVec S16 32) a x).toNat < S16x128.size a) ∧
  (∀ (k0_h28 : k0_cond28 v14 k0_t7 = 1#1), ∀ a x, ((![v99, v123] : Fin 2 → IVec S16 32) a x).toNat < S320x128.size a) ∧
  (∀ (k0_h28 : k0_cond28 v14 k0_t7 = 1#1), ∀ a x, ((![v99, v123] : Fin 2 → IVec S16 32) a x).toNat < S320x128.size a) ∧
  (∀ (k0_h28 : k0_cond28 v14 k0_t7 = 1#1), ∀ a x, ((![v99, v123] : Fin 2 → IVec S16 32) a x).toNat < S320x128.size a) ∧
  (∀ (k0_h28 : k0_cond28 v14 k0_t7 = 1#1), ∀ a x, ((![v99, v123] : Fin 2 → IVec S16 32) a x).toNat < S320x128.size a) ∧
  (∀ (k0_h28 : k0_cond28 v14 k0_t7 = 1#1), ∀ a x, ((![v99, v123] : Fin 2 → IVec S16 32) a x).toNat < S320x128.size a)
theorem k0_idx1374_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v100, v123] : Fin 2 → IVec S16 32) a x).toNat < S16x128.size a := fun v14 k0_t7 v99 v100 v123 k0_hw279 k0_h28 => k0_hw279.1 k0_h28
theorem k0_idx1375_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v99, v123] : Fin 2 → IVec S16 32) a x).toNat < S320x128.size a := fun v14 k0_t7 v99 v100 v123 k0_hw279 k0_h28 => k0_hw279.2.1 k0_h28
theorem k0_idx1376_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v99, v123] : Fin 2 → IVec S16 32) a x).toNat < S320x128.size a := fun v14 k0_t7 v99 v100 v123 k0_hw279 k0_h28 => k0_hw279.2.2.1 k0_h28
theorem k0_idx1377_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v99, v123] : Fin 2 → IVec S16 32) a x).toNat < S320x128.size a := fun v14 k0_t7 v99 v100 v123 k0_hw279 k0_h28 => k0_hw279.2.2.2.1 k0_h28
theorem k0_idx1378_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v99, v123] : Fin 2 → IVec S16 32) a x).toNat < S320x128.size a := fun v14 k0_t7 v99 v100 v123 k0_hw279 k0_h28 => k0_hw279.2.2.2.2.1 k0_h28
theorem k0_idx1379_inb : ∀ (v14 : BitVec 32) (k0_t7 : Fin (k0_t7_loop v14).trips) (v99 : IVec S16 32) (v100 : IVec S16 32) (v123 : IVec S16 32) (k0_hw279 : k0_chk279 v14 k0_t7 v99 v100 v123), ∀ (k0_h28 : k0_cond28 v14 k0_t7 = 1#1), ∀ a x, ((![v99, v123] : Fin 2 → IVec S16 32) a x).toNat < S320x128.size a := fun v14 k0_t7 v99 v100 v123 k0_hw279 k0_h28 => k0_hw279.2.2.2.2.2 k0_h28

def k0_chk280 (v14 : BitVec 32) (k0_t7 : Fin (k0_t7_loop v14).trips) (v99 : IVec S16 32) (v100 : IVec S16 32) (v130 : IVec S16 32) : Prop :=
  (∀ (k0_h28 : k0_cond28 v14 k0_t7 = 1#1), ∀ a x, ((![v100, v130] : Fin 2 → IVec S16 32) a x).toNat < S16x128.size a) ∧
  (∀ (k0_h28 : k0_cond28 v14 k0_t7 = 1#1), ∀ a x, ((![v99, v130] : Fin 2 → IVec S16 32) a x).toNat < S320x128.size a) ∧
  (∀ (k0_h28 : k0_cond28 v14 k0_t7 = 1#1), ∀ a x, ((![v99, v130] : Fin 2 → IVec S16 32) a x).toNat < S320x128.size a) ∧
  (∀ (k0_h28 : k0_cond28 v14 k0_t7 = 1#1), ∀ a x, ((![v99, v130] : Fin 2 → IVec S16 32) a x).toNat < S320x128.size a) ∧
  (∀ (k0_h28 : k0_cond28 v14 k0_t7 = 1#1), ∀ a x, ((![v99, v130] : Fin 2 → IVec S16 32) a x).toNat < S320x128.size a) ∧
  (∀ (k0_h28 : k0_cond28 v14 k0_t7 = 1#1), ∀ a x, ((![v99, v130] : Fin 2 → IVec S16 32) a x).toNat < S320x128.size a)
theorem k0_idx1380_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v100, v130] : Fin 2 → IVec S16 32) a x).toNat < S16x128.size a := fun v14 k0_t7 v99 v100 v130 k0_hw280 k0_h28 => k0_hw280.1 k0_h28
theorem k0_idx1381_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v99, v130] : Fin 2 → IVec S16 32) a x).toNat < S320x128.size a := fun v14 k0_t7 v99 v100 v130 k0_hw280 k0_h28 => k0_hw280.2.1 k0_h28
theorem k0_idx1382_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v99, v130] : Fin 2 → IVec S16 32) a x).toNat < S320x128.size a := fun v14 k0_t7 v99 v100 v130 k0_hw280 k0_h28 => k0_hw280.2.2.1 k0_h28
theorem k0_idx1383_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v99, v130] : Fin 2 → IVec S16 32) a x).toNat < S320x128.size a := fun v14 k0_t7 v99 v100 v130 k0_hw280 k0_h28 => k0_hw280.2.2.2.1 k0_h28
theorem k0_idx1384_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v99, v130] : Fin 2 → IVec S16 32) a x).toNat < S320x128.size a := fun v14 k0_t7 v99 v100 v130 k0_hw280 k0_h28 => k0_hw280.2.2.2.2.1 k0_h28
theorem k0_idx1385_inb : ∀ (v14 : BitVec 32) (k0_t7 : Fin (k0_t7_loop v14).trips) (v99 : IVec S16 32) (v100 : IVec S16 32) (v130 : IVec S16 32) (k0_hw280 : k0_chk280 v14 k0_t7 v99 v100 v130), ∀ (k0_h28 : k0_cond28 v14 k0_t7 = 1#1), ∀ a x, ((![v99, v130] : Fin 2 → IVec S16 32) a x).toNat < S320x128.size a := fun v14 k0_t7 v99 v100 v130 k0_hw280 k0_h28 => k0_hw280.2.2.2.2.2 k0_h28

def k0_chk281 (v14 : BitVec 32) (k0_t7 : Fin (k0_t7_loop v14).trips) (v99 : IVec S16 32) (v100 : IVec S16 32) (v137 : IVec S16 32) : Prop :=
  (∀ (k0_h28 : k0_cond28 v14 k0_t7 = 1#1), ∀ a x, ((![v100, v137] : Fin 2 → IVec S16 32) a x).toNat < S16x128.size a) ∧
  (∀ (k0_h28 : k0_cond28 v14 k0_t7 = 1#1), ∀ a x, ((![v99, v137] : Fin 2 → IVec S16 32) a x).toNat < S320x128.size a) ∧
  (∀ (k0_h28 : k0_cond28 v14 k0_t7 = 1#1), ∀ a x, ((![v99, v137] : Fin 2 → IVec S16 32) a x).toNat < S320x128.size a) ∧
  (∀ (k0_h28 : k0_cond28 v14 k0_t7 = 1#1), ∀ a x, ((![v99, v137] : Fin 2 → IVec S16 32) a x).toNat < S320x128.size a) ∧
  (∀ (k0_h28 : k0_cond28 v14 k0_t7 = 1#1), ∀ a x, ((![v99, v137] : Fin 2 → IVec S16 32) a x).toNat < S320x128.size a) ∧
  (∀ (k0_h28 : k0_cond28 v14 k0_t7 = 1#1), ∀ a x, ((![v99, v137] : Fin 2 → IVec S16 32) a x).toNat < S320x128.size a)
theorem k0_idx1386_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v100, v137] : Fin 2 → IVec S16 32) a x).toNat < S16x128.size a := fun v14 k0_t7 v99 v100 v137 k0_hw281 k0_h28 => k0_hw281.1 k0_h28
theorem k0_idx1387_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v99, v137] : Fin 2 → IVec S16 32) a x).toNat < S320x128.size a := fun v14 k0_t7 v99 v100 v137 k0_hw281 k0_h28 => k0_hw281.2.1 k0_h28
theorem k0_idx1388_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v99, v137] : Fin 2 → IVec S16 32) a x).toNat < S320x128.size a := fun v14 k0_t7 v99 v100 v137 k0_hw281 k0_h28 => k0_hw281.2.2.1 k0_h28
theorem k0_idx1389_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v99, v137] : Fin 2 → IVec S16 32) a x).toNat < S320x128.size a := fun v14 k0_t7 v99 v100 v137 k0_hw281 k0_h28 => k0_hw281.2.2.2.1 k0_h28
theorem k0_idx1390_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v99, v137] : Fin 2 → IVec S16 32) a x).toNat < S320x128.size a := fun v14 k0_t7 v99 v100 v137 k0_hw281 k0_h28 => k0_hw281.2.2.2.2.1 k0_h28
theorem k0_idx1391_inb : ∀ (v14 : BitVec 32) (k0_t7 : Fin (k0_t7_loop v14).trips) (v99 : IVec S16 32) (v100 : IVec S16 32) (v137 : IVec S16 32) (k0_hw281 : k0_chk281 v14 k0_t7 v99 v100 v137), ∀ (k0_h28 : k0_cond28 v14 k0_t7 = 1#1), ∀ a x, ((![v99, v137] : Fin 2 → IVec S16 32) a x).toNat < S320x128.size a := fun v14 k0_t7 v99 v100 v137 k0_hw281 k0_h28 => k0_hw281.2.2.2.2.2 k0_h28

def k0_chk282 (v14 : BitVec 32) (k0_t7 : Fin (k0_t7_loop v14).trips) (v99 : IVec S16 32) (v100 : IVec S16 32) (v144 : IVec S16 32) : Prop :=
  (∀ (k0_h28 : k0_cond28 v14 k0_t7 = 1#1), ∀ a x, ((![v100, v144] : Fin 2 → IVec S16 32) a x).toNat < S16x128.size a) ∧
  (∀ (k0_h28 : k0_cond28 v14 k0_t7 = 1#1), ∀ a x, ((![v99, v144] : Fin 2 → IVec S16 32) a x).toNat < S320x128.size a) ∧
  (∀ (k0_h28 : k0_cond28 v14 k0_t7 = 1#1), ∀ a x, ((![v99, v144] : Fin 2 → IVec S16 32) a x).toNat < S320x128.size a) ∧
  (∀ (k0_h28 : k0_cond28 v14 k0_t7 = 1#1), ∀ a x, ((![v99, v144] : Fin 2 → IVec S16 32) a x).toNat < S320x128.size a) ∧
  (∀ (k0_h28 : k0_cond28 v14 k0_t7 = 1#1), ∀ a x, ((![v99, v144] : Fin 2 → IVec S16 32) a x).toNat < S320x128.size a) ∧
  (∀ (k0_h28 : k0_cond28 v14 k0_t7 = 1#1), ∀ a x, ((![v99, v144] : Fin 2 → IVec S16 32) a x).toNat < S320x128.size a)
theorem k0_idx1392_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v100, v144] : Fin 2 → IVec S16 32) a x).toNat < S16x128.size a := fun v14 k0_t7 v99 v100 v144 k0_hw282 k0_h28 => k0_hw282.1 k0_h28
theorem k0_idx1393_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v99, v144] : Fin 2 → IVec S16 32) a x).toNat < S320x128.size a := fun v14 k0_t7 v99 v100 v144 k0_hw282 k0_h28 => k0_hw282.2.1 k0_h28
theorem k0_idx1394_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v99, v144] : Fin 2 → IVec S16 32) a x).toNat < S320x128.size a := fun v14 k0_t7 v99 v100 v144 k0_hw282 k0_h28 => k0_hw282.2.2.1 k0_h28
theorem k0_idx1395_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v99, v144] : Fin 2 → IVec S16 32) a x).toNat < S320x128.size a := fun v14 k0_t7 v99 v100 v144 k0_hw282 k0_h28 => k0_hw282.2.2.2.1 k0_h28
theorem k0_idx1396_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v99, v144] : Fin 2 → IVec S16 32) a x).toNat < S320x128.size a := fun v14 k0_t7 v99 v100 v144 k0_hw282 k0_h28 => k0_hw282.2.2.2.2.1 k0_h28
theorem k0_idx1397_inb : ∀ (v14 : BitVec 32) (k0_t7 : Fin (k0_t7_loop v14).trips) (v99 : IVec S16 32) (v100 : IVec S16 32) (v144 : IVec S16 32) (k0_hw282 : k0_chk282 v14 k0_t7 v99 v100 v144), ∀ (k0_h28 : k0_cond28 v14 k0_t7 = 1#1), ∀ a x, ((![v99, v144] : Fin 2 → IVec S16 32) a x).toNat < S320x128.size a := fun v14 k0_t7 v99 v100 v144 k0_hw282 k0_h28 => k0_hw282.2.2.2.2.2 k0_h28

def k0_chk283 (v14 : BitVec 32) (k0_t7 : Fin (k0_t7_loop v14).trips) (v99 : IVec S16 32) (v100 : IVec S16 32) (v151 : IVec S16 32) : Prop :=
  (∀ (k0_h28 : k0_cond28 v14 k0_t7 = 1#1), ∀ a x, ((![v100, v151] : Fin 2 → IVec S16 32) a x).toNat < S16x128.size a) ∧
  (∀ (k0_h28 : k0_cond28 v14 k0_t7 = 1#1), ∀ a x, ((![v99, v151] : Fin 2 → IVec S16 32) a x).toNat < S320x128.size a) ∧
  (∀ (k0_h28 : k0_cond28 v14 k0_t7 = 1#1), ∀ a x, ((![v99, v151] : Fin 2 → IVec S16 32) a x).toNat < S320x128.size a) ∧
  (∀ (k0_h28 : k0_cond28 v14 k0_t7 = 1#1), ∀ a x, ((![v99, v151] : Fin 2 → IVec S16 32) a x).toNat < S320x128.size a) ∧
  (∀ (k0_h28 : k0_cond28 v14 k0_t7 = 1#1), ∀ a x, ((![v99, v151] : Fin 2 → IVec S16 32) a x).toNat < S320x128.size a) ∧
  (∀ (k0_h28 : k0_cond28 v14 k0_t7 = 1#1), ∀ a x, ((![v99, v151] : Fin 2 → IVec S16 32) a x).toNat < S320x128.size a)
theorem k0_idx1398_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v100, v151] : Fin 2 → IVec S16 32) a x).toNat < S16x128.size a := fun v14 k0_t7 v99 v100 v151 k0_hw283 k0_h28 => k0_hw283.1 k0_h28
theorem k0_idx1399_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v99, v151] : Fin 2 → IVec S16 32) a x).toNat < S320x128.size a := fun v14 k0_t7 v99 v100 v151 k0_hw283 k0_h28 => k0_hw283.2.1 k0_h28
theorem k0_idx1400_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v99, v151] : Fin 2 → IVec S16 32) a x).toNat < S320x128.size a := fun v14 k0_t7 v99 v100 v151 k0_hw283 k0_h28 => k0_hw283.2.2.1 k0_h28
theorem k0_idx1401_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v99, v151] : Fin 2 → IVec S16 32) a x).toNat < S320x128.size a := fun v14 k0_t7 v99 v100 v151 k0_hw283 k0_h28 => k0_hw283.2.2.2.1 k0_h28
theorem k0_idx1402_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v99, v151] : Fin 2 → IVec S16 32) a x).toNat < S320x128.size a := fun v14 k0_t7 v99 v100 v151 k0_hw283 k0_h28 => k0_hw283.2.2.2.2.1 k0_h28
theorem k0_idx1403_inb : ∀ (v14 : BitVec 32) (k0_t7 : Fin (k0_t7_loop v14).trips) (v99 : IVec S16 32) (v100 : IVec S16 32) (v151 : IVec S16 32) (k0_hw283 : k0_chk283 v14 k0_t7 v99 v100 v151), ∀ (k0_h28 : k0_cond28 v14 k0_t7 = 1#1), ∀ a x, ((![v99, v151] : Fin 2 → IVec S16 32) a x).toNat < S320x128.size a := fun v14 k0_t7 v99 v100 v151 k0_hw283 k0_h28 => k0_hw283.2.2.2.2.2 k0_h28

def k0_chk284 (v14 : BitVec 32) (k0_t7 : Fin (k0_t7_loop v14).trips) (v99 : IVec S16 32) : Prop :=
  (∀ (k0_h28 : k0_cond28 v14 k0_t7 = 1#1), ∀ a x, ((![v99] : Fin 1 → IVec S16 32) a x).toNat < S320.size a)
theorem k0_idx1404_inb : ∀ (v14 : BitVec 32) (k0_t7 : Fin (k0_t7_loop v14).trips) (v99 : IVec S16 32) (k0_hw284 : k0_chk284 v14 k0_t7 v99), ∀ (k0_h28 : k0_cond28 v14 k0_t7 = 1#1), ∀ a x, ((![v99] : Fin 1 → IVec S16 32) a x).toNat < S320.size a := fun v14 k0_t7 v99 k0_hw284 k0_h28 => k0_hw284 k0_h28
def k0_cond29 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c12_i32 : BitVec 32 := 12#32
  let v85 : BitVec 1 := Scalar.cmpi .sgt v45 c12_i32
  let v86 : BitVec 32 := Scalar.extui v85
  let c0_i32_55 : BitVec 32 := 0#32
  let v87 : BitVec 1 := Scalar.cmpi .ne v86 c0_i32_55
  v87

def k0_chk285 (v14 : BitVec 32) (k0_t7 : Fin (k0_t7_loop v14).trips) (v98 : IVec S16 32) : Prop :=
  (∀ (k0_h29 : k0_cond29 v14 k0_t7 = 1#1), ∀ a x, ((![v98] : Fin 1 → IVec S16 32) a x).toNat < S528.size a)
theorem k0_idx1405_inb : ∀ (v14 : BitVec 32) (k0_t7 : Fin (k0_t7_loop v14).trips) (v98 : IVec S16 32) (k0_hw285 : k0_chk285 v14 k0_t7 v98), ∀ (k0_h29 : k0_cond29 v14 k0_t7 = 1#1), ∀ a x, ((![v98] : Fin 1 → IVec S16 32) a x).toNat < S528.size a := fun v14 k0_t7 v98 k0_hw285 k0_h29 => k0_hw285 k0_h29

def k0_chk286 (v14 : BitVec 32) (k0_t7 : Fin (k0_t7_loop v14).trips) (v99 : IVec S16 32) (v100 : IVec S16 32) (v102 : IVec S16 32) : Prop :=
  (∀ (k0_h29 : k0_cond29 v14 k0_t7 = 1#1), ∀ a x, ((![v100, v102] : Fin 2 → IVec S16 32) a x).toNat < S16x128.size a) ∧
  (∀ (k0_h29 : k0_cond29 v14 k0_t7 = 1#1), ∀ a x, ((![v99, v102] : Fin 2 → IVec S16 32) a x).toNat < S320x128.size a) ∧
  (∀ (k0_h29 : k0_cond29 v14 k0_t7 = 1#1), ∀ a x, ((![v99, v102] : Fin 2 → IVec S16 32) a x).toNat < S320x128.size a) ∧
  (∀ (k0_h29 : k0_cond29 v14 k0_t7 = 1#1), ∀ a x, ((![v99, v102] : Fin 2 → IVec S16 32) a x).toNat < S320x128.size a) ∧
  (∀ (k0_h29 : k0_cond29 v14 k0_t7 = 1#1), ∀ a x, ((![v99, v102] : Fin 2 → IVec S16 32) a x).toNat < S320x128.size a) ∧
  (∀ (k0_h29 : k0_cond29 v14 k0_t7 = 1#1), ∀ a x, ((![v99, v102] : Fin 2 → IVec S16 32) a x).toNat < S320x128.size a)
theorem k0_idx1406_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v100, v102] : Fin 2 → IVec S16 32) a x).toNat < S16x128.size a := fun v14 k0_t7 v99 v100 v102 k0_hw286 k0_h29 => k0_hw286.1 k0_h29
theorem k0_idx1407_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v99, v102] : Fin 2 → IVec S16 32) a x).toNat < S320x128.size a := fun v14 k0_t7 v99 v100 v102 k0_hw286 k0_h29 => k0_hw286.2.1 k0_h29
theorem k0_idx1408_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v99, v102] : Fin 2 → IVec S16 32) a x).toNat < S320x128.size a := fun v14 k0_t7 v99 v100 v102 k0_hw286 k0_h29 => k0_hw286.2.2.1 k0_h29
theorem k0_idx1409_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v99, v102] : Fin 2 → IVec S16 32) a x).toNat < S320x128.size a := fun v14 k0_t7 v99 v100 v102 k0_hw286 k0_h29 => k0_hw286.2.2.2.1 k0_h29
theorem k0_idx1410_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v99, v102] : Fin 2 → IVec S16 32) a x).toNat < S320x128.size a := fun v14 k0_t7 v99 v100 v102 k0_hw286 k0_h29 => k0_hw286.2.2.2.2.1 k0_h29
theorem k0_idx1411_inb : ∀ (v14 : BitVec 32) (k0_t7 : Fin (k0_t7_loop v14).trips) (v99 : IVec S16 32) (v100 : IVec S16 32) (v102 : IVec S16 32) (k0_hw286 : k0_chk286 v14 k0_t7 v99 v100 v102), ∀ (k0_h29 : k0_cond29 v14 k0_t7 = 1#1), ∀ a x, ((![v99, v102] : Fin 2 → IVec S16 32) a x).toNat < S320x128.size a := fun v14 k0_t7 v99 v100 v102 k0_hw286 k0_h29 => k0_hw286.2.2.2.2.2 k0_h29

def k0_chk287 (v14 : BitVec 32) (k0_t7 : Fin (k0_t7_loop v14).trips) (v99 : IVec S16 32) (v100 : IVec S16 32) (v109 : IVec S16 32) : Prop :=
  (∀ (k0_h29 : k0_cond29 v14 k0_t7 = 1#1), ∀ a x, ((![v100, v109] : Fin 2 → IVec S16 32) a x).toNat < S16x128.size a) ∧
  (∀ (k0_h29 : k0_cond29 v14 k0_t7 = 1#1), ∀ a x, ((![v99, v109] : Fin 2 → IVec S16 32) a x).toNat < S320x128.size a) ∧
  (∀ (k0_h29 : k0_cond29 v14 k0_t7 = 1#1), ∀ a x, ((![v99, v109] : Fin 2 → IVec S16 32) a x).toNat < S320x128.size a) ∧
  (∀ (k0_h29 : k0_cond29 v14 k0_t7 = 1#1), ∀ a x, ((![v99, v109] : Fin 2 → IVec S16 32) a x).toNat < S320x128.size a) ∧
  (∀ (k0_h29 : k0_cond29 v14 k0_t7 = 1#1), ∀ a x, ((![v99, v109] : Fin 2 → IVec S16 32) a x).toNat < S320x128.size a) ∧
  (∀ (k0_h29 : k0_cond29 v14 k0_t7 = 1#1), ∀ a x, ((![v99, v109] : Fin 2 → IVec S16 32) a x).toNat < S320x128.size a)
theorem k0_idx1412_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v100, v109] : Fin 2 → IVec S16 32) a x).toNat < S16x128.size a := fun v14 k0_t7 v99 v100 v109 k0_hw287 k0_h29 => k0_hw287.1 k0_h29
theorem k0_idx1413_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v99, v109] : Fin 2 → IVec S16 32) a x).toNat < S320x128.size a := fun v14 k0_t7 v99 v100 v109 k0_hw287 k0_h29 => k0_hw287.2.1 k0_h29
theorem k0_idx1414_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v99, v109] : Fin 2 → IVec S16 32) a x).toNat < S320x128.size a := fun v14 k0_t7 v99 v100 v109 k0_hw287 k0_h29 => k0_hw287.2.2.1 k0_h29
theorem k0_idx1415_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v99, v109] : Fin 2 → IVec S16 32) a x).toNat < S320x128.size a := fun v14 k0_t7 v99 v100 v109 k0_hw287 k0_h29 => k0_hw287.2.2.2.1 k0_h29
theorem k0_idx1416_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v99, v109] : Fin 2 → IVec S16 32) a x).toNat < S320x128.size a := fun v14 k0_t7 v99 v100 v109 k0_hw287 k0_h29 => k0_hw287.2.2.2.2.1 k0_h29
theorem k0_idx1417_inb : ∀ (v14 : BitVec 32) (k0_t7 : Fin (k0_t7_loop v14).trips) (v99 : IVec S16 32) (v100 : IVec S16 32) (v109 : IVec S16 32) (k0_hw287 : k0_chk287 v14 k0_t7 v99 v100 v109), ∀ (k0_h29 : k0_cond29 v14 k0_t7 = 1#1), ∀ a x, ((![v99, v109] : Fin 2 → IVec S16 32) a x).toNat < S320x128.size a := fun v14 k0_t7 v99 v100 v109 k0_hw287 k0_h29 => k0_hw287.2.2.2.2.2 k0_h29

def k0_chk288 (v14 : BitVec 32) (k0_t7 : Fin (k0_t7_loop v14).trips) (v99 : IVec S16 32) (v100 : IVec S16 32) (v116 : IVec S16 32) : Prop :=
  (∀ (k0_h29 : k0_cond29 v14 k0_t7 = 1#1), ∀ a x, ((![v100, v116] : Fin 2 → IVec S16 32) a x).toNat < S16x128.size a) ∧
  (∀ (k0_h29 : k0_cond29 v14 k0_t7 = 1#1), ∀ a x, ((![v99, v116] : Fin 2 → IVec S16 32) a x).toNat < S320x128.size a) ∧
  (∀ (k0_h29 : k0_cond29 v14 k0_t7 = 1#1), ∀ a x, ((![v99, v116] : Fin 2 → IVec S16 32) a x).toNat < S320x128.size a) ∧
  (∀ (k0_h29 : k0_cond29 v14 k0_t7 = 1#1), ∀ a x, ((![v99, v116] : Fin 2 → IVec S16 32) a x).toNat < S320x128.size a) ∧
  (∀ (k0_h29 : k0_cond29 v14 k0_t7 = 1#1), ∀ a x, ((![v99, v116] : Fin 2 → IVec S16 32) a x).toNat < S320x128.size a) ∧
  (∀ (k0_h29 : k0_cond29 v14 k0_t7 = 1#1), ∀ a x, ((![v99, v116] : Fin 2 → IVec S16 32) a x).toNat < S320x128.size a)
theorem k0_idx1418_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v100, v116] : Fin 2 → IVec S16 32) a x).toNat < S16x128.size a := fun v14 k0_t7 v99 v100 v116 k0_hw288 k0_h29 => k0_hw288.1 k0_h29
theorem k0_idx1419_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v99, v116] : Fin 2 → IVec S16 32) a x).toNat < S320x128.size a := fun v14 k0_t7 v99 v100 v116 k0_hw288 k0_h29 => k0_hw288.2.1 k0_h29
theorem k0_idx1420_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v99, v116] : Fin 2 → IVec S16 32) a x).toNat < S320x128.size a := fun v14 k0_t7 v99 v100 v116 k0_hw288 k0_h29 => k0_hw288.2.2.1 k0_h29
theorem k0_idx1421_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v99, v116] : Fin 2 → IVec S16 32) a x).toNat < S320x128.size a := fun v14 k0_t7 v99 v100 v116 k0_hw288 k0_h29 => k0_hw288.2.2.2.1 k0_h29
theorem k0_idx1422_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v99, v116] : Fin 2 → IVec S16 32) a x).toNat < S320x128.size a := fun v14 k0_t7 v99 v100 v116 k0_hw288 k0_h29 => k0_hw288.2.2.2.2.1 k0_h29
theorem k0_idx1423_inb : ∀ (v14 : BitVec 32) (k0_t7 : Fin (k0_t7_loop v14).trips) (v99 : IVec S16 32) (v100 : IVec S16 32) (v116 : IVec S16 32) (k0_hw288 : k0_chk288 v14 k0_t7 v99 v100 v116), ∀ (k0_h29 : k0_cond29 v14 k0_t7 = 1#1), ∀ a x, ((![v99, v116] : Fin 2 → IVec S16 32) a x).toNat < S320x128.size a := fun v14 k0_t7 v99 v100 v116 k0_hw288 k0_h29 => k0_hw288.2.2.2.2.2 k0_h29

def k0_chk289 (v14 : BitVec 32) (k0_t7 : Fin (k0_t7_loop v14).trips) (v99 : IVec S16 32) (v100 : IVec S16 32) (v123 : IVec S16 32) : Prop :=
  (∀ (k0_h29 : k0_cond29 v14 k0_t7 = 1#1), ∀ a x, ((![v100, v123] : Fin 2 → IVec S16 32) a x).toNat < S16x128.size a) ∧
  (∀ (k0_h29 : k0_cond29 v14 k0_t7 = 1#1), ∀ a x, ((![v99, v123] : Fin 2 → IVec S16 32) a x).toNat < S320x128.size a) ∧
  (∀ (k0_h29 : k0_cond29 v14 k0_t7 = 1#1), ∀ a x, ((![v99, v123] : Fin 2 → IVec S16 32) a x).toNat < S320x128.size a) ∧
  (∀ (k0_h29 : k0_cond29 v14 k0_t7 = 1#1), ∀ a x, ((![v99, v123] : Fin 2 → IVec S16 32) a x).toNat < S320x128.size a) ∧
  (∀ (k0_h29 : k0_cond29 v14 k0_t7 = 1#1), ∀ a x, ((![v99, v123] : Fin 2 → IVec S16 32) a x).toNat < S320x128.size a) ∧
  (∀ (k0_h29 : k0_cond29 v14 k0_t7 = 1#1), ∀ a x, ((![v99, v123] : Fin 2 → IVec S16 32) a x).toNat < S320x128.size a)
theorem k0_idx1424_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v100, v123] : Fin 2 → IVec S16 32) a x).toNat < S16x128.size a := fun v14 k0_t7 v99 v100 v123 k0_hw289 k0_h29 => k0_hw289.1 k0_h29
theorem k0_idx1425_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v99, v123] : Fin 2 → IVec S16 32) a x).toNat < S320x128.size a := fun v14 k0_t7 v99 v100 v123 k0_hw289 k0_h29 => k0_hw289.2.1 k0_h29
theorem k0_idx1426_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v99, v123] : Fin 2 → IVec S16 32) a x).toNat < S320x128.size a := fun v14 k0_t7 v99 v100 v123 k0_hw289 k0_h29 => k0_hw289.2.2.1 k0_h29
theorem k0_idx1427_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v99, v123] : Fin 2 → IVec S16 32) a x).toNat < S320x128.size a := fun v14 k0_t7 v99 v100 v123 k0_hw289 k0_h29 => k0_hw289.2.2.2.1 k0_h29
theorem k0_idx1428_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v99, v123] : Fin 2 → IVec S16 32) a x).toNat < S320x128.size a := fun v14 k0_t7 v99 v100 v123 k0_hw289 k0_h29 => k0_hw289.2.2.2.2.1 k0_h29
theorem k0_idx1429_inb : ∀ (v14 : BitVec 32) (k0_t7 : Fin (k0_t7_loop v14).trips) (v99 : IVec S16 32) (v100 : IVec S16 32) (v123 : IVec S16 32) (k0_hw289 : k0_chk289 v14 k0_t7 v99 v100 v123), ∀ (k0_h29 : k0_cond29 v14 k0_t7 = 1#1), ∀ a x, ((![v99, v123] : Fin 2 → IVec S16 32) a x).toNat < S320x128.size a := fun v14 k0_t7 v99 v100 v123 k0_hw289 k0_h29 => k0_hw289.2.2.2.2.2 k0_h29

def k0_chk290 (v14 : BitVec 32) (k0_t7 : Fin (k0_t7_loop v14).trips) (v99 : IVec S16 32) (v100 : IVec S16 32) (v130 : IVec S16 32) : Prop :=
  (∀ (k0_h29 : k0_cond29 v14 k0_t7 = 1#1), ∀ a x, ((![v100, v130] : Fin 2 → IVec S16 32) a x).toNat < S16x128.size a) ∧
  (∀ (k0_h29 : k0_cond29 v14 k0_t7 = 1#1), ∀ a x, ((![v99, v130] : Fin 2 → IVec S16 32) a x).toNat < S320x128.size a) ∧
  (∀ (k0_h29 : k0_cond29 v14 k0_t7 = 1#1), ∀ a x, ((![v99, v130] : Fin 2 → IVec S16 32) a x).toNat < S320x128.size a) ∧
  (∀ (k0_h29 : k0_cond29 v14 k0_t7 = 1#1), ∀ a x, ((![v99, v130] : Fin 2 → IVec S16 32) a x).toNat < S320x128.size a) ∧
  (∀ (k0_h29 : k0_cond29 v14 k0_t7 = 1#1), ∀ a x, ((![v99, v130] : Fin 2 → IVec S16 32) a x).toNat < S320x128.size a) ∧
  (∀ (k0_h29 : k0_cond29 v14 k0_t7 = 1#1), ∀ a x, ((![v99, v130] : Fin 2 → IVec S16 32) a x).toNat < S320x128.size a)
theorem k0_idx1430_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v100, v130] : Fin 2 → IVec S16 32) a x).toNat < S16x128.size a := fun v14 k0_t7 v99 v100 v130 k0_hw290 k0_h29 => k0_hw290.1 k0_h29
theorem k0_idx1431_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v99, v130] : Fin 2 → IVec S16 32) a x).toNat < S320x128.size a := fun v14 k0_t7 v99 v100 v130 k0_hw290 k0_h29 => k0_hw290.2.1 k0_h29
theorem k0_idx1432_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v99, v130] : Fin 2 → IVec S16 32) a x).toNat < S320x128.size a := fun v14 k0_t7 v99 v100 v130 k0_hw290 k0_h29 => k0_hw290.2.2.1 k0_h29
theorem k0_idx1433_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v99, v130] : Fin 2 → IVec S16 32) a x).toNat < S320x128.size a := fun v14 k0_t7 v99 v100 v130 k0_hw290 k0_h29 => k0_hw290.2.2.2.1 k0_h29
theorem k0_idx1434_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v99, v130] : Fin 2 → IVec S16 32) a x).toNat < S320x128.size a := fun v14 k0_t7 v99 v100 v130 k0_hw290 k0_h29 => k0_hw290.2.2.2.2.1 k0_h29
theorem k0_idx1435_inb : ∀ (v14 : BitVec 32) (k0_t7 : Fin (k0_t7_loop v14).trips) (v99 : IVec S16 32) (v100 : IVec S16 32) (v130 : IVec S16 32) (k0_hw290 : k0_chk290 v14 k0_t7 v99 v100 v130), ∀ (k0_h29 : k0_cond29 v14 k0_t7 = 1#1), ∀ a x, ((![v99, v130] : Fin 2 → IVec S16 32) a x).toNat < S320x128.size a := fun v14 k0_t7 v99 v100 v130 k0_hw290 k0_h29 => k0_hw290.2.2.2.2.2 k0_h29

def k0_chk291 (v14 : BitVec 32) (k0_t7 : Fin (k0_t7_loop v14).trips) (v99 : IVec S16 32) (v100 : IVec S16 32) (v137 : IVec S16 32) : Prop :=
  (∀ (k0_h29 : k0_cond29 v14 k0_t7 = 1#1), ∀ a x, ((![v100, v137] : Fin 2 → IVec S16 32) a x).toNat < S16x128.size a) ∧
  (∀ (k0_h29 : k0_cond29 v14 k0_t7 = 1#1), ∀ a x, ((![v99, v137] : Fin 2 → IVec S16 32) a x).toNat < S320x128.size a) ∧
  (∀ (k0_h29 : k0_cond29 v14 k0_t7 = 1#1), ∀ a x, ((![v99, v137] : Fin 2 → IVec S16 32) a x).toNat < S320x128.size a) ∧
  (∀ (k0_h29 : k0_cond29 v14 k0_t7 = 1#1), ∀ a x, ((![v99, v137] : Fin 2 → IVec S16 32) a x).toNat < S320x128.size a) ∧
  (∀ (k0_h29 : k0_cond29 v14 k0_t7 = 1#1), ∀ a x, ((![v99, v137] : Fin 2 → IVec S16 32) a x).toNat < S320x128.size a) ∧
  (∀ (k0_h29 : k0_cond29 v14 k0_t7 = 1#1), ∀ a x, ((![v99, v137] : Fin 2 → IVec S16 32) a x).toNat < S320x128.size a)
theorem k0_idx1436_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v100, v137] : Fin 2 → IVec S16 32) a x).toNat < S16x128.size a := fun v14 k0_t7 v99 v100 v137 k0_hw291 k0_h29 => k0_hw291.1 k0_h29
theorem k0_idx1437_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v99, v137] : Fin 2 → IVec S16 32) a x).toNat < S320x128.size a := fun v14 k0_t7 v99 v100 v137 k0_hw291 k0_h29 => k0_hw291.2.1 k0_h29
theorem k0_idx1438_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v99, v137] : Fin 2 → IVec S16 32) a x).toNat < S320x128.size a := fun v14 k0_t7 v99 v100 v137 k0_hw291 k0_h29 => k0_hw291.2.2.1 k0_h29
theorem k0_idx1439_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v99, v137] : Fin 2 → IVec S16 32) a x).toNat < S320x128.size a := fun v14 k0_t7 v99 v100 v137 k0_hw291 k0_h29 => k0_hw291.2.2.2.1 k0_h29
theorem k0_idx1440_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v99, v137] : Fin 2 → IVec S16 32) a x).toNat < S320x128.size a := fun v14 k0_t7 v99 v100 v137 k0_hw291 k0_h29 => k0_hw291.2.2.2.2.1 k0_h29
theorem k0_idx1441_inb : ∀ (v14 : BitVec 32) (k0_t7 : Fin (k0_t7_loop v14).trips) (v99 : IVec S16 32) (v100 : IVec S16 32) (v137 : IVec S16 32) (k0_hw291 : k0_chk291 v14 k0_t7 v99 v100 v137), ∀ (k0_h29 : k0_cond29 v14 k0_t7 = 1#1), ∀ a x, ((![v99, v137] : Fin 2 → IVec S16 32) a x).toNat < S320x128.size a := fun v14 k0_t7 v99 v100 v137 k0_hw291 k0_h29 => k0_hw291.2.2.2.2.2 k0_h29

def k0_chk292 (v14 : BitVec 32) (k0_t7 : Fin (k0_t7_loop v14).trips) (v99 : IVec S16 32) (v100 : IVec S16 32) (v144 : IVec S16 32) : Prop :=
  (∀ (k0_h29 : k0_cond29 v14 k0_t7 = 1#1), ∀ a x, ((![v100, v144] : Fin 2 → IVec S16 32) a x).toNat < S16x128.size a) ∧
  (∀ (k0_h29 : k0_cond29 v14 k0_t7 = 1#1), ∀ a x, ((![v99, v144] : Fin 2 → IVec S16 32) a x).toNat < S320x128.size a) ∧
  (∀ (k0_h29 : k0_cond29 v14 k0_t7 = 1#1), ∀ a x, ((![v99, v144] : Fin 2 → IVec S16 32) a x).toNat < S320x128.size a) ∧
  (∀ (k0_h29 : k0_cond29 v14 k0_t7 = 1#1), ∀ a x, ((![v99, v144] : Fin 2 → IVec S16 32) a x).toNat < S320x128.size a) ∧
  (∀ (k0_h29 : k0_cond29 v14 k0_t7 = 1#1), ∀ a x, ((![v99, v144] : Fin 2 → IVec S16 32) a x).toNat < S320x128.size a) ∧
  (∀ (k0_h29 : k0_cond29 v14 k0_t7 = 1#1), ∀ a x, ((![v99, v144] : Fin 2 → IVec S16 32) a x).toNat < S320x128.size a)
theorem k0_idx1442_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v100, v144] : Fin 2 → IVec S16 32) a x).toNat < S16x128.size a := fun v14 k0_t7 v99 v100 v144 k0_hw292 k0_h29 => k0_hw292.1 k0_h29
theorem k0_idx1443_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v99, v144] : Fin 2 → IVec S16 32) a x).toNat < S320x128.size a := fun v14 k0_t7 v99 v100 v144 k0_hw292 k0_h29 => k0_hw292.2.1 k0_h29
theorem k0_idx1444_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v99, v144] : Fin 2 → IVec S16 32) a x).toNat < S320x128.size a := fun v14 k0_t7 v99 v100 v144 k0_hw292 k0_h29 => k0_hw292.2.2.1 k0_h29
theorem k0_idx1445_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v99, v144] : Fin 2 → IVec S16 32) a x).toNat < S320x128.size a := fun v14 k0_t7 v99 v100 v144 k0_hw292 k0_h29 => k0_hw292.2.2.2.1 k0_h29
theorem k0_idx1446_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v99, v144] : Fin 2 → IVec S16 32) a x).toNat < S320x128.size a := fun v14 k0_t7 v99 v100 v144 k0_hw292 k0_h29 => k0_hw292.2.2.2.2.1 k0_h29
theorem k0_idx1447_inb : ∀ (v14 : BitVec 32) (k0_t7 : Fin (k0_t7_loop v14).trips) (v99 : IVec S16 32) (v100 : IVec S16 32) (v144 : IVec S16 32) (k0_hw292 : k0_chk292 v14 k0_t7 v99 v100 v144), ∀ (k0_h29 : k0_cond29 v14 k0_t7 = 1#1), ∀ a x, ((![v99, v144] : Fin 2 → IVec S16 32) a x).toNat < S320x128.size a := fun v14 k0_t7 v99 v100 v144 k0_hw292 k0_h29 => k0_hw292.2.2.2.2.2 k0_h29

def k0_chk293 (v14 : BitVec 32) (k0_t7 : Fin (k0_t7_loop v14).trips) (v99 : IVec S16 32) (v100 : IVec S16 32) (v151 : IVec S16 32) : Prop :=
  (∀ (k0_h29 : k0_cond29 v14 k0_t7 = 1#1), ∀ a x, ((![v100, v151] : Fin 2 → IVec S16 32) a x).toNat < S16x128.size a) ∧
  (∀ (k0_h29 : k0_cond29 v14 k0_t7 = 1#1), ∀ a x, ((![v99, v151] : Fin 2 → IVec S16 32) a x).toNat < S320x128.size a) ∧
  (∀ (k0_h29 : k0_cond29 v14 k0_t7 = 1#1), ∀ a x, ((![v99, v151] : Fin 2 → IVec S16 32) a x).toNat < S320x128.size a) ∧
  (∀ (k0_h29 : k0_cond29 v14 k0_t7 = 1#1), ∀ a x, ((![v99, v151] : Fin 2 → IVec S16 32) a x).toNat < S320x128.size a) ∧
  (∀ (k0_h29 : k0_cond29 v14 k0_t7 = 1#1), ∀ a x, ((![v99, v151] : Fin 2 → IVec S16 32) a x).toNat < S320x128.size a) ∧
  (∀ (k0_h29 : k0_cond29 v14 k0_t7 = 1#1), ∀ a x, ((![v99, v151] : Fin 2 → IVec S16 32) a x).toNat < S320x128.size a)
theorem k0_idx1448_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v100, v151] : Fin 2 → IVec S16 32) a x).toNat < S16x128.size a := fun v14 k0_t7 v99 v100 v151 k0_hw293 k0_h29 => k0_hw293.1 k0_h29
theorem k0_idx1449_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v99, v151] : Fin 2 → IVec S16 32) a x).toNat < S320x128.size a := fun v14 k0_t7 v99 v100 v151 k0_hw293 k0_h29 => k0_hw293.2.1 k0_h29
theorem k0_idx1450_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v99, v151] : Fin 2 → IVec S16 32) a x).toNat < S320x128.size a := fun v14 k0_t7 v99 v100 v151 k0_hw293 k0_h29 => k0_hw293.2.2.1 k0_h29
theorem k0_idx1451_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v99, v151] : Fin 2 → IVec S16 32) a x).toNat < S320x128.size a := fun v14 k0_t7 v99 v100 v151 k0_hw293 k0_h29 => k0_hw293.2.2.2.1 k0_h29
theorem k0_idx1452_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v99, v151] : Fin 2 → IVec S16 32) a x).toNat < S320x128.size a := fun v14 k0_t7 v99 v100 v151 k0_hw293 k0_h29 => k0_hw293.2.2.2.2.1 k0_h29
theorem k0_idx1453_inb : ∀ (v14 : BitVec 32) (k0_t7 : Fin (k0_t7_loop v14).trips) (v99 : IVec S16 32) (v100 : IVec S16 32) (v151 : IVec S16 32) (k0_hw293 : k0_chk293 v14 k0_t7 v99 v100 v151), ∀ (k0_h29 : k0_cond29 v14 k0_t7 = 1#1), ∀ a x, ((![v99, v151] : Fin 2 → IVec S16 32) a x).toNat < S320x128.size a := fun v14 k0_t7 v99 v100 v151 k0_hw293 k0_h29 => k0_hw293.2.2.2.2.2 k0_h29

def k0_chk294 (v14 : BitVec 32) (k0_t7 : Fin (k0_t7_loop v14).trips) (v99 : IVec S16 32) : Prop :=
  (∀ (k0_h29 : k0_cond29 v14 k0_t7 = 1#1), ∀ a x, ((![v99] : Fin 1 → IVec S16 32) a x).toNat < S320.size a)
theorem k0_idx1454_inb : ∀ (v14 : BitVec 32) (k0_t7 : Fin (k0_t7_loop v14).trips) (v99 : IVec S16 32) (k0_hw294 : k0_chk294 v14 k0_t7 v99), ∀ (k0_h29 : k0_cond29 v14 k0_t7 = 1#1), ∀ a x, ((![v99] : Fin 1 → IVec S16 32) a x).toNat < S320.size a := fun v14 k0_t7 v99 k0_hw294 k0_h29 => k0_hw294 k0_h29
def k0_cond30 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c13_i32 : BitVec 32 := 13#32
  let v88 : BitVec 1 := Scalar.cmpi .sgt v45 c13_i32
  let v89 : BitVec 32 := Scalar.extui v88
  let c0_i32_56 : BitVec 32 := 0#32
  let v90 : BitVec 1 := Scalar.cmpi .ne v89 c0_i32_56
  v90

def k0_chk295 (v14 : BitVec 32) (k0_t7 : Fin (k0_t7_loop v14).trips) (v98 : IVec S16 32) : Prop :=
  (∀ (k0_h30 : k0_cond30 v14 k0_t7 = 1#1), ∀ a x, ((![v98] : Fin 1 → IVec S16 32) a x).toNat < S528.size a)
theorem k0_idx1455_inb : ∀ (v14 : BitVec 32) (k0_t7 : Fin (k0_t7_loop v14).trips) (v98 : IVec S16 32) (k0_hw295 : k0_chk295 v14 k0_t7 v98), ∀ (k0_h30 : k0_cond30 v14 k0_t7 = 1#1), ∀ a x, ((![v98] : Fin 1 → IVec S16 32) a x).toNat < S528.size a := fun v14 k0_t7 v98 k0_hw295 k0_h30 => k0_hw295 k0_h30

def k0_chk296 (v14 : BitVec 32) (k0_t7 : Fin (k0_t7_loop v14).trips) (v99 : IVec S16 32) (v100 : IVec S16 32) (v102 : IVec S16 32) : Prop :=
  (∀ (k0_h30 : k0_cond30 v14 k0_t7 = 1#1), ∀ a x, ((![v100, v102] : Fin 2 → IVec S16 32) a x).toNat < S16x128.size a) ∧
  (∀ (k0_h30 : k0_cond30 v14 k0_t7 = 1#1), ∀ a x, ((![v99, v102] : Fin 2 → IVec S16 32) a x).toNat < S320x128.size a) ∧
  (∀ (k0_h30 : k0_cond30 v14 k0_t7 = 1#1), ∀ a x, ((![v99, v102] : Fin 2 → IVec S16 32) a x).toNat < S320x128.size a) ∧
  (∀ (k0_h30 : k0_cond30 v14 k0_t7 = 1#1), ∀ a x, ((![v99, v102] : Fin 2 → IVec S16 32) a x).toNat < S320x128.size a) ∧
  (∀ (k0_h30 : k0_cond30 v14 k0_t7 = 1#1), ∀ a x, ((![v99, v102] : Fin 2 → IVec S16 32) a x).toNat < S320x128.size a) ∧
  (∀ (k0_h30 : k0_cond30 v14 k0_t7 = 1#1), ∀ a x, ((![v99, v102] : Fin 2 → IVec S16 32) a x).toNat < S320x128.size a)
theorem k0_idx1456_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v100, v102] : Fin 2 → IVec S16 32) a x).toNat < S16x128.size a := fun v14 k0_t7 v99 v100 v102 k0_hw296 k0_h30 => k0_hw296.1 k0_h30
theorem k0_idx1457_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v99, v102] : Fin 2 → IVec S16 32) a x).toNat < S320x128.size a := fun v14 k0_t7 v99 v100 v102 k0_hw296 k0_h30 => k0_hw296.2.1 k0_h30
theorem k0_idx1458_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v99, v102] : Fin 2 → IVec S16 32) a x).toNat < S320x128.size a := fun v14 k0_t7 v99 v100 v102 k0_hw296 k0_h30 => k0_hw296.2.2.1 k0_h30
theorem k0_idx1459_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v99, v102] : Fin 2 → IVec S16 32) a x).toNat < S320x128.size a := fun v14 k0_t7 v99 v100 v102 k0_hw296 k0_h30 => k0_hw296.2.2.2.1 k0_h30
theorem k0_idx1460_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v99, v102] : Fin 2 → IVec S16 32) a x).toNat < S320x128.size a := fun v14 k0_t7 v99 v100 v102 k0_hw296 k0_h30 => k0_hw296.2.2.2.2.1 k0_h30
theorem k0_idx1461_inb : ∀ (v14 : BitVec 32) (k0_t7 : Fin (k0_t7_loop v14).trips) (v99 : IVec S16 32) (v100 : IVec S16 32) (v102 : IVec S16 32) (k0_hw296 : k0_chk296 v14 k0_t7 v99 v100 v102), ∀ (k0_h30 : k0_cond30 v14 k0_t7 = 1#1), ∀ a x, ((![v99, v102] : Fin 2 → IVec S16 32) a x).toNat < S320x128.size a := fun v14 k0_t7 v99 v100 v102 k0_hw296 k0_h30 => k0_hw296.2.2.2.2.2 k0_h30

def k0_chk297 (v14 : BitVec 32) (k0_t7 : Fin (k0_t7_loop v14).trips) (v99 : IVec S16 32) (v100 : IVec S16 32) (v109 : IVec S16 32) : Prop :=
  (∀ (k0_h30 : k0_cond30 v14 k0_t7 = 1#1), ∀ a x, ((![v100, v109] : Fin 2 → IVec S16 32) a x).toNat < S16x128.size a) ∧
  (∀ (k0_h30 : k0_cond30 v14 k0_t7 = 1#1), ∀ a x, ((![v99, v109] : Fin 2 → IVec S16 32) a x).toNat < S320x128.size a) ∧
  (∀ (k0_h30 : k0_cond30 v14 k0_t7 = 1#1), ∀ a x, ((![v99, v109] : Fin 2 → IVec S16 32) a x).toNat < S320x128.size a) ∧
  (∀ (k0_h30 : k0_cond30 v14 k0_t7 = 1#1), ∀ a x, ((![v99, v109] : Fin 2 → IVec S16 32) a x).toNat < S320x128.size a) ∧
  (∀ (k0_h30 : k0_cond30 v14 k0_t7 = 1#1), ∀ a x, ((![v99, v109] : Fin 2 → IVec S16 32) a x).toNat < S320x128.size a) ∧
  (∀ (k0_h30 : k0_cond30 v14 k0_t7 = 1#1), ∀ a x, ((![v99, v109] : Fin 2 → IVec S16 32) a x).toNat < S320x128.size a)
theorem k0_idx1462_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v100, v109] : Fin 2 → IVec S16 32) a x).toNat < S16x128.size a := fun v14 k0_t7 v99 v100 v109 k0_hw297 k0_h30 => k0_hw297.1 k0_h30
theorem k0_idx1463_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v99, v109] : Fin 2 → IVec S16 32) a x).toNat < S320x128.size a := fun v14 k0_t7 v99 v100 v109 k0_hw297 k0_h30 => k0_hw297.2.1 k0_h30
theorem k0_idx1464_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v99, v109] : Fin 2 → IVec S16 32) a x).toNat < S320x128.size a := fun v14 k0_t7 v99 v100 v109 k0_hw297 k0_h30 => k0_hw297.2.2.1 k0_h30
theorem k0_idx1465_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v99, v109] : Fin 2 → IVec S16 32) a x).toNat < S320x128.size a := fun v14 k0_t7 v99 v100 v109 k0_hw297 k0_h30 => k0_hw297.2.2.2.1 k0_h30
theorem k0_idx1466_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v99, v109] : Fin 2 → IVec S16 32) a x).toNat < S320x128.size a := fun v14 k0_t7 v99 v100 v109 k0_hw297 k0_h30 => k0_hw297.2.2.2.2.1 k0_h30
theorem k0_idx1467_inb : ∀ (v14 : BitVec 32) (k0_t7 : Fin (k0_t7_loop v14).trips) (v99 : IVec S16 32) (v100 : IVec S16 32) (v109 : IVec S16 32) (k0_hw297 : k0_chk297 v14 k0_t7 v99 v100 v109), ∀ (k0_h30 : k0_cond30 v14 k0_t7 = 1#1), ∀ a x, ((![v99, v109] : Fin 2 → IVec S16 32) a x).toNat < S320x128.size a := fun v14 k0_t7 v99 v100 v109 k0_hw297 k0_h30 => k0_hw297.2.2.2.2.2 k0_h30

def k0_chk298 (v14 : BitVec 32) (k0_t7 : Fin (k0_t7_loop v14).trips) (v99 : IVec S16 32) (v100 : IVec S16 32) (v116 : IVec S16 32) : Prop :=
  (∀ (k0_h30 : k0_cond30 v14 k0_t7 = 1#1), ∀ a x, ((![v100, v116] : Fin 2 → IVec S16 32) a x).toNat < S16x128.size a) ∧
  (∀ (k0_h30 : k0_cond30 v14 k0_t7 = 1#1), ∀ a x, ((![v99, v116] : Fin 2 → IVec S16 32) a x).toNat < S320x128.size a) ∧
  (∀ (k0_h30 : k0_cond30 v14 k0_t7 = 1#1), ∀ a x, ((![v99, v116] : Fin 2 → IVec S16 32) a x).toNat < S320x128.size a) ∧
  (∀ (k0_h30 : k0_cond30 v14 k0_t7 = 1#1), ∀ a x, ((![v99, v116] : Fin 2 → IVec S16 32) a x).toNat < S320x128.size a) ∧
  (∀ (k0_h30 : k0_cond30 v14 k0_t7 = 1#1), ∀ a x, ((![v99, v116] : Fin 2 → IVec S16 32) a x).toNat < S320x128.size a) ∧
  (∀ (k0_h30 : k0_cond30 v14 k0_t7 = 1#1), ∀ a x, ((![v99, v116] : Fin 2 → IVec S16 32) a x).toNat < S320x128.size a)
theorem k0_idx1468_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v100, v116] : Fin 2 → IVec S16 32) a x).toNat < S16x128.size a := fun v14 k0_t7 v99 v100 v116 k0_hw298 k0_h30 => k0_hw298.1 k0_h30
theorem k0_idx1469_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v99, v116] : Fin 2 → IVec S16 32) a x).toNat < S320x128.size a := fun v14 k0_t7 v99 v100 v116 k0_hw298 k0_h30 => k0_hw298.2.1 k0_h30
theorem k0_idx1470_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v99, v116] : Fin 2 → IVec S16 32) a x).toNat < S320x128.size a := fun v14 k0_t7 v99 v100 v116 k0_hw298 k0_h30 => k0_hw298.2.2.1 k0_h30
theorem k0_idx1471_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v99, v116] : Fin 2 → IVec S16 32) a x).toNat < S320x128.size a := fun v14 k0_t7 v99 v100 v116 k0_hw298 k0_h30 => k0_hw298.2.2.2.1 k0_h30
theorem k0_idx1472_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v99, v116] : Fin 2 → IVec S16 32) a x).toNat < S320x128.size a := fun v14 k0_t7 v99 v100 v116 k0_hw298 k0_h30 => k0_hw298.2.2.2.2.1 k0_h30
theorem k0_idx1473_inb : ∀ (v14 : BitVec 32) (k0_t7 : Fin (k0_t7_loop v14).trips) (v99 : IVec S16 32) (v100 : IVec S16 32) (v116 : IVec S16 32) (k0_hw298 : k0_chk298 v14 k0_t7 v99 v100 v116), ∀ (k0_h30 : k0_cond30 v14 k0_t7 = 1#1), ∀ a x, ((![v99, v116] : Fin 2 → IVec S16 32) a x).toNat < S320x128.size a := fun v14 k0_t7 v99 v100 v116 k0_hw298 k0_h30 => k0_hw298.2.2.2.2.2 k0_h30

def k0_chk299 (v14 : BitVec 32) (k0_t7 : Fin (k0_t7_loop v14).trips) (v99 : IVec S16 32) (v100 : IVec S16 32) (v123 : IVec S16 32) : Prop :=
  (∀ (k0_h30 : k0_cond30 v14 k0_t7 = 1#1), ∀ a x, ((![v100, v123] : Fin 2 → IVec S16 32) a x).toNat < S16x128.size a) ∧
  (∀ (k0_h30 : k0_cond30 v14 k0_t7 = 1#1), ∀ a x, ((![v99, v123] : Fin 2 → IVec S16 32) a x).toNat < S320x128.size a) ∧
  (∀ (k0_h30 : k0_cond30 v14 k0_t7 = 1#1), ∀ a x, ((![v99, v123] : Fin 2 → IVec S16 32) a x).toNat < S320x128.size a) ∧
  (∀ (k0_h30 : k0_cond30 v14 k0_t7 = 1#1), ∀ a x, ((![v99, v123] : Fin 2 → IVec S16 32) a x).toNat < S320x128.size a) ∧
  (∀ (k0_h30 : k0_cond30 v14 k0_t7 = 1#1), ∀ a x, ((![v99, v123] : Fin 2 → IVec S16 32) a x).toNat < S320x128.size a) ∧
  (∀ (k0_h30 : k0_cond30 v14 k0_t7 = 1#1), ∀ a x, ((![v99, v123] : Fin 2 → IVec S16 32) a x).toNat < S320x128.size a)
theorem k0_idx1474_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v100, v123] : Fin 2 → IVec S16 32) a x).toNat < S16x128.size a := fun v14 k0_t7 v99 v100 v123 k0_hw299 k0_h30 => k0_hw299.1 k0_h30
theorem k0_idx1475_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v99, v123] : Fin 2 → IVec S16 32) a x).toNat < S320x128.size a := fun v14 k0_t7 v99 v100 v123 k0_hw299 k0_h30 => k0_hw299.2.1 k0_h30
theorem k0_idx1476_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v99, v123] : Fin 2 → IVec S16 32) a x).toNat < S320x128.size a := fun v14 k0_t7 v99 v100 v123 k0_hw299 k0_h30 => k0_hw299.2.2.1 k0_h30
theorem k0_idx1477_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v99, v123] : Fin 2 → IVec S16 32) a x).toNat < S320x128.size a := fun v14 k0_t7 v99 v100 v123 k0_hw299 k0_h30 => k0_hw299.2.2.2.1 k0_h30
theorem k0_idx1478_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v99, v123] : Fin 2 → IVec S16 32) a x).toNat < S320x128.size a := fun v14 k0_t7 v99 v100 v123 k0_hw299 k0_h30 => k0_hw299.2.2.2.2.1 k0_h30
theorem k0_idx1479_inb : ∀ (v14 : BitVec 32) (k0_t7 : Fin (k0_t7_loop v14).trips) (v99 : IVec S16 32) (v100 : IVec S16 32) (v123 : IVec S16 32) (k0_hw299 : k0_chk299 v14 k0_t7 v99 v100 v123), ∀ (k0_h30 : k0_cond30 v14 k0_t7 = 1#1), ∀ a x, ((![v99, v123] : Fin 2 → IVec S16 32) a x).toNat < S320x128.size a := fun v14 k0_t7 v99 v100 v123 k0_hw299 k0_h30 => k0_hw299.2.2.2.2.2 k0_h30

def k0_chk300 (v14 : BitVec 32) (k0_t7 : Fin (k0_t7_loop v14).trips) (v99 : IVec S16 32) (v100 : IVec S16 32) (v130 : IVec S16 32) : Prop :=
  (∀ (k0_h30 : k0_cond30 v14 k0_t7 = 1#1), ∀ a x, ((![v100, v130] : Fin 2 → IVec S16 32) a x).toNat < S16x128.size a) ∧
  (∀ (k0_h30 : k0_cond30 v14 k0_t7 = 1#1), ∀ a x, ((![v99, v130] : Fin 2 → IVec S16 32) a x).toNat < S320x128.size a) ∧
  (∀ (k0_h30 : k0_cond30 v14 k0_t7 = 1#1), ∀ a x, ((![v99, v130] : Fin 2 → IVec S16 32) a x).toNat < S320x128.size a) ∧
  (∀ (k0_h30 : k0_cond30 v14 k0_t7 = 1#1), ∀ a x, ((![v99, v130] : Fin 2 → IVec S16 32) a x).toNat < S320x128.size a) ∧
  (∀ (k0_h30 : k0_cond30 v14 k0_t7 = 1#1), ∀ a x, ((![v99, v130] : Fin 2 → IVec S16 32) a x).toNat < S320x128.size a) ∧
  (∀ (k0_h30 : k0_cond30 v14 k0_t7 = 1#1), ∀ a x, ((![v99, v130] : Fin 2 → IVec S16 32) a x).toNat < S320x128.size a)
theorem k0_idx1480_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v100, v130] : Fin 2 → IVec S16 32) a x).toNat < S16x128.size a := fun v14 k0_t7 v99 v100 v130 k0_hw300 k0_h30 => k0_hw300.1 k0_h30
theorem k0_idx1481_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v99, v130] : Fin 2 → IVec S16 32) a x).toNat < S320x128.size a := fun v14 k0_t7 v99 v100 v130 k0_hw300 k0_h30 => k0_hw300.2.1 k0_h30
theorem k0_idx1482_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v99, v130] : Fin 2 → IVec S16 32) a x).toNat < S320x128.size a := fun v14 k0_t7 v99 v100 v130 k0_hw300 k0_h30 => k0_hw300.2.2.1 k0_h30
theorem k0_idx1483_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v99, v130] : Fin 2 → IVec S16 32) a x).toNat < S320x128.size a := fun v14 k0_t7 v99 v100 v130 k0_hw300 k0_h30 => k0_hw300.2.2.2.1 k0_h30
theorem k0_idx1484_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v99, v130] : Fin 2 → IVec S16 32) a x).toNat < S320x128.size a := fun v14 k0_t7 v99 v100 v130 k0_hw300 k0_h30 => k0_hw300.2.2.2.2.1 k0_h30
theorem k0_idx1485_inb : ∀ (v14 : BitVec 32) (k0_t7 : Fin (k0_t7_loop v14).trips) (v99 : IVec S16 32) (v100 : IVec S16 32) (v130 : IVec S16 32) (k0_hw300 : k0_chk300 v14 k0_t7 v99 v100 v130), ∀ (k0_h30 : k0_cond30 v14 k0_t7 = 1#1), ∀ a x, ((![v99, v130] : Fin 2 → IVec S16 32) a x).toNat < S320x128.size a := fun v14 k0_t7 v99 v100 v130 k0_hw300 k0_h30 => k0_hw300.2.2.2.2.2 k0_h30

def k0_chk301 (v14 : BitVec 32) (k0_t7 : Fin (k0_t7_loop v14).trips) (v99 : IVec S16 32) (v100 : IVec S16 32) (v137 : IVec S16 32) : Prop :=
  (∀ (k0_h30 : k0_cond30 v14 k0_t7 = 1#1), ∀ a x, ((![v100, v137] : Fin 2 → IVec S16 32) a x).toNat < S16x128.size a) ∧
  (∀ (k0_h30 : k0_cond30 v14 k0_t7 = 1#1), ∀ a x, ((![v99, v137] : Fin 2 → IVec S16 32) a x).toNat < S320x128.size a) ∧
  (∀ (k0_h30 : k0_cond30 v14 k0_t7 = 1#1), ∀ a x, ((![v99, v137] : Fin 2 → IVec S16 32) a x).toNat < S320x128.size a) ∧
  (∀ (k0_h30 : k0_cond30 v14 k0_t7 = 1#1), ∀ a x, ((![v99, v137] : Fin 2 → IVec S16 32) a x).toNat < S320x128.size a) ∧
  (∀ (k0_h30 : k0_cond30 v14 k0_t7 = 1#1), ∀ a x, ((![v99, v137] : Fin 2 → IVec S16 32) a x).toNat < S320x128.size a) ∧
  (∀ (k0_h30 : k0_cond30 v14 k0_t7 = 1#1), ∀ a x, ((![v99, v137] : Fin 2 → IVec S16 32) a x).toNat < S320x128.size a)
theorem k0_idx1486_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v100, v137] : Fin 2 → IVec S16 32) a x).toNat < S16x128.size a := fun v14 k0_t7 v99 v100 v137 k0_hw301 k0_h30 => k0_hw301.1 k0_h30
theorem k0_idx1487_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v99, v137] : Fin 2 → IVec S16 32) a x).toNat < S320x128.size a := fun v14 k0_t7 v99 v100 v137 k0_hw301 k0_h30 => k0_hw301.2.1 k0_h30
theorem k0_idx1488_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v99, v137] : Fin 2 → IVec S16 32) a x).toNat < S320x128.size a := fun v14 k0_t7 v99 v100 v137 k0_hw301 k0_h30 => k0_hw301.2.2.1 k0_h30
theorem k0_idx1489_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v99, v137] : Fin 2 → IVec S16 32) a x).toNat < S320x128.size a := fun v14 k0_t7 v99 v100 v137 k0_hw301 k0_h30 => k0_hw301.2.2.2.1 k0_h30
theorem k0_idx1490_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v99, v137] : Fin 2 → IVec S16 32) a x).toNat < S320x128.size a := fun v14 k0_t7 v99 v100 v137 k0_hw301 k0_h30 => k0_hw301.2.2.2.2.1 k0_h30
theorem k0_idx1491_inb : ∀ (v14 : BitVec 32) (k0_t7 : Fin (k0_t7_loop v14).trips) (v99 : IVec S16 32) (v100 : IVec S16 32) (v137 : IVec S16 32) (k0_hw301 : k0_chk301 v14 k0_t7 v99 v100 v137), ∀ (k0_h30 : k0_cond30 v14 k0_t7 = 1#1), ∀ a x, ((![v99, v137] : Fin 2 → IVec S16 32) a x).toNat < S320x128.size a := fun v14 k0_t7 v99 v100 v137 k0_hw301 k0_h30 => k0_hw301.2.2.2.2.2 k0_h30

def k0_chk302 (v14 : BitVec 32) (k0_t7 : Fin (k0_t7_loop v14).trips) (v99 : IVec S16 32) (v100 : IVec S16 32) (v144 : IVec S16 32) : Prop :=
  (∀ (k0_h30 : k0_cond30 v14 k0_t7 = 1#1), ∀ a x, ((![v100, v144] : Fin 2 → IVec S16 32) a x).toNat < S16x128.size a) ∧
  (∀ (k0_h30 : k0_cond30 v14 k0_t7 = 1#1), ∀ a x, ((![v99, v144] : Fin 2 → IVec S16 32) a x).toNat < S320x128.size a) ∧
  (∀ (k0_h30 : k0_cond30 v14 k0_t7 = 1#1), ∀ a x, ((![v99, v144] : Fin 2 → IVec S16 32) a x).toNat < S320x128.size a) ∧
  (∀ (k0_h30 : k0_cond30 v14 k0_t7 = 1#1), ∀ a x, ((![v99, v144] : Fin 2 → IVec S16 32) a x).toNat < S320x128.size a) ∧
  (∀ (k0_h30 : k0_cond30 v14 k0_t7 = 1#1), ∀ a x, ((![v99, v144] : Fin 2 → IVec S16 32) a x).toNat < S320x128.size a) ∧
  (∀ (k0_h30 : k0_cond30 v14 k0_t7 = 1#1), ∀ a x, ((![v99, v144] : Fin 2 → IVec S16 32) a x).toNat < S320x128.size a)
theorem k0_idx1492_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v100, v144] : Fin 2 → IVec S16 32) a x).toNat < S16x128.size a := fun v14 k0_t7 v99 v100 v144 k0_hw302 k0_h30 => k0_hw302.1 k0_h30
theorem k0_idx1493_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v99, v144] : Fin 2 → IVec S16 32) a x).toNat < S320x128.size a := fun v14 k0_t7 v99 v100 v144 k0_hw302 k0_h30 => k0_hw302.2.1 k0_h30
theorem k0_idx1494_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v99, v144] : Fin 2 → IVec S16 32) a x).toNat < S320x128.size a := fun v14 k0_t7 v99 v100 v144 k0_hw302 k0_h30 => k0_hw302.2.2.1 k0_h30
theorem k0_idx1495_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v99, v144] : Fin 2 → IVec S16 32) a x).toNat < S320x128.size a := fun v14 k0_t7 v99 v100 v144 k0_hw302 k0_h30 => k0_hw302.2.2.2.1 k0_h30
theorem k0_idx1496_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v99, v144] : Fin 2 → IVec S16 32) a x).toNat < S320x128.size a := fun v14 k0_t7 v99 v100 v144 k0_hw302 k0_h30 => k0_hw302.2.2.2.2.1 k0_h30
theorem k0_idx1497_inb : ∀ (v14 : BitVec 32) (k0_t7 : Fin (k0_t7_loop v14).trips) (v99 : IVec S16 32) (v100 : IVec S16 32) (v144 : IVec S16 32) (k0_hw302 : k0_chk302 v14 k0_t7 v99 v100 v144), ∀ (k0_h30 : k0_cond30 v14 k0_t7 = 1#1), ∀ a x, ((![v99, v144] : Fin 2 → IVec S16 32) a x).toNat < S320x128.size a := fun v14 k0_t7 v99 v100 v144 k0_hw302 k0_h30 => k0_hw302.2.2.2.2.2 k0_h30

def k0_chk303 (v14 : BitVec 32) (k0_t7 : Fin (k0_t7_loop v14).trips) (v99 : IVec S16 32) (v100 : IVec S16 32) (v151 : IVec S16 32) : Prop :=
  (∀ (k0_h30 : k0_cond30 v14 k0_t7 = 1#1), ∀ a x, ((![v100, v151] : Fin 2 → IVec S16 32) a x).toNat < S16x128.size a) ∧
  (∀ (k0_h30 : k0_cond30 v14 k0_t7 = 1#1), ∀ a x, ((![v99, v151] : Fin 2 → IVec S16 32) a x).toNat < S320x128.size a) ∧
  (∀ (k0_h30 : k0_cond30 v14 k0_t7 = 1#1), ∀ a x, ((![v99, v151] : Fin 2 → IVec S16 32) a x).toNat < S320x128.size a) ∧
  (∀ (k0_h30 : k0_cond30 v14 k0_t7 = 1#1), ∀ a x, ((![v99, v151] : Fin 2 → IVec S16 32) a x).toNat < S320x128.size a) ∧
  (∀ (k0_h30 : k0_cond30 v14 k0_t7 = 1#1), ∀ a x, ((![v99, v151] : Fin 2 → IVec S16 32) a x).toNat < S320x128.size a) ∧
  (∀ (k0_h30 : k0_cond30 v14 k0_t7 = 1#1), ∀ a x, ((![v99, v151] : Fin 2 → IVec S16 32) a x).toNat < S320x128.size a)
theorem k0_idx1498_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v100, v151] : Fin 2 → IVec S16 32) a x).toNat < S16x128.size a := fun v14 k0_t7 v99 v100 v151 k0_hw303 k0_h30 => k0_hw303.1 k0_h30
theorem k0_idx1499_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v99, v151] : Fin 2 → IVec S16 32) a x).toNat < S320x128.size a := fun v14 k0_t7 v99 v100 v151 k0_hw303 k0_h30 => k0_hw303.2.1 k0_h30
theorem k0_idx1500_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v99, v151] : Fin 2 → IVec S16 32) a x).toNat < S320x128.size a := fun v14 k0_t7 v99 v100 v151 k0_hw303 k0_h30 => k0_hw303.2.2.1 k0_h30
theorem k0_idx1501_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v99, v151] : Fin 2 → IVec S16 32) a x).toNat < S320x128.size a := fun v14 k0_t7 v99 v100 v151 k0_hw303 k0_h30 => k0_hw303.2.2.2.1 k0_h30
theorem k0_idx1502_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v99, v151] : Fin 2 → IVec S16 32) a x).toNat < S320x128.size a := fun v14 k0_t7 v99 v100 v151 k0_hw303 k0_h30 => k0_hw303.2.2.2.2.1 k0_h30
theorem k0_idx1503_inb : ∀ (v14 : BitVec 32) (k0_t7 : Fin (k0_t7_loop v14).trips) (v99 : IVec S16 32) (v100 : IVec S16 32) (v151 : IVec S16 32) (k0_hw303 : k0_chk303 v14 k0_t7 v99 v100 v151), ∀ (k0_h30 : k0_cond30 v14 k0_t7 = 1#1), ∀ a x, ((![v99, v151] : Fin 2 → IVec S16 32) a x).toNat < S320x128.size a := fun v14 k0_t7 v99 v100 v151 k0_hw303 k0_h30 => k0_hw303.2.2.2.2.2 k0_h30

def k0_chk304 (v14 : BitVec 32) (k0_t7 : Fin (k0_t7_loop v14).trips) (v99 : IVec S16 32) : Prop :=
  (∀ (k0_h30 : k0_cond30 v14 k0_t7 = 1#1), ∀ a x, ((![v99] : Fin 1 → IVec S16 32) a x).toNat < S320.size a)
theorem k0_idx1504_inb : ∀ (v14 : BitVec 32) (k0_t7 : Fin (k0_t7_loop v14).trips) (v99 : IVec S16 32) (k0_hw304 : k0_chk304 v14 k0_t7 v99), ∀ (k0_h30 : k0_cond30 v14 k0_t7 = 1#1), ∀ a x, ((![v99] : Fin 1 → IVec S16 32) a x).toNat < S320.size a := fun v14 k0_t7 v99 k0_hw304 k0_h30 => k0_hw304 k0_h30
def k0_cond31 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c14_i32 : BitVec 32 := 14#32
  let v91 : BitVec 1 := Scalar.cmpi .sgt v45 c14_i32
  let v92 : BitVec 32 := Scalar.extui v91
  let c0_i32_57 : BitVec 32 := 0#32
  let v93 : BitVec 1 := Scalar.cmpi .ne v92 c0_i32_57
  v93

def k0_chk305 (v14 : BitVec 32) (k0_t7 : Fin (k0_t7_loop v14).trips) (v98 : IVec S16 32) : Prop :=
  (∀ (k0_h31 : k0_cond31 v14 k0_t7 = 1#1), ∀ a x, ((![v98] : Fin 1 → IVec S16 32) a x).toNat < S528.size a)
theorem k0_idx1505_inb : ∀ (v14 : BitVec 32) (k0_t7 : Fin (k0_t7_loop v14).trips) (v98 : IVec S16 32) (k0_hw305 : k0_chk305 v14 k0_t7 v98), ∀ (k0_h31 : k0_cond31 v14 k0_t7 = 1#1), ∀ a x, ((![v98] : Fin 1 → IVec S16 32) a x).toNat < S528.size a := fun v14 k0_t7 v98 k0_hw305 k0_h31 => k0_hw305 k0_h31

def k0_chk306 (v14 : BitVec 32) (k0_t7 : Fin (k0_t7_loop v14).trips) (v99 : IVec S16 32) (v100 : IVec S16 32) (v102 : IVec S16 32) : Prop :=
  (∀ (k0_h31 : k0_cond31 v14 k0_t7 = 1#1), ∀ a x, ((![v100, v102] : Fin 2 → IVec S16 32) a x).toNat < S16x128.size a) ∧
  (∀ (k0_h31 : k0_cond31 v14 k0_t7 = 1#1), ∀ a x, ((![v99, v102] : Fin 2 → IVec S16 32) a x).toNat < S320x128.size a) ∧
  (∀ (k0_h31 : k0_cond31 v14 k0_t7 = 1#1), ∀ a x, ((![v99, v102] : Fin 2 → IVec S16 32) a x).toNat < S320x128.size a) ∧
  (∀ (k0_h31 : k0_cond31 v14 k0_t7 = 1#1), ∀ a x, ((![v99, v102] : Fin 2 → IVec S16 32) a x).toNat < S320x128.size a) ∧
  (∀ (k0_h31 : k0_cond31 v14 k0_t7 = 1#1), ∀ a x, ((![v99, v102] : Fin 2 → IVec S16 32) a x).toNat < S320x128.size a) ∧
  (∀ (k0_h31 : k0_cond31 v14 k0_t7 = 1#1), ∀ a x, ((![v99, v102] : Fin 2 → IVec S16 32) a x).toNat < S320x128.size a)
theorem k0_idx1506_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v100, v102] : Fin 2 → IVec S16 32) a x).toNat < S16x128.size a := fun v14 k0_t7 v99 v100 v102 k0_hw306 k0_h31 => k0_hw306.1 k0_h31
theorem k0_idx1507_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v99, v102] : Fin 2 → IVec S16 32) a x).toNat < S320x128.size a := fun v14 k0_t7 v99 v100 v102 k0_hw306 k0_h31 => k0_hw306.2.1 k0_h31
theorem k0_idx1508_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v99, v102] : Fin 2 → IVec S16 32) a x).toNat < S320x128.size a := fun v14 k0_t7 v99 v100 v102 k0_hw306 k0_h31 => k0_hw306.2.2.1 k0_h31
theorem k0_idx1509_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v99, v102] : Fin 2 → IVec S16 32) a x).toNat < S320x128.size a := fun v14 k0_t7 v99 v100 v102 k0_hw306 k0_h31 => k0_hw306.2.2.2.1 k0_h31
theorem k0_idx1510_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v99, v102] : Fin 2 → IVec S16 32) a x).toNat < S320x128.size a := fun v14 k0_t7 v99 v100 v102 k0_hw306 k0_h31 => k0_hw306.2.2.2.2.1 k0_h31
theorem k0_idx1511_inb : ∀ (v14 : BitVec 32) (k0_t7 : Fin (k0_t7_loop v14).trips) (v99 : IVec S16 32) (v100 : IVec S16 32) (v102 : IVec S16 32) (k0_hw306 : k0_chk306 v14 k0_t7 v99 v100 v102), ∀ (k0_h31 : k0_cond31 v14 k0_t7 = 1#1), ∀ a x, ((![v99, v102] : Fin 2 → IVec S16 32) a x).toNat < S320x128.size a := fun v14 k0_t7 v99 v100 v102 k0_hw306 k0_h31 => k0_hw306.2.2.2.2.2 k0_h31

def k0_chk307 (v14 : BitVec 32) (k0_t7 : Fin (k0_t7_loop v14).trips) (v99 : IVec S16 32) (v100 : IVec S16 32) (v109 : IVec S16 32) : Prop :=
  (∀ (k0_h31 : k0_cond31 v14 k0_t7 = 1#1), ∀ a x, ((![v100, v109] : Fin 2 → IVec S16 32) a x).toNat < S16x128.size a) ∧
  (∀ (k0_h31 : k0_cond31 v14 k0_t7 = 1#1), ∀ a x, ((![v99, v109] : Fin 2 → IVec S16 32) a x).toNat < S320x128.size a) ∧
  (∀ (k0_h31 : k0_cond31 v14 k0_t7 = 1#1), ∀ a x, ((![v99, v109] : Fin 2 → IVec S16 32) a x).toNat < S320x128.size a) ∧
  (∀ (k0_h31 : k0_cond31 v14 k0_t7 = 1#1), ∀ a x, ((![v99, v109] : Fin 2 → IVec S16 32) a x).toNat < S320x128.size a) ∧
  (∀ (k0_h31 : k0_cond31 v14 k0_t7 = 1#1), ∀ a x, ((![v99, v109] : Fin 2 → IVec S16 32) a x).toNat < S320x128.size a) ∧
  (∀ (k0_h31 : k0_cond31 v14 k0_t7 = 1#1), ∀ a x, ((![v99, v109] : Fin 2 → IVec S16 32) a x).toNat < S320x128.size a)
theorem k0_idx1512_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v100, v109] : Fin 2 → IVec S16 32) a x).toNat < S16x128.size a := fun v14 k0_t7 v99 v100 v109 k0_hw307 k0_h31 => k0_hw307.1 k0_h31
theorem k0_idx1513_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v99, v109] : Fin 2 → IVec S16 32) a x).toNat < S320x128.size a := fun v14 k0_t7 v99 v100 v109 k0_hw307 k0_h31 => k0_hw307.2.1 k0_h31
theorem k0_idx1514_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v99, v109] : Fin 2 → IVec S16 32) a x).toNat < S320x128.size a := fun v14 k0_t7 v99 v100 v109 k0_hw307 k0_h31 => k0_hw307.2.2.1 k0_h31
theorem k0_idx1515_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v99, v109] : Fin 2 → IVec S16 32) a x).toNat < S320x128.size a := fun v14 k0_t7 v99 v100 v109 k0_hw307 k0_h31 => k0_hw307.2.2.2.1 k0_h31
theorem k0_idx1516_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v99, v109] : Fin 2 → IVec S16 32) a x).toNat < S320x128.size a := fun v14 k0_t7 v99 v100 v109 k0_hw307 k0_h31 => k0_hw307.2.2.2.2.1 k0_h31
theorem k0_idx1517_inb : ∀ (v14 : BitVec 32) (k0_t7 : Fin (k0_t7_loop v14).trips) (v99 : IVec S16 32) (v100 : IVec S16 32) (v109 : IVec S16 32) (k0_hw307 : k0_chk307 v14 k0_t7 v99 v100 v109), ∀ (k0_h31 : k0_cond31 v14 k0_t7 = 1#1), ∀ a x, ((![v99, v109] : Fin 2 → IVec S16 32) a x).toNat < S320x128.size a := fun v14 k0_t7 v99 v100 v109 k0_hw307 k0_h31 => k0_hw307.2.2.2.2.2 k0_h31

def k0_chk308 (v14 : BitVec 32) (k0_t7 : Fin (k0_t7_loop v14).trips) (v99 : IVec S16 32) (v100 : IVec S16 32) (v116 : IVec S16 32) : Prop :=
  (∀ (k0_h31 : k0_cond31 v14 k0_t7 = 1#1), ∀ a x, ((![v100, v116] : Fin 2 → IVec S16 32) a x).toNat < S16x128.size a) ∧
  (∀ (k0_h31 : k0_cond31 v14 k0_t7 = 1#1), ∀ a x, ((![v99, v116] : Fin 2 → IVec S16 32) a x).toNat < S320x128.size a) ∧
  (∀ (k0_h31 : k0_cond31 v14 k0_t7 = 1#1), ∀ a x, ((![v99, v116] : Fin 2 → IVec S16 32) a x).toNat < S320x128.size a) ∧
  (∀ (k0_h31 : k0_cond31 v14 k0_t7 = 1#1), ∀ a x, ((![v99, v116] : Fin 2 → IVec S16 32) a x).toNat < S320x128.size a) ∧
  (∀ (k0_h31 : k0_cond31 v14 k0_t7 = 1#1), ∀ a x, ((![v99, v116] : Fin 2 → IVec S16 32) a x).toNat < S320x128.size a) ∧
  (∀ (k0_h31 : k0_cond31 v14 k0_t7 = 1#1), ∀ a x, ((![v99, v116] : Fin 2 → IVec S16 32) a x).toNat < S320x128.size a)
theorem k0_idx1518_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v100, v116] : Fin 2 → IVec S16 32) a x).toNat < S16x128.size a := fun v14 k0_t7 v99 v100 v116 k0_hw308 k0_h31 => k0_hw308.1 k0_h31
theorem k0_idx1519_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v99, v116] : Fin 2 → IVec S16 32) a x).toNat < S320x128.size a := fun v14 k0_t7 v99 v100 v116 k0_hw308 k0_h31 => k0_hw308.2.1 k0_h31
theorem k0_idx1520_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v99, v116] : Fin 2 → IVec S16 32) a x).toNat < S320x128.size a := fun v14 k0_t7 v99 v100 v116 k0_hw308 k0_h31 => k0_hw308.2.2.1 k0_h31
theorem k0_idx1521_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v99, v116] : Fin 2 → IVec S16 32) a x).toNat < S320x128.size a := fun v14 k0_t7 v99 v100 v116 k0_hw308 k0_h31 => k0_hw308.2.2.2.1 k0_h31
theorem k0_idx1522_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v99, v116] : Fin 2 → IVec S16 32) a x).toNat < S320x128.size a := fun v14 k0_t7 v99 v100 v116 k0_hw308 k0_h31 => k0_hw308.2.2.2.2.1 k0_h31
theorem k0_idx1523_inb : ∀ (v14 : BitVec 32) (k0_t7 : Fin (k0_t7_loop v14).trips) (v99 : IVec S16 32) (v100 : IVec S16 32) (v116 : IVec S16 32) (k0_hw308 : k0_chk308 v14 k0_t7 v99 v100 v116), ∀ (k0_h31 : k0_cond31 v14 k0_t7 = 1#1), ∀ a x, ((![v99, v116] : Fin 2 → IVec S16 32) a x).toNat < S320x128.size a := fun v14 k0_t7 v99 v100 v116 k0_hw308 k0_h31 => k0_hw308.2.2.2.2.2 k0_h31

def k0_chk309 (v14 : BitVec 32) (k0_t7 : Fin (k0_t7_loop v14).trips) (v99 : IVec S16 32) (v100 : IVec S16 32) (v123 : IVec S16 32) : Prop :=
  (∀ (k0_h31 : k0_cond31 v14 k0_t7 = 1#1), ∀ a x, ((![v100, v123] : Fin 2 → IVec S16 32) a x).toNat < S16x128.size a) ∧
  (∀ (k0_h31 : k0_cond31 v14 k0_t7 = 1#1), ∀ a x, ((![v99, v123] : Fin 2 → IVec S16 32) a x).toNat < S320x128.size a) ∧
  (∀ (k0_h31 : k0_cond31 v14 k0_t7 = 1#1), ∀ a x, ((![v99, v123] : Fin 2 → IVec S16 32) a x).toNat < S320x128.size a) ∧
  (∀ (k0_h31 : k0_cond31 v14 k0_t7 = 1#1), ∀ a x, ((![v99, v123] : Fin 2 → IVec S16 32) a x).toNat < S320x128.size a) ∧
  (∀ (k0_h31 : k0_cond31 v14 k0_t7 = 1#1), ∀ a x, ((![v99, v123] : Fin 2 → IVec S16 32) a x).toNat < S320x128.size a) ∧
  (∀ (k0_h31 : k0_cond31 v14 k0_t7 = 1#1), ∀ a x, ((![v99, v123] : Fin 2 → IVec S16 32) a x).toNat < S320x128.size a)
theorem k0_idx1524_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v100, v123] : Fin 2 → IVec S16 32) a x).toNat < S16x128.size a := fun v14 k0_t7 v99 v100 v123 k0_hw309 k0_h31 => k0_hw309.1 k0_h31
theorem k0_idx1525_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v99, v123] : Fin 2 → IVec S16 32) a x).toNat < S320x128.size a := fun v14 k0_t7 v99 v100 v123 k0_hw309 k0_h31 => k0_hw309.2.1 k0_h31
theorem k0_idx1526_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v99, v123] : Fin 2 → IVec S16 32) a x).toNat < S320x128.size a := fun v14 k0_t7 v99 v100 v123 k0_hw309 k0_h31 => k0_hw309.2.2.1 k0_h31
theorem k0_idx1527_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v99, v123] : Fin 2 → IVec S16 32) a x).toNat < S320x128.size a := fun v14 k0_t7 v99 v100 v123 k0_hw309 k0_h31 => k0_hw309.2.2.2.1 k0_h31
theorem k0_idx1528_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v99, v123] : Fin 2 → IVec S16 32) a x).toNat < S320x128.size a := fun v14 k0_t7 v99 v100 v123 k0_hw309 k0_h31 => k0_hw309.2.2.2.2.1 k0_h31
theorem k0_idx1529_inb : ∀ (v14 : BitVec 32) (k0_t7 : Fin (k0_t7_loop v14).trips) (v99 : IVec S16 32) (v100 : IVec S16 32) (v123 : IVec S16 32) (k0_hw309 : k0_chk309 v14 k0_t7 v99 v100 v123), ∀ (k0_h31 : k0_cond31 v14 k0_t7 = 1#1), ∀ a x, ((![v99, v123] : Fin 2 → IVec S16 32) a x).toNat < S320x128.size a := fun v14 k0_t7 v99 v100 v123 k0_hw309 k0_h31 => k0_hw309.2.2.2.2.2 k0_h31

def k0_chk310 (v14 : BitVec 32) (k0_t7 : Fin (k0_t7_loop v14).trips) (v99 : IVec S16 32) (v100 : IVec S16 32) (v130 : IVec S16 32) : Prop :=
  (∀ (k0_h31 : k0_cond31 v14 k0_t7 = 1#1), ∀ a x, ((![v100, v130] : Fin 2 → IVec S16 32) a x).toNat < S16x128.size a) ∧
  (∀ (k0_h31 : k0_cond31 v14 k0_t7 = 1#1), ∀ a x, ((![v99, v130] : Fin 2 → IVec S16 32) a x).toNat < S320x128.size a) ∧
  (∀ (k0_h31 : k0_cond31 v14 k0_t7 = 1#1), ∀ a x, ((![v99, v130] : Fin 2 → IVec S16 32) a x).toNat < S320x128.size a) ∧
  (∀ (k0_h31 : k0_cond31 v14 k0_t7 = 1#1), ∀ a x, ((![v99, v130] : Fin 2 → IVec S16 32) a x).toNat < S320x128.size a) ∧
  (∀ (k0_h31 : k0_cond31 v14 k0_t7 = 1#1), ∀ a x, ((![v99, v130] : Fin 2 → IVec S16 32) a x).toNat < S320x128.size a) ∧
  (∀ (k0_h31 : k0_cond31 v14 k0_t7 = 1#1), ∀ a x, ((![v99, v130] : Fin 2 → IVec S16 32) a x).toNat < S320x128.size a)
theorem k0_idx1530_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v100, v130] : Fin 2 → IVec S16 32) a x).toNat < S16x128.size a := fun v14 k0_t7 v99 v100 v130 k0_hw310 k0_h31 => k0_hw310.1 k0_h31
theorem k0_idx1531_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v99, v130] : Fin 2 → IVec S16 32) a x).toNat < S320x128.size a := fun v14 k0_t7 v99 v100 v130 k0_hw310 k0_h31 => k0_hw310.2.1 k0_h31
theorem k0_idx1532_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v99, v130] : Fin 2 → IVec S16 32) a x).toNat < S320x128.size a := fun v14 k0_t7 v99 v100 v130 k0_hw310 k0_h31 => k0_hw310.2.2.1 k0_h31
theorem k0_idx1533_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v99, v130] : Fin 2 → IVec S16 32) a x).toNat < S320x128.size a := fun v14 k0_t7 v99 v100 v130 k0_hw310 k0_h31 => k0_hw310.2.2.2.1 k0_h31
theorem k0_idx1534_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v99, v130] : Fin 2 → IVec S16 32) a x).toNat < S320x128.size a := fun v14 k0_t7 v99 v100 v130 k0_hw310 k0_h31 => k0_hw310.2.2.2.2.1 k0_h31
theorem k0_idx1535_inb : ∀ (v14 : BitVec 32) (k0_t7 : Fin (k0_t7_loop v14).trips) (v99 : IVec S16 32) (v100 : IVec S16 32) (v130 : IVec S16 32) (k0_hw310 : k0_chk310 v14 k0_t7 v99 v100 v130), ∀ (k0_h31 : k0_cond31 v14 k0_t7 = 1#1), ∀ a x, ((![v99, v130] : Fin 2 → IVec S16 32) a x).toNat < S320x128.size a := fun v14 k0_t7 v99 v100 v130 k0_hw310 k0_h31 => k0_hw310.2.2.2.2.2 k0_h31

def k0_chk311 (v14 : BitVec 32) (k0_t7 : Fin (k0_t7_loop v14).trips) (v99 : IVec S16 32) (v100 : IVec S16 32) (v137 : IVec S16 32) : Prop :=
  (∀ (k0_h31 : k0_cond31 v14 k0_t7 = 1#1), ∀ a x, ((![v100, v137] : Fin 2 → IVec S16 32) a x).toNat < S16x128.size a) ∧
  (∀ (k0_h31 : k0_cond31 v14 k0_t7 = 1#1), ∀ a x, ((![v99, v137] : Fin 2 → IVec S16 32) a x).toNat < S320x128.size a) ∧
  (∀ (k0_h31 : k0_cond31 v14 k0_t7 = 1#1), ∀ a x, ((![v99, v137] : Fin 2 → IVec S16 32) a x).toNat < S320x128.size a) ∧
  (∀ (k0_h31 : k0_cond31 v14 k0_t7 = 1#1), ∀ a x, ((![v99, v137] : Fin 2 → IVec S16 32) a x).toNat < S320x128.size a) ∧
  (∀ (k0_h31 : k0_cond31 v14 k0_t7 = 1#1), ∀ a x, ((![v99, v137] : Fin 2 → IVec S16 32) a x).toNat < S320x128.size a) ∧
  (∀ (k0_h31 : k0_cond31 v14 k0_t7 = 1#1), ∀ a x, ((![v99, v137] : Fin 2 → IVec S16 32) a x).toNat < S320x128.size a)
theorem k0_idx1536_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v100, v137] : Fin 2 → IVec S16 32) a x).toNat < S16x128.size a := fun v14 k0_t7 v99 v100 v137 k0_hw311 k0_h31 => k0_hw311.1 k0_h31
theorem k0_idx1537_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v99, v137] : Fin 2 → IVec S16 32) a x).toNat < S320x128.size a := fun v14 k0_t7 v99 v100 v137 k0_hw311 k0_h31 => k0_hw311.2.1 k0_h31
theorem k0_idx1538_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v99, v137] : Fin 2 → IVec S16 32) a x).toNat < S320x128.size a := fun v14 k0_t7 v99 v100 v137 k0_hw311 k0_h31 => k0_hw311.2.2.1 k0_h31
theorem k0_idx1539_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v99, v137] : Fin 2 → IVec S16 32) a x).toNat < S320x128.size a := fun v14 k0_t7 v99 v100 v137 k0_hw311 k0_h31 => k0_hw311.2.2.2.1 k0_h31
theorem k0_idx1540_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v99, v137] : Fin 2 → IVec S16 32) a x).toNat < S320x128.size a := fun v14 k0_t7 v99 v100 v137 k0_hw311 k0_h31 => k0_hw311.2.2.2.2.1 k0_h31
theorem k0_idx1541_inb : ∀ (v14 : BitVec 32) (k0_t7 : Fin (k0_t7_loop v14).trips) (v99 : IVec S16 32) (v100 : IVec S16 32) (v137 : IVec S16 32) (k0_hw311 : k0_chk311 v14 k0_t7 v99 v100 v137), ∀ (k0_h31 : k0_cond31 v14 k0_t7 = 1#1), ∀ a x, ((![v99, v137] : Fin 2 → IVec S16 32) a x).toNat < S320x128.size a := fun v14 k0_t7 v99 v100 v137 k0_hw311 k0_h31 => k0_hw311.2.2.2.2.2 k0_h31

def k0_chk312 (v14 : BitVec 32) (k0_t7 : Fin (k0_t7_loop v14).trips) (v99 : IVec S16 32) (v100 : IVec S16 32) (v144 : IVec S16 32) : Prop :=
  (∀ (k0_h31 : k0_cond31 v14 k0_t7 = 1#1), ∀ a x, ((![v100, v144] : Fin 2 → IVec S16 32) a x).toNat < S16x128.size a) ∧
  (∀ (k0_h31 : k0_cond31 v14 k0_t7 = 1#1), ∀ a x, ((![v99, v144] : Fin 2 → IVec S16 32) a x).toNat < S320x128.size a) ∧
  (∀ (k0_h31 : k0_cond31 v14 k0_t7 = 1#1), ∀ a x, ((![v99, v144] : Fin 2 → IVec S16 32) a x).toNat < S320x128.size a) ∧
  (∀ (k0_h31 : k0_cond31 v14 k0_t7 = 1#1), ∀ a x, ((![v99, v144] : Fin 2 → IVec S16 32) a x).toNat < S320x128.size a) ∧
  (∀ (k0_h31 : k0_cond31 v14 k0_t7 = 1#1), ∀ a x, ((![v99, v144] : Fin 2 → IVec S16 32) a x).toNat < S320x128.size a) ∧
  (∀ (k0_h31 : k0_cond31 v14 k0_t7 = 1#1), ∀ a x, ((![v99, v144] : Fin 2 → IVec S16 32) a x).toNat < S320x128.size a)
theorem k0_idx1542_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v100, v144] : Fin 2 → IVec S16 32) a x).toNat < S16x128.size a := fun v14 k0_t7 v99 v100 v144 k0_hw312 k0_h31 => k0_hw312.1 k0_h31
theorem k0_idx1543_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v99, v144] : Fin 2 → IVec S16 32) a x).toNat < S320x128.size a := fun v14 k0_t7 v99 v100 v144 k0_hw312 k0_h31 => k0_hw312.2.1 k0_h31
theorem k0_idx1544_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v99, v144] : Fin 2 → IVec S16 32) a x).toNat < S320x128.size a := fun v14 k0_t7 v99 v100 v144 k0_hw312 k0_h31 => k0_hw312.2.2.1 k0_h31
theorem k0_idx1545_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v99, v144] : Fin 2 → IVec S16 32) a x).toNat < S320x128.size a := fun v14 k0_t7 v99 v100 v144 k0_hw312 k0_h31 => k0_hw312.2.2.2.1 k0_h31
theorem k0_idx1546_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v99, v144] : Fin 2 → IVec S16 32) a x).toNat < S320x128.size a := fun v14 k0_t7 v99 v100 v144 k0_hw312 k0_h31 => k0_hw312.2.2.2.2.1 k0_h31
theorem k0_idx1547_inb : ∀ (v14 : BitVec 32) (k0_t7 : Fin (k0_t7_loop v14).trips) (v99 : IVec S16 32) (v100 : IVec S16 32) (v144 : IVec S16 32) (k0_hw312 : k0_chk312 v14 k0_t7 v99 v100 v144), ∀ (k0_h31 : k0_cond31 v14 k0_t7 = 1#1), ∀ a x, ((![v99, v144] : Fin 2 → IVec S16 32) a x).toNat < S320x128.size a := fun v14 k0_t7 v99 v100 v144 k0_hw312 k0_h31 => k0_hw312.2.2.2.2.2 k0_h31

def k0_chk313 (v14 : BitVec 32) (k0_t7 : Fin (k0_t7_loop v14).trips) (v99 : IVec S16 32) (v100 : IVec S16 32) (v151 : IVec S16 32) : Prop :=
  (∀ (k0_h31 : k0_cond31 v14 k0_t7 = 1#1), ∀ a x, ((![v100, v151] : Fin 2 → IVec S16 32) a x).toNat < S16x128.size a) ∧
  (∀ (k0_h31 : k0_cond31 v14 k0_t7 = 1#1), ∀ a x, ((![v99, v151] : Fin 2 → IVec S16 32) a x).toNat < S320x128.size a) ∧
  (∀ (k0_h31 : k0_cond31 v14 k0_t7 = 1#1), ∀ a x, ((![v99, v151] : Fin 2 → IVec S16 32) a x).toNat < S320x128.size a) ∧
  (∀ (k0_h31 : k0_cond31 v14 k0_t7 = 1#1), ∀ a x, ((![v99, v151] : Fin 2 → IVec S16 32) a x).toNat < S320x128.size a) ∧
  (∀ (k0_h31 : k0_cond31 v14 k0_t7 = 1#1), ∀ a x, ((![v99, v151] : Fin 2 → IVec S16 32) a x).toNat < S320x128.size a) ∧
  (∀ (k0_h31 : k0_cond31 v14 k0_t7 = 1#1), ∀ a x, ((![v99, v151] : Fin 2 → IVec S16 32) a x).toNat < S320x128.size a)
theorem k0_idx1548_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v100, v151] : Fin 2 → IVec S16 32) a x).toNat < S16x128.size a := fun v14 k0_t7 v99 v100 v151 k0_hw313 k0_h31 => k0_hw313.1 k0_h31
theorem k0_idx1549_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v99, v151] : Fin 2 → IVec S16 32) a x).toNat < S320x128.size a := fun v14 k0_t7 v99 v100 v151 k0_hw313 k0_h31 => k0_hw313.2.1 k0_h31
theorem k0_idx1550_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v99, v151] : Fin 2 → IVec S16 32) a x).toNat < S320x128.size a := fun v14 k0_t7 v99 v100 v151 k0_hw313 k0_h31 => k0_hw313.2.2.1 k0_h31
theorem k0_idx1551_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v99, v151] : Fin 2 → IVec S16 32) a x).toNat < S320x128.size a := fun v14 k0_t7 v99 v100 v151 k0_hw313 k0_h31 => k0_hw313.2.2.2.1 k0_h31
theorem k0_idx1552_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v99, v151] : Fin 2 → IVec S16 32) a x).toNat < S320x128.size a := fun v14 k0_t7 v99 v100 v151 k0_hw313 k0_h31 => k0_hw313.2.2.2.2.1 k0_h31
theorem k0_idx1553_inb : ∀ (v14 : BitVec 32) (k0_t7 : Fin (k0_t7_loop v14).trips) (v99 : IVec S16 32) (v100 : IVec S16 32) (v151 : IVec S16 32) (k0_hw313 : k0_chk313 v14 k0_t7 v99 v100 v151), ∀ (k0_h31 : k0_cond31 v14 k0_t7 = 1#1), ∀ a x, ((![v99, v151] : Fin 2 → IVec S16 32) a x).toNat < S320x128.size a := fun v14 k0_t7 v99 v100 v151 k0_hw313 k0_h31 => k0_hw313.2.2.2.2.2 k0_h31

def k0_chk314 (v14 : BitVec 32) (k0_t7 : Fin (k0_t7_loop v14).trips) (v99 : IVec S16 32) : Prop :=
  (∀ (k0_h31 : k0_cond31 v14 k0_t7 = 1#1), ∀ a x, ((![v99] : Fin 1 → IVec S16 32) a x).toNat < S320.size a)
theorem k0_idx1554_inb : ∀ (v14 : BitVec 32) (k0_t7 : Fin (k0_t7_loop v14).trips) (v99 : IVec S16 32) (k0_hw314 : k0_chk314 v14 k0_t7 v99), ∀ (k0_h31 : k0_cond31 v14 k0_t7 = 1#1), ∀ a x, ((![v99] : Fin 1 → IVec S16 32) a x).toNat < S320.size a := fun v14 k0_t7 v99 k0_hw314 k0_h31 => k0_hw314 k0_h31
def k0_cond32 (v14 : BitVec 32) (k0_t7 : Fin (k0_t7_loop v14).trips) : BitVec 1 :=
  let c0_i32_29 : BitVec 32 := 0#32
  let c15_i32 : BitVec 32 := 15#32
  let v15 : BitVec 32 := Scalar.addi v14 c15_i32
  let c0_i32_22 : BitVec 32 := 0#32
  let v17 : BitVec 1 := Scalar.cmpi .sgt v15 c0_i32_22
  let v18 : BitVec 32 := Scalar.extui v17
  let c0_i32_23 : BitVec 32 := 0#32
  let v19 : BitVec 1 := Scalar.cmpi .slt v15 c0_i32_23
  let v20 : BitVec 32 := Scalar.extui v19
  let v21 : BitVec 32 := Scalar.subi v18 v20
  let c16_i32 : BitVec 32 := 16#32
  let c0_i32_24 : BitVec 32 := 0#32
  let v22 : BitVec 1 := Scalar.cmpi .sgt c16_i32 c0_i32_24
  let v23 : BitVec 32 := Scalar.extui v22
  let c0_i32_25 : BitVec 32 := 0#32
  let v24 : BitVec 1 := Scalar.cmpi .slt c16_i32 c0_i32_25
  let v25 : BitVec 32 := Scalar.extui v24
  let v26 : BitVec 32 := Scalar.subi v23 v25
  let v27 : BitVec 1 := Scalar.cmpi .ne v21 v26
  let v28 : BitVec 32 := Scalar.remsi v15 c16_i32
  let c0_i32_26 : BitVec 32 := 0#32
  let v29 : BitVec 1 := Scalar.cmpi .ne v28 c0_i32_26
  let v30 : BitVec 1 := Scalar.andi v27 v29
  let v16 : BitVec 32 := Scalar.divsi v15 c16_i32
  let c1_i32_27 : BitVec 32 := 1#32
  let v31 : BitVec 32 := Scalar.subi v16 c1_i32_27
  let v32 : BitVec 32 := Scalar.select v30 v31 v16
  let v33 : BitVec 32 := Scalar.subi v32 c0_i32_29
  let c1_i32_30 : BitVec 32 := 1#32
  let v35 : BitVec 32 := Scalar.divsi v33 c1_i32_30
  let v36 : BitVec 32 := Scalar.muli v35 c1_i32_30
  let v37 : BitVec 32 := Scalar.addi c0_i32_29 v36
  let c1_i32_32 : BitVec 32 := 1#32
  let arg21 : BitVec 32 := Scf.iv v37 c1_i32_32 k0_t7
  let c16_i32_33 : BitVec 32 := 16#32
  let v38 : BitVec 32 := Scalar.muli arg21 c16_i32_33
  let v45 : BitVec 32 := Scalar.subi v14 v38
  let c15_i32_58 : BitVec 32 := 15#32
  let v94 : BitVec 1 := Scalar.cmpi .sgt v45 c15_i32_58
  let v95 : BitVec 32 := Scalar.extui v94
  let c0_i32_59 : BitVec 32 := 0#32
  let v96 : BitVec 1 := Scalar.cmpi .ne v95 c0_i32_59
  v96

def k0_chk315 (v14 : BitVec 32) (k0_t7 : Fin (k0_t7_loop v14).trips) (v98 : IVec S16 32) : Prop :=
  (∀ (k0_h32 : k0_cond32 v14 k0_t7 = 1#1), ∀ a x, ((![v98] : Fin 1 → IVec S16 32) a x).toNat < S528.size a)
theorem k0_idx1555_inb : ∀ (v14 : BitVec 32) (k0_t7 : Fin (k0_t7_loop v14).trips) (v98 : IVec S16 32) (k0_hw315 : k0_chk315 v14 k0_t7 v98), ∀ (k0_h32 : k0_cond32 v14 k0_t7 = 1#1), ∀ a x, ((![v98] : Fin 1 → IVec S16 32) a x).toNat < S528.size a := fun v14 k0_t7 v98 k0_hw315 k0_h32 => k0_hw315 k0_h32

def k0_chk316 (v14 : BitVec 32) (k0_t7 : Fin (k0_t7_loop v14).trips) (v99 : IVec S16 32) (v100 : IVec S16 32) (v102 : IVec S16 32) : Prop :=
  (∀ (k0_h32 : k0_cond32 v14 k0_t7 = 1#1), ∀ a x, ((![v100, v102] : Fin 2 → IVec S16 32) a x).toNat < S16x128.size a) ∧
  (∀ (k0_h32 : k0_cond32 v14 k0_t7 = 1#1), ∀ a x, ((![v99, v102] : Fin 2 → IVec S16 32) a x).toNat < S320x128.size a) ∧
  (∀ (k0_h32 : k0_cond32 v14 k0_t7 = 1#1), ∀ a x, ((![v99, v102] : Fin 2 → IVec S16 32) a x).toNat < S320x128.size a) ∧
  (∀ (k0_h32 : k0_cond32 v14 k0_t7 = 1#1), ∀ a x, ((![v99, v102] : Fin 2 → IVec S16 32) a x).toNat < S320x128.size a) ∧
  (∀ (k0_h32 : k0_cond32 v14 k0_t7 = 1#1), ∀ a x, ((![v99, v102] : Fin 2 → IVec S16 32) a x).toNat < S320x128.size a) ∧
  (∀ (k0_h32 : k0_cond32 v14 k0_t7 = 1#1), ∀ a x, ((![v99, v102] : Fin 2 → IVec S16 32) a x).toNat < S320x128.size a)
theorem k0_idx1556_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v100, v102] : Fin 2 → IVec S16 32) a x).toNat < S16x128.size a := fun v14 k0_t7 v99 v100 v102 k0_hw316 k0_h32 => k0_hw316.1 k0_h32
theorem k0_idx1557_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v99, v102] : Fin 2 → IVec S16 32) a x).toNat < S320x128.size a := fun v14 k0_t7 v99 v100 v102 k0_hw316 k0_h32 => k0_hw316.2.1 k0_h32
theorem k0_idx1558_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v99, v102] : Fin 2 → IVec S16 32) a x).toNat < S320x128.size a := fun v14 k0_t7 v99 v100 v102 k0_hw316 k0_h32 => k0_hw316.2.2.1 k0_h32
theorem k0_idx1559_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v99, v102] : Fin 2 → IVec S16 32) a x).toNat < S320x128.size a := fun v14 k0_t7 v99 v100 v102 k0_hw316 k0_h32 => k0_hw316.2.2.2.1 k0_h32
theorem k0_idx1560_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v99, v102] : Fin 2 → IVec S16 32) a x).toNat < S320x128.size a := fun v14 k0_t7 v99 v100 v102 k0_hw316 k0_h32 => k0_hw316.2.2.2.2.1 k0_h32
theorem k0_idx1561_inb : ∀ (v14 : BitVec 32) (k0_t7 : Fin (k0_t7_loop v14).trips) (v99 : IVec S16 32) (v100 : IVec S16 32) (v102 : IVec S16 32) (k0_hw316 : k0_chk316 v14 k0_t7 v99 v100 v102), ∀ (k0_h32 : k0_cond32 v14 k0_t7 = 1#1), ∀ a x, ((![v99, v102] : Fin 2 → IVec S16 32) a x).toNat < S320x128.size a := fun v14 k0_t7 v99 v100 v102 k0_hw316 k0_h32 => k0_hw316.2.2.2.2.2 k0_h32

def k0_chk317 (v14 : BitVec 32) (k0_t7 : Fin (k0_t7_loop v14).trips) (v99 : IVec S16 32) (v100 : IVec S16 32) (v109 : IVec S16 32) : Prop :=
  (∀ (k0_h32 : k0_cond32 v14 k0_t7 = 1#1), ∀ a x, ((![v100, v109] : Fin 2 → IVec S16 32) a x).toNat < S16x128.size a) ∧
  (∀ (k0_h32 : k0_cond32 v14 k0_t7 = 1#1), ∀ a x, ((![v99, v109] : Fin 2 → IVec S16 32) a x).toNat < S320x128.size a) ∧
  (∀ (k0_h32 : k0_cond32 v14 k0_t7 = 1#1), ∀ a x, ((![v99, v109] : Fin 2 → IVec S16 32) a x).toNat < S320x128.size a) ∧
  (∀ (k0_h32 : k0_cond32 v14 k0_t7 = 1#1), ∀ a x, ((![v99, v109] : Fin 2 → IVec S16 32) a x).toNat < S320x128.size a) ∧
  (∀ (k0_h32 : k0_cond32 v14 k0_t7 = 1#1), ∀ a x, ((![v99, v109] : Fin 2 → IVec S16 32) a x).toNat < S320x128.size a) ∧
  (∀ (k0_h32 : k0_cond32 v14 k0_t7 = 1#1), ∀ a x, ((![v99, v109] : Fin 2 → IVec S16 32) a x).toNat < S320x128.size a)
theorem k0_idx1562_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v100, v109] : Fin 2 → IVec S16 32) a x).toNat < S16x128.size a := fun v14 k0_t7 v99 v100 v109 k0_hw317 k0_h32 => k0_hw317.1 k0_h32
theorem k0_idx1563_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v99, v109] : Fin 2 → IVec S16 32) a x).toNat < S320x128.size a := fun v14 k0_t7 v99 v100 v109 k0_hw317 k0_h32 => k0_hw317.2.1 k0_h32
theorem k0_idx1564_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v99, v109] : Fin 2 → IVec S16 32) a x).toNat < S320x128.size a := fun v14 k0_t7 v99 v100 v109 k0_hw317 k0_h32 => k0_hw317.2.2.1 k0_h32
theorem k0_idx1565_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v99, v109] : Fin 2 → IVec S16 32) a x).toNat < S320x128.size a := fun v14 k0_t7 v99 v100 v109 k0_hw317 k0_h32 => k0_hw317.2.2.2.1 k0_h32
theorem k0_idx1566_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v99, v109] : Fin 2 → IVec S16 32) a x).toNat < S320x128.size a := fun v14 k0_t7 v99 v100 v109 k0_hw317 k0_h32 => k0_hw317.2.2.2.2.1 k0_h32
theorem k0_idx1567_inb : ∀ (v14 : BitVec 32) (k0_t7 : Fin (k0_t7_loop v14).trips) (v99 : IVec S16 32) (v100 : IVec S16 32) (v109 : IVec S16 32) (k0_hw317 : k0_chk317 v14 k0_t7 v99 v100 v109), ∀ (k0_h32 : k0_cond32 v14 k0_t7 = 1#1), ∀ a x, ((![v99, v109] : Fin 2 → IVec S16 32) a x).toNat < S320x128.size a := fun v14 k0_t7 v99 v100 v109 k0_hw317 k0_h32 => k0_hw317.2.2.2.2.2 k0_h32

def k0_chk318 (v14 : BitVec 32) (k0_t7 : Fin (k0_t7_loop v14).trips) (v99 : IVec S16 32) (v100 : IVec S16 32) (v116 : IVec S16 32) : Prop :=
  (∀ (k0_h32 : k0_cond32 v14 k0_t7 = 1#1), ∀ a x, ((![v100, v116] : Fin 2 → IVec S16 32) a x).toNat < S16x128.size a) ∧
  (∀ (k0_h32 : k0_cond32 v14 k0_t7 = 1#1), ∀ a x, ((![v99, v116] : Fin 2 → IVec S16 32) a x).toNat < S320x128.size a) ∧
  (∀ (k0_h32 : k0_cond32 v14 k0_t7 = 1#1), ∀ a x, ((![v99, v116] : Fin 2 → IVec S16 32) a x).toNat < S320x128.size a) ∧
  (∀ (k0_h32 : k0_cond32 v14 k0_t7 = 1#1), ∀ a x, ((![v99, v116] : Fin 2 → IVec S16 32) a x).toNat < S320x128.size a) ∧
  (∀ (k0_h32 : k0_cond32 v14 k0_t7 = 1#1), ∀ a x, ((![v99, v116] : Fin 2 → IVec S16 32) a x).toNat < S320x128.size a) ∧
  (∀ (k0_h32 : k0_cond32 v14 k0_t7 = 1#1), ∀ a x, ((![v99, v116] : Fin 2 → IVec S16 32) a x).toNat < S320x128.size a)
theorem k0_idx1568_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v100, v116] : Fin 2 → IVec S16 32) a x).toNat < S16x128.size a := fun v14 k0_t7 v99 v100 v116 k0_hw318 k0_h32 => k0_hw318.1 k0_h32
theorem k0_idx1569_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v99, v116] : Fin 2 → IVec S16 32) a x).toNat < S320x128.size a := fun v14 k0_t7 v99 v100 v116 k0_hw318 k0_h32 => k0_hw318.2.1 k0_h32
theorem k0_idx1570_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v99, v116] : Fin 2 → IVec S16 32) a x).toNat < S320x128.size a := fun v14 k0_t7 v99 v100 v116 k0_hw318 k0_h32 => k0_hw318.2.2.1 k0_h32
theorem k0_idx1571_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v99, v116] : Fin 2 → IVec S16 32) a x).toNat < S320x128.size a := fun v14 k0_t7 v99 v100 v116 k0_hw318 k0_h32 => k0_hw318.2.2.2.1 k0_h32
theorem k0_idx1572_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v99, v116] : Fin 2 → IVec S16 32) a x).toNat < S320x128.size a := fun v14 k0_t7 v99 v100 v116 k0_hw318 k0_h32 => k0_hw318.2.2.2.2.1 k0_h32
theorem k0_idx1573_inb : ∀ (v14 : BitVec 32) (k0_t7 : Fin (k0_t7_loop v14).trips) (v99 : IVec S16 32) (v100 : IVec S16 32) (v116 : IVec S16 32) (k0_hw318 : k0_chk318 v14 k0_t7 v99 v100 v116), ∀ (k0_h32 : k0_cond32 v14 k0_t7 = 1#1), ∀ a x, ((![v99, v116] : Fin 2 → IVec S16 32) a x).toNat < S320x128.size a := fun v14 k0_t7 v99 v100 v116 k0_hw318 k0_h32 => k0_hw318.2.2.2.2.2 k0_h32

def k0_chk319 (v14 : BitVec 32) (k0_t7 : Fin (k0_t7_loop v14).trips) (v99 : IVec S16 32) (v100 : IVec S16 32) (v123 : IVec S16 32) : Prop :=
  (∀ (k0_h32 : k0_cond32 v14 k0_t7 = 1#1), ∀ a x, ((![v100, v123] : Fin 2 → IVec S16 32) a x).toNat < S16x128.size a) ∧
  (∀ (k0_h32 : k0_cond32 v14 k0_t7 = 1#1), ∀ a x, ((![v99, v123] : Fin 2 → IVec S16 32) a x).toNat < S320x128.size a) ∧
  (∀ (k0_h32 : k0_cond32 v14 k0_t7 = 1#1), ∀ a x, ((![v99, v123] : Fin 2 → IVec S16 32) a x).toNat < S320x128.size a) ∧
  (∀ (k0_h32 : k0_cond32 v14 k0_t7 = 1#1), ∀ a x, ((![v99, v123] : Fin 2 → IVec S16 32) a x).toNat < S320x128.size a) ∧
  (∀ (k0_h32 : k0_cond32 v14 k0_t7 = 1#1), ∀ a x, ((![v99, v123] : Fin 2 → IVec S16 32) a x).toNat < S320x128.size a) ∧
  (∀ (k0_h32 : k0_cond32 v14 k0_t7 = 1#1), ∀ a x, ((![v99, v123] : Fin 2 → IVec S16 32) a x).toNat < S320x128.size a)
theorem k0_idx1574_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v100, v123] : Fin 2 → IVec S16 32) a x).toNat < S16x128.size a := fun v14 k0_t7 v99 v100 v123 k0_hw319 k0_h32 => k0_hw319.1 k0_h32
theorem k0_idx1575_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v99, v123] : Fin 2 → IVec S16 32) a x).toNat < S320x128.size a := fun v14 k0_t7 v99 v100 v123 k0_hw319 k0_h32 => k0_hw319.2.1 k0_h32
theorem k0_idx1576_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v99, v123] : Fin 2 → IVec S16 32) a x).toNat < S320x128.size a := fun v14 k0_t7 v99 v100 v123 k0_hw319 k0_h32 => k0_hw319.2.2.1 k0_h32
theorem k0_idx1577_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v99, v123] : Fin 2 → IVec S16 32) a x).toNat < S320x128.size a := fun v14 k0_t7 v99 v100 v123 k0_hw319 k0_h32 => k0_hw319.2.2.2.1 k0_h32
theorem k0_idx1578_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v99, v123] : Fin 2 → IVec S16 32) a x).toNat < S320x128.size a := fun v14 k0_t7 v99 v100 v123 k0_hw319 k0_h32 => k0_hw319.2.2.2.2.1 k0_h32
theorem k0_idx1579_inb : ∀ (v14 : BitVec 32) (k0_t7 : Fin (k0_t7_loop v14).trips) (v99 : IVec S16 32) (v100 : IVec S16 32) (v123 : IVec S16 32) (k0_hw319 : k0_chk319 v14 k0_t7 v99 v100 v123), ∀ (k0_h32 : k0_cond32 v14 k0_t7 = 1#1), ∀ a x, ((![v99, v123] : Fin 2 → IVec S16 32) a x).toNat < S320x128.size a := fun v14 k0_t7 v99 v100 v123 k0_hw319 k0_h32 => k0_hw319.2.2.2.2.2 k0_h32

def k0_chk320 (v14 : BitVec 32) (k0_t7 : Fin (k0_t7_loop v14).trips) (v99 : IVec S16 32) (v100 : IVec S16 32) (v130 : IVec S16 32) : Prop :=
  (∀ (k0_h32 : k0_cond32 v14 k0_t7 = 1#1), ∀ a x, ((![v100, v130] : Fin 2 → IVec S16 32) a x).toNat < S16x128.size a) ∧
  (∀ (k0_h32 : k0_cond32 v14 k0_t7 = 1#1), ∀ a x, ((![v99, v130] : Fin 2 → IVec S16 32) a x).toNat < S320x128.size a) ∧
  (∀ (k0_h32 : k0_cond32 v14 k0_t7 = 1#1), ∀ a x, ((![v99, v130] : Fin 2 → IVec S16 32) a x).toNat < S320x128.size a) ∧
  (∀ (k0_h32 : k0_cond32 v14 k0_t7 = 1#1), ∀ a x, ((![v99, v130] : Fin 2 → IVec S16 32) a x).toNat < S320x128.size a) ∧
  (∀ (k0_h32 : k0_cond32 v14 k0_t7 = 1#1), ∀ a x, ((![v99, v130] : Fin 2 → IVec S16 32) a x).toNat < S320x128.size a) ∧
  (∀ (k0_h32 : k0_cond32 v14 k0_t7 = 1#1), ∀ a x, ((![v99, v130] : Fin 2 → IVec S16 32) a x).toNat < S320x128.size a)
theorem k0_idx1580_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v100, v130] : Fin 2 → IVec S16 32) a x).toNat < S16x128.size a := fun v14 k0_t7 v99 v100 v130 k0_hw320 k0_h32 => k0_hw320.1 k0_h32
theorem k0_idx1581_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v99, v130] : Fin 2 → IVec S16 32) a x).toNat < S320x128.size a := fun v14 k0_t7 v99 v100 v130 k0_hw320 k0_h32 => k0_hw320.2.1 k0_h32
theorem k0_idx1582_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v99, v130] : Fin 2 → IVec S16 32) a x).toNat < S320x128.size a := fun v14 k0_t7 v99 v100 v130 k0_hw320 k0_h32 => k0_hw320.2.2.1 k0_h32
theorem k0_idx1583_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v99, v130] : Fin 2 → IVec S16 32) a x).toNat < S320x128.size a := fun v14 k0_t7 v99 v100 v130 k0_hw320 k0_h32 => k0_hw320.2.2.2.1 k0_h32
theorem k0_idx1584_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v99, v130] : Fin 2 → IVec S16 32) a x).toNat < S320x128.size a := fun v14 k0_t7 v99 v100 v130 k0_hw320 k0_h32 => k0_hw320.2.2.2.2.1 k0_h32
theorem k0_idx1585_inb : ∀ (v14 : BitVec 32) (k0_t7 : Fin (k0_t7_loop v14).trips) (v99 : IVec S16 32) (v100 : IVec S16 32) (v130 : IVec S16 32) (k0_hw320 : k0_chk320 v14 k0_t7 v99 v100 v130), ∀ (k0_h32 : k0_cond32 v14 k0_t7 = 1#1), ∀ a x, ((![v99, v130] : Fin 2 → IVec S16 32) a x).toNat < S320x128.size a := fun v14 k0_t7 v99 v100 v130 k0_hw320 k0_h32 => k0_hw320.2.2.2.2.2 k0_h32

def k0_chk321 (v14 : BitVec 32) (k0_t7 : Fin (k0_t7_loop v14).trips) (v99 : IVec S16 32) (v100 : IVec S16 32) (v137 : IVec S16 32) : Prop :=
  (∀ (k0_h32 : k0_cond32 v14 k0_t7 = 1#1), ∀ a x, ((![v100, v137] : Fin 2 → IVec S16 32) a x).toNat < S16x128.size a) ∧
  (∀ (k0_h32 : k0_cond32 v14 k0_t7 = 1#1), ∀ a x, ((![v99, v137] : Fin 2 → IVec S16 32) a x).toNat < S320x128.size a) ∧
  (∀ (k0_h32 : k0_cond32 v14 k0_t7 = 1#1), ∀ a x, ((![v99, v137] : Fin 2 → IVec S16 32) a x).toNat < S320x128.size a) ∧
  (∀ (k0_h32 : k0_cond32 v14 k0_t7 = 1#1), ∀ a x, ((![v99, v137] : Fin 2 → IVec S16 32) a x).toNat < S320x128.size a) ∧
  (∀ (k0_h32 : k0_cond32 v14 k0_t7 = 1#1), ∀ a x, ((![v99, v137] : Fin 2 → IVec S16 32) a x).toNat < S320x128.size a) ∧
  (∀ (k0_h32 : k0_cond32 v14 k0_t7 = 1#1), ∀ a x, ((![v99, v137] : Fin 2 → IVec S16 32) a x).toNat < S320x128.size a)
theorem k0_idx1586_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v100, v137] : Fin 2 → IVec S16 32) a x).toNat < S16x128.size a := fun v14 k0_t7 v99 v100 v137 k0_hw321 k0_h32 => k0_hw321.1 k0_h32
theorem k0_idx1587_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v99, v137] : Fin 2 → IVec S16 32) a x).toNat < S320x128.size a := fun v14 k0_t7 v99 v100 v137 k0_hw321 k0_h32 => k0_hw321.2.1 k0_h32
theorem k0_idx1588_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v99, v137] : Fin 2 → IVec S16 32) a x).toNat < S320x128.size a := fun v14 k0_t7 v99 v100 v137 k0_hw321 k0_h32 => k0_hw321.2.2.1 k0_h32
theorem k0_idx1589_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v99, v137] : Fin 2 → IVec S16 32) a x).toNat < S320x128.size a := fun v14 k0_t7 v99 v100 v137 k0_hw321 k0_h32 => k0_hw321.2.2.2.1 k0_h32
theorem k0_idx1590_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v99, v137] : Fin 2 → IVec S16 32) a x).toNat < S320x128.size a := fun v14 k0_t7 v99 v100 v137 k0_hw321 k0_h32 => k0_hw321.2.2.2.2.1 k0_h32
theorem k0_idx1591_inb : ∀ (v14 : BitVec 32) (k0_t7 : Fin (k0_t7_loop v14).trips) (v99 : IVec S16 32) (v100 : IVec S16 32) (v137 : IVec S16 32) (k0_hw321 : k0_chk321 v14 k0_t7 v99 v100 v137), ∀ (k0_h32 : k0_cond32 v14 k0_t7 = 1#1), ∀ a x, ((![v99, v137] : Fin 2 → IVec S16 32) a x).toNat < S320x128.size a := fun v14 k0_t7 v99 v100 v137 k0_hw321 k0_h32 => k0_hw321.2.2.2.2.2 k0_h32

def k0_chk322 (v14 : BitVec 32) (k0_t7 : Fin (k0_t7_loop v14).trips) (v99 : IVec S16 32) (v100 : IVec S16 32) (v144 : IVec S16 32) : Prop :=
  (∀ (k0_h32 : k0_cond32 v14 k0_t7 = 1#1), ∀ a x, ((![v100, v144] : Fin 2 → IVec S16 32) a x).toNat < S16x128.size a) ∧
  (∀ (k0_h32 : k0_cond32 v14 k0_t7 = 1#1), ∀ a x, ((![v99, v144] : Fin 2 → IVec S16 32) a x).toNat < S320x128.size a) ∧
  (∀ (k0_h32 : k0_cond32 v14 k0_t7 = 1#1), ∀ a x, ((![v99, v144] : Fin 2 → IVec S16 32) a x).toNat < S320x128.size a) ∧
  (∀ (k0_h32 : k0_cond32 v14 k0_t7 = 1#1), ∀ a x, ((![v99, v144] : Fin 2 → IVec S16 32) a x).toNat < S320x128.size a) ∧
  (∀ (k0_h32 : k0_cond32 v14 k0_t7 = 1#1), ∀ a x, ((![v99, v144] : Fin 2 → IVec S16 32) a x).toNat < S320x128.size a) ∧
  (∀ (k0_h32 : k0_cond32 v14 k0_t7 = 1#1), ∀ a x, ((![v99, v144] : Fin 2 → IVec S16 32) a x).toNat < S320x128.size a)
theorem k0_idx1592_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v100, v144] : Fin 2 → IVec S16 32) a x).toNat < S16x128.size a := fun v14 k0_t7 v99 v100 v144 k0_hw322 k0_h32 => k0_hw322.1 k0_h32
theorem k0_idx1593_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v99, v144] : Fin 2 → IVec S16 32) a x).toNat < S320x128.size a := fun v14 k0_t7 v99 v100 v144 k0_hw322 k0_h32 => k0_hw322.2.1 k0_h32
theorem k0_idx1594_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v99, v144] : Fin 2 → IVec S16 32) a x).toNat < S320x128.size a := fun v14 k0_t7 v99 v100 v144 k0_hw322 k0_h32 => k0_hw322.2.2.1 k0_h32
theorem k0_idx1595_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v99, v144] : Fin 2 → IVec S16 32) a x).toNat < S320x128.size a := fun v14 k0_t7 v99 v100 v144 k0_hw322 k0_h32 => k0_hw322.2.2.2.1 k0_h32
theorem k0_idx1596_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v99, v144] : Fin 2 → IVec S16 32) a x).toNat < S320x128.size a := fun v14 k0_t7 v99 v100 v144 k0_hw322 k0_h32 => k0_hw322.2.2.2.2.1 k0_h32
theorem k0_idx1597_inb : ∀ (v14 : BitVec 32) (k0_t7 : Fin (k0_t7_loop v14).trips) (v99 : IVec S16 32) (v100 : IVec S16 32) (v144 : IVec S16 32) (k0_hw322 : k0_chk322 v14 k0_t7 v99 v100 v144), ∀ (k0_h32 : k0_cond32 v14 k0_t7 = 1#1), ∀ a x, ((![v99, v144] : Fin 2 → IVec S16 32) a x).toNat < S320x128.size a := fun v14 k0_t7 v99 v100 v144 k0_hw322 k0_h32 => k0_hw322.2.2.2.2.2 k0_h32

def k0_chk323 (v14 : BitVec 32) (k0_t7 : Fin (k0_t7_loop v14).trips) (v99 : IVec S16 32) (v100 : IVec S16 32) (v151 : IVec S16 32) : Prop :=
  (∀ (k0_h32 : k0_cond32 v14 k0_t7 = 1#1), ∀ a x, ((![v100, v151] : Fin 2 → IVec S16 32) a x).toNat < S16x128.size a) ∧
  (∀ (k0_h32 : k0_cond32 v14 k0_t7 = 1#1), ∀ a x, ((![v99, v151] : Fin 2 → IVec S16 32) a x).toNat < S320x128.size a) ∧
  (∀ (k0_h32 : k0_cond32 v14 k0_t7 = 1#1), ∀ a x, ((![v99, v151] : Fin 2 → IVec S16 32) a x).toNat < S320x128.size a) ∧
  (∀ (k0_h32 : k0_cond32 v14 k0_t7 = 1#1), ∀ a x, ((![v99, v151] : Fin 2 → IVec S16 32) a x).toNat < S320x128.size a) ∧
  (∀ (k0_h32 : k0_cond32 v14 k0_t7 = 1#1), ∀ a x, ((![v99, v151] : Fin 2 → IVec S16 32) a x).toNat < S320x128.size a) ∧
  (∀ (k0_h32 : k0_cond32 v14 k0_t7 = 1#1), ∀ a x, ((![v99, v151] : Fin 2 → IVec S16 32) a x).toNat < S320x128.size a)
theorem k0_idx1598_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v100, v151] : Fin 2 → IVec S16 32) a x).toNat < S16x128.size a := fun v14 k0_t7 v99 v100 v151 k0_hw323 k0_h32 => k0_hw323.1 k0_h32
theorem k0_idx1599_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v99, v151] : Fin 2 → IVec S16 32) a x).toNat < S320x128.size a := fun v14 k0_t7 v99 v100 v151 k0_hw323 k0_h32 => k0_hw323.2.1 k0_h32
theorem k0_idx1600_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v99, v151] : Fin 2 → IVec S16 32) a x).toNat < S320x128.size a := fun v14 k0_t7 v99 v100 v151 k0_hw323 k0_h32 => k0_hw323.2.2.1 k0_h32
theorem k0_idx1601_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v99, v151] : Fin 2 → IVec S16 32) a x).toNat < S320x128.size a := fun v14 k0_t7 v99 v100 v151 k0_hw323 k0_h32 => k0_hw323.2.2.2.1 k0_h32
theorem k0_idx1602_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v99, v151] : Fin 2 → IVec S16 32) a x).toNat < S320x128.size a := fun v14 k0_t7 v99 v100 v151 k0_hw323 k0_h32 => k0_hw323.2.2.2.2.1 k0_h32
theorem k0_idx1603_inb : ∀ (v14 : BitVec 32) (k0_t7 : Fin (k0_t7_loop v14).trips) (v99 : IVec S16 32) (v100 : IVec S16 32) (v151 : IVec S16 32) (k0_hw323 : k0_chk323 v14 k0_t7 v99 v100 v151), ∀ (k0_h32 : k0_cond32 v14 k0_t7 = 1#1), ∀ a x, ((![v99, v151] : Fin 2 → IVec S16 32) a x).toNat < S320x128.size a := fun v14 k0_t7 v99 v100 v151 k0_hw323 k0_h32 => k0_hw323.2.2.2.2.2 k0_h32

def k0_chk324 (v14 : BitVec 32) (k0_t7 : Fin (k0_t7_loop v14).trips) (v99 : IVec S16 32) : Prop :=
  (∀ (k0_h32 : k0_cond32 v14 k0_t7 = 1#1), ∀ a x, ((![v99] : Fin 1 → IVec S16 32) a x).toNat < S320.size a)
theorem k0_idx1604_inb : ∀ (v14 : BitVec 32) (k0_t7 : Fin (k0_t7_loop v14).trips) (v99 : IVec S16 32) (k0_hw324 : k0_chk324 v14 k0_t7 v99), ∀ (k0_h32 : k0_cond32 v14 k0_t7 = 1#1), ∀ a x, ((![v99] : Fin 1 → IVec S16 32) a x).toNat < S320.size a := fun v14 k0_t7 v99 k0_hw324 k0_h32 => k0_hw324 k0_h32
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_17_r2 : BitVec 32 := 0#32
  ![v2.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r5 : BitVec 32 := 0#32
  ![v1.toNat, 0]
abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1152x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "highest" => some ⊤
  | "inv_avg" => some ((524288 / 1833173 : ℝ) : EReal)
  | "inv_n" => some ((1 / 10000 : ℝ) : EReal)
  | "lowest" => some ⊥
  | _ => none
-- ==== ReferenceIdeal.lean ====
abbrev S10000x128 : Shape := ⟨2, ![10000, 128]⟩
abbrev S2x320000 : Shape := ⟨2, ![2, 320000]⟩
abbrev S320000x4 : Shape := ⟨2, ![320000, 4]⟩
abbrev S10000x1 : Shape := ⟨2, ![10000, 1]⟩
abbrev S1152x128 : Shape := ⟨2, ![1152, 128]⟩
abbrev S128 : Shape := ⟨1, ![128]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S10000 : Shape := ⟨1, ![10000]⟩
abbrev S10000x320000 : Shape := ⟨2, ![10000, 320000]⟩
abbrev S10000x320000x1 : Shape := ⟨3, ![10000, 320000, 1]⟩
abbrev S1x320000x128 : Shape := ⟨3, ![1, 320000, 128]⟩
abbrev S_ : Shape := ⟨0, ![]⟩
abbrev S10000x320000x128 : Shape := ⟨3, ![10000, 320000, 128]⟩
abbrev S10000x384 : Shape := ⟨2, ![10000, 384]⟩
abbrev S10000x1152 : Shape := ⟨2, ![10000, 1152]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S10000x128, .f32⟩
  | 1 => ⟨S2x320000, .i32⟩
  | 2 => ⟨S320000x4, .f32⟩
  | 3 => ⟨S10000x1, .f32⟩
  | 4 => ⟨S1152x128, .f32⟩
  | 5 => ⟨S128, .f32⟩
  | 6 => ⟨S128, .f32⟩
  | 7 => ⟨S128, .f32⟩
  | 8 => ⟨S1x320000, .i32⟩
  | 9 => ⟨S320000, .i32⟩
  | 10 => ⟨S1x320000, .i32⟩
  | 11 => ⟨S320000, .i32⟩
  | 12 => ⟨S320000x1, .i32⟩
  | 13 => ⟨S320000x128, .f32⟩
  | 14 => ⟨S1x320000, .i32⟩
  | 15 => ⟨S10000, .i32⟩
  | 16 => ⟨S10000x1, .i32⟩
  | 17 => ⟨S10000x320000, .i32⟩
  | 18 => ⟨S10000x320000, .i32⟩
  | 19 => ⟨S10000x320000, .i1⟩
  | 20 => ⟨S10000x320000x1, .i1⟩
  | 21 => ⟨S1x320000x128, .f32⟩
  | 22 => ⟨S_, .f32⟩
  | 23 => ⟨S_, .f32⟩
  | 24 => ⟨S10000x320000x128, .i1⟩
  | 25 => ⟨S10000x320000x128, .f32⟩
  | 26 => ⟨S10000x320000x128, .f32⟩
  | 27 => ⟨S10000x320000x128, .f32⟩
  | 28 => ⟨S_, .f32⟩
  | 29 => ⟨S10000x128, .f32⟩
  | 30 => ⟨S10000x320000x1, .i1⟩
  | 31 => ⟨S1x320000x128, .f32⟩
  | 32 => ⟨S_, .f32⟩
  | 33 => ⟨S_, .f32⟩
  | 34 => ⟨S10000x320000x128, .i1⟩
  | 35 => ⟨S10000x320000x128, .f32⟩
  | 36 => ⟨S10000x320000x128, .f32⟩
  | 37 => ⟨S10000x320000x128, .f32⟩
  | 38 => ⟨S_, .f32⟩
  | 39 => ⟨S10000x128, .f32⟩
  | 40 => ⟨S10000x320000x1, .i1⟩
  | 41 => ⟨S1x320000x128, .f32⟩
  | 42 => ⟨S_, .f32⟩
  | 43 => ⟨S_, .f32⟩
  | 44 => ⟨S10000x320000x128, .i1⟩
  | 45 => ⟨S10000x320000x128, .f32⟩
  | 46 => ⟨S10000x320000x128, .f32⟩
  | 47 => ⟨S10000x320000x128, .f32⟩
  | 48 => ⟨S_, .f32⟩
  | 49 => ⟨S10000x128, .f32⟩
  | 50 => ⟨S_, .f32⟩
  | 51 => ⟨S_, .f32⟩
  | 52 => ⟨S10000x320000, .f32⟩
  | 53 => ⟨S10000x320000, .f32⟩
  | 54 => ⟨S10000x320000, .f32⟩
  | 55 => ⟨S10000x320000, .f32⟩
  | 56 => ⟨S_, .f32⟩
  | 57 => ⟨S10000, .f32⟩
  | 58 => ⟨S10000x1, .f32⟩
  | 59 => ⟨S_, .f32⟩
  | 60 => ⟨S10000x1, .f32⟩
  | 61 => ⟨S10000x1, .f32⟩
  | 62 => ⟨S10000x128, .f32⟩
  | 63 => ⟨S10000x128, .f32⟩
  | 64 => ⟨S_, .f32⟩
  | 65 => ⟨S10000x1, .f32⟩
  | 66 => ⟨S10000x1, .i1⟩
  | 67 => ⟨S_, .f32⟩
  | 68 => ⟨S_, .f32⟩
  | 69 => ⟨S10000x128, .i1⟩
  | 70 => ⟨S10000x128, .f32⟩
  | 71 => ⟨S10000x128, .f32⟩
  | 72 => ⟨S_, .f32⟩
  | 73 => ⟨S10000x1, .f32⟩
  | 74 => ⟨S10000x1, .i1⟩
  | 75 => ⟨S_, .f32⟩
  | 76 => ⟨S_, .f32⟩
  | 77 => ⟨S10000x128, .i1⟩
  | 78 => ⟨S10000x128, .f32⟩
  | 79 => ⟨S10000x128, .f32⟩
  | 80 => ⟨S10000x384, .f32⟩
  | 81 => ⟨S_, .f32⟩
  | 82 => ⟨S10000x1, .f32⟩
  | 83 => ⟨S10000x1, .f32⟩
  | 84 => ⟨S10000x1, .f32⟩
  | 85 => ⟨S_, .f32⟩
  | 86 => ⟨S10000x1, .f32⟩
  | 87 => ⟨S10000x1, .f32⟩
  | 88 => ⟨S10000x384, .f32⟩
  | 89 => ⟨S10000x384, .f32⟩
  | 90 => ⟨S_, .f32⟩
  | 91 => ⟨S10000x1, .f32⟩
  | 92 => ⟨S10000x1, .f32⟩
  | 93 => ⟨S_, .f32⟩
  | 94 => ⟨S10000x1, .f32⟩
  | 95 => ⟨S10000x1, .f32⟩
  | 96 => ⟨S10000x384, .f32⟩
  | 97 => ⟨S10000x384, .f32⟩
  | 98 => ⟨S10000x1152, .f32⟩
  | 99 => ⟨S10000x128, .f32⟩
  | 100 => ⟨S1x128, .f32⟩
  | 101 => ⟨S10000x128, .f32⟩
  | 102 => ⟨S10000x128, .f32⟩
  | 103 => ⟨S10000x128, .f32⟩
  | 104 => ⟨S10000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S10000x128, .f32⟩
  | 112 => ⟨S10000x128, .f32⟩
  | 113 => ⟨S10000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S10000x128, .f32⟩
  | 121 => ⟨S10000x128, .f32⟩
  | 122 => ⟨S_, .f32⟩
  | 123 => ⟨S128, .f32⟩
  | 124 => ⟨S128, .f32⟩
  | 125 => ⟨S128, .f32⟩
  | 126 => ⟨S1x128, .f32⟩
  | 127 => ⟨S10000x128, .f32⟩
  | _ => ⟨S10000x128, .f32⟩

abbrev hbmTy0_1 (i : Nat) : BufTy := match i % 128 with
  | 0 => ⟨S10000x128, .f32⟩
  | 1 => ⟨S1x128, .f32⟩
  | 2 => ⟨S10000x128, .f32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_cst_5 : Ref sig .tc := ⟨.hbm, 50, rfl⟩
abbrev main_cst_6 : Ref sig .tc := ⟨.hbm, 51, rfl⟩
abbrev main_call4_v0 : Ref sig .tc := ⟨.hbm, 52, rfl⟩
abbrev main_call4_v1 : Ref sig .tc := ⟨.hbm, 53, rfl⟩
abbrev main_v23 : Ref sig .tc := ⟨.hbm, 54, rfl⟩
abbrev main_v24 : Ref sig .tc := ⟨.hbm, 55, rfl⟩
abbrev main_cst_7 : Ref sig .tc := ⟨.hbm, 56, rfl⟩
abbrev main_v25 : Ref sig .tc := ⟨.hbm, 57, rfl⟩
abbrev main_v26 : Ref sig .tc := ⟨.hbm, 58, rfl⟩
abbrev main_cst_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_9 : Ref sig .tc := ⟨.hbm, 64, rfl⟩
abbrev main_v31 : Ref sig .tc := ⟨.hbm, 65, rfl⟩
abbrev main_v32 : Ref sig .tc := ⟨.hbm, 66, rfl⟩
abbrev main_cst_10 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_v33 : Ref sig .tc := ⟨.hbm, 71, rfl⟩
abbrev main_cst_11 : Ref sig .tc := ⟨.hbm, 72, rfl⟩
abbrev main_v34 : Ref sig .tc := ⟨.hbm, 73, rfl⟩
abbrev main_v35 : Ref sig .tc := ⟨.hbm, 74, rfl⟩
abbrev main_cst_12 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v36 : Ref sig .tc := ⟨.hbm, 79, rfl⟩
abbrev main_v37 : Ref sig .tc := ⟨.hbm, 80, rfl⟩
abbrev main_cst_13 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_14 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_15 : Ref sig .tc := ⟨.hbm, 90, rfl⟩
abbrev main_v45 : Ref sig .tc := ⟨.hbm, 91, rfl⟩
abbrev main_v46 : Ref sig .tc := ⟨.hbm, 92, rfl⟩
abbrev main_cst_16 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_17 : Ref sig .tc := ⟨.hbm, 105, rfl⟩
abbrev main_v58 : Ref sig .tc := ⟨.hbm, 106, rfl⟩
abbrev main_cst_18 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_19 : Ref sig .tc := ⟨.hbm, 114, rfl⟩
abbrev main_v65 : Ref sig .tc := ⟨.hbm, 115, rfl⟩
abbrev main_cst_20 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_21 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_22 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩

abbrev nD : Nat := 1
abbrev τ : Topo := Topo.v7x

variable {F : FTy → Type} [FloatOps F]
-- ==== Layer.lean ====
abbrev S10000x128 : Shape := ⟨2, ![10000, 128]⟩
abbrev S10000x1 : Shape := ⟨2, ![10000, 1]⟩
abbrev S1152x128 : Shape := ⟨2, ![1152, 128]⟩
abbrev S128 : Shape := ⟨1, ![128]⟩
abbrev S1x128 : Shape := ⟨2, ![1, 128]⟩
abbrev S1000x128 : Shape := ⟨2, ![1000, 128]⟩
abbrev S1000x1 : Shape := ⟨2, ![1000, 1]⟩
abbrev S1000x384 : Shape := ⟨2, ![1000, 384]⟩
abbrev S384x128 : Shape := ⟨2, ![384, 128]⟩

abbrev nBuf : Space → Nat
  | .hbm => 17
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x1, .f32⟩
  | .hbm, ⟨4, _⟩ => ⟨S10000x128, .f32⟩
  | .hbm, ⟨5, _⟩ => ⟨S10000x1, .f32⟩
  | .hbm, ⟨6, _⟩ => ⟨S1152x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S10000x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1152x128, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== LayerIdeal.lean ====
variable {F : FTy → Type} [FloatOps F] [Named F]
def κ : String → Option EReal := fun
  | "inv_avg" => some ((524288 / 1833173 : ℝ) : EReal)
  | "inv_n" => some ((1 / 10000 : ℝ) : EReal)
  | _ => none
-- ==== LayerReferenceIdeal.lean ====
abbrev S10000x128 : Shape := ⟨2, ![10000, 128]⟩
abbrev S10000x1 : Shape := ⟨2, ![10000, 1]⟩
abbrev S1152x128 : Shape := ⟨2, ![1152, 128]⟩
abbrev S128 : Shape := ⟨1, ![128]⟩
abbrev S_ : Shape := ⟨0, ![]⟩
abbrev S10000x384 : Shape := ⟨2, ![10000, 384]⟩
abbrev S10000x1152 : Shape := ⟨2, ![10000, 1152]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x1, .f32⟩
  | .hbm, ⟨4, _⟩ => ⟨S10000x128, .f32⟩
  | .hbm, ⟨5, _⟩ => ⟨S10000x1, .f32⟩
  | .hbm, ⟨6, _⟩ => ⟨S1152x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x1, .f32⟩
  | .hbm, ⟨17, _⟩ => ⟨S10000x1, .i1⟩
  | .hbm, ⟨18, _⟩ => ⟨S_, .f32⟩
  | .hbm, ⟨19, _⟩ => ⟨S_, .f32⟩
  | .hbm, ⟨20, _⟩ => ⟨S10000x128, .i1⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x1, .f32⟩
  | .hbm, ⟨25, _⟩ => ⟨S10000x1, .i1⟩
  | .hbm, ⟨26, _⟩ => ⟨S_, .f32⟩
  | .hbm, ⟨27, _⟩ => ⟨S_, .f32⟩
  | .hbm, ⟨28, _⟩ => ⟨S10000x128, .i1⟩
  | .hbm, ⟨29, _⟩ => ⟨S10000x128, .f32⟩
  | .hbm, ⟨30, _⟩ => ⟨S10000x128, .f32⟩
  | .hbm, ⟨31, _⟩ => ⟨S10000x384, .f32⟩
  | .hbm, ⟨32, _⟩ => ⟨S_, .f32⟩
  | .hbm, ⟨33, _⟩ => ⟨S10000x1, .f32⟩
  | .hbm, ⟨34, _⟩ => ⟨S10000x1, .f32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x384, .f32⟩
  | .hbm, ⟨40, _⟩ => ⟨S10000x384, .f32⟩
  | .hbm, ⟨41, _⟩ => ⟨S_, .f32⟩
  | .hbm, ⟨42, _⟩ => ⟨S10000x1, .f32⟩
  | .hbm, ⟨43, _⟩ => ⟨S10000x1, .f32⟩
  | .hbm, ⟨44, _⟩ => ⟨S_, .f32⟩
  | .hbm, ⟨45, _⟩ => ⟨S10000x1, .f32⟩
  | .hbm, ⟨46, _⟩ => ⟨S10000x1, .f32⟩
  | .hbm, ⟨47, _⟩ => ⟨S10000x384, .f32⟩
  | .hbm, ⟨48, _⟩ => ⟨S10000x384, .f32⟩
  | .hbm, ⟨49, _⟩ => ⟨S10000x1152, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S10000x128, .f32⟩
  | .hbm, ⟨79, _⟩ => ⟨S10000x128, .f32⟩
  | .hbm, ⟨80, _⟩ => ⟨S1x128, .f32⟩
  | .hbm, ⟨81, _⟩ => ⟨S10000x128, .f32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S_, .f32⟩
  | .hbm, ⟨87, _⟩ => ⟨S10000x128, .f32⟩
  | .hbm, ⟨88, _⟩ => ⟨S10000x128, .f32⟩
  | .hbm, ⟨89, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Proof.Lanes.lean ====
/-
  Sixteen lanes at a time: what the kernel's indexed stores and its prefix sum leave behind.

  * `storeIdx_at` reads an indexed store at one element, as a fold over the lanes.
  * `row_store` and `row_add`: a store of one group of sixteen columns of one row.
  * `seg M a n`: the edges of `[a, a + n)` that match `M`, in order; `scan_sum`, `scan_max` read the kernel's
    two scans over the matching lanes, `stage_store` the masked store that appends the matching lanes to a list.
-/
module

public import Idealize.ShloMosaic.Lib.Exec
public import Idealize.ShloMosaic.Lib.Tactic

@[expose] public section

noncomputable section

namespace Cert.Proof.Agg

open Idealize.ShloMosaic

variable {F : FTy → Type}

abbrev L16 : Shape := ⟨1, ![16]⟩

/-- Lane `k` of a vector of sixteen. -/
def lane (k : Fin 16) : L16.Idx := Shape.ofLane (d := ![16]) k

theorem lane_val (k : Fin 16) (a : Fin 1) : (lane k a).val = k.val := rfl

theorem eq_lane (x : L16.Idx) : x = lane (x 0) := by
  funext a; obtain rfl := Fin.eq_zero a; rfl

section Store

variable [FloatOps F] {s : Shape} {e : EltTy}

omit [FloatOps F] in
theorem foldl_eval {ι α β : Type} (j : ι) (S : (ι → β) → α → (ι → β)) (T : β → α → β) (h : ∀ g k, S g k j = T (g j) k)
    (l : List α) (f : ι → β) : (l.foldl S f) j = l.foldl T (f j) := by
  induction l generalizing f with
  | nil => rfl
  | cons k l ih => rw [List.foldl_cons, List.foldl_cons, ih, h]

/-- An indexed store read at one element: the lanes that name it, in order. -/
theorem storeIdx_at (f : Vec F s e) (idxs : Fin s.rank → IVec L16 32) (v : Vec F L16 e) (mask : IVec L16 1) (add : Bool)
    (h : ∀ a x, (idxs a x).toNat < s.size a) (j : s.Idx) :
    storeIdx f idxs v mask add h j = (List.finRange 16).foldl (fun b k =>
      if mask (lane k) = 1 ∧ ∀ a, (j a).val = (idxs a (lane k)).toNat then
        (if add then Elt.idxAdd e b (v (lane k)) else v (lane k)) else b) (f j) := by
  refine foldl_eval (ι := s.Idx) (β := Elt F e) (α := Fin 16) j _ _ (fun g k => ?_) (List.finRange 16) f
  by_cases hm : mask (lane k) = 1
  · have hm' : mask (Shape.ofLane (d := ![16]) k) = 1 := hm
    simp only [hm, hm', if_true, true_and]
    by_cases hj : ∀ a, (j a).val = (idxs a (lane k)).toNat
    · have hj' : ∀ a, (j a).val = (idxAt idxs h (Shape.ofLane (d := ![16]) k) a).val := hj
      have : idxAt idxs h (Shape.ofLane (d := ![16]) k) = j := funext fun a => Fin.ext (hj' a).symm
      exact (if_pos hj').trans (by rw [if_pos hj, this]; rfl)
    · have hj' : ¬ ∀ a, (j a).val = (idxAt idxs h (Shape.ofLane (d := ![16]) k) a).val := hj
      exact (if_neg hj').trans (by rw [if_neg hj])
  · have hm' : ¬ mask (Shape.ofLane (d := ![16]) k) = 1 := hm
    simp only [hm, hm', if_false, false_and]

omit [FloatOps F] in
theorem foldl_none {α β : Type} (l : List α) (p : α → Prop) [DecidablePred p] (u : β → α → β) (b : β)
    (hn : ∀ k ∈ l, ¬ p k) : l.foldl (fun b k => if p k then u b k else b) b = b := by
  induction l generalizing b with
  | nil => rfl
  | cons k l ih =>
    rw [List.foldl_cons, if_neg (hn k List.mem_cons_self)]
    exact ih b fun k' hk' => hn k' (List.mem_cons_of_mem _ hk')

omit [FloatOps F] in
theorem foldl_one {α β : Type} (l : List α) (hl : l.Nodup) (p : α → Prop) [DecidablePred p] (u : β → α → β) (b : β)
    (k₀ : α) (hk₀ : k₀ ∈ l) (hp : ∀ k, p k ↔ k = k₀) : l.foldl (fun b k => if p k then u b k else b) b = u b k₀ := by
  induction l generalizing b with
  | nil => cases hk₀
  | cons k l ih =>
    rw [List.foldl_cons]
    rcases List.nodup_cons.1 hl with ⟨hkl, hl'⟩
    by_cases hk : k = k₀
    · subst hk
      rw [if_pos ((hp _).2 rfl)]
      exact foldl_none l p u _ fun k' hk' h => hkl ((hp k').1 h ▸ hk')
    · rw [if_neg fun h => hk ((hp k).1 h)]
      exact ih hl' b (by rcases List.mem_cons.1 hk₀ with h | h; exact absurd h.symm hk; exact h)

/-- A store whose lanes name one row and sixteen consecutive columns. -/
theorem row_store {n : ℕ} (f : Vec F ⟨2, ![n, 128]⟩ e) (ri ci : IVec L16 32) (v : Vec F L16 e) (add : Bool)
    (h : ∀ a x, ((![ri, ci] : Fin 2 → IVec L16 32) a x).toNat < (⟨2, ![n, 128]⟩ : Shape).size a)
    (r c : ℕ) (hr : ∀ k, (ri (lane k)).toNat = r) (hc : ∀ k : Fin 16, (ci (lane k)).toNat = c + k.val)
    (j : (⟨2, ![n, 128]⟩ : Shape).Idx) :
    storeIdx f ![ri, ci] v (fun _ => 1#1) add h j =
      if hj : (j 0).val = r ∧ c ≤ (j 1).val ∧ (j 1).val < c + 16 then
        (if add then Elt.idxAdd e (f j) (v (lane ⟨(j 1).val - c, by omega⟩)) else v (lane ⟨(j 1).val - c, by omega⟩))
      else f j := by
  rw [storeIdx_at]
  have key : ∀ k : Fin 16, ((1#1 : BitVec 1) = 1 ∧ ∀ a : Fin 2, (j a).val = ((![ri, ci] : Fin 2 → IVec L16 32) a (lane k)).toNat)
      ↔ ((j 0).val = r ∧ (j 1).val = c + k.val) := by
    intro k
    constructor
    · rintro ⟨-, h2⟩
      exact ⟨(h2 0).trans (hr k), (h2 1).trans (hc k)⟩
    · rintro ⟨h0, h1⟩
      refine ⟨rfl, fun a => ?_⟩
      match a with
      | 0 => exact h0.trans (hr k).symm
      | 1 => exact h1.trans (hc k).symm
  by_cases hj : (j 0).val = r ∧ c ≤ (j 1).val ∧ (j 1).val < c + 16
  · rw [dif_pos hj]
    refine foldl_one (List.finRange 16) (List.nodup_finRange 16) _ _ (f j) ⟨(j 1).val - c, by omega⟩ (List.mem_finRange _) ?_
    intro k
    refine (key k).trans ⟨fun ⟨_, h1⟩ => Fin.ext (by simp only; omega), fun hk => ⟨hj.1, ?_⟩⟩
    have := congrArg Fin.val hk
    simp only at this; omega
  · rw [dif_neg hj]
    refine foldl_none (List.finRange 16) _ (fun b k => if add then Elt.idxAdd e b (v (lane k)) else v (lane k)) (f j) ?_
    intro k _ hk
    have := (key k).1 hk
    exact hj ⟨this.1, by omega, by omega⟩

/-- An adding store of one lane alone. -/
theorem lane0_add {n : ℕ} (f : Vec F ⟨1, ![n]⟩ e) (ri : IVec L16 32) (v : Vec F L16 e) (mask : IVec L16 1)
    (h : ∀ a x, ((![ri] : Fin 1 → IVec L16 32) a x).toNat < (⟨1, ![n]⟩ : Shape).size a)
    (r : ℕ) (hr : ∀ k, (ri (lane k)).toNat = r) (hm : ∀ k : Fin 16, mask (lane k) = 1 ↔ k = 0)
    (j : (⟨1, ![n]⟩ : Shape).Idx) :
    storeIdx f ![ri] v mask true h j = if (j 0).val = r then Elt.idxAdd e (f j) (v (lane 0)) else f j := by
  rw [storeIdx_at]
  have key : ∀ k : Fin 16, (mask (lane k) = 1 ∧ ∀ a : Fin 1, (j a).val = ((![ri] : Fin 1 → IVec L16 32) a (lane k)).toNat)
      ↔ (k = 0 ∧ (j 0).val = r) := by
    intro k
    rw [hm k]
    refine and_congr_right fun _ => ⟨fun h2 => (h2 0).trans (hr k), fun h0 a => ?_⟩
    obtain rfl := Fin.eq_zero a
    exact h0.trans (hr k).symm
  by_cases hj : (j 0).val = r
  · rw [if_pos hj]
    refine foldl_one (List.finRange 16) (List.nodup_finRange 16) _ (fun b k => Elt.idxAdd e b (v (lane k))) (f j) 0 (List.mem_finRange _) ?_
    exact fun k => (key k).trans ⟨fun h => h.1, fun h => ⟨h, hj⟩⟩
  · rw [if_neg hj]
    exact foldl_none (List.finRange 16) _ (fun b k => Elt.idxAdd e b (v (lane k))) (f j) fun k _ hk => hj ((key k).1 hk).2

end Store

/-! ## The matching edges, in order -/

/-- The edges of `[a, a + n)` that match, in order. -/
def seg (M : ℕ → Bool) (a n : ℕ) : List ℕ := (List.range' a n).filter M

theorem seg_zero (M : ℕ → Bool) (a : ℕ) : seg M a 0 = [] := rfl

theorem seg_succ (M : ℕ → Bool) (a n : ℕ) : seg M a (n + 1) = seg M a n ++ (if M (a + n) then [a + n] else []) := by
  unfold seg
  rw [List.range'_1_concat, List.filter_append]
  congr 1
  by_cases h : M (a + n) <;> simp [List.filter_cons, h]

theorem seg_add (M : ℕ → Bool) (a m n : ℕ) : seg M a (m + n) = seg M a m ++ seg M (a + m) n := by
  unfold seg
  rw [← List.filter_append, List.range'_append_1]

theorem seg_length_le (M : ℕ → Bool) (a n : ℕ) : (seg M a n).length ≤ n :=
  (List.length_filter_le _ _).trans (by simp)

theorem mem_seg {M : ℕ → Bool} {a n e : ℕ} (h : e ∈ seg M a n) : M e = true ∧ a ≤ e ∧ e < a + n := by
  unfold seg at h
  rw [List.mem_filter, List.mem_range'_1] at h
  exact ⟨h.2, h.1.1, h.1.2⟩

/-! ## The scans -/

theorem scan_zero (kind : ScanKind) (v : IVec L16 32) : scan kind v (lane 0) = v (lane 0) := rfl

theorem scan_succ (kind : ScanKind) (v : IVec L16 32) (n : ℕ) (h : n + 1 < 16) :
    scan kind v (lane ⟨n + 1, h⟩) = kind.step (scan kind v (lane ⟨n, by omega⟩)) (v (lane ⟨n + 1, h⟩)) := by
  have : ∀ n : Fin 15, scan kind v (lane ⟨n.val + 1, by omega⟩) = kind.step (scan kind v (lane ⟨n.val, by omega⟩)) (v (lane ⟨n.val + 1, by omega⟩)) := by
    intro n
    fin_cases n <;> rfl
  exact this ⟨n, by omega⟩

/-- The running count of the matching lanes. -/
theorem scan_sum (M : ℕ → Bool) (a : ℕ) (v : IVec L16 32)
    (hv : ∀ k : Fin 16, v (lane k) = if M (a + k.val) then 1#32 else 0#32) (n : ℕ) (h : n < 16) :
    scan .sum v (lane ⟨n, h⟩) = BitVec.ofNat 32 (seg M a (n + 1)).length := by
  induction n with
  | zero =>
    refine (scan_zero _ _).trans ((hv 0).trans ?_)
    rw [seg_succ, seg_zero]
    show (if M (a + 0) then _ else _) = _
    split <;> rfl
  | succ n ih =>
    rw [scan_succ _ _ _ h, ih (by omega), seg_succ M a (n + 1), hv]
    show BitVec.ofNat 32 _ + _ = _
    rw [List.length_append]
    by_cases hm : M (a + (n + 1)) = true
    · rw [if_pos hm, if_pos hm, BitVec.ofNat_add]; rfl
    · rw [if_neg hm, if_neg hm]; simp

theorem count_toNat (M : ℕ → Bool) (a n : ℕ) (h : n ≤ 16) :
    (BitVec.ofNat 32 (seg M a n).length).toNat = (seg M a n).length := by
  have := seg_length_le M a n
  rw [BitVec.toNat_ofNat, Nat.mod_eq_of_lt (by omega)]

theorem xor_top (n : ℕ) (h : n < 2 ^ 31) : (BitVec.ofNat 32 n ^^^ 2147483648#32).toNat = n + 2 ^ 31 := by
  rw [BitVec.toNat_xor, BitVec.toNat_ofNat, Nat.mod_eq_of_lt (by omega)]
  show n ^^^ 2 ^ 31 = _
  refine Nat.eq_of_testBit_eq fun i => ?_
  rw [Nat.testBit_xor, Nat.testBit_two_pow, Nat.add_comm]
  rcases Nat.lt_trichotomy i 31 with hi | hi | hi
  · rw [Nat.testBit_two_pow_add_gt hi]
    simp [show ¬ 31 = i by omega]
  · subst hi
    rw [Nat.testBit_two_pow_add_eq]
    simp
  · have h1 : n.testBit i = false := Nat.testBit_lt_two_pow (h.trans (Nat.pow_lt_pow_right (by omega) hi))
    have h2 : (2 ^ 31 + n).testBit i = false := Nat.testBit_lt_two_pow
      (lt_of_lt_of_le (show 2 ^ 31 + n < 2 ^ 32 by omega) (Nat.pow_le_pow_right (by omega) (by omega)))
    rw [h1, h2]
    simp [show ¬ 31 = i by omega]

/-- The kernel's running maximum of the running count, over the words with their sign bit turned: the count itself,
    which never falls. -/
theorem scan_max (M : ℕ → Bool) (a : ℕ) (w : IVec L16 32)
    (hw : ∀ (n : ℕ) (h : n < 16), w (lane ⟨n, h⟩) = BitVec.ofNat 32 (seg M a (n + 1)).length ^^^ 2147483648#32) (n : ℕ) (h : n < 16) :
    scan .max w (lane ⟨n, h⟩) = BitVec.ofNat 32 (seg M a (n + 1)).length ^^^ 2147483648#32 := by
  induction n with
  | zero => exact (scan_zero _ _).trans (hw 0 h)
  | succ n ih =>
    rw [scan_succ _ _ _ h, ih (by omega), hw]
    show IntOp.maxui _ _ = _
    have h1 := seg_length_le M a (n + 1)
    have h2 := seg_length_le M a (n + 1 + 1)
    have h3 : (seg M a (n + 1)).length ≤ (seg M a (n + 1 + 1)).length := by rw [seg_succ M a (n + 1)]; simp
    unfold IntOp.maxui
    have t1 := xor_top (seg M a (n + 1)).length (by omega)
    have t2 := xor_top (seg M a (n + 1 + 1)).length (by omega)
    split
    · next hlt =>
      apply BitVec.eq_of_toNat_eq
      have : _ := hlt
      simp only [BitVec.lt_def, BitVec.le_def, BitVec.ult, decide_eq_true_eq, t1, t2] at this
      omega
    · rfl

theorem getElem?_concat {α : Type} {l : List α} {x : α} {p : ℕ} {e : α} (h : (l ++ [x])[p]? = some e) :
    l[p]? = some e ∨ (p = l.length ∧ e = x) := by
  rcases Nat.lt_trichotomy p l.length with hp | hp | hp
  · rw [List.getElem?_append_left hp] at h; exact .inl h
  · subst hp; rw [List.getElem?_concat_length] at h; exact .inr ⟨rfl, (Option.some.inj h).symm⟩
  · rw [List.getElem?_eq_none (by simp; omega)] at h; cases h

/-- The masked store that appends the matching lanes: what the list's entries hold afterwards. -/
theorem stage_store [FloatOps F] {N : ℕ} (M : ℕ → Bool) (val : ℕ → BitVec 32) (a n₀ : ℕ) (f : Vec F ⟨1, ![N]⟩ .i32)
    (hf : ∀ j e, (seg M a n₀)[(j 0).val]? = some e → f j = val e)
    (pos : IVec L16 32) (v : Vec F L16 .i32) (mask : IVec L16 1)
    (h : ∀ a x, ((![pos] : Fin 1 → IVec L16 32) a x).toNat < (⟨1, ![N]⟩ : Shape).size a)
    (hmask : ∀ k : Fin 16, mask (lane k) = 1 ↔ M (a + n₀ + k.val) = true)
    (hpos : ∀ k : Fin 16, M (a + n₀ + k.val) = true → (pos (lane k)).toNat = (seg M a (n₀ + k.val)).length)
    (hv : ∀ k : Fin 16, v (lane k) = val (a + n₀ + k.val))
    (j : (⟨1, ![N]⟩ : Shape).Idx) (e : ℕ) (he : (seg M a (n₀ + 16))[(j 0).val]? = some e) :
    storeIdx f ![pos] v mask false h j = val e := by
  rw [storeIdx_at]
  have main : ∀ n (hn : n ≤ 16) e, (seg M a (n₀ + n))[(j 0).val]? = some e →
      ((List.finRange 16).take n).foldl (fun b k =>
        if mask (lane k) = 1 ∧ ∀ a : Fin 1, (j a).val = ((![pos] : Fin 1 → IVec L16 32) a (lane k)).toNat then v (lane k) else b) (f j) = val e := by
    intro n
    induction n with
    | zero => intro _ e he; exact hf j e he
    | succ n ih =>
      intro hn e he
      have hlt : n < (List.finRange 16).length := by rw [List.length_finRange]; omega
      rw [List.take_succ_eq_append_getElem hlt, List.foldl_append, List.foldl_cons, List.foldl_nil, List.getElem_finRange]
      rw [← Nat.add_assoc, seg_succ, ← Nat.add_assoc] at he
      set k : Fin 16 := Fin.cast List.length_finRange ⟨n, hlt⟩ with hk
      have hkn : k.val = n := rfl
      by_cases hm : M (a + n₀ + n) = true
      · rw [if_pos hm] at he
        have hp := hpos k hm
        rcases getElem?_concat he with he | ⟨hlen, rfl⟩
        · have hlt : (j 0).val < (seg M a (n₀ + n)).length := by
            rcases List.getElem?_eq_some_iff.1 he with ⟨h, -⟩; exact h
          rw [if_neg]
          · exact ih (by omega) e he
          · rintro ⟨-, hj⟩
            have h0 : (j 0).val = (pos (lane k)).toNat := hj 0
            rw [hp, hkn] at h0; omega
        · rw [if_pos]
          · exact hv k
          · refine ⟨(hmask k).2 hm, fun a => ?_⟩
            obtain rfl := Fin.eq_zero a
            exact hlen.trans hp.symm
      · rw [if_neg hm, List.append_nil] at he
        rw [if_neg fun hh => hm ((hmask k).1 hh.1)]
        exact ih (by omega) e he
  exact main 16 le_rfl e he

/-- What holds of every entry and of every stored lane holds of every entry afterwards. -/
theorem store_all [FloatOps F] {s : Shape} {e : EltTy} (P : Elt F e → Prop) (f : Vec F s e) (hf : ∀ j, P (f j)) (idxs : Fin s.rank → IVec L16 32)
    (v : Vec F L16 e) (hv : ∀ k, P (v (lane k))) (mask : IVec L16 1) (h : ∀ a x, (idxs a x).toNat < s.size a) (j : s.Idx) :
    P (storeIdx f idxs v mask false h j) := by
  rw [storeIdx_at]
  generalize List.finRange 16 = l
  have : ∀ b, P b → P (l.foldl (fun b k =>
      if mask (lane k) = 1 ∧ ∀ a, (j a).val = (idxs a (lane k)).toNat then
        (if false = true then Elt.idxAdd e b (v (lane k)) else v (lane k)) else b) b) := by
    induction l with
    | nil => exact fun b hb => hb
    | cons k l ih =>
      intro b hb
      rw [List.foldl_cons]
      refine ih _ ?_
      split
      · exact hv k
      · exact hb
  exact this _ (hf j)

/-! ## One edge's row folded into an accumulator, sixteen columns at a time -/

/-- Row `r`, column `c` of an array of `n` rows of 128. -/
def rowAt {n : ℕ} (r : Fin n) (c : Fin 128) : (⟨2, ![n, 128]⟩ : Shape).Idx :=
  fun | 0 => r | 1 => c | ⟨_ + 2, h⟩ => absurd h (Nat.not_lt.2 (Nat.le_add_left _ _))

theorem eq_rowAt {n : ℕ} (j : (⟨2, ![n, 128]⟩ : Shape).Idx) : j = rowAt (n := n) (j 0) (j 1) := by
  funext a
  match a with
  | 0 => rfl
  | 1 => rfl

/-- Columns below `hi` of row `r` combined with row `l` of `X`. -/
def rowUpd (op : F .f32 → F .f32 → F .f32) (X : Vec F ⟨2, ![16, 128]⟩ .f32) (l : Fin 16) (r hi : ℕ) (A : Vec F ⟨2, ![320, 128]⟩ .f32) :
    Vec F ⟨2, ![320, 128]⟩ .f32 :=
  fun j => if (j 0).val = r ∧ (j 1).val < hi then op (A j) (X (rowAt (n := 16) l (j 1))) else A j

theorem rowUpd_zero (op : F .f32 → F .f32 → F .f32) (X : Vec F ⟨2, ![16, 128]⟩ .f32) (l : Fin 16) (r : ℕ) (A : Vec F ⟨2, ![320, 128]⟩ .f32) :
    rowUpd op X l r 0 A = A := by
  funext j; exact if_neg fun h => absurd h.2 (Nat.not_lt_zero _)

section Group

variable [FloatOps F] (X : Vec F ⟨2, ![16, 128]⟩ .f32) (A : Vec F ⟨2, ![320, 128]⟩ .f32) (v99 v100 w : IVec L16 32) (l : Fin 16) (r c : ℕ)
  (h99 : ∀ k, (v99 (lane k)).toNat = r) (h100 : ∀ k, (v100 (lane k)).toNat = l.val) (hw : ∀ k : Fin 16, (w (lane k)).toNat = c + k.val)
  (hX : ∀ a x, ((![v100, w] : Fin 2 → IVec L16 32) a x).toNat < (⟨2, ![16, 128]⟩ : Shape).size a)
  (hA : ∀ a x, ((![v99, w] : Fin 2 → IVec L16 32) a x).toNat < (⟨2, ![320, 128]⟩ : Shape).size a)

include h100 hw in
theorem load_row (j : (⟨2, ![320, 128]⟩ : Shape).Idx) (k : Fin 16) (hk : (j 1).val = c + k.val) :
    loadIdx X ![v100, w] hX (lane k) = X (rowAt (n := 16) l (j 1)) := by
  show X (idxAt _ _ _) = _
  congr 1
  funext a
  match a with
  | 0 => exact Fin.ext (h100 k)
  | 1 => exact Fin.ext ((hw k).trans hk.symm)

include h99 hw in
theorem load_acc (B : Vec F ⟨2, ![320, 128]⟩ .f32) (j : (⟨2, ![320, 128]⟩ : Shape).Idx) (h0 : (j 0).val = r) (k : Fin 16) (hk : (j 1).val = c + k.val) :
    loadIdx B ![v99, w] hA (lane k) = B j := by
  show B (idxAt _ _ _) = _
  congr 1
  funext a
  match a with
  | 0 => exact Fin.ext ((h99 k).trans h0.symm)
  | 1 => exact Fin.ext ((hw k).trans hk.symm)

include h99 h100 hw in
/-- A group's store of the combined values. -/
theorem upd_store (op : F .f32 → F .f32 → F .f32) :
    storeIdx (e := .f32) (rowUpd op X l r c A) ![v99, w]
      (fun x => op (loadIdx (rowUpd op X l r c A) ![v99, w] hA x) (loadIdx X ![v100, w] hX x)) (fun _ => 1#1) false hA
      = rowUpd op X l r (c + 16) A := by
  funext j
  rw [row_store (n := 320) (e := .f32) _ _ _ _ _ hA r c h99 hw]
  by_cases hj : (j 0).val = r ∧ c ≤ (j 1).val ∧ (j 1).val < c + 16
  · rw [dif_pos hj, if_neg (by decide), load_acc v99 w r c h99 hw hA _ j hj.1 _ (by simp only; omega),
      load_row X v100 w l c h100 hw hX j _ (by simp only; omega)]
    unfold rowUpd
    rw [if_neg (by omega), if_pos ⟨hj.1, hj.2.2⟩]
  · rw [dif_neg hj]
    unfold rowUpd
    by_cases h0 : (j 0).val = r ∧ (j 1).val < c
    · rw [if_pos h0, if_pos ⟨h0.1, by omega⟩]
    · rw [if_neg h0, if_neg fun h => ?_]
      rcases Nat.lt_or_ge (j 1).val c with h1 | h1
      · exact h0 ⟨h.1, h1⟩
      · exact hj ⟨h.1, h1, h.2⟩

include h99 h100 hw in
/-- A group's adding store. -/
theorem upd_add :
    storeIdx (e := .f32) (rowUpd FloatOps.idxAddf X l r c A) ![v99, w] (loadIdx X ![v100, w] hX) (fun _ => 1#1) true hA
      = rowUpd FloatOps.idxAddf X l r (c + 16) A := by
  funext j
  rw [row_store (n := 320) (e := .f32) _ _ _ _ _ hA r c h99 hw]
  by_cases hj : (j 0).val = r ∧ c ≤ (j 1).val ∧ (j 1).val < c + 16
  · rw [dif_pos hj, if_pos rfl, load_row X v100 w l c h100 hw hX j _ (by simp only; omega), Elt.idxAdd_f32]
    unfold rowUpd
    rw [if_neg (by omega), if_pos ⟨hj.1, hj.2.2⟩]
  · rw [dif_neg hj]
    unfold rowUpd
    by_cases h0 : (j 0).val = r ∧ (j 1).val < c
    · rw [if_pos h0, if_pos ⟨h0.1, by omega⟩]
    · rw [if_neg h0, if_neg fun h => ?_]
      rcases Nat.lt_or_ge (j 1).val c with h1 | h1
      · exact h0 ⟨h.1, h1⟩
      · exact hj ⟨h.1, h1, h.2⟩

end Group

/-! ## The accumulators after a list of edges -/

/-- An accumulator after the edges of `L`: each edge `e` combines its message `H e` into row `R e`. -/
def accL (R : ℕ → ℕ) (H : ℕ → Fin 128 → F .f32) (op : F .f32 → F .f32 → F .f32) (b : F .f32) (L : List ℕ) : Vec F ⟨2, ![320, 128]⟩ .f32 :=
  fun j => L.foldl (fun x e => if R e = (j 0).val then op x (H e (j 1)) else x) b

/-- The degrees after the edges of `L`. -/
def degL [FloatOps F] (R : ℕ → ℕ) (one b : F .f32) (L : List ℕ) : Vec F ⟨1, ![320]⟩ .f32 :=
  fun j => L.foldl (fun x e => if R e = (j 0).val then FloatOps.idxAddf x one else x) b

theorem accL_concat (R : ℕ → ℕ) (H : ℕ → Fin 128 → F .f32) (op : F .f32 → F .f32 → F .f32) (b : F .f32) (L : List ℕ) (e : ℕ)
    (X : Vec F ⟨2, ![16, 128]⟩ .f32) (l : Fin 16) (hX : ∀ c, X (rowAt (n := 16) l c) = H e c) :
    accL R H op b (L ++ [e]) = rowUpd op X l (R e) 128 (accL R H op b L) := by
  funext j
  unfold accL rowUpd
  rw [List.foldl_append, List.foldl_cons, List.foldl_nil]
  have h1 : (j 1).val < 128 := (j 1).isLt
  by_cases h : R e = (j 0).val
  · rw [if_pos h, if_pos ⟨h.symm, h1⟩]
    exact congrArg (op _) (hX _).symm
  · rw [if_neg h, if_neg fun hh => h hh.1.symm]

theorem degL_concat [FloatOps F] (R : ℕ → ℕ) (one b : F .f32) (L : List ℕ) (e : ℕ) :
    degL R one b (L ++ [e]) = fun j => if (j 0).val = R e then FloatOps.idxAddf (degL R one b L j) one else degL R one b L j := by
  funext j
  unfold degL
  rw [List.foldl_append, List.foldl_cons, List.foldl_nil]
  by_cases h : R e = (j 0).val
  · rw [if_pos h, if_pos h.symm]
  · rw [if_neg h, if_neg fun hh => h hh.symm]

end Cert.Proof.Agg
-- ==== Proof.Ideal.Edge.lean ====
/-
  One edge of a batch. The kernel's body writes the sixteen edges of a batch out one after another; here is the text of
  one as a program over its edge number and its index checks, and the printed windows as sixteen of it.
-/
module

public import proofs.«01_k».proof.Defs
public import proofs.«01_k».proof.Proof.Lanes
public import Idealize.ShloMosaic.Lib.SparseCore.Quiescent
public import Idealize.ShloMosaic.Lib.LoopRemainder
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen
open Idealize.ShloMosaic
open Idealize.SL.Sem

variable {F : FTy → Type} [FloatOps F] [Named F]

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

/-! ## The index checks -/

abbrev In528 (v : IVec S16 32) : Prop := ∀ a x, ((![v] : Fin 1 → IVec S16 32) a x).toNat < S528.size a
abbrev In320 (v : IVec S16 32) : Prop := ∀ a x, ((![v] : Fin 1 → IVec S16 32) a x).toNat < S320.size a
abbrev InMsg (v w : IVec S16 32) : Prop := ∀ a x, ((![v, w] : Fin 2 → IVec S16 32) a x).toNat < S16x128.size a
abbrev InAcc (v w : IVec S16 32) : Prop := ∀ a x, ((![v, w] : Fin 2 → IVec S16 32) a x).toNat < S320x128.size a

/-- A check of one index vector: the proposition the body assumes, and that it is `A` under the edge's condition. -/
structure Chk1 (c : Prop) (A : IVec S16 32 → Prop) where
  p : IVec S16 32 → Prop
  d : ∀ v, Decidable (p v)
  e : ∀ v, p v ↔ (c → A v)

/-- A column group's check: the row read, and the accumulators' row five times. -/
structure Chk3 (c : Prop) where
  p : IVec S16 32 → IVec S16 32 → IVec S16 32 → Prop
  d : ∀ u v w, Decidable (p u v w)
  e : ∀ u v w, p u v w ↔ ((c → InMsg v w) ∧ (c → InAcc u w) ∧ (c → InAcc u w) ∧ (c → InAcc u w) ∧ (c → InAcc u w) ∧ (c → InAcc u w))

/-- The checks of one edge. -/
structure EdgeChk (c : Prop) where
  s : Chk1 c In528
  r : Chk1 c In320
  g0 : Chk3 c
  g1 : Chk3 c
  g2 : Chk3 c
  g3 : Chk3 c
  g4 : Chk3 c
  g5 : Chk3 c
  g6 : Chk3 c
  g7 : Chk3 c

/-! ## The text of one edge -/

variable {cc : Fin τ.nSC} {ss : Fin τ.nSub} {α : Type}

abbrev TProg (F : FTy → Type) (cc : Fin τ.nSC) (ss : Fin τ.nSub) (α : Type) : Type 1 := Prog (TpuEff nD τ sig (Elt F) Λ₀ (.scVector cc ss)) α

/-- One column group: sixteen columns of the edge's row folded into the three accumulators. -/
def grpG {c : Prop} (h : c) (G : Chk3 c) (v99 v100 w : IVec S16 32) (K : TProg F cc ss α) : TProg F cc ss α := do
  have hw : G.p v99 v100 w := (← Prog.lift (TpuEff.assume (G.p v99 v100 w) (G.d v99 v100 w))).down
  let x : Vec F S16 .f32 ← SparseCore.vectorLoadIdx b5 ![v100, w] (((G.e _ _ _).1 hw).1 h) (View.loads_vmem h_S16x128)
  let y : Vec F S16 .f32 ← SparseCore.vectorLoadIdx b7 ![v99, w] (((G.e _ _ _).1 hw).2.1 h) (View.loads_vmem h_S320x128)
  SparseCore.vectorStoreIdx b7 ![v99, w] (maximumf y x) (fun _ => 1#1) false (((G.e _ _ _).1 hw).2.1 h) (View.stores_vmem_bits_univ h_S320x128 rfl)
  let z : Vec F S16 .f32 ← SparseCore.vectorLoadIdx b8 ![v99, w] (((G.e _ _ _).1 hw).2.1 h) (View.loads_vmem h_S320x128)
  SparseCore.vectorStoreIdx b8 ![v99, w] (minimumf z x) (fun _ => 1#1) false (((G.e _ _ _).1 hw).2.1 h) (View.stores_vmem_bits_univ h_S320x128 rfl)
  SparseCore.vectorStoreIdx b6 ![v99, w] x (fun _ => 1#1) true (((G.e _ _ _).1 hw).2.1 h) (View.stores_vmem_bits_univ h_S320x128 rfl)
  K

/-- Edge `l` of the batch at `base`: nothing when the batch has no such edge, else its staged row number read, its eight
    column groups, and one more on its degree. -/
def edgeG {c : BitVec 1} (E : EdgeChk (c = 1#1)) (v3 : IVec S16 32) (base l : BitVec 32) (ones : FVec F S16 .f32) (first : IVec S16 1)
    (K : TProg F cc ss α) : TProg F cc ss α :=
  if h : c = 1#1 then do
    have v98 : IVec S16 32 := broadcast S16 (Scalar.addi base l)
    have hs : E.s.p v98 := (← Prog.lift (TpuEff.assume (E.s.p v98) (E.s.d v98))).down
    let v99 : Vec F S16 .i32 ← SparseCore.vectorLoadIdx b3 ![v98] ((E.s.e _).1 hs h) (View.loads_vmem h_S528)
    have hr : E.r.p v99 := (← Prog.lift (TpuEff.assume (E.r.p v99) (E.r.d v99))).down
    have v100 : IVec S16 32 := broadcast S16 l
    grpG h E.g0 v99 v100 (addi v3 (broadcast S16 0#32)) <|
    grpG h E.g1 v99 v100 (addi v3 (broadcast S16 16#32)) <|
    grpG h E.g2 v99 v100 (addi v3 (broadcast S16 32#32)) <|
    grpG h E.g3 v99 v100 (addi v3 (broadcast S16 48#32)) <|
    grpG h E.g4 v99 v100 (addi v3 (broadcast S16 64#32)) <|
    grpG h E.g5 v99 v100 (addi v3 (broadcast S16 80#32)) <|
    grpG h E.g6 v99 v100 (addi v3 (broadcast S16 96#32)) <|
    grpG h E.g7 v99 v100 (addi v3 (broadcast S16 112#32)) <| do
      SparseCore.vectorStoreIdx b9 ![v99] ones first true ((E.r.e _).1 hr h) (View.stores_vmem_bits_univ h_S320 rfl)
      K
  else K

section Checks

variable (v14 : BitVec 32) (t : Fin (k0_t6_loop v14).trips)

abbrev E0 : EdgeChk (k0_cond1 v14 t = 1#1) :=
  ⟨⟨k0_chk4 v14 t, k0_chk4.dec v14 t, fun _ => Iff.rfl⟩, ⟨k0_chk13 v14 t, k0_chk13.dec v14 t, fun _ => Iff.rfl⟩,
   ⟨k0_chk5 v14 t, k0_chk5.dec v14 t, fun _ _ _ => Iff.rfl⟩, ⟨k0_chk6 v14 t, k0_chk6.dec v14 t, fun _ _ _ => Iff.rfl⟩,
   ⟨k0_chk7 v14 t, k0_chk7.dec v14 t, fun _ _ _ => Iff.rfl⟩, ⟨k0_chk8 v14 t, k0_chk8.dec v14 t, fun _ _ _ => Iff.rfl⟩,
   ⟨k0_chk9 v14 t, k0_chk9.dec v14 t, fun _ _ _ => Iff.rfl⟩, ⟨k0_chk10 v14 t, k0_chk10.dec v14 t, fun _ _ _ => Iff.rfl⟩,
   ⟨k0_chk11 v14 t, k0_chk11.dec v14 t, fun _ _ _ => Iff.rfl⟩, ⟨k0_chk12 v14 t, k0_chk12.dec v14 t, fun _ _ _ => Iff.rfl⟩⟩
abbrev E1 : EdgeChk (k0_cond2 v14 t = 1#1) :=
  ⟨⟨k0_chk14 v14 t, k0_chk14.dec v14 t, fun _ => Iff.rfl⟩, ⟨k0_chk23 v14 t, k0_chk23.dec v14 t, fun _ => Iff.rfl⟩,
   ⟨k0_chk15 v14 t, k0_chk15.dec v14 t, fun _ _ _ => Iff.rfl⟩, ⟨k0_chk16 v14 t, k0_chk16.dec v14 t, fun _ _ _ => Iff.rfl⟩,
   ⟨k0_chk17 v14 t, k0_chk17.dec v14 t, fun _ _ _ => Iff.rfl⟩, ⟨k0_chk18 v14 t, k0_chk18.dec v14 t, fun _ _ _ => Iff.rfl⟩,
   ⟨k0_chk19 v14 t, k0_chk19.dec v14 t, fun _ _ _ => Iff.rfl⟩, ⟨k0_chk20 v14 t, k0_chk20.dec v14 t, fun _ _ _ => Iff.rfl⟩,
   ⟨k0_chk21 v14 t, k0_chk21.dec v14 t, fun _ _ _ => Iff.rfl⟩, ⟨k0_chk22 v14 t, k0_chk22.dec v14 t, fun _ _ _ => Iff.rfl⟩⟩
abbrev E2 : EdgeChk (k0_cond3 v14 t = 1#1) :=
  ⟨⟨k0_chk24 v14 t, k0_chk24.dec v14 t, fun _ => Iff.rfl⟩, ⟨k0_chk33 v14 t, k0_chk33.dec v14 t, fun _ => Iff.rfl⟩,
   ⟨k0_chk25 v14 t, k0_chk25.dec v14 t, fun _ _ _ => Iff.rfl⟩, ⟨k0_chk26 v14 t, k0_chk26.dec v14 t, fun _ _ _ => Iff.rfl⟩,
   ⟨k0_chk27 v14 t, k0_chk27.dec v14 t, fun _ _ _ => Iff.rfl⟩, ⟨k0_chk28 v14 t, k0_chk28.dec v14 t, fun _ _ _ => Iff.rfl⟩,
   ⟨k0_chk29 v14 t, k0_chk29.dec v14 t, fun _ _ _ => Iff.rfl⟩, ⟨k0_chk30 v14 t, k0_chk30.dec v14 t, fun _ _ _ => Iff.rfl⟩,
   ⟨k0_chk31 v14 t, k0_chk31.dec v14 t, fun _ _ _ => Iff.rfl⟩, ⟨k0_chk32 v14 t, k0_chk32.dec v14 t, fun _ _ _ => Iff.rfl⟩⟩
abbrev E3 : EdgeChk (k0_cond4 v14 t = 1#1) :=
  ⟨⟨k0_chk34 v14 t, k0_chk34.dec v14 t, fun _ => Iff.rfl⟩, ⟨k0_chk43 v14 t, k0_chk43.dec v14 t, fun _ => Iff.rfl⟩,
   ⟨k0_chk35 v14 t, k0_chk35.dec v14 t, fun _ _ _ => Iff.rfl⟩, ⟨k0_chk36 v14 t, k0_chk36.dec v14 t, fun _ _ _ => Iff.rfl⟩,
   ⟨k0_chk37 v14 t, k0_chk37.dec v14 t, fun _ _ _ => Iff.rfl⟩, ⟨k0_chk38 v14 t, k0_chk38.dec v14 t, fun _ _ _ => Iff.rfl⟩,
   ⟨k0_chk39 v14 t, k0_chk39.dec v14 t, fun _ _ _ => Iff.rfl⟩, ⟨k0_chk40 v14 t, k0_chk40.dec v14 t, fun _ _ _ => Iff.rfl⟩,
   ⟨k0_chk41 v14 t, k0_chk41.dec v14 t, fun _ _ _ => Iff.rfl⟩, ⟨k0_chk42 v14 t, k0_chk42.dec v14 t, fun _ _ _ => Iff.rfl⟩⟩
abbrev E4 : EdgeChk (k0_cond5 v14 t = 1#1) :=
  ⟨⟨k0_chk44 v14 t, k0_chk44.dec v14 t, fun _ => Iff.rfl⟩, ⟨k0_chk53 v14 t, k0_chk53.dec v14 t, fun _ => Iff.rfl⟩,
   ⟨k0_chk45 v14 t, k0_chk45.dec v14 t, fun _ _ _ => Iff.rfl⟩, ⟨k0_chk46 v14 t, k0_chk46.dec v14 t, fun _ _ _ => Iff.rfl⟩,
   ⟨k0_chk47 v14 t, k0_chk47.dec v14 t, fun _ _ _ => Iff.rfl⟩, ⟨k0_chk48 v14 t, k0_chk48.dec v14 t, fun _ _ _ => Iff.rfl⟩,
   ⟨k0_chk49 v14 t, k0_chk49.dec v14 t, fun _ _ _ => Iff.rfl⟩, ⟨k0_chk50 v14 t, k0_chk50.dec v14 t, fun _ _ _ => Iff.rfl⟩,
   ⟨k0_chk51 v14 t, k0_chk51.dec v14 t, fun _ _ _ => Iff.rfl⟩, ⟨k0_chk52 v14 t, k0_chk52.dec v14 t, fun _ _ _ => Iff.rfl⟩⟩
abbrev E5 : EdgeChk (k0_cond6 v14 t = 1#1) :=
  ⟨⟨k0_chk54 v14 t, k0_chk54.dec v14 t, fun _ => Iff.rfl⟩, ⟨k0_chk63 v14 t, k0_chk63.dec v14 t, fun _ => Iff.rfl⟩,
   ⟨k0_chk55 v14 t, k0_chk55.dec v14 t, fun _ _ _ => Iff.rfl⟩, ⟨k0_chk56 v14 t, k0_chk56.dec v14 t, fun _ _ _ => Iff.rfl⟩,
   ⟨k0_chk57 v14 t, k0_chk57.dec v14 t, fun _ _ _ => Iff.rfl⟩, ⟨k0_chk58 v14 t, k0_chk58.dec v14 t, fun _ _ _ => Iff.rfl⟩,
   ⟨k0_chk59 v14 t, k0_chk59.dec v14 t, fun _ _ _ => Iff.rfl⟩, ⟨k0_chk60 v14 t, k0_chk60.dec v14 t, fun _ _ _ => Iff.rfl⟩,
   ⟨k0_chk61 v14 t, k0_chk61.dec v14 t, fun _ _ _ => Iff.rfl⟩, ⟨k0_chk62 v14 t, k0_chk62.dec v14 t, fun _ _ _ => Iff.rfl⟩⟩
abbrev E6 : EdgeChk (k0_cond7 v14 t = 1#1) :=
  ⟨⟨k0_chk64 v14 t, k0_chk64.dec v14 t, fun _ => Iff.rfl⟩, ⟨k0_chk73 v14 t, k0_chk73.dec v14 t, fun _ => Iff.rfl⟩,
   ⟨k0_chk65 v14 t, k0_chk65.dec v14 t, fun _ _ _ => Iff.rfl⟩, ⟨k0_chk66 v14 t, k0_chk66.dec v14 t, fun _ _ _ => Iff.rfl⟩,
   ⟨k0_chk67 v14 t, k0_chk67.dec v14 t, fun _ _ _ => Iff.rfl⟩, ⟨k0_chk68 v14 t, k0_chk68.dec v14 t, fun _ _ _ => Iff.rfl⟩,
   ⟨k0_chk69 v14 t, k0_chk69.dec v14 t, fun _ _ _ => Iff.rfl⟩, ⟨k0_chk70 v14 t, k0_chk70.dec v14 t, fun _ _ _ => Iff.rfl⟩,
   ⟨k0_chk71 v14 t, k0_chk71.dec v14 t, fun _ _ _ => Iff.rfl⟩, ⟨k0_chk72 v14 t, k0_chk72.dec v14 t, fun _ _ _ => Iff.rfl⟩⟩
abbrev E7 : EdgeChk (k0_cond8 v14 t = 1#1) :=
  ⟨⟨k0_chk74 v14 t, k0_chk74.dec v14 t, fun _ => Iff.rfl⟩, ⟨k0_chk83 v14 t, k0_chk83.dec v14 t, fun _ => Iff.rfl⟩,
   ⟨k0_chk75 v14 t, k0_chk75.dec v14 t, fun _ _ _ => Iff.rfl⟩, ⟨k0_chk76 v14 t, k0_chk76.dec v14 t, fun _ _ _ => Iff.rfl⟩,
   ⟨k0_chk77 v14 t, k0_chk77.dec v14 t, fun _ _ _ => Iff.rfl⟩, ⟨k0_chk78 v14 t, k0_chk78.dec v14 t, fun _ _ _ => Iff.rfl⟩,
   ⟨k0_chk79 v14 t, k0_chk79.dec v14 t, fun _ _ _ => Iff.rfl⟩, ⟨k0_chk80 v14 t, k0_chk80.dec v14 t, fun _ _ _ => Iff.rfl⟩,
   ⟨k0_chk81 v14 t, k0_chk81.dec v14 t, fun _ _ _ => Iff.rfl⟩, ⟨k0_chk82 v14 t, k0_chk82.dec v14 t, fun _ _ _ => Iff.rfl⟩⟩
abbrev E8 : EdgeChk (k0_cond9 v14 t = 1#1) :=
  ⟨⟨k0_chk84 v14 t, k0_chk84.dec v14 t, fun _ => Iff.rfl⟩, ⟨k0_chk93 v14 t, k0_chk93.dec v14 t, fun _ => Iff.rfl⟩,
   ⟨k0_chk85 v14 t, k0_chk85.dec v14 t, fun _ _ _ => Iff.rfl⟩, ⟨k0_chk86 v14 t, k0_chk86.dec v14 t, fun _ _ _ => Iff.rfl⟩,
   ⟨k0_chk87 v14 t, k0_chk87.dec v14 t, fun _ _ _ => Iff.rfl⟩, ⟨k0_chk88 v14 t, k0_chk88.dec v14 t, fun _ _ _ => Iff.rfl⟩,
   ⟨k0_chk89 v14 t, k0_chk89.dec v14 t, fun _ _ _ => Iff.rfl⟩, ⟨k0_chk90 v14 t, k0_chk90.dec v14 t, fun _ _ _ => Iff.rfl⟩,
   ⟨k0_chk91 v14 t, k0_chk91.dec v14 t, fun _ _ _ => Iff.rfl⟩, ⟨k0_chk92 v14 t, k0_chk92.dec v14 t, fun _ _ _ => Iff.rfl⟩⟩
abbrev E9 : EdgeChk (k0_cond10 v14 t = 1#1) :=
  ⟨⟨k0_chk94 v14 t, k0_chk94.dec v14 t, fun _ => Iff.rfl⟩, ⟨k0_chk103 v14 t, k0_chk103.dec v14 t, fun _ => Iff.rfl⟩,
   ⟨k0_chk95 v14 t, k0_chk95.dec v14 t, fun _ _ _ => Iff.rfl⟩, ⟨k0_chk96 v14 t, k0_chk96.dec v14 t, fun _ _ _ => Iff.rfl⟩,
   ⟨k0_chk97 v14 t, k0_chk97.dec v14 t, fun _ _ _ => Iff.rfl⟩, ⟨k0_chk98 v14 t, k0_chk98.dec v14 t, fun _ _ _ => Iff.rfl⟩,
   ⟨k0_chk99 v14 t, k0_chk99.dec v14 t, fun _ _ _ => Iff.rfl⟩, ⟨k0_chk100 v14 t, k0_chk100.dec v14 t, fun _ _ _ => Iff.rfl⟩,
   ⟨k0_chk101 v14 t, k0_chk101.dec v14 t, fun _ _ _ => Iff.rfl⟩, ⟨k0_chk102 v14 t, k0_chk102.dec v14 t, fun _ _ _ => Iff.rfl⟩⟩
abbrev E10 : EdgeChk (k0_cond11 v14 t = 1#1) :=
  ⟨⟨k0_chk104 v14 t, k0_chk104.dec v14 t, fun _ => Iff.rfl⟩, ⟨k0_chk113 v14 t, k0_chk113.dec v14 t, fun _ => Iff.rfl⟩,
   ⟨k0_chk105 v14 t, k0_chk105.dec v14 t, fun _ _ _ => Iff.rfl⟩, ⟨k0_chk106 v14 t, k0_chk106.dec v14 t, fun _ _ _ => Iff.rfl⟩,
   ⟨k0_chk107 v14 t, k0_chk107.dec v14 t, fun _ _ _ => Iff.rfl⟩, ⟨k0_chk108 v14 t, k0_chk108.dec v14 t, fun _ _ _ => Iff.rfl⟩,
   ⟨k0_chk109 v14 t, k0_chk109.dec v14 t, fun _ _ _ => Iff.rfl⟩, ⟨k0_chk110 v14 t, k0_chk110.dec v14 t, fun _ _ _ => Iff.rfl⟩,
   ⟨k0_chk111 v14 t, k0_chk111.dec v14 t, fun _ _ _ => Iff.rfl⟩, ⟨k0_chk112 v14 t, k0_chk112.dec v14 t, fun _ _ _ => Iff.rfl⟩⟩
abbrev E11 : EdgeChk (k0_cond12 v14 t = 1#1) :=
  ⟨⟨k0_chk114 v14 t, k0_chk114.dec v14 t, fun _ => Iff.rfl⟩, ⟨k0_chk123 v14 t, k0_chk123.dec v14 t, fun _ => Iff.rfl⟩,
   ⟨k0_chk115 v14 t, k0_chk115.dec v14 t, fun _ _ _ => Iff.rfl⟩, ⟨k0_chk116 v14 t, k0_chk116.dec v14 t, fun _ _ _ => Iff.rfl⟩,
   ⟨k0_chk117 v14 t, k0_chk117.dec v14 t, fun _ _ _ => Iff.rfl⟩, ⟨k0_chk118 v14 t, k0_chk118.dec v14 t, fun _ _ _ => Iff.rfl⟩,
   ⟨k0_chk119 v14 t, k0_chk119.dec v14 t, fun _ _ _ => Iff.rfl⟩, ⟨k0_chk120 v14 t, k0_chk120.dec v14 t, fun _ _ _ => Iff.rfl⟩,
   ⟨k0_chk121 v14 t, k0_chk121.dec v14 t, fun _ _ _ => Iff.rfl⟩, ⟨k0_chk122 v14 t, k0_chk122.dec v14 t, fun _ _ _ => Iff.rfl⟩⟩
abbrev E12 : EdgeChk (k0_cond13 v14 t = 1#1) :=
  ⟨⟨k0_chk124 v14 t, k0_chk124.dec v14 t, fun _ => Iff.rfl⟩, ⟨k0_chk133 v14 t, k0_chk133.dec v14 t, fun _ => Iff.rfl⟩,
   ⟨k0_chk125 v14 t, k0_chk125.dec v14 t, fun _ _ _ => Iff.rfl⟩, ⟨k0_chk126 v14 t, k0_chk126.dec v14 t, fun _ _ _ => Iff.rfl⟩,
   ⟨k0_chk127 v14 t, k0_chk127.dec v14 t, fun _ _ _ => Iff.rfl⟩, ⟨k0_chk128 v14 t, k0_chk128.dec v14 t, fun _ _ _ => Iff.rfl⟩,
   ⟨k0_chk129 v14 t, k0_chk129.dec v14 t, fun _ _ _ => Iff.rfl⟩, ⟨k0_chk130 v14 t, k0_chk130.dec v14 t, fun _ _ _ => Iff.rfl⟩,
   ⟨k0_chk131 v14 t, k0_chk131.dec v14 t, fun _ _ _ => Iff.rfl⟩, ⟨k0_chk132 v14 t, k0_chk132.dec v14 t, fun _ _ _ => Iff.rfl⟩⟩
abbrev E13 : EdgeChk (k0_cond14 v14 t = 1#1) :=
  ⟨⟨k0_chk134 v14 t, k0_chk134.dec v14 t, fun _ => Iff.rfl⟩, ⟨k0_chk143 v14 t, k0_chk143.dec v14 t, fun _ => Iff.rfl⟩,
   ⟨k0_chk135 v14 t, k0_chk135.dec v14 t, fun _ _ _ => Iff.rfl⟩, ⟨k0_chk136 v14 t, k0_chk136.dec v14 t, fun _ _ _ => Iff.rfl⟩,
   ⟨k0_chk137 v14 t, k0_chk137.dec v14 t, fun _ _ _ => Iff.rfl⟩, ⟨k0_chk138 v14 t, k0_chk138.dec v14 t, fun _ _ _ => Iff.rfl⟩,
   ⟨k0_chk139 v14 t, k0_chk139.dec v14 t, fun _ _ _ => Iff.rfl⟩, ⟨k0_chk140 v14 t, k0_chk140.dec v14 t, fun _ _ _ => Iff.rfl⟩,
   ⟨k0_chk141 v14 t, k0_chk141.dec v14 t, fun _ _ _ => Iff.rfl⟩, ⟨k0_chk142 v14 t, k0_chk142.dec v14 t, fun _ _ _ => Iff.rfl⟩⟩
abbrev E14 : EdgeChk (k0_cond15 v14 t = 1#1) :=
  ⟨⟨k0_chk144 v14 t, k0_chk144.dec v14 t, fun _ => Iff.rfl⟩, ⟨k0_chk153 v14 t, k0_chk153.dec v14 t, fun _ => Iff.rfl⟩,
   ⟨k0_chk145 v14 t, k0_chk145.dec v14 t, fun _ _ _ => Iff.rfl⟩, ⟨k0_chk146 v14 t, k0_chk146.dec v14 t, fun _ _ _ => Iff.rfl⟩,
   ⟨k0_chk147 v14 t, k0_chk147.dec v14 t, fun _ _ _ => Iff.rfl⟩, ⟨k0_chk148 v14 t, k0_chk148.dec v14 t, fun _ _ _ => Iff.rfl⟩,
   ⟨k0_chk149 v14 t, k0_chk149.dec v14 t, fun _ _ _ => Iff.rfl⟩, ⟨k0_chk150 v14 t, k0_chk150.dec v14 t, fun _ _ _ => Iff.rfl⟩,
   ⟨k0_chk151 v14 t, k0_chk151.dec v14 t, fun _ _ _ => Iff.rfl⟩, ⟨k0_chk152 v14 t, k0_chk152.dec v14 t, fun _ _ _ => Iff.rfl⟩⟩
abbrev E15 : EdgeChk (k0_cond16 v14 t = 1#1) :=
  ⟨⟨k0_chk154 v14 t, k0_chk154.dec v14 t, fun _ => Iff.rfl⟩, ⟨k0_chk163 v14 t, k0_chk163.dec v14 t, fun _ => Iff.rfl⟩,
   ⟨k0_chk155 v14 t, k0_chk155.dec v14 t, fun _ _ _ => Iff.rfl⟩, ⟨k0_chk156 v14 t, k0_chk156.dec v14 t, fun _ _ _ => Iff.rfl⟩,
   ⟨k0_chk157 v14 t, k0_chk157.dec v14 t, fun _ _ _ => Iff.rfl⟩, ⟨k0_chk158 v14 t, k0_chk158.dec v14 t, fun _ _ _ => Iff.rfl⟩,
   ⟨k0_chk159 v14 t, k0_chk159.dec v14 t, fun _ _ _ => Iff.rfl⟩, ⟨k0_chk160 v14 t, k0_chk160.dec v14 t, fun _ _ _ => Iff.rfl⟩,
   ⟨k0_chk161 v14 t, k0_chk161.dec v14 t, fun _ _ _ => Iff.rfl⟩, ⟨k0_chk162 v14 t, k0_chk162.dec v14 t, fun _ _ _ => Iff.rfl⟩⟩

end Checks

end Cert.Proof.Ideal
-- ==== Proof.Ideal.Step.lean ====
/-
  What one edge of a batch does to the accumulators: its row number read from the stage, its eight column groups, its
  degree.
-/
module

public import proofs.«01_k».proof.Proof.Ideal.Edge

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The resource algebra: the handshakes' rounds, the pipelines' rounds, the transfers' counters -/

abbrev UH : Type := URounds (GSem nD τ sig) ℕ
abbrev UP : Type := URounds (GSem nD τ sig) Unit
abbrev UU : Type := UH × (UP × Counters)
abbrev 𝒱₀ : Variants := Variants.none

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable {d : Dev nD} {cc : Fin τ.nSC} {ss : Fin τ.nSub} {α : Type}
variable {Q : α → sProp (MT nD τ sig (HIx 1) (Elt F) ℕ UU ℕ)}

local notation "th" => (V d cc ss : Thread nD τ)

/-! ## The indexed accesses of a scratch buffer held whole -/

section Access

variable {t : Shape}

theorem wp_ld {s : Shape} {e : EltTy} {base : Memref sig .scVector .vmem s e} {idxs : Fin s.rank → IVec t 32}
    {h : ∀ a x, (idxs a x).toNat < s.size a} {hl : base.view.Loads} {k : Vec F t e → TProg F cc ss α}
    {f : Buf (Elt F) ((base.access (.whole s)).loc th)} {g : Vec F s e} (hg : (base.access (.whole s)).read (Elt F) f = g) :
    ((base.access (.whole s)).loc th ↦{fullShare} f)
      ⊢ iprop((((base.access (.whole s)).loc th ↦{fullShare} f) -∗ wp frame (wpE (defs₀ (F := F)) 𝒱₀ th none) Set.univ (k (loadIdx g idxs h)) Q)
        -∗ wp frame (wpE (defs₀ (F := F)) 𝒱₀ th none) Set.univ (SparseCore.vectorLoadIdx base idxs h hl >>= k) Q) := by
  subst hg
  exact SparseCore.wp_vectorLoadIdx 𝒱₀ th none Set.univ (Finset.subset_univ _)

theorem wp_st {s : Shape} {e : EltTy} {base : Memref sig .scVector .vmem s e} {idxs : Fin s.rank → IVec L16 32}
    {v : Vec F L16 e} {mask : IVec L16 1} {add : Bool}
    {h : ∀ a x, (idxs a x).toNat < s.size a} {hs : (base.access (.whole s)).Stores Finset.univ} {k : PUnit → TProg F cc ss α}
    {f f' : Buf (Elt F) ((base.access (.whole s)).loc th)} {g : Vec F s e} (hset : (base.access (.whole s)).set = Finset.univ)
    (hg : (base.access (.whole s)).read (Elt F) f = g)
    (hf' : (base.access (.whole s)).write (Elt F) f (storeIdx g idxs v mask add h) Finset.univ = f') :
    ((base.access (.whole s)).loc th ↦{fullShare} f)
      ⊢ iprop((((base.access (.whole s)).loc th ↦{fullShare} f') -∗ wp frame (wpE (defs₀ (F := F)) 𝒱₀ th none) Set.univ (k ⟨⟩) Q)
        -∗ wp frame (wpE (defs₀ (F := F)) 𝒱₀ th none) Set.univ (SparseCore.vectorStoreIdx base idxs v mask add h hs >>= k) Q) := by
  subst hg hf'
  have := SparseCore.wp_vectorStoreIdx (F := F) (defs := defs₀ (F := F)) (Q := Q) 𝒱₀ th none Set.univ (base := base) (idxs := idxs) (v := v) (mask := mask) (add := add) (h := h) (hs := hs) (k := k) (f := f)
  rw [hset] at this
  exact this

end Access

/-! ## One column group -/

/-- The edge's messages and the three accumulators. -/
def accP (X : Vec F S16x128 .f32) (A B C : Vec F S320x128 .f32) : sProp 𝕄 :=
  iprop(((b5).view.loc th ↦{fullShare} X) ∗ ((b6).view.loc th ↦{fullShare} A) ∗ ((b7).view.loc th ↦{fullShare} B)
    ∗ ((b8).view.loc th ↦{fullShare} C))

theorem inMsg_of {v w : IVec S16 32} {l c : ℕ} (hl : l < 16) (hc : c + 16 ≤ 128) (hv : ∀ k, (v (lane k)).toNat = l)
    (hw : ∀ k : Fin 16, (w (lane k)).toNat = c + k.val) : InMsg v w := by
  intro a x
  rw [eq_lane x]
  match a with
  | 0 => exact lt_of_eq_of_lt (hv (x 0)) hl
  | 1 => exact lt_of_eq_of_lt (hw (x 0)) (show c + (x 0).val < 128 from by have : (x 0).val < 16 := (x 0).isLt; omega)

theorem inAcc_of {v w : IVec S16 32} {r c : ℕ} (hr : r < 320) (hc : c + 16 ≤ 128) (hv : ∀ k, (v (lane k)).toNat = r)
    (hw : ∀ k : Fin 16, (w (lane k)).toNat = c + k.val) : InAcc v w := by
  intro a x
  rw [eq_lane x]
  match a with
  | 0 => exact lt_of_eq_of_lt (hv (x 0)) hr
  | 1 => exact lt_of_eq_of_lt (hw (x 0)) (show c + (x 0).val < 128 from by have : (x 0).val < 16 := (x 0).isLt; omega)

theorem grp_wp {c : Prop} (h : c) (G : Chk3 c) (v99 v100 w : IVec S16 32) (K : TProg F cc ss α) (X : Vec F S16x128 .f32)
    (A B C : Vec F S320x128 .f32) (l : Fin 16) (r col : ℕ) (hr : r < 320) (hcol : col + 16 ≤ 128)
    (h99 : ∀ k, (v99 (lane k)).toNat = r) (h100 : ∀ k, (v100 (lane k)).toNat = l.val) (hw : ∀ k : Fin 16, (w (lane k)).toNat = col + k.val) :
    accP (d := d) (cc := cc) (ss := ss) X (rowUpd FloatOps.idxAddf X l r col A) (rowUpd FloatOps.maximumf X l r col B) (rowUpd FloatOps.minimumf X l r col C)
      ⊢ iprop((accP (d := d) (cc := cc) (ss := ss) X (rowUpd FloatOps.idxAddf X l r (col + 16) A) (rowUpd FloatOps.maximumf X l r (col + 16) B)
            (rowUpd FloatOps.minimumf X l r (col + 16) C)
          -∗ wp frame (wpE (defs₀ (F := F)) 𝒱₀ th none) Set.univ K Q)
        -∗ wp frame (wpE (defs₀ (F := F)) 𝒱₀ th none) Set.univ (grpG h G v99 v100 w K) Q) := by
  have hM : InMsg v100 w := inMsg_of l.isLt hcol h100 hw
  have hA : InAcc v99 w := inAcc_of hr hcol h99 hw
  have hp : G.p v99 v100 w := (G.e _ _ _).2 ⟨fun _ => hM, fun _ => hA, fun _ => hA, fun _ => hA, fun _ => hA, fun _ => hA⟩
  unfold accP grpG
  iintro ⟨H5, H6, H7, H8⟩ HK
  iapply (Entails.of_eq (wp_assume_of (defs := defs₀ (F := F)) 𝒱₀ th none Set.univ hp).symm)
  iapply (wp_ld (base := b5) (h := hM) (hl := View.loads_vmem h_S16x128) (Memref.read_access_whole _ _ _)) $$ H5; iintro H5
  iapply (wp_ld (base := b7) (h := hA) (hl := View.loads_vmem h_S320x128) (Memref.read_access_whole _ _ _)) $$ H7; iintro H7
  iapply (wp_st (base := b7) (h := hA) (hs := View.stores_vmem_bits_univ h_S320x128 rfl) (Memref.set_access_whole _) (Memref.read_access_whole _ _ _)
    ((Memref.write_access_whole_univ _ _ _ _).trans (upd_store X B v99 v100 w l r col h99 h100 hw hM hA FloatOps.maximumf))) $$ H7; iintro H7
  iapply (wp_ld (base := b8) (h := hA) (hl := View.loads_vmem h_S320x128) (Memref.read_access_whole _ _ _)) $$ H8; iintro H8
  iapply (wp_st (base := b8) (h := hA) (hs := View.stores_vmem_bits_univ h_S320x128 rfl) (Memref.set_access_whole _) (Memref.read_access_whole _ _ _)
    ((Memref.write_access_whole_univ _ _ _ _).trans (upd_store X C v99 v100 w l r col h99 h100 hw hM hA FloatOps.minimumf))) $$ H8; iintro H8
  iapply (wp_st (base := b6) (h := hA) (hs := View.stores_vmem_bits_univ h_S320x128 rfl) (Memref.set_access_whole _) (Memref.read_access_whole _ _ _)
    ((Memref.write_access_whole_univ _ _ _ _).trans (upd_add X A v99 v100 w l r col h99 h100 hw hM hA))) $$ H6; iintro H6
  iapply HK
  isplitl [H5]; · iexact H5
  isplitl [H6]; · iexact H6
  isplitl [H7]; · iexact H7
  iexact H8

/-! ## One edge -/

/-- The staged rows, the messages and the four accumulators. -/
def edgeP (Ds : Vec F S528 .i32) (X : Vec F S16x128 .f32) (A B C : Vec F S320x128 .f32) (D : Vec F S320 .f32) : sProp (MT nD τ sig (HIx 1) (Elt F) ℕ UU ℕ) :=
  iprop(((b3).view.loc th ↦{fullShare} Ds) ∗ accP (d := d) (cc := cc) (ss := ss) X A B C ∗ ((b9).view.loc th ↦{fullShare} D))

theorem col_lane {v3 : IVec S16 32} (h3 : ∀ k : Fin 16, (v3 (lane k)).toNat = k.val) (w : BitVec 32) (hw : w.toNat + 16 ≤ 128) (k : Fin 16) :
    (addi v3 (broadcast S16 w) (lane k)).toNat = w.toNat + k.val := by
  show (v3 (lane k) + w).toNat = _
  rw [BitVec.toNat_add, h3]
  have := k.isLt
  omega

theorem edge_wp {c : BitVec 1} (E : EdgeChk (c = 1#1)) (v3 : IVec S16 32) (base l : BitVec 32) (ones : FVec F S16 .f32) (first : IVec S16 1)
    (K : TProg F cc ss α) (ln : Fin 16) (hl : l.toNat = ln.val) (h3 : ∀ k : Fin 16, (v3 (lane k)).toNat = k.val)
    (hfirst : ∀ k : Fin 16, first (lane k) = 1 ↔ k = 0) (Ds : Vec F S528 .i32) (X : Vec F S16x128 .f32)
    {A B C A' B' C' : Vec F S320x128 .f32} {D D' : Vec F S320 .f32} (r : ℕ)
    (hT : c = 1#1 → ((base + l).toNat < 528 ∧ r < 320 ∧ ∀ j : S528.Idx, (j 0).val = (base + l).toNat → (Ds j).toNat = r)
      ∧ A' = rowUpd FloatOps.idxAddf X ln r 128 A ∧ B' = rowUpd FloatOps.maximumf X ln r 128 B ∧ C' = rowUpd FloatOps.minimumf X ln r 128 C
      ∧ D' = fun j => if (j 0).val = r then FloatOps.idxAddf (D j) (ones (lane 0)) else D j)
    (hN : ¬ c = 1#1 → A' = A ∧ B' = B ∧ C' = C ∧ D' = D) :
    edgeP (d := d) (cc := cc) (ss := ss) Ds X A B C D
      ⊢ iprop((edgeP (d := d) (cc := cc) (ss := ss) Ds X A' B' C' D'
          -∗ wp frame (wpE (defs₀ (F := F)) 𝒱₀ th none) Set.univ K Q)
        -∗ wp frame (wpE (defs₀ (F := F)) 𝒱₀ th none) Set.univ (edgeG E v3 base l ones first K) Q) := by
  unfold edgeG
  by_cases h : c = 1#1
  · rw [dif_pos h]
    obtain ⟨⟨hp, hr, hDs⟩, rfl, rfl, rfl, rfl⟩ := hT h
    have hs : In528 (broadcast S16 (Scalar.addi base l)) := by
      intro a x
      obtain rfl := Fin.eq_zero a
      exact hp
    have h99 : ∀ k, (loadIdx Ds ![broadcast S16 (Scalar.addi base l)] hs (lane k) : BitVec 32).toNat = r := fun k => hDs _ rfl
    have hrow : In320 (loadIdx Ds ![broadcast S16 (Scalar.addi base l)] hs) := by
      intro a x
      obtain rfl := Fin.eq_zero a
      rw [eq_lane x]
      exact lt_of_eq_of_lt (h99 _) hr
    have h100 : ∀ k, ((broadcast S16 l : IVec S16 32) (lane k)).toNat = ln.val := fun _ => hl
    have cols : ∀ (w : BitVec 32) (hw : w.toNat + 16 ≤ 128 := by decide) (k : Fin 16), (addi v3 (broadcast S16 w) (lane k)).toNat = w.toNat + k.val :=
      fun w hw => col_lane h3 w hw
    unfold edgeP
    iintro ⟨H3, HA, H9⟩ HK
    iapply (Entails.of_eq (wp_assume_of (defs := defs₀ (F := F)) 𝒱₀ th none Set.univ ((E.s.e _).2 fun _ => hs)).symm)
    iapply (wp_ld (base := b3) (h := hs) (hl := View.loads_vmem h_S528) (Memref.read_access_whole _ _ _)) $$ H3; iintro H3
    iapply (Entails.of_eq (wp_assume_of (defs := defs₀ (F := F)) 𝒱₀ th none Set.univ ((E.r.e _).2 fun _ => hrow)).symm)
    ihave HA := (Entails.of_eq (by rw [rowUpd_zero, rowUpd_zero, rowUpd_zero] :
      accP (d := d) (cc := cc) (ss := ss) X A B C = accP (d := d) (cc := cc) (ss := ss) X (rowUpd FloatOps.idxAddf X ln r 0 A)
        (rowUpd FloatOps.maximumf X ln r 0 B) (rowUpd FloatOps.minimumf X ln r 0 C))) $$ HA
    iapply (grp_wp h E.g0 _ _ _ _ X A B C ln r 0 hr (by decide) h99 h100 (cols 0#32)) $$ HA; iintro HA
    iapply (grp_wp h E.g1 _ _ _ _ X A B C ln r 16 hr (by decide) h99 h100 (cols 16#32)) $$ HA; iintro HA
    iapply (grp_wp h E.g2 _ _ _ _ X A B C ln r 32 hr (by decide) h99 h100 (cols 32#32)) $$ HA; iintro HA
    iapply (grp_wp h E.g3 _ _ _ _ X A B C ln r 48 hr (by decide) h99 h100 (cols 48#32)) $$ HA; iintro HA
    iapply (grp_wp h E.g4 _ _ _ _ X A B C ln r 64 hr (by decide) h99 h100 (cols 64#32)) $$ HA; iintro HA
    iapply (grp_wp h E.g5 _ _ _ _ X A B C ln r 80 hr (by decide) h99 h100 (cols 80#32)) $$ HA; iintro HA
    iapply (grp_wp h E.g6 _ _ _ _ X A B C ln r 96 hr (by decide) h99 h100 (cols 96#32)) $$ HA; iintro HA
    iapply (grp_wp h E.g7 _ _ _ _ X A B C ln r 112 hr (by decide) h99 h100 (cols 112#32)) $$ HA; iintro HA
    iapply (wp_st (base := b9) (h := hrow) (hs := View.stores_vmem_bits_univ h_S320 rfl) (Memref.set_access_whole _) (Memref.read_access_whole _ _ _)
      ((Memref.write_access_whole_univ _ _ _ _).trans (funext fun j => lane0_add (n := 320) (e := .f32) D _ ones first hrow r h99 hfirst j))) $$ H9; iintro H9
    iapply HK
    isplitl [H3]; · iexact H3
    isplitl [HA]; · iexact HA
    iexact H9
  · rw [dif_neg h]
    obtain ⟨rfl, rfl, rfl, rfl⟩ := hN h
    iintro H HK
    iapply HK
    iexact H

/-- What follows an edge may be carried into it. -/
theorem edgeG_bind {β : Type} {c : BitVec 1} (E : EdgeChk (c = 1#1)) (v3 : IVec S16 32) (base l : BitVec 32) (ones : FVec F S16 .f32) (first : IVec S16 1)
    (K : TProg F cc ss α) (f : α → TProg F cc ss β) :
    (edgeG E v3 base l ones first K >>= f) = edgeG E v3 base l ones first (K >>= f) := by
  unfold edgeG
  by_cases h : c = 1#1
  · rw [dif_pos h, dif_pos h]; rfl
  · rw [dif_neg h, dif_neg h]

end Cert.Proof.Ideal
-- ==== Proof.Ideal.Fold.lean ====
/-
  What a tile's accumulators hold after a list of edges, and one edge of a batch as one more edge of the list.
-/
module

public import proofs.«01_k».proof.Proof.Ideal.Step

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable {d : Dev nD} {cc : Fin τ.nSC} {ss : Fin τ.nSub} {α : Type}
variable {Q : α → sProp (MT nD τ sig (HIx 1) (Elt F) ℕ UU ℕ)}

local notation "th" => (V d cc ss : Thread nD τ)

/-! ## The batches of a stage -/

theorem loops_all : ∀ n : Fin 513, (k0_t6_loop (BitVec.ofNat 32 n.val)).trips = (n.val + 15) / 16
    ∧ (k0_t6_loop (BitVec.ofNat 32 n.val)).OK ∧ (k0_t7_loop (BitVec.ofNat 32 n.val)).OK := by decide +kernel

theorem loops (v : BitVec 32) (h : v.toNat ≤ 512) : (k0_t6_loop v).trips = (v.toNat + 15) / 16 ∧ (k0_t6_loop v).OK ∧ (k0_t7_loop v).OK := by
  have := loops_all ⟨v.toNat, by omega⟩
  rwa [show BitVec.ofNat 32 v.toNat = v from BitVec.eq_of_toNat_eq (by rw [BitVec.toNat_ofNat, Nat.mod_eq_of_lt v.isLt])] at this

/-- The first edge of batch `t`. -/
abbrev baseW (t : ℕ) : BitVec 32 := Scalar.muli (Scf.iv 0#32 1#32 t) 16#32

theorem baseW_toNat (t : ℕ) (h : t < 33) : (baseW t).toNat = 16 * t := by
  show ((0#32 + BitVec.ofNat 32 t * 1#32) * 16#32).toNat = _
  have h1 : (BitVec.ofNat 32 t).toNat = t := by rw [BitVec.toNat_ofNat, Nat.mod_eq_of_lt (by omega)]
  rw [BitVec.zero_add, BitVec.mul_one, BitVec.toNat_mul, h1]
  show t * 16 % 2 ^ 32 = _
  omega

theorem add_small (x y : BitVec 32) (hx : x.toNat < 1024) (hy : y.toNat < 1024) : (x + y).toNat = x.toNat + y.toNat := by
  rw [BitVec.toNat_add]; omega

theorem toInt_small (x : BitVec 32) (h : x.toNat < 2 ^ 31) : x.toInt = (x.toNat : Int) := by
  rw [BitVec.toInt_eq_toNat_cond, if_pos (by omega)]

/-- An edge's condition: the stage has that many edges. -/
theorem cond_iff (v b l : BitVec 32) (hv : v.toNat ≤ 512) (hb : b.toNat ≤ 512) (hl : l.toNat < 16) :
    Scalar.cmpi .ne (Scalar.extui (Scalar.cmpi .sgt (Scalar.subi v b) l)) 0#32 = 1#1 ↔ b.toNat + l.toNat < v.toNat := by
  have key : ∀ x : BitVec 1, Scalar.cmpi .ne (Scalar.extui x) 0#32 = 1#1 ↔ x = 1#1 := by decide
  rw [key]
  show BitVec.ofBool (decide (l.toInt < (v - b).toInt)) = 1#1 ↔ _
  have hi : (v - b).toInt = (v.toNat : Int) - b.toNat := by
    rw [BitVec.toInt_sub, toInt_small v (by omega), toInt_small b (by omega)]
    exact Int.bmod_eq_of_le (by omega) (by omega)
  rw [hi, toInt_small l (by omega)]
  have h1 : ∀ p : Prop, [Decidable p] → (BitVec.ofBool (decide p) = 1#1 ↔ p) := by
    intro p _
    by_cases h : p
    · rw [decide_eq_true h]; exact ⟨fun _ => h, fun _ => rfl⟩
    · rw [decide_eq_false h]; exact ⟨fun h' => absurd h' (by decide), fun h' => absurd h' h⟩
  exact (h1 _).trans ⟨fun h => by omega, fun h => by omega⟩

/-! ## The accumulators -/

abbrev zeroF : F .f32 := Scalar.ofBits .f32 0x0#32
abbrev oneF : F .f32 := Scalar.ofBits .f32 0x3F800000#32
abbrev loF : F .f32 := Named.named κ "lowest" 0xFF7FC99E#32
abbrev hiF : F .f32 := Named.named κ "highest" 0x7F7FC99E#32

/-- The edges' ends, the nodes' features, and the tile's first node. -/
structure Inp (F : FTy → Type) where
  src : ℕ → BitVec 32
  dst : ℕ → BitVec 32
  h : Vec F S10000x128 .f32
  lo : ℕ

namespace Inp

variable (I : Inp F)

/-- Edge `e` ends at one of the tile's nodes, -/
def M (e : ℕ) : Bool := decide (I.lo ≤ (I.dst e).toNat ∧ (I.dst e).toNat < I.lo + 320)
/-- at this row of it, -/
def R (e : ℕ) : ℕ := (I.dst e).toNat - I.lo
/-- and brings this message. -/
def H (e : ℕ) (c : Fin 128) : F .f32 := I.h (rowAt (n := 10000) (Fin.ofNat 10000 (I.src e).toNat) c)

def sum (L : List ℕ) : Vec F S320x128 .f32 := accL I.R I.H FloatOps.idxAddf zeroF L
def max (L : List ℕ) : Vec F S320x128 .f32 := accL I.R I.H FloatOps.maximumf loF L
def min (L : List ℕ) : Vec F S320x128 .f32 := accL I.R I.H FloatOps.minimumf hiF L
def deg (L : List ℕ) : Vec F S320 .f32 := degL I.R oneF zeroF L

end Inp

/-- A batch's messages and the accumulators after the edges of `L`. -/
def foldP (I : Inp F) (Ds : Vec F S528 .i32) (X : Vec F S16x128 .f32) (L : List ℕ) : sProp (MT nD τ sig (HIx 1) (Elt F) ℕ UU ℕ) :=
  edgeP (d := d) (cc := cc) (ss := ss) Ds X (I.sum L) (I.max L) (I.min L) (I.deg L)

/-- Position `k` of a stage. -/
def lane528 (k : Fin 528) : S528.Idx := Shape.ofLane (d := ![528]) k

theorem fold_edge (I : Inp F) (L0 Lst : List ℕ) {c : BitVec 1} (E : EdgeChk (c = 1#1)) (v3 : IVec S16 32) (base l : BitVec 32) (ones : FVec F S16 .f32)
    (first : IVec S16 1) (K : TProg F cc ss α) (ln : Fin 16) (hl : l.toNat = ln.val) (h3 : ∀ k : Fin 16, (v3 (lane k)).toNat = k.val)
    (hones : ones (lane 0) = oneF)
    (hfirst : ∀ k : Fin 16, first (lane k) = 1 ↔ k = 0) (Ds : Vec F S528 .i32) (X : Vec F S16x128 .f32)
    (n : ℕ) (hn : (base + l).toNat = n) (hn' : n < 528) (hc : c = 1#1 ↔ n < Lst.length)
    (hD : ∀ j e, Lst[(j 0).val]? = some e → (Ds j).toNat = I.R e ∧ I.R e < 320)
    (hX : ∀ e, Lst[n]? = some e → ∀ col, X (rowAt (n := 16) ln col) = I.H e col) :
    foldP (d := d) (cc := cc) (ss := ss) I Ds X (L0 ++ Lst.take n)
      ⊢ iprop((foldP (d := d) (cc := cc) (ss := ss) I Ds X (L0 ++ Lst.take (n + 1))
          -∗ wp frame (wpE (defs₀ (F := F)) 𝒱₀ th none) Set.univ K Q)
        -∗ wp frame (wpE (defs₀ (F := F)) 𝒱₀ th none) Set.univ (edgeG E v3 base l ones first K) Q) := by
  unfold foldP
  by_cases hlt : n < Lst.length
  · have he : Lst[n]? = some Lst[n] := List.getElem?_eq_getElem hlt
    have ht : L0 ++ Lst.take (n + 1) = (L0 ++ Lst.take n) ++ [Lst[n]] := by
      rw [List.take_succ, he, List.append_assoc]; rfl
    rw [ht]
    refine edge_wp E v3 base l ones first K ln hl h3 hfirst Ds X (I.R Lst[n]) (fun _ => ⟨⟨by omega, ?_, ?_⟩, ?_, ?_, ?_, ?_⟩) (fun h => absurd (hc.2 hlt) h)
    · exact (hD (lane528 ⟨n, hn'⟩) _ he).2
    · intro j hj
      exact (hD j _ (by rw [hj, hn]; exact he)).1
    · exact accL_concat _ _ _ _ _ _ X ln (hX _ he)
    · exact accL_concat _ _ _ _ _ _ X ln (hX _ he)
    · exact accL_concat _ _ _ _ _ _ X ln (hX _ he)
    · rw [hones]; exact degL_concat _ _ _ _ _
  · have ht : L0 ++ Lst.take (n + 1) = L0 ++ Lst.take n := by
      rw [List.take_of_length_le (by omega), List.take_of_length_le (by omega)]
    rw [ht]
    exact edge_wp E v3 base l ones first K ln hl h3 hfirst Ds X 0 (fun h => absurd (hc.1 h) hlt) (fun _ => ⟨rfl, rfl, rfl, rfl⟩)

end Cert.Proof.Ideal
-- ==== Proof.Ideal.Filter.lean ====
/-
  One group of sixteen edges filtered: which match, where each is staged, how many there are.
-/
module

public import proofs.«01_k».proof.Proof.Ideal.Fold

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- Edge `e` of the edge list. -/
def edgeIx (e : ℕ) : S320000.Idx := Shape.ofLane (d := ![320000]) (Fin.ofNat 320000 e)

/-- The tile's input from the two edge rows, the features and its first node. -/
def mkI (fs fd : Vec F S320000 .i32) (h : Vec F S10000x128 .f32) (lo : ℕ) : Inp F := ⟨fun e => fs (edgeIx e), fun e => fd (edgeIx e), h, lo⟩

variable (I : Inp F) (a n₀ : ℕ) (v2 : BitVec 32) (D : IVec S16 32)

abbrev maskV (v2 : BitVec 32) (D : IVec S16 32) : IVec S16 1 :=
  andi (cmpi .sge D (broadcast S16 v2)) (cmpi .slt D (broadcast S16 (Scalar.addi v2 320#32)))
abbrev prefV (v2 : BitVec 32) (D : IVec S16 32) : IVec S16 32 := scan .sum (extui 32 (maskV v2 D) natLt_1_32)
abbrev posV (v2 : BitVec 32) (D : IVec S16 32) (ptr : BitVec 32) : IVec S16 32 :=
  maxsi (subi (addi (broadcast S16 ptr) (prefV v2 D)) (broadcast S16 1#32)) (broadcast S16 0#32)
abbrev totV (v2 : BitVec 32) (D : IVec S16 32) : BitVec 32 :=
  extractAt ![15] (xori (scan .max (xori (prefV v2 D) (broadcast S16 2147483648#32))) (broadcast S16 2147483648#32)) inpos_S16_p15

variable {I a n₀ v2 D} (hv2 : v2.toNat = I.lo) (hlo : I.lo ≤ 9920) (hD : ∀ k : Fin 16, D (lane k) = I.dst (a + n₀ + k.val))
  (hdst : ∀ e, (I.dst e).toNat < 10000)

include hv2 hlo hD hdst

theorem mask_eq (k : Fin 16) : maskV v2 D (lane k) = BitVec.ofBool (I.M (a + n₀ + k.val)) := by
  have h := hdst (a + n₀ + k.val)
  show BitVec.ofBool (decide (v2.toInt ≤ (D (lane k)).toInt)) &&& BitVec.ofBool (decide ((D (lane k)).toInt < (v2 + 320#32).toInt)) = _
  rw [hD k]
  have h320 : (v2 + 320#32).toNat = I.lo + 320 := by
    rw [BitVec.toNat_add, hv2]; show (I.lo + 320) % 2 ^ 32 = _; omega
  rw [toInt_small v2 (by omega), toInt_small _ (show (I.dst (a + n₀ + k.val)).toNat < 2 ^ 31 by omega), toInt_small (v2 + 320#32) (by omega), h320, hv2]
  unfold Inp.M
  rw [BitVec.ofBool_and_ofBool, ← Bool.decide_and]
  congr 1
  exact decide_eq_decide.2 ⟨fun h => ⟨by omega, by omega⟩, fun h => ⟨by omega, by omega⟩⟩

theorem mask_iff (k : Fin 16) : maskV v2 D (lane k) = 1 ↔ I.M (a + n₀ + k.val) = true := by
  rw [mask_eq hv2 hlo hD hdst k]
  cases I.M (a + n₀ + k.val) <;> decide

theorem pref_eq (n : ℕ) (h : n < 16) : prefV v2 D (lane ⟨n, h⟩) = BitVec.ofNat 32 (seg I.M (a + n₀) (n + 1)).length := by
  refine scan_sum I.M (a + n₀) _ (fun k => ?_) n h
  show (maskV v2 D (lane k)).setWidth 32 = _
  rw [mask_eq hv2 hlo hD hdst k]
  cases I.M (a + n₀ + k.val) <;> decide

theorem tot_eq : totV v2 D = BitVec.ofNat 32 (seg I.M (a + n₀) 16).length := by
  have h := scan_max I.M (a + n₀) (xori (prefV v2 D) (broadcast S16 2147483648#32))
    (fun n h => by show prefV v2 D (lane ⟨n, h⟩) ^^^ 2147483648#32 = _; rw [pref_eq hv2 hlo hD hdst n h]) 15 (by decide)
  show scan .max _ (lane 15) ^^^ 2147483648#32 = _
  refine (congrArg (· ^^^ 2147483648#32) h).trans ?_
  rw [BitVec.xor_assoc, BitVec.xor_self, BitVec.xor_zero]

theorem pos_eq (p : ℕ) (hp : p ≤ 496) (k : Fin 16) :
    (posV v2 D (BitVec.ofNat 32 p) (lane k)).toNat = p + (seg I.M (a + n₀) (k.val + 1)).length - 1 := by
  have hl := seg_length_le I.M (a + n₀) (k.val + 1)
  have hk := k.isLt
  have hpr := pref_eq hv2 hlo hD hdst k.val hk
  have hc := count_toNat I.M (a + n₀) (k.val + 1) (by omega)
  show (IntOp.maxsi (BitVec.ofNat 32 p + prefV v2 D (lane ⟨k.val, hk⟩) - 1#32) 0#32).toNat = _
  rw [hpr]
  generalize (seg I.M (a + n₀) (k.val + 1)).length = m at *
  have h1 : BitVec.ofNat 32 p + BitVec.ofNat 32 m = BitVec.ofNat 32 (p + m) := by rw [BitVec.ofNat_add]
  rw [h1]
  have hall : ∀ q : Fin 513, (IntOp.maxsi (BitVec.ofNat 32 q.val - 1#32) 0#32).toNat = q.val - 1 := by decide +kernel
  exact hall ⟨p + m, by omega⟩

theorem pos_in (p : ℕ) (hp : p ≤ 496) : In528 (posV v2 D (BitVec.ofNat 32 p)) := by
  intro b x
  obtain rfl := Fin.eq_zero b
  rw [eq_lane x]
  have hl := seg_length_le I.M (a + n₀) ((x 0).val + 1)
  have : (x 0).val < 16 := (x 0).isLt
  exact lt_of_eq_of_lt (pos_eq hv2 hlo hD hdst p hp (x 0)) (show _ < 528 by omega)

theorem pos_match (hn : n₀ ≤ 496) (k : Fin 16) (hM : I.M (a + n₀ + k.val) = true) :
    (posV v2 D (BitVec.ofNat 32 (seg I.M a n₀).length) (lane k)).toNat = (seg I.M a (n₀ + k.val)).length := by
  have hl := seg_length_le I.M a n₀
  rw [pos_eq hv2 hlo hD hdst _ (by omega) k, seg_succ, if_pos hM, seg_add, List.length_append, List.length_append]
  rfl

theorem ptr_eq : Scalar.addi (BitVec.ofNat 32 (seg I.M a n₀).length) (totV v2 D) = BitVec.ofNat 32 (seg I.M a (n₀ + 16)).length := by
  rw [tot_eq hv2 hlo hD hdst, seg_add, List.length_append]
  show BitVec.ofNat 32 _ + BitVec.ofNat 32 _ = _
  rw [BitVec.ofNat_add]

omit hlo hdst in
theorem row_eq (k : Fin 16) (hM : I.M (a + n₀ + k.val) = true) : (subi D (broadcast S16 v2) (lane k)).toNat = I.R (a + n₀ + k.val) := by
  show (D (lane k) - v2).toNat = _
  unfold Inp.M at hM
  have h := of_decide_eq_true hM
  rw [hD k, BitVec.toNat_sub_of_le (by rw [BitVec.le_def, hv2]; exact h.1), hv2]
  rfl

end Cert.Proof.Ideal
-- ==== Proof.Ideal.Window19.lean ====
/-
  The first window of a batch's body: the batch's rows gathered, then its edges zero to five.
-/
module

public import proofs.«01_k».proof.Proof.Ideal.Edge

@[expose] public section

noncomputable section

namespace Cert.Proof.Ideal

open Cert.KernelIdeal Cert.KernelIdeal.Gen
open Idealize.ShloMosaic
open Idealize.SL.Sem

variable {F : FTy → Type} [FloatOps F] [Named F]

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable (i : grid0.Coords)

set_option maxRecDepth 100000 in
set_option maxHeartbeats 40000000 in
theorem part19_eq (v3 : IVec S16 32) (v14 c0 c1 : BitVec 32) (t : Fin (k0_t6_loop v14).trips) :
    k0_part19 i rSrc (Memref.isWhole_whole _) rDst (Memref.isWhole_whole _) rH (Memref.isWhole_whole _)
      rO0 (Memref.isWhole_whole _) rO1 (Memref.isWhole_whole _) rO2 (Memref.isWhole_whole _) rO3 (Memref.isWhole_whole _)
      b0 (Memref.isWhole_whole _) b1 (Memref.isWhole_whole _) b2 (Memref.isWhole_whole _) b3 (Memref.isWhole_whole _)
      b4 (Memref.isWhole_whole _) b5 (Memref.isWhole_whole _) b6 (Memref.isWhole_whole _) b7 (Memref.isWhole_whole _)
      b8 (Memref.isWhole_whole _) b9 (Memref.isWhole_whole _) cc0_scratch10 cc0_scoped0 cc0_scoped1 cc0_scoped2 cc0_scoped3 cc0_scoped4 cc0_scoped5
      v3 v14 c0 c1 t
    = (do
      have v40 : IVec S16 32 := addi (broadcast S16 (Scalar.muli (Scf.iv c0 c1 t) 16#32)) v3
      have hw : k0_chk3 v40 := (← Prog.lift (TpuEff.assume (k0_chk3 v40) (k0_chk3.dec v40))).down
      let v41 : Vec F S16 .i32 ← SparseCore.vectorLoadIdx b2 ![v40] (k0_idx3_inb v40 hw) (View.loads_vmem h_S528)
      let _ ← Prog.lift (.load b4 (Rect.unit (s := S16) ![0] S16.size inb_S16_S16_0).toLoadRect (View.loadsAt_vmem h_S16))
      Prog.lift (.store b4 (Rect.unit (s := S16) ![0] S16.size inb_S16_S16_0) v41 Finset.univ (View.stores_vmem_bits_univ h_S16 rfl) (.inl rfl))
      SparseCore.enqueueIndirectGather rfl ((rH).slice (Rect.unit (s := S10000x128) ![0, 0] S10000x128.size inb_S10000x128_S10000x128_0_0) (fun _ => rfl))
        b5 gathers_S10000x128_S16x128 b4 rfl cc0_scratch10.sem (View.wordExact_bits rfl) rfl (Or.inl rfl)
      SparseCore.waitIndirectGather cc0_scratch10.sem ((rH).slice (Rect.unit (s := S10000x128) ![0, 0] S10000x128.size inb_S10000x128_S10000x128_0_0) (fun _ => rfl))
        b5 (View.wordExact_bits rfl) (Memref.isWhole_whole _).wordExact
      edgeG (E0 v14 t) v3 (Scalar.muli (Scf.iv c0 c1 t) 16#32) 0#32 (broadcast S16 (Scalar.ofBits .f32 0x3F800000#32)) (cmpi .eq v3 (broadcast S16 0#32)) <|
       edgeG (E1 v14 t) v3 (Scalar.muli (Scf.iv c0 c1 t) 16#32) 1#32 (broadcast S16 (Scalar.ofBits .f32 0x3F800000#32)) (cmpi .eq v3 (broadcast S16 0#32)) <|
       edgeG (E2 v14 t) v3 (Scalar.muli (Scf.iv c0 c1 t) 16#32) 2#32 (broadcast S16 (Scalar.ofBits .f32 0x3F800000#32)) (cmpi .eq v3 (broadcast S16 0#32)) <|
       edgeG (E3 v14 t) v3 (Scalar.muli (Scf.iv c0 c1 t) 16#32) 3#32 (broadcast S16 (Scalar.ofBits .f32 0x3F800000#32)) (cmpi .eq v3 (broadcast S16 0#32)) <|
       edgeG (E4 v14 t) v3 (Scalar.muli (Scf.iv c0 c1 t) 16#32) 4#32 (broadcast S16 (Scalar.ofBits .f32 0x3F800000#32)) (cmpi .eq v3 (broadcast S16 0#32)) <|
       edgeG (E5 v14 t) v3 (Scalar.muli (Scf.iv c0 c1 t) 16#32) 5#32 (broadcast S16 (Scalar.ofBits .f32 0x3F800000#32)) (cmpi .eq v3 (broadcast S16 0#32)) <|
       pure ⟨Scalar.muli (Scf.iv c0 c1 t) 16#32, Scalar.subi v14 (Scalar.muli (Scf.iv c0 c1 t) 16#32),
        broadcast S16 (Scalar.ofBits .f32 0x3F800000#32), cmpi .eq v3 (broadcast S16 0#32)⟩) := rfl

end Cert.Proof.Ideal
-- ==== Proof.Ideal.Window20.lean ====
/-
  The second window of a batch's body as its edges six to fifteen.
-/
module

public import proofs.«01_k».proof.Proof.Ideal.Edge

@[expose] public section

noncomputable section

namespace Cert.Proof.Ideal

open Cert.KernelIdeal Cert.KernelIdeal.Gen
open Idealize.ShloMosaic
open Idealize.SL.Sem

variable {F : FTy → Type} [FloatOps F] [Named F]

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable (i : grid0.Coords)

set_option maxRecDepth 100000 in
set_option maxHeartbeats 40000000 in
theorem part20_eq (v3 : IVec S16 32) (v14 : BitVec 32) (t : Fin (k0_t6_loop v14).trips) (v38 v45 : BitVec 32) (v46 : FVec F S16 .f32) (v48 : IVec S16 1) :
    k0_part20 i rSrc (Memref.isWhole_whole _) rDst (Memref.isWhole_whole _) rH (Memref.isWhole_whole _)
      rO0 (Memref.isWhole_whole _) rO1 (Memref.isWhole_whole _) rO2 (Memref.isWhole_whole _) rO3 (Memref.isWhole_whole _)
      b0 (Memref.isWhole_whole _) b1 (Memref.isWhole_whole _) b2 (Memref.isWhole_whole _) b3 (Memref.isWhole_whole _)
      b4 (Memref.isWhole_whole _) b5 (Memref.isWhole_whole _) b6 (Memref.isWhole_whole _) b7 (Memref.isWhole_whole _)
      b8 (Memref.isWhole_whole _) b9 (Memref.isWhole_whole _) cc0_scratch10 cc0_scoped0 cc0_scoped1 cc0_scoped2 cc0_scoped3 cc0_scoped4 cc0_scoped5
      v3 v14 t v38 v45 v46 v48
    = (edgeG (E6 v14 t) v3 v38 6#32 v46 v48 <|
       edgeG (E7 v14 t) v3 v38 7#32 v46 v48 <|
       edgeG (E8 v14 t) v3 v38 8#32 v46 v48 <|
       edgeG (E9 v14 t) v3 v38 9#32 v46 v48 <|
       edgeG (E10 v14 t) v3 v38 10#32 v46 v48 <|
       edgeG (E11 v14 t) v3 v38 11#32 v46 v48 <|
       edgeG (E12 v14 t) v3 v38 12#32 v46 v48 <|
       edgeG (E13 v14 t) v3 v38 13#32 v46 v48 <|
       edgeG (E14 v14 t) v3 v38 14#32 v46 v48 <|
       edgeG (E15 v14 t) v3 v38 15#32 v46 v48 <| pure ⟨⟩) := rfl

end Cert.Proof.Ideal
-- ==== Proof.Ideal.Batch.lean ====
/-
  One batch: sixteen staged rows gathered, and the batch's edges folded in.
-/
module

public import proofs.«01_k».proof.Proof.Ideal.Fold
public import proofs.«01_k».proof.Proof.Ideal.Window19
public import proofs.«01_k».proof.Proof.Ideal.Window20
public import Idealize.ShloMosaic.Lib.SparseCore.FromWhole
public import Idealize.ShloMosaic.Lib.VecWindow

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable {d : Dev nD} {cc : Fin τ.nSC} {ss : Fin τ.nSub}

local notation "th" => (V d cc ss : Thread nD τ)

/-! ## The gathered rows -/

/-- The rows of features that staged positions `16 t, …, 16 t + 15` name. -/
def msgX (I : Inp F) (Ss : Vec F S528 .i32) (t : ℕ) : Vec F S16x128 .f32 :=
  fun j => I.h (rowAt (n := 10000) (Fin.ofNat 10000 (Ss (lane528 (Fin.ofNat 528 (16 * t + (j 0).val)))).toNat) (j 1))

theorem gather_row (fs : Vec F S10000x128 .f32) (fo : Vec F S16 .i32)
    (hin : ∀ x, ((b4).view.read (Elt F) fo x).toNat < S10000x128.size gathers_S10000x128_S16x128.axis) :
    SparseCore.gatherPayload gathers_S10000x128_S16x128
      (((rH).slice (Rect.unit (s := S10000x128) ![0, 0] S10000x128.size inb_S10000x128_S10000x128_0_0) (fun _ => rfl)).view.read (Elt F) fs)
      (SparseCore.rows ((b4).view.read (Elt F) fo) rfl hin)
      = fun j => fs (rowAt (n := 10000) (Fin.ofNat 10000 (fo (lane (j 0))).toNat) (j 1)) := by
  funext j
  have hr : ∀ k : Fin 16, (S16.rowMajor.symm (k.cast (rfl : S16.numel = 16).symm)) = lane k := by decide
  refine (View.read_apply _ _).trans ((cast_eq _ _).trans (congrArg fs (funext fun a => ?_)))
  have hj : (j 0).val < 16 := (j 0).isLt
  match a with
  | 0 =>
    refine Fin.ext ?_
    have h0 := hin (lane (j 0))
    have h1 : ((gathers_S10000x128_S16x128.idx (SparseCore.rows ((b4).view.read (Elt F) fo) rfl hin) j) 0).val = (fo (lane (j 0))).toNat :=
      (congrArg Fin.val (Shape.Gathers.idx_axis gathers_S10000x128_S16x128 (SparseCore.rows ((b4).view.read (Elt F) fo) rfl hin) j)).trans
        (congrArg (fun x => (fo x).toNat) (hr (j 0)))
    have h2 : (fo (lane (j 0))).toNat < 10000 := h0
    show 0 + 1 * ((gathers_S10000x128_S16x128.idx (SparseCore.rows ((b4).view.read (Elt F) fo) rfl hin) j) 0).val = (fo (lane (j 0))).toNat % 10000
    rw [h1, Nat.mod_eq_of_lt h2]
    omega
  | 1 =>
    refine Fin.ext ?_
    have h1 : ((gathers_S10000x128_S16x128.idx (SparseCore.rows ((b4).view.read (Elt F) fo) rfl hin) j) 1).val = (j 1).val := by
      unfold Shape.Gathers.idx
      rw [dif_neg (by decide)]
      rfl
    show 0 + 1 * ((gathers_S10000x128_S16x128.idx (SparseCore.rows ((b4).view.read (Elt F) fo) rfl hin) j) 1).val = (j 1).val
    rw [h1]
    omega

theorem first_iff {v3 : IVec S16 32} (h3 : ∀ k : Fin 16, (v3 (lane k)).toNat = k.val) (k : Fin 16) :
    cmpi .eq v3 (broadcast S16 0#32) (lane k) = 1 ↔ k = 0 := by
  have h1 := h3 k
  show BitVec.ofBool (v3 (lane k) == 0#32) = 1#1 ↔ _
  constructor
  · intro h
    by_cases h0 : v3 (lane k) = 0#32
    · rw [h0] at h1; exact Fin.ext h1.symm
    · rw [beq_false_of_ne h0] at h; exact absurd h (by decide)
  · rintro rfl
    rw [show v3 (lane 0) = 0#32 from BitVec.eq_of_toNat_eq h1]; decide

/-! ## A stage -/

/-- The stage holds the edges of `Lst`: `v14` of them, their sources and their rows. -/
structure Staged (I : Inp F) (Lst : List ℕ) (v14 : BitVec 32) (Ss Ds : Vec F S528 .i32) : Prop where
  n : v14.toNat = Lst.length
  le : Lst.length ≤ 512
  s : ∀ j e, Lst[(j 0).val]? = some e → Ss j = I.src e
  a : ∀ j, (Ss j).toNat < 10000
  d : ∀ j e, Lst[(j 0).val]? = some e → (Ds j).toNat = I.R e ∧ I.R e < 320

variable {I : Inp F} {Lst : List ℕ} {v14 : BitVec 32} {Ss Ds : Vec F S528 .i32}

theorem trip_lt (hS : Staged I Lst v14 Ss Ds) (t : Fin (k0_t6_loop v14).trips) : t.val < 32 := by
  have h := (loops v14 (hS.n.trans_le hS.le)).1
  have h1 := hS.n.trans_le hS.le
  have := t.isLt
  omega

theorem base_add (t : ℕ) (ht : t < 32) (l : BitVec 32) (hl : l.toNat < 16) : (baseW t + l).toNat = 16 * t + l.toNat := by
  have := baseW_toNat t (by omega)
  rw [add_small _ _ (by omega) (by omega), this]

theorem Staged.cond (hS : Staged I Lst v14 Ss Ds) (t : ℕ) (ht : t < 32) (l : BitVec 32) (hl : l.toNat < 16) :
    Scalar.cmpi .ne (Scalar.extui (Scalar.cmpi .sgt (Scalar.subi v14 (baseW t)) l)) 0#32 = 1#1 ↔ 16 * t + l.toNat < Lst.length := by
  have hb := baseW_toNat t (by omega)
  rw [cond_iff v14 (baseW t) l (hS.n.trans_le hS.le) (by omega) hl, hb, hS.n]

theorem Staged.x (hS : Staged I Lst v14 Ss Ds) (t : ℕ) (ht : t < 32) (l : Fin 16) (e : ℕ) (he : Lst[16 * t + l.val]? = some e) (c : Fin 128) :
    msgX I Ss t (rowAt (n := 16) l c) = I.H e c := by
  have hl := l.isLt
  have : Ss (lane528 (Fin.ofNat 528 (16 * t + l.val))) = I.src e :=
    hS.s _ e (by rw [show (lane528 (Fin.ofNat 528 (16 * t + l.val)) 0).val = 16 * t + l.val from Nat.mod_eq_of_lt (by omega)]; exact he)
  show I.h (rowAt (n := 10000) (Fin.ofNat 10000 (Ss (lane528 (Fin.ofNat 528 (16 * t + l.val)))).toNat) c) = _
  rw [this]; rfl

/-- The positions a batch reads. -/
theorem pos_lane {v3 : IVec S16 32} (h3 : ∀ k : Fin 16, (v3 (lane k)).toNat = k.val) (t : ℕ) (ht : t < 32) (k : Fin 16) :
    (addi (broadcast S16 (baseW t)) v3 (lane k)).toNat = 16 * t + k.val := by
  have := base_add t ht (v3 (lane k)) (by rw [h3]; exact k.isLt)
  rw [h3] at this
  exact this

/-- The tile's SparseCore and its subcore. -/
abbrev cV (i : grid0.Coords) : Fin τ.nSC := (i 0).castLE hcore0
abbrev jV (i : grid0.Coords) : Fin τ.nSub := (i 1).castLE hsub0

variable (i : grid0.Coords)

local notation "ti" => (V d (cV i) (jV i) : Thread nD τ)

set_option maxHeartbeats 1000000 in
theorem part19_wp (hS : Staged I Lst v14 Ss Ds) (L0 : List ℕ) {v3 : IVec S16 32} (h3 : ∀ k : Fin 16, (v3 (lane k)).toNat = k.val)
    (t : Fin (k0_t6_loop v14).trips) (q : PosShare TreeShare) (O : CellTallies nD τ sig (HIx 1)) (W : Waits sig (HIx 1)) (X : Vec F S16x128 .f32)
    {Q : ((_ : BitVec 32) ×' (_ : BitVec 32) ×' (_ : FVec F S16 .f32) ×' IVec S16 1) → sProp (MT nD τ sig (HIx 1) (Elt F) ℕ UU ℕ)} :
    iprop(Transfers.MayWaits ti (default : HIx 1) O ∗ ((rH).view.loc ti ↦{q} I.h) ∗ ((b2).view.loc ti ↦{fullShare} Ss) ∗ (∃ f, (b4).view.loc ti ↦{fullShare} f)
        ∗ semVal (ti, SemLoc.dma cc0_scratch10.sem) 0 ∗ owes ti O W
        ∗ foldP (d := d) (cc := cV i) (ss := jV i) I Ds X (L0 ++ Lst.take (16 * t.val)))
      ⊢ iprop(((((rH).view.loc ti ↦{q} I.h) ∗ ((b2).view.loc ti ↦{fullShare} Ss) ∗ (∃ f, (b4).view.loc ti ↦{fullShare} f)
              ∗ semVal (ti, SemLoc.dma cc0_scratch10.sem) 0 ∗ owes ti O (insert (SemLoc.dma cc0_scratch10.sem, default) W)
              ∗ foldP (d := d) (cc := cV i) (ss := jV i) I Ds (msgX I Ss t) (L0 ++ Lst.take (16 * t.val + 6)))
            -∗ Q ⟨baseW t, Scalar.subi v14 (baseW t), broadcast S16 oneF, cmpi .eq v3 (broadcast S16 0#32)⟩)
        -∗ wp frame (wpE (defs₀ (F := F)) 𝒱₀ ti none) Set.univ
          (k0_part19 i rSrc (Memref.isWhole_whole _) rDst (Memref.isWhole_whole _) rH (Memref.isWhole_whole _)
            rO0 (Memref.isWhole_whole _) rO1 (Memref.isWhole_whole _) rO2 (Memref.isWhole_whole _) rO3 (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _) cc0_scratch10 cc0_scoped0 cc0_scoped1 cc0_scoped2 cc0_scoped3 cc0_scoped4 cc0_scoped5
            v3 v14 0#32 1#32 t) Q) := by
  have ht := trip_lt hS t
  have hp := pos_lane h3 t.val ht
  have hin : In528 (addi (broadcast S16 (baseW t)) v3) := by
    intro a x
    obtain rfl := Fin.eq_zero a
    rw [eq_lane x]
    exact lt_of_eq_of_lt (hp (x 0)) (show 16 * t.val + (x 0).val < 528 from by have : (x 0).val < 16 := (x 0).isLt; omega)
  have hld : ∀ k : Fin 16, loadIdx Ss ![addi (broadcast S16 (baseW t)) v3] hin (lane k) = Ss (lane528 (Fin.ofNat 528 (16 * t.val + k.val))) := by
    intro k
    refine congrArg Ss (funext fun a => ?_)
    obtain rfl := Fin.eq_zero a
    refine Fin.ext ((hp k).trans (Nat.mod_eq_of_lt (by have := k.isLt; omega)).symm)
  rw [part19_eq]
  unfold foldP edgeP accP
  iintro ⟨#Hmw, HH, H2, ⟨%f4, H4⟩, Hsem, HO, H3, ⟨H5, H6, H7, H8⟩, H9⟩ HK
  iapply (Entails.of_eq (wp_assume_of (defs := defs₀ (F := F)) 𝒱₀ ti none Set.univ (show k0_chk3 _ from hin)).symm)
  iapply (wp_ld (base := b2) (h := hin) (hl := View.loads_vmem h_S528) (Memref.read_access_whole _ _ _)) $$ H2; iintro H2
  sl_exec
  ihave H4 := (Entails.of_eq (congrArg (fun g : Vec F S16 .i32 => ((b4).view.loc ti ↦{fullShare} g : sProp 𝕄))
    (show ((b4).view.writes (Elt F) (b4).view.junk (part19_wp.sl.H4_1 t hin) : Vec F S16 .i32) = loadIdx Ss ![addi (broadcast S16 (baseW t)) v3] hin from
      (View.read_whole _ _).symm.trans (View.read_writes_full _ _ _ _ [])))) $$ H4
  have hfo : ∀ x, ((b4).view.read (Elt F) (loadIdx Ss ![addi (broadcast S16 (baseW t)) v3] hin) x).toNat < S10000x128.size gathers_S10000x128_S16x128.axis := by
    intro x
    rw [eq_lane x]
    exact lt_of_eq_of_lt (congrArg BitVec.toNat (hld (x 0))) (hS.a _)
  have hN : ∀ h : S10000x128.Gathers 0 S16x128, ∑ j, ((b5).slice (S16x128.rowRect h.axis' j) (S16x128.stride_rowRect h.axis' j)).view.dmaCredit
      = (b5).view.dmaCredit := by decide
  iapply (SparseCore.wp_gatherFromWhole countersEmb 𝒱₀ ti none (hg := gathers_S10000x128_S16x128) (default : HIx 1)
      (b5).view.dmaCredit (hN _) (by decide) hfo) $$ [HH H5 H4 Hsem]
  · isplitl [HH]; · iexact HH
    isplitl [H5]; · iexact H5
    isplitl [H4]; · iexact H4
    iexact Hsem
  iintro Hfl
  iapply (Transfers.wp_waitLocalO countersEmb 𝒱₀ ti none (default : HIx 1) (rfl : (b5).view.dmaCredit = _)) $$ [Hfl HO]
  · isplitl [Hfl]; · iexact Hfl
    isplitl [HO]; · iexact HO
    iapply (Transfers.MayWaits.elim (SemLoc.dma cc0_scratch10.sem)) $$ Hmw
  iintro ⟨⟨H5, HH, H4⟩, Hsem, HO⟩
  ihave H5 := (Entails.of_eq (congrArg (fun g : Vec F S16x128 .f32 => ((b5).view.loc ti ↦{fullShare} g : sProp 𝕄))
    ((View.write_whole_univ _ _ _).trans ((gather_row I.h _ hfo).trans (show _ = msgX I Ss t from funext fun j => by
      exact congrArg (fun w : BitVec 32 => I.h (rowAt (n := 10000) (Fin.ofNat 10000 w.toNat) (j 1))) (hld (j 0))))))) $$ H5
  ihave HF := (Entails.of_eq (show _ = foldP (d := d) (cc := cV i) (ss := jV i) I Ds (msgX I Ss t) (L0 ++ Lst.take (16 * t.val + 0)) from rfl)) $$ [H3 H5 H6 H7 H8 H9]
  · unfold foldP edgeP accP
    isplitl [H3]; · iexact H3
    isplitl [H5 H6 H7 H8]
    · isplitl [H5]; · iexact H5
      isplitl [H6]; · iexact H6
      isplitl [H7]; · iexact H7
      iexact H8
    iexact H9
  iapply (fold_edge I L0 Lst (E0 v14 t) v3 (baseW t) 0#32 _ _ _ 0 rfl h3 rfl (first_iff h3) Ds (msgX I Ss t) (16 * t.val + 0)
    (base_add t ht 0#32 (by decide)) (by omega) (hS.cond t ht 0#32 (by decide)) hS.d (hS.x t ht 0)) $$ HF; iintro HF
  iapply (fold_edge I L0 Lst (E1 v14 t) v3 (baseW t) 1#32 _ _ _ 1 rfl h3 rfl (first_iff h3) Ds (msgX I Ss t) (16 * t.val + 1)
    (base_add t ht 1#32 (by decide)) (by omega) (hS.cond t ht 1#32 (by decide)) hS.d (hS.x t ht 1)) $$ HF; iintro HF
  iapply (fold_edge I L0 Lst (E2 v14 t) v3 (baseW t) 2#32 _ _ _ 2 rfl h3 rfl (first_iff h3) Ds (msgX I Ss t) (16 * t.val + 2)
    (base_add t ht 2#32 (by decide)) (by omega) (hS.cond t ht 2#32 (by decide)) hS.d (hS.x t ht 2)) $$ HF; iintro HF
  iapply (fold_edge I L0 Lst (E3 v14 t) v3 (baseW t) 3#32 _ _ _ 3 rfl h3 rfl (first_iff h3) Ds (msgX I Ss t) (16 * t.val + 3)
    (base_add t ht 3#32 (by decide)) (by omega) (hS.cond t ht 3#32 (by decide)) hS.d (hS.x t ht 3)) $$ HF; iintro HF
  iapply (fold_edge I L0 Lst (E4 v14 t) v3 (baseW t) 4#32 _ _ _ 4 rfl h3 rfl (first_iff h3) Ds (msgX I Ss t) (16 * t.val + 4)
    (base_add t ht 4#32 (by decide)) (by omega) (hS.cond t ht 4#32 (by decide)) hS.d (hS.x t ht 4)) $$ HF; iintro HF
  iapply (fold_edge I L0 Lst (E5 v14 t) v3 (baseW t) 5#32 _ _ _ 5 rfl h3 rfl (first_iff h3) Ds (msgX I Ss t) (16 * t.val + 5)
    (base_add t ht 5#32 (by decide)) (by omega) (hS.cond t ht 5#32 (by decide)) hS.d (hS.x t ht 5)) $$ HF; iintro HF
  sl_step
  iapply HK
  isplitl [HH]; · iexact HH
  isplitl [H2]; · iexact H2
  isplitl [H4]; · iexists _; iexact H4
  isplitl [Hsem]; · iexact Hsem
  isplitl [HO]; · iexact HO
  unfold foldP edgeP accP
  iexact HF

theorem part20_wp (hS : Staged I Lst v14 Ss Ds) (L0 : List ℕ) {v3 : IVec S16 32} (h3 : ∀ k : Fin 16, (v3 (lane k)).toNat = k.val)
    (t : Fin (k0_t6_loop v14).trips) {Q : PUnit → sProp (MT nD τ sig (HIx 1) (Elt F) ℕ UU ℕ)} :
    foldP (d := d) (cc := cV i) (ss := jV i) I Ds (msgX I Ss t) (L0 ++ Lst.take (16 * t.val + 6))
      ⊢ iprop((foldP (d := d) (cc := cV i) (ss := jV i) I Ds (msgX I Ss t) (L0 ++ Lst.take (16 * t.val + 16)) -∗ Q ⟨⟩)
        -∗ wp frame (wpE (defs₀ (F := F)) 𝒱₀ ti none) Set.univ
          (k0_part20 i rSrc (Memref.isWhole_whole _) rDst (Memref.isWhole_whole _) rH (Memref.isWhole_whole _)
            rO0 (Memref.isWhole_whole _) rO1 (Memref.isWhole_whole _) rO2 (Memref.isWhole_whole _) rO3 (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _) cc0_scratch10 cc0_scoped0 cc0_scoped1 cc0_scoped2 cc0_scoped3 cc0_scoped4 cc0_scoped5
            v3 v14 t (baseW t) (Scalar.subi v14 (baseW t)) (broadcast S16 oneF) (cmpi .eq v3 (broadcast S16 0#32))) Q) := by
  have ht := trip_lt hS t
  rw [part20_eq]
  iintro HF HK
  iapply (fold_edge I L0 Lst (E6 v14 t) v3 (baseW t) 6#32 _ _ _ 6 rfl h3 rfl (first_iff h3) Ds (msgX I Ss t) (16 * t.val + 6)
    (base_add t ht 6#32 (by decide)) (by omega) (hS.cond t ht 6#32 (by decide)) hS.d (hS.x t ht 6)) $$ HF; iintro HF
  iapply (fold_edge I L0 Lst (E7 v14 t) v3 (baseW t) 7#32 _ _ _ 7 rfl h3 rfl (first_iff h3) Ds (msgX I Ss t) (16 * t.val + 7)
    (base_add t ht 7#32 (by decide)) (by omega) (hS.cond t ht 7#32 (by decide)) hS.d (hS.x t ht 7)) $$ HF; iintro HF
  iapply (fold_edge I L0 Lst (E8 v14 t) v3 (baseW t) 8#32 _ _ _ 8 rfl h3 rfl (first_iff h3) Ds (msgX I Ss t) (16 * t.val + 8)
    (base_add t ht 8#32 (by decide)) (by omega) (hS.cond t ht 8#32 (by decide)) hS.d (hS.x t ht 8)) $$ HF; iintro HF
  iapply (fold_edge I L0 Lst (E9 v14 t) v3 (baseW t) 9#32 _ _ _ 9 rfl h3 rfl (first_iff h3) Ds (msgX I Ss t) (16 * t.val + 9)
    (base_add t ht 9#32 (by decide)) (by omega) (hS.cond t ht 9#32 (by decide)) hS.d (hS.x t ht 9)) $$ HF; iintro HF
  iapply (fold_edge I L0 Lst (E10 v14 t) v3 (baseW t) 10#32 _ _ _ 10 rfl h3 rfl (first_iff h3) Ds (msgX I Ss t) (16 * t.val + 10)
    (base_add t ht 10#32 (by decide)) (by omega) (hS.cond t ht 10#32 (by decide)) hS.d (hS.x t ht 10)) $$ HF; iintro HF
  iapply (fold_edge I L0 Lst (E11 v14 t) v3 (baseW t) 11#32 _ _ _ 11 rfl h3 rfl (first_iff h3) Ds (msgX I Ss t) (16 * t.val + 11)
    (base_add t ht 11#32 (by decide)) (by omega) (hS.cond t ht 11#32 (by decide)) hS.d (hS.x t ht 11)) $$ HF; iintro HF
  iapply (fold_edge I L0 Lst (E12 v14 t) v3 (baseW t) 12#32 _ _ _ 12 rfl h3 rfl (first_iff h3) Ds (msgX I Ss t) (16 * t.val + 12)
    (base_add t ht 12#32 (by decide)) (by omega) (hS.cond t ht 12#32 (by decide)) hS.d (hS.x t ht 12)) $$ HF; iintro HF
  iapply (fold_edge I L0 Lst (E13 v14 t) v3 (baseW t) 13#32 _ _ _ 13 rfl h3 rfl (first_iff h3) Ds (msgX I Ss t) (16 * t.val + 13)
    (base_add t ht 13#32 (by decide)) (by omega) (hS.cond t ht 13#32 (by decide)) hS.d (hS.x t ht 13)) $$ HF; iintro HF
  iapply (fold_edge I L0 Lst (E14 v14 t) v3 (baseW t) 14#32 _ _ _ 14 rfl h3 rfl (first_iff h3) Ds (msgX I Ss t) (16 * t.val + 14)
    (base_add t ht 14#32 (by decide)) (by omega) (hS.cond t ht 14#32 (by decide)) hS.d (hS.x t ht 14)) $$ HF; iintro HF
  iapply (fold_edge I L0 Lst (E15 v14 t) v3 (baseW t) 15#32 _ _ _ 15 rfl h3 rfl (first_iff h3) Ds (msgX I Ss t) (16 * t.val + 15)
    (base_add t ht 15#32 (by decide)) (by omega) (hS.cond t ht 15#32 (by decide)) hS.d (hS.x t ht 15)) $$ HF; iintro HF
  sl_step
  iapply HK
  iexact HF

end Cert.Proof.Ideal
-- ==== Proof.Ideal.Chunk.lean ====
/-
  One chunk of 512 edges fetched and filtered into the stage.
-/
module

public import proofs.«01_k».proof.Proof.Ideal.Filter
public import proofs.«01_k».proof.Proof.Ideal.Batch

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable {d : Dev nD} (i : grid0.Coords)

local notation "ti" => (V d (cV i) (jV i) : Thread nD τ)

/-- A stage under way: `ptr` edges of the chunk at `a` staged after its first `n`. -/
structure Filling (I : Inp F) (v2 : BitVec 32) (a n : ℕ) (ptr : BitVec 32) (Ss Ds : Vec F S528 .i32) : Prop where
  p : ptr = BitVec.ofNat 32 (seg I.M a n).length
  s : ∀ j e, (seg I.M a n)[(j 0).val]? = some e → Ss j = I.src e
  le : ∀ j, (Ss j).toNat < 10000
  d : ∀ j e, (seg I.M a n)[(j 0).val]? = some e → Ds j = I.dst e - v2

/-- One more group staged. -/
theorem Filling.step {I : Inp F} {a n₀ : ℕ} {ptr v2 : BitVec 32} {Ss Ds : Vec F S528 .i32} (hF : Filling I v2 a n₀ ptr Ss Ds) (hn : n₀ ≤ 496)
    (D S : Vec F S16 .i32) (hv2 : v2.toNat = I.lo) (hlo : I.lo ≤ 9920) (hD : ∀ k : Fin 16, D (lane k) = I.dst (a + n₀ + k.val))
    (hS : ∀ k : Fin 16, S (lane k) = I.src (a + n₀ + k.val)) (hdst : ∀ e, (I.dst e).toNat < 10000) (hsrc : ∀ e, (I.src e).toNat < 10000)
    (hin : In528 (posV v2 D ptr)) :
    Filling I v2 a (n₀ + 16) (Scalar.addi ptr (totV v2 D)) (storeIdx Ss ![posV v2 D ptr] S (maskV v2 D) false hin)
      (storeIdx Ds ![posV v2 D ptr] (subi D (broadcast S16 v2)) (maskV v2 D) false hin) := by
  obtain rfl := hF.p
  have hpos : ∀ k : Fin 16, I.M (a + n₀ + k.val) = true → _ := pos_match hv2 hlo hD hdst hn
  refine ⟨ptr_eq hv2 hlo hD hdst, ?_, ?_, ?_⟩
  · exact stage_store I.M I.src a n₀ Ss hF.s _ S _ hin (mask_iff hv2 hlo hD hdst) hpos hS
  · exact store_all (F := F) (e := .i32) (fun w : BitVec 32 => w.toNat < 10000) Ss hF.le _ S (fun k => by rw [hS k]; exact hsrc _) _ hin
  · exact stage_store I.M (fun e => I.dst e - v2) a n₀ Ds hF.d _ (subi D (broadcast S16 v2)) _ hin (mask_iff hv2 hlo hD hdst) hpos
      (fun k => congrArg (· - v2) (hD k))

/-- Chunk `c` of an edge row. -/
def chunkV (f : Vec F S320000 .i32) (c : ℕ) : Vec F S512 .i32 := fun j => f (edgeIx (512 * c + (j 0).val))

theorem trips4 : k0_t4_loop.trips = 625 := by decide
theorem trips5 : k0_t5_loop.trips = 32 := by decide

theorem off11_eq (c : Fin k0_t4_loop.trips) : k0_off11 c 0 = 512 * c.val := by
  have hc : c.val < 625 := trips4 ▸ c.isLt
  show ((0#32 + BitVec.ofNat 32 c.val * 1#32) * 512#32).toNat = _
  have h1 : (BitVec.ofNat 32 c.val).toNat = c.val := by rw [BitVec.toNat_ofNat, Nat.mod_eq_of_lt (by omega)]
  rw [BitVec.zero_add, BitVec.mul_one, BitVec.toNat_mul, h1]
  show c.val * 512 % 2 ^ 32 = _
  omega

theorem off12_eq (g : Fin k0_t5_loop.trips) : k0_off12 g 0 = 16 * g.val := baseW_toNat g.val (by have h : g.val < 32 := g.isLt; omega)

theorem fetch_eq (f : Vec F S320000 .i32) (c : Fin k0_t4_loop.trips) (j : S512.Idx) :
    f ((Rect.unit (s := S320000) (k0_off11 c) S512.size (k0_off11_inb c)).emb j) = chunkV f c j := by
  refine congrArg f (funext fun b => Fin.ext ?_)
  obtain rfl := Fin.eq_zero b
  have hc : c.val < 625 := trips4 ▸ c.isLt
  have hj : (j 0).val < 512 := (j 0).isLt
  show k0_off11 c 0 + 1 * (j 0).val = (512 * c.val + (j 0).val) % 320000
  rw [off11_eq, Nat.mod_eq_of_lt (by omega)]
  omega

theorem group_eq (f : Vec F S320000 .i32) (c : Fin k0_t4_loop.trips) (g : Fin k0_t5_loop.trips) (k : Fin 16) :
    chunkV f c ((Rect.unit (s := S512) (k0_off12 g) S16.size (k0_off12_inb g)).toLoadRect.idx (lane k)) = f (edgeIx (512 * c.val + 16 * g.val + k.val)) := by
  refine congrArg (fun n => f (edgeIx n)) ?_
  show 512 * c.val + (k0_off12 g 0 + 1 * k.val) = _
  rw [off12_eq]
  omega

/-- The filter after `g` groups. -/
def fillInv (fs fd : Vec F S320000 .i32) (h : Vec F S10000x128 .f32) (lo : ℕ) (v2 : BitVec 32) (c : ℕ) (g : ℕ) (ptr : BitVec 32) : sProp 𝕄 :=
  iprop(((b0).view.loc ti ↦{fullShare} chunkV fd c) ∗ ((b1).view.loc ti ↦{fullShare} chunkV fs c)
    ∗ ∃ Ss Ds : Vec F S528 .i32, ⌜Filling (mkI fs fd h lo) v2 (512 * c) (16 * g) ptr Ss Ds⌝
      ∗ ((b2).view.loc ti ↦{fullShare} Ss) ∗ ((b3).view.loc ti ↦{fullShare} Ds))

set_option maxHeartbeats 4000000 in
theorem part39_wp (fs fd : Vec F S320000 .i32) (h : Vec F S10000x128 .f32) (lo : ℕ) (v2 : BitVec 32) (hv2 : v2.toNat = lo) (hlo : lo ≤ 9920)
    (hfs : ∀ j, (fs j).toNat < 10000) (hfd : ∀ j, (fd j).toNat < 10000)
    (c : Fin k0_t4_loop.trips) (q : PosShare TreeShare) (O : CellTallies nD τ sig (HIx 1)) (W : Waits sig (HIx 1))
    {Q : (Σ' (v14 : BitVec 32) (_ : k0_chk2 v14) (_ : BitVec 32) (_ : BitVec 32), BitVec 32) → sProp (MT nD τ sig (HIx 1) (Elt F) ℕ UU ℕ)} :
    iprop(Transfers.MayWaits ti (default : HIx 1) O ∗ ((rSrc).view.loc ti ↦{q} fs) ∗ ((rDst).view.loc ti ↦{q} fd)
        ∗ (∃ f, (b0).view.loc ti ↦{fullShare} f) ∗ (∃ f, (b1).view.loc ti ↦{fullShare} f)
        ∗ (∃ Ss : Vec F S528 .i32, ⌜∀ j, (Ss j).toNat < 10000⌝ ∗ (b2).view.loc ti ↦{fullShare} Ss) ∗ (∃ f, (b3).view.loc ti ↦{fullShare} f)
        ∗ semVal (ti, SemLoc.dma cc0_scoped0.sem) 0 ∗ semVal (ti, SemLoc.dma cc0_scoped1.sem) 0 ∗ owes ti O W)
      ⊢ iprop((∀ v14, ∀ hw, ∀ v37, iprop(((rSrc).view.loc ti ↦{q} fs) ∗ ((rDst).view.loc ti ↦{q} fd)
              ∗ (∃ f, (b0).view.loc ti ↦{fullShare} f) ∗ (∃ f, (b1).view.loc ti ↦{fullShare} f)
              ∗ (∃ Ss Ds : Vec F S528 .i32, ⌜Staged (mkI fs fd h lo) (seg (mkI fs fd h lo).M (512 * c.val) 512) v14 Ss Ds⌝
                  ∗ ((b2).view.loc ti ↦{fullShare} Ss) ∗ ((b3).view.loc ti ↦{fullShare} Ds))
              ∗ semVal (ti, SemLoc.dma cc0_scoped0.sem) 0 ∗ semVal (ti, SemLoc.dma cc0_scoped1.sem) 0
              ∗ ∃ W', ⌜∀ p ∈ W', p ∈ W ∨ p.2 = none⌝ ∗ owes ti O W')
            -∗ Q ⟨v14, hw, 0#32, v37, 1#32⟩)
        -∗ wp frame (wpE (defs₀ (F := F)) 𝒱₀ ti none) Set.univ
          (k0_part39 i rSrc (Memref.isWhole_whole _) rDst (Memref.isWhole_whole _) rH (Memref.isWhole_whole _)
            rO0 (Memref.isWhole_whole _) rO1 (Memref.isWhole_whole _) rO2 (Memref.isWhole_whole _) rO3 (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _) cc0_scratch10 cc0_scoped0 cc0_scoped1 cc0_scoped2 cc0_scoped3 cc0_scoped4 cc0_scoped5
            v2 0#32 1#32 c) Q) := by
  unfold k0_part39
  iintro ⟨#Hmw, Hsrc, Hdst, ⟨%f0, H0⟩, ⟨%f1, H1⟩, ⟨%Ss, %hSs, H2⟩, ⟨%Ds, H3⟩, HsA, HsB, HO⟩ HK
  sl_exec (disch := exact View.amount_pos _ _ (show 0 < S512.numel by decide))
  sl_for (fillInv (d := d) i fs fd h lo v2 c) $$ [H0 H1 H2 H3]
  case region =>
    intro g ptr
    have hg : g.val < 32 := g.isLt
    unfold fillInv
    iintro ⟨H0, H1, %Ss, %Ds, %hF, H2, H3⟩
    sl_exec
    have hD : ∀ k : Fin 16, View.readAt (Elt F) (b0).view (Rect.unit (s := S512) (k0_off12 g) S16.size (k0_off12_inb g)).toLoadRect (chunkV fd c) (lane k)
        = (mkI fs fd h lo).dst (512 * c.val + 16 * g.val + k.val) := group_eq fd c g
    have hSv : ∀ k : Fin 16, View.readAt (Elt F) (b1).view (Rect.unit (s := S512) (k0_off12 g) S16.size (k0_off12_inb g)).toLoadRect (chunkV fs c) (lane k)
        = (mkI fs fd h lo).src (512 * c.val + 16 * g.val + k.val) := group_eq fs c g
    have hin : In528 (posV v2 (View.readAt (Elt F) (b0).view (Rect.unit (s := S512) (k0_off12 g) S16.size (k0_off12_inb g)).toLoadRect (chunkV fd c)) ptr) := by
      rw [hF.p]
      exact pos_in (I := mkI fs fd h lo) hv2 hlo hD (fun e => hfd _) _ (by have := seg_length_le (mkI fs fd h lo).M (512 * c.val) (16 * g.val); omega)
    have hF' := hF.step (by omega) _ _ hv2 hlo hD hSv (fun e => hfd _) (fun e => hfs _) hin
    iapply (Entails.of_eq (wp_assume_of (defs := defs₀ (F := F)) 𝒱₀ ti none Set.univ (show k0_chk1 (part39_wp.sl.v58 fd v2 c g ptr) from ⟨hin, hin⟩)).symm)
    iapply (wp_st (base := b2) (h := hin) (hs := View.stores_vmem_bits_univ h_S528 rfl) (Memref.set_access_whole _) (Memref.read_access_whole _ _ _)
      (Memref.write_access_whole_univ _ _ _ _)) $$ H2; iintro H2
    iapply (wp_st (base := b3) (h := hin) (hs := View.stores_vmem_bits_univ h_S528 rfl) (Memref.set_access_whole _) (Memref.read_access_whole _ _ _)
      (Memref.write_access_whole_univ _ _ _ _)) $$ H3; iintro H3
    sl_exec
    sl_step
    isplitl [H0]; · iexact H0
    isplitl [H1]; · iexact H1
    iexists _, _
    isplitr; · ipureintro; exact hF'
    isplitl [H2]; · iexact H2
    iexact H3
  · unfold fillInv
    isplitl [H0]
    · ihave H0 := (Entails.of_eq (congrArg (fun g : Vec F S512 .i32 => ((b0).view.loc ti ↦{fullShare} g : sProp 𝕄))
        ((View.write_whole_univ _ _ _).trans (show _ = chunkV fd c from funext fun j => fetch_eq fd c j)))) $$ H0
      iexact H0
    isplitl [H1]
    · ihave H1 := (Entails.of_eq (congrArg (fun g : Vec F S512 .i32 => ((b1).view.loc ti ↦{fullShare} g : sProp 𝕄))
        ((View.write_whole_univ _ _ _).trans (show _ = chunkV fs c from funext fun j => fetch_eq fs c j)))) $$ H1
      iexact H1
    iexists Ss, Ds
    isplitr
    · ipureintro
      exact ⟨rfl, fun j e he => by simp [seg_zero] at he, hSs, fun j e he => by simp [seg_zero] at he⟩
    isplitl [H2]; · iexact H2
    iexact H3
  iintro %v14 HI
  unfold fillInv
  icases HI with ⟨H0, H1, %Ss', %Ds', %hF, H2, H3⟩
  have hS : Staged (mkI fs fd h lo) (seg (mkI fs fd h lo).M (512 * c.val) 512) v14 Ss' Ds' := by
    have hF : Filling (mkI fs fd h lo) v2 (512 * c.val) 512 v14 Ss' Ds' := hF
    have hle := seg_length_le (mkI fs fd h lo).M (512 * c.val) 512
    refine ⟨?_, hle, hF.s, hF.le, fun j e he => ?_⟩
    · rw [hF.p, BitVec.toNat_ofNat, Nat.mod_eq_of_lt (by omega)]
    · have hm := of_decide_eq_true (mem_seg (List.mem_of_getElem? he)).1
      have h2 : v2.toNat ≤ ((mkI fs fd h lo).dst e).toNat := by rw [hv2]; exact hm.1
      rw [hF.d j e he, BitVec.toNat_sub_of_le h2, hv2]
      refine ⟨rfl, ?_⟩
      have h3 := hm.2
      show (mkI fs fd h lo).R e < 320
      unfold Inp.R
      show ((mkI fs fd h lo).dst e).toNat - lo < 320
      change ((mkI fs fd h lo).dst e).toNat < lo + 320 at h3
      omega
  have hl := loops v14 (hS.n.trans_le hS.le)
  have hchk : k0_chk2 v14 := ⟨hl.2.1, hl.2.2⟩
  sl_exec
  sl_step
  iapply HK $$ %v14 %_ %_
  isplitl [Hsrc]; · iexact Hsrc
  isplitl [Hdst]; · iexact Hdst
  isplitl [H0]; · iexists _; iexact H0
  isplitl [H1]; · iexists _; iexact H1
  isplitl [H2 H3]
  · iexists Ss', Ds'
    isplitr; · ipureintro; exact hS
    isplitl [H2]; · iexact H2
    iexact H3
  isplitl [HsA]; · iexact HsA
  isplitl [HsB]; · iexact HsB
  iexists (insert (SemLoc.dma cc0_scoped1.sem, (default : HIx 1)) (insert (SemLoc.dma cc0_scoped0.sem, (default : HIx 1)) W)); isplitr
  · ipureintro
    intro p hp
    rcases Finset.mem_insert.mp hp with hp | hp
    · exact .inr (hp ▸ rfl)
    rcases Finset.mem_insert.mp hp with hp | hp
    · exact .inr (hp ▸ rfl)
    exact .inl hp
  · iexact HO

end Cert.Proof.Ideal
-- ==== Proof.Ideal.Init.lean ====
/-
  A tile's run: its accumulators and stages are filled with their first values, its edges are folded in chunk by chunk, and
  its block of every result goes out.
-/
module

public import proofs.«01_k».proof.Proof.Ideal.Chunk
public import Idealize.ShloMosaic.Lib.WritesUnit
public import Idealize.ShloMosaic.Lib.CellWrites
public import Idealize.ShloMosaic.Lib.LoopRemainder

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

/-! ## First values -/

section Fill

variable {κ' : Kind} {sp : Space} {s : Shape} {e : EltTy} {Val : EltTy → Type} (v : View sig κ' sp s e) (f : v.ty.Contents Val)

/-- After stores of one value everywhere, an element that held it or that a store reached holds it. -/
theorem fill {P R : s.Idx → Prop} {x : Val e} (L : List (View.Piece Val s e)) (hf : ∀ j, P j → v.read Val f j = x) (hL : ∀ p ∈ L, ∀ k, p.2 k = x)
    (hR : ∀ j, R j → P j ∨ ∃ p ∈ L, j ∈ p.1.set) (j : s.Idx) (hj : R j) : v.read Val (v.writes Val f L) j = x := by
  by_cases h : ∃ p ∈ L, j ∈ p.1.set
  · exact View.read_writes_apply_of_forall_of_mem v f (fun y => y = x) j L hL h
  · rw [View.read_writes_apply_of_forall_not_mem v f j L (fun p hp hm => h ⟨p, hp, hm⟩)]
    exact hf j ((hR j hj).resolve_right h)

end Fill

theorem iv1 (k : Fin k0_t1_loop.trips) : (Scalar.indexCast (Scf.iv 0#32 1#32 k) : Index).toNat = k.val := by
  have hk : k.val < 320 := k.isLt
  show (0#32 + BitVec.ofNat 32 k.val * 1#32).toNat = _
  rw [BitVec.zero_add, BitVec.mul_one, BitVec.toNat_ofNat, Nat.mod_eq_of_lt (by omega)]

/-- The sixteen columns from `c` of row `k`. -/
theorem in_group {off : Fin 2 → ℕ} {k c : ℕ} (inb : ∀ a, off a + S1x16.size a ≤ S320x128.size a) (h : off = ![k, c]) (j : S320x128.Idx) (h0 : (j 0).val = k)
    (h1 : c ≤ (j 1).val) (h2 : (j 1).val < c + 16) : j ∈ (Rect.unit (s := S320x128) off S1x16.size inb).set := by
  subst h
  rw [Rect.mem_set_unit]
  intro a
  match a with
  | 0 => exact ⟨h0.ge, by show (j 0).val < k + 1; omega⟩
  | 1 => exact ⟨h1, h2⟩

/-- One value stored through row `k`'s column groups. -/
def groups (k : Fin k0_t1_loop.trips) (x : F .f32) : List (View.Piece (Elt F) S320x128 .f32) :=
  [⟨Rect.unit (s := S320x128) (k0_off8 k) S1x16.size (k0_off8_inb k), shapeCast S1x16 (broadcast S16 x) shapeCasts_S16_S1x16⟩,
   ⟨Rect.unit (s := S320x128) (k0_off7 k) S1x16.size (k0_off7_inb k), shapeCast S1x16 (broadcast S16 x) shapeCasts_S16_S1x16⟩,
   ⟨Rect.unit (s := S320x128) (k0_off6 k) S1x16.size (k0_off6_inb k), shapeCast S1x16 (broadcast S16 x) shapeCasts_S16_S1x16⟩,
   ⟨Rect.unit (s := S320x128) (k0_off5 k) S1x16.size (k0_off5_inb k), shapeCast S1x16 (broadcast S16 x) shapeCasts_S16_S1x16⟩,
   ⟨Rect.unit (s := S320x128) (k0_off4 k) S1x16.size (k0_off4_inb k), shapeCast S1x16 (broadcast S16 x) shapeCasts_S16_S1x16⟩,
   ⟨Rect.unit (s := S320x128) (k0_off3 k) S1x16.size (k0_off3_inb k), shapeCast S1x16 (broadcast S16 x) shapeCasts_S16_S1x16⟩,
   ⟨Rect.unit (s := S320x128) (k0_off2 k) S1x16.size (k0_off2_inb k), shapeCast S1x16 (broadcast S16 x) shapeCasts_S16_S1x16⟩,
   ⟨Rect.unit (s := S320x128) (k0_off1 k) S1x16.size (k0_off1_inb k), shapeCast S1x16 (broadcast S16 x) shapeCasts_S16_S1x16⟩]

theorem groups_fill (v : View sig Kind.scVector Space.vmem S320x128 .f32) (f : v.ty.Contents (Elt F)) (k : Fin k0_t1_loop.trips) (x : F .f32)
    (hf : ∀ j : S320x128.Idx, (j 0).val < k.val → v.read (Elt F) f j = x) (j : S320x128.Idx) (hj : (j 0).val < k.val + 1) :
    v.read (Elt F) (v.writes (Elt F) f (groups k x)) j = x := by
  refine fill v f (P := fun j => (j 0).val < k.val) (R := fun j => (j 0).val < k.val + 1) (groups k x) hf (fun p hp y => ?_) (fun j hj => ?_) j hj
  · simp only [groups, List.mem_cons, List.not_mem_nil, or_false] at hp
    rcases hp with rfl | rfl | rfl | rfl | rfl | rfl | rfl | rfl <;> rfl
  · by_cases h : (j 0).val < k.val
    · exact .inl h
    have h0 : (j 0).val = k.val := by omega
    have h1 : (j 1).val < 128 := (j 1).isLt
    have hoff : ∀ c : ℕ, (![(Scalar.indexCast (Scf.iv 0#32 1#32 k) : Index).toNat, c] : Fin 2 → ℕ) = ![k.val, c] := fun c => by rw [iv1]
    refine .inr ?_
    simp only [groups, List.mem_cons, List.not_mem_nil, or_false, exists_eq_or_imp, exists_eq_left]
    rcases (by omega : (112 ≤ (j 1).val ∧ (j 1).val < 112 + 16) ∨ (96 ≤ (j 1).val ∧ (j 1).val < 96 + 16) ∨ (80 ≤ (j 1).val ∧ (j 1).val < 80 + 16)
        ∨ (64 ≤ (j 1).val ∧ (j 1).val < 64 + 16) ∨ (48 ≤ (j 1).val ∧ (j 1).val < 48 + 16) ∨ (32 ≤ (j 1).val ∧ (j 1).val < 32 + 16)
        ∨ (16 ≤ (j 1).val ∧ (j 1).val < 16 + 16) ∨ (0 ≤ (j 1).val ∧ (j 1).val < 0 + 16)) with h | h | h | h | h | h | h | h
    · exact .inl (in_group _ (hoff 112) j h0 h.1 h.2)
    · exact .inr (.inl (in_group _ (hoff 96) j h0 h.1 h.2))
    · exact .inr (.inr (.inl (in_group _ (hoff 80) j h0 h.1 h.2)))
    · exact .inr (.inr (.inr (.inl (in_group _ (hoff 64) j h0 h.1 h.2))))
    · exact .inr (.inr (.inr (.inr (.inl (in_group _ (hoff 48) j h0 h.1 h.2)))))
    · exact .inr (.inr (.inr (.inr (.inr (.inl (in_group _ (hoff 32) j h0 h.1 h.2))))))
    · exact .inr (.inr (.inr (.inr (.inr (.inr (.inl (in_group _ (hoff 16) j h0 h.1 h.2)))))))
    · exact .inr (.inr (.inr (.inr (.inr (.inr (.inr (in_group _ (hoff 0) j h0 h.1 h.2)))))))

/-- The sixteen positions from `o`. -/
theorem in_lanes {n : ℕ} {off : Fin 1 → ℕ} {o : ℕ} (inb : ∀ a, off a + S16.size a ≤ (⟨1, ![n]⟩ : Shape).size a) (h : off 0 = o) (j : (⟨1, ![n]⟩ : Shape).Idx)
    (h1 : o ≤ (j 0).val) (h2 : (j 0).val < o + 16) : j ∈ (Rect.unit (s := ⟨1, ![n]⟩) off S16.size inb).set := by
  rw [Rect.mem_set_unit]
  intro a
  obtain rfl := Fin.eq_zero a
  rw [h]
  exact ⟨h1, h2⟩

theorem lanes_fill {n : ℕ} {e : EltTy} (v : View sig Kind.scVector Space.vmem ⟨1, ![n]⟩ e) (f : v.ty.Contents (Elt F)) (k : ℕ) (x : Elt F e) {off : Fin 1 → ℕ}
    (inb : ∀ a, off a + S16.size a ≤ (⟨1, ![n]⟩ : Shape).size a) (h : off 0 = 16 * k)
    (hf : ∀ j : (⟨1, ![n]⟩ : Shape).Idx, (j 0).val < 16 * k → v.read (Elt F) f j = x) (j : (⟨1, ![n]⟩ : Shape).Idx) (hj : (j 0).val < 16 * (k + 1)) :
    v.read (Elt F) (v.writes (Elt F) f [⟨Rect.unit (s := ⟨1, ![n]⟩) off S16.size inb, fun _ => x⟩]) j = x := by
  refine fill v f (P := fun j => (j 0).val < 16 * k) (R := fun j => (j 0).val < 16 * (k + 1)) _ hf (fun p hp y => ?_) (fun j hj => ?_) j hj
  · obtain rfl := List.mem_singleton.mp hp
    rfl
  · by_cases h0 : (j 0).val < 16 * k
    · exact .inl h0
    · exact .inr ⟨_, List.mem_singleton.mpr rfl, in_lanes inb h j (by omega) (by omega)⟩

variable {d : Dev nD} (i : grid0.Coords)

local notation "ti" => (V d (cV i) (jV i) : Thread nD τ)

/-- The accumulators, their first `k` rows filled. -/
def rowsP (k : ℕ) : sProp 𝕄 :=
  iprop(∃ A B C : Vec F S320x128 .f32, ⌜∀ j : S320x128.Idx, (j 0).val < k → A j = zeroF ∧ B j = loF ∧ C j = hiF⌝
    ∗ ((b6).view.loc ti ↦{fullShare} A) ∗ ((b7).view.loc ti ↦{fullShare} B) ∗ ((b8).view.loc ti ↦{fullShare} C))

set_option maxHeartbeats 4000000 in
theorem rows_wp (k : Fin k0_t1_loop.trips) :
    rowsP (F := F) (d := d) i k.val ⊢ wp frame (wpE (defs₀ (F := F)) 𝒱₀ ti none) Set.univ
      (do
        let arg20 : BitVec 32 ← k0_part1 i rSrc (Memref.isWhole_whole _) rDst (Memref.isWhole_whole _) rH (Memref.isWhole_whole _) rO0 (Memref.isWhole_whole _) rO1 (Memref.isWhole_whole _) rO2 (Memref.isWhole_whole _) rO3 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc0_scratch10 cc0_scoped0 cc0_scoped1 cc0_scoped2 cc0_scoped3 cc0_scoped4 cc0_scoped5 (broadcast S16 zeroF) (broadcast S16 loF) (broadcast S16 hiF) 0#32 1#32 k
        k0_part2 i rSrc (Memref.isWhole_whole _) rDst (Memref.isWhole_whole _) rH (Memref.isWhole_whole _) rO0 (Memref.isWhole_whole _) rO1 (Memref.isWhole_whole _) rO2 (Memref.isWhole_whole _) rO3 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc0_scratch10 cc0_scoped0 cc0_scoped1 cc0_scoped2 cc0_scoped3 cc0_scoped4 cc0_scoped5 (broadcast S16 zeroF) (broadcast S16 loF) (broadcast S16 hiF) k arg20
        Prog.lift (.store b8 (Rect.unit (s := S320x128) (k0_off8 k) S1x16.size (k0_off8_inb k)) (shapeCast S1x16 (broadcast S16 hiF) shapeCasts_S16_S1x16)
          Finset.univ (View.stores_vmem_bits_univ h_S1x16 rfl) (.inl rfl))
        (pure ⟨⟩ : Prog (TpuEff nD τ sig (Elt F) Λ₀ (.scVector (cV i) (jV i))) PUnit))
      fun _ => rowsP (F := F) (d := d) i (k.val + 1) := by
  unfold rowsP k0_part1 k0_part2
  iintro ⟨%A, %B, %C, %hABC, HA, HB, HC⟩
  sl_exec
  sl_step
  iexists (b6).view.writes (Elt F) A (groups k zeroF), (b7).view.writes (Elt F) B (groups k loF), (b8).view.writes (Elt F) C (groups k hiF)
  isplitr
  · ipureintro
    exact fun j hj => ⟨groups_fill (b6).view A k zeroF (fun j hj => (hABC j hj).1) j hj, groups_fill (b7).view B k loF (fun j hj => (hABC j hj).2.1) j hj,
      groups_fill (b8).view C k hiF (fun j hj => (hABC j hj).2.2) j hj⟩
  isplitl [HA]; · iexact HA
  isplitl [HB]; · iexact HB
  iexact HC

end Cert.Proof.Ideal
-- ==== Proof.Ideal.Chunks.lean ====
/-
  A tile's edges, chunk by chunk: each chunk is filtered into the stages and its batches are folded in.
-/
module

public import proofs.«01_k».proof.Proof.Ideal.Chunk
public import Idealize.ShloMosaic.Lib.LoopRemainder

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

variable {d : Dev nD} (i : grid0.Coords)

local notation "ti" => (V d (cV i) (jV i) : Thread nD τ)

/-- The batches of a stage, the first `t` folded in over the edges of `L0`. -/
def batchInv (I : Inp F) (L0 Lst : List ℕ) (Ss Ds : Vec F S528 .i32) (q : PosShare TreeShare) (O : CellTallies nD τ sig (HIx 1))
    (W : Waits sig (HIx 1)) (t : ℕ) (_ : PUnit.{1}) : sProp 𝕄 :=
  iprop(Transfers.MayWaits ti (default : HIx 1) O ∗ ((rH).view.loc ti ↦{q} I.h) ∗ ((b2).view.loc ti ↦{fullShare} Ss) ∗ (∃ f, (b4).view.loc ti ↦{fullShare} f)
    ∗ semVal (ti, SemLoc.dma cc0_scratch10.sem) 0 ∗ (∃ W', ⌜∀ p ∈ W', p ∈ W ∨ p.2 = none⌝ ∗ owes ti O W')
    ∗ ∃ X : Vec F S16x128 .f32, foldP (d := d) (cc := cV i) (ss := jV i) I Ds X (L0 ++ Lst.take (16 * t)))

/-- A tile, its first `c` chunks folded in. -/
def chunkInv (fs fd : Vec F S320000 .i32) (h : Vec F S10000x128 .f32) (lo : ℕ) (q : PosShare TreeShare) (O : CellTallies nD τ sig (HIx 1))
    (W : Waits sig (HIx 1)) (c : ℕ) (_ : PUnit.{1}) : sProp 𝕄 :=
  iprop(((rSrc).view.loc ti ↦{q} fs) ∗ ((rDst).view.loc ti ↦{q} fd) ∗ ((rH).view.loc ti ↦{q} h)
    ∗ (∃ f, (b0).view.loc ti ↦{fullShare} f) ∗ (∃ f, (b1).view.loc ti ↦{fullShare} f)
    ∗ (∃ Ss : Vec F S528 .i32, ⌜∀ j, (Ss j).toNat < 10000⌝ ∗ (b2).view.loc ti ↦{fullShare} Ss) ∗ (∃ f, (b4).view.loc ti ↦{fullShare} f)
    ∗ semVal (ti, SemLoc.dma cc0_scoped0.sem) 0 ∗ semVal (ti, SemLoc.dma cc0_scoped1.sem) 0 ∗ semVal (ti, SemLoc.dma cc0_scratch10.sem) 0
    ∗ (∃ W', ⌜∀ p ∈ W', p ∈ W ∨ p.2 = none⌝ ∗ owes ti O W')
    ∗ ∃ (Ds : Vec F S528 .i32) (X : Vec F S16x128 .f32),
        foldP (d := d) (cc := cV i) (ss := jV i) (mkI fs fd h lo) Ds X (seg (mkI fs fd h lo).M 0 (512 * c)))

end Cert.Proof.Ideal
-- ==== Proof.Ideal.Tile.lean ====
/-
  A tile's whole run, and what it leaves in its block of every result.
-/
module

public import proofs.«01_k».proof.Proof.Ideal.Init
public import proofs.«01_k».proof.Proof.Ideal.Chunks

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

/-! ## The results -/

section Results

variable (fs fd : Vec F S320000 .i32) (h : Vec F S10000x128 .f32)

/-- The edges that end in tile `w`, in order. -/
abbrev tileI (w : ℕ) : Inp F := mkI fs fd h (320 * w)
abbrev tileL (w : ℕ) : List ℕ := seg (tileI fs fd h w).M 0 320000

/-- Every tile's accumulator in its block of rows. -/
def rowsOf (g : ℕ → Vec F S320x128 .f32) : Vec F S10240x128 .f32 :=
  fun j => g ((j 0).val / 320) (rowAt (n := 320) (Fin.ofNat 320 ((j 0).val % 320)) (j 1))
def lane320 (k : Fin 320) : S320.Idx := Shape.ofLane (d := ![320]) k
def countsOf (g : ℕ → Vec F S320 .f32) : Vec F S32x320 .f32 := fun j => g (j 0).val (lane320 (j 1))

def aggSum : Vec F S10240x128 .f32 := rowsOf fun w => (tileI fs fd h w).sum (tileL fs fd h w)
def aggMax : Vec F S10240x128 .f32 := rowsOf fun w => (tileI fs fd h w).max (tileL fs fd h w)
def aggMin : Vec F S10240x128 .f32 := rowsOf fun w => (tileI fs fd h w).min (tileL fs fd h w)
def aggDeg : Vec F S32x320 .f32 := countsOf fun w => (tileI fs fd h w).deg (tileL fs fd h w)

end Results

variable {d : Dev nD} (i : grid0.Coords)

local notation "ti" => (V d (cV i) (jV i) : Thread nD τ)

/-- The tile's number. -/
def wid : ℕ := 2 * (i 1).val + (i 0).val

theorem wid_lt : wid i < 32 := by
  have h0 : (i 0).val < 2 := (i 0).isLt
  have h1 : (i 1).val < 16 := (i 1).isLt
  unfold wid
  omega

theorem v1_toNat : (Scalar.addi (Scalar.muli (BitVec.ofNat 32 (i 1).val) 2#32) (BitVec.ofNat 32 (i 0).val)).toNat = wid i := by
  have h0 : (i 0).val < 2 := (i 0).isLt
  have h1 : (i 1).val < 16 := (i 1).isLt
  show (BitVec.ofNat 32 (i 1).val * 2#32 + BitVec.ofNat 32 (i 0).val).toNat = _
  rw [BitVec.toNat_add, BitVec.toNat_mul, BitVec.toNat_ofNat, BitVec.toNat_ofNat]
  show ((i 1).val % 2 ^ 32 * 2 % 2 ^ 32 + (i 0).val % 2 ^ 32) % 2 ^ 32 = 2 * (i 1).val + (i 0).val
  omega

theorem v2_toNat : (Scalar.muli (Scalar.addi (Scalar.muli (BitVec.ofNat 32 (i 1).val) 2#32) (BitVec.ofNat 32 (i 0).val)) 320#32).toNat = 320 * wid i := by
  have hw := wid_lt i
  show (_ * 320#32 : BitVec 32).toNat = _
  rw [BitVec.toNat_mul, v1_toNat]
  show wid i * 320 % 2 ^ 32 = _
  omega

theorem off13_eq : k0_off13 i = ![320 * wid i, 0] := by
  rw [← v2_toNat]; rfl
theorem off14_eq : k0_off14 i = ![wid i, 0] := by
  rw [← v1_toNat]; rfl

abbrev rowsR : Rect S10240x128 := Rect.unit (s := S10240x128) (k0_off13 i) S320x128.size (k0_off13_inb i)
abbrev cntR : Rect S32x320 := Rect.unit (s := S32x320) (k0_off14 i) S1x320.size (k0_off14_inb i)
abbrev o0K : Memref sig .scVector .hbm S320x128 .f32 := (rO0).slice (rowsR i) (fun _ => rfl)
abbrev o1K : Memref sig .scVector .hbm S320x128 .f32 := (rO1).slice (rowsR i) (fun _ => rfl)
abbrev o2K : Memref sig .scVector .hbm S320x128 .f32 := (rO2).slice (rowsR i) (fun _ => rfl)
abbrev o3K : Memref sig .scVector .hbm S320 .f32 := ((rO3).slice (cntR i) (fun _ => rfl)).squeeze S320 squeezes_S1x320_S320

/-- A block of rows of `rowsOf g` is its tile's accumulator. -/
theorem rowsOf_emb (g : ℕ → Vec F S320x128 .f32) (x : S320x128.Idx) : rowsOf g ((rowsR i).emb x) = g (wid i) x := by
  have h0 : (x 0).val < 320 := (x 0).isLt
  have e0 : (((rowsR i).emb x) 0).val = 320 * wid i + (x 0).val := by
    show k0_off13 i 0 + 1 * (x 0).val = _
    rw [off13_eq, Nat.one_mul]; rfl
  have e1 : ((rowsR i).emb x) 1 = x 1 := Fin.ext (by
    show k0_off13 i 1 + 1 * (x 1).val = _
    rw [off13_eq, Nat.one_mul]; exact Nat.zero_add _)
  unfold rowsOf
  rw [e0, e1, Nat.mul_add_div (by omega), Nat.mul_add_mod, Nat.div_eq_of_lt h0, Nat.mod_eq_of_lt h0, Nat.add_zero]
  refine congrArg (g (wid i)) ?_
  rw [eq_rowAt x]
  exact congrArg (fun r => rowAt (n := 320) r (x 1)) (Fin.ext (Nat.mod_eq_of_lt h0))

theorem countsOf_emb (g : ℕ → Vec F S320 .f32) (y : S1x320.Idx) : countsOf g ((cntR i).emb y) = g (wid i) (lane320 (y 1)) := by
  have h0 : (y 0).val < 1 := (y 0).isLt
  have e0 : (((cntR i).emb y) 0).val = wid i := by
    show k0_off14 i 0 + 1 * (y 0).val = _
    rw [off14_eq]; show wid i + 1 * (y 0).val = _; omega
  have e1 : ((cntR i).emb y) 1 = y 1 := Fin.ext (by
    show k0_off14 i 1 + 1 * (y 1).val = _
    rw [off14_eq, Nat.one_mul]; exact Nat.zero_add _)
  unfold countsOf
  rw [e0, e1]

theorem out0 (f : Vec F S10240x128 .f32) (g : ℕ → Vec F S320x128 .f32) (pay : Vec F S320x128 .f32) (hp : pay = g (wid i)) :
    ((o0K i).view.loc ti ↦[(o0K i).view.set]{fullShare} (o0K i).view.writes (Elt F) f [⟨Rect.whole _, pay⟩] : sProp 𝕄)
      = (o0K i).view.loc ti ↦[(o0K i).view.set]{fullShare} rowsOf g := by
  refine pointsTo_congr fun y hy => ?_
  obtain ⟨x, -, rfl⟩ := Finset.mem_map.mp hy
  rw [← View.write_univ_eq_writes_whole, View.writes_nil, View.write_emb_of_mem _ _ (Finset.mem_univ x), hp]
  exact (rowsOf_emb i g x).symm

theorem out1 (f : Vec F S10240x128 .f32) (g : ℕ → Vec F S320x128 .f32) (pay : Vec F S320x128 .f32) (hp : pay = g (wid i)) :
    ((o1K i).view.loc ti ↦[(o1K i).view.set]{fullShare} (o1K i).view.writes (Elt F) f [⟨Rect.whole _, pay⟩] : sProp 𝕄)
      = (o1K i).view.loc ti ↦[(o1K i).view.set]{fullShare} rowsOf g := by
  refine pointsTo_congr fun y hy => ?_
  obtain ⟨x, -, rfl⟩ := Finset.mem_map.mp hy
  rw [← View.write_univ_eq_writes_whole, View.writes_nil, View.write_emb_of_mem _ _ (Finset.mem_univ x), hp]
  exact (rowsOf_emb i g x).symm

theorem out2 (f : Vec F S10240x128 .f32) (g : ℕ → Vec F S320x128 .f32) (pay : Vec F S320x128 .f32) (hp : pay = g (wid i)) :
    ((o2K i).view.loc ti ↦[(o2K i).view.set]{fullShare} (o2K i).view.writes (Elt F) f [⟨Rect.whole _, pay⟩] : sProp 𝕄)
      = (o2K i).view.loc ti ↦[(o2K i).view.set]{fullShare} rowsOf g := by
  refine pointsTo_congr fun y hy => ?_
  obtain ⟨x, -, rfl⟩ := Finset.mem_map.mp hy
  rw [← View.write_univ_eq_writes_whole, View.writes_nil, View.write_emb_of_mem _ _ (Finset.mem_univ x), hp]
  exact (rowsOf_emb i g x).symm

theorem squeeze_lane (x : S320.Idx) : (Shape.reshapeEquiv squeezes_S1x320_S320.numel_eq x) 1 = x 0 :=
  congrFun (Shape.reshapeEquiv_cons_one (d := ![320]) squeezes_S1x320_S320.numel_eq x) 1

theorem out3 (f : Vec F S32x320 .f32) (g : ℕ → Vec F S320 .f32) (pay : Vec F S320 .f32) (hp : pay = g (wid i)) :
    ((o3K i).view.loc ti ↦[(o3K i).view.set]{fullShare} (o3K i).view.writes (Elt F) f [⟨Rect.whole _, pay⟩] : sProp 𝕄)
      = (o3K i).view.loc ti ↦[(o3K i).view.set]{fullShare} countsOf g := by
  refine pointsTo_congr fun y hy => ?_
  obtain ⟨x, -, rfl⟩ := Finset.mem_map.mp hy
  rw [← View.write_univ_eq_writes_whole, View.writes_nil, View.write_emb_of_mem _ _ (Finset.mem_univ x), hp]
  have hx : x = lane320 (x 0) := funext fun a => by obtain rfl := Fin.eq_zero a; rfl
  refine Eq.trans ?_ (countsOf_emb i g (Shape.reshapeEquiv squeezes_S1x320_S320.numel_eq x)).symm
  show g (wid i) x = g (wid i) (lane320 ((Shape.reshapeEquiv squeezes_S1x320_S320.numel_eq x) 1))
  exact congrArg (g (wid i)) (hx.trans (congrArg lane320 (squeeze_lane x).symm))

/-! ## The run -/

/-- The counts and the stages, their first groups filled. -/
def degInv (k : ℕ) (_ : PUnit.{1}) : sProp 𝕄 :=
  iprop(∃ D : Vec F S320 .f32, ⌜∀ j : S320.Idx, (j 0).val < 16 * k → D j = zeroF⌝ ∗ (b9).view.loc ti ↦{fullShare} D)
def stageInv (k : ℕ) (_ : PUnit.{1}) : sProp 𝕄 :=
  iprop((∃ Ss : Vec F S528 .i32, ⌜∀ j : S528.Idx, (j 0).val < 16 * k → Ss j = 0#32⌝ ∗ (b2).view.loc ti ↦{fullShare} Ss)
    ∗ ∃ f, (b3).view.loc ti ↦{fullShare} f)

theorem off9_eq (k : Fin k0_t2_loop.trips) : k0_off9 k 0 = 16 * k.val := by
  have hk : k.val < 20 := k.isLt
  exact baseW_toNat k.val (by omega)
theorem off10_eq (k : Fin k0_t3_loop.trips) : k0_off10 k 0 = 16 * k.val := by
  have hk : k.val < 33 := k.isLt
  exact baseW_toNat k.val (by omega)

/-- The edges and the features, read. -/
def readsP (fs fd : Vec F S320000 .i32) (h : Vec F S10000x128 .f32) (q : PosShare TreeShare) : sProp 𝕄 :=
  iprop(((rSrc).view.loc ti ↦{q} fs) ∗ ((rDst).view.loc ti ↦{q} fd) ∗ ((rH).view.loc ti ↦{q} h))
/-- The tile's blocks of the results. -/
def blocksP (A B C : Vec F S10240x128 .f32) (D : Vec F S32x320 .f32) : sProp 𝕄 :=
  iprop(((o0K i).view.loc ti ↦[(o0K i).view.set]{fullShare} A) ∗ ((o1K i).view.loc ti ↦[(o1K i).view.set]{fullShare} B)
    ∗ ((o2K i).view.loc ti ↦[(o2K i).view.set]{fullShare} C) ∗ ((o3K i).view.loc ti ↦[(o3K i).view.set]{fullShare} D))
/-- The tile's own buffers. -/
def ownB : sProp 𝕄 :=
  iprop((∃ f, (b0).view.loc ti ↦{fullShare} f)
    ∗ (∃ f, (b1).view.loc ti ↦{fullShare} f)
    ∗ (∃ f, (b2).view.loc ti ↦{fullShare} f)
    ∗ (∃ f, (b3).view.loc ti ↦{fullShare} f)
    ∗ (∃ f, (b4).view.loc ti ↦{fullShare} f)
    ∗ (∃ f, (b5).view.loc ti ↦{fullShare} f)
    ∗ (∃ f, (b6).view.loc ti ↦{fullShare} f)
    ∗ (∃ f, (b7).view.loc ti ↦{fullShare} f)
    ∗ (∃ f, (b8).view.loc ti ↦{fullShare} f)
    ∗ (∃ f, (b9).view.loc ti ↦{fullShare} f))
/-- The tile's own counters, at rest. -/
def ownS : sProp 𝕄 :=
  iprop(semVal (ti, SemLoc.dma cc0_scratch10.sem) 0
    ∗ semVal (ti, SemLoc.dma cc0_scoped0.sem) 0
    ∗ semVal (ti, SemLoc.dma cc0_scoped1.sem) 0
    ∗ semVal (ti, SemLoc.dma cc0_scoped2.sem) 0
    ∗ semVal (ti, SemLoc.dma cc0_scoped3.sem) 0
    ∗ semVal (ti, SemLoc.dma cc0_scoped4.sem) 0
    ∗ semVal (ti, SemLoc.dma cc0_scoped5.sem) 0)

set_option maxHeartbeats 1000000 in
theorem body_wp (fs fd : Vec F S320000 .i32) (h : Vec F S10000x128 .f32) (hfs : ∀ j, (fs j).toNat < 10000) (hfd : ∀ j, (fd j).toNat < 10000)
    (q : PosShare TreeShare) (O : CellTallies nD τ sig (HIx 1)) (W : Waits sig (HIx 1)) (A B C : Vec F S10240x128 .f32) (D : Vec F S32x320 .f32) :
    iprop(Transfers.MayWaits ti (default : HIx 1) O ∗ readsP (d := d) i fs fd h q ∗ blocksP (d := d) i A B C D ∗ ownB (F := F) (d := d) i ∗ ownS (F := F) (d := d) i
        ∗ owes ti O W)
      ⊢ wp frame (wpE (defs₀ (F := F)) 𝒱₀ ti none) Set.univ (cc0__sc_agg_body i rSrc (Memref.isWhole_whole _) rDst (Memref.isWhole_whole _) rH (Memref.isWhole_whole _) rO0 (Memref.isWhole_whole _) rO1 (Memref.isWhole_whole _) rO2 (Memref.isWhole_whole _) rO3 (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc0_scratch10 cc0_scoped0 cc0_scoped1 cc0_scoped2 cc0_scoped3 cc0_scoped4 cc0_scoped5)
        fun _ => iprop(readsP (d := d) i fs fd h q ∗ blocksP (d := d) i (aggSum fs fd h) (aggMax fs fd h) (aggMin fs fd h) (aggDeg fs fd h)
          ∗ ownB (F := F) (d := d) i ∗ ownS (F := F) (d := d) i ∗ ∃ W', ⌜∀ p ∈ W', p ∈ W ∨ p.2 = none⌝ ∗ owes ti O W') := by
  have hw := wid_lt i
  have h3 : ∀ k : Fin 16, ((iota .scVector S16 32 [0] iota_S16_d0_w32_scVector : IVec S16 32) (lane k)).toNat = k.val := by decide
  unfold cc0__sc_agg_body
  rw [wp_bind]
  unfold k0_part40 readsP blocksP ownB ownS
  iintro ⟨#Hmw, ⟨Hsrc, Hdst, HH⟩, ⟨HO0, HO1, HO2, HO3⟩, ⟨H0, H1, ⟨%f2, H2⟩, H3, H4, ⟨%f5, H5⟩, ⟨%f6, H6⟩, ⟨%f7, H7⟩, ⟨%f8, H8⟩, ⟨%f9, H9⟩⟩,
    ⟨HsG, HsA, HsB, Hs2, Hs3, Hs4, Hs5⟩, HO⟩
  sl_exec
  sl_for (fun k (_ : PUnit.{1}) => rowsP (F := F) (d := d) i k) $$ [H6 H7 H8]
  case region =>
    intro k _
    unfold body_wp.sl.prog.body_1
    exact rows_wp i k
  · unfold rowsP
    iexists f6, f7, f8
    isplitr; · ipureintro; exact fun j hj => absurd hj (Nat.not_lt_zero _)
    isplitl [H6]; · iexact H6
    isplitl [H7]; · iexact H7
    iexact H8
  iintro %_ HR
  sl_exec
  sl_for (degInv (F := F) (d := d) i) $$ [H9]
  case region =>
    intro k _
    unfold degInv
    iintro ⟨%Dk, %hDk, H9⟩
    sl_exec
    sl_step
    iexists (b9).view.writes (Elt F) Dk [⟨Rect.unit (s := S320) (k0_off9 k) S16.size (k0_off9_inb k), fun _ => zeroF⟩]
    isplitr
    · ipureintro
      exact lanes_fill (b9).view Dk k.val zeroF (k0_off9_inb k) (off9_eq k) hDk
    iexact H9
  · unfold degInv
    iexists f9
    isplitr; · ipureintro; exact fun j hj => absurd hj (Nat.not_lt_zero _)
    iexact H9
  iintro %_ HD
  sl_exec
  sl_for (stageInv (F := F) (d := d) i) $$ [H2 H3]
  case region =>
    intro k _
    unfold stageInv
    iintro ⟨⟨%Sk, %hSk, H2⟩, %f3, H3⟩
    sl_exec
    sl_step
    isplitl [H2]
    · iexists (b2).view.writes (Elt F) Sk [⟨Rect.unit (s := S528) (k0_off10 k) S16.size (k0_off10_inb k), fun _ => 0#32⟩]
      isplitr
      · ipureintro
        exact lanes_fill (b2).view Sk k.val 0#32 (k0_off10_inb k) (off10_eq k) hSk
      iexact H2
    iexists _; iexact H3
  · unfold stageInv
    isplitl [H2]
    · iexists f2
      isplitr; · ipureintro; exact fun j hj => absurd hj (Nat.not_lt_zero _)
      iexact H2
    iexact H3
  iintro %_ HS
  unfold rowsP degInv stageInv
  icases HR with ⟨%A0, %B0, %C0, %hR, H6, H7, H8⟩
  icases HD with ⟨%D0, %hD, H9⟩
  icases HS with ⟨⟨%S0, %hS, H2⟩, %f3, H3⟩
  have eA : A0 = (tileI fs fd h (wid i)).sum [] := funext fun j => (hR j (j 0).isLt).1
  have eB : B0 = (tileI fs fd h (wid i)).max [] := funext fun j => (hR j (j 0).isLt).2.1
  have eC : C0 = (tileI fs fd h (wid i)).min [] := funext fun j => (hR j (j 0).isLt).2.2
  have eD : D0 = (tileI fs fd h (wid i)).deg [] := funext fun j => hD j (j 0).isLt
  subst eA eB eC eD
  sl_exec
  sl_for (fun k u => iprop(Transfers.MayWaits ti (default : HIx 1) O ∗ chunkInv (F := F) (d := d) i fs fd h (320 * wid i) q O W k u))
    $$ [Hsrc Hdst HH H0 H1 H2 H3 H4 H5 H6 H7 H8 H9 HsA HsB HsG HO]
  case region =>
    intro c u
    unfold body_wp.sl.prog.body_4
    rw [wp_bind]
    unfold chunkInv
    iintro ⟨#Hmw, Hsrc, Hdst, HH, H0, H1, H2, H4, HsA, HsB, HsG, ⟨%W₁, %hW₁, HO⟩, %Ds₀, %X₀, HF⟩
    unfold foldP edgeP
    icases HF with ⟨H3, HX, H9⟩
    iapply (part39_wp i fs fd h (320 * wid i) (body_wp.sl.v2 i) (v2_toNat i) (by omega) hfs hfd c q O W₁) $$ [Hsrc Hdst H0 H1 H2 H3 HsA HsB HO]
    · isplitl []; · iexact Hmw
      isplitl [Hsrc]; · iexact Hsrc
      isplitl [Hdst]; · iexact Hdst
      isplitl [H0]; · iexact H0
      isplitl [H1]; · iexact H1
      isplitl [H2]; · iexact H2
      isplitl [H3]; · iexists _; iexact H3
      isplitl [HsA]; · iexact HsA
      isplitl [HsB]; · iexact HsB
      iexact HO
    iintro %v14 %hw %v37 ⟨Hsrc, Hdst, H0, H1, ⟨%Ss, %Ds, %hS, H2, H3⟩, HsA, HsB, %W₂, %hW₂, HO⟩
    have hl := loops v14 (hS.n.trans_le hS.le)
    dsimp only
    sl_for (batchInv (F := F) (d := d) i (mkI fs fd h (320 * wid i)) (seg (mkI fs fd h (320 * wid i)).M 0 (512 * c.val)) (seg (mkI fs fd h (320 * wid i)).M (512 * c.val) 512) Ss Ds q O W) $$ [HH H2 H4 HsG HO H3 HX H9]
    case region =>
      intro t u
      unfold body_wp.sl.prog.body_5
      rw [wp_bind]
      unfold batchInv
      iintro ⟨#Hmw, HH, H2, H4, HsG, ⟨%W₃, %hW₃, HO⟩, %X, HF⟩
      iapply (part19_wp i hS _ h3 t q O W₃ X) $$ [HH H2 H4 HsG HO HF]
      · isplitl []; · iexact Hmw
        isplitl [HH]; · iexact HH
        isplitl [H2]; · iexact H2
        isplitl [H4]; · iexact H4
        isplitl [HsG]; · iexact HsG
        isplitl [HO]; · iexact HO
        iexact HF
      iintro ⟨HH, H2, H4, HsG, HO, HF⟩
      dsimp only
      rw [wp_bind]
      iapply (part20_wp i hS _ h3 t) $$ HF
      iintro HF
      sl_step
      isplitl []; · iexact Hmw
      isplitl [HH]; · iexact HH
      isplitl [H2]; · iexact H2
      isplitl [H4]; · iexact H4
      isplitl [HsG]; · iexact HsG
      isplitl [HO]
      · iexists (insert (SemLoc.dma cc0_scratch10.sem, (default : HIx 1)) W₃)
        isplitr
        · ipureintro
          intro p hp
          rcases Finset.mem_insert.mp hp with hp | hp
          · exact .inr (hp ▸ rfl)
          exact hW₃ p hp
        iexact HO
      iexists _
      iexact HF
    · unfold batchInv foldP edgeP
      isplitl []; · iexact Hmw
      isplitl [HH]; · iexact HH
      isplitl [H2]; · iexact H2
      isplitl [H4]; · iexact H4
      isplitl [HsG]; · iexact HsG
      isplitl [HO]
      · iexists W₂
        isplitr
        · ipureintro
          exact fun p hp => (hW₂ p hp).elim (hW₁ p) .inr
        iexact HO
      iexists X₀
      rw [Nat.mul_zero, List.take_zero, List.append_nil]
      isplitl [H3]; · iexact H3
      isplitl [HX]; · iexact HX
      iexact H9
    iintro %u' HI
    unfold batchInv
    icases HI with ⟨-, HH, H2, H4, HsG, HO, %X, HF⟩
    have hfold : seg (mkI fs fd h (320 * wid i)).M 0 (512 * c.val) ++ (seg (mkI fs fd h (320 * wid i)).M (512 * c.val) 512).take (16 * (k0_t6_loop v14).trips)
        = seg (mkI fs fd h (320 * wid i)).M 0 (512 * (c.val + 1)) := by
      rw [hl.1, List.take_of_length_le (by have := hS.n; omega), Nat.mul_add, Nat.mul_one, seg_add, Nat.zero_add]
    sl_exec
    sl_step
    isplitl []; · iexact Hmw
    isplitl [Hsrc]; · iexact Hsrc
    isplitl [Hdst]; · iexact Hdst
    isplitl [HH]; · iexact HH
    isplitl [H0]; · iexact H0
    isplitl [H1]; · iexact H1
    isplitl [H2]
    · iexists Ss
      isplitr; · ipureintro; exact hS.a
      iexact H2
    isplitl [H4]; · iexact H4
    isplitl [HsA]; · iexact HsA
    isplitl [HsB]; · iexact HsB
    isplitl [HsG]; · iexact HsG
    isplitl [HO]; · iexact HO
    iexists Ds, X
    ihave HF := (Entails.of_eq (congrArg (fun L => foldP (d := d) (cc := cV i) (ss := jV i) (mkI fs fd h (320 * wid i)) Ds X L) hfold)) $$ HF
    unfold foldP edgeP
    iexact HF
  · isplitl []; · iexact Hmw
    unfold chunkInv foldP edgeP accP
    isplitl [Hsrc]; · iexact Hsrc
    isplitl [Hdst]; · iexact Hdst
    isplitl [HH]; · iexact HH
    isplitl [H0]; · iexact H0
    isplitl [H1]; · iexact H1
    isplitl [H2]
    · iexists S0
      isplitr
      · ipureintro
        intro j
        rw [hS j (lt_of_lt_of_eq (j 0).isLt (by decide))]
        decide
      iexact H2
    isplitl [H4]; · iexact H4
    isplitl [HsA]; · iexact HsA
    isplitl [HsB]; · iexact HsB
    isplitl [HsG]; · iexact HsG
    isplitl [HO]
    · iexists W
      isplitr; · ipureintro; exact fun p hp => Or.inl hp
      iexact HO
    iexists f3, f5
    isplitl [H3]; · iexact H3
    isplitl [H5 H6 H7 H8]
    · isplitl [H5]; · iexact H5
      isplitl [H6]; · iexact H6
      isplitl [H7]; · iexact H7
      iexact H8
    iexact H9
  iintro %_ ⟨-, HI⟩
  unfold chunkInv foldP edgeP accP
  icases HI with ⟨Hsrc, Hdst, HH, H0, H1, ⟨%S1, -, H2⟩, H4, HsA, HsB, HsG, ⟨%W₁, %hW₁, HO⟩, %D1, %X1, H3, ⟨H5, H6, H7, H8⟩, H9⟩
  sl_exec
  sl_step
  have hL : seg (mkI fs fd h (320 * wid i)).M 0 (512 * Scf.trips k0_t4_loop.lb k0_t4_loop.ub k0_t4_loop.st) = tileL fs fd h (wid i) :=
    congrArg (seg _ 0) (show 512 * Scf.trips k0_t4_loop.lb k0_t4_loop.ub k0_t4_loop.st = 320000 by decide)
  ihave HO0 := (Entails.of_eq (out0 (d := d) i A (fun w => (tileI fs fd h w).sum (tileL fs fd h w)) (body_wp.sl.dma0 i fs fd h) (congrArg (Inp.sum _) hL))) $$ HO0
  ihave HO1 := (Entails.of_eq (out1 (d := d) i B (fun w => (tileI fs fd h w).max (tileL fs fd h w)) (body_wp.sl.dma0_1 i fs fd h) (congrArg (Inp.max _) hL))) $$ HO1
  ihave HO2 := (Entails.of_eq (out2 (d := d) i C (fun w => (tileI fs fd h w).min (tileL fs fd h w)) (body_wp.sl.dma0_2 i fs fd h) (congrArg (Inp.min _) hL))) $$ HO2
  ihave HO3 := (Entails.of_eq (out3 (d := d) i D (fun w => (tileI fs fd h w).deg (tileL fs fd h w)) (body_wp.sl.dma0_3 i fs fd h) (congrArg (Inp.deg _) hL))) $$ HO3
  isplitl [Hsrc Hdst HH]
  · isplitl [Hsrc]; · iexact Hsrc
    isplitl [Hdst]; · iexact Hdst
    iexact HH
  isplitl [HO0 HO1 HO2 HO3]
  · isplitl [HO0]; · iexact HO0
    isplitl [HO1]; · iexact HO1
    isplitl [HO2]; · iexact HO2
    iexact HO3
  isplitl [H0 H1 H2 H3 H4 H5 H6 H7 H8 H9]
  · isplitl [H0]; · iexact H0
    isplitl [H1]; · iexact H1
    isplitl [H2]; · iexists _; iexact H2
    isplitl [H3]; · iexists _; iexact H3
    isplitl [H4]; · iexact H4
    isplitl [H5]; · iexists _; iexact H5
    isplitl [H6]; · iexists _; iexact H6
    isplitl [H7]; · iexists _; iexact H7
    isplitl [H8]; · iexists _; iexact H8
    iexists _; iexact H9
  isplitl [HsA HsB HsG Hs2 Hs3 Hs4 Hs5]
  · isplitl [HsG]; · iexact HsG
    isplitl [HsA]; · iexact HsA
    isplitl [HsB]; · iexact HsB
    isplitl [Hs2]; · iexact Hs2
    isplitl [Hs3]; · iexact Hs3
    isplitl [Hs4]; · iexact Hs4
    iexact Hs5
  iexists _
  isplitr
  rotate_left
  · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW₁ p hp

end Cert.Proof.Ideal
-- ==== Proof.Ideal.Regions.lean ====
/-
  The two calls after the aggregation, each a pass over ten blocks of rows: at each block what its body finds in its
  windows and leaves in them.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Step
public import Idealize.ShloMosaic.Lib.Pipeline.FrameBody
public import Idealize.ShloMosaic.Lib.Pipeline.RegionsLoop
public import Idealize.ShloMosaic.Lib.Pipeline.FrameSuffix
public import Idealize.ShloMosaic.Lib.SparseCore.Quiescent
public import Idealize.ShloMosaic.Lib.Ring
public import Idealize.ShloMosaic.Lib.Tactic
public import Idealize.ShloMosaic.Lib.WordCmp

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ
local notation "DatT" => Dat τ (Elt F) (HIx 1) ℕ UU ℕ
local notation "MV" => Memref sig Kind.tc Space.vmem

/-- The waits a core has recorded once the aggregation is over. -/
def low (d : Dev nD) : Set (SemLoc sig × HIx 1) :=
  {p | (sc (F := F)).lev (SparseCore.T d, p.1) p.2 ≤ 8}

/-- What a body keeps beside its windows: the core's other scoped buffers and its generator's state. -/
def ΦR {gr : ℕ} {W : ℕ} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (fun t => by
    have ht : t.val < 10 := Nat.lt_of_lt_of_eq t.isLt N_1
    have e0 : (grid1.coords t 0).val = t.val / 1 % 10 := Pipeline.Grid.coords_val t 0 (by decide) rfl
    simp only [cond1_0, e0]
    word_cmp
   : ∀ t : Fin grid1.N, cond1_0 (grid1.coords t) ↔ t.val % 10 = 0)

abbrev VO1_7 : View sig .tc .vmem S1000x128 .f32 := (Memref.whole cc1_stg7_0 : MV S1000x128 .f32).view
abbrev VO1_8 : View sig .tc .vmem S1x128 .f32 := (Memref.whole cc1_stg8_0 : MV S1x128 .f32).view
abbrev VO1_9 : View sig .tc .vmem S1x128 .f32 := (Memref.whole cc1_stg9_0 : MV S1x128 .f32).view
abbrev ms1_0 (t : Fin cfg1.N) : MV S1000x128 .f32 := win1_0.stage (cfg1.slots t 0)
abbrev hs1_0 (t : Fin cfg1.N) : (ms1_0 t).IsWhole := hstage1_0 ((cfg1.slots t 0).cast nbuf1_0)
abbrev ms1_1 (t : Fin cfg1.N) : MV S1000x128 .f32 := win1_1.stage (cfg1.slots t 1)
abbrev hs1_1 (t : Fin cfg1.N) : (ms1_1 t).IsWhole := hstage1_1 ((cfg1.slots t 1).cast nbuf1_1)
abbrev ms1_2 (t : Fin cfg1.N) : MV S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : MV S1000x1 .f32 := win1_3.stage (cfg1.slots t 3)
abbrev hs1_3 (t : Fin cfg1.N) : (ms1_3 t).IsWhole := hstage1_3 ((cfg1.slots t 3).cast nbuf1_3)
abbrev ms1_4 (t : Fin cfg1.N) : MV S1000x1 .f32 := win1_4.stage (cfg1.slots t 4)
abbrev hs1_4 (t : Fin cfg1.N) : (ms1_4 t).IsWhole := hstage1_4 ((cfg1.slots t 4).cast nbuf1_4)
abbrev ms1_5 (t : Fin cfg1.N) : MV S1152x128 .f32 := win1_5.stage (cfg1.slots t 5)
abbrev hs1_5 (t : Fin cfg1.N) : (ms1_5 t).IsWhole := hstage1_5 ((cfg1.slots t 5).cast nbuf1_5)
abbrev ms1_6 (t : Fin cfg1.N) : MV S1x128 .f32 := win1_6.stage (cfg1.slots t 6)
abbrev hs1_6 (t : Fin cfg1.N) : (ms1_6 t).IsWhole := hstage1_6 ((cfg1.slots t 6).cast nbuf1_6)
abbrev ms1_7 (t : Fin cfg1.N) : MV S1000x128 .f32 := win1_7.stage (cfg1.slots t 7)
abbrev hs1_7 (t : Fin cfg1.N) : (ms1_7 t).IsWhole := hstage1_7 ((cfg1.slots t 7).cast nbuf1_7)
abbrev ms1_8 (t : Fin cfg1.N) : MV S1x128 .f32 := win1_8.stage (cfg1.slots t 8)
abbrev hs1_8 (t : Fin cfg1.N) : (ms1_8 t).IsWhole := hstage1_8 ((cfg1.slots t 8).cast nbuf1_8)
abbrev ms1_9 (t : Fin cfg1.N) : MV S1x128 .f32 := win1_9.stage (cfg1.slots t 9)
abbrev hs1_9 (t : Fin cfg1.N) : (ms1_9 t).IsWhole := hstage1_9 ((cfg1.slots t 9).cast nbuf1_9)

section
variable (c : Dev nD) (i : grid1.Coords) (arg1 : MV S1000x128 .f32) (harg1 : arg1.IsWhole) (arg2 : MV S1000x128 .f32) (harg2 : arg2.IsWhole) (arg3 : MV S1000x128 .f32) (harg3 : arg3.IsWhole) (arg4 : MV S1000x1 .f32) (harg4 : arg4.IsWhole) (arg5 : MV S1000x1 .f32) (harg5 : arg5.IsWhole)
  (arg6 : MV S1152x128 .f32) (harg6 : arg6.IsWhole) (arg7 : MV S1x128 .f32) (harg7 : arg7.IsWhole) (arg8 : MV S1000x128 .f32) (harg8 : arg8.IsWhole) (arg9 : MV S1x128 .f32) (harg9 : arg9.IsWhole) (arg10 : MV S1x128 .f32) (harg10 : arg10.IsWhole)
section
variable (hc0 : cond1_0 i) (x0 x1 x2 : Vec F S1000x128 .f32) (x3 x4 : Vec F S1000x1 .f32) (x5 : Vec F S1152x128 .f32) (x6 : Vec F S1x128 .f32)

set_option maxHeartbeats 1000000 in
noncomputable def kernelRun1_A :
    Σ' (L7 : List (View.Piece (Elt F) S1000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__dense_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__dense_body_eq_skeleton]; unfold cc1__dense_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover1_A_7 (y : S1000x128.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL _ S1000x128.size (by sl_kernel_rfl) y

def out1_A_7 : Vec F S1000x128 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 x0 x1 x2 x3 x4 x5 x6).1)

theorem cover1_A_8 (y : S1x128.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL _ S1x128.size (by sl_kernel_rfl) y

def out1_A_8 : Vec F S1x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 x0 x1 x2 x3 x4 x5 x6).2.1)

theorem cover1_A_9 (y : S1x128.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL _ S1x128.size (by sl_kernel_rfl) y

def out1_A_9 : Vec F S1x128 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 x0 x1 x2 x3 x4 x5 x6).2.2.1)

end
section
variable (hc0 : ¬cond1_0 i) (x0 x1 x2 : Vec F S1000x128 .f32) (x3 x4 : Vec F S1000x1 .f32) (x5 : Vec F S1152x128 .f32) (x6 : Vec F S1x128 .f32)
  (xo8 xo9 : Vec F S1x128 .f32)

set_option maxHeartbeats 1000000 in
noncomputable def kernelRun1_B :
    Σ' (L7 : List (View.Piece (Elt F) S1000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__dense_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__dense_body_eq_skeleton]; unfold cc1__dense_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover1_B_7 (y : S1000x128.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL _ S1000x128.size (by sl_kernel_rfl) y

def out1_B_7 : Vec F S1000x128 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1)

theorem cover1_B_8 (y : S1x128.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL _ S1x128.size (by sl_kernel_rfl) y

def out1_B_8 : Vec F S1x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1)

theorem cover1_B_9 (y : S1x128.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL _ S1x128.size (by sl_kernel_rfl) y

def out1_B_9 : Vec F S1x128 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1)

end
end

/-- What a first step leaves in its three result slots. -/
def pt1_A (c : Dev nD) (t : Fin cfg1.N) (h : cond1_0 (grid1.coords t)) : Vec F S1000x128 .f32 × Vec F S1x128 .f32 × Vec F S1x128 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t),
   out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t),
   out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t))

/-- What a later step leaves there, on what the step before left. -/
def pt1_B (c : Dev nD) (t : Fin cfg1.N) (h : ¬cond1_0 (grid1.coords t)) (o : Vec F S1000x128 .f32 × Vec F S1x128 .f32 × Vec F S1x128 .f32) : Vec F S1000x128 .f32 × Vec F S1x128 .f32 × Vec F S1x128 .f32 :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t) o.2.1 o.2.2,
   out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t) o.2.1 o.2.2,
   out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) h
     (iblk1 V c 0 t) (iblk1 V c 1 t) (iblk1 V c 2 t) (iblk1 V c 3 t) (iblk1 V c 4 t) (iblk1 V c 5 t) (iblk1 V c 6 t) o.2.1 o.2.2)

def outsAt1 (c : Dev nD) : (n : ℕ) → n < cfg1.N → Vec F S1000x128 .f32 × Vec F S1x128 .f32 × Vec F S1x128 .f32
  | 0, hn => pt1_A V c ⟨0, hn⟩ ((hcond1_0 ⟨0, hn⟩).mpr (Nat.zero_mod _))
  | n + 1, hn =>
    if h0 : (n + 1) % 10 = 0 then pt1_A V c ⟨n + 1, hn⟩ ((hcond1_0 ⟨n + 1, hn⟩).mpr h0)
    else pt1_B V c ⟨n + 1, hn⟩ (fun h => h0 ((hcond1_0 ⟨n + 1, hn⟩).mp h)) (outsAt1 c n (Nat.lt_of_succ_lt hn))

theorem outsAt1_A (c : Dev nD) (t : Fin cfg1.N) (h0 : t.val % 10 = 0) :
    outsAt1 V c t.val t.isLt = pt1_A V c t ((hcond1_0 t).mpr h0) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = pt1_B V c t (fun h => h0 ((hcond1_0 t).mp h))
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat1 (c : Dev nD) : DatT cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := ΦR spec1 c
  q _ := fullShare
  owed _ := 0
  recorded _ := low (F := F) c

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2 := by dsimp only [dat1]

/-- Before the body each input window holds its block. -/
theorem before1_in (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) ∧
    (∀ d, (dat1 V c).before 4 t d = iblk1 V c 4 t) ∧
    (∀ d, (dat1 V c).before 5 t d = iblk1 V c 5 t) ∧
    (∀ d, (dat1 V c).before 6 t d = iblk1 V c 6 t) := by
  refine ⟨fun d => ?_, fun d => ?_, fun d => ?_, fun d => ?_, fun d => ?_, fun d => ?_, fun d => ?_⟩ <;>
  exact ((dat1 V c).before_in_eq_fetched _ rfl (fun _ => rfl) (fun _ _ _ => rfl)
    (fun t => by first | rw [after1_0] | rw [after1_1] | rw [after1_2] | rw [after1_3] | rw [after1_4] | rw [after1_5] | rw [after1_6]
                 unfold Dat.blockOf iblk1; rw [A_eq1]; try rfl) t d).trans (by unfold Dat.fetched Dat.blockOf iblk1; rw [A_eq1]; try rfl)
theorem before1_8_B (c : Dev nD) (t : Fin cfg1.N) (h0 : ¬t.val % 10 = 0) (d) :
    (dat1 V c).before 8 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_B (c : Dev nD) (t : Fin cfg1.N) (h0 : ¬t.val % 10 = 0) (d) :
    (dat1 V c).before 9 t d = (outsAt1 V c (t.val - 1) (Nat.lt_of_le_of_lt (Nat.sub_le _ _) t.isLt)).2.2 := by
  have hN : t.val < 10 := lt_of_lt_of_eq t.isLt (show cfg1.N = 10 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt none t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5, b6⟩ := before1_in V c t
  simp only [b0, b1, b2, b3, b4, b5, b6]
  rw [show (dat1 V c).Φ t.succ = (dat1 V c).Φ t.castSucc from rfl,
    show (dat1 V c).owesAt none t.succ = (dat1 V c).owesAt none t.castSucc from rfl,
    after1_0, after1_1, after1_2, after1_3, after1_4, after1_5, after1_6, after1_7, after1_8, after1_9]
  have hN : t.val < 10 := lt_of_lt_of_eq t.isLt (show cfg1.N = 10 from N_1)
  by_cases h0 : t.val % 10 = 0
  · rw [outsAt1_A V c t h0]
    unfold pt1_A out1_A_7 out1_A_8 out1_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _)
  · rw [outsAt1_B V c t h0]
    simp only [before1_8_B V c t h0, before1_9_B V c t h0]
    unfold pt1_B out1_B_7 out1_B_8 out1_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := rfl

theorem body_obligation1 (c : Dev nD) : BodyObligation (dat1 (F := F) V c) (defs₀ (F := F)) Variants.none none Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x128 := Rect.unit (s := S1x128) ![0, 0] S1x128.size inb_S1x128_S1x128_0_0
abbrev r2_1 : Rect S1000x128 := Rect.unit (s := S1000x128) ![0, 0] S1000x128.size inb_S1000x128_S1000x128_0_0

def out2_6 (x0 : Vec F S1000x128 .f32) (x1 : Vec F S1000x128 .f32) (x2 : Vec F S1x128 .f32) (x3 : Vec F S1x128 .f32) (x4 : Vec F S1x128 .f32) (x5 : Vec F S1x128 .f32) : Vec F S1000x128 .f32 :=
  View.canon [⟨r2_1, k2_pay1 (View.ld x2 r2_0) (View.ld x3 r2_0) (View.ld x0 r2_1) (View.ld x4 r2_0) (View.ld x5 r2_0) (View.ld x1 r2_1)⟩]

theorem cover2_6 (p0 : Vec F S1000x128 .f32) (y : S1000x128.Idx) :
    ∃ pc ∈ ([⟨r2_1, p0⟩] : List (View.Piece (Elt F) S1000x128 .f32)), y ∈ pc.1.set :=
  View.cover_of_tiled [⟨r2_1, p0⟩] S1000x128.size (by rfl) y

set_option maxHeartbeats 1000000 in
theorem sound_kernel2 (c : Dev nD) (E : Set ℕ) (i : grid2.Coords) (arg1 : MV S1000x128 .f32) (harg1 : arg1.IsWhole) (arg2 : MV S1000x128 .f32) (harg2 : arg2.IsWhole) (arg3 : MV S1x128 .f32) (harg3 : arg3.IsWhole) (arg4 : MV S1x128 .f32) (harg4 : arg4.IsWhole) (arg5 : MV S1x128 .f32) (harg5 : arg5.IsWhole) (arg6 : MV S1x128 .f32) (harg6 : arg6.IsWhole) (arg7 : MV S1000x128 .f32) (harg7 : arg7.IsWhole)
    (x0 : Vec F S1000x128 .f32) (x1 : Vec F S1000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_body i arg1 harg1 arg2 harg2 arg3 harg3 arg4 harg4 arg5 harg5 arg6 harg6 arg7 harg7) K := by
  simp only [cc2__bn_body_eq_skeleton]; unfold cc2__bn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : DatT cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := ΦR spec2 c
  q _ := fullShare
  owed _ := 0
  recorded _ := low (F := F) c

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Before the body each input window holds its block. -/
theorem before2_in (c : Dev nD) (t : Fin cfg2.N) :
    (∀ d, (dat2 V c).before 0 t d = iblk2 V c 0 t) ∧
    (∀ d, (dat2 V c).before 1 t d = iblk2 V c 1 t) ∧
    (∀ d, (dat2 V c).before 2 t d = iblk2 V c 2 t) ∧
    (∀ d, (dat2 V c).before 3 t d = iblk2 V c 3 t) ∧
    (∀ d, (dat2 V c).before 4 t d = iblk2 V c 4 t) ∧
    (∀ d, (dat2 V c).before 5 t d = iblk2 V c 5 t) := by
  refine ⟨fun d => ?_, fun d => ?_, fun d => ?_, fun d => ?_, fun d => ?_, fun d => ?_⟩ <;>
  exact ((dat2 V c).before_in_eq_fetched _ rfl (fun _ => rfl) (fun _ _ _ => rfl)
    (fun t => by first | rw [after2_0] | rw [after2_1] | rw [after2_2] | rw [after2_3] | rw [after2_4] | rw [after2_5]
                 unfold Dat.blockOf iblk2; rw [A_eq2]; try rfl) t d).trans (by unfold Dat.fetched Dat.blockOf iblk2; rw [A_eq2]; try rfl)

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5⟩ := before2_in V c t
  simp only [b0, b1, b2, b3, b4, b5]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := rfl

theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Regions

end Cert.Proof.Ideal
-- ==== Proof.Ideal.Segs.lean ====
/-
  The two calls after the aggregation as steps of the host's program: the buffers before and after each.
-/
module

public import proofs.«01_k».proof.Proof.Ideal.Regions
public import Idealize.ShloMosaic.Lib.StableHlo.Run
public import Idealize.ShloMosaic.Lib.Pipeline.Kit

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ
local notation "DatT" => Dat τ (Elt F) (HIx 1) ℕ UU ℕ
local notation "MV" => Memref sig Kind.tc Space.vmem

variable (Wa : Dev nD → Valuation τ sig (Elt F))

/-! ## The buffers -/

abbrev W1 : Dev nD → Valuation τ sig (Elt F) := Wa
abbrev V1 : (c : Dev nD) → (b : Ref sig .tc) → Buf (Elt F) ((c : Thread nD τ).loc b) := fun c b => W1 Wa c b
/-- The buffers when call 1 is over: its arrays as written back, every other as before. -/
def W2 (c : Dev nD) : Valuation τ sig (Elt F) :=
  Pipeline.withArrays spec1 c (W1 Wa c) fun w => (dat1 (V1 Wa) c).arrAt w cfg1.N
abbrev V2 : (c : Dev nD) → (b : Ref sig .tc) → Buf (Elt F) ((c : Thread nD τ).loc b) := fun c b => W2 Wa c b
theorem W2_arr (c : Dev nD) (w : Fin cfg1.W) :
    W2 Wa c (Proc.devRef .tc (Pipeline.arrRef spec1 w)) = (dat1 (V1 Wa) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 Wa c (Proc.devRef .tc b) = W1 Wa c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 Wa c (Proc.devRef .tc r) = W1 Wa c (Proc.devRef .tc r) := by
  by_cases hw : ∃ w : Fin cfg1.W, Pipeline.arrRef spec1 w = r
  · obtain ⟨w, rfl⟩ := hw
    exact (W2_arr Wa c w).trans (((dat1 (V1 Wa) c).arrAt_in w (h w rfl) _).trans (A_eq1 (V1 Wa) c w))
  · exact W2_of_ne Wa c r fun w e => hw ⟨w, e⟩
theorem hrest1 (c : Dev nD) : ∀ b, b ∉ Finset.univ.image (Pipeline.arrRef spec1) → V2 Wa c b = V1 Wa c b :=
  fun b hb => W2_of_ne Wa c b fun w e => hb (Finset.mem_image.mpr ⟨w, Finset.mem_univ _, e⟩)

/-- Between the two calls. -/
def opsC : List (HloOp τ sig (Elt F)) :=
  [ StableHlo.reshape main_arg6 main_v13 (rfl : (.f32 : EltTy) = .f32) shapeCasts_S128_S1x128,
    StableHlo.reshape main_arg7 main_v14 (rfl : (.f32 : EltTy) = .f32) shapeCasts_S128_S1x128 ]
def W3 (c : Dev nD) : Valuation τ sig (Elt F) := StableHlo.after opsC (W2 Wa c)
abbrev V3 : (c : Dev nD) → (b : Ref sig .tc) → Buf (Elt F) ((c : Thread nD τ).loc b) := fun c b => W3 Wa c b
/-- The buffers when call 2 is over: its arrays as written back, every other as before. -/
def W4 (c : Dev nD) : Valuation τ sig (Elt F) :=
  Pipeline.withArrays spec2 c (W3 Wa c) fun w => (dat2 (V3 Wa) c).arrAt w cfg2.N
abbrev V4 : (c : Dev nD) → (b : Ref sig .tc) → Buf (Elt F) ((c : Thread nD τ).loc b) := fun c b => W4 Wa c b
theorem W4_arr (c : Dev nD) (w : Fin cfg2.W) :
    W4 Wa c (Proc.devRef .tc (Pipeline.arrRef spec2 w)) = (dat2 (V3 Wa) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 Wa c (Proc.devRef .tc b) = W3 Wa c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 Wa c (Proc.devRef .tc r) = W3 Wa c (Proc.devRef .tc r) := by
  by_cases hw : ∃ w : Fin cfg2.W, Pipeline.arrRef spec2 w = r
  · obtain ⟨w, rfl⟩ := hw
    exact (W4_arr Wa c w).trans (((dat2 (V3 Wa) c).arrAt_in w (h w rfl) _).trans (A_eq2 (V3 Wa) c w))
  · exact W4_of_ne Wa c r fun w e => hw ⟨w, e⟩
theorem hrest2 (c : Dev nD) : ∀ b, b ∉ Finset.univ.image (Pipeline.arrRef spec2) → V4 Wa c b = V3 Wa c b :=
  fun b hb => W4_of_ne Wa c b fun w e => hb (Finset.mem_image.mpr ⟨w, Finset.mem_univ _, e⟩)

/-! ## The two calls -/

abbrev adm : (p : Fin 2) → (pcfgs (F := F) p).Adm := fun p => (cfgs p).toPCfg_adm
def pdats : (p : Fin 2) → (c : Dev nD) → Dat τ (Elt F) (HIx 1) ℕ UU ℕ (Pipeline.pin (pcfgs (F := F)) adm p) c
  | ⟨0, _⟩ => fun c => dat1 (V1 Wa) c
  | ⟨1, _⟩ => fun c => dat2 (V3 Wa) c
/-- What rides beside the buffers: the generator's register and what the core owes, nothing. -/
def RS (c : Dev nD) : sProp 𝕄 :=
  iprop((∃ r, prngReg c r) ∗ ∃ W, ⌜∀ p ∈ W, p ∈ low (F := F) c⌝ ∗ owes (c : Thread nD τ) (0 : CellTallies nD τ sig (HIx 1)) W)

set_option backward.isDefEq.respectTransparency.types false in
/-- Call 1 of the two, from the buffers before it to those after it. -/
def reg1 : Pipeline.RegionSeg (pcfgs (F := F)) adm (pdats Wa) none defs₀ 𝒱₀ (sc (F := F)).L (sc (F := F)).lev 0 where
  win := launch1.win.to₀
  block_pos := launch1.block_pos
  stage_whole := launch1.stage_whole
  K := PEmpty
  osem k := k.elim
  ho := Pipeline.OwnSemFacts.none _
  hbody c := (body_obligation1 (V1 Wa) c).loose
  hwaits := Pipeline.hwaits_of_owed_zero _ _ _ _ (sc (F := F)).L (sc (F := F)).lev 0 fun _ _ => rfl
  pre c := iprop(StableHlo.held (c : Thread nD τ) (Pipeline.ucRefs τ sig) (W1 Wa c) ∗ RS c)
  post c := iprop(StableHlo.held (c : Thread nD τ) (Pipeline.ucRefs τ sig) (W2 Wa c) ∗ RS c)
  X c := iprop(∃ r, prngReg c r)
  Y c := iprop(∃ r, prngReg c r)
  Z c := Pipeline.unscopedRest (Ix := HIx 1) (Name := ℕ) (U := UU) (Lvl := ℕ) spec1 c (V1 Wa c)
  hentry c := by
    unfold RS
    rw [Pipeline.ownSems0_none]
    have hsplit := Pipeline.arrays_of_unscopedBufs (p := 0) (pcfgs (F := F)) adm (pdats Wa) launch1.win launch1.arr_whole c
      ((pdats Wa 0 c).share_full fun _ => rfl) (V1 Wa c) (A_eq1 (V1 Wa) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wa 0 c).Φ 0 = ΦR spec1 c from rfl]; unfold ΦR
    iintro ⟨Hp, -, Hr⟩
    isplitl [Hr]; · iexact Hr
    iexact Hp
  hout c := by
    rw [Pipeline.ownSems0_none, show (pdats Wa 0 c).Φ (Fin.last _) = ΦR spec1 c from rfl]; unfold ΦR
    iintro ⟨Hr, Hp⟩
    isplitl [Hp]; · iexact Hp
    isplitr; · iempintro
    iexact Hr
  hexit c := by
    unfold RS
    have hjoin := Pipeline.unscopedBufs_of_arrays (p := 0) (pcfgs (F := F)) adm (Ix := HIx 1) (Name := ℕ) (U := UU) (Lvl := ℕ)
      launch1.win launch1.arr_whole c (pdats Wa) ((pdats Wa 0 c).share_full fun _ => rfl)
      (V1 Wa c) (V2 Wa c) ((pdats Wa 0 c).arrAt · cfg1.N) (fun w => (W2_arr Wa c w).symm) (hrest1 Wa c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW hq with h | ⟨w, s, rfl⟩
      · exact h
      · exact Nat.zero_le _
    iexact HO

set_option backward.isDefEq.respectTransparency.types false in
/-- Call 2 of the two, from the buffers before it to those after it. -/
def reg2 : Pipeline.RegionSeg (pcfgs (F := F)) adm (pdats Wa) none defs₀ 𝒱₀ (sc (F := F)).L (sc (F := F)).lev 1 where
  win := launch2.win.to₀
  block_pos := launch2.block_pos
  stage_whole := launch2.stage_whole
  K := PEmpty
  osem k := k.elim
  ho := Pipeline.OwnSemFacts.none _
  hbody c := (body_obligation2 (V3 Wa) c).loose
  hwaits := Pipeline.hwaits_of_owed_zero _ _ _ _ (sc (F := F)).L (sc (F := F)).lev 1 fun _ _ => rfl
  pre c := iprop(StableHlo.held (c : Thread nD τ) (Pipeline.ucRefs τ sig) (W3 Wa c) ∗ RS c)
  post c := iprop(StableHlo.held (c : Thread nD τ) (Pipeline.ucRefs τ sig) (W4 Wa c) ∗ RS c)
  X c := iprop(∃ r, prngReg c r)
  Y c := iprop(∃ r, prngReg c r)
  Z c := Pipeline.unscopedRest (Ix := HIx 1) (Name := ℕ) (U := UU) (Lvl := ℕ) spec2 c (V3 Wa c)
  hentry c := by
    unfold RS
    rw [Pipeline.ownSems0_none]
    have hsplit := Pipeline.arrays_of_unscopedBufs (p := 1) (pcfgs (F := F)) adm (pdats Wa) launch2.win launch2.arr_whole c
      ((pdats Wa 1 c).share_full fun _ => rfl) (V3 Wa c) (A_eq2 (V3 Wa) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats Wa 1 c).Φ 0 = ΦR spec2 c from rfl]; unfold ΦR
    iintro ⟨Hp, -, Hr⟩
    isplitl [Hr]; · iexact Hr
    iexact Hp
  hout c := by
    rw [Pipeline.ownSems0_none, show (pdats Wa 1 c).Φ (Fin.last _) = ΦR spec2 c from rfl]; unfold ΦR
    iintro ⟨Hr, Hp⟩
    isplitl [Hp]; · iexact Hp
    isplitr; · iempintro
    iexact Hr
  hexit c := by
    unfold RS
    have hjoin := Pipeline.unscopedBufs_of_arrays (p := 1) (pcfgs (F := F)) adm (Ix := HIx 1) (Name := ℕ) (U := UU) (Lvl := ℕ)
      launch2.win launch2.arr_whole c (pdats Wa) ((pdats Wa 1 c).share_full fun _ => rfl)
      (V3 Wa c) (V4 Wa c) ((pdats Wa 1 c).arrAt · cfg2.N) (fun w => (W4_arr Wa c w).symm) (hrest2 Wa c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW hq with h | ⟨w, s, rfl⟩
      · exact h
      · exact Nat.zero_le _
    iexact HO

end Cert.Proof.Ideal
-- ==== Proof.Ideal.Launch.lean ====
/-
  The call: what its tiles are handed and hand back, and each one's run as the launch asks for it.
-/
module

public import proofs.«01_k».proof.Proof.Ideal.Tile
public import proofs.«01_k».proof.Proof.Ideal.Segs
public import Idealize.ShloMosaic.Lib.SparseCore.Quiescent
public import Idealize.ShloMosaic.Lib.StableHlo.Run
public import Idealize.ShloMosaic.Lib.Pipeline.Kit
public import Idealize.ShloMosaic.Lib.ShareLeaves

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "rSrc" => (Memref.whole Cert.KernelIdeal.main_v1_scv : Memref Cert.KernelIdeal.sig Kind.scVector Space.hbm Cert.KernelIdeal.S320000 EltTy.i32)
local notation "rDst" => (Memref.whole Cert.KernelIdeal.main_v3_scv : Memref Cert.KernelIdeal.sig Kind.scVector Space.hbm Cert.KernelIdeal.S320000 EltTy.i32)
local notation "rH" => (Memref.whole Cert.KernelIdeal.main_arg0_scv : Memref Cert.KernelIdeal.sig Kind.scVector Space.hbm Cert.KernelIdeal.S10000x128 EltTy.f32)
local notation "rO0" => (Memref.whole Cert.KernelIdeal.main_v4_0_scv : Memref Cert.KernelIdeal.sig Kind.scVector Space.hbm Cert.KernelIdeal.S10240x128 EltTy.f32)
local notation "rO1" => (Memref.whole Cert.KernelIdeal.main_v4_1_scv : Memref Cert.KernelIdeal.sig Kind.scVector Space.hbm Cert.KernelIdeal.S10240x128 EltTy.f32)
local notation "rO2" => (Memref.whole Cert.KernelIdeal.main_v4_2_scv : Memref Cert.KernelIdeal.sig Kind.scVector Space.hbm Cert.KernelIdeal.S10240x128 EltTy.f32)
local notation "rO3" => (Memref.whole Cert.KernelIdeal.main_v4_3_scv : Memref Cert.KernelIdeal.sig Kind.scVector Space.hbm Cert.KernelIdeal.S32x320 EltTy.f32)
local notation "b0" => (Memref.whole Cert.KernelIdeal.cc0_scratch0 : Memref Cert.KernelIdeal.sig Kind.scVector Space.vmem Cert.KernelIdeal.S512 EltTy.i32)
local notation "b1" => (Memref.whole Cert.KernelIdeal.cc0_scratch1 : Memref Cert.KernelIdeal.sig Kind.scVector Space.vmem Cert.KernelIdeal.S512 EltTy.i32)
local notation "b2" => (Memref.whole Cert.KernelIdeal.cc0_scratch2 : Memref Cert.KernelIdeal.sig Kind.scVector Space.vmem Cert.KernelIdeal.S528 EltTy.i32)
local notation "b3" => (Memref.whole Cert.KernelIdeal.cc0_scratch3 : Memref Cert.KernelIdeal.sig Kind.scVector Space.vmem Cert.KernelIdeal.S528 EltTy.i32)
local notation "b4" => (Memref.whole Cert.KernelIdeal.cc0_scratch4 : Memref Cert.KernelIdeal.sig Kind.scVector Space.vmem Cert.KernelIdeal.S16 EltTy.i32)
local notation "b5" => (Memref.whole Cert.KernelIdeal.cc0_scratch5 : Memref Cert.KernelIdeal.sig Kind.scVector Space.vmem Cert.KernelIdeal.S16x128 EltTy.f32)
local notation "b6" => (Memref.whole Cert.KernelIdeal.cc0_scratch6 : Memref Cert.KernelIdeal.sig Kind.scVector Space.vmem Cert.KernelIdeal.S320x128 EltTy.f32)
local notation "b7" => (Memref.whole Cert.KernelIdeal.cc0_scratch7 : Memref Cert.KernelIdeal.sig Kind.scVector Space.vmem Cert.KernelIdeal.S320x128 EltTy.f32)
local notation "b8" => (Memref.whole Cert.KernelIdeal.cc0_scratch8 : Memref Cert.KernelIdeal.sig Kind.scVector Space.vmem Cert.KernelIdeal.S320x128 EltTy.f32)
local notation "b9" => (Memref.whole Cert.KernelIdeal.cc0_scratch9 : Memref Cert.KernelIdeal.sig Kind.scVector Space.vmem Cert.KernelIdeal.S320 EltTy.f32)

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
/-- The two later calls' pipelines. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## A tile's part of the buffers -/

theorem rdiv : 32 ∣ S10240x128.size 0 := ⟨320, rfl⟩
theorem cdiv : 32 ∣ S32x320.size 0 := ⟨1, rfl⟩
abbrev rowSet (t : Fin 32) : Finset S10240x128.Idx := (Rect.part (s := S10240x128) (a₀ := 0) rdiv t).set
abbrev cntSet (t : Fin 32) : Finset S32x320.Idx := (Rect.part (s := S32x320) (a₀ := 0) cdiv t).set

abbrev srcLoc (d : Dev nD) : Loc nD τ sig := (SparseCore.T d).loc main_v1
abbrev dstLoc (d : Dev nD) : Loc nD τ sig := (SparseCore.T d).loc main_v3
abbrev hLoc (d : Dev nD) : Loc nD τ sig := (SparseCore.T d).loc main_arg0
abbrev o0Loc (d : Dev nD) : Loc nD τ sig := (SparseCore.T d).loc main_v4_0
abbrev o1Loc (d : Dev nD) : Loc nD τ sig := (SparseCore.T d).loc main_v4_1
abbrev o2Loc (d : Dev nD) : Loc nD τ sig := (SparseCore.T d).loc main_v4_2
abbrev o3Loc (d : Dev nD) : Loc nD τ sig := (SparseCore.T d).loc main_v4_3

/-- Tile `t`'s share of what is read and its blocks of the results. -/
def tileP (d : Dev nD) (fs fd : Vec F S320000 .i32) (h : Vec F S10000x128 .f32) (A B C : Vec F S10240x128 .f32) (Dg : Vec F S32x320 .f32) (t : Fin 32) : sProp 𝕄 :=
  iprop((srcLoc d ↦{leaf 5 fullShare t} fs) ∗ (dstLoc d ↦{leaf 5 fullShare t} fd) ∗ (hLoc d ↦{leaf 5 fullShare t} h)
    ∗ (o0Loc d ↦[rowSet t]{fullShare} A) ∗ (o1Loc d ↦[rowSet t]{fullShare} B) ∗ (o2Loc d ↦[rowSet t]{fullShare} C) ∗ (o3Loc d ↦[cntSet t]{fullShare} Dg))

instance tileP_storable (d : Dev nD) (fs fd : Vec F S320000 .i32) (h : Vec F S10000x128 .f32) (A B C : Vec F S10240x128 .f32) (Dg : Vec F S32x320 .f32) (t : Fin 32) :
    BI.Storable (upEmb : UEmb _ 𝕄) (tileP (F := F) d fs fd h A B C Dg t) := by
  unfold tileP; infer_instance

/-- All the tiles' parts are the buffers whole. -/
theorem tiles_whole (d : Dev nD) (fs fd : Vec F S320000 .i32) (h : Vec F S10000x128 .f32) (A B C : Vec F S10240x128 .f32) (Dg : Vec F S32x320 .f32) :
    (bigSep Finset.univ (tileP (F := F) d fs fd h A B C Dg))
      = iprop((srcLoc d ↦{fullShare} fs) ∗ (dstLoc d ↦{fullShare} fd) ∗ (hLoc d ↦{fullShare} h)
        ∗ (o0Loc d ↦{fullShare} A) ∗ (o1Loc d ↦{fullShare} B) ∗ (o2Loc d ↦{fullShare} C) ∗ (o3Loc d ↦{fullShare} Dg)) := by
  have rows : ∀ (ℓ : Loc nD τ sig) (K : Fin 32 → Finset (Idx ℓ)) (f : Buf (Elt F) ℓ), (∀ t t', t ≠ t' → Disjoint (K t) (K t')) →
      Finset.univ.biUnion K = Finset.univ → (bigSep Finset.univ fun t => (ℓ ↦[K t]{fullShare} f : sProp 𝕄)) = (ℓ ↦{fullShare} f) := fun ℓ K f hd hc => by
    rw [← pointsTo_biUnion Finset.univ (ℓ := ℓ) K (fun t _ t' _ => hd t t'), hc]
  have shares : ∀ (ℓ : Loc nD τ sig) (f : Buf (Elt F) ℓ), (bigSep (Finset.univ : Finset (Fin 32)) fun t => (ℓ ↦{leaf 5 fullShare t} f : sProp 𝕄)) = (ℓ ↦{fullShare} f) :=
    fun ℓ f => (pointsTo_leaves Finset.univ f 5 fullShare).symm
  unfold tileP
  rw [bigSep_sep', bigSep_sep', bigSep_sep', bigSep_sep', bigSep_sep', bigSep_sep']
  refine congr (congrArg _ (shares (srcLoc d) fs)) (congr (congrArg _ (shares (dstLoc d) fd))
    (congr (congrArg _ (shares (hLoc d) h)) (congr (congrArg _ ?_) (congr (congrArg _ ?_) (congr (congrArg _ ?_) ?_)))))
  · exact rows (o0Loc d) rowSet A (fun _ _ => Rect.part_disjoint rdiv) (Rect.biUnion_part rdiv)
  · exact rows (o1Loc d) rowSet B (fun _ _ => Rect.part_disjoint rdiv) (Rect.biUnion_part rdiv)
  · exact rows (o2Loc d) rowSet C (fun _ _ => Rect.part_disjoint rdiv) (Rect.biUnion_part rdiv)
  · exact rows (o3Loc d) cntSet Dg (fun _ _ => Rect.part_disjoint cdiv) (Rect.biUnion_part cdiv)

/-- The number of the tile on core `c`, subcore `s`. -/
abbrev tileNo (c s : ℕ) : Fin 32 := Fin.ofNat 32 (2 * s + c)

/-- Every tile once, core by core. -/
theorem tiles_eq (Φ : Fin 32 → sProp 𝕄) :
    (bigSep (Finset.univ : Finset (Fin 2)) fun c => bigSep (Finset.univ : Finset (Fin 16)) fun s => Φ (tileNo c.val s.val)) = bigSep Finset.univ Φ := by
  rw [bigSep_univ_equiv (((Equiv.prodComm (Fin 2) (Fin 16)).trans (finProdFinEquiv : Fin 16 × Fin 2 ≃ Fin (16 * 2)))) Φ, bigSep_univ_prod]
  refine bigSep_congr fun c _ => bigSep_congr fun s _ => congrArg Φ (Fin.ext ?_)
  have := c.isLt; have := s.isLt
  show (2 * s.val + c.val) % 32 = c.val + 2 * s.val
  omega

/-! ## What the handshakes carry -/

section Pay

variable (Vc : Dev nD → Valuation τ sig (Elt F))

abbrev srcV (d : Dev nD) : Vec F S320000 .i32 := Vc d (Proc.devRef .tc main_v1)
abbrev dstV (d : Dev nD) : Vec F S320000 .i32 := Vc d (Proc.devRef .tc main_v3)
abbrev hV (d : Dev nD) : Vec F S10000x128 .f32 := Vc d (Proc.devRef .tc main_arg0)

abbrev goP (d : Dev nD) (t : Fin 32) : sProp 𝕄 :=
  tileP d (srcV Vc d) (dstV Vc d) (hV Vc d) (Vc d (Proc.devRef .tc main_v4_0)) (Vc d (Proc.devRef .tc main_v4_1)) (Vc d (Proc.devRef .tc main_v4_2)) (Vc d (Proc.devRef .tc main_v4_3)) t
abbrev tdP (d : Dev nD) (t : Fin 32) : sProp 𝕄 :=
  tileP d (srcV Vc d) (dstV Vc d) (hV Vc d) (aggSum (srcV Vc d) (dstV Vc d) (hV Vc d)) (aggMax (srcV Vc d) (dstV Vc d) (hV Vc d))
    (aggMin (srcV Vc d) (dstV Vc d) (hV Vc d)) (aggDeg (srcV Vc d) (dstV Vc d) (hV Vc d)) t

/-- Each core takes its tiles' parts, each tile its own. -/
def P : (K (F := F)).Pay (nD := nD) (Val := Elt F) (Name := ℕ) (U := UU) where
  st := fun _ d c => bigSep (Finset.univ : Finset (Fin 16)) fun s => goP Vc d (tileNo c.val s.val)
  dn := fun _ d c => bigSep (Finset.univ : Finset (Fin 16)) fun s => tdP Vc d (tileNo c.val s.val)
  go := fun _ d c i => goP Vc d (tileNo c.val i.val)
  td := fun _ d c i => tdP Vc d (tileNo c.val i.val)
  x := fun _ _ => iprop(emp)

instance P_storable : (P (F := F) Vc).IsStorable where
  st _ d c := (inferInstance : BI.Storable (upEmb : UEmb _ 𝕄) (bigSep (Finset.univ : Finset (Fin 16)) fun s => goP Vc d (tileNo c.val s.val)))
  dn _ d c := (inferInstance : BI.Storable (upEmb : UEmb _ 𝕄) (bigSep (Finset.univ : Finset (Fin 16)) fun s => tdP Vc d (tileNo c.val s.val)))
  go _ d c i := (inferInstance : BI.Storable (upEmb : UEmb _ 𝕄) (goP Vc d (tileNo c.val i.val)))
  td _ d c i := (inferInstance : BI.Storable (upEmb : UEmb _ 𝕄) (tdP Vc d (tileNo c.val i.val)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P Vc) 0 := by
  intro d c
  show (bigSep (Finset.univ : Finset (Fin 16)) fun s => goP Vc d (tileNo c.val s.val)) ⊢ |={Set.univ}=> iprop(
      (bigSep Finset.univ fun i : Fin ((K (F := F)).nSub 0) => goP Vc d (tileNo c.val (Fin.cast nSub_zero i).val))
      ∗ ((bigSep Finset.univ fun i : Fin ((K (F := F)).nSub 0) => tdP Vc d (tileNo c.val (Fin.cast nSub_zero i).val))
          -∗ bigSep (Finset.univ : Finset (Fin 16)) fun s => tdP Vc d (tileNo c.val s.val)))
  rw [bigSep_tasks (F := F) (fun s => goP Vc d (tileNo c.val s.val)), bigSep_tasks (F := F) (fun s => tdP Vc d (tileNo c.val s.val))]
  iintro H; imodintro
  isplitl [H]; · iexact H
  iintro H
  iexact H

end Pay

/-! ## A tile's own buffers and counters -/

section Task

variable (d : Dev nD) (i : grid0.Coords)

local notation "ti" => (V d (cV i) (jV i) : Thread nD τ)

def scratchRefs : Finset (Ref sig .scVector) :=
  {cc0_scratch0, cc0_scratch1, cc0_scratch2, cc0_scratch3, cc0_scratch4, cc0_scratch5, cc0_scratch6, cc0_scratch7, cc0_scratch8, cc0_scratch9}
def ownRefEmb : Ref sig .scVector ↪ DevRef τ sig := ⟨(Proc.scVector (cV i) (jV i)).devRef, Proc.devRef_injective _⟩
def scratchSems : Finset (SemLoc sig) :=
  {SemLoc.dma cc0_scratch10.sem, SemLoc.dma cc0_scoped0.sem, SemLoc.dma cc0_scoped1.sem, SemLoc.dma cc0_scoped2.sem, SemLoc.dma cc0_scoped3.sem,
    SemLoc.dma cc0_scoped4.sem, SemLoc.dma cc0_scoped5.sem}
def ownSemEmb : SemLoc sig ↪ GSem nD τ sig := ⟨fun s => (ti, s), fun _ _ h => (Prod.mk.inj h).2⟩

theorem ownBufs_V :
    (ownBufs (V d (cV i) (jV i)) : sProp 𝕄)
      = iprop(ownB (F := F) (d := d) i ∗ bigSep (ownRefs (τ := τ) (.scVector (cV i) (jV i)) \ scratchRefs.map (ownRefEmb i))
              fun b => iprop(∃ f, ((d, b) : Loc nD τ sig) ↦{fullShare} f)) := by
  have hsub : scratchRefs.map (ownRefEmb i) ⊆ ownRefs (τ := τ) (.scVector (cV i) (jV i)) := fun b hb => by
    obtain ⟨r, hr, rfl⟩ := Finset.mem_map.mp hb
    unfold scratchRefs at hr
    simp only [Finset.mem_insert, Finset.mem_singleton] at hr
    refine SparseCore.Cfg.mem_ownRefs_of_owner ?_
    rcases hr with rfl | rfl | rfl | rfl | rfl | rfl | rfl | rfl | rfl | rfl <;> rfl
  unfold SparseCore.Cfg.ownBufs
  rw [SparseCore.bigSep_sdiff_split' hsub, bigSep_map]
  refine congrArg (fun X => iprop(X ∗ _)) ?_
  unfold scratchRefs ownB
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

theorem ownSems0_V :
    (ownSems0 (V d (cV i) (jV i)) : sProp 𝕄)
      = iprop(ownS (F := F) (d := d) i ∗ bigSep (ownCells (V d (cV i) (jV i)) \ scratchSems.map (ownSemEmb d i)) fun g => semVal g 0) := by
  have hsub : scratchSems.map (ownSemEmb d i) ⊆ ownCells (V d (cV i) (jV i)) := fun g hg => by
    obtain ⟨r, hr, rfl⟩ := Finset.mem_map.mp hg
    refine mem_ownCells.mpr ⟨rfl, ?_⟩
    have key : ∀ r ∈ scratchSems, r.isScoped .scVector = true := by decide
    exact key r hr
  unfold SparseCore.Cfg.ownSems0
  rw [SparseCore.bigSep_sdiff_split' hsub, bigSep_map]
  refine congrArg (fun X => iprop(X ∗ _)) ?_
  unfold scratchSems ownS
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-! ## The tile's parts as its body addresses them -/

theorem rowsR_eq : rowsR i = Rect.part (s := S10240x128) (a₀ := 0) rdiv ⟨wid i, wid_lt i⟩ := by
  unfold rowsR Rect.part Rect.block
  congr 1 <;> funext a
  · rw [off13_eq]
    match a with
    | 0 => simp [Shape.partIx, Shape.partSize]; omega
    | 1 => simp [Shape.partIx, Shape.partSize]
  · match a with
    | 0 => simp [Shape.partSize]
    | 1 => simp [Shape.partSize]
theorem cntR_eq : cntR i = Rect.part (s := S32x320) (a₀ := 0) cdiv ⟨wid i, wid_lt i⟩ := by
  unfold cntR Rect.part Rect.block
  congr 1 <;> funext a
  · rw [off14_eq]
    match a with
    | 0 => simp [Shape.partIx, Shape.partSize]
    | 1 => simp [Shape.partIx, Shape.partSize]
  · match a with
    | 0 => simp [Shape.partSize]
    | 1 => simp [Shape.partSize]

theorem tileNo_eq : tileNo (i 0).val (i 1).val = ⟨wid i, wid_lt i⟩ := Fin.ext (Nat.mod_eq_of_lt (wid_lt i))

theorem tileP_eq (fs fd : Vec F S320000 .i32) (h : Vec F S10000x128 .f32) (A B C : Vec F S10240x128 .f32) (Dg : Vec F S32x320 .f32) :
    tileP (F := F) d fs fd h A B C Dg (tileNo (i 0).val (i 1).val)
      ⊣⊢ iprop(readsP (d := d) i fs fd h (leaf 5 fullShare (tileNo (i 0).val (i 1).val)) ∗ blocksP (F := F) (d := d) i A B C Dg) := by
  have e0 : (o0K i).view.set = rowSet (tileNo (i 0).val (i 1).val) := by
    rw [tileNo_eq]; show ((View.whole main_v4_0_scv).slice (rowsR i)).set = _
    rw [rowsR_eq, View.set_slice]; exact Finset.map_refl
  have e1 : (o1K i).view.set = rowSet (tileNo (i 0).val (i 1).val) := by
    rw [tileNo_eq]; show ((View.whole main_v4_1_scv).slice (rowsR i)).set = _
    rw [rowsR_eq, View.set_slice]; exact Finset.map_refl
  have e2 : (o2K i).view.set = rowSet (tileNo (i 0).val (i 1).val) := by
    rw [tileNo_eq]; show ((View.whole main_v4_2_scv).slice (rowsR i)).set = _
    rw [rowsR_eq, View.set_slice]; exact Finset.map_refl
  have e3 : (o3K i).view.set = cntSet (tileNo (i 0).val (i 1).val) := by
    rw [tileNo_eq]; show (((View.whole main_v4_3_scv).slice (cntR i)).reshape S320 squeezes_S1x320_S320.numel_eq).set = _
    rw [View.set_reshape]; show ((View.whole main_v4_3_scv).slice (cntR i)).set = _
    rw [cntR_eq, View.set_slice]; exact Finset.map_refl
  unfold tileP readsP blocksP
  rw [e0, e1, e2, e3]
  constructor
  · iintro ⟨H1, H2, H3, H4, H5, H6, H7⟩
    isplitl [H1 H2 H3]
    · isplitl [H1]; · iexact H1
      isplitl [H2]; · iexact H2
      iexact H3
    isplitl [H4]; · iexact H4
    isplitl [H5]; · iexact H5
    isplitl [H6]; · iexact H6
    iexact H7
  · iintro ⟨⟨H1, H2, H3⟩, H4, H5, H6, H7⟩
    isplitl [H1]; · iexact H1
    isplitl [H2]; · iexact H2
    isplitl [H3]; · iexact H3
    isplitl [H4]; · iexact H4
    isplitl [H5]; · iexact H5
    isplitl [H6]; · iexact H6
    iexact H7

/-! ## The task and its obligation -/

/-- Every edge's ends are nodes. -/
def EdgesOK (fs fd : Vec F S320000 .i32) : Prop := (∀ j, (fs j).toNat < 10000) ∧ ∀ j, (fd j).toNat < 10000

theorem tile_body (hF : (K (F := F)).Facts) (fs fd : Vec F S320000 .i32) (h : Vec F S10000x128 .f32) (hok : EdgesOK (F := F) fs fd)
    (A B C : Vec F S10240x128 .f32) (Dg : Vec F S32x320 .f32) (O : CellTallies nD τ sig (HIx 1)) (W : Waits sig (HIx 1)) (hO : ∀ g, O g none = 0) :
    iprop(levAts (K (F := F)).L (K (F := F)).lev ∗ emp ∗ tileP (F := F) d fs fd h A B C Dg (tileNo (i 0).val (i 1).val)
        ∗ scopedBufs (V d (cV i) (jV i)) ∗ scopedSems0 (V d (cV i) (jV i)) ∗ owes (V d (cV i) (jV i)) O W)
      ⊢ wp frame (wpE (defs₀ (F := F)) 𝒱₀ ti none) Set.univ (cc0__sc_agg_body i rSrc (Memref.isWhole_whole _) rDst (Memref.isWhole_whole _) rH (Memref.isWhole_whole _)
            rO0 (Memref.isWhole_whole _) rO1 (Memref.isWhole_whole _) rO2 (Memref.isWhole_whole _) rO3 (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _) cc0_scratch10 cc0_scoped0 cc0_scoped1 cc0_scoped2 cc0_scoped3 cc0_scoped4 cc0_scoped5)
        fun _ => iprop(tileP (F := F) d fs fd h (aggSum fs fd h) (aggMax fs fd h) (aggMin fs fd h) (aggDeg fs fd h) (tileNo (i 0).val (i 1).val)
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), ownSems0_V, ownBufs_V]
  iintro ⟨#Hlv, -, Ht, ⟨HB, Hbufs⟩, ⟨HS, Hsems⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Ht := (tileP_eq d i fs fd h A B C Dg).1 $$ Ht
  icases Ht with ⟨HR, HK⟩
  iapply (wp_wand_r Idealize.ShloMosaic.frame (wpE (defs₀ (F := F)) 𝒱₀ ti none) Set.univ)
  isplitl [Hmw HR HK HB HS HO]
  · iapply (body_wp (d := d) i fs fd h hok.1 hok.2 (leaf 5 fullShare (tileNo (i 0).val (i 1).val)) O W A B C Dg)
    isplitl [Hmw]; · iexact Hmw
    isplitl [HR]; · iexact HR
    isplitl [HK]; · iexact HK
    isplitl [HB]; · iexact HB
    isplitl [HS]; · iexact HS
    iexact HO
  iintro %_ ⟨HR, HK, HB, HS, HO⟩
  isplitl [HR HK]
  · iapply (tileP_eq d i fs fd h _ _ _ _).2
    isplitl [HR]; · iexact HR
    iexact HK
  isplitl [HB Hbufs]
  · isplitl [HB]; · iexact HB
    iexact Hbufs
  isplitl [HS Hsems]
  · isplitl [HS]; · iexact HS
    iexact Hsems
  iexact HO

end Task

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_agg_body (coordsV c s) rSrc (Memref.isWhole_whole _) rDst (Memref.isWhole_whole _) rH (Memref.isWhole_whole _)
            rO0 (Memref.isWhole_whole _) rO1 (Memref.isWhole_whole _) rO2 (Memref.isWhole_whole _) rO3 (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _) cc0_scratch10 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (Vc : Dev nD → Valuation τ sig (Elt F)) (hok : ∀ d, EdgesOK (F := F) (srcV Vc d) (dstV Vc d)) :
    (K (F := F)).TileObl (D (F := F)) 𝒱 (P Vc) v₀ 0 := by
  intro d c i O W hO _ _
  simp only [show (P Vc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (srcV Vc d) (dstV Vc d) (hV Vc d) (hok d) _ _ _ _ O W hO).trans (wp_mono frame _ _ fun _ => obl_post)

/-! ## The launch's ghost state -/

abbrev pins := Pipeline.pin (pcfgs (F := F)) adm
theorem pins_inj : Function.Injective (Pipeline.cellOf (nD := nD) (τ := τ) (pins (F := F))) := cellOf_inj

def u₀ : UU := (initOf (K (F := F)).hsCells (K (F := F)).hsToks, (initOf (Pipeline.cells (pins (F := F)) pins_inj) (Pipeline.launchToks (pins (F := F)) pins_inj), 1))

/-- What a device's two pipelines start from. -/
def G (d : Dev nD) : sProp 𝕄 :=
  iprop((bigSep Finset.univ fun p : Fin 2 => Pipeline.cellsGhost (pins (F := F)) EP p d) ∗ bigSep Finset.univ fun p : Fin 2 => Pipeline.toksInit (pins (F := F)) EP p d)

theorem bigSep_emp' {I : Type} (s : Finset I) : (bigSep s fun _ => iprop(emp)) = (iprop(emp) : sProp 𝕄) := bigSep_emp_const s

theorem hu₀ (Vc : Dev nD → Valuation τ sig (Elt F)) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P Vc).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H := (show BI.own (embR ((initOf (Pipeline.cells (pins (F := F)) pins_inj) (Pipeline.launchToks (pins (F := F)) pins_inj), 1) : UP × Counters))
      ⊢ (iprop(BI.own (EP (initOf (Pipeline.cells (pins (F := F)) pins_inj) (Pipeline.launchToks (pins (F := F)) pins_inj))) ∗ BI.own _) : sProp 𝕄) from
    own_pair_emb embR (initOf (Pipeline.cells (pins (F := F)) pins_inj) (Pipeline.launchToks (pins (F := F)) pins_inj) : UP) (1 : Counters)) $$ HR
  icases H with ⟨HP, -⟩
  ihave HP := (Pipeline.fund_ghost (pins (F := F)) EP pins_inj) $$ HP
  imod HP
  icases HP with ⟨HC, HT⟩
  imodintro
  isplitl [HH]; · iexact HH
  isplitl [HC HT]
  · unfold G
    rw [bigSep_sep']
    isplitl [HC]; · iexact HC
    iexact HT
  rw [show (bigSep Finset.univ fun thr : Thread nD τ => bigSep Finset.univ fun q : Fin 1 => (P (F := F) Vc).x q thr) = bigSep Finset.univ fun _ => iprop(emp) from
    bigSep_congr fun _ _ => bigSep_univ_of_subsingleton (0 : Fin 1), bigSep_emp']
  iempintro

end Cert.Proof.Ideal
-- ==== Proof.Ideal.Run.lean ====
/-
  The whole program: the edges cut in two, the first call, its results cut to the nodes, and the two later calls.
-/
module

public import Idealize.ShloMosaic.Lib.Pointwise.Reshape
public import proofs.«01_k».proof.Proof.Ideal.Launch

@[expose] public section

noncomputable section

namespace Cert.Proof.Ideal

open Cert.KernelIdeal Cert.KernelIdeal.Gen
open Cert.Proof.Agg
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_split held_sub_split held_congr seq after wp_seq launchContents tcRefs devRef_mem_tcRefs unary_bufs_sub reshape_bufs_sub)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's lines -/

/-- Before the call. -/
def opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 (rfl : (.i32 : EltTy) = .i32) shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 (rfl : (.i32 : EltTy) = .i32) shapeCasts_S1x320000_S320000 ]

/-- After it. -/
def opsB : List (HloOp τ sig (Elt F)) :=
  [ StableHlo.unary main_v4_0 main_v5 ((extractStridedSlice S10000x128 ![0, 0] · slices_S10240x128_S10000x128_0_0) : (⟨S10240x128, .f32⟩ : BufTy).Contents (Elt F) → (⟨S10000x128, .f32⟩ : BufTy).Contents (Elt F)),
    StableHlo.unary main_v4_1 main_v6 ((extractStridedSlice S10000x128 ![0, 0] · slices_S10240x128_S10000x128_0_0) : (⟨S10240x128, .f32⟩ : BufTy).Contents (Elt F) → (⟨S10000x128, .f32⟩ : BufTy).Contents (Elt F)),
    StableHlo.unary main_v4_2 main_v7 ((extractStridedSlice S10000x128 ![0, 0] · slices_S10240x128_S10000x128_0_0) : (⟨S10240x128, .f32⟩ : BufTy).Contents (Elt F) → (⟨S10000x128, .f32⟩ : BufTy).Contents (Elt F)),
    StableHlo.reshape main_v4_3 main_v8 (rfl : (.f32 : EltTy) = .f32) shapeCasts_S32x320_S10240,
    StableHlo.unary main_v8 main_v9 ((extractStridedSlice S10000 ![0] · slices_S10240_S10000_0) : (⟨S10240, .f32⟩ : BufTy).Contents (Elt F) → (⟨S10000, .f32⟩ : BufTy).Contents (Elt F)),
    StableHlo.unary main_v9 main_v10 (broadcastInDim S10000x1 ![0] bcast_S10000_S10000x1_0 : (⟨S10000, .f32⟩ : BufTy).Contents (Elt F) → (⟨S10000x1, .f32⟩ : BufTy).Contents (Elt F)),
    StableHlo.reshape main_arg5 main_v11 (rfl : (.f32 : EltTy) = .f32) shapeCasts_S128_S1x128 ]

theorem main_eq (d : Dev nD) :
    main (F := F) d = (seq (opsA (F := F)) >>= fun _ => ((sc (F := F)).run d 0 >>= fun _ => (seq (opsB (F := F)) >>= fun _ =>
      (Prog.lift (.customCall (SparseCore.inner (Pipeline.entry 0)) ()) >>= fun _ => (seq (opsC (F := F)) >>= fun _ =>
        (Prog.lift (.customCall (SparseCore.inner (Pipeline.entry 1)) ()) >>= fun _ => pure ⟨⟩)))))) := by
  unfold main opsA opsB opsC
  simp only [seq, bind_assoc, pure_bind]

abbrev SU : Finset (DevRef τ sig) := Pipeline.ucRefs τ sig

theorem subA : ∀ op ∈ opsA (F := F), op.bufs ⊆ SU := fun op h => Pipeline.sub_ucRefs op (by
  unfold opsA at h
  simp only [List.mem_cons, List.not_mem_nil, or_false] at h
  rcases h with rfl | rfl | rfl | rfl
  · exact unary_bufs_sub _ _ _ _ _
  · exact reshape_bufs_sub _ _ _ _ _ _
  · exact unary_bufs_sub _ _ _ _ _
  · exact reshape_bufs_sub _ _ _ _ _ _)
theorem freshA : ∀ op ∈ opsA (F := F), op.fresh = ∅ := fun op h => by
  unfold opsA at h
  simp only [List.mem_cons, List.not_mem_nil, or_false] at h
  rcases h with rfl | rfl | rfl | rfl <;> rfl
theorem subB : ∀ op ∈ opsB (F := F), op.bufs ⊆ SU := fun op h => Pipeline.sub_ucRefs op (by
  unfold opsB at h
  simp only [List.mem_cons, List.not_mem_nil, or_false] at h
  rcases h with rfl | rfl | rfl | rfl | rfl | rfl | rfl
  · exact unary_bufs_sub _ _ _ _ _
  · exact unary_bufs_sub _ _ _ _ _
  · exact unary_bufs_sub _ _ _ _ _
  · exact reshape_bufs_sub _ _ _ _ _ _
  · exact unary_bufs_sub _ _ _ _ _
  · exact unary_bufs_sub _ _ _ _ _
  · exact reshape_bufs_sub _ _ _ _ _ _)
theorem freshB : ∀ op ∈ opsB (F := F), op.fresh = ∅ := fun op h => by
  unfold opsB at h
  simp only [List.mem_cons, List.not_mem_nil, or_false] at h
  rcases h with rfl | rfl | rfl | rfl | rfl | rfl | rfl <;> rfl
theorem subC : ∀ op ∈ opsC (F := F), op.bufs ⊆ SU := fun op h => Pipeline.sub_ucRefs op (by
  unfold opsC at h
  simp only [List.mem_cons, List.not_mem_nil, or_false] at h
  rcases h with rfl | rfl <;> exact reshape_bufs_sub _ _ _ _ _ _)
theorem freshC : ∀ op ∈ opsC (F := F), op.fresh = ∅ := fun op h => by
  unfold opsC at h
  simp only [List.mem_cons, List.not_mem_nil, or_false] at h
  rcases h with rfl | rfl <;> rfl

/-! ## The buffers through the program -/

/-- Before the call. -/
def VA (d : Dev nD) : Valuation τ sig (Elt F) := after opsA (launchContents m d)

abbrev srcA (d : Dev nD) : Vec F S320000 .i32 := srcV (VA m) d
abbrev dstA (d : Dev nD) : Vec F S320000 .i32 := dstV (VA m) d
abbrev hA (d : Dev nD) : Vec F S10000x128 .f32 := hV (VA m) d

/-- After the call: its four results filled. -/
def VB (d : Dev nD) : Valuation τ sig (Elt F) :=
  Function.update (Function.update (Function.update (Function.update (VA m d)
    (Proc.devRef .tc main_v4_0) (aggSum (srcA m d) (dstA m d) (hA m d))) (Proc.devRef .tc main_v4_1) (aggMax (srcA m d) (dstA m d) (hA m d)))
    (Proc.devRef .tc main_v4_2) (aggMin (srcA m d) (dstA m d) (hA m d))) (Proc.devRef .tc main_v4_3) (aggDeg (srcA m d) (dstA m d) (hA m d))

/-- Before the two later calls. -/
def VR (d : Dev nD) : Valuation τ sig (Elt F) := after opsB (VB m d)
/-- At the end. -/
abbrev VE (d : Dev nD) : Valuation τ sig (Elt F) := W4 (VR m) d

def callRefs : Finset (Ref sig .tc) := {main_v1, main_v3, main_arg0, main_v4_0, main_v4_1, main_v4_2, main_v4_3}
def tcEmb : Ref sig .tc ↪ DevRef τ sig := ⟨Proc.devRef .tc, Proc.devRef_injective _⟩
abbrev callSet : Finset (DevRef τ sig) := callRefs.map tcEmb

theorem callSet_sub : callSet ⊆ SU := fun b hb => by
  obtain ⟨r, hr, rfl⟩ := Finset.mem_map.mp hb
  refine Finset.mem_filter.mpr ⟨devRef_mem_tcRefs r, ?_⟩
  have key : ∀ r ∈ callRefs, ¬ (Proc.devRef (τ := τ) .tc r).isScoped = true := by decide
  exact key r hr

theorem held_call (d : Dev nD) (X : Valuation τ sig (Elt F)) :
    (held (SparseCore.T d) callSet X : sProp 𝕄)
      = iprop((srcLoc d ↦{fullShare} X (Proc.devRef .tc main_v1)) ∗ (dstLoc d ↦{fullShare} X (Proc.devRef .tc main_v3)) ∗ (hLoc d ↦{fullShare} X (Proc.devRef .tc main_arg0))
        ∗ (o0Loc d ↦{fullShare} X (Proc.devRef .tc main_v4_0)) ∗ (o1Loc d ↦{fullShare} X (Proc.devRef .tc main_v4_1))
        ∗ (o2Loc d ↦{fullShare} X (Proc.devRef .tc main_v4_2)) ∗ (o3Loc d ↦{fullShare} X (Proc.devRef .tc main_v4_3))) := by
  unfold held callSet
  rw [bigSep_map]
  unfold callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem ne_dev {x y : Ref sig .tc} (h : x ≠ y) : Proc.devRef (τ := τ) .tc x ≠ Proc.devRef .tc y := StableHlo.devRef_ne_of_ne h

theorem VB_of (d : Dev nD) (b : DevRef τ sig) (h0 : b ≠ Proc.devRef .tc main_v4_0) (h1 : b ≠ Proc.devRef .tc main_v4_1) (h2 : b ≠ Proc.devRef .tc main_v4_2)
    (h3 : b ≠ Proc.devRef .tc main_v4_3) : VB m d b = VA m d b := by
  unfold VB
  rw [Function.update_of_ne h3, Function.update_of_ne h2, Function.update_of_ne h1, Function.update_of_ne h0]
theorem VB_o0 (d : Dev nD) : VB m d (Proc.devRef .tc main_v4_0) = aggSum (srcA m d) (dstA m d) (hA m d) := by
  unfold VB
  rw [Function.update_of_ne (ne_dev (by decide)), Function.update_of_ne (ne_dev (by decide)), Function.update_of_ne (ne_dev (by decide)), Function.update_self]
theorem VB_o1 (d : Dev nD) : VB m d (Proc.devRef .tc main_v4_1) = aggMax (srcA m d) (dstA m d) (hA m d) := by
  unfold VB
  rw [Function.update_of_ne (ne_dev (by decide)), Function.update_of_ne (ne_dev (by decide)), Function.update_self]
theorem VB_o2 (d : Dev nD) : VB m d (Proc.devRef .tc main_v4_2) = aggMin (srcA m d) (dstA m d) (hA m d) := by
  unfold VB
  rw [Function.update_of_ne (ne_dev (by decide)), Function.update_self]
theorem VB_o3 (d : Dev nD) : VB m d (Proc.devRef .tc main_v4_3) = aggDeg (srcA m d) (dstA m d) (hA m d) := by
  unfold VB
  rw [Function.update_self]

theorem held_rest (d : Dev nD) : (held (SparseCore.T d) (SU \ callSet) (VA m d) : sProp 𝕄) = held (SparseCore.T d) (SU \ callSet) (VB m d) :=
  held_congr (SparseCore.T d) fun b hb => by
    have hn : ∀ r ∈ callRefs, b ≠ Proc.devRef .tc r := fun r hr e => (Finset.mem_sdiff.mp hb).2 (e ▸ Finset.mem_map_of_mem tcEmb hr)
    exact (VB_of m d b (hn _ (by decide)) (hn _ (by decide)) (hn _ (by decide)) (hn _ (by decide))).symm

/-! ## The call's operands, dealt and gathered -/

theorem st_eq (d : Dev nD) : (bigSep Finset.univ fun c : Fin ((K (F := F)).nCore 0) => (P (VA m)).st 0 d c) = bigSep Finset.univ (goP (VA m) d) :=
  tiles_eq (goP (VA m) d)
theorem dn_eq (d : Dev nD) : (bigSep Finset.univ fun c : Fin ((K (F := F)).nCore 0) => (P (VA m)).dn 0 d c) = bigSep Finset.univ (tdP (VA m) d) :=
  tiles_eq (tdP (VA m) d)

theorem st_held (d : Dev nD) : (bigSep Finset.univ fun c : Fin ((K (F := F)).nCore 0) => (P (VA m)).st 0 d c) = held (SparseCore.T d) callSet (VA m d) := by
  rw [st_eq, held_call]
  exact tiles_whole d _ _ _ _ _ _ _
theorem dn_held (d : Dev nD) : (bigSep Finset.univ fun c : Fin ((K (F := F)).nCore 0) => (P (VA m)).dn 0 d c) = held (SparseCore.T d) callSet (VB m d) := by
  rw [dn_eq, held_call, VB_o0, VB_o1, VB_o2, VB_o3, VB_of m d (Proc.devRef .tc main_v1) (ne_dev (by decide)) (ne_dev (by decide)) (ne_dev (by decide)) (ne_dev (by decide)),
    VB_of m d (Proc.devRef .tc main_v3) (ne_dev (by decide)) (ne_dev (by decide)) (ne_dev (by decide)) (ne_dev (by decide)),
    VB_of m d (Proc.devRef .tc main_arg0) (ne_dev (by decide)) (ne_dev (by decide)) (ne_dev (by decide)) (ne_dev (by decide))]
  exact tiles_whole d _ _ _ _ _ _ _

/-! ## The run -/

/-- What each device ends holding. -/
def FIN (d : Dev nD) : sProp 𝕄 := held (SparseCore.T d) SU (VE m d)

/-- What the host's thread keeps of the handshakes once the call is over. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_one (d : Dev nD) : ((K (F := F)).tcSt EH d 1 : sProp 𝕄)
    = iprop((∃ W, ⌜∀ p ∈ W, p ∈ low (F := F) d⌝ ∗ owes (SparseCore.T d) (0 : CellTallies nD τ sig (HIx 1)) W) ∗ tcRest d) := by
  unfold SparseCore.Cfg.tcSt
  rw [(K (F := F)).Otc_end d (le_refl 1)]
  rfl

/-- A later call, before it is lifted to the program's own calls. -/
abbrev callP (p : Fin 2) : Prog (TpuEff nD τ sig (Elt F) (ΛP (F := F)) (Proc.tc (τ := τ))) PUnit := .op (.customCall (Pipeline.entry p) ()) .ret

theorem lift_callP (p : Fin 2) : (Prog.lift (.customCall (SparseCore.inner (Pipeline.entry p)) ())
      : Prog (TpuEff nD τ sig (Elt F) (SparseCore.Sig (ΛP (F := F)) 1) (Proc.tc (τ := τ))) PUnit) = SparseCore.liftProg (callP p) := rfl

theorem wp_callP (Wa : Dev nD → Valuation τ sig (Elt F)) (p : Fin 2) (R : Pipeline.RegionSeg (pcfgs (F := F)) adm (pdats Wa) none defs₀ 𝒱₀ (sc (F := F)).L (sc (F := F)).lev p)
    (d : Dev nD) (Φ : PUnit → sProp 𝕄) :
    iprop((iprop(boundary (SparseCore.T d) ∗ R.post d) -∗ wp frame (wpE (D (F := F)) 𝒱 (SparseCore.T d) none) Set.univ (.ret ⟨⟩) Φ)
      ∗ boundary (SparseCore.T d) ∗ R.pre d ∗ levAts (K (F := F)).L (K (F := F)).lev
      ∗ Pipeline.cellsGhost (pins (F := F)) EP p d ∗ Pipeline.toksInit (pins (F := F)) EP p d)
    ⊢ wp frame (wpE (D (F := F)) 𝒱 (SparseCore.T d) none) Set.univ (callP p) Φ :=
  Pipeline.RegionSeg.wp (pcfgs (F := F)) adm (pdats Wa) none pins_inj EP defs₀ 𝒱₀ (sc (F := F)).L (sc (F := F)).lev R d none
    (fun _ h => nomatch h) .ret Φ

/-- One of the two later calls, run from the host. -/
theorem wp_reg (Wa : Dev nD → Valuation τ sig (Elt F)) (p : Fin 2) (R : Pipeline.RegionSeg (pcfgs (F := F)) adm (pdats Wa) none defs₀ 𝒱₀ (sc (F := F)).L (sc (F := F)).lev p)
    (d : Dev nD) (Φ : PUnit → sProp 𝕄) :
    iprop(levAts (K (F := F)).L (K (F := F)).lev ∗ boundary (SparseCore.T d) ∗ R.pre d
        ∗ (Pipeline.cellsGhost (pins (F := F)) EP p d ∗ Pipeline.toksInit (pins (F := F)) EP p d)
        ∗ (iprop(boundary (SparseCore.T d) ∗ R.post d) -∗ Φ ⟨⟩))
      ⊢ wp frame (wpE ((K (F := F)).defs (D (F := F))) 𝒱 (SparseCore.T d) none) Set.univ (Prog.lift (.customCall (SparseCore.inner (Pipeline.entry p)) ())) Φ := by
  rw [lift_callP p]
  have h : (iprop(levAts (K (F := F)).L (K (F := F)).lev ∗ boundary (SparseCore.T d) ∗ R.pre d
        ∗ (Pipeline.cellsGhost (pins (F := F)) EP p d ∗ Pipeline.toksInit (pins (F := F)) EP p d)
        ∗ (iprop(boundary (SparseCore.T d) ∗ R.post d) -∗ Φ ⟨⟩)) : sProp 𝕄)
      ⊢ wp frame (wpE (D (F := F)) 𝒱 (SparseCore.T d) none) Set.univ (callP p) Φ := by
    iintro ⟨Hl, Hb, Hp, ⟨Hc, Ht⟩, Hk⟩
    iapply (wp_callP Wa p R d Φ)
    isplitl [Hk]
    · iintro H
      rw [wp_ret]; imodintro
      iapply Hk; iexact H
    isplitl [Hb]; · iexact Hb
    isplitl [Hp]; · iexact Hp
    isplitl [Hl]; · iexact Hl
    isplitl [Hc]; · iexact Hc
    iexact Ht
  exact h.trans ((K (F := F)).wp_liftProg (D (F := F)) 𝒱 (SparseCore.T d) Set.univ none (callP p) Φ)

theorem G_two (d : Dev nD) : (G (F := F) d : sProp 𝕄)
    ⊢ iprop((Pipeline.cellsGhost (pins (F := F)) EP 0 d ∗ Pipeline.toksInit (pins (F := F)) EP 0 d)
      ∗ (Pipeline.cellsGhost (pins (F := F)) EP 1 d ∗ Pipeline.toksInit (pins (F := F)) EP 1 d)) := by
  unfold G
  rw [show (Finset.univ : Finset (Fin 2)) = insert 0 {1} from rfl, SparseCore.bigSep_insert' (by decide), SparseCore.bigSep_insert' (by decide), bigSep_singleton, bigSep_singleton]
  iintro ⟨⟨H1, H2⟩, H3, H4⟩
  isplitl [H1 H3]
  · isplitl [H1]; · iexact H1
    iexact H3
  isplitl [H2]; · iexact H2
  iexact H4

theorem hmain (κ : GSem nD τ sig → ℕ) (d : Dev nD) :
    iprop((K (F := F)).ctx EH (P (VA m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) SU (launchContents m d) from
    Pipeline.unscopedBufs_held d (launchContents m d)]
  iintro ⟨#Hctx, Hst, ⟨Hb, Hh, Hts, Hpr⟩, HG⟩
  ihave HG := (G_two d) $$ HG
  icases HG with ⟨HG0, HG1⟩
  iapply (wp_seq 𝒱 none Set.univ d SU _ (opsA (F := F)) subA freshA (launchContents m d)) $$ [Hb Hh]
  · isplitl [Hb]; · iexact Hb
    iexact Hh
  iintro ⟨Hb, Hh⟩
  ihave Hh := (Entails.of_eq (show (held (SparseCore.T d) SU (after opsA (launchContents m d)) : sProp 𝕄)
      = iprop(held (SparseCore.T d) callSet (VA m d) ∗ held (SparseCore.T d) (SU \ callSet) (VB m d)) from
    (held_sub_split (SparseCore.T d) callSet_sub (VA m d)).trans (congrArg _ (held_rest m d)))) $$ Hh
  icases Hh with ⟨Hc, Hr⟩
  rw [wp_bind]
  iapply ((K (F := F)).wp_run (D (F := F)) 𝒱 (EH := EH) (P := P (VA m)) κ d 0) $$ [Hst Hc Hr Hb Hts Hpr HG0 HG1]
  isplitr; · iexact Hctx
  isplitl [Hst]; · iexact Hst
  isplitl [Hc]
  · iapply (Entails.of_eq (st_held m d).symm); iexact Hc
  iintro ⟨Hst, Hdn⟩
  ihave Hc := (Entails.of_eq (dn_held m d)) $$ Hdn
  ihave Hh := (Entails.of_eq (held_sub_split (SparseCore.T d) callSet_sub (VB m d)).symm) $$ [Hc Hr]
  · isplitl [Hc]; · iexact Hc
    iexact Hr
  iapply (wp_seq 𝒱 none Set.univ d SU _ (opsB (F := F)) subB freshB (VB m d)) $$ [Hb Hh]
  · isplitl [Hb]; · iexact Hb
    iexact Hh
  iintro ⟨Hb, Hh⟩
  ihave #Hlev := ((SparseCore.Cfg.ctx_levAts (K := K (F := F)) (EH := EH) (P := P (VA m)) κ)) $$ Hctx
  ihave Hst := (Entails.of_eq (show ((K (F := F)).tcSt EH d ((0 : Fin 1).val + 1) : sProp 𝕄) = _ from tcSt_one d)) $$ Hst
  icases Hst with ⟨HO, Hst⟩
  rw [wp_bind]
  iapply (wp_reg (VR m) 0 (reg1 (VR m)) d)
  isplitr; · iexact Hlev
  isplitl [Hb]; · iexact Hb
  isplitl [Hh HO Hpr]
  · iapply (Entails.of_eq (show (iprop(held (SparseCore.T d) SU (VR m d) ∗ RS d) : sProp 𝕄) = (reg1 (VR m)).pre d from rfl))
    isplitl [Hh]; · iexact Hh
    unfold RS
    isplitl [Hpr]; · iexists _; iexact Hpr
    iexact HO
  isplitl [HG0]; · iexact HG0
  iintro ⟨Hb, Hpost⟩
  ihave Hpost := (Entails.of_eq (show (reg1 (VR m)).post d = iprop(held (SparseCore.T d) SU (W2 (VR m) d) ∗ RS d) from rfl)) $$ Hpost
  icases Hpost with ⟨Hh, HRS⟩
  iapply (wp_seq 𝒱 none Set.univ d SU _ (opsC (F := F)) subC freshC (W2 (VR m) d)) $$ [Hb Hh]
  · isplitl [Hb]; · iexact Hb
    iexact Hh
  iintro ⟨Hb, Hh⟩
  rw [wp_bind]
  iapply (wp_reg (VR m) 1 (reg2 (VR m)) d)
  isplitr; · iexact Hlev
  isplitl [Hb]; · iexact Hb
  isplitl [Hh HRS]
  · iapply (Entails.of_eq (show (iprop(held (SparseCore.T d) SU (W3 (VR m) d) ∗ RS d) : sProp 𝕄) = (reg2 (VR m)).pre d from rfl))
    isplitl [Hh]; · iexact Hh
    iexact HRS
  isplitl [HG1]; · iexact HG1
  iintro ⟨Hb, Hpost⟩
  ihave Hpost := (Entails.of_eq (show (reg2 (VR m)).post d = iprop(held (SparseCore.T d) SU (W4 (VR m) d) ∗ RS d) from rfl)) $$ Hpost
  icases Hpost with ⟨Hh, HRS⟩
  unfold RS
  icases HRS with ⟨-, HO⟩
  rw [wp_pure]; imodintro
  isplitl [HO Hst]
  · iapply (Entails.of_eq (tcSt_one d).symm)
    isplitl [HO]; · iexact HO
    iexact Hst
  isplitl [Hh]; · unfold FIN; iexact Hh
  isplitl [Hb]; · iexact Hb
  iexact Hts

def fq (d : Dev nD) (s' : Phys nD τ sig (Elt F)) : Prop := ∀ b ∈ SU, s'.mem.mem (d, b) = VE m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) SU) $$ [HSI H]
  · isplitl [HSI]; · iexact HSI
    iexact H
  ipureintro
  exact h

def QC : PUnit × MemSt nD τ sig (Elt F) → Prop := fun r => (∀ d : Dev nD, ∀ b ∈ SU, r.2.mem (d, b) = VE m d b) ∧ r.2.sem = fun _ => 0

/-- Every weakly fair run ends, each device's buffers at `VE`, every counter at zero. -/
theorem run_main [∀ e, Nonempty (Elt F e)] (hok : ∀ d, EdgesOK (F := F) (srcA m d) (dstA m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (VA m)) (A := ∅) facts v₀
    (fun q hq => match q with | 0 => nomatch hq)
    (fun q _ => match q with | 0 => tileObl (VA m) hok)
    (fun q _ => match q with | 0 => SparseCore.Cfg.VecSplit.of_plain (vecSplit (VA m)))
    m ρ main (G (F := F)) (FIN m) (u₀ (F := F)) (sep_elim_left.trans (hu₀ (VA m))) (hmain m ρ) (fq m) (hfin m) (QC m) (fun _ h hz => ⟨h, hz⟩)

/-! ## What the buffers hold -/

abbrev edges (d : Dev nD) : Vec F S2x320000 .i32 := m ((SparseCore.T d).loc main_arg1)

theorem srcA_eq (d : Dev nD) : srcA m d = shapeCast S320000 (extractStridedSlice S1x320000 ![0, 0] (edges m d) slices_S2x320000_S1x320000_0_0) shapeCasts_S1x320000_S320000 := by
  unfold srcA srcV VA opsA
  after_results
  rfl
theorem dstA_eq (d : Dev nD) : dstA m d = shapeCast S320000 (extractStridedSlice S1x320000 ![1, 0] (edges m d) slices_S2x320000_S1x320000_1_0) shapeCasts_S1x320000_S320000 := by
  unfold dstA dstV VA opsA
  after_results
  rfl
theorem hA_eq (d : Dev nD) : hA m d = m ((SparseCore.T d).loc main_arg0) := by
  unfold hA hV VA opsA
  after_results

/-- The program's arguments. -/
abbrev argRefs : List (Ref sig .tc) := [main_arg0, main_arg1, main_arg2, main_arg3, main_arg4, main_arg5, main_arg6, main_arg7]

/-- No line before the two later calls writes an argument. -/
theorem VB_args (d : Dev nD) (a : Ref sig .tc) (ha : a ∈ argRefs) : VB m d (Proc.devRef .tc a) = m ((SparseCore.T d).loc a) := by
  have hn : a ≠ main_v4_0 ∧ a ≠ main_v4_1 ∧ a ≠ main_v4_2 ∧ a ≠ main_v4_3 := by revert a; decide
  have hA : VA m d (Proc.devRef .tc a) = launchContents m d (Proc.devRef .tc a) :=
    StableHlo.after_of_writes_sub (W := [main_v0, main_v1, main_v2, main_v3]) opsA _ (StableHlo.forall_writes_sub_of_map rfl) (by clear hn; revert a; decide)
  exact (VB_of m d _ (ne_dev hn.1) (ne_dev hn.2.1) (ne_dev hn.2.2.1) (ne_dev hn.2.2.2)).trans hA
theorem VR_args (d : Dev nD) (a : Ref sig .tc) (ha : a ∈ argRefs) : VR m d (Proc.devRef .tc a) = m ((SparseCore.T d).loc a) :=
  (show VR m d (Proc.devRef .tc a) = VB m d (Proc.devRef .tc a) from
    StableHlo.after_of_writes_sub (W := [main_v5, main_v6, main_v7, main_v8, main_v9, main_v10, main_v11]) opsB _ (StableHlo.forall_writes_sub_of_map rfl)
      (by revert a; decide)).trans (VB_args m d a ha)

theorem W2_args (d : Dev nD) (a : Ref sig .tc) (ha : a ∈ argRefs) : W2 (VR m) d (Proc.devRef .tc a) = m ((SparseCore.T d).loc a) :=
  (W2_of (VR m) d a ((show ∀ a ∈ argRefs, ∀ w : Fin cfg1.W, Pipeline.arrRef spec1 w = a → (cfg1.win w).isOut = false from
    ListAll.forall_mem_of_all_decide (by decide +kernel)) a ha)).trans (VR_args m d a ha)
theorem W3_of (Wa : Dev nD → Valuation τ sig (Elt F)) (d : Dev nD) (r : Ref sig .tc) (h : r ∉ [main_v13, main_v14]) :
    W3 Wa d (Proc.devRef .tc r) = W2 Wa d (Proc.devRef .tc r) :=
  StableHlo.after_of_writes_sub (W := [main_v13, main_v14]) opsC _ (StableHlo.forall_writes_sub_of_map rfl) h
theorem W3_args (d : Dev nD) (a : Ref sig .tc) (ha : a ∈ argRefs) : W3 (VR m) d (Proc.devRef .tc a) = m ((SparseCore.T d).loc a) :=
  (W3_of (VR m) d a (by revert a; decide)).trans (W2_args m d a ha)
theorem VE_args (d : Dev nD) (a : Ref sig .tc) (ha : a ∈ argRefs) : VE m d (Proc.devRef .tc a) = m ((SparseCore.T d).loc a) :=
  (W4_of (VR m) d a ((show ∀ a ∈ argRefs, ∀ w : Fin cfg2.W, Pipeline.arrRef spec2 w = a → (cfg2.win w).isOut = false from
    ListAll.forall_mem_of_all_decide (by decide +kernel)) a ha)).trans (W3_args m d a ha)

/-- The arguments at the end, as they were. -/
theorem kept {r : PUnit × MemSt nD τ sig (Elt F)} (h : QC m r) (d : Dev nD) (a : Ref sig .tc) (ha : a ∈ argRefs) :
    r.2.mem ((SparseCore.T d).loc a) = m ((SparseCore.T d).loc a) := by
  have hu : ∀ a ∈ argRefs, ¬ (Proc.devRef .tc a : DevRef τ sig).isScoped := by decide
  exact (h.1 d _ (Finset.mem_filter.mpr ⟨devRef_mem_tcRefs a, hu a ha⟩)).trans (VE_args m d a ha)

theorem VR_v5 (d : Dev nD) : VR m d (Proc.devRef .tc main_v5)
    = extractStridedSlice S10000x128 ![0, 0] (aggSum (srcA m d) (dstA m d) (hA m d)) slices_S10240x128_S10000x128_0_0 := by
  rw [← VB_o0]
  unfold VR opsB
  after_results
theorem VR_v6 (d : Dev nD) : VR m d (Proc.devRef .tc main_v6)
    = extractStridedSlice S10000x128 ![0, 0] (aggMax (srcA m d) (dstA m d) (hA m d)) slices_S10240x128_S10000x128_0_0 := by
  rw [← VB_o1]
  unfold VR opsB
  after_results
theorem VR_v7 (d : Dev nD) : VR m d (Proc.devRef .tc main_v7)
    = extractStridedSlice S10000x128 ![0, 0] (aggMin (srcA m d) (dstA m d) (hA m d)) slices_S10240x128_S10000x128_0_0 := by
  rw [← VB_o2]
  unfold VR opsB
  after_results
theorem VR_v10 (d : Dev nD) : VR m d (Proc.devRef .tc main_v10)
    = broadcastInDim S10000x1 ![0] bcast_S10000_S10000x1_0 (extractStridedSlice S10000 ![0]
      (shapeCast S10240 (aggDeg (srcA m d) (dstA m d) (hA m d)) shapeCasts_S32x320_S10240) slices_S10240_S10000_0) := by
  rw [← VB_o3]
  unfold VR opsB
  after_results
  rfl

/-! ## The edges' ends -/

/-- Edge `j`'s end: row 0 the source, row 1 the destination. -/
def endAt (r : Fin 2) (j : S320000.Idx) : S2x320000.Idx := fun a => match a with | 0 => r | 1 => j 0

theorem ends_apply (r : Fin 2) (E : Vec F S2x320000 .i32) (hs : S2x320000.Slices ![r.val, 0] S1x320000) (j : S320000.Idx) :
    shapeCast S320000 (extractStridedSlice S1x320000 ![r.val, 0] E hs) shapeCasts_S1x320000_S320000 j = E (endAt r j) := by
  show E _ = _
  refine congrArg E (funext fun a => Fin.ext ?_)
  have h0 : ((Shape.reshapeEquiv shapeCasts_S1x320000_S320000 j) 0).val < 1 := ((Shape.reshapeEquiv shapeCasts_S1x320000_S320000 j) 0).isLt
  have h1 : (Shape.reshapeEquiv shapeCasts_S1x320000_S320000 j) 1 = j 0 :=
    congrFun (Shape.reshapeEquiv_cons_one (d := ![320000]) shapeCasts_S1x320000_S320000 j) 1
  match a with
  | 0 =>
    show r.val + ((Shape.reshapeEquiv shapeCasts_S1x320000_S320000 j) 0).val = r.val
    omega
  | 1 =>
    show 0 + ((Shape.reshapeEquiv shapeCasts_S1x320000_S320000 j) 1).val = (j 0).val
    rw [h1, Nat.zero_add]
theorem srcA_apply (d : Dev nD) (j : S320000.Idx) : srcA m d j = edges m d (endAt 0 j) := by
  rw [srcA_eq]
  exact ends_apply 0 (edges m d) _ j
theorem dstA_apply (d : Dev nD) (j : S320000.Idx) : dstA m d j = edges m d (endAt 1 j) := by
  rw [dstA_eq]
  exact ends_apply 1 (edges m d) _ j

/-- Every word of the edges a node's number: what the run asks. -/
theorem edges_ok (h : ∀ d, ∀ j : S2x320000.Idx, (edges m d j).toNat < 10000) (d : Dev nD) : EdgesOK (F := F) (srcA m d) (dstA m d) :=
  ⟨fun j => by rw [srcA_apply]; exact h d _, fun j => by rw [dstA_apply]; exact h d _⟩

/-! ## The results at a node -/

theorem cut_apply (G : Vec F S10240x128 .f32) (n : Fin 10000) (c : Fin 128) :
    extractStridedSlice S10000x128 ![0, 0] G slices_S10240x128_S10000x128_0_0 (rowAt (n := 10000) n c) = G (rowAt (n := 10240) ⟨n.val, by omega⟩ c) := by
  show G _ = _
  refine congrArg G (funext fun a => Fin.ext ?_)
  match a with
  | 0 => exact Nat.zero_add _
  | 1 => exact Nat.zero_add _

theorem rowsOf_apply (g : ℕ → Vec F S320x128 .f32) (n : Fin 10240) (c : Fin 128) :
    rowsOf g (rowAt (n := 10240) n c) = g (n.val / 320) (rowAt (n := 320) ⟨n.val % 320, Nat.mod_lt _ (by omega)⟩ c) := by
  unfold rowsOf
  refine congrArg (g (n.val / 320)) (congrArg (fun r => rowAt (n := 320) r c) (Fin.ext ?_))
  exact Nat.mod_mod _ _

theorem counts_apply (g : ℕ → Vec F S320 .f32) (n : Fin 10000) :
    broadcastInDim S10000x1 ![0] bcast_S10000_S10000x1_0 (extractStridedSlice S10000 ![0]
      (shapeCast S10240 (countsOf g) shapeCasts_S32x320_S10240) slices_S10240_S10000_0) (fun | 0 => n | 1 => (0 : Fin 1))
      = g (n.val / 320) (lane320 ⟨n.val % 320, Nat.mod_lt _ (by omega)⟩) := by
  have hn := n.isLt
  have hw : n.val / 320 < 32 := by omega
  have hi : broadcastInDim S10000x1 ![0] bcast_S10000_S10000x1_0 (extractStridedSlice S10000 ![0]
      (shapeCast S10240 (countsOf g) shapeCasts_S32x320_S10240) slices_S10240_S10000_0) (fun | 0 => n | 1 => (0 : Fin 1))
      = shapeCast S10240 (countsOf g) shapeCasts_S32x320_S10240 (Shape.ofLane (d := ![10240]) (⟨n.val, by omega⟩ : Fin 10240)) := by
    show shapeCast S10240 (countsOf g) shapeCasts_S32x320_S10240 _ = _
    refine congrArg _ (funext fun a => Fin.ext ?_)
    obtain rfl := Fin.eq_zero a
    exact Nat.zero_add _
  rw [hi]
  show countsOf g (Shape.reshapeEquiv shapeCasts_S32x320_S10240 _) = _
  rw [Shape.reshapeEquiv_eq_of_vals shapeCasts_S32x320_S10240 (Shape.ofLane (d := ![10240]) (⟨n.val, by omega⟩ : Fin 10240))
    (fun | 0 => (⟨n.val / 320, hw⟩ : Fin 32) | 1 => (⟨n.val % 320, Nat.mod_lt _ (by omega)⟩ : Fin 320))
    (n.val / 320 * 320 + n.val % 320) n.val (Shape.rowMajor_val_two _) (Shape.rowMajor_val_one _) (by omega)]
  rfl

end Cert.Proof.Ideal
-- ==== Proof.Ideal.Equal.lean ====
/-
  The two programs' results at a node: the tile's pass over the edges, in order and only those that end at its nodes, is the
  fold over all edges of the message where the edge ends at the node and the neutral value where it does not.
-/
module

public import proofs.«01_k».proof.Proof.Ideal.Run
public import proofs.«01_k».proof.Proof.Gen.ReferenceIdeal.Read
public import Idealize.ShloMosaic.Lib.Routing.Ops
public import Idealize.ShloMosaic.Lib.IdealHost
public import Idealize.ShloMosaic.Lib.WordCmp

@[expose] public section

noncomputable section

namespace Cert.Proof.Equal

open Cert.Proof.Agg Cert.Proof.Ideal
open Idealize.ShloMosaic

/-! ## Folds over the edges -/

section Fold

variable {β : Type} (op : β → β → β) [Std.Commutative op] [Std.Associative op] (b : β)

theorem fold_range (f : ℕ → β) (N : ℕ) :
    (List.range' 0 N).foldl (fun x e => op x (f e)) b = (Finset.univ : Finset (Fin N)).fold op b fun e => f e.val := by
  induction N with
  | zero => rfl
  | succ N ih =>
    rw [List.range'_1_concat, List.foldl_append, ih, Nat.zero_add, Fin.univ_castSuccEmb, Finset.fold_cons, Finset.fold_map]
    exact Std.Commutative.comm _ _

theorem fold_seg (hb : ∀ x, op x b = x) (M : ℕ → Bool) (R : ℕ → ℕ) (r : ℕ) (v : ℕ → β) (N : ℕ) :
    (seg M 0 N).foldl (fun x e => if R e = r then op x (v e) else x) b
      = (Finset.univ : Finset (Fin N)).fold op b fun e => if M e.val = true ∧ R e.val = r then v e.val else b := by
  rw [← fold_range op b (fun e => if M e = true ∧ R e = r then v e else b)]
  unfold seg
  rw [List.foldl_filter]
  refine congrArg (fun f => List.foldl f b (List.range' 0 N)) (funext fun x => funext fun e => ?_)
  by_cases hM : M e = true
  · by_cases hR : R e = r
    · rw [if_pos hM, if_pos hR, if_pos ⟨hM, hR⟩]
    · rw [if_pos hM, if_neg hR, if_neg fun h => hR h.2, hb]
  · rw [if_neg hM, if_neg fun h => hM h.1, hb]

end Fold

theorem negInf : (FloatOps.ofBits .f32 0xFF800000#32 : Ideal .f32) = (⊥ : EReal) := by
  show Ideal.ofBits .f32 0xFF800000#32 = ⊥
  simp [Ideal.ofBits, Ideal.ieee]
theorem posInf : (FloatOps.ofBits .f32 0x7F800000#32 : Ideal .f32) = (⊤ : EReal) := by
  show Ideal.ofBits .f32 0x7F800000#32 = ⊤
  simp [Ideal.ofBits, Ideal.ieee]

/-! ## The mathematics -/

abbrev laneE (e : Fin 320000) : Cert.KernelIdeal.S320000.Idx := Shape.ofLane (d := ![320000]) e

/-- `x` at the edges that end at node `n`, `b` at the others. -/
def pick (E : Vec Ideal Cert.KernelIdeal.S2x320000 .i32) (n : Fin 10000) (b : EReal) (x : Fin 320000 → EReal) (e : Fin 320000) : EReal :=
  if (E (endAt 1 (laneE e))).toNat = n.val then x e else b

/-- Edge `e`'s message: its source's features. -/
def msg (h : Vec Ideal Cert.KernelIdeal.S10000x128 .f32) (E : Vec Ideal Cert.KernelIdeal.S2x320000 .i32) (c : Fin 128) (e : Fin 320000) : EReal :=
  h (rowAt (n := 10000) (Fin.ofNat 10000 (E (endAt 0 (laneE e))).toNat) c)

def nodeFold (op : EReal → EReal → EReal) [Std.Commutative op] [Std.Associative op] (b : EReal)
    (E : Vec Ideal Cert.KernelIdeal.S2x320000 .i32) (n : Fin 10000) (x : Fin 320000 → EReal) : EReal :=
  (Finset.univ : Finset (Fin 320000)).fold op b (pick E n b x)

/-! ## The kernel -/

section Kernel

open Cert.KernelIdeal

variable (fs fd : Vec Ideal S320000 .i32) (h : Vec Ideal S10000x128 .f32) (E : Vec Ideal S2x320000 .i32)

theorem edgeIx_val (e : Fin 320000) : edgeIx e.val = laneE e := congrArg _ (Fin.ofNat_val_eq_self e)

/-- An edge of tile `n / 320` at row `n % 320` of it is an edge that ends at `n`. -/
theorem ends_iff (n : Fin 10000) (e : ℕ) :
    ((tileI fs fd h (n.val / 320)).M e = true ∧ (tileI fs fd h (n.val / 320)).R e = n.val % 320) ↔ (fd (edgeIx e)).toNat = n.val := by
  show (decide (320 * (n.val / 320) ≤ (fd (edgeIx e)).toNat ∧ (fd (edgeIx e)).toNat < 320 * (n.val / 320) + 320) = true
    ∧ (fd (edgeIx e)).toNat - 320 * (n.val / 320) = n.val % 320) ↔ _
  rw [decide_eq_true_eq]
  omega

theorem acc_node (hd : ∀ j, fd j = E (endAt 1 j)) (op : EReal → EReal → EReal) [Std.Commutative op] [Std.Associative op] (b : EReal)
    (hb : ∀ x, op x b = x) (v : ℕ → EReal) (n : Fin 10000) :
    (tileL fs fd h (n.val / 320)).foldl (fun x e => if (tileI fs fd h (n.val / 320)).R e = n.val % 320 then op x (v e) else x) b
      = nodeFold op b E n fun e => v e.val := by
  rw [fold_seg op b hb]
  refine Finset.fold_congr fun e _ => ?_
  unfold pick
  rw [← hd, ← edgeIx_val]
  exact if_congr (ends_iff fs fd h n e.val) rfl rfl

theorem H_eq (hs : ∀ j, fs j = E (endAt 0 j)) (w : ℕ) (e : Fin 320000) (c : Fin 128) : (tileI fs fd h w).H e.val c = msg h E c e := by
  show h (rowAt (n := 10000) (Fin.ofNat 10000 (fs (edgeIx e.val)).toNat) c) = _
  rw [edgeIx_val, hs]
  rfl

theorem rows_node (hs : ∀ j, fs j = E (endAt 0 j)) (hd : ∀ j, fd j = E (endAt 1 j)) (op : EReal → EReal → EReal)
    [Std.Commutative op] [Std.Associative op] (b : EReal) (hb : ∀ x, op x b = x) (n : Fin 10000) (c : Fin 128) :
    extractStridedSlice S10000x128 ![0, 0] (rowsOf (F := Ideal) fun w => accL (F := Ideal) (tileI fs fd h w).R (tileI fs fd h w).H op b (tileL fs fd h w))
      Gen.slices_S10240x128_S10000x128_0_0 (rowAt (n := 10000) n c) = nodeFold op b E n (msg h E c) := by
  rw [cut_apply, rowsOf_apply]
  refine (acc_node fs fd h E hd op b hb (fun e => (tileI fs fd h (n.val / 320)).H e c) n).trans ?_
  exact congrArg (nodeFold op b E n) (funext fun e => H_eq fs fd h E hs _ e c)

theorem add_zeroF (x : EReal) : x + (zeroF : Ideal .f32) = x := by
  rw [show (zeroF : Ideal .f32) = (0 : EReal) from Ideal.ofBits_zero_f32, add_zero]

theorem sum_node (hs : ∀ j, fs j = E (endAt 0 j)) (hd : ∀ j, fd j = E (endAt 1 j)) (n : Fin 10000) (c : Fin 128) :
    extractStridedSlice S10000x128 ![0, 0] (aggSum (F := Ideal) fs fd h) Gen.slices_S10240x128_S10000x128_0_0 (rowAt (n := 10000) n c)
      = nodeFold (· + ·) (zeroF : Ideal .f32) E n (msg h E c) :=
  rows_node fs fd h E hs hd (· + ·) (zeroF : Ideal .f32) add_zeroF n c

theorem max_node (hs : ∀ j, fs j = E (endAt 0 j)) (hd : ∀ j, fd j = E (endAt 1 j)) (n : Fin 10000) (c : Fin 128) :
    extractStridedSlice S10000x128 ![0, 0] (aggMax (F := Ideal) fs fd h) Gen.slices_S10240x128_S10000x128_0_0 (rowAt (n := 10000) n c)
      = nodeFold max ⊥ E n (msg h E c) :=
  rows_node fs fd h E hs hd max ⊥ (fun x => max_bot_right x) n c

theorem min_node (hs : ∀ j, fs j = E (endAt 0 j)) (hd : ∀ j, fd j = E (endAt 1 j)) (n : Fin 10000) (c : Fin 128) :
    extractStridedSlice S10000x128 ![0, 0] (aggMin (F := Ideal) fs fd h) Gen.slices_S10240x128_S10000x128_0_0 (rowAt (n := 10000) n c)
      = nodeFold min ⊤ E n (msg h E c) :=
  rows_node fs fd h E hs hd min ⊤ (fun x => min_top_right x) n c

theorem deg_node (hd : ∀ j, fd j = E (endAt 1 j)) (n : Fin 10000) :
    broadcastInDim S10000x1 ![0] Gen.bcast_S10000_S10000x1_0 (extractStridedSlice S10000 ![0]
      (shapeCast S10240 (aggDeg (F := Ideal) fs fd h) Gen.shapeCasts_S32x320_S10240) Gen.slices_S10240_S10000_0) (fun | 0 => n | 1 => (0 : Fin 1))
      = nodeFold (· + ·) (zeroF : Ideal .f32) E n fun _ => (oneF : Ideal .f32) := by
  refine (counts_apply (F := Ideal) (fun w => (tileI fs fd h w).deg (tileL fs fd h w)) n).trans ?_
  exact acc_node fs fd h E hd (· + ·) (zeroF : Ideal .f32) add_zeroF (fun _ => (oneF : Ideal .f32)) n

end Kernel

/-! ## The reference -/

section Reference

open Cert.ReferenceIdeal Cert.ReferenceIdeal.Read

variable (h : Vec Ideal S10000x128 .f32) (E : Vec Ideal S2x320000 .i32)

theorem src_apply (j : S320000.Idx) : val_main_v1 (F := Ideal) E j = E (endAt 0 j) := ends_apply (F := Ideal) 0 E _ j
theorem dst_apply (j : S320000.Idx) : val_main_v3 (F := Ideal) E j = E (endAt 1 j) := ends_apply (F := Ideal) 1 E _ j

/-- The mask: edge `e` ends at node `n`. -/
theorem mask_apply (n : Fin 10000) (e : Fin 320000) (i : S10000x320000.Idx) (h0 : i 0 = n) (h1 : i 1 = e) :
    val_main_v10 (F := Ideal) E i = BitVec.ofBool (decide ((E (endAt 1 (laneE e))).toNat = n.val)) := by
  rw [val_main_v10_apply, val_main_v8_apply, val_main_v5_apply, val_main_v9_apply, val_main_v7_apply, val_main_v6_apply, dst_apply]
  subst h0 h1
  have hj : idx_main_v5 (idx_main_v8 i) = laneE (i 1) := funext fun a => by obtain rfl := Fin.eq_zero a; rfl
  rw [hj]
  show BitVec.ofBool (E (endAt 1 (laneE (i 1))) == BitVec.ofNat 32 (i 0).val) = _
  refine congrArg BitVec.ofBool (Bool.eq_iff_iff.mpr ?_)
  rw [beq_iff_eq, decide_eq_true_eq]
  have hn : (i 0).val < 10000 := (i 0).isLt
  constructor
  · intro hh
    rw [hh, BitVec.toNat_ofNat, Nat.mod_eq_of_lt (by omega)]
  · intro hh
    exact BitVec.eq_of_toNat_eq (by rw [hh, BitVec.toNat_ofNat, Nat.mod_eq_of_lt (by omega)])

theorem take_apply (hE : ∀ j, (E j).toNat < 10000) (e : Fin 320000) (c : Fin 128) :
    val_main_v4 (F := Ideal) h E (ValueIdx.ix2 e c) = msg h E c e := by
  unfold val_main_v4 msg
  have hlt := hE (endAt 0 (laneE e))
  refine (Routing.gather_row gather_S10000x128_S320000x1_S320000x128_1_0_n_n_0_1_1128 rfl rfl rfl rfl rfl h (val_main_call0_v0 (F := Ideal) E) e c
    (Fin.ofNat 10000 (E (endAt 0 (laneE e))).toNat) ?_ (by omega)).trans ?_
  · rw [val_main_call0_v0_apply, src_apply]
    have hj : idx_main_call0_v0 (ValueIdx.ix2 e (0 : Fin 1)) = laneE e := funext fun a => by obtain rfl := Fin.eq_zero a; rfl
    rw [hj]
    refine BitVec.eq_of_toNat_eq ?_
    show _ = ((E (endAt 0 (laneE e))).toNat % 10000) % 2 ^ 32
    omega
  · exact congrArg h (eq_rowAt _)

/-- What the reference reduces: the message where the edge ends at the node, `b` where it does not. -/
theorem where_apply (hE : ∀ j, (E j).toNat < 10000) (b : EReal) (n : Fin 10000) (e : Fin 320000) (c : Fin 128) (i : S10000x320000x128.Idx)
    (h0 : i 0 = n) (h1 : i 1 = e) (h2 : i 2 = c) :
    Scalar.select (val_main_call1_v1 (F := Ideal) E i) (val_main_call1_v2 (F := Ideal) h E i) b = pick E n b (msg h E c) e := by
  have hm : val_main_call1_v1 (F := Ideal) E i = BitVec.ofBool (decide ((E (endAt 1 (laneE e))).toNat = n.val)) := by
    rw [val_main_call1_v1_apply, val_main_v11_apply]
    exact mask_apply E n e _ h0 h1
  have hv : val_main_call1_v2 (F := Ideal) h E i = msg h E c e := by
    rw [val_main_call1_v2_apply, val_main_v12_apply, ← take_apply h E hE]
    refine congrArg (val_main_v4 (F := Ideal) h E) (funext fun a => ?_)
    match a with
    | 0 => exact h1
    | 1 => exact h2
  rw [hm, hv, WordCmp.select_ofBool]
  unfold pick
  by_cases hd : (E (endAt 1 (laneE e))).toNat = n.val
  · rw [if_pos hd, if_pos (decide_eq_true hd)]
  · rw [if_neg hd, if_neg (by rw [decide_eq_false hd]; exact Bool.false_ne_true)]

theorem sum_ref (hE : ∀ j, (E j).toNat < 10000) (n : Fin 10000) (c : Fin 128) :
    val_main_v14 (F := Ideal) h E (rowAt (n := 10000) n c) = nodeFold (· + ·) (zeroF : Ideal .f32) E n (msg h E c) := by
  rw [val_main_v14_apply]
  have h0 : (val_main_cst_0 (F := Ideal)) (Shape.Idx.first Gen.h_S_) = (0 : EReal) := Ideal.ofBits_zero_f32
  rw [h0, zero_add]
  unfold nodeFold
  rw [show (zeroF : Ideal .f32) = (0 : EReal) from Ideal.ofBits_zero_f32]
  refine Finset.sum_congr rfl fun e _ => ?_
  exact (where_apply h E hE _ n e c (idx_main_v14 (rowAt (n := 10000) n c) e) rfl rfl rfl).trans
    (congrArg (fun b => pick E n b (msg h E c) e) Ideal.ofBits_zero_f32)

theorem reduce_ref (hE : ∀ j, (E j).toNat < 10000) (op : EReal → EReal → EReal) [Std.Commutative op] [Std.Associative op] (b : EReal)
    (x : S10000x320000x128.Idx → EReal) (init : S_.Idx → EReal) (hi : ∀ j, init j = b)
    (hx : ∀ i, x i = Scalar.select (val_main_call1_v1 (F := Ideal) E i) (val_main_call1_v2 (F := Ideal) h E i) b) (n : Fin 10000) (c : Fin 128) :
    Host.reduce op x init Gen.reducesTo_S10000x320000x128_S10000x128_d1 Gen.h_S_ (rowAt (n := 10000) n c) = nodeFold op b E n (msg h E c) := by
  rw [Host.reduce_eq_fold_single op x init Gen.reducesTo_S10000x320000x128_S10000x128_d1 (by decide) Gen.h_S_, hi]
  refine Finset.fold_congr fun e _ => ?_
  show x _ = _
  rw [hx]
  exact where_apply h E hE b n e c _ rfl rfl rfl

theorem max_ref (hE : ∀ j, (E j).toNat < 10000) (n : Fin 10000) (c : Fin 128) :
    val_main_v18 (F := Ideal) h E (rowAt (n := 10000) n c) = nodeFold max ⊥ E n (msg h E c) :=
  reduce_ref h E hE max ⊥ (val_main_v17 (F := Ideal) h E) (val_main_cst_2 (F := Ideal)) (fun _ => negInf)
    (fun i => congrArg (Scalar.select (val_main_call1_v1 (F := Ideal) E i) (val_main_call1_v2 (F := Ideal) h E i)) negInf) n c

theorem min_ref (hE : ∀ j, (E j).toNat < 10000) (n : Fin 10000) (c : Fin 128) :
    val_main_v22 (F := Ideal) h E (rowAt (n := 10000) n c) = nodeFold min ⊤ E n (msg h E c) :=
  reduce_ref h E hE min ⊤ (val_main_v21 (F := Ideal) h E) (val_main_cst_4 (F := Ideal)) (fun _ => posInf)
    (fun i => congrArg (Scalar.select (val_main_call1_v1 (F := Ideal) E i) (val_main_call1_v2 (F := Ideal) h E i)) posInf) n c

theorem deg_ref (n : Fin 10000) (i : S10000x1.Idx) (hn : i 0 = n) :
    val_main_v26 (F := Ideal) E i = nodeFold (· + ·) (zeroF : Ideal .f32) E n fun _ => (oneF : Ideal .f32) := by
  rw [val_main_v26_apply, val_main_v25_apply]
  have h0 : (val_main_cst_7 (F := Ideal)) (Shape.Idx.first Gen.h_S_) = (0 : EReal) := Ideal.ofBits_zero_f32
  rw [h0, zero_add]
  unfold nodeFold
  rw [show (zeroF : Ideal .f32) = (0 : EReal) from Ideal.ofBits_zero_f32]
  refine Finset.sum_congr rfl fun e _ => ?_
  rw [val_main_v24_apply, val_main_v23_apply, mask_apply E n e _ hn rfl, WordCmp.select_ofBool]
  unfold pick
  by_cases hd : (E (endAt 1 (laneE e))).toNat = n.val
  · rw [if_pos hd, if_pos (decide_eq_true hd)]; rfl
  · rw [if_neg hd, if_neg (by rw [decide_eq_false hd]; exact Bool.false_ne_true)]
    exact Ideal.ofBits_zero_f32

end Reference

end Cert.Proof.Equal
-- ==== Proof.Layer.Points.lean ====
/- What each grid point of the idealized layer's two calls leaves in its output blocks, as the bodies' own terms over the
   blocks read. -/
module

public import proofs.«01_k».proof.Proof.Ideal.Regions
public import Idealize.ShloMosaic.Lib.Pipeline.ValueKit
public import Idealize.ShloMosaic.Lib.Pointwise
public import Idealize.ShloMosaic.Lib.Tactic

@[expose] public section

set_option maxRecDepth 16384

noncomputable section

namespace Cert.Proof.Later

open Idealize.ShloMosaic Idealize.ShloMosaic.TcCoe Idealize.SL.Sem
open Idealize.ShloMosaic.Pipeline (Dat)
open Cert.KernelIdeal Cert.KernelIdeal.Gen Cert.Proof.Ideal

variable (V : (c : Dev nD) → (b : Ref sig .tc) → Buf (Elt Ideal) ((c : Thread nD τ).loc b))

/-- The dense block of one point, from the blocks it reads. -/
def dense (x0 x1 x2 : Vec Ideal S1000x128 .f32) (x3 x4 : Vec Ideal S1000x1 .f32) (x5 : Vec Ideal S1152x128 .f32)
    (x6 : Vec Ideal S1x128 .f32) : FVec Ideal S1000x128 .f32 :=
  k1_pay1 (k1_pay7 x3 x0 x1 x2) (k1_pay9 x3) (k1_pay10 x3)
    (k1_pay11 x3 x0 x1 x2 (View.ld x5 (Rect.unit (s := S1152x128) ![0, 0] S384x128.size inb_S1152x128_S384x128_0_0)))
    (k1_pay12 x3 x0 x1 x2 (View.ld x5 (Rect.unit (s := S1152x128) ![384, 0] S384x128.size inb_S1152x128_S384x128_384_0)))
    (View.ld x5 (Rect.unit (s := S1152x128) ![768, 0] S384x128.size inb_S1152x128_S384x128_768_0)) x6 x4

/-- The same block's columns, summed into what was there. -/
def addSum (x0 x1 x2 : Vec Ideal S1000x128 .f32) (x3 x4 : Vec Ideal S1000x1 .f32) (x5 : Vec Ideal S1152x128 .f32)
    (x6 acc : Vec Ideal S1x128 .f32) : FVec Ideal S1x128 .f32 :=
  k1_pay4 (k1_pay7 x3 x0 x1 x2) (k1_pay9 x3) (k1_pay10 x3)
    (k1_pay11 x3 x0 x1 x2 (View.ld x5 (Rect.unit (s := S1152x128) ![0, 0] S384x128.size inb_S1152x128_S384x128_0_0)))
    (k1_pay12 x3 x0 x1 x2 (View.ld x5 (Rect.unit (s := S1152x128) ![384, 0] S384x128.size inb_S1152x128_S384x128_384_0)))
    (View.ld x5 (Rect.unit (s := S1152x128) ![768, 0] S384x128.size inb_S1152x128_S384x128_768_0)) x6 x4 acc

/-- The squares of the same block's columns, summed into what was there. -/
def addSq (x0 x1 x2 : Vec Ideal S1000x128 .f32) (x3 x4 : Vec Ideal S1000x1 .f32) (x5 : Vec Ideal S1152x128 .f32)
    (x6 acc : Vec Ideal S1x128 .f32) : FVec Ideal S1x128 .f32 :=
  k1_pay5 (k1_pay7 x3 x0 x1 x2) (k1_pay9 x3) (k1_pay10 x3)
    (k1_pay11 x3 x0 x1 x2 (View.ld x5 (Rect.unit (s := S1152x128) ![0, 0] S384x128.size inb_S1152x128_S384x128_0_0)))
    (k1_pay12 x3 x0 x1 x2 (View.ld x5 (Rect.unit (s := S1152x128) ![384, 0] S384x128.size inb_S1152x128_S384x128_384_0)))
    (View.ld x5 (Rect.unit (s := S1152x128) ![768, 0] S384x128.size inb_S1152x128_S384x128_768_0)) x6 x4 acc

theorem after7 (c : Dev nD) (t : Fin cfg1.N) :
    (dat1 (F := Ideal) V c).after 7 t
      = dense (iblk1 V c 0 t) (iblk1 V c 1 t) (iblk1 V c 2 t) (iblk1 V c 3 t) (iblk1 V c 4 t) (iblk1 V c 5 t) (iblk1 V c 6 t) := by
  rw [after1_7]
  by_cases h : t.val % 10 = 0
  · rw [outsAt1_A V c t h]; unfold pt1_A; frame_out; rfl
  · rw [outsAt1_B V c t h]; unfold pt1_B; frame_out; rfl

theorem sum_A (c : Dev nD) (t : Fin cfg1.N) (h : t.val % 10 = 0) :
    (outsAt1 (F := Ideal) V c t.val t.isLt).2.1
      = addSum (iblk1 V c 0 t) (iblk1 V c 1 t) (iblk1 V c 2 t) (iblk1 V c 3 t) (iblk1 V c 4 t) (iblk1 V c 5 t)
          (iblk1 V c 6 t) (k1_pay2 (F := Ideal)) := by
  rw [outsAt1_A V c t h]; unfold pt1_A; frame_out; rfl

theorem sum_B (c : Dev nD) (t : Fin cfg1.N) (h : ¬ t.val % 10 = 0) :
    (outsAt1 (F := Ideal) V c t.val t.isLt).2.1
      = addSum (iblk1 V c 0 t) (iblk1 V c 1 t) (iblk1 V c 2 t) (iblk1 V c 3 t) (iblk1 V c 4 t) (iblk1 V c 5 t)
          (iblk1 V c 6 t) (outsAt1 (F := Ideal) V c (t.val - 1) (Nat.lt_of_le_of_lt (Nat.sub_le _ _) t.isLt)).2.1 := by
  rw [outsAt1_B V c t h]; unfold pt1_B; frame_out; rfl

theorem sq_A (c : Dev nD) (t : Fin cfg1.N) (h : t.val % 10 = 0) :
    (outsAt1 (F := Ideal) V c t.val t.isLt).2.2
      = addSq (iblk1 V c 0 t) (iblk1 V c 1 t) (iblk1 V c 2 t) (iblk1 V c 3 t) (iblk1 V c 4 t) (iblk1 V c 5 t)
          (iblk1 V c 6 t) (k1_pay3 (F := Ideal)) := by
  rw [outsAt1_A V c t h]; unfold pt1_A; frame_out; rfl

theorem sq_B (c : Dev nD) (t : Fin cfg1.N) (h : ¬ t.val % 10 = 0) :
    (outsAt1 (F := Ideal) V c t.val t.isLt).2.2
      = addSq (iblk1 V c 0 t) (iblk1 V c 1 t) (iblk1 V c 2 t) (iblk1 V c 3 t) (iblk1 V c 4 t) (iblk1 V c 5 t)
          (iblk1 V c 6 t) (outsAt1 (F := Ideal) V c (t.val - 1) (Nat.lt_of_le_of_lt (Nat.sub_le _ _) t.isLt)).2.2 := by
  rw [outsAt1_B V c t h]; unfold pt1_B; frame_out; rfl

theorem after16 (c : Dev nD) (t : Fin cfg2.N) :
    (dat2 (F := Ideal) V c).after 6 t
      = k2_pay1 (iblk2 V c 2 t) (iblk2 V c 3 t) (iblk2 V c 0 t) (iblk2 V c 4 t) (iblk2 V c 5 t) (iblk2 V c 1 t) := by
  rw [after2_6]; frame_out

end Cert.Proof.Later
-- ==== Proof.Layer.Math.lean ====
/-
  The mathematics of the dense row and of the batch norm, apart from any program: the sum over the three scaled copies of
  the aggregates is one sum over all 1152 columns, and the variance as mean of squares less square of the mean is the mean
  of the squared deviations.
-/
module

public import Idealize.ShloMosaic.PureOps.Ideal
public import Idealize.ShloMosaic.Lib.IdealHost
public import Idealize.ShloMosaic.Lib.Pointwise
public import Idealize.ShloMosaic.Lib.Pipeline.ValueKit

@[expose] public section

noncomputable section

namespace Cert.LayerMath

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := EReal.coe_strictMono.monotone.map_max

/-! ## The float constants -/

theorem avg : Ideal.ofBits .f32 0x405FC6A8#32 = ((1833173 / 524288 : ℝ) : EReal) := by
  simp [Ideal.ofBits, Ideal.ieee, -EReal.coe_mul]; norm_num
theorem count : Ideal.ofBits .f32 0x461C4000#32 = ((10000 : ℝ) : EReal) := by
  simp [Ideal.ofBits, Ideal.ieee, -EReal.coe_mul]; norm_num
theorem least : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num
theorem eps : ∃ e : ℝ, 0 < e ∧ Ideal.ofBits .f32 0x3727C5AC#32 = (e : EReal) := by
  refine ⟨2748779 / 274877906944, by norm_num, ?_⟩
  simp [Ideal.ofBits, Ideal.ieee, -EReal.coe_mul]; norm_num

/-! ## One node's row -/

/-- The node's mean, maximum and minimum side by side. -/
def cat (d : EReal) (s a b : Fin 128 → EReal) (k : Fin 384) : EReal :=
  if h : k.val < 128 then Ideal.div (s ⟨k.val, h⟩) (max d 1)
  else if h' : k.val - 128 < 128 then (if 0 < d then a ⟨k.val - 128, h'⟩ else 0)
  else (if 0 < d then b ⟨k.val - 128 - 128, by omega⟩ else 0)

/-- The dense value as the kernel takes it: three sums over 384, the scales outside. -/
def rowK (d sn β : EReal) (c : Fin 384 → EReal) (w : Fin 1152 → EReal) (inv : EReal) : EReal :=
  ((∑ x : Fin 384, c x * w ⟨x.val, by omega⟩)
      + Ideal.log (d + 1) * inv * (∑ x : Fin 384, c x * w ⟨384 + x.val, by omega⟩)
      + Ideal.div (Ideal.ofBits .f32 0x405FC6A8#32) (max (Ideal.log (d + 1)) (Ideal.ofBits .f32 0x358637BD#32))
        * (∑ x : Fin 384, c x * w ⟨768 + x.val, by omega⟩)
      + β) * sn

/-- The three scaled copies side by side. -/
def cat3 (d : EReal) (c : Fin 384 → EReal) (x : Fin 1152) : EReal :=
  if h : x.val < 384 then c ⟨x.val, h⟩
  else if h' : x.val - 384 < 384 then
    c ⟨x.val - 384, h'⟩ * Ideal.div (Ideal.log (d + 1)) (Ideal.ofBits .f32 0x405FC6A8#32)
  else c ⟨x.val - 384 - 384, by omega⟩
    * Ideal.div (Ideal.ofBits .f32 0x405FC6A8#32) (max (Ideal.log (d + 1)) (Ideal.ofBits .f32 0x358637BD#32))

/-- The dense value as one sum over the three scaled copies. -/
def rowR (d sn β : EReal) (c : Fin 384 → EReal) (w : Fin 1152 → EReal) : EReal :=
  ((∑ x : Fin 1152, cat3 d c x * w x) + β) * sn

theorem sum_three {M : Type} [AddCommMonoid M] (f : Fin 1152 → M) :
    ∑ x : Fin 1152, f x = (∑ x : Fin 384, f ⟨x.val, by omega⟩) + (∑ x : Fin 384, f ⟨384 + x.val, by omega⟩)
      + ∑ x : Fin 384, f ⟨768 + x.val, by omega⟩ := by
  rw [← Fin.sum_mul_add_congr (S := 3) (n := 384) (F := fun s k => f ⟨s.val * 384 + k.val, by omega⟩) (f := f) (fun _ _ _ => rfl),
    Fin.sum_univ_three]
  congr 1

/-- A number that is neither infinity. -/
def IsReal (x : EReal) : Prop := ∃ r : ℝ, x = (r : EReal)

theorem cat_real {d : EReal} {s a b : Fin 128 → EReal} (hd : IsReal d) (hs : ∀ k, IsReal (s k))
    (ha : ∀ k, IsReal (if 0 < d then a k else 0)) (hb : ∀ k, IsReal (if 0 < d then b k else 0)) (k : Fin 384) :
    IsReal (cat d s a b k) := by
  unfold cat
  split
  · obtain ⟨d, rfl⟩ := hd
    obtain ⟨r, hr⟩ := hs ⟨k.val, by assumption⟩
    rw [hr, ← EReal.coe_one, ← coe_max, Ideal.div_coe (by positivity)]
    exact ⟨_, rfl⟩
  · split
    · exact ha _
    · exact hb _

theorem row_eq {d sn β : EReal} {c : Fin 384 → EReal} {w : Fin 1152 → EReal} (hd : IsReal d) (h0 : 0 ≤ d) (hn : IsReal sn)
    (hβ : IsReal β) (hc : ∀ k, IsReal (c k)) (hw : ∀ k, IsReal (w k)) :
    IsReal (rowR d sn β c w) ∧ rowK d sn β c w ((524288 / 1833173 : ℝ) : EReal) = rowR d sn β c w := by
  obtain ⟨d, rfl⟩ := hd
  obtain ⟨sn, rfl⟩ := hn
  obtain ⟨β, rfl⟩ := hβ
  choose c' hc' using hc
  choose w' hw' using hw
  obtain rfl : c = fun k => (c' k : EReal) := funext hc'
  obtain rfl : w = fun k => (w' k : EReal) := funext hw'
  obtain ⟨e, he, hE⟩ := least
  have h0' : (0 : ℝ) ≤ d := by exact_mod_cast h0
  have hl : Ideal.log ((d : EReal) + 1) = ((Real.log (d + 1) : ℝ) : EReal) := by
    rw [← EReal.coe_one, ← EReal.coe_add, Ideal.log_coe, if_neg (by linarith)]
  have hm : max (Real.log (d + 1)) e ≠ 0 := ne_of_gt (lt_max_of_lt_right he)
  unfold rowR rowK
  rw [sum_three]
  have e1 (x : Fin 384) : cat3 (d : EReal) (fun k => (c' k : EReal)) ⟨x.val, by omega⟩ = (c' x : EReal) := by
    unfold cat3; rw [dif_pos x.isLt]
  have e2 (x : Fin 384) : cat3 (d : EReal) (fun k => (c' k : EReal)) ⟨384 + x.val, by omega⟩
      = ((c' x * (Real.log (d + 1) * (1 / (1833173 / 524288))) : ℝ) : EReal) := by
    unfold cat3
    rw [dif_neg (by simp), dif_pos (by simp), hl, avg, Ideal.div_coe (by norm_num)]
    have : (⟨384 + x.val - 384, by omega⟩ : Fin 384) = x := Fin.ext (by simp)
    simp only [this, EReal.coe_mul]
  have e3 (x : Fin 384) : cat3 (d : EReal) (fun k => (c' k : EReal)) ⟨768 + x.val, by omega⟩
      = ((c' x * ((1833173 / 524288) * (1 / max (Real.log (d + 1)) e)) : ℝ) : EReal) := by
    unfold cat3
    rw [dif_neg (by simp; omega), dif_neg (by simp; omega), hl, avg, hE, ← coe_max, Ideal.div_coe hm]
    have : (⟨768 + x.val - 384 - 384, by omega⟩ : Fin 384) = x := Fin.ext (by simp; omega)
    simp only [this, EReal.coe_mul]
  simp only [e1, e2, e3, hl, avg, hE, ← coe_max, Ideal.div_coe hm, ← EReal.coe_mul, ← coe_sum, ← EReal.coe_add]
  refine ⟨⟨_, rfl⟩, ?_⟩
  congr 3
  congr 1
  · congr 1
    rw [Finset.mul_sum]
    exact Finset.sum_congr rfl fun x _ => by ring
  · rw [Finset.mul_sum]
    exact Finset.sum_congr rfl fun x _ => by ring

/-! ## The batch norm of one column -/

/-- As the kernel takes it, from the column's sum and its sum of squares. -/
def bnK (o h g be S Q inv : EReal) : EReal :=
  h + max ((o - S * inv) * Ideal.rsqrt (Q * inv - S * inv * (S * inv) + Ideal.ofBits .f32 0x3727C5AC#32) * g + be) 0

/-- As deviations over the root of the variance. -/
def bnR (o h g be : EReal) (O : Fin 10000 → EReal) : EReal :=
  h + max (Ideal.div (o - Ideal.div (∑ x, O x) (Ideal.ofBits .f32 0x461C4000#32))
      (Ideal.sqrt (Ideal.div (∑ x, (O x - Ideal.div (∑ x, O x) (Ideal.ofBits .f32 0x461C4000#32))
          * (O x - Ideal.div (∑ x, O x) (Ideal.ofBits .f32 0x461C4000#32))) (Ideal.ofBits .f32 0x461C4000#32)
        + Ideal.ofBits .f32 0x3727C5AC#32)) * g + be) 0

theorem var_eq {N : ℕ} (hN : (N : ℝ) ≠ 0) (o : Fin N → ℝ) (μ : ℝ) (hμ : μ = (∑ x, o x) * (1 / N)) :
    (∑ x, o x * o x) * (1 / N) - μ * μ = (∑ x, (o x - μ) * (o x - μ)) * (1 / N) := by
  have h : ∑ x, (o x - μ) * (o x - μ) = ∑ x, o x * o x - 2 * μ * ∑ x, o x + N * (μ * μ) := by
    rw [Finset.sum_congr rfl (fun x _ => show (o x - μ) * (o x - μ) = o x * o x - 2 * μ * o x + μ * μ by ring),
      Finset.sum_add_distrib, Finset.sum_sub_distrib, ← Finset.mul_sum]
    simp
  have h' : ∑ x, o x = N * μ := by rw [hμ]; field_simp
  rw [h, h']
  field_simp
  ring

theorem bn_eq {O : Fin 10000 → EReal} (hO : ∀ k, IsReal (O k)) (n : Fin 10000) (h g be : EReal) :
    bnK (O n) h g be (∑ x, O x) (∑ x, O x * O x) ((1 / 10000 : ℝ) : EReal) = bnR (O n) h g be O := by
  choose o ho using hO
  obtain rfl : O = fun k => (o k : EReal) := funext ho
  obtain ⟨e, he, hE⟩ := eps
  obtain ⟨μ, hμ⟩ : ∃ μ : ℝ, μ = (∑ x, o x) * (1 / 10000) := ⟨_, rfl⟩
  have hs : (∑ x, (o x : EReal)) * ((1 / 10000 : ℝ) : EReal) = (μ : EReal) := by
    rw [← coe_sum, ← EReal.coe_mul, hμ]
  have hd : Ideal.div (∑ x, (o x : EReal)) (Ideal.ofBits .f32 0x461C4000#32) = (μ : EReal) := by
    rw [count, Ideal.div_coe (by norm_num), hs]
  have hv : (∑ x, o x * o x) * (1 / 10000) - μ * μ = (∑ x, (o x - μ) * (o x - μ)) * (1 / 10000) := by
    have := var_eq (N := 10000) (by norm_num) o μ (by rw [hμ]; norm_num)
    rw [Nat.cast_ofNat] at this
    exact this
  have hnn : 0 ≤ (∑ x, (o x - μ) * (o x - μ)) * (1 / 10000) :=
    mul_nonneg (Finset.sum_nonneg fun x _ => mul_self_nonneg _) (by norm_num)
  have hp : 0 < (∑ x, (o x - μ) * (o x - μ)) * (1 / 10000) + e := by linarith
  unfold bnK bnR
  simp only [hd, hs]
  rw [count, Ideal.div_coe (by norm_num), hE]
  simp only [← EReal.coe_sub, ← EReal.coe_mul, ← coe_sum, ← EReal.coe_add]
  rw [hv, Ideal.rsqrt_coe, if_neg (not_lt.mpr hp.le), if_neg hp.ne', Ideal.sqrt_coe, if_neg (not_lt.mpr hp.le),
    Ideal.div_coe (Real.sqrt_ne_zero'.mpr hp), one_div (Real.sqrt _)]

end Cert.LayerMath
-- ==== Proof.Layer.Reads.lean ====
/- The bodies' terms of the idealized layer's two calls, read at an element. -/
module

public import proofs.«01_k».proof.Proof.Layer.Points
public import proofs.«01_k».proof.Proof.Layer.Math

@[expose] public section

set_option maxRecDepth 16384

noncomputable section

namespace Cert.Proof.Later

open Idealize.ShloMosaic Idealize.ShloMosaic.TcCoe Idealize.SL.Sem
open Cert.LayerMath Cert.KernelIdeal Cert.KernelIdeal.Gen Cert.Proof.Ideal

theorem cat_apply (x3 : Vec Ideal S1000x1 .f32) (x0 x1 x2 : Vec Ideal S1000x128 .f32) (p : Fin 1000) (k : Fin 384) :
    k1_pay7 x3 x0 x1 x2 (ix2 p k)
      = cat (x3 (ix2 p 0)) (fun k => x0 (ix2 p k)) (fun k => x1 (ix2 p k)) (fun k => x2 (ix2 p k)) k := by
  pointwise [k1_pay7, k1_pay6]
  rfl

theorem dense_apply (x0 x1 x2 : Vec Ideal S1000x128 .f32) (x3 x4 : Vec Ideal S1000x1 .f32) (x5 : Vec Ideal S1152x128 .f32)
    (x6 : Vec Ideal S1x128 .f32) (p : Fin 1000) (j : Fin 128) :
    dense x0 x1 x2 x3 x4 x5 x6 (ix2 p j)
      = rowK (x3 (ix2 p 0)) (x4 (ix2 p 0)) (x6 (ix2 0 j)) (fun k => k1_pay7 x3 x0 x1 x2 (ix2 p k)) (fun k => x5 (ix2 k j))
          (Named.named (F := Ideal) κ "inv_avg" (φ := .f32) 0x3E926EA1#32) := by
  unfold dense
  pointwise [k1_pay1, k1_pay6, k1_pay8, k1_pay9, k1_pay10, k1_pay11, k1_pay12]
  rfl

theorem sum_apply (x0 x1 x2 : Vec Ideal S1000x128 .f32) (x3 x4 : Vec Ideal S1000x1 .f32) (x5 : Vec Ideal S1152x128 .f32)
    (x6 acc : Vec Ideal S1x128 .f32) (j : S1x128.Idx) :
    addSum x0 x1 x2 x3 x4 x5 x6 acc j = acc j + ∑ p : Fin 1000, dense x0 x1 x2 x3 x4 x5 x6 (ix2 p (j 1)) := by
  unfold addSum
  pointwise [k1_pay4]
  rfl

theorem sq_apply (x0 x1 x2 : Vec Ideal S1000x128 .f32) (x3 x4 : Vec Ideal S1000x1 .f32) (x5 : Vec Ideal S1152x128 .f32)
    (x6 acc : Vec Ideal S1x128 .f32) (j : S1x128.Idx) :
    addSq x0 x1 x2 x3 x4 x5 x6 acc j
      = acc j + ∑ p : Fin 1000, dense x0 x1 x2 x3 x4 x5 x6 (ix2 p (j 1)) * dense x0 x1 x2 x3 x4 x5 x6 (ix2 p (j 1)) := by
  unfold addSq
  pointwise [k1_pay5]
  rfl

theorem bn_apply (x2 x3 : Vec Ideal S1x128 .f32) (x0 : Vec Ideal S1000x128 .f32) (x4 x5 : Vec Ideal S1x128 .f32)
    (x1 : Vec Ideal S1000x128 .f32) (p : Fin 1000) (j : Fin 128) :
    k2_pay1 x2 x3 x0 x4 x5 x1 (ix2 p j)
      = bnK (x0 (ix2 p j)) (x1 (ix2 p j)) (x4 (ix2 0 j)) (x5 (ix2 0 j)) (x2 (ix2 0 j)) (x3 (ix2 0 j))
          (Named.named (F := Ideal) κ "inv_n" (φ := .f32) 0x38D1B717#32) := by
  pointwise [k2_pay1]
  rfl

end Cert.Proof.Later
-- ==== Proof.Layer.Arrays.lean ====
/- What the idealized layer's two calls leave in their output arrays, element by element over the arguments. -/
module

public import proofs.«01_k».proof.Proof.Layer.Reads
public import proofs.«01_k».proof.Proof.Ideal.Run

@[expose] public section

set_option maxRecDepth 16384

noncomputable section

namespace Cert.Proof.Later

open Idealize.ShloMosaic Idealize.ShloMosaic.TcCoe Idealize.SL.Sem
open Idealize.ShloMosaic.Pipeline (Dat)
open Cert.LayerMath Cert.KernelIdeal Cert.KernelIdeal.Gen Cert.Proof.Ideal

variable (m : (ℓ : Loc nD τ sig) → Buf (Elt Ideal) ℓ) (c : Dev nD)

/-! ## What the regions find -/

theorem V1_v0 (j : Fin 128) : V1 (VR m) c main_v11 (ix2 0 j) = m ((c : Thread nD τ).loc main_arg5) (ix1 j) := by
  show VR m c (Proc.devRef .tc main_v11) (ix2 0 j) = _
  unfold VR opsB
  after_results
  rw [VB_args m c main_arg5 (by decide)]
  pointwise
theorem V3_v2 (j : Fin 128) : V3 (VR m) c main_v13 (ix2 0 j) = m ((c : Thread nD τ).loc main_arg6) (ix1 j) := by
  show W3 (VR m) c (Proc.devRef .tc main_v13) (ix2 0 j) = _
  unfold W3 opsC
  after_results
  rw [W2_args m c main_arg6 (by decide)]
  pointwise
theorem V3_v3 (j : Fin 128) : V3 (VR m) c main_v14 (ix2 0 j) = m ((c : Thread nD τ).loc main_arg7) (ix1 j) := by
  show W3 (VR m) c (Proc.devRef .tc main_v14) (ix2 0 j) = _
  unfold W3 opsC
  after_results
  rw [W2_args m c main_arg7 (by decide)]
  pointwise

theorem idxA : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0]
    ∧ win1_7.index t = ![t.val, 0] := (by decide +kernel : ∀ t : Fin grid1.N, _)

theorem idxB : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![0, 0]
    ∧ win2_6.index t = ![t.val, 0] := (by decide +kernel : ∀ t : Fin grid2.N, _)

/-- Row `p` of point `t`'s block. -/
def row (t : Fin 10) (p : Fin 1000) : Fin 10000 := ⟨t.val * 1000 + p.val, by omega⟩

theorem blk1_0 (t : Fin cfg1.N) (p : Fin 1000) (k : Fin 128) :
    iblk1 (V1 (VR m)) c 0 t (ix2 p k) = VR m c (Proc.devRef .tc main_v5) (ix2 (row (t.cast N_1) p) k) := by
  have e := (idxA t).1
  have hV : V1 (VR m) c main_v5 = VR m c (Proc.devRef .tc main_v5) := rfl
  blk_simp [iblk1]
  rw [hV]
  blk_ext! [e, row, Fin.val_cast]
theorem blk1_1 (t : Fin cfg1.N) (p : Fin 1000) (k : Fin 128) :
    iblk1 (V1 (VR m)) c 1 t (ix2 p k) = VR m c (Proc.devRef .tc main_v6) (ix2 (row (t.cast N_1) p) k) := by
  have e := (idxA t).2.1
  have hV : V1 (VR m) c main_v6 = VR m c (Proc.devRef .tc main_v6) := rfl
  blk_simp [iblk1]
  rw [hV]
  blk_ext! [e, row, Fin.val_cast]
theorem blk1_2 (t : Fin cfg1.N) (p : Fin 1000) (k : Fin 128) :
    iblk1 (V1 (VR m)) c 2 t (ix2 p k) = VR m c (Proc.devRef .tc main_v7) (ix2 (row (t.cast N_1) p) k) := by
  have e := (idxA t).2.2.1
  have hV : V1 (VR m) c main_v7 = VR m c (Proc.devRef .tc main_v7) := rfl
  blk_simp [iblk1]
  rw [hV]
  blk_ext! [e, row, Fin.val_cast]
theorem blk1_3 (t : Fin cfg1.N) (p : Fin 1000) :
    iblk1 (V1 (VR m)) c 3 t (ix2 p 0) = VR m c (Proc.devRef .tc main_v10) (ix2 (row (t.cast N_1) p) 0) := by
  have e := (idxA t).2.2.2.1
  have hV : V1 (VR m) c main_v10 = VR m c (Proc.devRef .tc main_v10) := rfl
  blk_simp [iblk1]
  rw [hV]
  blk_ext! [e, row, Fin.val_cast]
theorem blk1_4 (t : Fin cfg1.N) (p : Fin 1000) :
    iblk1 (V1 (VR m)) c 4 t (ix2 p 0) = m ((c : Thread nD τ).loc main_arg3) (ix2 (row (t.cast N_1) p) 0) := by
  have e := (idxA t).2.2.2.2.1
  have hV : V1 (VR m) c main_arg3 = m ((c : Thread nD τ).loc main_arg3) := VR_args m c main_arg3 (by decide)
  blk_simp [iblk1]
  rw [hV]
  blk_ext! [e, row, Fin.val_cast]
theorem blk1_5 (t : Fin cfg1.N) (x : Fin 1152) (k : Fin 128) :
    iblk1 (V1 (VR m)) c 5 t (ix2 x k) = m ((c : Thread nD τ).loc main_arg4) (ix2 x k) := by
  have e := (idxA t).2.2.2.2.2.1
  have hV : V1 (VR m) c main_arg4 = m ((c : Thread nD τ).loc main_arg4) := VR_args m c main_arg4 (by decide)
  blk_simp [iblk1]
  rw [hV]
  blk_ext! [e, row, Fin.val_cast]
theorem blk1_6 (t : Fin cfg1.N) (k : Fin 128) :
    iblk1 (V1 (VR m)) c 6 t (ix2 0 k) = m ((c : Thread nD τ).loc main_arg5) (ix1 k) := by
  have e := (idxA t).2.2.2.2.2.2.1
  rw [← V1_v0 m c k]
  blk_ext! [iblk1, e]

/-! ## The dense call's arrays -/

/-- A node's mean, maximum and minimum side by side, from the arguments. -/
def catAt (n : Fin 10000) : Fin 384 → EReal :=
  cat (VR m c (Proc.devRef .tc main_v10) (ix2 n 0)) (fun k => VR m c (Proc.devRef .tc main_v5) (ix2 n k))
    (fun k => VR m c (Proc.devRef .tc main_v6) (ix2 n k)) (fun k => VR m c (Proc.devRef .tc main_v7) (ix2 n k))

/-- The dense value of a node and a column, from the arguments. -/
def denseAt (n : Fin 10000) (j : Fin 128) : EReal :=
  rowK (VR m c (Proc.devRef .tc main_v10) (ix2 n 0)) (m ((c : Thread nD τ).loc main_arg3) (ix2 n 0))
    (m ((c : Thread nD τ).loc main_arg5) (ix1 j)) (catAt m c n) (fun k => m ((c : Thread nD τ).loc main_arg4) (ix2 k j))
    (Named.named (F := Ideal) κ "inv_avg" (φ := .f32) 0x3E926EA1#32)

theorem point (t : Fin cfg1.N) (p : Fin 1000) (j : Fin 128) :
    dense (iblk1 (V1 (VR m)) c 0 t) (iblk1 (V1 (VR m)) c 1 t) (iblk1 (V1 (VR m)) c 2 t) (iblk1 (V1 (VR m)) c 3 t) (iblk1 (V1 (VR m)) c 4 t)
        (iblk1 (V1 (VR m)) c 5 t) (iblk1 (V1 (VR m)) c 6 t) (ix2 p j)
      = denseAt m c (row (t.cast N_1) p) j := by
  have hc : (fun k => k1_pay7 (iblk1 (V1 (VR m)) c 3 t) (iblk1 (V1 (VR m)) c 0 t) (iblk1 (V1 (VR m)) c 1 t) (iblk1 (V1 (VR m)) c 2 t) (ix2 p k))
      = catAt m c (row (t.cast N_1) p) := funext fun k => by
    rw [cat_apply, blk1_3]
    simp only [blk1_0, blk1_1, blk1_2]
    unfold catAt
    exact rfl
  have hw : (fun k => iblk1 (V1 (VR m)) c 5 t (ix2 k j)) = fun k => m ((c : Thread nD τ).loc main_arg4) (ix2 k j) := funext fun k => blk1_5 m c t k j
  rw [dense_apply, hc, hw, blk1_3, blk1_4, blk1_6]
  unfold denseAt
  exact rfl

theorem dense_arr : (dat1 (V1 (VR m)) c).arrAt 7 cfg1.N = fun y => denseAt m c (y 0) (y 1) := by
  refine (dat1 (V1 (VR m)) c).arrAt_eq_of_covers 7 _ (by decide +kernel) fun t hf y => ?_
  have e := (idxA t).2.2.2.2.2.2.2
  blk_simp
  rw [after7]
  idx_vars y
  refine (point m c t y0 y1).trans (congrArg₂ (denseAt m c) (Fin.ext ?_) (Fin.ext ?_))
  · blk_simp [e, row, Fin.val_cast]
  · blk_simp [e, row, Fin.val_cast]

theorem rows_sum (f : Fin 10000 → EReal) : ∑ t : Fin cfg1.N, ∑ p : Fin 1000, f (row (t.cast N_1) p) = ∑ n, f n := by
  rw [← Fin.sum_mul_add_congr (S := 10) (n := 1000) (F := fun s k => f (row s k)) (f := f) (fun _ _ _ => rfl)]
  exact Fintype.sum_equiv (finCongr N_1) _ _ fun t => rfl

theorem sum_arr : (dat1 (V1 (VR m)) c).arrAt 8 cfg1.N = fun y => ∑ n, denseAt m c n (y 1) := by
  refine (dat1 (V1 (VR m)) c).arrAt_eq_of_after_last 8 t1_9 (by decide +kernel) _ fun j => ?_
  blk_simp
  rw [after1_8]
  rw [Pipeline.eq_sum_fin_of_reset_step_apply_last (fun n h => (outsAt1 (F := Ideal) (V1 (VR m)) c n h).2.1) 10 (fun _ => (0 : EReal))
    (fun t j => ∑ p : Fin 1000, denseAt m c (row (t.cast N_1) p) (j 1))
    (fun t h i => by
      rw [sum_A _ c t h, sum_apply]
      exact congrArg₂ (· + ·) Ideal.ofBits_zero_f32 (Finset.sum_congr rfl fun p _ => point m c t p (i 1)))
    (fun t h i => by
      rw [sum_B _ c t h, sum_apply]
      exact congrArg₂ (· + ·) rfl (Finset.sum_congr rfl fun p _ => point m c t p (i 1))) (le_of_eq N_1) t1_9 rfl j]
  rw [zero_add]
  exact rows_sum fun n => denseAt m c n (j 1)

theorem sq_arr : (dat1 (V1 (VR m)) c).arrAt 9 cfg1.N = fun y => ∑ n, denseAt m c n (y 1) * denseAt m c n (y 1) := by
  refine (dat1 (V1 (VR m)) c).arrAt_eq_of_after_last 9 t1_9 (by decide +kernel) _ fun j => ?_
  blk_simp
  rw [after1_9]
  rw [Pipeline.eq_sum_fin_of_reset_step_apply_last (fun n h => (outsAt1 (F := Ideal) (V1 (VR m)) c n h).2.2) 10 (fun _ => (0 : EReal))
    (fun t j => ∑ p : Fin 1000, denseAt m c (row (t.cast N_1) p) (j 1) * denseAt m c (row (t.cast N_1) p) (j 1))
    (fun t h i => by
      rw [sq_A _ c t h, sq_apply]
      exact congrArg₂ (· + ·) Ideal.ofBits_zero_f32 (Finset.sum_congr rfl fun p _ =>
        congrArg₂ (· * ·) (point m c t p (i 1)) (point m c t p (i 1))))
    (fun t h i => by
      rw [sq_B _ c t h, sq_apply]
      exact congrArg₂ (· + ·) rfl (Finset.sum_congr rfl fun p _ =>
        congrArg₂ (· * ·) (point m c t p (i 1)) (point m c t p (i 1)))) (le_of_eq N_1) t1_9 rfl j]
  rw [zero_add]
  exact rows_sum fun n => denseAt m c n (j 1) * denseAt m c n (j 1)

/-! ## The batch norm's array -/

theorem V3_dense : V3 (VR m) c main_v12_0 = fun y => denseAt m c (y 0) (y 1) :=
  (W3_of (VR m) c main_v12_0 (by decide)).trans ((W2_arr (VR m) c 7).trans (dense_arr m c))
theorem V3_sum : V3 (VR m) c main_v12_1 = fun y => ∑ n, denseAt m c n (y 1) :=
  (W3_of (VR m) c main_v12_1 (by decide)).trans ((W2_arr (VR m) c 8).trans (sum_arr m c))
theorem V3_sq : V3 (VR m) c main_v12_2 = fun y => ∑ n, denseAt m c n (y 1) * denseAt m c n (y 1) :=
  (W3_of (VR m) c main_v12_2 (by decide)).trans ((W2_arr (VR m) c 9).trans (sq_arr m c))

theorem blk2_0 (t : Fin cfg2.N) (p : Fin 1000) (j : Fin 128) :
    iblk2 (V3 (VR m)) c 0 t (ix2 p j) = denseAt m c (row (t.cast N_2) p) j := by
  have e := (idxB t).1
  blk_simp [iblk2]
  rw [V3_dense]
  refine congrArg₂ (denseAt m c) (Fin.ext ?_) (Fin.ext ?_)
  · blk_simp [e, row, Fin.val_cast]
  · blk_simp [e, row, Fin.val_cast]

theorem blk2_1 (t : Fin cfg2.N) (p : Fin 1000) (j : Fin 128) :
    iblk2 (V3 (VR m)) c 1 t (ix2 p j) = m ((c : Thread nD τ).loc main_arg0) (ix2 (row (t.cast N_2) p) j) := by
  have e := (idxB t).2.1
  have hV : V3 (VR m) c main_arg0 = m ((c : Thread nD τ).loc main_arg0) := W3_args m c main_arg0 (by decide)
  blk_simp [iblk2]
  rw [hV]
  blk_ext! [e, row, Fin.val_cast]

/-- A column's sum. -/
def sumAt (j : Fin 128) : EReal := ∑ n, denseAt m c n j
/-- A column's sum of squares. -/
def sqAt (j : Fin 128) : EReal := ∑ n, denseAt m c n j * denseAt m c n j

theorem blk2_2 (t : Fin cfg2.N) (j : Fin 128) : iblk2 (V3 (VR m)) c 2 t (ix2 0 j) = sumAt m c j := by
  have e := (idxB t).2.2.1
  blk_simp [iblk2]
  rw [V3_sum]
  refine congrArg (sumAt m c) (Fin.ext ?_)
  blk_simp [e]

theorem blk2_3 (t : Fin cfg2.N) (j : Fin 128) : iblk2 (V3 (VR m)) c 3 t (ix2 0 j) = sqAt m c j := by
  have e := (idxB t).2.2.2.1
  blk_simp [iblk2]
  rw [V3_sq]
  refine congrArg (sqAt m c) (Fin.ext ?_)
  blk_simp [e]

theorem blk2_4 (t : Fin cfg2.N) (j : Fin 128) :
    iblk2 (V3 (VR m)) c 4 t (ix2 0 j) = m ((c : Thread nD τ).loc main_arg6) (ix1 j) := by
  have e := (idxB t).2.2.2.2.1
  rw [← V3_v2 m c j]
  blk_ext! [iblk2, e]

theorem blk2_5 (t : Fin cfg2.N) (j : Fin 128) :
    iblk2 (V3 (VR m)) c 5 t (ix2 0 j) = m ((c : Thread nD τ).loc main_arg7) (ix1 j) := by
  have e := (idxB t).2.2.2.2.2.1
  rw [← V3_v3 m c j]
  blk_ext! [iblk2, e]

/-- The result of a node and a column, from the arguments. -/
def resAt (n : Fin 10000) (j : Fin 128) : EReal :=
  bnK (denseAt m c n j) (m ((c : Thread nD τ).loc main_arg0) (ix2 n j)) (m ((c : Thread nD τ).loc main_arg6) (ix1 j))
    (m ((c : Thread nD τ).loc main_arg7) (ix1 j)) (sumAt m c j) (sqAt m c j)
    (Named.named (F := Ideal) κ "inv_n" (φ := .f32) 0x38D1B717#32)

theorem point1 (t : Fin cfg2.N) (p : Fin 1000) (j : Fin 128) :
    k2_pay1 (iblk2 (V3 (VR m)) c 2 t) (iblk2 (V3 (VR m)) c 3 t) (iblk2 (V3 (VR m)) c 0 t) (iblk2 (V3 (VR m)) c 4 t) (iblk2 (V3 (VR m)) c 5 t)
        (iblk2 (V3 (VR m)) c 1 t) (ix2 p j)
      = resAt m c (row (t.cast N_2) p) j := by
  rw [bn_apply]
  unfold resAt
  rw [blk2_0, blk2_1, blk2_2, blk2_3, blk2_4, blk2_5]

theorem result_eq : VE m c (Proc.devRef .tc main_v15) = fun y => resAt m c (y 0) (y 1) := by
  refine (W4_arr (VR m) c 6).trans ((dat2 (V3 (VR m)) c).arrAt_eq_of_covers 6 _ (by decide +kernel) fun t hf y => ?_)
  have e := (idxB t).2.2.2.2.2.2
  blk_simp
  rw [after16]
  idx_vars y
  refine (point1 m c t y0 y1).trans (congrArg₂ (resAt m c) (Fin.ext ?_) (Fin.ext ?_))
  · blk_simp [e, row, Fin.val_cast]
  · blk_simp [e, row, Fin.val_cast]

end Cert.Proof.Later
-- ==== Proof.Layer.RefRead.lean ====
/- The reference of the layer, read at an element. -/
module

public import proofs.«01_k».proof.Proof.Gen.ReferenceIdeal.Read
public import proofs.«01_k».proof.Proof.Layer.Math

@[expose] public section

set_option maxRecDepth 16384

noncomputable section

namespace Cert.ReferenceIdeal.Later

open Idealize.ShloMosaic Idealize.ShloMosaic.TcCoe Idealize.SL.Sem
open Cert.LayerMath Cert.ReferenceIdeal Cert.ReferenceIdeal.Read Cert.ReferenceIdeal.Gen

variable (x0 : (⟨S10000x128, .f32⟩ : BufTy).Contents (Elt Ideal)) (x1 : (⟨S2x320000, .i32⟩ : BufTy).Contents (Elt Ideal))
  (x3 : (⟨S10000x1, .f32⟩ : BufTy).Contents (Elt Ideal)) (x4 : (⟨S1152x128, .f32⟩ : BufTy).Contents (Elt Ideal))
  (x5 x6 x7 : (⟨S128, .f32⟩ : BufTy).Contents (Elt Ideal))

theorem cat_apply (n : Fin 10000) (k : Fin 384) :
    val_main_v37 (F := Ideal) x0 x1 (ix2 n k)
      = cat (val_main_v26 (F := Ideal) x1 (ix2 n 0)) (fun k => val_main_v14 (F := Ideal) x0 x1 (ix2 n k))
          (fun k => val_main_v18 (F := Ideal) x0 x1 (ix2 n k)) (fun k => val_main_v22 (F := Ideal) x0 x1 (ix2 n k)) k := by
  pointwise [val_main_v37, val_main_v36, val_main_v33, val_main_v30, val_main_v29, val_main_v28, val_main_v27, val_main_cst_8,
    val_main_call6_v0, val_main_call6_v1, val_main_call6_v2, val_main_call5_v0, val_main_call5_v1, val_main_call5_v2,
    val_main_v35, val_main_v34, val_main_v32, val_main_v31, val_main_cst_9, val_main_cst_10, val_main_cst_11, val_main_cst_12]
  unfold cat
  have z : (FloatOps.ofBits .f32 0#32 : Ideal .f32) = (0 : EReal) := Ideal.ofBits_zero_f32
  simp only [id, constant, z]

theorem dense_apply (n : Fin 10000) (j : Fin 128) :
    val_main_v57 (F := Ideal) x0 x1 x3 x4 x5 (ix2 n j)
      = rowR (val_main_v26 (F := Ideal) x1 (ix2 n 0)) (x3 (ix2 n 0)) (x5 (ix1 j)) (fun k => val_main_v37 (F := Ideal) x0 x1 (ix2 n k)) (fun k => x4 (ix2 k j)) := by
  pointwise [val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_cst_13, val_main_cst_14, val_main_cst_15, val_main_cst_16]
  rfl

theorem result_apply (n : Fin 10000) (j : Fin 128) :
    val_main_v85 (F := Ideal) x0 x1 x3 x4 x5 x6 x7 (ix2 n j)
      = bnR (val_main_v57 (F := Ideal) x0 x1 x3 x4 x5 (ix2 n j)) (x0 (ix2 n j)) (x6 (ix1 j)) (x7 (ix1 j))
          fun x => val_main_v57 (F := Ideal) x0 x1 x3 x4 x5 (ix2 x j) := by
  pointwise [val_main_v85, val_main_v84, val_main_v83, val_main_v82, val_main_v81, val_main_v80, val_main_v79, val_main_v78,
    val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60,
    val_main_v59, val_main_v58, val_main_cst_17, val_main_cst_18, val_main_cst_19, val_main_cst_20, val_main_cst_21, val_main_cst_22]
  rfl

end Cert.ReferenceIdeal.Later
-- ==== Proof.Layer.Pre.lean ====
/- What the two preconditions say of the arguments: the edges name nodes, and what the statistics are taken of is real. -/
module

public import proofs.«01_k».proof.Pre_arguments_ok
public import proofs.«01_k».proof.Pre_indices_in_range
public import proofs.«01_k».proof.Proof.Gen.Pre_indices_in_range
public import proofs.«01_k».proof.Proof.Gen.Pre_arguments_ok
public import proofs.«01_k».proof.Proof.Layer.Math
public import Idealize.ShloMosaic.Lib.ReduceAll

@[expose] public section

set_option maxRecDepth 16384

noncomputable section

namespace Cert.LayerMath

open Idealize.ShloMosaic Cert.Pre_arguments_ok

instance : Subsingleton S_.Idx := ⟨fun a b => funext fun i => i.elim0⟩

theorem real_of_lt (x : EReal) (h : max x (-x) < ⊤) : IsReal x := by
  induction x using EReal.rec with
  | bot => simp at h
  | coe r => exact ⟨r, rfl⟩
  | top => simp at h

theorem of_cmp {p : Prop} [Decidable p] (h : BitVec.ofBool (decide p) = 1#1) : p := by
  by_contra hp
  rw [decide_eq_false hp] at h
  exact absurd h (by decide)

theorem finite_at {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsReal (x i) := by
  have ht : (FloatOps.ofBits .f32 0x7F800000#32 : Ideal .f32) = (⊤ : EReal) := by
    show Ideal.ofBits .f32 0x7F800000#32 = ⊤
    simp [Ideal.ofBits, Ideal.ieee]
  refine real_of_lt (x i) ?_
  have h' : FloatOps.cmpf (F := Ideal) .olt (FloatOps.absf (x i)) (FloatOps.ofBits .f32 0x7F800000#32) = 1#1 := h
  rw [ht] at h'
  exact of_cmp (p := max (x i) (-x i) < ⊤) h'

theorem word_lt (w : BitVec 32) (h : IntOp.andi (IntOp.cmpi .sge w 0#32) (IntOp.cmpi .slt w 10000#32) = 1#1) : w.toNat < 10000 := by
  have hh : ∀ a b : BitVec 1, IntOp.andi a b = 1#1 → a = 1#1 ∧ b = 1#1 := by decide
  obtain ⟨h0, h1⟩ := hh _ _ h
  have e0 : (0#32 : BitVec 32).sle w = true := by
    rcases hb : (0#32 : BitVec 32).sle w with _ | _
    · exact absurd h0 (by unfold IntOp.cmpi; show BitVec.ofBool ((0#32 : BitVec 32).sle w) ≠ 1#1; rw [hb]; decide)
    · rfl
  have e1 : w.slt 10000#32 = true := by
    rcases hb : w.slt 10000#32 with _ | _
    · exact absurd h1 (by unfold IntOp.cmpi; show BitVec.ofBool (w.slt 10000#32) ≠ 1#1; rw [hb]; decide)
    · rfl
  rw [BitVec.sle_eq_decide, decide_eq_true_eq] at e0
  rw [BitVec.slt_eq_decide, decide_eq_true_eq] at e1
  have z : (0#32 : BitVec 32).toInt = 0 := by decide
  have t : (10000#32 : BitVec 32).toInt = 10000 := by decide
  rw [z] at e0
  rw [t] at e1
  have := BitVec.toInt_eq_toNat_cond w
  split at this <;> omega

theorem in_range {F : FTy → Type} [FloatOps F] [Facts] (x0 : FVec F S10000x128 .f32) (x1 : IVec S2x320000 32) (x2 : FVec F S320000x4 .f32)
    (x3 : FVec F S10000x1 .f32) (x4 : FVec F S1152x128 .f32) (x5 x6 x7 : FVec F S128 .f32)
    (h : fn (F := F) x0 x1 x2 x3 x4 x5 x6 x7 = fun _ => 1#1) (j : S2x320000.Idx) : (x1 j).toNat < 10000 := by
  have e := congrFun h ix0
  unfold fn fn_part1 at e
  simp only [andi_apply, IntOp.andi_eq_one] at e
  exact word_lt _ (Host.reduce_andi_all _ _ _ _ _ e.1.1.1.1 j)

theorem edges_in_range {F : FTy → Type} [FloatOps F] (x0 : FVec F S10000x128 .f32) (x1 : IVec S2x320000 32) (x2 : FVec F S320000x4 .f32)
    (x3 : FVec F S10000x1 .f32) (x4 : FVec F S1152x128 .f32) (x5 x6 x7 : FVec F S128 .f32)
    (h : Cert.Pre_indices_in_range.fn (F := F) x0 x1 x2 x3 x4 x5 x6 x7 = fun _ => 1#1) (j : S2x320000.Idx) : (x1 j).toNat < 10000 :=
  word_lt _ (congrFun h j)

/-- The entries that the statistics are taken of are real. -/
structure Real (x0 : FVec Ideal S10000x128 .f32) (x3 : FVec Ideal S10000x1 .f32) (x4 : FVec Ideal S1152x128 .f32) (x5 : FVec Ideal S128 .f32) : Prop where
  h : ∀ (n : Fin 10000) (k : Fin 128), IsReal (x0 (ix2 n k))
  snorm : ∀ n : Fin 10000, IsReal (x3 (ix2 n 0))
  w : ∀ (k : Fin 1152) (j : Fin 128), IsReal (x4 (ix2 k j))
  b : ∀ j : Fin 128, IsReal (x5 (ix1 j))

theorem real [Facts] (x0 : FVec Ideal S10000x128 .f32) (x1 : IVec S2x320000 32) (x2 : FVec Ideal S320000x4 .f32)
    (x3 : FVec Ideal S10000x1 .f32) (x4 : FVec Ideal S1152x128 .f32) (x5 x6 x7 : FVec Ideal S128 .f32)
    (h : fn (F := Ideal) x0 x1 x2 x3 x4 x5 x6 x7 = fun _ => 1#1) : Real x0 x3 x4 x5 := by
  have e := congrFun h ix0
  unfold fn fn_part1 at e
  simp only [andi_apply, IntOp.andi_eq_one] at e
  obtain ⟨⟨⟨⟨-, e0⟩, e3⟩, e4⟩, e5⟩ := e
  exact ⟨fun n k => finite_at _ _ _ (Host.reduce_andi_all _ _ _ _ _ e0 _), fun n => finite_at _ _ _ (Host.reduce_andi_all _ _ _ _ _ e3 _),
    fun k j => finite_at _ _ _ (Host.reduce_andi_all _ _ _ _ _ e4 _), fun j => finite_at _ _ _ (Host.reduce_andi_all _ _ _ _ _ e5 _)⟩

end Cert.LayerMath
-- ==== Proof.Layer.Value.lean ====
/- The whole program's result element by element, against the reference's: the aggregates node by node, then the two later calls on them. -/
module

public import proofs.«01_k».proof.Proof.Ideal.Equal
public import proofs.«01_k».proof.Proof.Layer.Arrays
public import proofs.«01_k».proof.Proof.Layer.RefRead
public import proofs.«01_k».proof.Proof.Layer.Pre

@[expose] public section

set_option maxRecDepth 16384

noncomputable section

namespace Cert.Proof.Later

open Idealize.ShloMosaic Idealize.ShloMosaic.TcCoe Idealize.SL.Sem
open Cert.LayerMath Cert.Proof.Agg Cert.Proof.Ideal Cert.Proof.Equal Cert.ReferenceIdeal.Read

/-! ## The aggregates are real -/

section Aggregates

variable (E : Vec Ideal Cert.KernelIdeal.S2x320000 .i32) (n : Fin 10000)

theorem zeroF_eq : (zeroF : Ideal .f32) = (0 : EReal) := Ideal.ofBits_zero_f32
theorem oneF_eq : (oneF : Ideal .f32) = (1 : EReal) := Ideal.ofBits_one_f32

theorem fold_sum (x : Fin 320000 → EReal) : nodeFold (· + ·) (zeroF : Ideal .f32) E n x = ∑ e, pick E n 0 x e := by
  rw [zeroF_eq]
  rfl

theorem sum_real (x : Fin 320000 → EReal) (hx : ∀ e, IsReal (x e)) : IsReal (nodeFold (· + ·) (zeroF : Ideal .f32) E n x) := by
  rw [fold_sum]
  have hp : ∀ e, IsReal (pick E n 0 x e) := fun e => by
    unfold pick
    split
    · exact hx e
    · exact ⟨0, rfl⟩
  choose f hf using hp
  exact ⟨∑ e, f e, by rw [coe_sum]; exact Finset.sum_congr rfl fun e _ => hf e⟩

theorem deg_real : IsReal (nodeFold (· + ·) (zeroF : Ideal .f32) E n fun _ => (oneF : Ideal .f32)) :=
  sum_real E n _ fun _ => ⟨1, oneF_eq⟩

theorem deg_nonneg : (0 : EReal) ≤ nodeFold (· + ·) (zeroF : Ideal .f32) E n fun _ => (oneF : Ideal .f32) := by
  rw [fold_sum]
  refine Finset.sum_nonneg fun e _ => ?_
  unfold pick
  split
  · rw [oneF_eq]; exact zero_le_one
  · exact le_refl _

/-- A node some edge ends at: its largest and its smallest message are real. -/
theorem ends_real (x : Fin 320000 → EReal) (hx : ∀ e, IsReal (x e))
    (hd : (0 : EReal) < nodeFold (· + ·) (zeroF : Ideal .f32) E n fun _ => (oneF : Ideal .f32)) :
    IsReal (nodeFold max ⊥ E n x) ∧ IsReal (nodeFold min ⊤ E n x) := by
  obtain ⟨e, he⟩ : ∃ e : Fin 320000, (E (endAt 1 (laneE e))).toNat = n.val := by
    by_contra hne
    rw [fold_sum, Finset.sum_eq_zero fun e _ => by unfold pick; exact if_neg fun h => hne ⟨e, h⟩] at hd
    exact lt_irrefl _ hd
  have hlt : ∀ e, x e < ⊤ := fun e => by obtain ⟨r, hr⟩ := hx e; rw [hr]; exact EReal.coe_lt_top r
  have hgt : ∀ e, ⊥ < x e := fun e => by obtain ⟨r, hr⟩ := hx e; rw [hr]; exact EReal.bot_lt_coe r
  have hpe (b : EReal) : pick E n b x e = x e := by unfold pick; exact if_pos he
  have key (y : EReal) (h1 : ⊥ < y) (h2 : y < ⊤) : IsReal y := ⟨y.toReal, (EReal.coe_toReal h2.ne h1.ne').symm⟩
  constructor
  · refine key _ ?_ ?_
    · exact (Finset.lt_fold_max _).mpr (Or.inr ⟨e, Finset.mem_univ e, by rw [hpe]; exact hgt e⟩)
    · refine (Finset.fold_max_lt _).mpr ⟨bot_lt_top, fun e _ => ?_⟩
      unfold pick
      split
      · exact hlt e
      · exact bot_lt_top
  · refine key _ ?_ ?_
    · refine (Finset.lt_fold_min _).mpr ⟨bot_lt_top, fun e _ => ?_⟩
      unfold pick
      split
      · exact hgt e
      · exact bot_lt_top
    · exact (Finset.fold_min_lt _).mpr (Or.inr ⟨e, Finset.mem_univ e, by rw [hpe]; exact hlt e⟩)

end Aggregates

open Cert.KernelIdeal

variable (m : (ℓ : Loc nD τ sig) → Buf (Elt Ideal) ℓ) (c : Dev nD)

theorem eq_col (j : S10000x1.Idx) : j = fun | 0 => j 0 | 1 => (0 : Fin 1) := by
  funext a
  match a with
  | 0 => rfl
  | 1 => exact Subsingleton.elim (α := Fin 1) _ _

/-- The first call's results, cut to the nodes, are the reference's aggregates. -/
theorem rows_eq (hE : ∀ j, (edges m c j).toNat < 10000) :
    VR m c (Proc.devRef .tc main_v5) = val_main_v14 (F := Ideal) (m ((c : Thread nD τ).loc main_arg0)) (edges m c)
    ∧ VR m c (Proc.devRef .tc main_v6) = val_main_v18 (F := Ideal) (m ((c : Thread nD τ).loc main_arg0)) (edges m c)
    ∧ VR m c (Proc.devRef .tc main_v7) = val_main_v22 (F := Ideal) (m ((c : Thread nD τ).loc main_arg0)) (edges m c)
    ∧ VR m c (Proc.devRef .tc main_v10) = val_main_v26 (F := Ideal) (edges m c) := by
  have hh : hA m c = m ((c : Thread nD τ).loc main_arg0) := hA_eq m c
  rw [VR_v5, VR_v6, VR_v7, VR_v10, ← hh]
  have hs := srcA_apply m c
  have hd := dstA_apply m c
  refine ⟨funext fun j => ?_, funext fun j => ?_, funext fun j => ?_, funext fun j => ?_⟩
  · rw [eq_rowAt (n := 10000) j]
    exact (sum_node _ _ _ _ hs hd _ _).trans (sum_ref _ _ hE _ _).symm
  · rw [eq_rowAt (n := 10000) j]
    exact (max_node _ _ _ _ hs hd _ _).trans (max_ref _ _ hE _ _).symm
  · rw [eq_rowAt (n := 10000) j]
    exact (min_node _ _ _ _ hs hd _ _).trans (min_ref _ _ hE _ _).symm
  · have hn := deg_node (srcA m c) (dstA m c) (hA m c) (edges m c) hd (j 0)
    refine (congrArg _ (eq_col j)).trans ?_
    exact hn.trans (deg_ref (edges m c) (j 0) j rfl).symm

/-- The reference's result at the kernel's arguments. -/
def refAt : (⟨Cert.ReferenceIdeal.S10000x128, .f32⟩ : BufTy).Contents (Elt Ideal) :=
  val_main_v85 (F := Ideal) (m ((c : Thread nD τ).loc main_arg0)) (edges m c) (m ((c : Thread nD τ).loc main_arg3))
    (m ((c : Thread nD τ).loc main_arg4)) (m ((c : Thread nD τ).loc main_arg5)) (m ((c : Thread nD τ).loc main_arg6))
    (m ((c : Thread nD τ).loc main_arg7))

theorem inv_avg : Named.named (F := Ideal) κ "inv_avg" (φ := .f32) 0x3E926EA1#32 = ((524288 / 1833173 : ℝ) : EReal) :=
  IdealRules.named_const.ideal_named_scalar _ _ _ _ rfl

theorem inv_n : Named.named (F := Ideal) κ "inv_n" (φ := .f32) 0x38D1B717#32 = ((1 / 10000 : ℝ) : EReal) :=
  IdealRules.named_const.ideal_named_scalar _ _ _ _ rfl

/-- Every edge names nodes and every entry the statistics are taken of is real. -/
structure Good : Prop where
  edges : ∀ j, (edges m c j).toNat < 10000
  real : LayerMath.Real (m ((c : Thread nD τ).loc main_arg0)) (m ((c : Thread nD τ).loc main_arg3)) (m ((c : Thread nD τ).loc main_arg4))
    (m ((c : Thread nD τ).loc main_arg5))

variable (hg : Good m c)

include hg

theorem degAt_real (n : Fin 10000) : IsReal (VR m c (Proc.devRef .tc main_v10) (ix2 n 0)) ∧ (0 : EReal) ≤ VR m c (Proc.devRef .tc main_v10) (ix2 n 0) := by
  rw [(rows_eq m c hg.edges).2.2.2, deg_ref (edges m c) n (ix2 n 0) rfl]
  exact ⟨deg_real _ n, deg_nonneg _ n⟩

theorem catAt_real (n : Fin 10000) (k : Fin 384) : IsReal (catAt m c n k) := by
  have hm (k : Fin 128) (e : Fin 320000) : IsReal (msg (m ((c : Thread nD τ).loc main_arg0)) (edges m c) k e) := by
    have hr (n : Fin 10000) : (ix2 n k : S10000x128.Idx) = rowAt (n := 10000) n k := eq_rowAt _
    unfold msg
    rw [← hr]
    exact hg.real.h _ k
  have hi (k : Fin 128) : (ix2 n k : S10000x128.Idx) = rowAt (n := 10000) n k := eq_rowAt _
  obtain ⟨e5, e6, e7, e10⟩ := rows_eq m c hg.edges
  have h10 := deg_ref (edges m c) n (ix2 n 0) rfl
  refine cat_real (degAt_real m c hg n).1 (fun k => ?_) (fun k => ?_) (fun k => ?_) k
  · rw [e5, hi, sum_ref _ _ hg.edges]
    exact sum_real _ n _ (hm k)
  · split
    · rename_i h0
      rw [e10, h10] at h0
      rw [e6, hi, max_ref _ _ hg.edges]
      exact (ends_real _ n _ (hm k) h0).1
    · exact ⟨0, rfl⟩
  · split
    · rename_i h0
      rw [e10, h10] at h0
      rw [e7, hi, min_ref _ _ hg.edges]
      exact (ends_real _ n _ (hm k) h0).2
    · exact ⟨0, rfl⟩

theorem values_eq (n : Fin 10000) (j : Fin 128) : resAt m c n j = refAt m c (ix2 n j) := by
  obtain ⟨e5, e6, e7, e10⟩ := rows_eq m c hg.edges
  have hrow (n : Fin 10000) (j : Fin 128) := row_eq (degAt_real m c hg n).1 (degAt_real m c hg n).2 (hg.real.snorm n) (hg.real.b j)
    (catAt_real m c hg n) (fun k => hg.real.w k j)
  have hD (n : Fin 10000) (j : Fin 128) : denseAt m c n j
      = rowR (VR m c (Proc.devRef .tc main_v10) (ix2 n 0)) (m ((c : Thread nD τ).loc main_arg3) (ix2 n 0))
        (m ((c : Thread nD τ).loc main_arg5) (ix1 j)) (catAt m c n) (fun k => m ((c : Thread nD τ).loc main_arg4) (ix2 k j)) := by
    unfold denseAt
    rw [inv_avg]
    exact (hrow n j).2
  have hreal (n : Fin 10000) (j : Fin 128) : IsReal (denseAt m c n j) := by
    rw [hD]; exact (hrow n j).1
  have hcat (n : Fin 10000) : (fun k => val_main_v37 (F := Ideal) (m ((c : Thread nD τ).loc main_arg0)) (edges m c) (ix2 n k)) = catAt m c n := by
    funext k
    rw [Cert.ReferenceIdeal.Later.cat_apply]
    unfold catAt
    rw [e5, e6, e7, e10]
  have hR (n : Fin 10000) (j : Fin 128) : val_main_v57 (F := Ideal) (m ((c : Thread nD τ).loc main_arg0)) (edges m c)
      (m ((c : Thread nD τ).loc main_arg3)) (m ((c : Thread nD τ).loc main_arg4)) (m ((c : Thread nD τ).loc main_arg5)) (ix2 n j)
        = denseAt m c n j := by
    rw [hD, Cert.ReferenceIdeal.Later.dense_apply, hcat, e10]
  unfold refAt
  rw [Cert.ReferenceIdeal.Later.result_apply]
  simp only [hR]
  unfold resAt sumAt sqAt
  rw [inv_n]
  exact bn_eq (fun n => hreal n j) n _ _ _

theorem result_ref : VE m c (Proc.devRef .tc main_v15) = refAt m c := by
  rw [result_eq]
  funext y
  exact (values_eq m c hg (y 0) (y 1)).trans (congrArg (refAt m c) (eq_ix2 y).symm)

end Cert.Proof.Later
-- ==== Proof.Alone.Points.lean ====
/- What each grid point of the idealized layer's two calls leaves in its output blocks, as the bodies' own terms over the
   blocks read. -/
module

public import proofs.«01_k».proof.Proof.Gen.LayerIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.LayerIdeal.Val

open Idealize.ShloMosaic Idealize.ShloMosaic.TcCoe Idealize.SL.Sem
open Idealize.ShloMosaic.Pipeline (Dat)
open Cert.LayerIdeal Cert.LayerIdeal.Gen

variable (V : (c : Dev nD) → (b : Ref sig .tc) → Buf (Elt Ideal) ((c : Thread nD τ).loc b))

/-- The dense block of one point, from the blocks it reads. -/
def dense (x0 x1 x2 : Vec Ideal S1000x128 .f32) (x3 x4 : Vec Ideal S1000x1 .f32) (x5 : Vec Ideal S1152x128 .f32)
    (x6 : Vec Ideal S1x128 .f32) : FVec Ideal S1000x128 .f32 :=
  k0_pay1 (k0_pay8 x3) (k0_pay9 x3)
    (k0_pay10 x3 x0 x1 x2 (View.ld x5 (Rect.unit (s := S1152x128) ![0, 0] S384x128.size inb_S1152x128_S384x128_0_0)))
    (k0_pay11 x3 x0 x1 x2 (View.ld x5 (Rect.unit (s := S1152x128) ![384, 0] S384x128.size inb_S1152x128_S384x128_384_0)))
    (k0_pay12 x3 x0 x1 x2 (View.ld x5 (Rect.unit (s := S1152x128) ![768, 0] S384x128.size inb_S1152x128_S384x128_768_0)))
    x6 x4

/-- The same block's columns, summed into what was there. -/
def addSum (x0 x1 x2 : Vec Ideal S1000x128 .f32) (x3 x4 : Vec Ideal S1000x1 .f32) (x5 : Vec Ideal S1152x128 .f32)
    (x6 acc : Vec Ideal S1x128 .f32) : FVec Ideal S1x128 .f32 :=
  k0_pay4 (k0_pay8 x3) (k0_pay9 x3)
    (k0_pay10 x3 x0 x1 x2 (View.ld x5 (Rect.unit (s := S1152x128) ![0, 0] S384x128.size inb_S1152x128_S384x128_0_0)))
    (k0_pay11 x3 x0 x1 x2 (View.ld x5 (Rect.unit (s := S1152x128) ![384, 0] S384x128.size inb_S1152x128_S384x128_384_0)))
    (k0_pay12 x3 x0 x1 x2 (View.ld x5 (Rect.unit (s := S1152x128) ![768, 0] S384x128.size inb_S1152x128_S384x128_768_0)))
    x6 x4 acc

/-- The squares of the same block's columns, summed into what was there. -/
def addSq (x0 x1 x2 : Vec Ideal S1000x128 .f32) (x3 x4 : Vec Ideal S1000x1 .f32) (x5 : Vec Ideal S1152x128 .f32)
    (x6 acc : Vec Ideal S1x128 .f32) : FVec Ideal S1x128 .f32 :=
  k0_pay5 (k0_pay8 x3) (k0_pay9 x3)
    (k0_pay10 x3 x0 x1 x2 (View.ld x5 (Rect.unit (s := S1152x128) ![0, 0] S384x128.size inb_S1152x128_S384x128_0_0)))
    (k0_pay11 x3 x0 x1 x2 (View.ld x5 (Rect.unit (s := S1152x128) ![384, 0] S384x128.size inb_S1152x128_S384x128_384_0)))
    (k0_pay12 x3 x0 x1 x2 (View.ld x5 (Rect.unit (s := S1152x128) ![768, 0] S384x128.size inb_S1152x128_S384x128_768_0)))
    x6 x4 acc

theorem after7 (c : Dev nD) (t : Fin cfg0.N) :
    (dat0 (F := Ideal) V c).after 7 t
      = dense (iblk0 V c 0 t) (iblk0 V c 1 t) (iblk0 V c 2 t) (iblk0 V c 3 t) (iblk0 V c 4 t) (iblk0 V c 5 t) (iblk0 V c 6 t) := by
  rw [after0_7]
  by_cases h : t.val % 10 = 0
  · rw [outsAt0_A V c t h]; frame_out; rfl
  · rw [outsAt0_B V c t h]; frame_out; rfl

theorem sum_A (c : Dev nD) (t : Fin cfg0.N) (h : t.val % 10 = 0) :
    (outsAt0 (F := Ideal) V c t.val t.isLt).2.1
      = addSum (iblk0 V c 0 t) (iblk0 V c 1 t) (iblk0 V c 2 t) (iblk0 V c 3 t) (iblk0 V c 4 t) (iblk0 V c 5 t)
          (iblk0 V c 6 t) (k0_pay2 (F := Ideal)) := by
  rw [outsAt0_A V c t h]; frame_out; rfl

theorem sum_B (c : Dev nD) (t : Fin cfg0.N) (h : ¬ t.val % 10 = 0) :
    (outsAt0 (F := Ideal) V c t.val t.isLt).2.1
      = addSum (iblk0 V c 0 t) (iblk0 V c 1 t) (iblk0 V c 2 t) (iblk0 V c 3 t) (iblk0 V c 4 t) (iblk0 V c 5 t)
          (iblk0 V c 6 t) (outsAt0 (F := Ideal) V c (t.val - 1) (Nat.lt_of_le_of_lt (Nat.sub_le _ _) t.isLt)).2.1 := by
  rw [outsAt0_B V c t h]; frame_out; rfl

theorem sq_A (c : Dev nD) (t : Fin cfg0.N) (h : t.val % 10 = 0) :
    (outsAt0 (F := Ideal) V c t.val t.isLt).2.2
      = addSq (iblk0 V c 0 t) (iblk0 V c 1 t) (iblk0 V c 2 t) (iblk0 V c 3 t) (iblk0 V c 4 t) (iblk0 V c 5 t)
          (iblk0 V c 6 t) (k0_pay3 (F := Ideal)) := by
  rw [outsAt0_A V c t h]; frame_out; rfl

theorem sq_B (c : Dev nD) (t : Fin cfg0.N) (h : ¬ t.val % 10 = 0) :
    (outsAt0 (F := Ideal) V c t.val t.isLt).2.2
      = addSq (iblk0 V c 0 t) (iblk0 V c 1 t) (iblk0 V c 2 t) (iblk0 V c 3 t) (iblk0 V c 4 t) (iblk0 V c 5 t)
          (iblk0 V c 6 t) (outsAt0 (F := Ideal) V c (t.val - 1) (Nat.lt_of_le_of_lt (Nat.sub_le _ _) t.isLt)).2.2 := by
  rw [outsAt0_B V c t h]; frame_out; rfl

theorem after16 (c : Dev nD) (t : Fin cfg1.N) :
    (dat1 (F := Ideal) V c).after 6 t
      = k1_pay1 (iblk1 V c 2 t) (iblk1 V c 3 t) (iblk1 V c 0 t) (iblk1 V c 4 t) (iblk1 V c 5 t) (iblk1 V c 1 t) := by
  rw [after1_6]; frame_out

end Cert.LayerIdeal.Val
-- ==== Proof.Alone.Reads.lean ====
/- The bodies' terms of the idealized layer's two calls, read at an element. -/
module

public import proofs.«01_k».proof.Proof.Alone.Points
public import proofs.«01_k».proof.Proof.Layer.Math

@[expose] public section

set_option maxRecDepth 16384

noncomputable section

namespace Cert.LayerIdeal.Val

open Idealize.ShloMosaic Idealize.ShloMosaic.TcCoe Idealize.SL.Sem
open Cert.LayerMath Cert.LayerIdeal Cert.LayerIdeal.Gen

theorem cat_apply (x3 : Vec Ideal S1000x1 .f32) (x0 x1 x2 : Vec Ideal S1000x128 .f32) (p : Fin 1000) (k : Fin 384) :
    k0_pay6 x3 x0 x1 x2 (ix2 p k)
      = cat (x3 (ix2 p 0)) (fun k => x0 (ix2 p k)) (fun k => x1 (ix2 p k)) (fun k => x2 (ix2 p k)) k := by
  pointwise [k0_pay6]
  rfl

theorem dense_apply (x0 x1 x2 : Vec Ideal S1000x128 .f32) (x3 x4 : Vec Ideal S1000x1 .f32) (x5 : Vec Ideal S1152x128 .f32)
    (x6 : Vec Ideal S1x128 .f32) (p : Fin 1000) (j : Fin 128) :
    dense x0 x1 x2 x3 x4 x5 x6 (ix2 p j)
      = rowK (x3 (ix2 p 0)) (x4 (ix2 p 0)) (x6 (ix2 0 j)) (fun k => k0_pay6 x3 x0 x1 x2 (ix2 p k)) (fun k => x5 (ix2 k j))
          (Named.named (F := Ideal) κ "inv_avg" (φ := .f32) 0x3E926EA1#32) := by
  unfold dense
  pointwise [k0_pay1, k0_pay7, k0_pay8, k0_pay9, k0_pay10, k0_pay11, k0_pay12]
  rfl

theorem sum_apply (x0 x1 x2 : Vec Ideal S1000x128 .f32) (x3 x4 : Vec Ideal S1000x1 .f32) (x5 : Vec Ideal S1152x128 .f32)
    (x6 acc : Vec Ideal S1x128 .f32) (j : S1x128.Idx) :
    addSum x0 x1 x2 x3 x4 x5 x6 acc j = acc j + ∑ p : Fin 1000, dense x0 x1 x2 x3 x4 x5 x6 (ix2 p (j 1)) := by
  unfold addSum
  pointwise [k0_pay4]
  rfl

theorem sq_apply (x0 x1 x2 : Vec Ideal S1000x128 .f32) (x3 x4 : Vec Ideal S1000x1 .f32) (x5 : Vec Ideal S1152x128 .f32)
    (x6 acc : Vec Ideal S1x128 .f32) (j : S1x128.Idx) :
    addSq x0 x1 x2 x3 x4 x5 x6 acc j
      = acc j + ∑ p : Fin 1000, dense x0 x1 x2 x3 x4 x5 x6 (ix2 p (j 1)) * dense x0 x1 x2 x3 x4 x5 x6 (ix2 p (j 1)) := by
  unfold addSq
  pointwise [k0_pay5]
  rfl

theorem bn_apply (x2 x3 : Vec Ideal S1x128 .f32) (x0 : Vec Ideal S1000x128 .f32) (x4 x5 : Vec Ideal S1x128 .f32)
    (x1 : Vec Ideal S1000x128 .f32) (p : Fin 1000) (j : Fin 128) :
    k1_pay1 x2 x3 x0 x4 x5 x1 (ix2 p j)
      = bnK (x0 (ix2 p j)) (x1 (ix2 p j)) (x4 (ix2 0 j)) (x5 (ix2 0 j)) (x2 (ix2 0 j)) (x3 (ix2 0 j))
          (Named.named (F := Ideal) κ "inv_n" (φ := .f32) 0x38D1B717#32) := by
  pointwise [k1_pay1]
  rfl

end Cert.LayerIdeal.Val
-- ==== Proof.Alone.Run.lean ====
/- The idealized layer's run: from any memory, every run of the two calls ends with the buffers at the last boundary's
   contents, the result array's among them. The launch is the generated frame's
   own; only what is read from the last state differs. -/
module

public import proofs.«01_k».proof.Proof.Gen.LayerIdeal.Frame

@[expose] public section

set_option maxRecDepth 16384

noncomputable section

namespace Cert.LayerIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LayerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- What the second pipeline leaves in the result array. -/
def result (c : Dev nD) : Vec F S10000x128 .f32 := (dat1 (V3 m ρ) c).arrAt 6 cfg1.N

end Cert.LayerIdeal.Val
-- ==== Proof.Alone.Arrays.lean ====
/- What the idealized layer's two calls leave in their output arrays, element by element over the arguments. -/
module

public import proofs.«01_k».proof.Proof.Alone.Reads
public import proofs.«01_k».proof.Proof.Alone.Run

@[expose] public section

set_option maxRecDepth 16384

noncomputable section

namespace Cert.LayerIdeal.Val

open Idealize.ShloMosaic Idealize.ShloMosaic.TcCoe Idealize.SL.Sem
open Idealize.ShloMosaic.Pipeline (Dat)
open Cert.LayerMath Cert.LayerIdeal Cert.LayerIdeal.Gen

variable (m : (ℓ : Loc nD τ sig) → Buf (Elt Ideal) ℓ) (ρ : Dev nD → PrngReg) (c : Dev nD)

/-! ## What the regions find -/

theorem V1_v0 (j : Fin 128) : V1 m ρ c main_v0 (ix2 0 j) = m ((c : Thread nD τ).loc main_arg7) (ix1 j) := by
  unfold V1 W1 hostOps0
  after_results
  pointwise
theorem V3_v2 (j : Fin 128) : V3 m ρ c main_v2 (ix2 0 j) = m ((c : Thread nD τ).loc main_arg8) (ix1 j) := by
  unfold V3 W3 hostOps1
  after_results
  rw [W2_args m ρ c main_arg8 (by decide)]
  pointwise
theorem V3_v3 (j : Fin 128) : V3 m ρ c main_v3 (ix2 0 j) = m ((c : Thread nD τ).loc main_arg9) (ix1 j) := by
  unfold V3 W3 hostOps1
  after_results
  rw [W2_args m ρ c main_arg9 (by decide)]
  pointwise

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] := (by decide +kernel : ∀ t : Fin grid0.N, _)

theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0]
    ∧ win1_6.index t = ![t.val, 0] := (by decide +kernel : ∀ t : Fin grid1.N, _)

/-- Row `p` of point `t`'s block. -/
def row (t : Fin 10) (p : Fin 1000) : Fin 10000 := ⟨t.val * 1000 + p.val, by omega⟩

theorem blk0_0 (t : Fin cfg0.N) (p : Fin 1000) (k : Fin 128) :
    iblk0 (V1 m ρ) c 0 t (ix2 p k) = m ((c : Thread nD τ).loc main_arg0) (ix2 (row (t.cast N_0) p) k) := by
  have e := (idx0 t).1
  have hV : V1 m ρ c main_arg0 = m ((c : Thread nD τ).loc main_arg0) := W1_args m ρ c main_arg0 (by decide)
  blk_simp [iblk0]
  rw [hV]
  blk_ext! [e, row, Fin.val_cast]
theorem blk0_1 (t : Fin cfg0.N) (p : Fin 1000) (k : Fin 128) :
    iblk0 (V1 m ρ) c 1 t (ix2 p k) = m ((c : Thread nD τ).loc main_arg1) (ix2 (row (t.cast N_0) p) k) := by
  have e := (idx0 t).2.1
  have hV : V1 m ρ c main_arg1 = m ((c : Thread nD τ).loc main_arg1) := W1_args m ρ c main_arg1 (by decide)
  blk_simp [iblk0]
  rw [hV]
  blk_ext! [e, row, Fin.val_cast]
theorem blk0_2 (t : Fin cfg0.N) (p : Fin 1000) (k : Fin 128) :
    iblk0 (V1 m ρ) c 2 t (ix2 p k) = m ((c : Thread nD τ).loc main_arg2) (ix2 (row (t.cast N_0) p) k) := by
  have e := (idx0 t).2.2.1
  have hV : V1 m ρ c main_arg2 = m ((c : Thread nD τ).loc main_arg2) := W1_args m ρ c main_arg2 (by decide)
  blk_simp [iblk0]
  rw [hV]
  blk_ext! [e, row, Fin.val_cast]
theorem blk0_3 (t : Fin cfg0.N) (p : Fin 1000) :
    iblk0 (V1 m ρ) c 3 t (ix2 p 0) = m ((c : Thread nD τ).loc main_arg3) (ix2 (row (t.cast N_0) p) 0) := by
  have e := (idx0 t).2.2.2.1
  have hV : V1 m ρ c main_arg3 = m ((c : Thread nD τ).loc main_arg3) := W1_args m ρ c main_arg3 (by decide)
  blk_simp [iblk0]
  rw [hV]
  blk_ext! [e, row, Fin.val_cast]
theorem blk0_4 (t : Fin cfg0.N) (p : Fin 1000) :
    iblk0 (V1 m ρ) c 4 t (ix2 p 0) = m ((c : Thread nD τ).loc main_arg5) (ix2 (row (t.cast N_0) p) 0) := by
  have e := (idx0 t).2.2.2.2.1
  have hV : V1 m ρ c main_arg5 = m ((c : Thread nD τ).loc main_arg5) := W1_args m ρ c main_arg5 (by decide)
  blk_simp [iblk0]
  rw [hV]
  blk_ext! [e, row, Fin.val_cast]
theorem blk0_5 (t : Fin cfg0.N) (x : Fin 1152) (k : Fin 128) :
    iblk0 (V1 m ρ) c 5 t (ix2 x k) = m ((c : Thread nD τ).loc main_arg6) (ix2 x k) := by
  have e := (idx0 t).2.2.2.2.2.1
  have hV : V1 m ρ c main_arg6 = m ((c : Thread nD τ).loc main_arg6) := W1_args m ρ c main_arg6 (by decide)
  blk_simp [iblk0]
  rw [hV]
  blk_ext! [e, row, Fin.val_cast]
theorem blk0_6 (t : Fin cfg0.N) (k : Fin 128) :
    iblk0 (V1 m ρ) c 6 t (ix2 0 k) = m ((c : Thread nD τ).loc main_arg7) (ix1 k) := by
  have e := (idx0 t).2.2.2.2.2.2.1
  rw [← V1_v0 m ρ c k]
  blk_ext! [iblk0, e]

/-! ## The dense call's arrays -/

/-- A node's mean, maximum and minimum side by side, from the arguments. -/
def catAt (n : Fin 10000) : Fin 384 → EReal :=
  cat (m ((c : Thread nD τ).loc main_arg3) (ix2 n 0)) (fun k => m ((c : Thread nD τ).loc main_arg0) (ix2 n k))
    (fun k => m ((c : Thread nD τ).loc main_arg1) (ix2 n k)) (fun k => m ((c : Thread nD τ).loc main_arg2) (ix2 n k))

/-- The dense value of a node and a column, from the arguments. -/
def denseAt (n : Fin 10000) (j : Fin 128) : EReal :=
  rowK (m ((c : Thread nD τ).loc main_arg3) (ix2 n 0)) (m ((c : Thread nD τ).loc main_arg5) (ix2 n 0))
    (m ((c : Thread nD τ).loc main_arg7) (ix1 j)) (catAt m c n) (fun k => m ((c : Thread nD τ).loc main_arg6) (ix2 k j))
    (Named.named (F := Ideal) κ "inv_avg" (φ := .f32) 0x3E926EA1#32)

theorem point (t : Fin cfg0.N) (p : Fin 1000) (j : Fin 128) :
    dense (iblk0 (V1 m ρ) c 0 t) (iblk0 (V1 m ρ) c 1 t) (iblk0 (V1 m ρ) c 2 t) (iblk0 (V1 m ρ) c 3 t) (iblk0 (V1 m ρ) c 4 t)
        (iblk0 (V1 m ρ) c 5 t) (iblk0 (V1 m ρ) c 6 t) (ix2 p j)
      = denseAt m c (row (t.cast N_0) p) j := by
  rw [dense_apply]
  unfold denseAt catAt
  congr 1
  · exact blk0_3 m ρ c t p
  · exact blk0_4 m ρ c t p
  · exact blk0_6 m ρ c t j
  · funext k
    rw [cat_apply]
    congr 1
    · exact blk0_3 m ρ c t p
    · funext k; exact blk0_0 m ρ c t p k
    · funext k; exact blk0_1 m ρ c t p k
    · funext k; exact blk0_2 m ρ c t p k
  · funext k; exact blk0_5 m ρ c t k j

theorem dense_arr : (dat0 (V1 m ρ) c).arrAt 7 cfg0.N = fun y => denseAt m c (y 0) (y 1) := by
  refine (dat0 (V1 m ρ) c).arrAt_eq_of_covers 7 _ (by decide +kernel) fun t hf y => ?_
  have e := (idx0 t).2.2.2.2.2.2.2
  blk_simp
  rw [after7]
  idx_vars y
  refine (point m ρ c t y0 y1).trans (congrArg₂ (denseAt m c) (Fin.ext ?_) (Fin.ext ?_))
  · blk_simp [e, row, Fin.val_cast]
  · blk_simp [e, row, Fin.val_cast]

theorem rows_sum (f : Fin 10000 → EReal) : ∑ t : Fin cfg0.N, ∑ p : Fin 1000, f (row (t.cast N_0) p) = ∑ n, f n := by
  rw [← Fin.sum_mul_add_congr (S := 10) (n := 1000) (F := fun s k => f (row s k)) (f := f) (fun _ _ _ => rfl)]
  exact Fintype.sum_equiv (finCongr N_0) _ _ fun t => rfl

theorem sum_arr : (dat0 (V1 m ρ) c).arrAt 8 cfg0.N = fun y => ∑ n, denseAt m c n (y 1) := by
  refine (dat0 (V1 m ρ) c).arrAt_eq_of_after_last 8 t0_9 (by decide +kernel) _ fun j => ?_
  blk_simp
  rw [after0_8]
  rw [Pipeline.eq_sum_fin_of_reset_step_apply_last (fun n h => (outsAt0 (F := Ideal) (V1 m ρ) c n h).2.1) 10 (fun _ => (0 : EReal))
    (fun t j => ∑ p : Fin 1000, denseAt m c (row (t.cast N_0) p) (j 1))
    (fun t h i => by
      rw [sum_A _ c t h, sum_apply]
      exact congrArg₂ (· + ·) Ideal.ofBits_zero_f32 (Finset.sum_congr rfl fun p _ => point m ρ c t p (i 1)))
    (fun t h i => by
      rw [sum_B _ c t h, sum_apply]
      exact congrArg₂ (· + ·) rfl (Finset.sum_congr rfl fun p _ => point m ρ c t p (i 1))) (le_of_eq N_0) t0_9 rfl j]
  rw [zero_add]
  exact rows_sum fun n => denseAt m c n (j 1)

theorem sq_arr : (dat0 (V1 m ρ) c).arrAt 9 cfg0.N = fun y => ∑ n, denseAt m c n (y 1) * denseAt m c n (y 1) := by
  refine (dat0 (V1 m ρ) c).arrAt_eq_of_after_last 9 t0_9 (by decide +kernel) _ fun j => ?_
  blk_simp
  rw [after0_9]
  rw [Pipeline.eq_sum_fin_of_reset_step_apply_last (fun n h => (outsAt0 (F := Ideal) (V1 m ρ) c n h).2.2) 10 (fun _ => (0 : EReal))
    (fun t j => ∑ p : Fin 1000, denseAt m c (row (t.cast N_0) p) (j 1) * denseAt m c (row (t.cast N_0) p) (j 1))
    (fun t h i => by
      rw [sq_A _ c t h, sq_apply]
      exact congrArg₂ (· + ·) Ideal.ofBits_zero_f32 (Finset.sum_congr rfl fun p _ =>
        congrArg₂ (· * ·) (point m ρ c t p (i 1)) (point m ρ c t p (i 1))))
    (fun t h i => by
      rw [sq_B _ c t h, sq_apply]
      exact congrArg₂ (· + ·) rfl (Finset.sum_congr rfl fun p _ =>
        congrArg₂ (· * ·) (point m ρ c t p (i 1)) (point m ρ c t p (i 1)))) (le_of_eq N_0) t0_9 rfl j]
  rw [zero_add]
  exact rows_sum fun n => denseAt m c n (j 1) * denseAt m c n (j 1)

/-! ## The batch norm's array -/

theorem V3_dense : V3 m ρ c main_v1_0 = fun y => denseAt m c (y 0) (y 1) :=
  (W3_of m ρ c main_v1_0 (by decide)).trans ((W2_arr m ρ c 7).trans (dense_arr m ρ c))
theorem V3_sum : V3 m ρ c main_v1_1 = fun y => ∑ n, denseAt m c n (y 1) :=
  (W3_of m ρ c main_v1_1 (by decide)).trans ((W2_arr m ρ c 8).trans (sum_arr m ρ c))
theorem V3_sq : V3 m ρ c main_v1_2 = fun y => ∑ n, denseAt m c n (y 1) * denseAt m c n (y 1) :=
  (W3_of m ρ c main_v1_2 (by decide)).trans ((W2_arr m ρ c 9).trans (sq_arr m ρ c))

theorem blk1_0 (t : Fin cfg1.N) (p : Fin 1000) (j : Fin 128) :
    iblk1 (V3 m ρ) c 0 t (ix2 p j) = denseAt m c (row (t.cast N_1) p) j := by
  have e := (idx1 t).1
  blk_simp [iblk1]
  rw [V3_dense]
  refine congrArg₂ (denseAt m c) (Fin.ext ?_) (Fin.ext ?_)
  · blk_simp [e, row, Fin.val_cast]
  · blk_simp [e, row, Fin.val_cast]

theorem blk1_1 (t : Fin cfg1.N) (p : Fin 1000) (j : Fin 128) :
    iblk1 (V3 m ρ) c 1 t (ix2 p j) = m ((c : Thread nD τ).loc main_arg4) (ix2 (row (t.cast N_1) p) j) := by
  have e := (idx1 t).2.1
  have hV : V3 m ρ c main_arg4 = m ((c : Thread nD τ).loc main_arg4) := W3_args m ρ c main_arg4 (by decide)
  blk_simp [iblk1]
  rw [hV]
  blk_ext! [e, row, Fin.val_cast]

/-- A column's sum. -/
def sumAt (j : Fin 128) : EReal := ∑ n, denseAt m c n j
/-- A column's sum of squares. -/
def sqAt (j : Fin 128) : EReal := ∑ n, denseAt m c n j * denseAt m c n j

theorem blk1_2 (t : Fin cfg1.N) (j : Fin 128) : iblk1 (V3 m ρ) c 2 t (ix2 0 j) = sumAt m c j := by
  have e := (idx1 t).2.2.1
  blk_simp [iblk1]
  rw [V3_sum]
  refine congrArg (sumAt m c) (Fin.ext ?_)
  blk_simp [e]

theorem blk1_3 (t : Fin cfg1.N) (j : Fin 128) : iblk1 (V3 m ρ) c 3 t (ix2 0 j) = sqAt m c j := by
  have e := (idx1 t).2.2.2.1
  blk_simp [iblk1]
  rw [V3_sq]
  refine congrArg (sqAt m c) (Fin.ext ?_)
  blk_simp [e]

theorem blk1_4 (t : Fin cfg1.N) (j : Fin 128) :
    iblk1 (V3 m ρ) c 4 t (ix2 0 j) = m ((c : Thread nD τ).loc main_arg8) (ix1 j) := by
  have e := (idx1 t).2.2.2.2.1
  rw [← V3_v2 m ρ c j]
  blk_ext! [iblk1, e]

theorem blk1_5 (t : Fin cfg1.N) (j : Fin 128) :
    iblk1 (V3 m ρ) c 5 t (ix2 0 j) = m ((c : Thread nD τ).loc main_arg9) (ix1 j) := by
  have e := (idx1 t).2.2.2.2.2.1
  rw [← V3_v3 m ρ c j]
  blk_ext! [iblk1, e]

/-- The result of a node and a column, from the arguments. -/
def resAt (n : Fin 10000) (j : Fin 128) : EReal :=
  bnK (denseAt m c n j) (m ((c : Thread nD τ).loc main_arg4) (ix2 n j)) (m ((c : Thread nD τ).loc main_arg8) (ix1 j))
    (m ((c : Thread nD τ).loc main_arg9) (ix1 j)) (sumAt m c j) (sqAt m c j)
    (Named.named (F := Ideal) κ "inv_n" (φ := .f32) 0x38D1B717#32)

theorem point1 (t : Fin cfg1.N) (p : Fin 1000) (j : Fin 128) :
    k1_pay1 (iblk1 (V3 m ρ) c 2 t) (iblk1 (V3 m ρ) c 3 t) (iblk1 (V3 m ρ) c 0 t) (iblk1 (V3 m ρ) c 4 t) (iblk1 (V3 m ρ) c 5 t)
        (iblk1 (V3 m ρ) c 1 t) (ix2 p j)
      = resAt m c (row (t.cast N_1) p) j := by
  rw [bn_apply]
  unfold resAt
  rw [blk1_0, blk1_1, blk1_2, blk1_3, blk1_4, blk1_5]

theorem result_eq : result m ρ c = fun y => resAt m c (y 0) (y 1) := by
  refine (dat1 (V3 m ρ) c).arrAt_eq_of_covers 6 _ (by decide +kernel) fun t hf y => ?_
  have e := (idx1 t).2.2.2.2.2.2
  blk_simp
  rw [after16]
  idx_vars y
  refine (point1 m ρ c t y0 y1).trans (congrArg₂ (resAt m c) (Fin.ext ?_) (Fin.ext ?_))
  · blk_simp [e, row, Fin.val_cast]
  · blk_simp [e, row, Fin.val_cast]

end Cert.LayerIdeal.Val
-- ==== Proof.Alone.RefRead.lean ====
/- The reference of the layer, read at an element. -/
module

public import proofs.«01_k».proof.Proof.Gen.LayerReferenceIdeal.Read
public import proofs.«01_k».proof.Proof.Layer.Math

@[expose] public section

set_option maxRecDepth 16384

noncomputable section

namespace Cert.LayerReferenceIdeal.Val

open Idealize.ShloMosaic Idealize.ShloMosaic.TcCoe Idealize.SL.Sem
open Cert.LayerMath Cert.LayerReferenceIdeal Cert.LayerReferenceIdeal.Read Cert.LayerReferenceIdeal.Gen

variable (x0 x1 x2 : (⟨S10000x128, .f32⟩ : BufTy).Contents (Elt Ideal)) (x3 x5 : (⟨S10000x1, .f32⟩ : BufTy).Contents (Elt Ideal))
  (x4 : (⟨S10000x128, .f32⟩ : BufTy).Contents (Elt Ideal)) (x6 : (⟨S1152x128, .f32⟩ : BufTy).Contents (Elt Ideal))
  (x7 x8 x9 : (⟨S128, .f32⟩ : BufTy).Contents (Elt Ideal))

theorem cat_apply (n : Fin 10000) (k : Fin 384) :
    val_main_v10 (F := Ideal) x0 x1 x2 x3 (ix2 n k)
      = cat (x3 (ix2 n 0)) (fun k => x0 (ix2 n k)) (fun k => x1 (ix2 n k)) (fun k => x2 (ix2 n k)) k := by
  pointwise [val_main_v10, val_main_v9, val_main_v6, val_main_v3, val_main_v2, val_main_v1, val_main_v0, val_main_cst,
    val_main_call1_v0, val_main_call1_v1, val_main_call1_v2, val_main_call0_v0, val_main_call0_v1, val_main_call0_v2,
    val_main_v8, val_main_v7, val_main_v5, val_main_v4, val_main_cst_0, val_main_cst_1, val_main_cst_2, val_main_cst_3]
  unfold cat
  have z : (FloatOps.ofBits .f32 0#32 : Ideal .f32) = (0 : EReal) := Ideal.ofBits_zero_f32
  simp only [id, constant, z]

theorem dense_apply (n : Fin 10000) (j : Fin 128) :
    val_main_v30 (F := Ideal) x0 x1 x2 x3 x5 x6 x7 (ix2 n j)
      = rowR (x3 (ix2 n 0)) (x5 (ix2 n 0)) (x7 (ix1 j)) (fun k => val_main_v10 (F := Ideal) x0 x1 x2 x3 (ix2 n k)) (fun k => x6 (ix2 k j)) := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_cst_4, val_main_cst_5, val_main_cst_6, val_main_cst_7]
  rfl

theorem result_apply (n : Fin 10000) (j : Fin 128) :
    val_main_v58 (F := Ideal) x0 x1 x2 x3 x4 x5 x6 x7 x8 x9 (ix2 n j)
      = bnR (val_main_v30 (F := Ideal) x0 x1 x2 x3 x5 x6 x7 (ix2 n j)) (x4 (ix2 n j)) (x8 (ix1 j)) (x9 (ix1 j))
          fun x => val_main_v30 (F := Ideal) x0 x1 x2 x3 x5 x6 x7 (ix2 x j) := by
  pointwise [val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_cst_8, val_main_cst_9, val_main_cst_10, val_main_cst_11, val_main_cst_12, val_main_cst_13]
  rfl

end Cert.LayerReferenceIdeal.Val
-- ==== Proof.Alone.Pre.lean ====
/- What `aggregates_ok` says of the arguments: the degrees are no less than zero, and what the statistics are taken of is real. -/
module

public import proofs.«01_k».proof.Pre_aggregates_ok
public import proofs.«01_k».proof.Proof.Gen.Pre_aggregates_ok
public import proofs.«01_k».proof.Proof.Layer.Pre

@[expose] public section

set_option maxRecDepth 16384

noncomputable section

namespace Cert.LayerMath

open Idealize.ShloMosaic Cert.Pre_aggregates_ok

theorem nonneg_at {s : Shape} (x : FVec Ideal s .f32) (hb : S_.BroadcastsInDim s (![] : Fin 0 → Fin s.rank)) (i : s.Idx)
    (h : cmpf .oge x (broadcastInDim s ![] hb (constant (F := Ideal) S_ .f32 0x00000000#32)) i = 1#1) : (0 : EReal) ≤ x i := by
  have h' : FloatOps.cmpf (F := Ideal) .oge (x i) (FloatOps.ofBits .f32 0x00000000#32) = 1#1 := h
  rw [show (FloatOps.ofBits .f32 0x00000000#32 : Ideal .f32) = (0 : EReal) from Ideal.ofBits_zero_f32] at h'
  exact of_cmp (p := (0 : EReal) ≤ x i) h'

/-- The arguments' entries that the statistics are taken of, and the degrees' sign. -/
structure Good (x0 x1 x2 : FVec Ideal S10000x128 .f32) (x3 x5 : FVec Ideal S10000x1 .f32) (x6 : FVec Ideal S1152x128 .f32)
    (x7 : FVec Ideal S128 .f32) : Prop where
  deg_nonneg : ∀ n : Fin 10000, (0 : EReal) ≤ x3 (ix2 n 0)
  sum : ∀ (n : Fin 10000) (k : Fin 128), IsReal (x0 (ix2 n k))
  mx : ∀ (n : Fin 10000) (k : Fin 128), IsReal (if (0 : EReal) < x3 (ix2 n 0) then x1 (ix2 n k) else 0)
  mn : ∀ (n : Fin 10000) (k : Fin 128), IsReal (if (0 : EReal) < x3 (ix2 n 0) then x2 (ix2 n k) else 0)
  deg : ∀ n : Fin 10000, IsReal (x3 (ix2 n 0))
  snorm : ∀ n : Fin 10000, IsReal (x5 (ix2 n 0))
  w : ∀ (k : Fin 1152) (j : Fin 128), IsReal (x6 (ix2 k j))
  b : ∀ j : Fin 128, IsReal (x7 (ix1 j))

theorem where_at [Facts] (x3 : FVec Ideal S10000x1 .f32) (x1 : FVec Ideal S10000x128 .f32) (n : Fin 10000) (k : Fin 128) :
    fn_where (F := Ideal) (cmpf .ogt x3 (broadcastInDim S10000x1 ![] Facts.bcast_S_S10000x1 (constant S_ .f32 0x00000000#32))) x1
        (constant S_ .f32 0x00000000#32) (ix2 n k)
      = if (0 : EReal) < x3 (ix2 n 0) then x1 (ix2 n k) else 0 := by
  have z : (FloatOps.ofBits .f32 0#32 : Ideal .f32) = (0 : EReal) := Ideal.ofBits_zero_f32
  pointwise [fn_where]
  simp only [id, constant, z]

theorem good [Facts] (x0 x1 x2 : FVec Ideal S10000x128 .f32) (x3 x5 : FVec Ideal S10000x1 .f32) (x4 : FVec Ideal S10000x128 .f32)
    (x6 : FVec Ideal S1152x128 .f32) (x7 x8 x9 : FVec Ideal S128 .f32)
    (h : fn (F := Ideal) x0 x1 x2 x3 x4 x5 x6 x7 x8 x9 = fun _ => 1#1) : Good x0 x1 x2 x3 x5 x6 x7 := by
  have e := congrFun h ix0
  unfold fn fn_part1 fn_part2 at e
  simp only [andi_apply, IntOp.andi_eq_one] at e
  obtain ⟨⟨⟨⟨⟨⟨⟨e0, e1⟩, e2⟩, e3⟩, e4⟩, e5⟩, e6⟩, e7⟩ := e
  refine ⟨fun n => nonneg_at _ _ _ (Host.reduce_andi_all _ _ _ _ _ e0 _), fun n k => finite_at _ _ _ (Host.reduce_andi_all _ _ _ _ _ e1 _),
    fun n k => ?_, fun n k => ?_, fun n => finite_at _ _ _ (Host.reduce_andi_all _ _ _ _ _ e4 _),
    fun n => finite_at _ _ _ (Host.reduce_andi_all _ _ _ _ _ e5 _), fun k j => finite_at _ _ _ (Host.reduce_andi_all _ _ _ _ _ e6 _),
    fun j => finite_at _ _ _ (Host.reduce_andi_all _ _ _ _ _ e7 _)⟩
  · rw [← where_at x3 x1 n k]; exact finite_at _ _ _ (Host.reduce_andi_all _ _ _ _ _ e2 _)
  · rw [← where_at x3 x2 n k]; exact finite_at _ _ _ (Host.reduce_andi_all _ _ _ _ _ e3 _)

end Cert.LayerMath
-- ==== Proof.Alone.Value.lean ====
/- The claims of the two later calls alone: the results element by element, under `aggregates_ok`. -/
module

public import proofs.«01_k».proof.Defs
public import proofs.«01_k».proof.Proof.Gen.Layer.Frame
public import proofs.«01_k».proof.Proof.Gen.LayerReferenceIdeal.Run
public import proofs.«01_k».proof.Proof.Alone.Arrays
public import proofs.«01_k».proof.Proof.Alone.RefRead
public import proofs.«01_k».proof.Proof.Alone.Pre
public import Idealize.ShloMosaic.Lib.Quiescent

@[expose] public section

set_option maxRecDepth 16384

noncomputable section

namespace Cert.Proof.Alone

open Idealize.ShloMosaic Idealize.ShloMosaic.TcCoe Idealize.SL.Sem
open Cert.LayerMath Cert.LayerReferenceIdeal.Val Cert.LayerReferenceIdeal.Read

theorem frame_p : Cert.quiescent_Layer := fun m ρ _ => Cert.Layer.Gen.frame m ρ

theorem frame_pi : Cert.quiescent_LayerIdeal := fun m ρ _ => Cert.LayerIdeal.Gen.frame m ρ

theorem frame_pi_ok : Cert.quiescent_LayerIdeal_pre_aggregates_ok := fun m ρ _ => Cert.LayerIdeal.Gen.frame m ρ

theorem frame_ri : Cert.quiescent_LayerReferenceIdeal := fun m ρ _ =>
  (θ_run Cert.LayerReferenceIdeal.defs _ _).mono
    (fun r h => ⟨fun c => (h c).2, sem_eq_zero_of_no_sems (by decide) r.2⟩)
    (Cert.LayerReferenceIdeal.Value.run (F := Idealize.ShloMosaic.Ideal) m ρ)

theorem frame_ri_ok : Cert.quiescent_LayerReferenceIdeal_pre_aggregates_ok := fun m ρ _ => frame_ri m ρ trivial

theorem preserves : Cert.preserves_Layer_LayerIdeal :=
  ⟨IdealRules.named_const.statement _ _ _ _ _ rfl, IdealRules.named_const.statement _ _ _ _ _ rfl⟩

section Values

open Cert.LayerIdeal Cert.LayerIdeal.Val

variable (m : (ℓ : Loc nD τ sig) → Buf (Elt Ideal) ℓ) (c : Dev nD)

/-- The reference's result at the kernel's arguments. -/
def refAt : (⟨Cert.LayerReferenceIdeal.S10000x128, .f32⟩ : BufTy).Contents (Elt Ideal) :=
  val_main_v58 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem inv_avg : Named.named (F := Ideal) κ "inv_avg" (φ := .f32) 0x3E926EA1#32 = ((524288 / 1833173 : ℝ) : EReal) :=
  IdealRules.named_const.ideal_named_scalar _ _ _ _ rfl

theorem inv_n : Named.named (F := Ideal) κ "inv_n" (φ := .f32) 0x38D1B717#32 = ((1 / 10000 : ℝ) : EReal) :=
  IdealRules.named_const.ideal_named_scalar _ _ _ _ rfl

theorem values_eq (hg : Good (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7))) (n : Fin 10000) (j : Fin 128) :
    resAt m c n j = refAt m c (ix2 n j) := by
  have hrow (n : Fin 10000) (j : Fin 128) := row_eq (hg.deg n) (hg.deg_nonneg n) (hg.snorm n) (hg.b j)
    (cat_real (hg.deg n) (hg.sum n) (hg.mx n) (hg.mn n)) (fun k => hg.w k j)
  have hD (n : Fin 10000) (j : Fin 128) : denseAt m c n j
      = rowR (m ((c : Thread nD τ).loc main_arg3) (ix2 n 0)) (m ((c : Thread nD τ).loc main_arg5) (ix2 n 0))
        (m ((c : Thread nD τ).loc main_arg7) (ix1 j)) (catAt m c n) (fun k => m ((c : Thread nD τ).loc main_arg6) (ix2 k j)) := by
    unfold denseAt
    rw [inv_avg]
    exact (hrow n j).2
  have hreal (n : Fin 10000) (j : Fin 128) : IsReal (denseAt m c n j) := by
    rw [hD]; exact (hrow n j).1
  have hR (n : Fin 10000) (j : Fin 128) : val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg5))
      (m ((c : Thread nD τ).loc main_arg6)) (m ((c : Thread nD τ).loc main_arg7)) (ix2 n j) = denseAt m c n j := by
    rw [hD, Cert.LayerReferenceIdeal.Val.dense_apply]
    refine congrArg (fun f => rowR _ _ _ f _) (funext fun k => ?_)
    exact Cert.LayerReferenceIdeal.Val.cat_apply _ _ _ _ n k
  unfold refAt
  rw [result_apply]
  simp only [hR]
  unfold resAt sumAt sqAt
  rw [inv_n]
  exact bn_eq (fun n => hreal n j) n _ _ _

theorem result_ref (hg : Good (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7))) (ρ : Dev nD → PrngReg) : result m ρ c = refAt m c := by
  rw [result_eq]
  funext y
  exact (values_eq m c hg (y 0) (y 1)).trans (congrArg (refAt m c) (eq_ix2 y).symm)

end Values

open Cert.LayerIdeal Cert.LayerIdeal.Gen in
theorem algebraic : Cert.algebraic_LayerIdeal_LayerReferenceIdeal_pre_aggregates_ok := by
  intro m ρ m' ρ' hp ha
  refine ⟨fun c => Cert.LayerIdeal.Val.result m ρ c, (θ_run _ _ _).mono (fun r h c =>
     ⟨(h c _ (mem_uc main_v4 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩)
      (Cert.LayerIdeal.Val.run_all m ρ), ?_⟩
  refine (θ_run Cert.LayerReferenceIdeal.defs _ _).mono (fun _ h c => ⟨(h c).1.trans ?_, (h c).2⟩)
    (Cert.LayerReferenceIdeal.Value.run (F := Ideal) m' ρ')
  refine Eq.trans ?_ (result_ref m c (good _ _ _ _ _ _ _ _ _ _ (hp c)) ρ).symm
  rw [val_main_v58_eq]
  obtain ⟨a0, a1, a2, a3, a4, a5, a6, a7, a8, a9⟩ := ha c
  rw [a0, a1, a2, a3, a4, a5, a6, a7, a8, a9]
  rfl

end Cert.Proof.Alone

end
-- ==== Proof.lean ====
/-
  The claims: each program's run, read at its arguments and its result, and the two programs' results element by element.
-/
module

public import proofs.«01_k».proof.Defs
public import proofs.«01_k».proof.Proof.Layer.Value
public import proofs.«01_k».proof.Proof.Bits.Run
public import proofs.«01_k».proof.Proof.Gen.Kernel
public import proofs.«01_k».proof.Proof.Gen.KernelIdeal
public import proofs.«01_k».proof.Proof.Gen.ReferenceIdeal
public import proofs.«01_k».proof.Proof.Gen.Pre_arguments_ok
public import proofs.«01_k».proof.Proof.Gen.ReferenceIdeal.Run
public import proofs.«01_k».proof.Proof.Gen.Layer
public import proofs.«01_k».proof.Proof.Gen.Layer.Frame
public import proofs.«01_k».proof.Proof.Gen.LayerIdeal
public import proofs.«01_k».proof.Proof.Gen.LayerIdeal.Frame
public import proofs.«01_k».proof.Proof.Gen.LayerReferenceIdeal
public import proofs.«01_k».proof.Proof.Gen.LayerReferenceIdeal.Run
public import proofs.«01_k».proof.Proof.Gen.Pre_aggregates_ok
public import proofs.«01_k».proof.Proof.Gen.Pre_indices_in_range
public import proofs.«01_k».proof.Proof.Alone.Value
public import Idealize.ShloMosaic.Lib.Quiescent

@[expose] public section

noncomputable section

namespace Cert.Proof

open Idealize.ShloMosaic Idealize.SL.Sem
open Idealize.ShloMosaic.StableHlo (devRef_mem_tcRefs)

/-! ## The kernel as printed -/

section Printed

open Cert.Kernel Cert.Proof.Bits

theorem frame_p : Cert.quiescent_Kernel := by
  intro m ρ hp
  exact (θ_run defs _ _).mono
    (fun _ h => ⟨fun c => ⟨kept m h c main_arg0 (by decide), kept m h c main_arg1 (by decide), kept m h c main_arg2 (by decide),
      kept m h c main_arg3 (by decide), kept m h c main_arg4 (by decide), kept m h c main_arg5 (by decide),
      kept m h c main_arg6 (by decide), kept m h c main_arg7 (by decide)⟩, h.2⟩)
    (run_main (F := Idealize.ShloMosaic.Bits) m ρ (edges_ok m fun d j => LayerMath.edges_in_range _ _ _ _ _ _ _ _ (hp d) j))

end Printed

/-! ## The kernel -/

section Kernel

open Cert.KernelIdeal Cert.Proof.Ideal

theorem frame_of (m : (ℓ : Loc nD τ sig) → Buf (Elt Idealize.ShloMosaic.Ideal) ℓ) (ρ : Dev nD → PrngReg)
    (hE : ∀ d, ∀ j, (edges m d j).toNat < 10000) :
    θ_run (defs (F := Idealize.ShloMosaic.Ideal)) (threads (F := Idealize.ShloMosaic.Ideal)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono
    (fun _ h => ⟨fun c => ⟨kept m h c main_arg0 (by decide), kept m h c main_arg1 (by decide), kept m h c main_arg2 (by decide),
      kept m h c main_arg3 (by decide), kept m h c main_arg4 (by decide), kept m h c main_arg5 (by decide),
      kept m h c main_arg6 (by decide), kept m h c main_arg7 (by decide)⟩, h.2⟩)
    (run_main (F := Idealize.ShloMosaic.Ideal) m ρ (edges_ok m hE))

theorem frame_pi : Cert.quiescent_KernelIdeal := fun m ρ hp =>
  frame_of m ρ fun d j => LayerMath.edges_in_range _ _ _ _ _ _ _ _ (hp d) j

theorem frame_pi_ok : Cert.quiescent_KernelIdeal_pre_arguments_ok := fun m ρ hp =>
  frame_of m ρ fun d j => LayerMath.in_range _ _ _ _ _ _ _ _ (hp d) j

end Kernel

/-! ## The reference -/

theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Idealize.ShloMosaic.Ideal) m ρ)

theorem frame_ri_ok : Cert.quiescent_ReferenceIdeal_pre_arguments_ok := fun m ρ _ => frame_ri m ρ trivial

/-! ## The constants -/

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-! ## The results -/

section Values

open Cert.Proof.Ideal Cert.ReferenceIdeal.Read

theorem algebraic : Cert.algebraic_KernelIdeal_ReferenceIdeal_pre_arguments_ok := by
  intro m ρ m' ρ' hp ha
  have hE : ∀ d, ∀ j, (edges m d j).toNat < 10000 := fun d j => LayerMath.in_range _ _ _ _ _ _ _ _ (hp d) j
  refine ⟨fun d => VE m d (Proc.devRef .tc Cert.KernelIdeal.main_v15), ?_, ?_⟩
  · exact (θ_run Cert.KernelIdeal.defs _ _).mono
      (fun _ h c => ⟨h.1 c _ (Finset.mem_filter.mpr ⟨devRef_mem_tcRefs Cert.KernelIdeal.main_v15,
          show ¬ (Proc.devRef .tc Cert.KernelIdeal.main_v15 : DevRef Cert.KernelIdeal.τ Cert.KernelIdeal.sig).isScoped from by decide⟩),
        kept m h c Cert.KernelIdeal.main_arg0 (by decide), kept m h c Cert.KernelIdeal.main_arg1 (by decide),
        kept m h c Cert.KernelIdeal.main_arg2 (by decide), kept m h c Cert.KernelIdeal.main_arg3 (by decide),
        kept m h c Cert.KernelIdeal.main_arg4 (by decide), kept m h c Cert.KernelIdeal.main_arg5 (by decide),
        kept m h c Cert.KernelIdeal.main_arg6 (by decide), kept m h c Cert.KernelIdeal.main_arg7 (by decide)⟩)
      (run_main (F := Idealize.ShloMosaic.Ideal) m ρ (edges_ok m hE))
  · refine (θ_run Cert.ReferenceIdeal.defs _ _).mono (fun _ h c => ⟨?_, (h c).2⟩) (Cert.ReferenceIdeal.Value.run (F := Idealize.ShloMosaic.Ideal) m' ρ')
    have hr := Later.result_ref m c ⟨hE c, LayerMath.real _ _ _ _ _ _ _ _ (hp c)⟩
    obtain ⟨a0, a1, -, a3, a4, a5, a6, a7⟩ := ha c
    refine ((h c).1.trans (val_main_v85_eq _)).trans (Eq.trans ?_ hr.symm)
    show val_main_v85 (F := Idealize.ShloMosaic.Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [a0, a1, a3, a4, a5, a6, a7]
    rfl

end Values

theorem claim : Cert.Claim :=
  ⟨Cert.Kernel.Gen.facts, Cert.KernelIdeal.Gen.facts, Cert.ReferenceIdeal.Gen.facts, Cert.Layer.Gen.facts, Cert.LayerIdeal.Gen.facts,
    Cert.LayerReferenceIdeal.Gen.facts, Cert.Pre_indices_in_range.Gen.facts, Cert.Pre_arguments_ok.Gen.facts, Cert.Pre_aggregates_ok.Gen.facts,
    frame_p, frame_pi, frame_pi_ok, frame_ri, frame_ri_ok, Alone.frame_p, Alone.frame_pi, Alone.frame_pi_ok, Alone.frame_ri,
    Alone.frame_ri_ok, preserves, algebraic, Alone.preserves, Alone.algebraic⟩

end Cert.Proof

end
